-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_whole_groups [hPre_whole_groups : Cert.Pre_whole_groups.Facts] (m : (ℓ : Loc Cert.KernelIdeal.nD Cert.KernelIdeal.τ Cert.KernelIdeal.sig) → Buf (Elt Ideal) ℓ) : Prop :=
  ∀ c : Dev Cert.KernelIdeal.nD,
    (Cert.Pre_whole_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_whole_groups [hPre_whole_groups : Cert.Pre_whole_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_whole_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_whole_groups [hKernelIdeal : Cert.KernelIdeal.Facts] [hPre_whole_groups : Cert.Pre_whole_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_whole_groups m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_whole_groups [hReferenceIdeal : Cert.ReferenceIdeal.Facts] [hPre_whole_groups : Cert.Pre_whole_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_whole_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_whole_groups [hKernelIdeal : Cert.KernelIdeal.Facts] [hReferenceIdeal : Cert.ReferenceIdeal.Facts] [hPre_whole_groups : Cert.Pre_whole_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_whole_groups m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_whole_groups : Cert.Pre_whole_groups.Facts),
    quiescent_Kernel (hKernel := hKernel)
    ∧ quiescent_KernelIdeal (hKernelIdeal := hKernelIdeal)
    ∧ quiescent_KernelIdeal_pre_whole_groups (hKernelIdeal := hKernelIdeal) (hPre_whole_groups := hPre_whole_groups)
    ∧ quiescent_ReferenceIdeal (hReferenceIdeal := hReferenceIdeal)
    ∧ quiescent_ReferenceIdeal_pre_whole_groups (hReferenceIdeal := hReferenceIdeal) (hPre_whole_groups := hPre_whole_groups)
    ∧ preserves_Kernel_KernelIdeal
    ∧ algebraic_KernelIdeal_ReferenceIdeal_pre_whole_groups (hKernelIdeal := hKernelIdeal) (hReferenceIdeal := hReferenceIdeal) (hPre_whole_groups := hPre_whole_groups)
-- ==== Pre_whole_groups.lean ====
abbrev S96x1408 : Shape := ⟨2, ![96, 1408]⟩
abbrev S64 : Shape := ⟨1, ![64]⟩
abbrev S64x704x3072 : Shape := ⟨3, ![64, 704, 3072]⟩
abbrev S64x11x3072 : Shape := ⟨3, ![64, 11, 3072]⟩
abbrev S_ : Shape := ⟨0, ![]⟩

class Facts : Prop where
  bitsLt_bf16_f32 : FTy.bits .bf16 < FTy.bits .f32
  bcast_S_S64 : S_.BroadcastsInDim S64 (![] : Fin 0 → Fin S64.rank)
  reducesTo_S64_S_d0 : S64.ReducesTo [0] S_
  h_S_ : 0 < S_.numel
  bcast_S_S96x1408 : S_.BroadcastsInDim S96x1408 (![] : Fin 0 → Fin S96x1408.rank)
  reducesTo_S96x1408_S_d0_1 : S96x1408.ReducesTo [0, 1] S_

variable [Facts]

def fn_part1 {F : FTy → Type} [FloatOps F] (main_v10 : IVec S_ 1) (main_v15 : IVec S96x1408 1) (main_c_5 : IVec S_ 1) : IVec S_ 1 :=
  let main_v16 : IVec S_ 1 := (fun x v => Host.reduce IntOp.andi x v reducesTo_S96x1408_S_d0_1 h_S_) main_v15 main_c_5
  let main_v17 : IVec S_ 1 := andi main_v10 main_v16
  main_v17

def fn {F : FTy → Type} [FloatOps F] (main_arg0 : FVec F S96x1408 .bf16) (main_arg1 : IVec S64 32) (main_arg2 : IVec S64x704x3072 8) (main_arg3 : FVec F S64x11x3072 .f32) : IVec S_ 1 :=
  let main_v0 : FVec F S96x1408 .f32 := (extf .f32 · bitsLt_bf16_f32) main_arg0
  let main_v1 : FVec F S96x1408 .f32 := Host.absf main_v0
  let main_c : IVec S_ 32 := constantI S_ 32 0#32
  let main_v2 : IVec S64 32 := broadcastInDim S64 ![] bcast_S_S64 main_c
  let main_v3 : IVec S64 1 := cmpi .sge main_arg1 main_v2
  let main_c_0 : IVec S_ 32 := constantI S_ 32 96#32
  let main_v4 : IVec S64 32 := broadcastInDim S64 ![] bcast_S_S64 main_c_0
  let main_v5 : IVec S64 1 := cmpi .sle main_arg1 main_v4
  let main_v6 : IVec S64 1 := andi main_v3 main_v5
  let main_c_1 : IVec S_ 1 := constantI S_ 1 1#1
  let main_v7 : IVec S_ 1 := (fun x v => Host.reduce IntOp.andi x v reducesTo_S64_S_d0 h_S_) main_v6 main_c_1
  let main_c_2 : IVec S_ 32 := constantI S_ 32 0#32
  let main_v8 : IVec S_ 32 := (fun x v => Host.reduce IntOp.addi x v reducesTo_S64_S_d0 h_S_) main_arg1 main_c_2
  let main_c_3 : IVec S_ 32 := constantI S_ 32 96#32
  let main_v9 : IVec S_ 1 := cmpi .eq main_v8 main_c_3
  let main_v10 : IVec S_ 1 := andi main_v7 main_v9
  let main_cst : FVec F S_ .f32 := constant S_ .f32 0x7F7F0000#32
  let main_v11 : FVec F S96x1408 .f32 := broadcastInDim S96x1408 ![] bcast_S_S96x1408 main_cst
  let main_v12 : IVec S96x1408 1 := cmpf .ole main_v1 main_v11
  let main_cst_4 : FVec F S_ .f32 := constant S_ .f32 0x7F800000#32
  let main_v13 : FVec F S96x1408 .f32 := broadcastInDim S96x1408 ![] bcast_S_S96x1408 main_cst_4
  let main_v14 : IVec S96x1408 1 := cmpf .oeq main_v1 main_v13
  let main_v15 : IVec S96x1408 1 := ori main_v12 main_v14
  let main_c_5 : IVec S_ 1 := constantI S_ 1 1#1
  fn_part1 (F := F) main_v10 main_v15 main_c_5
-- ==== Kernel.lean ====
abbrev S96x1408 : Shape := ⟨2, ![96, 1408]⟩
abbrev S64 : Shape := ⟨1, ![64]⟩
abbrev S64x704x3072 : Shape := ⟨3, ![64, 704, 3072]⟩
abbrev S64x11x3072 : Shape := ⟨3, ![64, 11, 3072]⟩
abbrev S96x3072 : Shape := ⟨2, ![96, 3072]⟩
abbrev S3x704x3072 : Shape := ⟨3, ![3, 704, 3072]⟩
abbrev S3x11x3072 : Shape := ⟨3, ![3, 11, 3072]⟩
abbrev S65 : Shape := ⟨1, ![65]⟩
abbrev S2x3 : Shape := ⟨2, ![2, 3]⟩
abbrev S1 : Shape := ⟨1, ![1]⟩
abbrev S1x1 : Shape := ⟨2, ![1, 1]⟩
abbrev S_ : Shape := ⟨0, ![]⟩
abbrev S1x704x3072 : Shape := ⟨3, ![1, 704, 3072]⟩
abbrev S704x3072 : Shape := ⟨2, ![704, 3072]⟩
abbrev S1x11x3072 : Shape := ⟨3, ![1, 11, 3072]⟩
abbrev S11x3072 : Shape := ⟨2, ![11, 3072]⟩
abbrev S96x128 : Shape := ⟨2, ![96, 128]⟩
abbrev S96 : Shape := ⟨1, ![96]⟩
abbrev S96x1 : Shape := ⟨2, ![96, 1]⟩
abbrev S128x256 : Shape := ⟨2, ![128, 256]⟩
abbrev S96x256 : Shape := ⟨2, ![96, 256]⟩
abbrev S1x64x256 : Shape := ⟨3, ![1, 64, 256]⟩
abbrev S64x256 : Shape := ⟨2, ![64, 256]⟩
abbrev S64x1x256 : Shape := ⟨3, ![64, 1, 256]⟩
abbrev S64x2x256 : Shape := ⟨3, ![64, 2, 256]⟩
abbrev S1x1x256 : Shape := ⟨3, ![1, 1, 256]⟩
abbrev S1x256 : Shape := ⟨2, ![1, 256]⟩
abbrev S1408x256 : Shape := ⟨2, ![1408, 256]⟩

abbrev nBuf : Space → Nat
  | .hbm => 5
  | .vmem => 6
  | .smem => 3
  | _ => 0

abbrev bufTy : (tb : Table) → Fin (tcTables nBuf tb) → BufTy
  | .hbm, ⟨0, _⟩ => ⟨S96x1408, .bf16⟩
  | .hbm, ⟨1, _⟩ => ⟨S64, .i32⟩
  | .hbm, ⟨2, _⟩ => ⟨S64x704x3072, .i8⟩
  | .hbm, ⟨3, _⟩ => ⟨S64x11x3072, .f32⟩
  | .hbm, ⟨4, _⟩ => ⟨S96x3072, .bf16⟩
  | .local _ .vmem, ⟨0, _⟩ => ⟨S96x1408, .bf16⟩
  | .local _ .vmem, ⟨1, _⟩ => ⟨S96x3072, .bf16⟩
  | .local _ .vmem, ⟨2, _⟩ => ⟨S3x704x3072, .i8⟩
  | .local _ .vmem, ⟨3, _⟩ => ⟨S3x11x3072, .f32⟩
  | .local _ .vmem, ⟨4, _⟩ => ⟨S96x1408, .bf16⟩
  | .local _ .vmem, ⟨5, _⟩ => ⟨S96x3072, .f32⟩
  | .local _ .smem, ⟨0, _⟩ => ⟨S64, .i32⟩
  | .local _ .smem, ⟨1, _⟩ => ⟨S65, .i32⟩
  | .local _ .smem, ⟨2, _⟩ => ⟨S65, .i32⟩
  | _, _ => ⟨S96x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg0_0 : Ref sig .tc := ⟨.smem, 0, rfl⟩
abbrev cc0_scratch4 : Ref sig .tc := ⟨.smem, 1, rfl⟩
abbrev cc0_scratch5 : Ref sig .tc := ⟨.smem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c64_i32 : BitVec 32 := 64#32
  let v0 : BitVec 32 := Scalar.addi c0_i32_1 c64_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let v1266 : Index := Scalar.indexCast arg12
  ![v1266.toNat]
def k0_off2 (arg13 : BitVec 32) : Fin 1 → Nat :=
  let v1268 : Index := Scalar.indexCast arg13
  ![v1268.toNat]

def k0_chk1 (arg13 : BitVec 32) : Prop :=
  (∀ a, (k0_off2 arg13) a + S1.size a ≤ S65.size a)
theorem k0_off2_inb : ∀ (arg13 : BitVec 32) (k0_hw1 : k0_chk1 arg13), ∀ a, (k0_off2 arg13) a + S1.size a ≤ S65.size a := fun arg13 k0_hw1 => k0_hw1

def k0_off3 (v1_0 : BitVec 32) : Fin 1 → Nat :=
  let v2 : Index := Scalar.indexCast v1_0
  ![v2.toNat]

def k0_off4 : Fin 2 → Nat :=
  let c0_i32_449 : BitVec 32 := 0#32
  let c0_i32_448 : BitVec 32 := 0#32
  let c3_i32 : BitVec 32 := 3#32
  let v1267 : BitVec 32 := Scalar.remsi c0_i32_448 c3_i32
  ![0, v1267.toNat]
def k0_off5 : Fin 3 → Nat :=
  let c0_i32_448 : BitVec 32 := 0#32
  let c3_i32 : BitVec 32 := 3#32
  let v1267 : BitVec 32 := Scalar.remsi c0_i32_448 c3_i32
  let c0_i32_450 : BitVec 32 := 0#32
  let c0_i32_451 : BitVec 32 := 0#32
  ![v1267.toNat, 0, 0]
def k0_off6 (v1266 : BitVec 32) : Fin 3 → Nat :=
  let c0_i32_452 : BitVec 32 := 0#32
  let c0_i32_453 : BitVec 32 := 0#32
  ![v1266.toNat, 0, 0]
def k0_cond1 (v1_0 : BitVec 32) : BitVec 1 :=
  let c0_i32_3 : BitVec 32 := 0#32
  let v4 : BitVec 1 := Scalar.cmpi .sgt v1_0 c0_i32_3
  let v5 : BitVec 32 := Scalar.extui v4
  let c0_i32_4 : BitVec 32 := 0#32
  let v6 : BitVec 1 := Scalar.cmpi .ne v5 c0_i32_4
  v6

def k0_off7 : Fin 2 → Nat :=
  let c1_i32_454 : BitVec 32 := 1#32
  let c0_i32_448 : BitVec 32 := 0#32
  let c3_i32 : BitVec 32 := 3#32
  let v1267 : BitVec 32 := Scalar.remsi c0_i32_448 c3_i32
  ![1, v1267.toNat]
def k0_off8 : Fin 3 → Nat :=
  let c0_i32_448 : BitVec 32 := 0#32
  let c3_i32 : BitVec 32 := 3#32
  let v1267 : BitVec 32 := Scalar.remsi c0_i32_448 c3_i32
  let c0_i32_455 : BitVec 32 := 0#32
  let c0_i32_456 : BitVec 32 := 0#32
  ![v1267.toNat, 0, 0]
def k0_off9 (v1266 : BitVec 32) : Fin 3 → Nat :=
  let c0_i32_457 : BitVec 32 := 0#32
  let c0_i32_458 : BitVec 32 := 0#32
  ![v1266.toNat, 0, 0]

def k0_chk3 (v1_0 : BitVec 32) (v1266 : BitVec 32) : Prop :=
  (∀ (k0_h1 : k0_cond1 v1_0 = 1#1), ∀ a, (k0_off6 v1266) a + S1x704x3072.size a ≤ S64x704x3072.size a) ∧
  (∀ (k0_h1 : k0_cond1 v1_0 = 1#1), ∀ (hinb : ∀ a, (k0_off6 v1266) a + S1x704x3072.size a ≤ S64x704x3072.size a), (Rect.unit (s := S64x704x3072) (k0_off6 v1266) S1x704x3072.size hinb).WholeWords (EltTy.packing .i8)) ∧
  (∀ (k0_h1 : k0_cond1 v1_0 = 1#1), ∀ a, (k0_off9 v1266) a + S1x11x3072.size a ≤ S64x11x3072.size a)
theorem k0_off6_inb : ∀ (v1_0 : BitVec 32) (v1266 : BitVec 32) (k0_hw3 : k0_chk3 v1_0 v1266), ∀ (k0_h1 : k0_cond1 v1_0 = 1#1), ∀ a, (k0_off6 v1266) a + S1x704x3072.size a ≤ S64x704x3072.size a := fun v1_0 v1266 k0_hw3 k0_h1 => k0_hw3.1 k0_h1
theorem k0_off6_wordsi8 : ∀ (v1_0 : BitVec 32) (v1266 : BitVec 32) (k0_hw3 : k0_chk3 v1_0 v1266), ∀ (k0_h1 : k0_cond1 v1_0 = 1#1), (Rect.unit (s := S64x704x3072) (k0_off6 v1266) S1x704x3072.size (k0_off6_inb v1_0 v1266 k0_hw3 k0_h1)).WholeWords (EltTy.packing .i8) := fun v1_0 v1266 k0_hw3 k0_h1 => k0_hw3.2.1 k0_h1 (k0_off6_inb v1_0 v1266 k0_hw3 k0_h1)
theorem k0_off9_inb : ∀ (v1_0 : BitVec 32) (v1266 : BitVec 32) (k0_hw3 : k0_chk3 v1_0 v1266), ∀ (k0_h1 : k0_cond1 v1_0 = 1#1), ∀ a, (k0_off9 v1266) a + S1x11x3072.size a ≤ S64x11x3072.size a := fun v1_0 v1266 k0_hw3 k0_h1 => k0_hw3.2.2 k0_h1

def k0_off10 : Fin 2 → Nat :=
  let c0_i32_448 : BitVec 32 := 0#32
  let c1_i32_447 : BitVec 32 := 1#32
  let c3_i32 : BitVec 32 := 3#32
  let v1267 : BitVec 32 := Scalar.remsi c1_i32_447 c3_i32
  ![0, v1267.toNat]
def k0_off11 : Fin 3 → Nat :=
  let c1_i32_447 : BitVec 32 := 1#32
  let c3_i32 : BitVec 32 := 3#32
  let v1267 : BitVec 32 := Scalar.remsi c1_i32_447 c3_i32
  let c0_i32_449 : BitVec 32 := 0#32
  let c0_i32_450 : BitVec 32 := 0#32
  ![v1267.toNat, 0, 0]
def k0_off12 (v1266 : BitVec 32) : Fin 3 → Nat :=
  let c0_i32_451 : BitVec 32 := 0#32
  let c0_i32_452 : BitVec 32 := 0#32
  ![v1266.toNat, 0, 0]
def k0_cond2 (v1_0 : BitVec 32) : BitVec 1 :=
  let c1_i32_5 : BitVec 32 := 1#32
  let v7 : BitVec 1 := Scalar.cmpi .sgt v1_0 c1_i32_5
  let v8 : BitVec 32 := Scalar.extui v7
  let c0_i32_6 : BitVec 32 := 0#32
  let v9 : BitVec 1 := Scalar.cmpi .ne v8 c0_i32_6
  v9

def k0_off13 : Fin 2 → Nat :=
  let c1_i32_453 : BitVec 32 := 1#32
  let c1_i32_447 : BitVec 32 := 1#32
  let c3_i32 : BitVec 32 := 3#32
  let v1267 : BitVec 32 := Scalar.remsi c1_i32_447 c3_i32
  ![1, v1267.toNat]
def k0_off14 : Fin 3 → Nat :=
  let c1_i32_447 : BitVec 32 := 1#32
  let c3_i32 : BitVec 32 := 3#32
  let v1267 : BitVec 32 := Scalar.remsi c1_i32_447 c3_i32
  let c0_i32_454 : BitVec 32 := 0#32
  let c0_i32_455 : BitVec 32 := 0#32
  ![v1267.toNat, 0, 0]
def k0_off15 (v1266 : BitVec 32) : Fin 3 → Nat :=
  let c0_i32_456 : BitVec 32 := 0#32
  let c0_i32_457 : BitVec 32 := 0#32
  ![v1266.toNat, 0, 0]

def k0_chk4 (v1_0 : BitVec 32) (v1266 : BitVec 32) : Prop :=
  (∀ (k0_h2 : k0_cond2 v1_0 = 1#1), ∀ a, (k0_off12 v1266) a + S1x704x3072.size a ≤ S64x704x3072.size a) ∧
  (∀ (k0_h2 : k0_cond2 v1_0 = 1#1), ∀ (hinb : ∀ a, (k0_off12 v1266) a + S1x704x3072.size a ≤ S64x704x3072.size a), (Rect.unit (s := S64x704x3072) (k0_off12 v1266) S1x704x3072.size hinb).WholeWords (EltTy.packing .i8)) ∧
  (∀ (k0_h2 : k0_cond2 v1_0 = 1#1), ∀ a, (k0_off15 v1266) a + S1x11x3072.size a ≤ S64x11x3072.size a)
theorem k0_off12_inb : ∀ (v1_0 : BitVec 32) (v1266 : BitVec 32) (k0_hw4 : k0_chk4 v1_0 v1266), ∀ (k0_h2 : k0_cond2 v1_0 = 1#1), ∀ a, (k0_off12 v1266) a + S1x704x3072.size a ≤ S64x704x3072.size a := fun v1_0 v1266 k0_hw4 k0_h2 => k0_hw4.1 k0_h2
theorem k0_off12_wordsi8 : ∀ (v1_0 : BitVec 32) (v1266 : BitVec 32) (k0_hw4 : k0_chk4 v1_0 v1266), ∀ (k0_h2 : k0_cond2 v1_0 = 1#1), (Rect.unit (s := S64x704x3072) (k0_off12 v1266) S1x704x3072.size (k0_off12_inb v1_0 v1266 k0_hw4 k0_h2)).WholeWords (EltTy.packing .i8) := fun v1_0 v1266 k0_hw4 k0_h2 => k0_hw4.2.1 k0_h2 (k0_off12_inb v1_0 v1266 k0_hw4 k0_h2)
theorem k0_off15_inb : ∀ (v1_0 : BitVec 32) (v1266 : BitVec 32) (k0_hw4 : k0_chk4 v1_0 v1266), ∀ (k0_h2 : k0_cond2 v1_0 = 1#1), ∀ a, (k0_off15 v1266) a + S1x11x3072.size a ≤ S64x11x3072.size a := fun v1_0 v1266 k0_hw4 k0_h2 => k0_hw4.2.2 k0_h2

def k0_off16 : Fin 2 → Nat :=
  let c0_i32_448 : BitVec 32 := 0#32
  let c2_i32_447 : BitVec 32 := 2#32
  let c3_i32 : BitVec 32 := 3#32
  let v1267 : BitVec 32 := Scalar.remsi c2_i32_447 c3_i32
  ![0, v1267.toNat]
def k0_off17 : Fin 3 → Nat :=
  let c2_i32_447 : BitVec 32 := 2#32
  let c3_i32 : BitVec 32 := 3#32
  let v1267 : BitVec 32 := Scalar.remsi c2_i32_447 c3_i32
  let c0_i32_449 : BitVec 32 := 0#32
  let c0_i32_450 : BitVec 32 := 0#32
  ![v1267.toNat, 0, 0]
def k0_off18 (v1266 : BitVec 32) : Fin 3 → Nat :=
  let c0_i32_451 : BitVec 32 := 0#32
  let c0_i32_452 : BitVec 32 := 0#32
  ![v1266.toNat, 0, 0]
def k0_cond3 (v1_0 : BitVec 32) : BitVec 1 :=
  let c2_i32 : BitVec 32 := 2#32
  let v10 : BitVec 1 := Scalar.cmpi .sgt v1_0 c2_i32
  let v11 : BitVec 32 := Scalar.extui v10
  let c0_i32_7 : BitVec 32 := 0#32
  let v12 : BitVec 1 := Scalar.cmpi .ne v11 c0_i32_7
  v12

def k0_off19 : Fin 2 → Nat :=
  let c1_i32_453 : BitVec 32 := 1#32
  let c2_i32_447 : BitVec 32 := 2#32
  let c3_i32 : BitVec 32 := 3#32
  let v1267 : BitVec 32 := Scalar.remsi c2_i32_447 c3_i32
  ![1, v1267.toNat]
def k0_off20 : Fin 3 → Nat :=
  let c2_i32_447 : BitVec 32 := 2#32
  let c3_i32 : BitVec 32 := 3#32
  let v1267 : BitVec 32 := Scalar.remsi c2_i32_447 c3_i32
  let c0_i32_454 : BitVec 32 := 0#32
  let c0_i32_455 : BitVec 32 := 0#32
  ![v1267.toNat, 0, 0]
def k0_off21 (v1266 : BitVec 32) : Fin 3 → Nat :=
  let c0_i32_456 : BitVec 32 := 0#32
  let c0_i32_457 : BitVec 32 := 0#32
  ![v1266.toNat, 0, 0]

def k0_chk5 (v1_0 : BitVec 32) (v1266 : BitVec 32) : Prop :=
  (∀ (k0_h3 : k0_cond3 v1_0 = 1#1), ∀ a, (k0_off18 v1266) a + S1x704x3072.size a ≤ S64x704x3072.size a) ∧
  (∀ (k0_h3 : k0_cond3 v1_0 = 1#1), ∀ (hinb : ∀ a, (k0_off18 v1266) a + S1x704x3072.size a ≤ S64x704x3072.size a), (Rect.unit (s := S64x704x3072) (k0_off18 v1266) S1x704x3072.size hinb).WholeWords (EltTy.packing .i8)) ∧
  (∀ (k0_h3 : k0_cond3 v1_0 = 1#1), ∀ a, (k0_off21 v1266) a + S1x11x3072.size a ≤ S64x11x3072.size a)
theorem k0_off18_inb : ∀ (v1_0 : BitVec 32) (v1266 : BitVec 32) (k0_hw5 : k0_chk5 v1_0 v1266), ∀ (k0_h3 : k0_cond3 v1_0 = 1#1), ∀ a, (k0_off18 v1266) a + S1x704x3072.size a ≤ S64x704x3072.size a := fun v1_0 v1266 k0_hw5 k0_h3 => k0_hw5.1 k0_h3
theorem k0_off18_wordsi8 : ∀ (v1_0 : BitVec 32) (v1266 : BitVec 32) (k0_hw5 : k0_chk5 v1_0 v1266), ∀ (k0_h3 : k0_cond3 v1_0 = 1#1), (Rect.unit (s := S64x704x3072) (k0_off18 v1266) S1x704x3072.size (k0_off18_inb v1_0 v1266 k0_hw5 k0_h3)).WholeWords (EltTy.packing .i8) := fun v1_0 v1266 k0_hw5 k0_h3 => k0_hw5.2.1 k0_h3 (k0_off18_inb v1_0 v1266 k0_hw5 k0_h3)
theorem k0_off21_inb : ∀ (v1_0 : BitVec 32) (v1266 : BitVec 32) (k0_hw5 : k0_chk5 v1_0 v1266), ∀ (k0_h3 : k0_cond3 v1_0 = 1#1), ∀ a, (k0_off21 v1266) a + S1x11x3072.size a ≤ S64x11x3072.size a := fun v1_0 v1266 k0_hw5 k0_h3 => k0_hw5.2.2 k0_h3

@[reducible] def k0_t2_loop (v1_0 : BitVec 32) : Scf.Loop 32 :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_441 : BitVec 32 := 1#32
  ⟨c0_i32_438, v1260, c1_i32_441⟩
def k0_off22 (v1_0 : BitVec 32) (k0_t2 : Fin (k0_t2_loop v1_0).trips) : Fin 1 → Nat :=
  let c0_i32_438 : BitVec 32 := 0#32
  let c1_i32_441 : BitVec 32 := 1#32
  let arg12 : BitVec 32 := Scf.iv c0_i32_438 c1_i32_441 k0_t2
  let v1267 : Index := Scalar.indexCast arg12
  ![v1267.toNat]
def k0_off23 (v1_0 : BitVec 32) (k0_t2 : Fin (k0_t2_loop v1_0).trips) : Fin 2 → Nat :=
  let c0_i32_448 : BitVec 32 := 0#32
  let c0_i32_438 : BitVec 32 := 0#32
  let c1_i32_441 : BitVec 32 := 1#32
  let arg12 : BitVec 32 := Scf.iv c0_i32_438 c1_i32_441 k0_t2
  let c3_i32_447 : BitVec 32 := 3#32
  let v1269 : BitVec 32 := Scalar.remsi arg12 c3_i32_447
  ![0, v1269.toNat]
def k0_off24 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32_447 : BitVec 32 := 3#32
  let v1269 : BitVec 32 := Scalar.remsi arg12 c3_i32_447
  let c0_i32_449 : BitVec 32 := 0#32
  let c0_i32_450 : BitVec 32 := 0#32
  ![v1269.toNat, 0, 0]
def k0_off25 (v1268 : BitVec 32) : Fin 3 → Nat :=
  let c0_i32_451 : BitVec 32 := 0#32
  let c0_i32_452 : BitVec 32 := 0#32
  ![v1268.toNat, 0, 0]

def k0_off26 (v1_0 : BitVec 32) (k0_t2 : Fin (k0_t2_loop v1_0).trips) : Fin 2 → Nat :=
  let c1_i32_453 : BitVec 32 := 1#32
  let c0_i32_438 : BitVec 32 := 0#32
  let c1_i32_441 : BitVec 32 := 1#32
  let arg12 : BitVec 32 := Scf.iv c0_i32_438 c1_i32_441 k0_t2
  let c3_i32_447 : BitVec 32 := 3#32
  let v1269 : BitVec 32 := Scalar.remsi arg12 c3_i32_447
  ![1, v1269.toNat]
def k0_off27 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32_447 : BitVec 32 := 3#32
  let v1269 : BitVec 32 := Scalar.remsi arg12 c3_i32_447
  let c0_i32_454 : BitVec 32 := 0#32
  let c0_i32_455 : BitVec 32 := 0#32
  ![v1269.toNat, 0, 0]
def k0_off28 (v1268 : BitVec 32) : Fin 3 → Nat :=
  let c0_i32_456 : BitVec 32 := 0#32
  let c0_i32_457 : BitVec 32 := 0#32
  ![v1268.toNat, 0, 0]

def k0_chk6 (v1268 : BitVec 32) : Prop :=
  (∀ a, (k0_off25 v1268) a + S1x704x3072.size a ≤ S64x704x3072.size a) ∧
  (∀ (hinb : ∀ a, (k0_off25 v1268) a + S1x704x3072.size a ≤ S64x704x3072.size a), (Rect.unit (s := S64x704x3072) (k0_off25 v1268) S1x704x3072.size hinb).WholeWords (EltTy.packing .i8)) ∧
  (∀ a, (k0_off28 v1268) a + S1x11x3072.size a ≤ S64x11x3072.size a)
theorem k0_off25_inb : ∀ (v1268 : BitVec 32) (k0_hw6 : k0_chk6 v1268), ∀ a, (k0_off25 v1268) a + S1x704x3072.size a ≤ S64x704x3072.size a := fun v1268 k0_hw6 => k0_hw6.1
theorem k0_off25_wordsi8 : ∀ (v1268 : BitVec 32) (k0_hw6 : k0_chk6 v1268), (Rect.unit (s := S64x704x3072) (k0_off25 v1268) S1x704x3072.size (k0_off25_inb v1268 k0_hw6)).WholeWords (EltTy.packing .i8) := fun v1268 k0_hw6 => k0_hw6.2.1 (k0_off25_inb v1268 k0_hw6)
theorem k0_off28_inb : ∀ (v1268 : BitVec 32) (k0_hw6 : k0_chk6 v1268), ∀ a, (k0_off28 v1268) a + S1x11x3072.size a ≤ S64x11x3072.size a := fun v1268 k0_hw6 => k0_hw6.2.2

def k0_off29 (v1_0 : BitVec 32) (k0_t2 : Fin (k0_t2_loop v1_0).trips) : Fin 1 → Nat :=
  let c0_i32_438 : BitVec 32 := 0#32
  let c1_i32_441 : BitVec 32 := 1#32
  let arg12 : BitVec 32 := Scf.iv c0_i32_438 c1_i32_441 k0_t2
  let v1282 : Index := Scalar.indexCast arg12
  ![v1282.toNat]
def k0_off30 (v1_0 : BitVec 32) (k0_t2 : Fin (k0_t2_loop v1_0).trips) : Fin 1 → Nat :=
  let c0_i32_438 : BitVec 32 := 0#32
  let c1_i32_441 : BitVec 32 := 1#32
  let arg12 : BitVec 32 := Scf.iv c0_i32_438 c1_i32_441 k0_t2
  let c1_i32_458 : BitVec 32 := 1#32
  let v1284 : BitVec 32 := Scalar.addi arg12 c1_i32_458
  let v1285 : Index := Scalar.indexCast v1284
  ![v1285.toNat]
def k0_off31 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1300 : Index := Scalar.indexCast v1266
  let c0_461 : Index := 0#32
  let c0_462 : Index := 0#32
  ![v1300.toNat, 0, 0]
def k0_off32 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1311 : Index := Scalar.indexCast v1266
  let c0_464 : Index := 0#32
  let c0_465 : Index := 0#32
  ![v1311.toNat, 0, 0]
def k0_off33 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1317 : Index := Scalar.indexCast v1266
  let c64 : Index := 64#32
  let c0_466 : Index := 0#32
  ![v1317.toNat, 64, 0]
def k0_off34 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1328 : Index := Scalar.indexCast v1266
  let c1 : Index := 1#32
  let c0_468 : Index := 0#32
  ![v1328.toNat, 1, 0]
def k0_off35 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1334 : Index := Scalar.indexCast v1266
  let c128_469 : Index := 128#32
  let c0_470 : Index := 0#32
  ![v1334.toNat, 128, 0]
def k0_off36 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1345 : Index := Scalar.indexCast v1266
  let c2 : Index := 2#32
  let c0_472 : Index := 0#32
  ![v1345.toNat, 2, 0]
def k0_off37 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1351 : Index := Scalar.indexCast v1266
  let c192 : Index := 192#32
  let c0_473 : Index := 0#32
  ![v1351.toNat, 192, 0]
def k0_off38 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1362 : Index := Scalar.indexCast v1266
  let c3 : Index := 3#32
  let c0_475 : Index := 0#32
  ![v1362.toNat, 3, 0]
def k0_off39 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1368 : Index := Scalar.indexCast v1266
  let c256_476 : Index := 256#32
  let c0_477 : Index := 0#32
  ![v1368.toNat, 256, 0]
def k0_off40 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1379 : Index := Scalar.indexCast v1266
  let c4 : Index := 4#32
  let c0_479 : Index := 0#32
  ![v1379.toNat, 4, 0]
def k0_off41 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1385 : Index := Scalar.indexCast v1266
  let c320 : Index := 320#32
  let c0_480 : Index := 0#32
  ![v1385.toNat, 320, 0]
def k0_off42 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1396 : Index := Scalar.indexCast v1266
  let c5 : Index := 5#32
  let c0_482 : Index := 0#32
  ![v1396.toNat, 5, 0]
def k0_off43 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1402 : Index := Scalar.indexCast v1266
  let c384_483 : Index := 384#32
  let c0_484 : Index := 0#32
  ![v1402.toNat, 384, 0]
def k0_off44 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1413 : Index := Scalar.indexCast v1266
  let c6 : Index := 6#32
  let c0_486 : Index := 0#32
  ![v1413.toNat, 6, 0]
def k0_off45 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1419 : Index := Scalar.indexCast v1266
  let c448 : Index := 448#32
  let c0_487 : Index := 0#32
  ![v1419.toNat, 448, 0]
def k0_off46 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1430 : Index := Scalar.indexCast v1266
  let c7 : Index := 7#32
  let c0_489 : Index := 0#32
  ![v1430.toNat, 7, 0]
def k0_off47 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1436 : Index := Scalar.indexCast v1266
  let c512_490 : Index := 512#32
  let c0_491 : Index := 0#32
  ![v1436.toNat, 512, 0]
def k0_off48 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1447 : Index := Scalar.indexCast v1266
  let c8 : Index := 8#32
  let c0_493 : Index := 0#32
  ![v1447.toNat, 8, 0]
def k0_off49 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1453 : Index := Scalar.indexCast v1266
  let c576 : Index := 576#32
  let c0_494 : Index := 0#32
  ![v1453.toNat, 576, 0]
def k0_off50 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1464 : Index := Scalar.indexCast v1266
  let c9 : Index := 9#32
  let c0_496 : Index := 0#32
  ![v1464.toNat, 9, 0]
def k0_off51 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1470 : Index := Scalar.indexCast v1266
  let c640_497 : Index := 640#32
  let c0_498 : Index := 0#32
  ![v1470.toNat, 640, 0]
def k0_off52 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1481 : Index := Scalar.indexCast v1266
  let c10 : Index := 10#32
  let c0_500 : Index := 0#32
  ![v1481.toNat, 10, 0]
def k0_off53 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1494 : Index := Scalar.indexCast v1266
  let c0_506 : Index := 0#32
  let c256_507 : Index := 256#32
  ![v1494.toNat, 0, 256]
def k0_off54 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1505 : Index := Scalar.indexCast v1266
  let c0_509 : Index := 0#32
  let c256_510 : Index := 256#32
  ![v1505.toNat, 0, 256]
def k0_off55 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1511 : Index := Scalar.indexCast v1266
  let c64_511 : Index := 64#32
  let c256_512 : Index := 256#32
  ![v1511.toNat, 64, 256]
def k0_off56 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1522 : Index := Scalar.indexCast v1266
  let c1_514 : Index := 1#32
  let c256_515 : Index := 256#32
  ![v1522.toNat, 1, 256]
def k0_off57 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1528 : Index := Scalar.indexCast v1266
  let c128_516 : Index := 128#32
  let c256_517 : Index := 256#32
  ![v1528.toNat, 128, 256]
def k0_off58 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1539 : Index := Scalar.indexCast v1266
  let c2_519 : Index := 2#32
  let c256_520 : Index := 256#32
  ![v1539.toNat, 2, 256]
def k0_off59 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1545 : Index := Scalar.indexCast v1266
  let c192_521 : Index := 192#32
  let c256_522 : Index := 256#32
  ![v1545.toNat, 192, 256]
def k0_off60 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1556 : Index := Scalar.indexCast v1266
  let c3_524 : Index := 3#32
  let c256_525 : Index := 256#32
  ![v1556.toNat, 3, 256]
def k0_off61 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1562 : Index := Scalar.indexCast v1266
  let c256_526 : Index := 256#32
  let c256_527 : Index := 256#32
  ![v1562.toNat, 256, 256]
def k0_off62 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1573 : Index := Scalar.indexCast v1266
  let c4_529 : Index := 4#32
  let c256_530 : Index := 256#32
  ![v1573.toNat, 4, 256]
def k0_off63 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1579 : Index := Scalar.indexCast v1266
  let c320_531 : Index := 320#32
  let c256_532 : Index := 256#32
  ![v1579.toNat, 320, 256]
def k0_off64 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1590 : Index := Scalar.indexCast v1266
  let c5_534 : Index := 5#32
  let c256_535 : Index := 256#32
  ![v1590.toNat, 5, 256]
def k0_off65 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1596 : Index := Scalar.indexCast v1266
  let c384_536 : Index := 384#32
  let c256_537 : Index := 256#32
  ![v1596.toNat, 384, 256]
def k0_off66 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1607 : Index := Scalar.indexCast v1266
  let c6_539 : Index := 6#32
  let c256_540 : Index := 256#32
  ![v1607.toNat, 6, 256]
def k0_off67 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1613 : Index := Scalar.indexCast v1266
  let c448_541 : Index := 448#32
  let c256_542 : Index := 256#32
  ![v1613.toNat, 448, 256]
def k0_off68 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1624 : Index := Scalar.indexCast v1266
  let c7_544 : Index := 7#32
  let c256_545 : Index := 256#32
  ![v1624.toNat, 7, 256]
def k0_off69 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1630 : Index := Scalar.indexCast v1266
  let c512_546 : Index := 512#32
  let c256_547 : Index := 256#32
  ![v1630.toNat, 512, 256]
def k0_off70 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1641 : Index := Scalar.indexCast v1266
  let c8_549 : Index := 8#32
  let c256_550 : Index := 256#32
  ![v1641.toNat, 8, 256]
def k0_off71 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1647 : Index := Scalar.indexCast v1266
  let c576_551 : Index := 576#32
  let c256_552 : Index := 256#32
  ![v1647.toNat, 576, 256]
def k0_off72 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1658 : Index := Scalar.indexCast v1266
  let c9_554 : Index := 9#32
  let c256_555 : Index := 256#32
  ![v1658.toNat, 9, 256]
def k0_off73 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1664 : Index := Scalar.indexCast v1266
  let c640_556 : Index := 640#32
  let c256_557 : Index := 256#32
  ![v1664.toNat, 640, 256]
def k0_off74 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1675 : Index := Scalar.indexCast v1266
  let c10_559 : Index := 10#32
  let c256_560 : Index := 256#32
  ![v1675.toNat, 10, 256]
def k0_off75 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1688 : Index := Scalar.indexCast v1266
  let c0_566 : Index := 0#32
  let c512_567 : Index := 512#32
  ![v1688.toNat, 0, 512]
def k0_off76 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1699 : Index := Scalar.indexCast v1266
  let c0_569 : Index := 0#32
  let c512_570 : Index := 512#32
  ![v1699.toNat, 0, 512]
def k0_off77 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1705 : Index := Scalar.indexCast v1266
  let c64_571 : Index := 64#32
  let c512_572 : Index := 512#32
  ![v1705.toNat, 64, 512]
def k0_off78 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1716 : Index := Scalar.indexCast v1266
  let c1_574 : Index := 1#32
  let c512_575 : Index := 512#32
  ![v1716.toNat, 1, 512]
def k0_off79 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1722 : Index := Scalar.indexCast v1266
  let c128_576 : Index := 128#32
  let c512_577 : Index := 512#32
  ![v1722.toNat, 128, 512]
def k0_off80 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1733 : Index := Scalar.indexCast v1266
  let c2_579 : Index := 2#32
  let c512_580 : Index := 512#32
  ![v1733.toNat, 2, 512]
def k0_off81 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1739 : Index := Scalar.indexCast v1266
  let c192_581 : Index := 192#32
  let c512_582 : Index := 512#32
  ![v1739.toNat, 192, 512]
def k0_off82 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1750 : Index := Scalar.indexCast v1266
  let c3_584 : Index := 3#32
  let c512_585 : Index := 512#32
  ![v1750.toNat, 3, 512]
def k0_off83 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1756 : Index := Scalar.indexCast v1266
  let c256_586 : Index := 256#32
  let c512_587 : Index := 512#32
  ![v1756.toNat, 256, 512]
def k0_off84 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1767 : Index := Scalar.indexCast v1266
  let c4_589 : Index := 4#32
  let c512_590 : Index := 512#32
  ![v1767.toNat, 4, 512]
def k0_off85 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1773 : Index := Scalar.indexCast v1266
  let c320_591 : Index := 320#32
  let c512_592 : Index := 512#32
  ![v1773.toNat, 320, 512]
def k0_off86 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1784 : Index := Scalar.indexCast v1266
  let c5_594 : Index := 5#32
  let c512_595 : Index := 512#32
  ![v1784.toNat, 5, 512]
def k0_off87 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1790 : Index := Scalar.indexCast v1266
  let c384_596 : Index := 384#32
  let c512_597 : Index := 512#32
  ![v1790.toNat, 384, 512]
def k0_off88 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1801 : Index := Scalar.indexCast v1266
  let c6_599 : Index := 6#32
  let c512_600 : Index := 512#32
  ![v1801.toNat, 6, 512]
def k0_off89 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1807 : Index := Scalar.indexCast v1266
  let c448_601 : Index := 448#32
  let c512_602 : Index := 512#32
  ![v1807.toNat, 448, 512]
def k0_off90 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1818 : Index := Scalar.indexCast v1266
  let c7_604 : Index := 7#32
  let c512_605 : Index := 512#32
  ![v1818.toNat, 7, 512]
def k0_off91 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1824 : Index := Scalar.indexCast v1266
  let c512_606 : Index := 512#32
  let c512_607 : Index := 512#32
  ![v1824.toNat, 512, 512]
def k0_off92 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1835 : Index := Scalar.indexCast v1266
  let c8_609 : Index := 8#32
  let c512_610 : Index := 512#32
  ![v1835.toNat, 8, 512]
def k0_off93 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1841 : Index := Scalar.indexCast v1266
  let c576_611 : Index := 576#32
  let c512_612 : Index := 512#32
  ![v1841.toNat, 576, 512]
def k0_off94 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1852 : Index := Scalar.indexCast v1266
  let c9_614 : Index := 9#32
  let c512_615 : Index := 512#32
  ![v1852.toNat, 9, 512]
def k0_off95 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1858 : Index := Scalar.indexCast v1266
  let c640_616 : Index := 640#32
  let c512_617 : Index := 512#32
  ![v1858.toNat, 640, 512]
def k0_off96 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1869 : Index := Scalar.indexCast v1266
  let c10_619 : Index := 10#32
  let c512_620 : Index := 512#32
  ![v1869.toNat, 10, 512]
def k0_off97 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1882 : Index := Scalar.indexCast v1266
  let c0_626 : Index := 0#32
  let c768_627 : Index := 768#32
  ![v1882.toNat, 0, 768]
def k0_off98 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1893 : Index := Scalar.indexCast v1266
  let c0_629 : Index := 0#32
  let c768_630 : Index := 768#32
  ![v1893.toNat, 0, 768]
def k0_off99 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1899 : Index := Scalar.indexCast v1266
  let c64_631 : Index := 64#32
  let c768_632 : Index := 768#32
  ![v1899.toNat, 64, 768]
def k0_off100 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1910 : Index := Scalar.indexCast v1266
  let c1_634 : Index := 1#32
  let c768_635 : Index := 768#32
  ![v1910.toNat, 1, 768]
def k0_off101 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1916 : Index := Scalar.indexCast v1266
  let c128_636 : Index := 128#32
  let c768_637 : Index := 768#32
  ![v1916.toNat, 128, 768]
def k0_off102 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1927 : Index := Scalar.indexCast v1266
  let c2_639 : Index := 2#32
  let c768_640 : Index := 768#32
  ![v1927.toNat, 2, 768]
def k0_off103 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1933 : Index := Scalar.indexCast v1266
  let c192_641 : Index := 192#32
  let c768_642 : Index := 768#32
  ![v1933.toNat, 192, 768]
def k0_off104 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1944 : Index := Scalar.indexCast v1266
  let c3_644 : Index := 3#32
  let c768_645 : Index := 768#32
  ![v1944.toNat, 3, 768]
def k0_off105 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1950 : Index := Scalar.indexCast v1266
  let c256_646 : Index := 256#32
  let c768_647 : Index := 768#32
  ![v1950.toNat, 256, 768]
def k0_off106 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1961 : Index := Scalar.indexCast v1266
  let c4_649 : Index := 4#32
  let c768_650 : Index := 768#32
  ![v1961.toNat, 4, 768]
def k0_off107 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1967 : Index := Scalar.indexCast v1266
  let c320_651 : Index := 320#32
  let c768_652 : Index := 768#32
  ![v1967.toNat, 320, 768]
def k0_off108 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1978 : Index := Scalar.indexCast v1266
  let c5_654 : Index := 5#32
  let c768_655 : Index := 768#32
  ![v1978.toNat, 5, 768]
def k0_off109 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1984 : Index := Scalar.indexCast v1266
  let c384_656 : Index := 384#32
  let c768_657 : Index := 768#32
  ![v1984.toNat, 384, 768]
def k0_off110 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v1995 : Index := Scalar.indexCast v1266
  let c6_659 : Index := 6#32
  let c768_660 : Index := 768#32
  ![v1995.toNat, 6, 768]
def k0_off111 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2001 : Index := Scalar.indexCast v1266
  let c448_661 : Index := 448#32
  let c768_662 : Index := 768#32
  ![v2001.toNat, 448, 768]
def k0_off112 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2012 : Index := Scalar.indexCast v1266
  let c7_664 : Index := 7#32
  let c768_665 : Index := 768#32
  ![v2012.toNat, 7, 768]
def k0_off113 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2018 : Index := Scalar.indexCast v1266
  let c512_666 : Index := 512#32
  let c768_667 : Index := 768#32
  ![v2018.toNat, 512, 768]
def k0_off114 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2029 : Index := Scalar.indexCast v1266
  let c8_669 : Index := 8#32
  let c768_670 : Index := 768#32
  ![v2029.toNat, 8, 768]
def k0_off115 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2035 : Index := Scalar.indexCast v1266
  let c576_671 : Index := 576#32
  let c768_672 : Index := 768#32
  ![v2035.toNat, 576, 768]
def k0_off116 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2046 : Index := Scalar.indexCast v1266
  let c9_674 : Index := 9#32
  let c768_675 : Index := 768#32
  ![v2046.toNat, 9, 768]
def k0_off117 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2052 : Index := Scalar.indexCast v1266
  let c640_676 : Index := 640#32
  let c768_677 : Index := 768#32
  ![v2052.toNat, 640, 768]
def k0_off118 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2063 : Index := Scalar.indexCast v1266
  let c10_679 : Index := 10#32
  let c768_680 : Index := 768#32
  ![v2063.toNat, 10, 768]
def k0_off119 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2076 : Index := Scalar.indexCast v1266
  let c0_686 : Index := 0#32
  let c1024_687 : Index := 1024#32
  ![v2076.toNat, 0, 1024]
def k0_off120 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2087 : Index := Scalar.indexCast v1266
  let c0_689 : Index := 0#32
  let c1024_690 : Index := 1024#32
  ![v2087.toNat, 0, 1024]
def k0_off121 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2093 : Index := Scalar.indexCast v1266
  let c64_691 : Index := 64#32
  let c1024_692 : Index := 1024#32
  ![v2093.toNat, 64, 1024]
def k0_off122 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2104 : Index := Scalar.indexCast v1266
  let c1_694 : Index := 1#32
  let c1024_695 : Index := 1024#32
  ![v2104.toNat, 1, 1024]
def k0_off123 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2110 : Index := Scalar.indexCast v1266
  let c128_696 : Index := 128#32
  let c1024_697 : Index := 1024#32
  ![v2110.toNat, 128, 1024]
def k0_off124 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2121 : Index := Scalar.indexCast v1266
  let c2_699 : Index := 2#32
  let c1024_700 : Index := 1024#32
  ![v2121.toNat, 2, 1024]
def k0_off125 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2127 : Index := Scalar.indexCast v1266
  let c192_701 : Index := 192#32
  let c1024_702 : Index := 1024#32
  ![v2127.toNat, 192, 1024]
def k0_off126 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2138 : Index := Scalar.indexCast v1266
  let c3_704 : Index := 3#32
  let c1024_705 : Index := 1024#32
  ![v2138.toNat, 3, 1024]
def k0_off127 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2144 : Index := Scalar.indexCast v1266
  let c256_706 : Index := 256#32
  let c1024_707 : Index := 1024#32
  ![v2144.toNat, 256, 1024]
def k0_off128 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2155 : Index := Scalar.indexCast v1266
  let c4_709 : Index := 4#32
  let c1024_710 : Index := 1024#32
  ![v2155.toNat, 4, 1024]
def k0_off129 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2161 : Index := Scalar.indexCast v1266
  let c320_711 : Index := 320#32
  let c1024_712 : Index := 1024#32
  ![v2161.toNat, 320, 1024]
def k0_off130 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2172 : Index := Scalar.indexCast v1266
  let c5_714 : Index := 5#32
  let c1024_715 : Index := 1024#32
  ![v2172.toNat, 5, 1024]
def k0_off131 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2178 : Index := Scalar.indexCast v1266
  let c384_716 : Index := 384#32
  let c1024_717 : Index := 1024#32
  ![v2178.toNat, 384, 1024]
def k0_off132 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2189 : Index := Scalar.indexCast v1266
  let c6_719 : Index := 6#32
  let c1024_720 : Index := 1024#32
  ![v2189.toNat, 6, 1024]
def k0_off133 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2195 : Index := Scalar.indexCast v1266
  let c448_721 : Index := 448#32
  let c1024_722 : Index := 1024#32
  ![v2195.toNat, 448, 1024]
def k0_off134 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2206 : Index := Scalar.indexCast v1266
  let c7_724 : Index := 7#32
  let c1024_725 : Index := 1024#32
  ![v2206.toNat, 7, 1024]
def k0_off135 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2212 : Index := Scalar.indexCast v1266
  let c512_726 : Index := 512#32
  let c1024_727 : Index := 1024#32
  ![v2212.toNat, 512, 1024]
def k0_off136 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2223 : Index := Scalar.indexCast v1266
  let c8_729 : Index := 8#32
  let c1024_730 : Index := 1024#32
  ![v2223.toNat, 8, 1024]
def k0_off137 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2229 : Index := Scalar.indexCast v1266
  let c576_731 : Index := 576#32
  let c1024_732 : Index := 1024#32
  ![v2229.toNat, 576, 1024]
def k0_off138 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2240 : Index := Scalar.indexCast v1266
  let c9_734 : Index := 9#32
  let c1024_735 : Index := 1024#32
  ![v2240.toNat, 9, 1024]
def k0_off139 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2246 : Index := Scalar.indexCast v1266
  let c640_736 : Index := 640#32
  let c1024_737 : Index := 1024#32
  ![v2246.toNat, 640, 1024]
def k0_off140 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2257 : Index := Scalar.indexCast v1266
  let c10_739 : Index := 10#32
  let c1024_740 : Index := 1024#32
  ![v2257.toNat, 10, 1024]
def k0_off141 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2270 : Index := Scalar.indexCast v1266
  let c0_746 : Index := 0#32
  let c1280_747 : Index := 1280#32
  ![v2270.toNat, 0, 1280]
def k0_off142 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2281 : Index := Scalar.indexCast v1266
  let c0_749 : Index := 0#32
  let c1280_750 : Index := 1280#32
  ![v2281.toNat, 0, 1280]
def k0_off143 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2287 : Index := Scalar.indexCast v1266
  let c64_751 : Index := 64#32
  let c1280_752 : Index := 1280#32
  ![v2287.toNat, 64, 1280]
def k0_off144 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2298 : Index := Scalar.indexCast v1266
  let c1_754 : Index := 1#32
  let c1280_755 : Index := 1280#32
  ![v2298.toNat, 1, 1280]
def k0_off145 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2304 : Index := Scalar.indexCast v1266
  let c128_756 : Index := 128#32
  let c1280_757 : Index := 1280#32
  ![v2304.toNat, 128, 1280]
def k0_off146 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2315 : Index := Scalar.indexCast v1266
  let c2_759 : Index := 2#32
  let c1280_760 : Index := 1280#32
  ![v2315.toNat, 2, 1280]
def k0_off147 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2321 : Index := Scalar.indexCast v1266
  let c192_761 : Index := 192#32
  let c1280_762 : Index := 1280#32
  ![v2321.toNat, 192, 1280]
def k0_off148 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2332 : Index := Scalar.indexCast v1266
  let c3_764 : Index := 3#32
  let c1280_765 : Index := 1280#32
  ![v2332.toNat, 3, 1280]
def k0_off149 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2338 : Index := Scalar.indexCast v1266
  let c256_766 : Index := 256#32
  let c1280_767 : Index := 1280#32
  ![v2338.toNat, 256, 1280]
def k0_off150 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2349 : Index := Scalar.indexCast v1266
  let c4_769 : Index := 4#32
  let c1280_770 : Index := 1280#32
  ![v2349.toNat, 4, 1280]
def k0_off151 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2355 : Index := Scalar.indexCast v1266
  let c320_771 : Index := 320#32
  let c1280_772 : Index := 1280#32
  ![v2355.toNat, 320, 1280]
def k0_off152 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2366 : Index := Scalar.indexCast v1266
  let c5_774 : Index := 5#32
  let c1280_775 : Index := 1280#32
  ![v2366.toNat, 5, 1280]
def k0_off153 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2372 : Index := Scalar.indexCast v1266
  let c384_776 : Index := 384#32
  let c1280_777 : Index := 1280#32
  ![v2372.toNat, 384, 1280]
def k0_off154 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2383 : Index := Scalar.indexCast v1266
  let c6_779 : Index := 6#32
  let c1280_780 : Index := 1280#32
  ![v2383.toNat, 6, 1280]
def k0_off155 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2389 : Index := Scalar.indexCast v1266
  let c448_781 : Index := 448#32
  let c1280_782 : Index := 1280#32
  ![v2389.toNat, 448, 1280]
def k0_off156 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2400 : Index := Scalar.indexCast v1266
  let c7_784 : Index := 7#32
  let c1280_785 : Index := 1280#32
  ![v2400.toNat, 7, 1280]
def k0_off157 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2406 : Index := Scalar.indexCast v1266
  let c512_786 : Index := 512#32
  let c1280_787 : Index := 1280#32
  ![v2406.toNat, 512, 1280]
def k0_off158 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2417 : Index := Scalar.indexCast v1266
  let c8_789 : Index := 8#32
  let c1280_790 : Index := 1280#32
  ![v2417.toNat, 8, 1280]
def k0_off159 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2423 : Index := Scalar.indexCast v1266
  let c576_791 : Index := 576#32
  let c1280_792 : Index := 1280#32
  ![v2423.toNat, 576, 1280]
def k0_off160 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2434 : Index := Scalar.indexCast v1266
  let c9_794 : Index := 9#32
  let c1280_795 : Index := 1280#32
  ![v2434.toNat, 9, 1280]
def k0_off161 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2440 : Index := Scalar.indexCast v1266
  let c640_796 : Index := 640#32
  let c1280_797 : Index := 1280#32
  ![v2440.toNat, 640, 1280]
def k0_off162 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2451 : Index := Scalar.indexCast v1266
  let c10_799 : Index := 10#32
  let c1280_800 : Index := 1280#32
  ![v2451.toNat, 10, 1280]
def k0_off163 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2464 : Index := Scalar.indexCast v1266
  let c0_806 : Index := 0#32
  let c1536 : Index := 1536#32
  ![v2464.toNat, 0, 1536]
def k0_off164 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2475 : Index := Scalar.indexCast v1266
  let c0_808 : Index := 0#32
  let c1536_809 : Index := 1536#32
  ![v2475.toNat, 0, 1536]
def k0_off165 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2481 : Index := Scalar.indexCast v1266
  let c64_810 : Index := 64#32
  let c1536_811 : Index := 1536#32
  ![v2481.toNat, 64, 1536]
def k0_off166 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2492 : Index := Scalar.indexCast v1266
  let c1_813 : Index := 1#32
  let c1536_814 : Index := 1536#32
  ![v2492.toNat, 1, 1536]
def k0_off167 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2498 : Index := Scalar.indexCast v1266
  let c128_815 : Index := 128#32
  let c1536_816 : Index := 1536#32
  ![v2498.toNat, 128, 1536]
def k0_off168 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2509 : Index := Scalar.indexCast v1266
  let c2_818 : Index := 2#32
  let c1536_819 : Index := 1536#32
  ![v2509.toNat, 2, 1536]
def k0_off169 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2515 : Index := Scalar.indexCast v1266
  let c192_820 : Index := 192#32
  let c1536_821 : Index := 1536#32
  ![v2515.toNat, 192, 1536]
def k0_off170 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2526 : Index := Scalar.indexCast v1266
  let c3_823 : Index := 3#32
  let c1536_824 : Index := 1536#32
  ![v2526.toNat, 3, 1536]
def k0_off171 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2532 : Index := Scalar.indexCast v1266
  let c256_825 : Index := 256#32
  let c1536_826 : Index := 1536#32
  ![v2532.toNat, 256, 1536]
def k0_off172 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2543 : Index := Scalar.indexCast v1266
  let c4_828 : Index := 4#32
  let c1536_829 : Index := 1536#32
  ![v2543.toNat, 4, 1536]
def k0_off173 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2549 : Index := Scalar.indexCast v1266
  let c320_830 : Index := 320#32
  let c1536_831 : Index := 1536#32
  ![v2549.toNat, 320, 1536]
def k0_off174 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2560 : Index := Scalar.indexCast v1266
  let c5_833 : Index := 5#32
  let c1536_834 : Index := 1536#32
  ![v2560.toNat, 5, 1536]
def k0_off175 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2566 : Index := Scalar.indexCast v1266
  let c384_835 : Index := 384#32
  let c1536_836 : Index := 1536#32
  ![v2566.toNat, 384, 1536]
def k0_off176 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2577 : Index := Scalar.indexCast v1266
  let c6_838 : Index := 6#32
  let c1536_839 : Index := 1536#32
  ![v2577.toNat, 6, 1536]
def k0_off177 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2583 : Index := Scalar.indexCast v1266
  let c448_840 : Index := 448#32
  let c1536_841 : Index := 1536#32
  ![v2583.toNat, 448, 1536]
def k0_off178 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2594 : Index := Scalar.indexCast v1266
  let c7_843 : Index := 7#32
  let c1536_844 : Index := 1536#32
  ![v2594.toNat, 7, 1536]
def k0_off179 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2600 : Index := Scalar.indexCast v1266
  let c512_845 : Index := 512#32
  let c1536_846 : Index := 1536#32
  ![v2600.toNat, 512, 1536]
def k0_off180 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2611 : Index := Scalar.indexCast v1266
  let c8_848 : Index := 8#32
  let c1536_849 : Index := 1536#32
  ![v2611.toNat, 8, 1536]
def k0_off181 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2617 : Index := Scalar.indexCast v1266
  let c576_850 : Index := 576#32
  let c1536_851 : Index := 1536#32
  ![v2617.toNat, 576, 1536]
def k0_off182 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2628 : Index := Scalar.indexCast v1266
  let c9_853 : Index := 9#32
  let c1536_854 : Index := 1536#32
  ![v2628.toNat, 9, 1536]
def k0_off183 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2634 : Index := Scalar.indexCast v1266
  let c640_855 : Index := 640#32
  let c1536_856 : Index := 1536#32
  ![v2634.toNat, 640, 1536]
def k0_off184 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2645 : Index := Scalar.indexCast v1266
  let c10_858 : Index := 10#32
  let c1536_859 : Index := 1536#32
  ![v2645.toNat, 10, 1536]
def k0_off185 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2658 : Index := Scalar.indexCast v1266
  let c0_865 : Index := 0#32
  let c1792 : Index := 1792#32
  ![v2658.toNat, 0, 1792]
def k0_off186 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2669 : Index := Scalar.indexCast v1266
  let c0_867 : Index := 0#32
  let c1792_868 : Index := 1792#32
  ![v2669.toNat, 0, 1792]
def k0_off187 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2675 : Index := Scalar.indexCast v1266
  let c64_869 : Index := 64#32
  let c1792_870 : Index := 1792#32
  ![v2675.toNat, 64, 1792]
def k0_off188 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2686 : Index := Scalar.indexCast v1266
  let c1_872 : Index := 1#32
  let c1792_873 : Index := 1792#32
  ![v2686.toNat, 1, 1792]
def k0_off189 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2692 : Index := Scalar.indexCast v1266
  let c128_874 : Index := 128#32
  let c1792_875 : Index := 1792#32
  ![v2692.toNat, 128, 1792]
def k0_off190 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2703 : Index := Scalar.indexCast v1266
  let c2_877 : Index := 2#32
  let c1792_878 : Index := 1792#32
  ![v2703.toNat, 2, 1792]
def k0_off191 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2709 : Index := Scalar.indexCast v1266
  let c192_879 : Index := 192#32
  let c1792_880 : Index := 1792#32
  ![v2709.toNat, 192, 1792]
def k0_off192 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2720 : Index := Scalar.indexCast v1266
  let c3_882 : Index := 3#32
  let c1792_883 : Index := 1792#32
  ![v2720.toNat, 3, 1792]
def k0_off193 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2726 : Index := Scalar.indexCast v1266
  let c256_884 : Index := 256#32
  let c1792_885 : Index := 1792#32
  ![v2726.toNat, 256, 1792]
def k0_off194 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2737 : Index := Scalar.indexCast v1266
  let c4_887 : Index := 4#32
  let c1792_888 : Index := 1792#32
  ![v2737.toNat, 4, 1792]
def k0_off195 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2743 : Index := Scalar.indexCast v1266
  let c320_889 : Index := 320#32
  let c1792_890 : Index := 1792#32
  ![v2743.toNat, 320, 1792]
def k0_off196 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2754 : Index := Scalar.indexCast v1266
  let c5_892 : Index := 5#32
  let c1792_893 : Index := 1792#32
  ![v2754.toNat, 5, 1792]
def k0_off197 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2760 : Index := Scalar.indexCast v1266
  let c384_894 : Index := 384#32
  let c1792_895 : Index := 1792#32
  ![v2760.toNat, 384, 1792]
def k0_off198 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2771 : Index := Scalar.indexCast v1266
  let c6_897 : Index := 6#32
  let c1792_898 : Index := 1792#32
  ![v2771.toNat, 6, 1792]
def k0_off199 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2777 : Index := Scalar.indexCast v1266
  let c448_899 : Index := 448#32
  let c1792_900 : Index := 1792#32
  ![v2777.toNat, 448, 1792]
def k0_off200 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2788 : Index := Scalar.indexCast v1266
  let c7_902 : Index := 7#32
  let c1792_903 : Index := 1792#32
  ![v2788.toNat, 7, 1792]
def k0_off201 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2794 : Index := Scalar.indexCast v1266
  let c512_904 : Index := 512#32
  let c1792_905 : Index := 1792#32
  ![v2794.toNat, 512, 1792]
def k0_off202 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2805 : Index := Scalar.indexCast v1266
  let c8_907 : Index := 8#32
  let c1792_908 : Index := 1792#32
  ![v2805.toNat, 8, 1792]
def k0_off203 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2811 : Index := Scalar.indexCast v1266
  let c576_909 : Index := 576#32
  let c1792_910 : Index := 1792#32
  ![v2811.toNat, 576, 1792]
def k0_off204 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2822 : Index := Scalar.indexCast v1266
  let c9_912 : Index := 9#32
  let c1792_913 : Index := 1792#32
  ![v2822.toNat, 9, 1792]
def k0_off205 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2828 : Index := Scalar.indexCast v1266
  let c640_914 : Index := 640#32
  let c1792_915 : Index := 1792#32
  ![v2828.toNat, 640, 1792]
def k0_off206 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2839 : Index := Scalar.indexCast v1266
  let c10_917 : Index := 10#32
  let c1792_918 : Index := 1792#32
  ![v2839.toNat, 10, 1792]
def k0_off207 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2852 : Index := Scalar.indexCast v1266
  let c0_924 : Index := 0#32
  let c2048 : Index := 2048#32
  ![v2852.toNat, 0, 2048]
def k0_off208 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2863 : Index := Scalar.indexCast v1266
  let c0_926 : Index := 0#32
  let c2048_927 : Index := 2048#32
  ![v2863.toNat, 0, 2048]
def k0_off209 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2869 : Index := Scalar.indexCast v1266
  let c64_928 : Index := 64#32
  let c2048_929 : Index := 2048#32
  ![v2869.toNat, 64, 2048]
def k0_off210 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2880 : Index := Scalar.indexCast v1266
  let c1_931 : Index := 1#32
  let c2048_932 : Index := 2048#32
  ![v2880.toNat, 1, 2048]
def k0_off211 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2886 : Index := Scalar.indexCast v1266
  let c128_933 : Index := 128#32
  let c2048_934 : Index := 2048#32
  ![v2886.toNat, 128, 2048]
def k0_off212 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2897 : Index := Scalar.indexCast v1266
  let c2_936 : Index := 2#32
  let c2048_937 : Index := 2048#32
  ![v2897.toNat, 2, 2048]
def k0_off213 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2903 : Index := Scalar.indexCast v1266
  let c192_938 : Index := 192#32
  let c2048_939 : Index := 2048#32
  ![v2903.toNat, 192, 2048]
def k0_off214 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2914 : Index := Scalar.indexCast v1266
  let c3_941 : Index := 3#32
  let c2048_942 : Index := 2048#32
  ![v2914.toNat, 3, 2048]
def k0_off215 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2920 : Index := Scalar.indexCast v1266
  let c256_943 : Index := 256#32
  let c2048_944 : Index := 2048#32
  ![v2920.toNat, 256, 2048]
def k0_off216 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2931 : Index := Scalar.indexCast v1266
  let c4_946 : Index := 4#32
  let c2048_947 : Index := 2048#32
  ![v2931.toNat, 4, 2048]
def k0_off217 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2937 : Index := Scalar.indexCast v1266
  let c320_948 : Index := 320#32
  let c2048_949 : Index := 2048#32
  ![v2937.toNat, 320, 2048]
def k0_off218 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2948 : Index := Scalar.indexCast v1266
  let c5_951 : Index := 5#32
  let c2048_952 : Index := 2048#32
  ![v2948.toNat, 5, 2048]
def k0_off219 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2954 : Index := Scalar.indexCast v1266
  let c384_953 : Index := 384#32
  let c2048_954 : Index := 2048#32
  ![v2954.toNat, 384, 2048]
def k0_off220 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2965 : Index := Scalar.indexCast v1266
  let c6_956 : Index := 6#32
  let c2048_957 : Index := 2048#32
  ![v2965.toNat, 6, 2048]
def k0_off221 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2971 : Index := Scalar.indexCast v1266
  let c448_958 : Index := 448#32
  let c2048_959 : Index := 2048#32
  ![v2971.toNat, 448, 2048]
def k0_off222 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2982 : Index := Scalar.indexCast v1266
  let c7_961 : Index := 7#32
  let c2048_962 : Index := 2048#32
  ![v2982.toNat, 7, 2048]
def k0_off223 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2988 : Index := Scalar.indexCast v1266
  let c512_963 : Index := 512#32
  let c2048_964 : Index := 2048#32
  ![v2988.toNat, 512, 2048]
def k0_off224 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v2999 : Index := Scalar.indexCast v1266
  let c8_966 : Index := 8#32
  let c2048_967 : Index := 2048#32
  ![v2999.toNat, 8, 2048]
def k0_off225 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3005 : Index := Scalar.indexCast v1266
  let c576_968 : Index := 576#32
  let c2048_969 : Index := 2048#32
  ![v3005.toNat, 576, 2048]
def k0_off226 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3016 : Index := Scalar.indexCast v1266
  let c9_971 : Index := 9#32
  let c2048_972 : Index := 2048#32
  ![v3016.toNat, 9, 2048]
def k0_off227 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3022 : Index := Scalar.indexCast v1266
  let c640_973 : Index := 640#32
  let c2048_974 : Index := 2048#32
  ![v3022.toNat, 640, 2048]
def k0_off228 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3033 : Index := Scalar.indexCast v1266
  let c10_976 : Index := 10#32
  let c2048_977 : Index := 2048#32
  ![v3033.toNat, 10, 2048]
def k0_off229 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3046 : Index := Scalar.indexCast v1266
  let c0_983 : Index := 0#32
  let c2304 : Index := 2304#32
  ![v3046.toNat, 0, 2304]
def k0_off230 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3057 : Index := Scalar.indexCast v1266
  let c0_985 : Index := 0#32
  let c2304_986 : Index := 2304#32
  ![v3057.toNat, 0, 2304]
def k0_off231 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3063 : Index := Scalar.indexCast v1266
  let c64_987 : Index := 64#32
  let c2304_988 : Index := 2304#32
  ![v3063.toNat, 64, 2304]
def k0_off232 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3074 : Index := Scalar.indexCast v1266
  let c1_990 : Index := 1#32
  let c2304_991 : Index := 2304#32
  ![v3074.toNat, 1, 2304]
def k0_off233 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3080 : Index := Scalar.indexCast v1266
  let c128_992 : Index := 128#32
  let c2304_993 : Index := 2304#32
  ![v3080.toNat, 128, 2304]
def k0_off234 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3091 : Index := Scalar.indexCast v1266
  let c2_995 : Index := 2#32
  let c2304_996 : Index := 2304#32
  ![v3091.toNat, 2, 2304]
def k0_off235 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3097 : Index := Scalar.indexCast v1266
  let c192_997 : Index := 192#32
  let c2304_998 : Index := 2304#32
  ![v3097.toNat, 192, 2304]
def k0_off236 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3108 : Index := Scalar.indexCast v1266
  let c3_1000 : Index := 3#32
  let c2304_1001 : Index := 2304#32
  ![v3108.toNat, 3, 2304]
def k0_off237 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3114 : Index := Scalar.indexCast v1266
  let c256_1002 : Index := 256#32
  let c2304_1003 : Index := 2304#32
  ![v3114.toNat, 256, 2304]
def k0_off238 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3125 : Index := Scalar.indexCast v1266
  let c4_1005 : Index := 4#32
  let c2304_1006 : Index := 2304#32
  ![v3125.toNat, 4, 2304]
def k0_off239 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3131 : Index := Scalar.indexCast v1266
  let c320_1007 : Index := 320#32
  let c2304_1008 : Index := 2304#32
  ![v3131.toNat, 320, 2304]
def k0_off240 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3142 : Index := Scalar.indexCast v1266
  let c5_1010 : Index := 5#32
  let c2304_1011 : Index := 2304#32
  ![v3142.toNat, 5, 2304]
def k0_off241 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3148 : Index := Scalar.indexCast v1266
  let c384_1012 : Index := 384#32
  let c2304_1013 : Index := 2304#32
  ![v3148.toNat, 384, 2304]
def k0_off242 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3159 : Index := Scalar.indexCast v1266
  let c6_1015 : Index := 6#32
  let c2304_1016 : Index := 2304#32
  ![v3159.toNat, 6, 2304]
def k0_off243 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3165 : Index := Scalar.indexCast v1266
  let c448_1017 : Index := 448#32
  let c2304_1018 : Index := 2304#32
  ![v3165.toNat, 448, 2304]
def k0_off244 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3176 : Index := Scalar.indexCast v1266
  let c7_1020 : Index := 7#32
  let c2304_1021 : Index := 2304#32
  ![v3176.toNat, 7, 2304]
def k0_off245 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3182 : Index := Scalar.indexCast v1266
  let c512_1022 : Index := 512#32
  let c2304_1023 : Index := 2304#32
  ![v3182.toNat, 512, 2304]
def k0_off246 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3193 : Index := Scalar.indexCast v1266
  let c8_1025 : Index := 8#32
  let c2304_1026 : Index := 2304#32
  ![v3193.toNat, 8, 2304]
def k0_off247 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3199 : Index := Scalar.indexCast v1266
  let c576_1027 : Index := 576#32
  let c2304_1028 : Index := 2304#32
  ![v3199.toNat, 576, 2304]
def k0_off248 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3210 : Index := Scalar.indexCast v1266
  let c9_1030 : Index := 9#32
  let c2304_1031 : Index := 2304#32
  ![v3210.toNat, 9, 2304]
def k0_off249 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3216 : Index := Scalar.indexCast v1266
  let c640_1032 : Index := 640#32
  let c2304_1033 : Index := 2304#32
  ![v3216.toNat, 640, 2304]
def k0_off250 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3227 : Index := Scalar.indexCast v1266
  let c10_1035 : Index := 10#32
  let c2304_1036 : Index := 2304#32
  ![v3227.toNat, 10, 2304]
def k0_off251 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3240 : Index := Scalar.indexCast v1266
  let c0_1042 : Index := 0#32
  let c2560 : Index := 2560#32
  ![v3240.toNat, 0, 2560]
def k0_off252 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3251 : Index := Scalar.indexCast v1266
  let c0_1044 : Index := 0#32
  let c2560_1045 : Index := 2560#32
  ![v3251.toNat, 0, 2560]
def k0_off253 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3257 : Index := Scalar.indexCast v1266
  let c64_1046 : Index := 64#32
  let c2560_1047 : Index := 2560#32
  ![v3257.toNat, 64, 2560]
def k0_off254 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3268 : Index := Scalar.indexCast v1266
  let c1_1049 : Index := 1#32
  let c2560_1050 : Index := 2560#32
  ![v3268.toNat, 1, 2560]
def k0_off255 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3274 : Index := Scalar.indexCast v1266
  let c128_1051 : Index := 128#32
  let c2560_1052 : Index := 2560#32
  ![v3274.toNat, 128, 2560]
def k0_off256 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3285 : Index := Scalar.indexCast v1266
  let c2_1054 : Index := 2#32
  let c2560_1055 : Index := 2560#32
  ![v3285.toNat, 2, 2560]
def k0_off257 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3291 : Index := Scalar.indexCast v1266
  let c192_1056 : Index := 192#32
  let c2560_1057 : Index := 2560#32
  ![v3291.toNat, 192, 2560]
def k0_off258 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3302 : Index := Scalar.indexCast v1266
  let c3_1059 : Index := 3#32
  let c2560_1060 : Index := 2560#32
  ![v3302.toNat, 3, 2560]
def k0_off259 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3308 : Index := Scalar.indexCast v1266
  let c256_1061 : Index := 256#32
  let c2560_1062 : Index := 2560#32
  ![v3308.toNat, 256, 2560]
def k0_off260 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3319 : Index := Scalar.indexCast v1266
  let c4_1064 : Index := 4#32
  let c2560_1065 : Index := 2560#32
  ![v3319.toNat, 4, 2560]
def k0_off261 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3325 : Index := Scalar.indexCast v1266
  let c320_1066 : Index := 320#32
  let c2560_1067 : Index := 2560#32
  ![v3325.toNat, 320, 2560]
def k0_off262 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3336 : Index := Scalar.indexCast v1266
  let c5_1069 : Index := 5#32
  let c2560_1070 : Index := 2560#32
  ![v3336.toNat, 5, 2560]
def k0_off263 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3342 : Index := Scalar.indexCast v1266
  let c384_1071 : Index := 384#32
  let c2560_1072 : Index := 2560#32
  ![v3342.toNat, 384, 2560]
def k0_off264 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3353 : Index := Scalar.indexCast v1266
  let c6_1074 : Index := 6#32
  let c2560_1075 : Index := 2560#32
  ![v3353.toNat, 6, 2560]
def k0_off265 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3359 : Index := Scalar.indexCast v1266
  let c448_1076 : Index := 448#32
  let c2560_1077 : Index := 2560#32
  ![v3359.toNat, 448, 2560]
def k0_off266 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3370 : Index := Scalar.indexCast v1266
  let c7_1079 : Index := 7#32
  let c2560_1080 : Index := 2560#32
  ![v3370.toNat, 7, 2560]
def k0_off267 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3376 : Index := Scalar.indexCast v1266
  let c512_1081 : Index := 512#32
  let c2560_1082 : Index := 2560#32
  ![v3376.toNat, 512, 2560]
def k0_off268 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3387 : Index := Scalar.indexCast v1266
  let c8_1084 : Index := 8#32
  let c2560_1085 : Index := 2560#32
  ![v3387.toNat, 8, 2560]
def k0_off269 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3393 : Index := Scalar.indexCast v1266
  let c576_1086 : Index := 576#32
  let c2560_1087 : Index := 2560#32
  ![v3393.toNat, 576, 2560]
def k0_off270 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3404 : Index := Scalar.indexCast v1266
  let c9_1089 : Index := 9#32
  let c2560_1090 : Index := 2560#32
  ![v3404.toNat, 9, 2560]
def k0_off271 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3410 : Index := Scalar.indexCast v1266
  let c640_1091 : Index := 640#32
  let c2560_1092 : Index := 2560#32
  ![v3410.toNat, 640, 2560]
def k0_off272 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3421 : Index := Scalar.indexCast v1266
  let c10_1094 : Index := 10#32
  let c2560_1095 : Index := 2560#32
  ![v3421.toNat, 10, 2560]
def k0_off273 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3434 : Index := Scalar.indexCast v1266
  let c0_1101 : Index := 0#32
  let c2816 : Index := 2816#32
  ![v3434.toNat, 0, 2816]
def k0_off274 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3445 : Index := Scalar.indexCast v1266
  let c0_1103 : Index := 0#32
  let c2816_1104 : Index := 2816#32
  ![v3445.toNat, 0, 2816]
def k0_off275 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3451 : Index := Scalar.indexCast v1266
  let c64_1105 : Index := 64#32
  let c2816_1106 : Index := 2816#32
  ![v3451.toNat, 64, 2816]
def k0_off276 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3462 : Index := Scalar.indexCast v1266
  let c1_1108 : Index := 1#32
  let c2816_1109 : Index := 2816#32
  ![v3462.toNat, 1, 2816]
def k0_off277 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3468 : Index := Scalar.indexCast v1266
  let c128_1110 : Index := 128#32
  let c2816_1111 : Index := 2816#32
  ![v3468.toNat, 128, 2816]
def k0_off278 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3479 : Index := Scalar.indexCast v1266
  let c2_1113 : Index := 2#32
  let c2816_1114 : Index := 2816#32
  ![v3479.toNat, 2, 2816]
def k0_off279 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3485 : Index := Scalar.indexCast v1266
  let c192_1115 : Index := 192#32
  let c2816_1116 : Index := 2816#32
  ![v3485.toNat, 192, 2816]
def k0_off280 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3496 : Index := Scalar.indexCast v1266
  let c3_1118 : Index := 3#32
  let c2816_1119 : Index := 2816#32
  ![v3496.toNat, 3, 2816]
def k0_off281 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3502 : Index := Scalar.indexCast v1266
  let c256_1120 : Index := 256#32
  let c2816_1121 : Index := 2816#32
  ![v3502.toNat, 256, 2816]
def k0_off282 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3513 : Index := Scalar.indexCast v1266
  let c4_1123 : Index := 4#32
  let c2816_1124 : Index := 2816#32
  ![v3513.toNat, 4, 2816]
def k0_off283 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3519 : Index := Scalar.indexCast v1266
  let c320_1125 : Index := 320#32
  let c2816_1126 : Index := 2816#32
  ![v3519.toNat, 320, 2816]
def k0_off284 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3530 : Index := Scalar.indexCast v1266
  let c5_1128 : Index := 5#32
  let c2816_1129 : Index := 2816#32
  ![v3530.toNat, 5, 2816]
def k0_off285 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3536 : Index := Scalar.indexCast v1266
  let c384_1130 : Index := 384#32
  let c2816_1131 : Index := 2816#32
  ![v3536.toNat, 384, 2816]
def k0_off286 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3547 : Index := Scalar.indexCast v1266
  let c6_1133 : Index := 6#32
  let c2816_1134 : Index := 2816#32
  ![v3547.toNat, 6, 2816]
def k0_off287 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3553 : Index := Scalar.indexCast v1266
  let c448_1135 : Index := 448#32
  let c2816_1136 : Index := 2816#32
  ![v3553.toNat, 448, 2816]
def k0_off288 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3564 : Index := Scalar.indexCast v1266
  let c7_1138 : Index := 7#32
  let c2816_1139 : Index := 2816#32
  ![v3564.toNat, 7, 2816]
def k0_off289 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3570 : Index := Scalar.indexCast v1266
  let c512_1140 : Index := 512#32
  let c2816_1141 : Index := 2816#32
  ![v3570.toNat, 512, 2816]
def k0_off290 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3581 : Index := Scalar.indexCast v1266
  let c8_1143 : Index := 8#32
  let c2816_1144 : Index := 2816#32
  ![v3581.toNat, 8, 2816]
def k0_off291 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3587 : Index := Scalar.indexCast v1266
  let c576_1145 : Index := 576#32
  let c2816_1146 : Index := 2816#32
  ![v3587.toNat, 576, 2816]
def k0_off292 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3598 : Index := Scalar.indexCast v1266
  let c9_1148 : Index := 9#32
  let c2816_1149 : Index := 2816#32
  ![v3598.toNat, 9, 2816]
def k0_off293 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3604 : Index := Scalar.indexCast v1266
  let c640_1150 : Index := 640#32
  let c2816_1151 : Index := 2816#32
  ![v3604.toNat, 640, 2816]
def k0_off294 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32 : BitVec 32 := 3#32
  let v1266 : BitVec 32 := Scalar.remsi arg12 c3_i32
  let v3615 : Index := Scalar.indexCast v1266
  let c10_1153 : Index := 10#32
  let c2816_1154 : Index := 2816#32
  ![v3615.toNat, 10, 2816]
def k0_off295 (v1_0 : BitVec 32) (k0_t2 : Fin (k0_t2_loop v1_0).trips) : Fin 1 → Nat :=
  let c0_i32_438 : BitVec 32 := 0#32
  let c1_i32_441 : BitVec 32 := 1#32
  let arg12 : BitVec 32 := Scf.iv c0_i32_438 c1_i32_441 k0_t2
  let c3_i32_1163 : BitVec 32 := 3#32
  let v3632 : BitVec 32 := Scalar.addi arg12 c3_i32_1163
  let v3633 : Index := Scalar.indexCast v3632
  ![v3633.toNat]
def k0_cond4 (v1_0 : BitVec 32) (k0_t2 : Fin (k0_t2_loop v1_0).trips) : BitVec 1 :=
  let c0_i32_438 : BitVec 32 := 0#32
  let c1_i32_441 : BitVec 32 := 1#32
  let arg12 : BitVec 32 := Scf.iv c0_i32_438 c1_i32_441 k0_t2
  let c3_i32_1160 : BitVec 32 := 3#32
  let v3628 : BitVec 32 := Scalar.addi arg12 c3_i32_1160
  let v3629 : BitVec 1 := Scalar.cmpi .slt v3628 v1_0
  let v3630 : BitVec 32 := Scalar.extui v3629
  let c0_i32_1161 : BitVec 32 := 0#32
  let v3631 : BitVec 1 := Scalar.cmpi .ne v3630 c0_i32_1161
  v3631

def k0_off296 (v1_0 : BitVec 32) (k0_t2 : Fin (k0_t2_loop v1_0).trips) : Fin 2 → Nat :=
  let c0_i32_1165 : BitVec 32 := 0#32
  let c0_i32_438 : BitVec 32 := 0#32
  let c1_i32_441 : BitVec 32 := 1#32
  let arg12 : BitVec 32 := Scf.iv c0_i32_438 c1_i32_441 k0_t2
  let c3_i32_1163 : BitVec 32 := 3#32
  let v3632 : BitVec 32 := Scalar.addi arg12 c3_i32_1163
  let c3_i32_1164 : BitVec 32 := 3#32
  let v3635 : BitVec 32 := Scalar.remsi v3632 c3_i32_1164
  ![0, v3635.toNat]
def k0_off297 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32_1163 : BitVec 32 := 3#32
  let v3632 : BitVec 32 := Scalar.addi arg12 c3_i32_1163
  let c3_i32_1164 : BitVec 32 := 3#32
  let v3635 : BitVec 32 := Scalar.remsi v3632 c3_i32_1164
  let c0_i32_1166 : BitVec 32 := 0#32
  let c0_i32_1167 : BitVec 32 := 0#32
  ![v3635.toNat, 0, 0]
def k0_off298 (v3634 : BitVec 32) : Fin 3 → Nat :=
  let c0_i32_1168 : BitVec 32 := 0#32
  let c0_i32_1169 : BitVec 32 := 0#32
  ![v3634.toNat, 0, 0]

def k0_off299 (v1_0 : BitVec 32) (k0_t2 : Fin (k0_t2_loop v1_0).trips) : Fin 2 → Nat :=
  let c1_i32_1170 : BitVec 32 := 1#32
  let c0_i32_438 : BitVec 32 := 0#32
  let c1_i32_441 : BitVec 32 := 1#32
  let arg12 : BitVec 32 := Scf.iv c0_i32_438 c1_i32_441 k0_t2
  let c3_i32_1163 : BitVec 32 := 3#32
  let v3632 : BitVec 32 := Scalar.addi arg12 c3_i32_1163
  let c3_i32_1164 : BitVec 32 := 3#32
  let v3635 : BitVec 32 := Scalar.remsi v3632 c3_i32_1164
  ![1, v3635.toNat]
def k0_off300 (v1_0 : BitVec 32) (k0_t2 : Fin (k0_t2_loop v1_0).trips) : Fin 3 → Nat :=
  let c0_i32_438 : BitVec 32 := 0#32
  let c1_i32_441 : BitVec 32 := 1#32
  let arg12 : BitVec 32 := Scf.iv c0_i32_438 c1_i32_441 k0_t2
  let c3_i32_1163 : BitVec 32 := 3#32
  let v3632 : BitVec 32 := Scalar.addi arg12 c3_i32_1163
  let c3_i32_1164 : BitVec 32 := 3#32
  let v3635 : BitVec 32 := Scalar.remsi v3632 c3_i32_1164
  let c0_i32_1171 : BitVec 32 := 0#32
  let c0_i32_1172 : BitVec 32 := 0#32
  ![v3635.toNat, 0, 0]
def k0_off301 (v3634 : BitVec 32) : Fin 3 → Nat :=
  let c0_i32_1173 : BitVec 32 := 0#32
  let c0_i32_1174 : BitVec 32 := 0#32
  ![v3634.toNat, 0, 0]

def k0_chk7 (v1_0 : BitVec 32) (k0_t2 : Fin (k0_t2_loop v1_0).trips) (v3634 : BitVec 32) : Prop :=
  (∀ (k0_h4 : k0_cond4 v1_0 k0_t2 = 1#1), ∀ a, (k0_off298 v3634) a + S1x704x3072.size a ≤ S64x704x3072.size a) ∧
  (∀ (k0_h4 : k0_cond4 v1_0 k0_t2 = 1#1), ∀ (hinb : ∀ a, (k0_off298 v3634) a + S1x704x3072.size a ≤ S64x704x3072.size a), (Rect.unit (s := S64x704x3072) (k0_off298 v3634) S1x704x3072.size hinb).WholeWords (EltTy.packing .i8)) ∧
  (∀ (k0_h4 : k0_cond4 v1_0 k0_t2 = 1#1), ∀ a, (k0_off301 v3634) a + S1x11x3072.size a ≤ S64x11x3072.size a)
theorem k0_off298_inb : ∀ (v1_0 : BitVec 32) (k0_t2 : Fin (k0_t2_loop v1_0).trips) (v3634 : BitVec 32) (k0_hw7 : k0_chk7 v1_0 k0_t2 v3634), ∀ (k0_h4 : k0_cond4 v1_0 k0_t2 = 1#1), ∀ a, (k0_off298 v3634) a + S1x704x3072.size a ≤ S64x704x3072.size a := fun v1_0 k0_t2 v3634 k0_hw7 k0_h4 => k0_hw7.1 k0_h4
theorem k0_off298_wordsi8 : ∀ (v1_0 : BitVec 32) (k0_t2 : Fin (k0_t2_loop v1_0).trips) (v3634 : BitVec 32) (k0_hw7 : k0_chk7 v1_0 k0_t2 v3634), ∀ (k0_h4 : k0_cond4 v1_0 k0_t2 = 1#1), (Rect.unit (s := S64x704x3072) (k0_off298 v3634) S1x704x3072.size (k0_off298_inb v1_0 k0_t2 v3634 k0_hw7 k0_h4)).WholeWords (EltTy.packing .i8) := fun v1_0 k0_t2 v3634 k0_hw7 k0_h4 => k0_hw7.2.1 k0_h4 (k0_off298_inb v1_0 k0_t2 v3634 k0_hw7 k0_h4)
theorem k0_off301_inb : ∀ (v1_0 : BitVec 32) (k0_t2 : Fin (k0_t2_loop v1_0).trips) (v3634 : BitVec 32) (k0_hw7 : k0_chk7 v1_0 k0_t2 v3634), ∀ (k0_h4 : k0_cond4 v1_0 k0_t2 = 1#1), ∀ a, (k0_off301 v3634) a + S1x11x3072.size a ≤ S64x11x3072.size a := fun v1_0 k0_t2 v3634 k0_hw7 k0_h4 => k0_hw7.2.2 k0_h4

@[reducible] def k0_t3_loop (v1_0 : BitVec 32) : Scf.Loop 32 :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let v1257 : BitVec 32 := Scalar.addi c0_i32_438 v1256
  let c1_i32_442 : BitVec 32 := 1#32
  ⟨v1260, v1257, c1_i32_442⟩
def k0_off302 (v1_0 : BitVec 32) (k0_t3 : Fin (k0_t3_loop v1_0).trips) : Fin 1 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let v1267 : Index := Scalar.indexCast arg12
  ![v1267.toNat]
def k0_off303 (v1_0 : BitVec 32) (k0_t3 : Fin (k0_t3_loop v1_0).trips) : Fin 2 → Nat :=
  let c0_i32_448 : BitVec 32 := 0#32
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_447 : BitVec 32 := 3#32
  let v1269 : BitVec 32 := Scalar.remsi arg12 c3_i32_447
  ![0, v1269.toNat]
def k0_off304 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_447 : BitVec 32 := 3#32
  let v1269 : BitVec 32 := Scalar.remsi arg12 c3_i32_447
  let c0_i32_449 : BitVec 32 := 0#32
  let c0_i32_450 : BitVec 32 := 0#32
  ![v1269.toNat, 0, 0]
def k0_off305 (v1268 : BitVec 32) : Fin 3 → Nat :=
  let c0_i32_451 : BitVec 32 := 0#32
  let c0_i32_452 : BitVec 32 := 0#32
  ![v1268.toNat, 0, 0]

def k0_off306 (v1_0 : BitVec 32) (k0_t3 : Fin (k0_t3_loop v1_0).trips) : Fin 2 → Nat :=
  let c1_i32_453 : BitVec 32 := 1#32
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_447 : BitVec 32 := 3#32
  let v1269 : BitVec 32 := Scalar.remsi arg12 c3_i32_447
  ![1, v1269.toNat]
def k0_off307 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_447 : BitVec 32 := 3#32
  let v1269 : BitVec 32 := Scalar.remsi arg12 c3_i32_447
  let c0_i32_454 : BitVec 32 := 0#32
  let c0_i32_455 : BitVec 32 := 0#32
  ![v1269.toNat, 0, 0]
def k0_off308 (v1268 : BitVec 32) : Fin 3 → Nat :=
  let c0_i32_456 : BitVec 32 := 0#32
  let c0_i32_457 : BitVec 32 := 0#32
  ![v1268.toNat, 0, 0]

def k0_chk8 (v1268 : BitVec 32) : Prop :=
  (∀ a, (k0_off305 v1268) a + S1x704x3072.size a ≤ S64x704x3072.size a) ∧
  (∀ (hinb : ∀ a, (k0_off305 v1268) a + S1x704x3072.size a ≤ S64x704x3072.size a), (Rect.unit (s := S64x704x3072) (k0_off305 v1268) S1x704x3072.size hinb).WholeWords (EltTy.packing .i8)) ∧
  (∀ a, (k0_off308 v1268) a + S1x11x3072.size a ≤ S64x11x3072.size a)
theorem k0_off305_inb : ∀ (v1268 : BitVec 32) (k0_hw8 : k0_chk8 v1268), ∀ a, (k0_off305 v1268) a + S1x704x3072.size a ≤ S64x704x3072.size a := fun v1268 k0_hw8 => k0_hw8.1
theorem k0_off305_wordsi8 : ∀ (v1268 : BitVec 32) (k0_hw8 : k0_chk8 v1268), (Rect.unit (s := S64x704x3072) (k0_off305 v1268) S1x704x3072.size (k0_off305_inb v1268 k0_hw8)).WholeWords (EltTy.packing .i8) := fun v1268 k0_hw8 => k0_hw8.2.1 (k0_off305_inb v1268 k0_hw8)
theorem k0_off308_inb : ∀ (v1268 : BitVec 32) (k0_hw8 : k0_chk8 v1268), ∀ a, (k0_off308 v1268) a + S1x11x3072.size a ≤ S64x11x3072.size a := fun v1268 k0_hw8 => k0_hw8.2.2

def k0_off309 (v1_0 : BitVec 32) (k0_t3 : Fin (k0_t3_loop v1_0).trips) : Fin 1 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let v1282 : Index := Scalar.indexCast arg12
  ![v1282.toNat]
def k0_off310 (v1_0 : BitVec 32) (k0_t3 : Fin (k0_t3_loop v1_0).trips) : Fin 1 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c1_i32_458 : BitVec 32 := 1#32
  let v1284 : BitVec 32 := Scalar.addi arg12 c1_i32_458
  let v1285 : Index := Scalar.indexCast v1284
  ![v1285.toNat]
def k0_off311 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1300 : Index := Scalar.indexCast v1266
  let c0_461 : Index := 0#32
  let c0_462 : Index := 0#32
  ![v1300.toNat, 0, 0]
def k0_off312 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1311 : Index := Scalar.indexCast v1266
  let c0_464 : Index := 0#32
  let c0_465 : Index := 0#32
  ![v1311.toNat, 0, 0]
def k0_off313 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1317 : Index := Scalar.indexCast v1266
  let c64 : Index := 64#32
  let c0_466 : Index := 0#32
  ![v1317.toNat, 64, 0]
def k0_off314 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1328 : Index := Scalar.indexCast v1266
  let c1 : Index := 1#32
  let c0_468 : Index := 0#32
  ![v1328.toNat, 1, 0]
def k0_off315 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1334 : Index := Scalar.indexCast v1266
  let c128_469 : Index := 128#32
  let c0_470 : Index := 0#32
  ![v1334.toNat, 128, 0]
def k0_off316 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1345 : Index := Scalar.indexCast v1266
  let c2 : Index := 2#32
  let c0_472 : Index := 0#32
  ![v1345.toNat, 2, 0]
def k0_off317 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1351 : Index := Scalar.indexCast v1266
  let c192 : Index := 192#32
  let c0_473 : Index := 0#32
  ![v1351.toNat, 192, 0]
def k0_off318 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1362 : Index := Scalar.indexCast v1266
  let c3 : Index := 3#32
  let c0_475 : Index := 0#32
  ![v1362.toNat, 3, 0]
def k0_off319 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1368 : Index := Scalar.indexCast v1266
  let c256_476 : Index := 256#32
  let c0_477 : Index := 0#32
  ![v1368.toNat, 256, 0]
def k0_off320 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1379 : Index := Scalar.indexCast v1266
  let c4 : Index := 4#32
  let c0_479 : Index := 0#32
  ![v1379.toNat, 4, 0]
def k0_off321 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1385 : Index := Scalar.indexCast v1266
  let c320 : Index := 320#32
  let c0_480 : Index := 0#32
  ![v1385.toNat, 320, 0]
def k0_off322 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1396 : Index := Scalar.indexCast v1266
  let c5 : Index := 5#32
  let c0_482 : Index := 0#32
  ![v1396.toNat, 5, 0]
def k0_off323 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1402 : Index := Scalar.indexCast v1266
  let c384_483 : Index := 384#32
  let c0_484 : Index := 0#32
  ![v1402.toNat, 384, 0]
def k0_off324 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1413 : Index := Scalar.indexCast v1266
  let c6 : Index := 6#32
  let c0_486 : Index := 0#32
  ![v1413.toNat, 6, 0]
def k0_off325 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1419 : Index := Scalar.indexCast v1266
  let c448 : Index := 448#32
  let c0_487 : Index := 0#32
  ![v1419.toNat, 448, 0]
def k0_off326 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1430 : Index := Scalar.indexCast v1266
  let c7 : Index := 7#32
  let c0_489 : Index := 0#32
  ![v1430.toNat, 7, 0]
def k0_off327 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1436 : Index := Scalar.indexCast v1266
  let c512_490 : Index := 512#32
  let c0_491 : Index := 0#32
  ![v1436.toNat, 512, 0]
def k0_off328 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1447 : Index := Scalar.indexCast v1266
  let c8 : Index := 8#32
  let c0_493 : Index := 0#32
  ![v1447.toNat, 8, 0]
def k0_off329 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1453 : Index := Scalar.indexCast v1266
  let c576 : Index := 576#32
  let c0_494 : Index := 0#32
  ![v1453.toNat, 576, 0]
def k0_off330 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1464 : Index := Scalar.indexCast v1266
  let c9 : Index := 9#32
  let c0_496 : Index := 0#32
  ![v1464.toNat, 9, 0]
def k0_off331 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1470 : Index := Scalar.indexCast v1266
  let c640_497 : Index := 640#32
  let c0_498 : Index := 0#32
  ![v1470.toNat, 640, 0]
def k0_off332 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1481 : Index := Scalar.indexCast v1266
  let c10 : Index := 10#32
  let c0_500 : Index := 0#32
  ![v1481.toNat, 10, 0]
def k0_off333 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1494 : Index := Scalar.indexCast v1266
  let c0_506 : Index := 0#32
  let c256_507 : Index := 256#32
  ![v1494.toNat, 0, 256]
def k0_off334 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1505 : Index := Scalar.indexCast v1266
  let c0_509 : Index := 0#32
  let c256_510 : Index := 256#32
  ![v1505.toNat, 0, 256]
def k0_off335 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1511 : Index := Scalar.indexCast v1266
  let c64_511 : Index := 64#32
  let c256_512 : Index := 256#32
  ![v1511.toNat, 64, 256]
def k0_off336 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1522 : Index := Scalar.indexCast v1266
  let c1_514 : Index := 1#32
  let c256_515 : Index := 256#32
  ![v1522.toNat, 1, 256]
def k0_off337 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1528 : Index := Scalar.indexCast v1266
  let c128_516 : Index := 128#32
  let c256_517 : Index := 256#32
  ![v1528.toNat, 128, 256]
def k0_off338 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1539 : Index := Scalar.indexCast v1266
  let c2_519 : Index := 2#32
  let c256_520 : Index := 256#32
  ![v1539.toNat, 2, 256]
def k0_off339 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1545 : Index := Scalar.indexCast v1266
  let c192_521 : Index := 192#32
  let c256_522 : Index := 256#32
  ![v1545.toNat, 192, 256]
def k0_off340 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1556 : Index := Scalar.indexCast v1266
  let c3_524 : Index := 3#32
  let c256_525 : Index := 256#32
  ![v1556.toNat, 3, 256]
def k0_off341 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1562 : Index := Scalar.indexCast v1266
  let c256_526 : Index := 256#32
  let c256_527 : Index := 256#32
  ![v1562.toNat, 256, 256]
def k0_off342 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1573 : Index := Scalar.indexCast v1266
  let c4_529 : Index := 4#32
  let c256_530 : Index := 256#32
  ![v1573.toNat, 4, 256]
def k0_off343 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1579 : Index := Scalar.indexCast v1266
  let c320_531 : Index := 320#32
  let c256_532 : Index := 256#32
  ![v1579.toNat, 320, 256]
def k0_off344 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1590 : Index := Scalar.indexCast v1266
  let c5_534 : Index := 5#32
  let c256_535 : Index := 256#32
  ![v1590.toNat, 5, 256]
def k0_off345 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1596 : Index := Scalar.indexCast v1266
  let c384_536 : Index := 384#32
  let c256_537 : Index := 256#32
  ![v1596.toNat, 384, 256]
def k0_off346 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1607 : Index := Scalar.indexCast v1266
  let c6_539 : Index := 6#32
  let c256_540 : Index := 256#32
  ![v1607.toNat, 6, 256]
def k0_off347 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1613 : Index := Scalar.indexCast v1266
  let c448_541 : Index := 448#32
  let c256_542 : Index := 256#32
  ![v1613.toNat, 448, 256]
def k0_off348 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1624 : Index := Scalar.indexCast v1266
  let c7_544 : Index := 7#32
  let c256_545 : Index := 256#32
  ![v1624.toNat, 7, 256]
def k0_off349 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1630 : Index := Scalar.indexCast v1266
  let c512_546 : Index := 512#32
  let c256_547 : Index := 256#32
  ![v1630.toNat, 512, 256]
def k0_off350 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1641 : Index := Scalar.indexCast v1266
  let c8_549 : Index := 8#32
  let c256_550 : Index := 256#32
  ![v1641.toNat, 8, 256]
def k0_off351 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1647 : Index := Scalar.indexCast v1266
  let c576_551 : Index := 576#32
  let c256_552 : Index := 256#32
  ![v1647.toNat, 576, 256]
def k0_off352 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1658 : Index := Scalar.indexCast v1266
  let c9_554 : Index := 9#32
  let c256_555 : Index := 256#32
  ![v1658.toNat, 9, 256]
def k0_off353 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1664 : Index := Scalar.indexCast v1266
  let c640_556 : Index := 640#32
  let c256_557 : Index := 256#32
  ![v1664.toNat, 640, 256]
def k0_off354 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1675 : Index := Scalar.indexCast v1266
  let c10_559 : Index := 10#32
  let c256_560 : Index := 256#32
  ![v1675.toNat, 10, 256]
def k0_off355 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1688 : Index := Scalar.indexCast v1266
  let c0_566 : Index := 0#32
  let c512_567 : Index := 512#32
  ![v1688.toNat, 0, 512]
def k0_off356 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1699 : Index := Scalar.indexCast v1266
  let c0_569 : Index := 0#32
  let c512_570 : Index := 512#32
  ![v1699.toNat, 0, 512]
def k0_off357 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1705 : Index := Scalar.indexCast v1266
  let c64_571 : Index := 64#32
  let c512_572 : Index := 512#32
  ![v1705.toNat, 64, 512]
def k0_off358 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1716 : Index := Scalar.indexCast v1266
  let c1_574 : Index := 1#32
  let c512_575 : Index := 512#32
  ![v1716.toNat, 1, 512]
def k0_off359 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1722 : Index := Scalar.indexCast v1266
  let c128_576 : Index := 128#32
  let c512_577 : Index := 512#32
  ![v1722.toNat, 128, 512]
def k0_off360 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1733 : Index := Scalar.indexCast v1266
  let c2_579 : Index := 2#32
  let c512_580 : Index := 512#32
  ![v1733.toNat, 2, 512]
def k0_off361 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1739 : Index := Scalar.indexCast v1266
  let c192_581 : Index := 192#32
  let c512_582 : Index := 512#32
  ![v1739.toNat, 192, 512]
def k0_off362 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1750 : Index := Scalar.indexCast v1266
  let c3_584 : Index := 3#32
  let c512_585 : Index := 512#32
  ![v1750.toNat, 3, 512]
def k0_off363 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1756 : Index := Scalar.indexCast v1266
  let c256_586 : Index := 256#32
  let c512_587 : Index := 512#32
  ![v1756.toNat, 256, 512]
def k0_off364 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1767 : Index := Scalar.indexCast v1266
  let c4_589 : Index := 4#32
  let c512_590 : Index := 512#32
  ![v1767.toNat, 4, 512]
def k0_off365 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1773 : Index := Scalar.indexCast v1266
  let c320_591 : Index := 320#32
  let c512_592 : Index := 512#32
  ![v1773.toNat, 320, 512]
def k0_off366 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1784 : Index := Scalar.indexCast v1266
  let c5_594 : Index := 5#32
  let c512_595 : Index := 512#32
  ![v1784.toNat, 5, 512]
def k0_off367 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1790 : Index := Scalar.indexCast v1266
  let c384_596 : Index := 384#32
  let c512_597 : Index := 512#32
  ![v1790.toNat, 384, 512]
def k0_off368 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1801 : Index := Scalar.indexCast v1266
  let c6_599 : Index := 6#32
  let c512_600 : Index := 512#32
  ![v1801.toNat, 6, 512]
def k0_off369 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1807 : Index := Scalar.indexCast v1266
  let c448_601 : Index := 448#32
  let c512_602 : Index := 512#32
  ![v1807.toNat, 448, 512]
def k0_off370 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1818 : Index := Scalar.indexCast v1266
  let c7_604 : Index := 7#32
  let c512_605 : Index := 512#32
  ![v1818.toNat, 7, 512]
def k0_off371 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1824 : Index := Scalar.indexCast v1266
  let c512_606 : Index := 512#32
  let c512_607 : Index := 512#32
  ![v1824.toNat, 512, 512]
def k0_off372 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1835 : Index := Scalar.indexCast v1266
  let c8_609 : Index := 8#32
  let c512_610 : Index := 512#32
  ![v1835.toNat, 8, 512]
def k0_off373 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1841 : Index := Scalar.indexCast v1266
  let c576_611 : Index := 576#32
  let c512_612 : Index := 512#32
  ![v1841.toNat, 576, 512]
def k0_off374 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1852 : Index := Scalar.indexCast v1266
  let c9_614 : Index := 9#32
  let c512_615 : Index := 512#32
  ![v1852.toNat, 9, 512]
def k0_off375 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1858 : Index := Scalar.indexCast v1266
  let c640_616 : Index := 640#32
  let c512_617 : Index := 512#32
  ![v1858.toNat, 640, 512]
def k0_off376 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1869 : Index := Scalar.indexCast v1266
  let c10_619 : Index := 10#32
  let c512_620 : Index := 512#32
  ![v1869.toNat, 10, 512]
def k0_off377 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1882 : Index := Scalar.indexCast v1266
  let c0_626 : Index := 0#32
  let c768_627 : Index := 768#32
  ![v1882.toNat, 0, 768]
def k0_off378 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1893 : Index := Scalar.indexCast v1266
  let c0_629 : Index := 0#32
  let c768_630 : Index := 768#32
  ![v1893.toNat, 0, 768]
def k0_off379 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1899 : Index := Scalar.indexCast v1266
  let c64_631 : Index := 64#32
  let c768_632 : Index := 768#32
  ![v1899.toNat, 64, 768]
def k0_off380 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1910 : Index := Scalar.indexCast v1266
  let c1_634 : Index := 1#32
  let c768_635 : Index := 768#32
  ![v1910.toNat, 1, 768]
def k0_off381 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1916 : Index := Scalar.indexCast v1266
  let c128_636 : Index := 128#32
  let c768_637 : Index := 768#32
  ![v1916.toNat, 128, 768]
def k0_off382 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1927 : Index := Scalar.indexCast v1266
  let c2_639 : Index := 2#32
  let c768_640 : Index := 768#32
  ![v1927.toNat, 2, 768]
def k0_off383 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1933 : Index := Scalar.indexCast v1266
  let c192_641 : Index := 192#32
  let c768_642 : Index := 768#32
  ![v1933.toNat, 192, 768]
def k0_off384 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1944 : Index := Scalar.indexCast v1266
  let c3_644 : Index := 3#32
  let c768_645 : Index := 768#32
  ![v1944.toNat, 3, 768]
def k0_off385 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1950 : Index := Scalar.indexCast v1266
  let c256_646 : Index := 256#32
  let c768_647 : Index := 768#32
  ![v1950.toNat, 256, 768]
def k0_off386 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1961 : Index := Scalar.indexCast v1266
  let c4_649 : Index := 4#32
  let c768_650 : Index := 768#32
  ![v1961.toNat, 4, 768]
def k0_off387 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1967 : Index := Scalar.indexCast v1266
  let c320_651 : Index := 320#32
  let c768_652 : Index := 768#32
  ![v1967.toNat, 320, 768]
def k0_off388 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1978 : Index := Scalar.indexCast v1266
  let c5_654 : Index := 5#32
  let c768_655 : Index := 768#32
  ![v1978.toNat, 5, 768]
def k0_off389 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1984 : Index := Scalar.indexCast v1266
  let c384_656 : Index := 384#32
  let c768_657 : Index := 768#32
  ![v1984.toNat, 384, 768]
def k0_off390 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v1995 : Index := Scalar.indexCast v1266
  let c6_659 : Index := 6#32
  let c768_660 : Index := 768#32
  ![v1995.toNat, 6, 768]
def k0_off391 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2001 : Index := Scalar.indexCast v1266
  let c448_661 : Index := 448#32
  let c768_662 : Index := 768#32
  ![v2001.toNat, 448, 768]
def k0_off392 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2012 : Index := Scalar.indexCast v1266
  let c7_664 : Index := 7#32
  let c768_665 : Index := 768#32
  ![v2012.toNat, 7, 768]
def k0_off393 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2018 : Index := Scalar.indexCast v1266
  let c512_666 : Index := 512#32
  let c768_667 : Index := 768#32
  ![v2018.toNat, 512, 768]
def k0_off394 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2029 : Index := Scalar.indexCast v1266
  let c8_669 : Index := 8#32
  let c768_670 : Index := 768#32
  ![v2029.toNat, 8, 768]
def k0_off395 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2035 : Index := Scalar.indexCast v1266
  let c576_671 : Index := 576#32
  let c768_672 : Index := 768#32
  ![v2035.toNat, 576, 768]
def k0_off396 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2046 : Index := Scalar.indexCast v1266
  let c9_674 : Index := 9#32
  let c768_675 : Index := 768#32
  ![v2046.toNat, 9, 768]
def k0_off397 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2052 : Index := Scalar.indexCast v1266
  let c640_676 : Index := 640#32
  let c768_677 : Index := 768#32
  ![v2052.toNat, 640, 768]
def k0_off398 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2063 : Index := Scalar.indexCast v1266
  let c10_679 : Index := 10#32
  let c768_680 : Index := 768#32
  ![v2063.toNat, 10, 768]
def k0_off399 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2076 : Index := Scalar.indexCast v1266
  let c0_686 : Index := 0#32
  let c1024_687 : Index := 1024#32
  ![v2076.toNat, 0, 1024]
def k0_off400 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2087 : Index := Scalar.indexCast v1266
  let c0_689 : Index := 0#32
  let c1024_690 : Index := 1024#32
  ![v2087.toNat, 0, 1024]
def k0_off401 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2093 : Index := Scalar.indexCast v1266
  let c64_691 : Index := 64#32
  let c1024_692 : Index := 1024#32
  ![v2093.toNat, 64, 1024]
def k0_off402 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2104 : Index := Scalar.indexCast v1266
  let c1_694 : Index := 1#32
  let c1024_695 : Index := 1024#32
  ![v2104.toNat, 1, 1024]
def k0_off403 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2110 : Index := Scalar.indexCast v1266
  let c128_696 : Index := 128#32
  let c1024_697 : Index := 1024#32
  ![v2110.toNat, 128, 1024]
def k0_off404 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2121 : Index := Scalar.indexCast v1266
  let c2_699 : Index := 2#32
  let c1024_700 : Index := 1024#32
  ![v2121.toNat, 2, 1024]
def k0_off405 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2127 : Index := Scalar.indexCast v1266
  let c192_701 : Index := 192#32
  let c1024_702 : Index := 1024#32
  ![v2127.toNat, 192, 1024]
def k0_off406 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2138 : Index := Scalar.indexCast v1266
  let c3_704 : Index := 3#32
  let c1024_705 : Index := 1024#32
  ![v2138.toNat, 3, 1024]
def k0_off407 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2144 : Index := Scalar.indexCast v1266
  let c256_706 : Index := 256#32
  let c1024_707 : Index := 1024#32
  ![v2144.toNat, 256, 1024]
def k0_off408 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2155 : Index := Scalar.indexCast v1266
  let c4_709 : Index := 4#32
  let c1024_710 : Index := 1024#32
  ![v2155.toNat, 4, 1024]
def k0_off409 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2161 : Index := Scalar.indexCast v1266
  let c320_711 : Index := 320#32
  let c1024_712 : Index := 1024#32
  ![v2161.toNat, 320, 1024]
def k0_off410 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2172 : Index := Scalar.indexCast v1266
  let c5_714 : Index := 5#32
  let c1024_715 : Index := 1024#32
  ![v2172.toNat, 5, 1024]
def k0_off411 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2178 : Index := Scalar.indexCast v1266
  let c384_716 : Index := 384#32
  let c1024_717 : Index := 1024#32
  ![v2178.toNat, 384, 1024]
def k0_off412 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2189 : Index := Scalar.indexCast v1266
  let c6_719 : Index := 6#32
  let c1024_720 : Index := 1024#32
  ![v2189.toNat, 6, 1024]
def k0_off413 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2195 : Index := Scalar.indexCast v1266
  let c448_721 : Index := 448#32
  let c1024_722 : Index := 1024#32
  ![v2195.toNat, 448, 1024]
def k0_off414 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2206 : Index := Scalar.indexCast v1266
  let c7_724 : Index := 7#32
  let c1024_725 : Index := 1024#32
  ![v2206.toNat, 7, 1024]
def k0_off415 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2212 : Index := Scalar.indexCast v1266
  let c512_726 : Index := 512#32
  let c1024_727 : Index := 1024#32
  ![v2212.toNat, 512, 1024]
def k0_off416 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2223 : Index := Scalar.indexCast v1266
  let c8_729 : Index := 8#32
  let c1024_730 : Index := 1024#32
  ![v2223.toNat, 8, 1024]
def k0_off417 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2229 : Index := Scalar.indexCast v1266
  let c576_731 : Index := 576#32
  let c1024_732 : Index := 1024#32
  ![v2229.toNat, 576, 1024]
def k0_off418 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2240 : Index := Scalar.indexCast v1266
  let c9_734 : Index := 9#32
  let c1024_735 : Index := 1024#32
  ![v2240.toNat, 9, 1024]
def k0_off419 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2246 : Index := Scalar.indexCast v1266
  let c640_736 : Index := 640#32
  let c1024_737 : Index := 1024#32
  ![v2246.toNat, 640, 1024]
def k0_off420 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2257 : Index := Scalar.indexCast v1266
  let c10_739 : Index := 10#32
  let c1024_740 : Index := 1024#32
  ![v2257.toNat, 10, 1024]
def k0_off421 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2270 : Index := Scalar.indexCast v1266
  let c0_746 : Index := 0#32
  let c1280_747 : Index := 1280#32
  ![v2270.toNat, 0, 1280]
def k0_off422 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2281 : Index := Scalar.indexCast v1266
  let c0_749 : Index := 0#32
  let c1280_750 : Index := 1280#32
  ![v2281.toNat, 0, 1280]
def k0_off423 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2287 : Index := Scalar.indexCast v1266
  let c64_751 : Index := 64#32
  let c1280_752 : Index := 1280#32
  ![v2287.toNat, 64, 1280]
def k0_off424 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2298 : Index := Scalar.indexCast v1266
  let c1_754 : Index := 1#32
  let c1280_755 : Index := 1280#32
  ![v2298.toNat, 1, 1280]
def k0_off425 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2304 : Index := Scalar.indexCast v1266
  let c128_756 : Index := 128#32
  let c1280_757 : Index := 1280#32
  ![v2304.toNat, 128, 1280]
def k0_off426 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2315 : Index := Scalar.indexCast v1266
  let c2_759 : Index := 2#32
  let c1280_760 : Index := 1280#32
  ![v2315.toNat, 2, 1280]
def k0_off427 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2321 : Index := Scalar.indexCast v1266
  let c192_761 : Index := 192#32
  let c1280_762 : Index := 1280#32
  ![v2321.toNat, 192, 1280]
def k0_off428 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2332 : Index := Scalar.indexCast v1266
  let c3_764 : Index := 3#32
  let c1280_765 : Index := 1280#32
  ![v2332.toNat, 3, 1280]
def k0_off429 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2338 : Index := Scalar.indexCast v1266
  let c256_766 : Index := 256#32
  let c1280_767 : Index := 1280#32
  ![v2338.toNat, 256, 1280]
def k0_off430 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2349 : Index := Scalar.indexCast v1266
  let c4_769 : Index := 4#32
  let c1280_770 : Index := 1280#32
  ![v2349.toNat, 4, 1280]
def k0_off431 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2355 : Index := Scalar.indexCast v1266
  let c320_771 : Index := 320#32
  let c1280_772 : Index := 1280#32
  ![v2355.toNat, 320, 1280]
def k0_off432 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2366 : Index := Scalar.indexCast v1266
  let c5_774 : Index := 5#32
  let c1280_775 : Index := 1280#32
  ![v2366.toNat, 5, 1280]
def k0_off433 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2372 : Index := Scalar.indexCast v1266
  let c384_776 : Index := 384#32
  let c1280_777 : Index := 1280#32
  ![v2372.toNat, 384, 1280]
def k0_off434 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2383 : Index := Scalar.indexCast v1266
  let c6_779 : Index := 6#32
  let c1280_780 : Index := 1280#32
  ![v2383.toNat, 6, 1280]
def k0_off435 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2389 : Index := Scalar.indexCast v1266
  let c448_781 : Index := 448#32
  let c1280_782 : Index := 1280#32
  ![v2389.toNat, 448, 1280]
def k0_off436 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2400 : Index := Scalar.indexCast v1266
  let c7_784 : Index := 7#32
  let c1280_785 : Index := 1280#32
  ![v2400.toNat, 7, 1280]
def k0_off437 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2406 : Index := Scalar.indexCast v1266
  let c512_786 : Index := 512#32
  let c1280_787 : Index := 1280#32
  ![v2406.toNat, 512, 1280]
def k0_off438 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2417 : Index := Scalar.indexCast v1266
  let c8_789 : Index := 8#32
  let c1280_790 : Index := 1280#32
  ![v2417.toNat, 8, 1280]
def k0_off439 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2423 : Index := Scalar.indexCast v1266
  let c576_791 : Index := 576#32
  let c1280_792 : Index := 1280#32
  ![v2423.toNat, 576, 1280]
def k0_off440 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2434 : Index := Scalar.indexCast v1266
  let c9_794 : Index := 9#32
  let c1280_795 : Index := 1280#32
  ![v2434.toNat, 9, 1280]
def k0_off441 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2440 : Index := Scalar.indexCast v1266
  let c640_796 : Index := 640#32
  let c1280_797 : Index := 1280#32
  ![v2440.toNat, 640, 1280]
def k0_off442 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2451 : Index := Scalar.indexCast v1266
  let c10_799 : Index := 10#32
  let c1280_800 : Index := 1280#32
  ![v2451.toNat, 10, 1280]
def k0_off443 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2464 : Index := Scalar.indexCast v1266
  let c0_806 : Index := 0#32
  let c1536 : Index := 1536#32
  ![v2464.toNat, 0, 1536]
def k0_off444 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2475 : Index := Scalar.indexCast v1266
  let c0_808 : Index := 0#32
  let c1536_809 : Index := 1536#32
  ![v2475.toNat, 0, 1536]
def k0_off445 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2481 : Index := Scalar.indexCast v1266
  let c64_810 : Index := 64#32
  let c1536_811 : Index := 1536#32
  ![v2481.toNat, 64, 1536]
def k0_off446 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2492 : Index := Scalar.indexCast v1266
  let c1_813 : Index := 1#32
  let c1536_814 : Index := 1536#32
  ![v2492.toNat, 1, 1536]
def k0_off447 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2498 : Index := Scalar.indexCast v1266
  let c128_815 : Index := 128#32
  let c1536_816 : Index := 1536#32
  ![v2498.toNat, 128, 1536]
def k0_off448 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2509 : Index := Scalar.indexCast v1266
  let c2_818 : Index := 2#32
  let c1536_819 : Index := 1536#32
  ![v2509.toNat, 2, 1536]
def k0_off449 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2515 : Index := Scalar.indexCast v1266
  let c192_820 : Index := 192#32
  let c1536_821 : Index := 1536#32
  ![v2515.toNat, 192, 1536]
def k0_off450 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2526 : Index := Scalar.indexCast v1266
  let c3_823 : Index := 3#32
  let c1536_824 : Index := 1536#32
  ![v2526.toNat, 3, 1536]
def k0_off451 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2532 : Index := Scalar.indexCast v1266
  let c256_825 : Index := 256#32
  let c1536_826 : Index := 1536#32
  ![v2532.toNat, 256, 1536]
def k0_off452 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2543 : Index := Scalar.indexCast v1266
  let c4_828 : Index := 4#32
  let c1536_829 : Index := 1536#32
  ![v2543.toNat, 4, 1536]
def k0_off453 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2549 : Index := Scalar.indexCast v1266
  let c320_830 : Index := 320#32
  let c1536_831 : Index := 1536#32
  ![v2549.toNat, 320, 1536]
def k0_off454 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2560 : Index := Scalar.indexCast v1266
  let c5_833 : Index := 5#32
  let c1536_834 : Index := 1536#32
  ![v2560.toNat, 5, 1536]
def k0_off455 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2566 : Index := Scalar.indexCast v1266
  let c384_835 : Index := 384#32
  let c1536_836 : Index := 1536#32
  ![v2566.toNat, 384, 1536]
def k0_off456 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2577 : Index := Scalar.indexCast v1266
  let c6_838 : Index := 6#32
  let c1536_839 : Index := 1536#32
  ![v2577.toNat, 6, 1536]
def k0_off457 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2583 : Index := Scalar.indexCast v1266
  let c448_840 : Index := 448#32
  let c1536_841 : Index := 1536#32
  ![v2583.toNat, 448, 1536]
def k0_off458 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2594 : Index := Scalar.indexCast v1266
  let c7_843 : Index := 7#32
  let c1536_844 : Index := 1536#32
  ![v2594.toNat, 7, 1536]
def k0_off459 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2600 : Index := Scalar.indexCast v1266
  let c512_845 : Index := 512#32
  let c1536_846 : Index := 1536#32
  ![v2600.toNat, 512, 1536]
def k0_off460 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2611 : Index := Scalar.indexCast v1266
  let c8_848 : Index := 8#32
  let c1536_849 : Index := 1536#32
  ![v2611.toNat, 8, 1536]
def k0_off461 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2617 : Index := Scalar.indexCast v1266
  let c576_850 : Index := 576#32
  let c1536_851 : Index := 1536#32
  ![v2617.toNat, 576, 1536]
def k0_off462 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2628 : Index := Scalar.indexCast v1266
  let c9_853 : Index := 9#32
  let c1536_854 : Index := 1536#32
  ![v2628.toNat, 9, 1536]
def k0_off463 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2634 : Index := Scalar.indexCast v1266
  let c640_855 : Index := 640#32
  let c1536_856 : Index := 1536#32
  ![v2634.toNat, 640, 1536]
def k0_off464 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2645 : Index := Scalar.indexCast v1266
  let c10_858 : Index := 10#32
  let c1536_859 : Index := 1536#32
  ![v2645.toNat, 10, 1536]
def k0_off465 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2658 : Index := Scalar.indexCast v1266
  let c0_865 : Index := 0#32
  let c1792 : Index := 1792#32
  ![v2658.toNat, 0, 1792]
def k0_off466 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2669 : Index := Scalar.indexCast v1266
  let c0_867 : Index := 0#32
  let c1792_868 : Index := 1792#32
  ![v2669.toNat, 0, 1792]
def k0_off467 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2675 : Index := Scalar.indexCast v1266
  let c64_869 : Index := 64#32
  let c1792_870 : Index := 1792#32
  ![v2675.toNat, 64, 1792]
def k0_off468 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2686 : Index := Scalar.indexCast v1266
  let c1_872 : Index := 1#32
  let c1792_873 : Index := 1792#32
  ![v2686.toNat, 1, 1792]
def k0_off469 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2692 : Index := Scalar.indexCast v1266
  let c128_874 : Index := 128#32
  let c1792_875 : Index := 1792#32
  ![v2692.toNat, 128, 1792]
def k0_off470 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2703 : Index := Scalar.indexCast v1266
  let c2_877 : Index := 2#32
  let c1792_878 : Index := 1792#32
  ![v2703.toNat, 2, 1792]
def k0_off471 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2709 : Index := Scalar.indexCast v1266
  let c192_879 : Index := 192#32
  let c1792_880 : Index := 1792#32
  ![v2709.toNat, 192, 1792]
def k0_off472 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2720 : Index := Scalar.indexCast v1266
  let c3_882 : Index := 3#32
  let c1792_883 : Index := 1792#32
  ![v2720.toNat, 3, 1792]
def k0_off473 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2726 : Index := Scalar.indexCast v1266
  let c256_884 : Index := 256#32
  let c1792_885 : Index := 1792#32
  ![v2726.toNat, 256, 1792]
def k0_off474 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2737 : Index := Scalar.indexCast v1266
  let c4_887 : Index := 4#32
  let c1792_888 : Index := 1792#32
  ![v2737.toNat, 4, 1792]
def k0_off475 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2743 : Index := Scalar.indexCast v1266
  let c320_889 : Index := 320#32
  let c1792_890 : Index := 1792#32
  ![v2743.toNat, 320, 1792]
def k0_off476 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2754 : Index := Scalar.indexCast v1266
  let c5_892 : Index := 5#32
  let c1792_893 : Index := 1792#32
  ![v2754.toNat, 5, 1792]
def k0_off477 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2760 : Index := Scalar.indexCast v1266
  let c384_894 : Index := 384#32
  let c1792_895 : Index := 1792#32
  ![v2760.toNat, 384, 1792]
def k0_off478 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2771 : Index := Scalar.indexCast v1266
  let c6_897 : Index := 6#32
  let c1792_898 : Index := 1792#32
  ![v2771.toNat, 6, 1792]
def k0_off479 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2777 : Index := Scalar.indexCast v1266
  let c448_899 : Index := 448#32
  let c1792_900 : Index := 1792#32
  ![v2777.toNat, 448, 1792]
def k0_off480 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2788 : Index := Scalar.indexCast v1266
  let c7_902 : Index := 7#32
  let c1792_903 : Index := 1792#32
  ![v2788.toNat, 7, 1792]
def k0_off481 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2794 : Index := Scalar.indexCast v1266
  let c512_904 : Index := 512#32
  let c1792_905 : Index := 1792#32
  ![v2794.toNat, 512, 1792]
def k0_off482 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2805 : Index := Scalar.indexCast v1266
  let c8_907 : Index := 8#32
  let c1792_908 : Index := 1792#32
  ![v2805.toNat, 8, 1792]
def k0_off483 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2811 : Index := Scalar.indexCast v1266
  let c576_909 : Index := 576#32
  let c1792_910 : Index := 1792#32
  ![v2811.toNat, 576, 1792]
def k0_off484 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2822 : Index := Scalar.indexCast v1266
  let c9_912 : Index := 9#32
  let c1792_913 : Index := 1792#32
  ![v2822.toNat, 9, 1792]
def k0_off485 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2828 : Index := Scalar.indexCast v1266
  let c640_914 : Index := 640#32
  let c1792_915 : Index := 1792#32
  ![v2828.toNat, 640, 1792]
def k0_off486 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2839 : Index := Scalar.indexCast v1266
  let c10_917 : Index := 10#32
  let c1792_918 : Index := 1792#32
  ![v2839.toNat, 10, 1792]
def k0_off487 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2852 : Index := Scalar.indexCast v1266
  let c0_924 : Index := 0#32
  let c2048 : Index := 2048#32
  ![v2852.toNat, 0, 2048]
def k0_off488 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2863 : Index := Scalar.indexCast v1266
  let c0_926 : Index := 0#32
  let c2048_927 : Index := 2048#32
  ![v2863.toNat, 0, 2048]
def k0_off489 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2869 : Index := Scalar.indexCast v1266
  let c64_928 : Index := 64#32
  let c2048_929 : Index := 2048#32
  ![v2869.toNat, 64, 2048]
def k0_off490 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2880 : Index := Scalar.indexCast v1266
  let c1_931 : Index := 1#32
  let c2048_932 : Index := 2048#32
  ![v2880.toNat, 1, 2048]
def k0_off491 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2886 : Index := Scalar.indexCast v1266
  let c128_933 : Index := 128#32
  let c2048_934 : Index := 2048#32
  ![v2886.toNat, 128, 2048]
def k0_off492 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2897 : Index := Scalar.indexCast v1266
  let c2_936 : Index := 2#32
  let c2048_937 : Index := 2048#32
  ![v2897.toNat, 2, 2048]
def k0_off493 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2903 : Index := Scalar.indexCast v1266
  let c192_938 : Index := 192#32
  let c2048_939 : Index := 2048#32
  ![v2903.toNat, 192, 2048]
def k0_off494 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2914 : Index := Scalar.indexCast v1266
  let c3_941 : Index := 3#32
  let c2048_942 : Index := 2048#32
  ![v2914.toNat, 3, 2048]
def k0_off495 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2920 : Index := Scalar.indexCast v1266
  let c256_943 : Index := 256#32
  let c2048_944 : Index := 2048#32
  ![v2920.toNat, 256, 2048]
def k0_off496 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2931 : Index := Scalar.indexCast v1266
  let c4_946 : Index := 4#32
  let c2048_947 : Index := 2048#32
  ![v2931.toNat, 4, 2048]
def k0_off497 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2937 : Index := Scalar.indexCast v1266
  let c320_948 : Index := 320#32
  let c2048_949 : Index := 2048#32
  ![v2937.toNat, 320, 2048]
def k0_off498 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2948 : Index := Scalar.indexCast v1266
  let c5_951 : Index := 5#32
  let c2048_952 : Index := 2048#32
  ![v2948.toNat, 5, 2048]
def k0_off499 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2954 : Index := Scalar.indexCast v1266
  let c384_953 : Index := 384#32
  let c2048_954 : Index := 2048#32
  ![v2954.toNat, 384, 2048]
def k0_off500 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2965 : Index := Scalar.indexCast v1266
  let c6_956 : Index := 6#32
  let c2048_957 : Index := 2048#32
  ![v2965.toNat, 6, 2048]
def k0_off501 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2971 : Index := Scalar.indexCast v1266
  let c448_958 : Index := 448#32
  let c2048_959 : Index := 2048#32
  ![v2971.toNat, 448, 2048]
def k0_off502 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2982 : Index := Scalar.indexCast v1266
  let c7_961 : Index := 7#32
  let c2048_962 : Index := 2048#32
  ![v2982.toNat, 7, 2048]
def k0_off503 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2988 : Index := Scalar.indexCast v1266
  let c512_963 : Index := 512#32
  let c2048_964 : Index := 2048#32
  ![v2988.toNat, 512, 2048]
def k0_off504 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v2999 : Index := Scalar.indexCast v1266
  let c8_966 : Index := 8#32
  let c2048_967 : Index := 2048#32
  ![v2999.toNat, 8, 2048]
def k0_off505 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3005 : Index := Scalar.indexCast v1266
  let c576_968 : Index := 576#32
  let c2048_969 : Index := 2048#32
  ![v3005.toNat, 576, 2048]
def k0_off506 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3016 : Index := Scalar.indexCast v1266
  let c9_971 : Index := 9#32
  let c2048_972 : Index := 2048#32
  ![v3016.toNat, 9, 2048]
def k0_off507 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3022 : Index := Scalar.indexCast v1266
  let c640_973 : Index := 640#32
  let c2048_974 : Index := 2048#32
  ![v3022.toNat, 640, 2048]
def k0_off508 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3033 : Index := Scalar.indexCast v1266
  let c10_976 : Index := 10#32
  let c2048_977 : Index := 2048#32
  ![v3033.toNat, 10, 2048]
def k0_off509 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3046 : Index := Scalar.indexCast v1266
  let c0_983 : Index := 0#32
  let c2304 : Index := 2304#32
  ![v3046.toNat, 0, 2304]
def k0_off510 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3057 : Index := Scalar.indexCast v1266
  let c0_985 : Index := 0#32
  let c2304_986 : Index := 2304#32
  ![v3057.toNat, 0, 2304]
def k0_off511 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3063 : Index := Scalar.indexCast v1266
  let c64_987 : Index := 64#32
  let c2304_988 : Index := 2304#32
  ![v3063.toNat, 64, 2304]
def k0_off512 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3074 : Index := Scalar.indexCast v1266
  let c1_990 : Index := 1#32
  let c2304_991 : Index := 2304#32
  ![v3074.toNat, 1, 2304]
def k0_off513 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3080 : Index := Scalar.indexCast v1266
  let c128_992 : Index := 128#32
  let c2304_993 : Index := 2304#32
  ![v3080.toNat, 128, 2304]
def k0_off514 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3091 : Index := Scalar.indexCast v1266
  let c2_995 : Index := 2#32
  let c2304_996 : Index := 2304#32
  ![v3091.toNat, 2, 2304]
def k0_off515 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3097 : Index := Scalar.indexCast v1266
  let c192_997 : Index := 192#32
  let c2304_998 : Index := 2304#32
  ![v3097.toNat, 192, 2304]
def k0_off516 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3108 : Index := Scalar.indexCast v1266
  let c3_1000 : Index := 3#32
  let c2304_1001 : Index := 2304#32
  ![v3108.toNat, 3, 2304]
def k0_off517 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3114 : Index := Scalar.indexCast v1266
  let c256_1002 : Index := 256#32
  let c2304_1003 : Index := 2304#32
  ![v3114.toNat, 256, 2304]
def k0_off518 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3125 : Index := Scalar.indexCast v1266
  let c4_1005 : Index := 4#32
  let c2304_1006 : Index := 2304#32
  ![v3125.toNat, 4, 2304]
def k0_off519 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3131 : Index := Scalar.indexCast v1266
  let c320_1007 : Index := 320#32
  let c2304_1008 : Index := 2304#32
  ![v3131.toNat, 320, 2304]
def k0_off520 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3142 : Index := Scalar.indexCast v1266
  let c5_1010 : Index := 5#32
  let c2304_1011 : Index := 2304#32
  ![v3142.toNat, 5, 2304]
def k0_off521 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3148 : Index := Scalar.indexCast v1266
  let c384_1012 : Index := 384#32
  let c2304_1013 : Index := 2304#32
  ![v3148.toNat, 384, 2304]
def k0_off522 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3159 : Index := Scalar.indexCast v1266
  let c6_1015 : Index := 6#32
  let c2304_1016 : Index := 2304#32
  ![v3159.toNat, 6, 2304]
def k0_off523 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3165 : Index := Scalar.indexCast v1266
  let c448_1017 : Index := 448#32
  let c2304_1018 : Index := 2304#32
  ![v3165.toNat, 448, 2304]
def k0_off524 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3176 : Index := Scalar.indexCast v1266
  let c7_1020 : Index := 7#32
  let c2304_1021 : Index := 2304#32
  ![v3176.toNat, 7, 2304]
def k0_off525 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3182 : Index := Scalar.indexCast v1266
  let c512_1022 : Index := 512#32
  let c2304_1023 : Index := 2304#32
  ![v3182.toNat, 512, 2304]
def k0_off526 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3193 : Index := Scalar.indexCast v1266
  let c8_1025 : Index := 8#32
  let c2304_1026 : Index := 2304#32
  ![v3193.toNat, 8, 2304]
def k0_off527 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3199 : Index := Scalar.indexCast v1266
  let c576_1027 : Index := 576#32
  let c2304_1028 : Index := 2304#32
  ![v3199.toNat, 576, 2304]
def k0_off528 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3210 : Index := Scalar.indexCast v1266
  let c9_1030 : Index := 9#32
  let c2304_1031 : Index := 2304#32
  ![v3210.toNat, 9, 2304]
def k0_off529 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3216 : Index := Scalar.indexCast v1266
  let c640_1032 : Index := 640#32
  let c2304_1033 : Index := 2304#32
  ![v3216.toNat, 640, 2304]
def k0_off530 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3227 : Index := Scalar.indexCast v1266
  let c10_1035 : Index := 10#32
  let c2304_1036 : Index := 2304#32
  ![v3227.toNat, 10, 2304]
def k0_off531 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3240 : Index := Scalar.indexCast v1266
  let c0_1042 : Index := 0#32
  let c2560 : Index := 2560#32
  ![v3240.toNat, 0, 2560]
def k0_off532 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3251 : Index := Scalar.indexCast v1266
  let c0_1044 : Index := 0#32
  let c2560_1045 : Index := 2560#32
  ![v3251.toNat, 0, 2560]
def k0_off533 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3257 : Index := Scalar.indexCast v1266
  let c64_1046 : Index := 64#32
  let c2560_1047 : Index := 2560#32
  ![v3257.toNat, 64, 2560]
def k0_off534 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3268 : Index := Scalar.indexCast v1266
  let c1_1049 : Index := 1#32
  let c2560_1050 : Index := 2560#32
  ![v3268.toNat, 1, 2560]
def k0_off535 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3274 : Index := Scalar.indexCast v1266
  let c128_1051 : Index := 128#32
  let c2560_1052 : Index := 2560#32
  ![v3274.toNat, 128, 2560]
def k0_off536 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3285 : Index := Scalar.indexCast v1266
  let c2_1054 : Index := 2#32
  let c2560_1055 : Index := 2560#32
  ![v3285.toNat, 2, 2560]
def k0_off537 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3291 : Index := Scalar.indexCast v1266
  let c192_1056 : Index := 192#32
  let c2560_1057 : Index := 2560#32
  ![v3291.toNat, 192, 2560]
def k0_off538 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3302 : Index := Scalar.indexCast v1266
  let c3_1059 : Index := 3#32
  let c2560_1060 : Index := 2560#32
  ![v3302.toNat, 3, 2560]
def k0_off539 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3308 : Index := Scalar.indexCast v1266
  let c256_1061 : Index := 256#32
  let c2560_1062 : Index := 2560#32
  ![v3308.toNat, 256, 2560]
def k0_off540 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3319 : Index := Scalar.indexCast v1266
  let c4_1064 : Index := 4#32
  let c2560_1065 : Index := 2560#32
  ![v3319.toNat, 4, 2560]
def k0_off541 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3325 : Index := Scalar.indexCast v1266
  let c320_1066 : Index := 320#32
  let c2560_1067 : Index := 2560#32
  ![v3325.toNat, 320, 2560]
def k0_off542 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3336 : Index := Scalar.indexCast v1266
  let c5_1069 : Index := 5#32
  let c2560_1070 : Index := 2560#32
  ![v3336.toNat, 5, 2560]
def k0_off543 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3342 : Index := Scalar.indexCast v1266
  let c384_1071 : Index := 384#32
  let c2560_1072 : Index := 2560#32
  ![v3342.toNat, 384, 2560]
def k0_off544 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3353 : Index := Scalar.indexCast v1266
  let c6_1074 : Index := 6#32
  let c2560_1075 : Index := 2560#32
  ![v3353.toNat, 6, 2560]
def k0_off545 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3359 : Index := Scalar.indexCast v1266
  let c448_1076 : Index := 448#32
  let c2560_1077 : Index := 2560#32
  ![v3359.toNat, 448, 2560]
def k0_off546 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3370 : Index := Scalar.indexCast v1266
  let c7_1079 : Index := 7#32
  let c2560_1080 : Index := 2560#32
  ![v3370.toNat, 7, 2560]
def k0_off547 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3376 : Index := Scalar.indexCast v1266
  let c512_1081 : Index := 512#32
  let c2560_1082 : Index := 2560#32
  ![v3376.toNat, 512, 2560]
def k0_off548 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3387 : Index := Scalar.indexCast v1266
  let c8_1084 : Index := 8#32
  let c2560_1085 : Index := 2560#32
  ![v3387.toNat, 8, 2560]
def k0_off549 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3393 : Index := Scalar.indexCast v1266
  let c576_1086 : Index := 576#32
  let c2560_1087 : Index := 2560#32
  ![v3393.toNat, 576, 2560]
def k0_off550 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3404 : Index := Scalar.indexCast v1266
  let c9_1089 : Index := 9#32
  let c2560_1090 : Index := 2560#32
  ![v3404.toNat, 9, 2560]
def k0_off551 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3410 : Index := Scalar.indexCast v1266
  let c640_1091 : Index := 640#32
  let c2560_1092 : Index := 2560#32
  ![v3410.toNat, 640, 2560]
def k0_off552 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3421 : Index := Scalar.indexCast v1266
  let c10_1094 : Index := 10#32
  let c2560_1095 : Index := 2560#32
  ![v3421.toNat, 10, 2560]
def k0_off553 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3434 : Index := Scalar.indexCast v1266
  let c0_1101 : Index := 0#32
  let c2816 : Index := 2816#32
  ![v3434.toNat, 0, 2816]
def k0_off554 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3445 : Index := Scalar.indexCast v1266
  let c0_1103 : Index := 0#32
  let c2816_1104 : Index := 2816#32
  ![v3445.toNat, 0, 2816]
def k0_off555 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3451 : Index := Scalar.indexCast v1266
  let c64_1105 : Index := 64#32
  let c2816_1106 : Index := 2816#32
  ![v3451.toNat, 64, 2816]
def k0_off556 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3462 : Index := Scalar.indexCast v1266
  let c1_1108 : Index := 1#32
  let c2816_1109 : Index := 2816#32
  ![v3462.toNat, 1, 2816]
def k0_off557 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3468 : Index := Scalar.indexCast v1266
  let c128_1110 : Index := 128#32
  let c2816_1111 : Index := 2816#32
  ![v3468.toNat, 128, 2816]
def k0_off558 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3479 : Index := Scalar.indexCast v1266
  let c2_1113 : Index := 2#32
  let c2816_1114 : Index := 2816#32
  ![v3479.toNat, 2, 2816]
def k0_off559 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3485 : Index := Scalar.indexCast v1266
  let c192_1115 : Index := 192#32
  let c2816_1116 : Index := 2816#32
  ![v3485.toNat, 192, 2816]
def k0_off560 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3496 : Index := Scalar.indexCast v1266
  let c3_1118 : Index := 3#32
  let c2816_1119 : Index := 2816#32
  ![v3496.toNat, 3, 2816]
def k0_off561 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3502 : Index := Scalar.indexCast v1266
  let c256_1120 : Index := 256#32
  let c2816_1121 : Index := 2816#32
  ![v3502.toNat, 256, 2816]
def k0_off562 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3513 : Index := Scalar.indexCast v1266
  let c4_1123 : Index := 4#32
  let c2816_1124 : Index := 2816#32
  ![v3513.toNat, 4, 2816]
def k0_off563 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3519 : Index := Scalar.indexCast v1266
  let c320_1125 : Index := 320#32
  let c2816_1126 : Index := 2816#32
  ![v3519.toNat, 320, 2816]
def k0_off564 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3530 : Index := Scalar.indexCast v1266
  let c5_1128 : Index := 5#32
  let c2816_1129 : Index := 2816#32
  ![v3530.toNat, 5, 2816]
def k0_off565 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3536 : Index := Scalar.indexCast v1266
  let c384_1130 : Index := 384#32
  let c2816_1131 : Index := 2816#32
  ![v3536.toNat, 384, 2816]
def k0_off566 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3547 : Index := Scalar.indexCast v1266
  let c6_1133 : Index := 6#32
  let c2816_1134 : Index := 2816#32
  ![v3547.toNat, 6, 2816]
def k0_off567 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3553 : Index := Scalar.indexCast v1266
  let c448_1135 : Index := 448#32
  let c2816_1136 : Index := 2816#32
  ![v3553.toNat, 448, 2816]
def k0_off568 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3564 : Index := Scalar.indexCast v1266
  let c7_1138 : Index := 7#32
  let c2816_1139 : Index := 2816#32
  ![v3564.toNat, 7, 2816]
def k0_off569 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3570 : Index := Scalar.indexCast v1266
  let c512_1140 : Index := 512#32
  let c2816_1141 : Index := 2816#32
  ![v3570.toNat, 512, 2816]
def k0_off570 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3581 : Index := Scalar.indexCast v1266
  let c8_1143 : Index := 8#32
  let c2816_1144 : Index := 2816#32
  ![v3581.toNat, 8, 2816]
def k0_off571 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3587 : Index := Scalar.indexCast v1266
  let c576_1145 : Index := 576#32
  let c2816_1146 : Index := 2816#32
  ![v3587.toNat, 576, 2816]
def k0_off572 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3598 : Index := Scalar.indexCast v1266
  let c9_1148 : Index := 9#32
  let c2816_1149 : Index := 2816#32
  ![v3598.toNat, 9, 2816]
def k0_off573 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3604 : Index := Scalar.indexCast v1266
  let c640_1150 : Index := 640#32
  let c2816_1151 : Index := 2816#32
  ![v3604.toNat, 640, 2816]
def k0_off574 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32 : BitVec 32 := 3#32
  let v1266 : BitVec 32 := Scalar.remsi arg12 c3_i32
  let v3615 : Index := Scalar.indexCast v1266
  let c10_1153 : Index := 10#32
  let c2816_1154 : Index := 2816#32
  ![v3615.toNat, 10, 2816]
def k0_off575 (v1_0 : BitVec 32) (k0_t3 : Fin (k0_t3_loop v1_0).trips) : Fin 1 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_1163 : BitVec 32 := 3#32
  let v3632 : BitVec 32 := Scalar.addi arg12 c3_i32_1163
  let v3633 : Index := Scalar.indexCast v3632
  ![v3633.toNat]
def k0_cond5 (v1_0 : BitVec 32) (k0_t3 : Fin (k0_t3_loop v1_0).trips) : BitVec 1 :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_1160 : BitVec 32 := 3#32
  let v3628 : BitVec 32 := Scalar.addi arg12 c3_i32_1160
  let v3629 : BitVec 1 := Scalar.cmpi .slt v3628 v1_0
  let v3630 : BitVec 32 := Scalar.extui v3629
  let c0_i32_1161 : BitVec 32 := 0#32
  let v3631 : BitVec 1 := Scalar.cmpi .ne v3630 c0_i32_1161
  v3631

def k0_off576 (v1_0 : BitVec 32) (k0_t3 : Fin (k0_t3_loop v1_0).trips) : Fin 2 → Nat :=
  let c0_i32_1165 : BitVec 32 := 0#32
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_1163 : BitVec 32 := 3#32
  let v3632 : BitVec 32 := Scalar.addi arg12 c3_i32_1163
  let c3_i32_1164 : BitVec 32 := 3#32
  let v3635 : BitVec 32 := Scalar.remsi v3632 c3_i32_1164
  ![0, v3635.toNat]
def k0_off577 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_1163 : BitVec 32 := 3#32
  let v3632 : BitVec 32 := Scalar.addi arg12 c3_i32_1163
  let c3_i32_1164 : BitVec 32 := 3#32
  let v3635 : BitVec 32 := Scalar.remsi v3632 c3_i32_1164
  let c0_i32_1166 : BitVec 32 := 0#32
  let c0_i32_1167 : BitVec 32 := 0#32
  ![v3635.toNat, 0, 0]
def k0_off578 (v3634 : BitVec 32) : Fin 3 → Nat :=
  let c0_i32_1168 : BitVec 32 := 0#32
  let c0_i32_1169 : BitVec 32 := 0#32
  ![v3634.toNat, 0, 0]

def k0_off579 (v1_0 : BitVec 32) (k0_t3 : Fin (k0_t3_loop v1_0).trips) : Fin 2 → Nat :=
  let c1_i32_1170 : BitVec 32 := 1#32
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_1163 : BitVec 32 := 3#32
  let v3632 : BitVec 32 := Scalar.addi arg12 c3_i32_1163
  let c3_i32_1164 : BitVec 32 := 3#32
  let v3635 : BitVec 32 := Scalar.remsi v3632 c3_i32_1164
  ![1, v3635.toNat]
def k0_off580 (v1_0 : BitVec 32) (k0_t3 : Fin (k0_t3_loop v1_0).trips) : Fin 3 → Nat :=
  let c0_i32_438 : BitVec 32 := 0#32
  let v1256 : BitVec 32 := Scalar.subi v1_0 c0_i32_438
  let c1_i32_440 : BitVec 32 := 1#32
  let v1258 : BitVec 32 := Scalar.divsi v1256 c1_i32_440
  let v1259 : BitVec 32 := Scalar.muli v1258 c1_i32_440
  let v1260 : BitVec 32 := Scalar.addi c0_i32_438 v1259
  let c1_i32_442 : BitVec 32 := 1#32
  let arg12 : BitVec 32 := Scf.iv v1260 c1_i32_442 k0_t3
  let c3_i32_1163 : BitVec 32 := 3#32
  let v3632 : BitVec 32 := Scalar.addi arg12 c3_i32_1163
  let c3_i32_1164 : BitVec 32 := 3#32
  let v3635 : BitVec 32 := Scalar.remsi v3632 c3_i32_1164
  let c0_i32_1171 : BitVec 32 := 0#32
  let c0_i32_1172 : BitVec 32 := 0#32
  ![v3635.toNat, 0, 0]

def k0_chk2_0 (v1_0 : BitVec 32) : Prop :=
  (∀ a, (k0_off3 v1_0) a + S1.size a ≤ S65.size a) ∧
  ((k0_t2_loop v1_0).OK) ∧
  (∀ k0_t2 : Fin (k0_t2_loop v1_0).trips, ∀ a, (k0_off22 v1_0 k0_t2) a + S1.size a ≤ S65.size a) ∧
  (∀ k0_t2 : Fin (k0_t2_loop v1_0).trips, ∀ a, (k0_off23 v1_0 k0_t2) a + S1x1.size a ≤ S2x3.size a) ∧
  (∀ k0_t2 : Fin (k0_t2_loop v1_0).trips, ∀ a, (k0_off24 v1_0 k0_t2) a + S1x704x3072.size a ≤ S3x704x3072.size a) ∧
  (∀ k0_t2 : Fin (k0_t2_loop v1_0).trips, ∀ (hinb : ∀ a, (k0_off24 v1_0 k0_t2) a + S1x704x3072.size a ≤ S3x704x3072.size a), (Rect.unit (s := S3x704x3072) (k0_off24 v1_0 k0_t2) S1x704x3072.size hinb).WholeWords (EltTy.packing .i8)) ∧
  (∀ k0_t2 : Fin (k0_t2_loop v1_0).trips, ∀ a, (k0_off26 v1_0 k0_t2) a + S1x1.size a ≤ S2x3.size a) ∧
  (∀ k0_t2 : Fin (k0_t2_loop v1_0).trips, ∀ a, (k0_off27 v1_0 k0_t2) a + S1x11x3072.size a ≤ S3x11x3072.size a) ∧
  (∀ k0_t2 : Fin (k0_t2_loop v1_0).trips, ∀ a, (k0_off29 v1_0 k0_t2) a + S1.size a ≤ S65.size a) ∧
  (∀ k0_t2 : Fin (k0_t2_loop v1_0).trips, ∀ a, (k0_off30 v1_0 k0_t2) a + S1.size a ≤ S65.size a) ∧
  (∀ k0_t2 : Fin (k0_t2_loop v1_0).trips, ∀ a, (k0_off31 v1_0 k0_t2) a + S1x64x256.size a ≤ S3x704x3072.size a) ∧
  (∀ k0_t2 : Fin (k0_t2_loop v1_0).trips, ∀ a, (k0_off32 v1_0 k0_t2) a + S1x1x256.size a ≤ S3x11x3072.size a) ∧
  (∀ k0_t2 : Fin (k0_t2_loop v1_0).trips, ∀ a, (k0_off33 v1_0 k0_t2) a + S1x64x256.size a ≤ S3x704x3072.size a) ∧
  (∀ k0_t2 : Fin (k0_t2_loop v1_0).trips, ∀ a, (k0_off34 v1_0 k0_t2) a + S1x1x256.size a ≤ S3x11x3072.size a) ∧
  (∀ k0_t2 : Fin (k0_t2_loop v1_0).trips, ∀ a, (k0_off35 v1_0 k0_t2) a + S1x64x256.size a ≤ S3x704x3072.size a) ∧
  (∀ k0_t2 : Fin (k0_t2_loop v1_0).trips, ∀ a, (k0_off36 v1_0 k0_t2) a + S1x1x256.size a ≤ S3x11x3072.size a) ∧
  (∀ k0_t2 : Fin (k0_t2_loop v1_0).trips, ∀ a, (k0_off37 v1_0 k0_t2) a + S1x64x256.size a ≤ S3x704x3072.size a) ∧
  (∀ k0_t2 : Fin (k0_t2_loop v1_0).trips, ∀ a, (k0_off38 v1_0 k0_t2) a + S1x1x256.size a ≤ S3x11x3072.size a) ∧
  (∀ k0_t2 : Fin (k0_t2_loop v1_0).trips, ∀ a, (k0_off39 v1_0 k0_t2) a + S1x64x256.size a ≤ S3x704x3072.size a) ∧
  (∀ k0_t2 : Fin (k0_t2_loop v1_0).trips, ∀ a, (k0_off40 v1_0 k0_t2) a + S1x1x256.size a ≤ S3x11x3072.size a) ∧
  (∀ k0_t2 : Fin (k0_t2_loop v1_0).trips, ∀ a, (k0_off41 v1_0 k0_t2) a + S1x64x256.size a ≤ S3x704x3072.size a) ∧
  (∀ k0_t2 : Fin (k0_t2_loop v1_0).trips, ∀ a, (k0_off42 v1_0 k0_t2) a + S1x1x256.size a ≤ S3x11x3072.size a) ∧
  (∀ k0_t2 : Fin (k0_t2_loop v1_0).trips, ∀ a, (k0_off43 v1_0 k0_t2) a + S1x64x256.size a ≤ S3x704x3072.size a) ∧
  (∀ k0_t2 : Fin (k0_t2_loop v1_0).trips, ∀ a, (k0_off44 v1_0 k0_t2) a + S1x1x256.size a ≤ S3x11x3072.size a) ∧
  (∀ k0_t2 : Fin (k0_t2_loop v1_0).trips, ∀ a, (k0_off45 v1_0 k0_t2) a + S1x64x256.size a ≤ S3x704x3072.size a) ∧
  (∀ k0_t2 : Fin (k0_t2_loop v1_0).trips, ∀ a, (k0_off46 v1_0 k0_t2) a + S1x1x256.size a ≤ S3x11x3072.size a) ∧
  (∀ k0_t2 : Fin (k0_t2_loop v1_0).trips, ∀ a, (k0_off47 v1_0 k0_t2) a + S1x64x256.size a ≤ S3x704x3072.size a) ∧
  (∀ k0_t2 : Fin (k0_t2_loop v1_0).trips, ∀ a, (k0_off48 v1_0 k0_t2) a + S1x1x256.size a ≤ S3x11x3072.size a) ∧
  (∀ k0_t2 : Fin (k0_t2_loop v1_0).trips, ∀ a, (k0_off49 v1_0 k0_t2) a + S1x64x256.size a ≤ S3x704x3072.size a) ∧
  (∀ k0_t2 : Fin (k0_t2_loop v1_0).trips, ∀ a, (k0_off50 v1_0 k0_t2) a + S1x1x256.size a ≤ S3x11x3072.size a) ∧
  (∀ k0_t2 : Fin (k0_t2_loop v1_0).trips, ∀ a, (k0_off51 v1_0 k0_t2) a + S1x64x256.size a ≤ S3x704x3072.size a) ∧
  (∀ k0_t2 : Fin (k0_t2_loop v1_0).trips, ∀ a, (k0_off52 v1_0 k0_t2) a + S1x1x256.size a ≤ S3x11x3072.size a)
def k0_chk2_1 (v1_0 : BitVec 32) : Prop :=
  (∀ k0_t2 : Fin (k0_t2_loop v1_0).trips, ∀ a, (k0_off53 v1_0 k0_t2) a + S1x64x256.size a ≤ S3x704x3072.size a) ∧
  (∀ k0_t2 : Fin (k0_t2_loop v1_0).trips, ∀ a, (k0_off54 v1_0 k0_t2) a + S1x1x256.size a ≤ S3x11x3072.size a) ∧
  (∀ k0_t2 : Fin (k0_t2_loop v1_0).trips, ∀ a, (k0_off55 v1_0 k0_t2) a + S1x64x256.size a ≤ S3x704x3072.size a) ∧
  (∀ k0_t2 : Fin (k0_t2_loop v1_0).trips, ∀ a, (k0_off56 v1_0 k0_t2) a + S1x1x256.size a ≤ S3x11x3072.size a) ∧
  (∀ k0_t2 : Fin (k0_t2_loop v1_0).trips, ∀ a, (k0_off57 v1_0 k0_t2) a + S1x64x256.size a ≤ S3x704x3072.size a) ∧
  (∀ k0_t2 : Fin (k0_t2_loop v1_0).trips, ∀ a, (k0_off58 v1_0 k0_t2) a + S1x1x256.size a ≤ S3x11x3072.size a) ∧
  (∀ k0_t2 : Fin (k0_t2_loop v1_0).trips, ∀ a, (k0_off59 v1_0 k0_t2) a + S1x64x256.size a ≤ S3x704x3072.size a) ∧
  (∀ k0_t2 : Fin (k0_t2_loop v1_0).trips, ∀ a, (k0_off60 v1_0 k0_t2) a + S1x1x256.size a ≤ S3x11x3072.size a) ∧
  (∀ k0_t2 : Fin (k0_t2_loop v1_0).trips, ∀ a, (k0_off61 v1_0 k0_t2) a + S1x64x256.size a ≤ S3x704x3072.size a) ∧
  (∀ k0_t2 : Fin (k0_t2_loop v1_0).trips, ∀ a, (k0_off62 v1_0 k0_t2) a + S1x1x256.size a ≤ S3x11x3072.size a) ∧
  (∀ k0_t2 : Fin (k0_t2_loop v1_0).trips, ∀ a, (k0_off63 v1_0 k0_t2) a + S1x64x256.size a ≤ S3x704x3072.size a) ∧
  (∀ k0_t2 : Fin (k0_t2_loop v1_0).trips, ∀ a, (k0_off64 v1_0 k0_t2) a + S1x1x256.size a ≤ S3x11x3072.size a) ∧
  (∀ k0_t2 : Fin (k0_t2_loop v1_0).trips, ∀ a, (k0_off65 v1_0 k0_t2) a + S1x64x256.size a ≤ S3x704x3072.size a) ∧
  (∀ k0_t2 : Fin (k0_t2_loop v1_0).trips, ∀ a, (k0_off66 v1_0 k0_t2) a + S1x1x256.size a ≤ S3x11x3072.size a) ∧
  (∀ k0_t2 : Fin (k0_t2_loop v1_0).trips, ∀ a, (k0_off67 v1_0 k0_t2) a + S1x64x256.size a ≤ S3x704x3072.size a) ∧
  (∀ k0_t2 : Fin (k0_t2_loop v1_0).trips, ∀ a, (k0_off68 v1_0 k0_t2) a + S1x1x256.size a ≤ S3x11x3072.size a) ∧
  (∀ k0_t2 : Fin (k0_t2_loop v1_0).trips, ∀ a, (k0_off69 v1_0 k0_t2) a + S1x64x256.size a ≤ S3x704x3072.size a) ∧
  (∀ k0_t2 : Fin (k0_t2_loop v1_0).trips, ∀ a, (k0_off70 v1_0 k0_t2) a + S1x1x256.size a ≤ S3x11x3072.size a) ∧
  (∀ k0_t2 : Fin (k0_t2_loop v1_0).trips, ∀ a, (k0_off71 v1_0 k0_t2) a + S1x64x256.size a ≤ S3x704x3072.size a) ∧
  (∀ k0_t2 : Fin (k0_t2_loop v1_0).trips, ∀ a, (k0_off72 v1_0 k0_t2) a + S1x1x256.size a ≤ S3x11x3072.size a) ∧
  (∀ k0_t2 : Fin (k0_t2_loop v1_0).trips, ∀ a, (k0_off73 v1_0 k0_t2) a + S1x64x256.size a ≤ S3x704x3072.size a) ∧
  (∀ k0_t2 : Fin (k0_t2_loop v1_0).trips, ∀ a, (k0_off74 v1_0 k0_t2) a + S1x1x256.size a ≤ S3x11x3072.size a) ∧
  (∀ k0_t2 : Fin (k0_t2_loop v1_0).trips, ∀ a, (k0_off75 v1_0 k0_t2) a + S1x64x256.size a ≤ S3x704x3072.size a) ∧
  (∀ k0_t2 : Fin (k0_t2_loop v1_0).trips, ∀ a, (k0_off76 v1_0 k0_t2) a + S1x1x256.size a ≤ S3x11x3072.size a) ∧
  (∀ k0_t2 : Fin (k0_t2_loop v1_0).trips, ∀ a, (k0_off77 v1_0 k0_t2) a + S1x64x256.size a ≤ S3x704x3072.size a) ∧
  (∀ k0_t2 : Fin (k0_t2_loop v1_0).trips, ∀ a, (k0_off78 v1_0 k0_t2) a + S1x1x256.size a ≤ S3x11x3072.size a) ∧
  (∀ k0_t2 : Fin (k0_t2_loop v1_0).trips, ∀ a, (k0_off79 v1_0 k0_t2) a + S1x64x256.size a ≤ S3x704x3072.size a) ∧
  (∀ k0_t2 : Fin (k0_t2_loop v1_0).trips, ∀ a, (k0_off80 v1_0 k0_t2) a + S1x1x256.size a ≤ S3x11x3072.size a) ∧
  (∀ k0_t2 : Fin (k0_t2_loop v1_0).trips, ∀ a, (k0_off81 v1_0 k0_t2) a + S1x64x256.size a ≤ S3x704x3072.size a) ∧
  (∀ k0_t2 : Fin (k0_t2_loop v1_0).trips, ∀ a, (k0_off82 v1_0 k0_t2) a + S1x1x256.size a ≤ S3x11x3072.size a) ∧
  (∀ k0_t2 : Fin (k0_t2_loop v1_0).trips, ∀ a, (k0_off83 v1_0 k0_t2) a + S1x64x256.size a ≤ S3x704x3072.size a) ∧
  (∀ k0_t2 : Fin (k0_t2_loop v1_0).trips, ∀ a, (k0_off84 v1_0 k0_t2) a + S1x1x256.size a ≤ S3x11x3072.size a)
def k0_chk2_2 (v1_0 : BitVec 32) : Prop :=
  (∀ k0_t2 : Fin (k0_t2_loop v1_0).trips, ∀ a, (k0_off85 v1_0 k0_t2) a + S1x64x256.size a ≤ S3x704x3072.size a) ∧
  (∀ k0_t2 : Fin (k0_t2_loop v1_0).trips, ∀ a, (k0_off86 v1_0 k0_t2) a + S1x1x256.size a ≤ S3x11x3072.size a) ∧
  (∀ k0_t2 : Fin (k0_t2_loop v1_0).trips, ∀ a, (k0_off87 v1_0 k0_t2) a + S1x64x256.size a ≤ S3x704x3072.size a) ∧
  (∀ k0_t2 : Fin (k0_t2_loop v1_0).trips, ∀ a, (k0_off88 v1_0 k0_t2) a + S1x1x256.size a ≤ S3x11x3072.size a) ∧
  (∀ k0_t2 : Fin (k0_t2_loop v1_0).trips, ∀ a, (k0_off89 v1_0 k0_t2) a + S1x64x256.size a ≤ S3x704x3072.size a) ∧
  (∀ k0_t2 : Fin (k0_t2_loop v1_0).trips, ∀ a, (k0_off90 v1_0 k0_t2) a + S1x1x256.size a ≤ S3x11x3072.size a) ∧
  (∀ k0_t2 : Fin (k0_t2_loop v1_0).trips, ∀ a, (k0_off91 v1_0 k0_t2) a + S1x64x256.size a ≤ S3x704x3072.size a) ∧
  (∀ k0_t2 : Fin (k0_t2_loop v1_0).trips, ∀ a, (k0_off92 v1_0 k0_t2) a + S1x1x256.size a ≤ S3x11x3072.size a) ∧
  (∀ k0_t2 : Fin (k0_t2_loop v1_0).trips, ∀ a, (k0_off93 v1_0 k0_t2) a + S1x64x256.size a ≤ S3x704x3072.size a) ∧
  (∀ k0_t2 : Fin (k0_t2_loop v1_0).trips, ∀ a, (k0_off94 v1_0 k0_t2) a + S1x1x256.size a ≤ S3x11x3072.size a) ∧
  (∀ k0_t2 : Fin (k0_t2_loop v1_0).trips, ∀ a, (k0_off95 v1_0 k0_t2) a + S1x64x256.size a ≤ S3x704x3072.size a) ∧
  (∀ k0_t2 : Fin (k0_t2_loop v1_0).trips, ∀ a, (k0_off96 v1_0 k0_t2) a + S1x1x256.size a ≤ S3x11x3072.size a) ∧
  (∀ k0_t2 : Fin (k0_t2_loop v1_0).trips, ∀ a, (k0_off97 v1_0 k0_t2) a + S1x64x256.size a ≤ S3x704x3072.size a) ∧
  (∀ k0_t2 : Fin (k0_t2_loop v1_0).trips, ∀ a, (k0_off98 v1_0 k0_t2) a + S1x1x256.size a ≤ S3x11x3072.size a) ∧
  (∀ k0_t2 : Fin (k0_t2_loop v1_0).trips, ∀ a, (k0_off99 v1_0 k0_t2) a + S1x64x256.size a ≤ S3x704x3072.size a) ∧
  (∀ k0_t2 : Fin (k0_t2_loop v1_0).trips, ∀ a, (k0_off100 v1_0 k0_t2) a + S1x1x256.size a ≤ S3x11x3072.size a) ∧
  (∀ k0_t2 : Fin (k0_t2_loop v1_0).trips, ∀ a, (k0_off101 v1_0 k0_t2) a + S1x64x256.size a ≤ S3x704x3072.size a) ∧
  (∀ k0_t2 : Fin (k0_t2_loop v1_0).trips, ∀ a, (k0_off102 v1_0 k0_t2) a + S1x1x256.size a ≤ S3x11x3072.size a) ∧
  (∀ k0_t2 : Fin (k0_t2_loop v1_0).trips, ∀ a, (k0_off103 v1_0 k0_t2) a + S1x64x256.size a ≤ S3x704x3072.size a) ∧
  (∀ k0_t2 : Fin (k0_t2_loop v1_0).trips, ∀ a, (k0_off104 v1_0 k0_t2) a + S1x1x256.size a ≤ S3x11x3072.size a) ∧
  (∀ k0_t2 : Fin (k0_t2_loop v1_0).trips, ∀ a, (k0_off105 v1_0 k0_t2) a + S1x64x256.size a ≤ S3x704x3072.size a) ∧
  (∀ k0_t2 : Fin (k0_t2_loop v1_0).trips, ∀ a, (k0_off106 v1_0 k0_t2) a + S1x1x256.size a ≤ S3x11x3072.size a) ∧
  (∀ k0_t2 : Fin (k0_t2_loop v1_0).trips, ∀ a, (k0_off107 v1_0 k0_t2) a + S1x64x256.size a ≤ S3x704x3072.size a) ∧
  (∀ k0_t2 : Fin (k0_t2_loop v1_0).trips, ∀ a, (k0_off108 v1_0 k0_t2) a + S1x1x256.size a ≤ S3x11x3072.size a) ∧
  (∀ k0_t2 : Fin (k0_t2_loop v1_0).trips, ∀ a, (k0_off109 v1_0 k0_t2) a + S1x64x256.size a ≤ S3x704x3072.size a) ∧
  (∀ k0_t2 : Fin (k0_t2_loop v1_0).trips, ∀ a, (k0_off110 v1_0 k0_t2) a + S1x1x256.size a ≤ S3x11x3072.size a) ∧
  (∀ k0_t2 : Fin (k0_t2_loop v1_0).trips, ∀ a, (k0_off111 v1_0 k0_t2) a + S1x64x256.size a ≤ S3x704x3072.size a) ∧
  (∀ k0_t2 : Fin (k0_t2_loop v1_0).trips, ∀ a, (k0_off112 v1_0 k0_t2) a + S1x1x256.size a ≤ S3x11x3072.size a) ∧
  (∀ k0_t2 : Fin (k0_t2_loop v1_0).trips, ∀ a, (k0_off113 v1_0 k0_t2) a + S1x64x256.size a ≤ S3x704x3072.size a) ∧
  (∀ k0_t2 : Fin (k0_t2_loop v1_0).trips, ∀ a, (k0_off114 v1_0 k0_t2) a + S1x1x256.size a ≤ S3x11x3072.size a) ∧
  (∀ k0_t2 : Fin (k0_t2_loop v1_0).trips, ∀ a, (k0_off115 v1_0 k0_t2) a + S1x64x256.size a ≤ S3x704x3072.size a) ∧
  (∀ k0_t2 : Fin (k0_t2_loop v1_0).trips, ∀ a, (k0_off116 v1_0 k0_t2) a + S1x1x256.size a ≤ S3x11x3072.size a)
def k0_chk2_3 (v1_0 : BitVec 32) : Prop :=
  (∀ k0_t2 : Fin (k0_t2_loop v1_0).trips, ∀ a, (k0_off117 v1_0 k0_t2) a + S1x64x256.size a ≤ S3x704x3072.size a) ∧
  (∀ k0_t2 : Fin (k0_t2_loop v1_0).trips, ∀ a, (k0_off118 v1_0 k0_t2) a + S1x1x256.size a ≤ S3x11x3072.size a) ∧
  (∀ k0_t2 : Fin (k0_t2_loop v1_0).trips, ∀ a, (k0_off119 v1_0 k0_t2) a + S1x64x256.size a ≤ S3x704x3072.size a) ∧
  (∀ k0_t2 : Fin (k0_t2_loop v1_0).trips, ∀ a, (k0_off120 v1_0 k0_t2) a + S1x1x256.size a ≤ S3x11x3072.size a) ∧
  (∀ k0_t2 : Fin (k0_t2_loop v1_0).trips, ∀ a, (k0_off121 v1_0 k0_t2) a + S1x64x256.size a ≤ S3x704x3072.size a) ∧
  (∀ k0_t2 : Fin (k0_t2_loop v1_0).trips, ∀ a, (k0_off122 v1_0 k0_t2) a + S1x1x256.size a ≤ S3x11x3072.size a) ∧
  (∀ k0_t2 : Fin (k0_t2_loop v1_0).trips, ∀ a, (k0_off123 v1_0 k0_t2) a + S1x64x256.size a ≤ S3x704x3072.size a) ∧
  (∀ k0_t2 : Fin (k0_t2_loop v1_0).trips, ∀ a, (k0_off124 v1_0 k0_t2) a + S1x1x256.size a ≤ S3x11x3072.size a) ∧
  (∀ k0_t2 : Fin (k0_t2_loop v1_0).trips, ∀ a, (k0_off125 v1_0 k0_t2) a + S1x64x256.size a ≤ S3x704x3072.size a) ∧
  (∀ k0_t2 : Fin (k0_t2_loop v1_0).trips, ∀ a, (k0_off126 v1_0 k0_t2) a + S1x1x256.size a ≤ S3x11x3072.size a) ∧
  (∀ k0_t2 : Fin (k0_t2_loop v1_0).trips, ∀ a, (k0_off127 v1_0 k0_t2) a + S1x64x256.size a ≤ S3x704x3072.size a) ∧
  (∀ k0_t2 : Fin (k0_t2_loop v1_0).trips, ∀ a, (k0_off128 v1_0 k0_t2) a + S1x1x256.size a ≤ S3x11x3072.size a) ∧
  (∀ k0_t2 : Fin (k0_t2_loop v1_0).trips, ∀ a, (k0_off129 v1_0 k0_t2) a + S1x64x256.size a ≤ S3x704x3072.size a) ∧
  (∀ k0_t2 : Fin (k0_t2_loop v1_0).trips, ∀ a, (k0_off130 v1_0 k0_t2) a + S1x1x256.size a ≤ S3x11x3072.size a) ∧
  (∀ k0_t2 : Fin (k0_t2_loop v1_0).trips, ∀ a, (k0_off131 v1_0 k0_t2) a + S1x64x256.size a ≤ S3x704x3072.size a) ∧
  (∀ k0_t2 : Fin (k0_t2_loop v1_0).trips, ∀ a, (k0_off132 v1_0 k0_t2) a + S1x1x256.size a ≤ S3x11x3072.size a) ∧
  (∀ k0_t2 : Fin (k0_t2_loop v1_0).trips, ∀ a, (k0_off133 v1_0 k0_t2) a + S1x64x256.size a ≤ S3x704x3072.size a) ∧
  (∀ k0_t2 : Fin (k0_t2_loop v1_0).trips, ∀ a, (k0_off134 v1_0 k0_t2) a + S1x1x256.size a ≤ S3x11x3072.size a) ∧
  (∀ k0_t2 : Fin (k0_t2_loop v1_0).trips, ∀ a, (k0_off135 v1_0 k0_t2) a + S1x64x256.size a ≤ S3x704x3072.size a) ∧
  (∀ k0_t2 : Fin (k0_t2_loop v1_0).trips, ∀ a, (k0_off136 v1_0 k0_t2) a + S1x1x256.size a ≤ S3x11x3072.size a) ∧
  (∀ k0_t2 : Fin (k0_t2_loop v1_0).trips, ∀ a, (k0_off137 v1_0 k0_t2) a + S1x64x256.size a ≤ S3x704x3072.size a) ∧
  (∀ k0_t2 : Fin (k0_t2_loop v1_0).trips, ∀ a, (k0_off138 v1_0 k0_t2) a + S1x1x256.size a ≤ S3x11x3072.size a) ∧
  (∀ k0_t2 : Fin (k0_t2_loop v1_0).trips, ∀ a, (k0_off139 v1_0 k0_t2) a + S1x64x256.size a ≤ S3x704x3072.size a) ∧
  (∀ k0_t2 : Fin (k0_t2_loop v1_0).trips, ∀ a, (k0_off140 v1_0 k0_t2) a + S1x1x256.size a ≤ S3x11x3072.size a) ∧
  (∀ k0_t2 : Fin (k0_t2_loop v1_0).trips, ∀ a, (k0_off141 v1_0 k0_t2) a + S1x64x256.size a ≤ S3x704x3072.size a) ∧
  (∀ k0_t2 : Fin (k0_t2_loop v1_0).trips, ∀ a, (k0_off142 v1_0 k0_t2) a + S1x1x256.size a ≤ S3x11x3072.size a) ∧
  (∀ k0_t2 : Fin (k0_t2_loop v1_0).trips, ∀ a, (k0_off143 v1_0 k0_t2) a + S1x64x256.size a ≤ S3x704x3072.size a) ∧
  (∀ k0_t2 : Fin (k0_t2_loop v1_0).trips, ∀ a, (k0_off144 v1_0 k0_t2) a + S1x1x256.size a ≤ S3x11x3072.size a) ∧
  (∀ k0_t2 : Fin (k0_t2_loop v1_0).trips, ∀ a, (k0_off145 v1_0 k0_t2) a + S1x64x256.size a ≤ S3x704x3072.size a) ∧
  (∀ k0_t2 : Fin (k0_t2_loop v1_0).trips, ∀ a, (k0_off146 v1_0 k0_t2) a + S1x1x256.size a ≤ S3x11x3072.size a) ∧
  (∀ k0_t2 : Fin (k0_t2_loop v1_0).trips, ∀ a, (k0_off147 v1_0 k0_t2) a + S1x64x256.size a ≤ S3x704x3072.size a) ∧
  (∀ k0_t2 : Fin (k0_t2_loop v1_0).trips, ∀ a, (k0_off148 v1_0 k0_t2) a + S1x1x256.size a ≤ S3x11x3072.size a)
def k0_chk2_4 (v1_0 : BitVec 32) : Prop :=
  (∀ k0_t2 : Fin (k0_t2_loop v1_0).trips, ∀ a, (k0_off149 v1_0 k0_t2) a + S1x64x256.size a ≤ S3x704x3072.size a) ∧
  (∀ k0_t2 : Fin (k0_t2_loop v1_0).trips, ∀ a, (k0_off150 v1_0 k0_t2) a + S1x1x256.size a ≤ S3x11x3072.size a) ∧
  (∀ k0_t2 : Fin (k0_t2_loop v1_0).trips, ∀ a, (k0_off151 v1_0 k0_t2) a + S1x64x256.size a ≤ S3x704x3072.size a) ∧
  (∀ k0_t2 : Fin (k0_t2_loop v1_0).trips, ∀ a, (k0_off152 v1_0 k0_t2) a + S1x1x256.size a ≤ S3x11x3072.size a) ∧
  (∀ k0_t2 : Fin (k0_t2_loop v1_0).trips, ∀ a, (k0_off153 v1_0 k0_t2) a + S1x64x256.size a ≤ S3x704x3072.size a) ∧
  (∀ k0_t2 : Fin (k0_t2_loop v1_0).trips, ∀ a, (k0_off154 v1_0 k0_t2) a + S1x1x256.size a ≤ S3x11x3072.size a) ∧
  (∀ k0_t2 : Fin (k0_t2_loop v1_0).trips, ∀ a, (k0_off155 v1_0 k0_t2) a + S1x64x256.size a ≤ S3x704x3072.size a) ∧
  (∀ k0_t2 : Fin (k0_t2_loop v1_0).trips, ∀ a, (k0_off156 v1_0 k0_t2) a + S1x1x256.size a ≤ S3x11x3072.size a) ∧
  (∀ k0_t2 : Fin (k0_t2_loop v1_0).trips, ∀ a, (k0_off157 v1_0 k0_t2) a + S1x64x256.size a ≤ S3x704x3072.size a) ∧
  (∀ k0_t2 : Fin (k0_t2_loop v1_0).trips, ∀ a, (k0_off158 v1_0 k0_t2) a + S1x1x256.size a ≤ S3x11x3072.size a) ∧
  (∀ k0_t2 : Fin (k0_t2_loop v1_0).trips, ∀ a, (k0_off159 v1_0 k0_t2) a + S1x64x256.size a ≤ S3x704x3072.size a) ∧
  (∀ k0_t2 : Fin (k0_t2_loop v1_0).trips, ∀ a, (k0_off160 v1_0 k0_t2) a + S1x1x256.size a ≤ S3x11x3072.size a) ∧
  (∀ k0_t2 : Fin (k0_t2_loop v1_0).trips, ∀ a, (k0_off161 v1_0 k0_t2) a + S1x64x256.size a ≤ S3x704x3072.size a) ∧
  (∀ k0_t2 : Fin (k0_t2_loop v1_0).trips, ∀ a, (k0_off162 v1_0 k0_t2) a + S1x1x256.size a ≤ S3x11x3072.size a) ∧
  (∀ k0_t2 : Fin (k0_t2_loop v1_0).trips, ∀ a, (k0_off163 v1_0 k0_t2) a + S1x64x256.size a ≤ S3x704x3072.size a) ∧
  (∀ k0_t2 : Fin (k0_t2_loop v1_0).trips, ∀ a, (k0_off164 v1_0 k0_t2) a + S1x1x256.size a ≤ S3x11x3072.size a) ∧
  (∀ k0_t2 : Fin (k0_t2_loop v1_0).trips, ∀ a, (k0_off165 v1_0 k0_t2) a + S1x64x256.size a ≤ S3x704x3072.size a) ∧
  (∀ k0_t2 : Fin (k0_t2_loop v1_0).trips, ∀ a, (k0_off166 v1_0 k0_t2) a + S1x1x256.size a ≤ S3x11x3072.size a) ∧
  (∀ k0_t2 : Fin (k0_t2_loop v1_0).trips, ∀ a, (k0_off167 v1_0 k0_t2) a + S1x64x256.size a ≤ S3x704x3072.size a) ∧
  (∀ k0_t2 : Fin (k0_t2_loop v1_0).trips, ∀ a, (k0_off168 v1_0 k0_t2) a + S1x1x256.size a ≤ S3x11x3072.size a) ∧
  (∀ k0_t2 : Fin (k0_t2_loop v1_0).trips, ∀ a, (k0_off169 v1_0 k0_t2) a + S1x64x256.size a ≤ S3x704x3072.size a) ∧
  (∀ k0_t2 : Fin (k0_t2_loop v1_0).trips, ∀ a, (k0_off170 v1_0 k0_t2) a + S1x1x256.size a ≤ S3x11x3072.size a) ∧
  (∀ k0_t2 : Fin (k0_t2_loop v1_0).trips, ∀ a, (k0_off171 v1_0 k0_t2) a + S1x64x256.size a ≤ S3x704x3072.size a) ∧
  (∀ k0_t2 : Fin (k0_t2_loop v1_0).trips, ∀ a, (k0_off172 v1_0 k0_t2) a + S1x1x256.size a ≤ S3x11x3072.size a) ∧
  (∀ k0_t2 : Fin (k0_t2_loop v1_0).trips, ∀ a, (k0_off173 v1_0 k0_t2) a + S1x64x256.size a ≤ S3x704x3072.size a) ∧
  (∀ k0_t2 : Fin (k0_t2_loop v1_0).trips, ∀ a, (k0_off174 v1_0 k0_t2) a + S1x1x256.size a ≤ S3x11x3072.size a) ∧
  (∀ k0_t2 : Fin (k0_t2_loop v1_0).trips, ∀ a, (k0_off175 v1_0 k0_t2) a + S1x64x256.size a ≤ S3x704x3072.size a) ∧
  (∀ k0_t2 : Fin (k0_t2_loop v1_0).trips, ∀ a, (k0_off176 v1_0 k0_t2) a + S1x1x256.size a ≤ S3x11x3072.size a) ∧
  (∀ k0_t2 : Fin (k0_t2_loop v1_0).trips, ∀ a, (k0_off177 v1_0 k0_t2) a + S1x64x256.size a ≤ S3x704x3072.size a) ∧
  (∀ k0_t2 : Fin (k0_t2_loop v1_0).trips, ∀ a, (k0_off178 v1_0 k0_t2) a + S1x1x256.size a ≤ S3x11x3072.size a) ∧
  (∀ k0_t2 : Fin (k0_t2_loop v1_0).trips, ∀ a, (k0_off179 v1_0 k0_t2) a + S1x64x256.size a ≤ S3x704x3072.size a) ∧
  (∀ k0_t2 : Fin (k0_t2_loop v1_0).trips, ∀ a, (k0_off180 v1_0 k0_t2) a + S1x1x256.size a ≤ S3x11x3072.size a)
def k0_chk2_5 (v1_0 : BitVec 32) : Prop :=
  (∀ k0_t2 : Fin (k0_t2_loop v1_0).trips, ∀ a, (k0_off181 v1_0 k0_t2) a + S1x64x256.size a ≤ S3x704x3072.size a) ∧
  (∀ k0_t2 : Fin (k0_t2_loop v1_0).trips, ∀ a, (k0_off182 v1_0 k0_t2) a + S1x1x256.size a ≤ S3x11x3072.size a) ∧
  (∀ k0_t2 : Fin (k0_t2_loop v1_0).trips, ∀ a, (k0_off183 v1_0 k0_t2) a + S1x64x256.size a ≤ S3x704x3072.size a) ∧
  (∀ k0_t2 : Fin (k0_t2_loop v1_0).trips, ∀ a, (k0_off184 v1_0 k0_t2) a + S1x1x256.size a ≤ S3x11x3072.size a) ∧
  (∀ k0_t2 : Fin (k0_t2_loop v1_0).trips, ∀ a, (k0_off185 v1_0 k0_t2) a + S1x64x256.size a ≤ S3x704x3072.size a) ∧
  (∀ k0_t2 : Fin (k0_t2_loop v1_0).trips, ∀ a, (k0_off186 v1_0 k0_t2) a + S1x1x256.size a ≤ S3x11x3072.size a) ∧
  (∀ k0_t2 : Fin (k0_t2_loop v1_0).trips, ∀ a, (k0_off187 v1_0 k0_t2) a + S1x64x256.size a ≤ S3x704x3072.size a) ∧
  (∀ k0_t2 : Fin (k0_t2_loop v1_0).trips, ∀ a, (k0_off188 v1_0 k0_t2) a + S1x1x256.size a ≤ S3x11x3072.size a) ∧
  (∀ k0_t2 : Fin (k0_t2_loop v1_0).trips, ∀ a, (k0_off189 v1_0 k0_t2) a + S1x64x256.size a ≤ S3x704x3072.size a) ∧
  (∀ k0_t2 : Fin (k0_t2_loop v1_0).trips, ∀ a, (k0_off190 v1_0 k0_t2) a + S1x1x256.size a ≤ S3x11x3072.size a) ∧
  (∀ k0_t2 : Fin (k0_t2_loop v1_0).trips, ∀ a, (k0_off191 v1_0 k0_t2) a + S1x64x256.size a ≤ S3x704x3072.size a) ∧
  (∀ k0_t2 : Fin (k0_t2_loop v1_0).trips, ∀ a, (k0_off192 v1_0 k0_t2) a + S1x1x256.size a ≤ S3x11x3072.size a) ∧
  (∀ k0_t2 : Fin (k0_t2_loop v1_0).trips, ∀ a, (k0_off193 v1_0 k0_t2) a + S1x64x256.size a ≤ S3x704x3072.size a) ∧
  (∀ k0_t2 : Fin (k0_t2_loop v1_0).trips, ∀ a, (k0_off194 v1_0 k0_t2) a + S1x1x256.size a ≤ S3x11x3072.size a) ∧
  (∀ k0_t2 : Fin (k0_t2_loop v1_0).trips, ∀ a, (k0_off195 v1_0 k0_t2) a + S1x64x256.size a ≤ S3x704x3072.size a) ∧
  (∀ k0_t2 : Fin (k0_t2_loop v1_0).trips, ∀ a, (k0_off196 v1_0 k0_t2) a + S1x1x256.size a ≤ S3x11x3072.size a) ∧
  (∀ k0_t2 : Fin (k0_t2_loop v1_0).trips, ∀ a, (k0_off197 v1_0 k0_t2) a + S1x64x256.size a ≤ S3x704x3072.size a) ∧
  (∀ k0_t2 : Fin (k0_t2_loop v1_0).trips, ∀ a, (k0_off198 v1_0 k0_t2) a + S1x1x256.size a ≤ S3x11x3072.size a) ∧
  (∀ k0_t2 : Fin (k0_t2_loop v1_0).trips, ∀ a, (k0_off199 v1_0 k0_t2) a + S1x64x256.size a ≤ S3x704x3072.size a) ∧
  (∀ k0_t2 : Fin (k0_t2_loop v1_0).trips, ∀ a, (k0_off200 v1_0 k0_t2) a + S1x1x256.size a ≤ S3x11x3072.size a) ∧
  (∀ k0_t2 : Fin (k0_t2_loop v1_0).trips, ∀ a, (k0_off201 v1_0 k0_t2) a + S1x64x256.size a ≤ S3x704x3072.size a) ∧
  (∀ k0_t2 : Fin (k0_t2_loop v1_0).trips, ∀ a, (k0_off202 v1_0 k0_t2) a + S1x1x256.size a ≤ S3x11x3072.size a) ∧
  (∀ k0_t2 : Fin (k0_t2_loop v1_0).trips, ∀ a, (k0_off203 v1_0 k0_t2) a + S1x64x256.size a ≤ S3x704x3072.size a) ∧
  (∀ k0_t2 : Fin (k0_t2_loop v1_0).trips, ∀ a, (k0_off204 v1_0 k0_t2) a + S1x1x256.size a ≤ S3x11x3072.size a) ∧
  (∀ k0_t2 : Fin (k0_t2_loop v1_0).trips, ∀ a, (k0_off205 v1_0 k0_t2) a + S1x64x256.size a ≤ S3x704x3072.size a) ∧
  (∀ k0_t2 : Fin (k0_t2_loop v1_0).trips, ∀ a, (k0_off206 v1_0 k0_t2) a + S1x1x256.size a ≤ S3x11x3072.size a) ∧
  (∀ k0_t2 : Fin (k0_t2_loop v1_0).trips, ∀ a, (k0_off207 v1_0 k0_t2) a + S1x64x256.size a ≤ S3x704x3072.size a) ∧
  (∀ k0_t2 : Fin (k0_t2_loop v1_0).trips, ∀ a, (k0_off208 v1_0 k0_t2) a + S1x1x256.size a ≤ S3x11x3072.size a) ∧
  (∀ k0_t2 : Fin (k0_t2_loop v1_0).trips, ∀ a, (k0_off209 v1_0 k0_t2) a + S1x64x256.size a ≤ S3x704x3072.size a) ∧
  (∀ k0_t2 : Fin (k0_t2_loop v1_0).trips, ∀ a, (k0_off210 v1_0 k0_t2) a + S1x1x256.size a ≤ S3x11x3072.size a) ∧
  (∀ k0_t2 : Fin (k0_t2_loop v1_0).trips, ∀ a, (k0_off211 v1_0 k0_t2) a + S1x64x256.size a ≤ S3x704x3072.size a) ∧
  (∀ k0_t2 : Fin (k0_t2_loop v1_0).trips, ∀ a, (k0_off212 v1_0 k0_t2) a + S1x1x256.size a ≤ S3x11x3072.size a)
def k0_chk2_6 (v1_0 : BitVec 32) : Prop :=
  (∀ k0_t2 : Fin (k0_t2_loop v1_0).trips, ∀ a, (k0_off213 v1_0 k0_t2) a + S1x64x256.size a ≤ S3x704x3072.size a) ∧
  (∀ k0_t2 : Fin (k0_t2_loop v1_0).trips, ∀ a, (k0_off214 v1_0 k0_t2) a + S1x1x256.size a ≤ S3x11x3072.size a) ∧
  (∀ k0_t2 : Fin (k0_t2_loop v1_0).trips, ∀ a, (k0_off215 v1_0 k0_t2) a + S1x64x256.size a ≤ S3x704x3072.size a) ∧
  (∀ k0_t2 : Fin (k0_t2_loop v1_0).trips, ∀ a, (k0_off216 v1_0 k0_t2) a + S1x1x256.size a ≤ S3x11x3072.size a) ∧
  (∀ k0_t2 : Fin (k0_t2_loop v1_0).trips, ∀ a, (k0_off217 v1_0 k0_t2) a + S1x64x256.size a ≤ S3x704x3072.size a) ∧
  (∀ k0_t2 : Fin (k0_t2_loop v1_0).trips, ∀ a, (k0_off218 v1_0 k0_t2) a + S1x1x256.size a ≤ S3x11x3072.size a) ∧
  (∀ k0_t2 : Fin (k0_t2_loop v1_0).trips, ∀ a, (k0_off219 v1_0 k0_t2) a + S1x64x256.size a ≤ S3x704x3072.size a) ∧
  (∀ k0_t2 : Fin (k0_t2_loop v1_0).trips, ∀ a, (k0_off220 v1_0 k0_t2) a + S1x1x256.size a ≤ S3x11x3072.size a) ∧
  (∀ k0_t2 : Fin (k0_t2_loop v1_0).trips, ∀ a, (k0_off221 v1_0 k0_t2) a + S1x64x256.size a ≤ S3x704x3072.size a) ∧
  (∀ k0_t2 : Fin (k0_t2_loop v1_0).trips, ∀ a, (k0_off222 v1_0 k0_t2) a + S1x1x256.size a ≤ S3x11x3072.size a) ∧
  (∀ k0_t2 : Fin (k0_t2_loop v1_0).trips, ∀ a, (k0_off223 v1_0 k0_t2) a + S1x64x256.size a ≤ S3x704x3072.size a) ∧
  (∀ k0_t2 : Fin (k0_t2_loop v1_0).trips, ∀ a, (k0_off224 v1_0 k0_t2) a + S1x1x256.size a ≤ S3x11x3072.size a) ∧
  (∀ k0_t2 : Fin (k0_t2_loop v1_0).trips, ∀ a, (k0_off225 v1_0 k0_t2) a + S1x64x256.size a ≤ S3x704x3072.size a) ∧
  (∀ k0_t2 : Fin (k0_t2_loop v1_0).trips, ∀ a, (k0_off226 v1_0 k0_t2) a + S1x1x256.size a ≤ S3x11x3072.size a) ∧
  (∀ k0_t2 : Fin (k0_t2_loop v1_0).trips, ∀ a, (k0_off227 v1_0 k0_t2) a + S1x64x256.size a ≤ S3x704x3072.size a) ∧
  (∀ k0_t2 : Fin (k0_t2_loop v1_0).trips, ∀ a, (k0_off228 v1_0 k0_t2) a + S1x1x256.size a ≤ S3x11x3072.size a) ∧
  (∀ k0_t2 : Fin (k0_t2_loop v1_0).trips, ∀ a, (k0_off229 v1_0 k0_t2) a + S1x64x256.size a ≤ S3x704x3072.size a) ∧
  (∀ k0_t2 : Fin (k0_t2_loop v1_0).trips, ∀ a, (k0_off230 v1_0 k0_t2) a + S1x1x256.size a ≤ S3x11x3072.size a) ∧
  (∀ k0_t2 : Fin (k0_t2_loop v1_0).trips, ∀ a, (k0_off231 v1_0 k0_t2) a + S1x64x256.size a ≤ S3x704x3072.size a) ∧
  (∀ k0_t2 : Fin (k0_t2_loop v1_0).trips, ∀ a, (k0_off232 v1_0 k0_t2) a + S1x1x256.size a ≤ S3x11x3072.size a) ∧
  (∀ k0_t2 : Fin (k0_t2_loop v1_0).trips, ∀ a, (k0_off233 v1_0 k0_t2) a + S1x64x256.size a ≤ S3x704x3072.size a) ∧
  (∀ k0_t2 : Fin (k0_t2_loop v1_0).trips, ∀ a, (k0_off234 v1_0 k0_t2) a + S1x1x256.size a ≤ S3x11x3072.size a) ∧
  (∀ k0_t2 : Fin (k0_t2_loop v1_0).trips, ∀ a, (k0_off235 v1_0 k0_t2) a + S1x64x256.size a ≤ S3x704x3072.size a) ∧
  (∀ k0_t2 : Fin (k0_t2_loop v1_0).trips, ∀ a, (k0_off236 v1_0 k0_t2) a + S1x1x256.size a ≤ S3x11x3072.size a) ∧
  (∀ k0_t2 : Fin (k0_t2_loop v1_0).trips, ∀ a, (k0_off237 v1_0 k0_t2) a + S1x64x256.size a ≤ S3x704x3072.size a) ∧
  (∀ k0_t2 : Fin (k0_t2_loop v1_0).trips, ∀ a, (k0_off238 v1_0 k0_t2) a + S1x1x256.size a ≤ S3x11x3072.size a) ∧
  (∀ k0_t2 : Fin (k0_t2_loop v1_0).trips, ∀ a, (k0_off239 v1_0 k0_t2) a + S1x64x256.size a ≤ S3x704x3072.size a) ∧
  (∀ k0_t2 : Fin (k0_t2_loop v1_0).trips, ∀ a, (k0_off240 v1_0 k0_t2) a + S1x1x256.size a ≤ S3x11x3072.size a) ∧
  (∀ k0_t2 : Fin (k0_t2_loop v1_0).trips, ∀ a, (k0_off241 v1_0 k0_t2) a + S1x64x256.size a ≤ S3x704x3072.size a) ∧
  (∀ k0_t2 : Fin (k0_t2_loop v1_0).trips, ∀ a, (k0_off242 v1_0 k0_t2) a + S1x1x256.size a ≤ S3x11x3072.size a) ∧
  (∀ k0_t2 : Fin (k0_t2_loop v1_0).trips, ∀ a, (k0_off243 v1_0 k0_t2) a + S1x64x256.size a ≤ S3x704x3072.size a) ∧
  (∀ k0_t2 : Fin (k0_t2_loop v1_0).trips, ∀ a, (k0_off244 v1_0 k0_t2) a + S1x1x256.size a ≤ S3x11x3072.size a)
def k0_chk2_7 (v1_0 : BitVec 32) : Prop :=
  (∀ k0_t2 : Fin (k0_t2_loop v1_0).trips, ∀ a, (k0_off245 v1_0 k0_t2) a + S1x64x256.size a ≤ S3x704x3072.size a) ∧
  (∀ k0_t2 : Fin (k0_t2_loop v1_0).trips, ∀ a, (k0_off246 v1_0 k0_t2) a + S1x1x256.size a ≤ S3x11x3072.size a) ∧
  (∀ k0_t2 : Fin (k0_t2_loop v1_0).trips, ∀ a, (k0_off247 v1_0 k0_t2) a + S1x64x256.size a ≤ S3x704x3072.size a) ∧
  (∀ k0_t2 : Fin (k0_t2_loop v1_0).trips, ∀ a, (k0_off248 v1_0 k0_t2) a + S1x1x256.size a ≤ S3x11x3072.size a) ∧
  (∀ k0_t2 : Fin (k0_t2_loop v1_0).trips, ∀ a, (k0_off249 v1_0 k0_t2) a + S1x64x256.size a ≤ S3x704x3072.size a) ∧
  (∀ k0_t2 : Fin (k0_t2_loop v1_0).trips, ∀ a, (k0_off250 v1_0 k0_t2) a + S1x1x256.size a ≤ S3x11x3072.size a) ∧
  (∀ k0_t2 : Fin (k0_t2_loop v1_0).trips, ∀ a, (k0_off251 v1_0 k0_t2) a + S1x64x256.size a ≤ S3x704x3072.size a) ∧
  (∀ k0_t2 : Fin (k0_t2_loop v1_0).trips, ∀ a, (k0_off252 v1_0 k0_t2) a + S1x1x256.size a ≤ S3x11x3072.size a) ∧
  (∀ k0_t2 : Fin (k0_t2_loop v1_0).trips, ∀ a, (k0_off253 v1_0 k0_t2) a + S1x64x256.size a ≤ S3x704x3072.size a) ∧
  (∀ k0_t2 : Fin (k0_t2_loop v1_0).trips, ∀ a, (k0_off254 v1_0 k0_t2) a + S1x1x256.size a ≤ S3x11x3072.size a) ∧
  (∀ k0_t2 : Fin (k0_t2_loop v1_0).trips, ∀ a, (k0_off255 v1_0 k0_t2) a + S1x64x256.size a ≤ S3x704x3072.size a) ∧
  (∀ k0_t2 : Fin (k0_t2_loop v1_0).trips, ∀ a, (k0_off256 v1_0 k0_t2) a + S1x1x256.size a ≤ S3x11x3072.size a) ∧
  (∀ k0_t2 : Fin (k0_t2_loop v1_0).trips, ∀ a, (k0_off257 v1_0 k0_t2) a + S1x64x256.size a ≤ S3x704x3072.size a) ∧
  (∀ k0_t2 : Fin (k0_t2_loop v1_0).trips, ∀ a, (k0_off258 v1_0 k0_t2) a + S1x1x256.size a ≤ S3x11x3072.size a) ∧
  (∀ k0_t2 : Fin (k0_t2_loop v1_0).trips, ∀ a, (k0_off259 v1_0 k0_t2) a + S1x64x256.size a ≤ S3x704x3072.size a) ∧
  (∀ k0_t2 : Fin (k0_t2_loop v1_0).trips, ∀ a, (k0_off260 v1_0 k0_t2) a + S1x1x256.size a ≤ S3x11x3072.size a) ∧
  (∀ k0_t2 : Fin (k0_t2_loop v1_0).trips, ∀ a, (k0_off261 v1_0 k0_t2) a + S1x64x256.size a ≤ S3x704x3072.size a) ∧
  (∀ k0_t2 : Fin (k0_t2_loop v1_0).trips, ∀ a, (k0_off262 v1_0 k0_t2) a + S1x1x256.size a ≤ S3x11x3072.size a) ∧
  (∀ k0_t2 : Fin (k0_t2_loop v1_0).trips, ∀ a, (k0_off263 v1_0 k0_t2) a + S1x64x256.size a ≤ S3x704x3072.size a) ∧
  (∀ k0_t2 : Fin (k0_t2_loop v1_0).trips, ∀ a, (k0_off264 v1_0 k0_t2) a + S1x1x256.size a ≤ S3x11x3072.size a) ∧
  (∀ k0_t2 : Fin (k0_t2_loop v1_0).trips, ∀ a, (k0_off265 v1_0 k0_t2) a + S1x64x256.size a ≤ S3x704x3072.size a) ∧
  (∀ k0_t2 : Fin (k0_t2_loop v1_0).trips, ∀ a, (k0_off266 v1_0 k0_t2) a + S1x1x256.size a ≤ S3x11x3072.size a) ∧
  (∀ k0_t2 : Fin (k0_t2_loop v1_0).trips, ∀ a, (k0_off267 v1_0 k0_t2) a + S1x64x256.size a ≤ S3x704x3072.size a) ∧
  (∀ k0_t2 : Fin (k0_t2_loop v1_0).trips, ∀ a, (k0_off268 v1_0 k0_t2) a + S1x1x256.size a ≤ S3x11x3072.size a) ∧
  (∀ k0_t2 : Fin (k0_t2_loop v1_0).trips, ∀ a, (k0_off269 v1_0 k0_t2) a + S1x64x256.size a ≤ S3x704x3072.size a) ∧
  (∀ k0_t2 : Fin (k0_t2_loop v1_0).trips, ∀ a, (k0_off270 v1_0 k0_t2) a + S1x1x256.size a ≤ S3x11x3072.size a) ∧
  (∀ k0_t2 : Fin (k0_t2_loop v1_0).trips, ∀ a, (k0_off271 v1_0 k0_t2) a + S1x64x256.size a ≤ S3x704x3072.size a) ∧
  (∀ k0_t2 : Fin (k0_t2_loop v1_0).trips, ∀ a, (k0_off272 v1_0 k0_t2) a + S1x1x256.size a ≤ S3x11x3072.size a) ∧
  (∀ k0_t2 : Fin (k0_t2_loop v1_0).trips, ∀ a, (k0_off273 v1_0 k0_t2) a + S1x64x256.size a ≤ S3x704x3072.size a) ∧
  (∀ k0_t2 : Fin (k0_t2_loop v1_0).trips, ∀ a, (k0_off274 v1_0 k0_t2) a + S1x1x256.size a ≤ S3x11x3072.size a) ∧
  (∀ k0_t2 : Fin (k0_t2_loop v1_0).trips, ∀ a, (k0_off275 v1_0 k0_t2) a + S1x64x256.size a ≤ S3x704x3072.size a) ∧
  (∀ k0_t2 : Fin (k0_t2_loop v1_0).trips, ∀ a, (k0_off276 v1_0 k0_t2) a + S1x1x256.size a ≤ S3x11x3072.size a)
def k0_chk2_8 (v1_0 : BitVec 32) : Prop :=
  (∀ k0_t2 : Fin (k0_t2_loop v1_0).trips, ∀ a, (k0_off277 v1_0 k0_t2) a + S1x64x256.size a ≤ S3x704x3072.size a) ∧
  (∀ k0_t2 : Fin (k0_t2_loop v1_0).trips, ∀ a, (k0_off278 v1_0 k0_t2) a + S1x1x256.size a ≤ S3x11x3072.size a) ∧
  (∀ k0_t2 : Fin (k0_t2_loop v1_0).trips, ∀ a, (k0_off279 v1_0 k0_t2) a + S1x64x256.size a ≤ S3x704x3072.size a) ∧
  (∀ k0_t2 : Fin (k0_t2_loop v1_0).trips, ∀ a, (k0_off280 v1_0 k0_t2) a + S1x1x256.size a ≤ S3x11x3072.size a) ∧
  (∀ k0_t2 : Fin (k0_t2_loop v1_0).trips, ∀ a, (k0_off281 v1_0 k0_t2) a + S1x64x256.size a ≤ S3x704x3072.size a) ∧
  (∀ k0_t2 : Fin (k0_t2_loop v1_0).trips, ∀ a, (k0_off282 v1_0 k0_t2) a + S1x1x256.size a ≤ S3x11x3072.size a) ∧
  (∀ k0_t2 : Fin (k0_t2_loop v1_0).trips, ∀ a, (k0_off283 v1_0 k0_t2) a + S1x64x256.size a ≤ S3x704x3072.size a) ∧
  (∀ k0_t2 : Fin (k0_t2_loop v1_0).trips, ∀ a, (k0_off284 v1_0 k0_t2) a + S1x1x256.size a ≤ S3x11x3072.size a) ∧
  (∀ k0_t2 : Fin (k0_t2_loop v1_0).trips, ∀ a, (k0_off285 v1_0 k0_t2) a + S1x64x256.size a ≤ S3x704x3072.size a) ∧
  (∀ k0_t2 : Fin (k0_t2_loop v1_0).trips, ∀ a, (k0_off286 v1_0 k0_t2) a + S1x1x256.size a ≤ S3x11x3072.size a) ∧
  (∀ k0_t2 : Fin (k0_t2_loop v1_0).trips, ∀ a, (k0_off287 v1_0 k0_t2) a + S1x64x256.size a ≤ S3x704x3072.size a) ∧
  (∀ k0_t2 : Fin (k0_t2_loop v1_0).trips, ∀ a, (k0_off288 v1_0 k0_t2) a + S1x1x256.size a ≤ S3x11x3072.size a) ∧
  (∀ k0_t2 : Fin (k0_t2_loop v1_0).trips, ∀ a, (k0_off289 v1_0 k0_t2) a + S1x64x256.size a ≤ S3x704x3072.size a) ∧
  (∀ k0_t2 : Fin (k0_t2_loop v1_0).trips, ∀ a, (k0_off290 v1_0 k0_t2) a + S1x1x256.size a ≤ S3x11x3072.size a) ∧
  (∀ k0_t2 : Fin (k0_t2_loop v1_0).trips, ∀ a, (k0_off291 v1_0 k0_t2) a + S1x64x256.size a ≤ S3x704x3072.size a) ∧
  (∀ k0_t2 : Fin (k0_t2_loop v1_0).trips, ∀ a, (k0_off292 v1_0 k0_t2) a + S1x1x256.size a ≤ S3x11x3072.size a) ∧
  (∀ k0_t2 : Fin (k0_t2_loop v1_0).trips, ∀ a, (k0_off293 v1_0 k0_t2) a + S1x64x256.size a ≤ S3x704x3072.size a) ∧
  (∀ k0_t2 : Fin (k0_t2_loop v1_0).trips, ∀ a, (k0_off294 v1_0 k0_t2) a + S1x1x256.size a ≤ S3x11x3072.size a) ∧
  (∀ k0_t2 : Fin (k0_t2_loop v1_0).trips, ∀ (k0_h4 : k0_cond4 v1_0 k0_t2 = 1#1), ∀ a, (k0_off295 v1_0 k0_t2) a + S1.size a ≤ S65.size a) ∧
  (∀ k0_t2 : Fin (k0_t2_loop v1_0).trips, ∀ (k0_h4 : k0_cond4 v1_0 k0_t2 = 1#1), ∀ a, (k0_off296 v1_0 k0_t2) a + S1x1.size a ≤ S2x3.size a) ∧
  (∀ k0_t2 : Fin (k0_t2_loop v1_0).trips, ∀ (k0_h4 : k0_cond4 v1_0 k0_t2 = 1#1), ∀ a, (k0_off297 v1_0 k0_t2) a + S1x704x3072.size a ≤ S3x704x3072.size a) ∧
  (∀ k0_t2 : Fin (k0_t2_loop v1_0).trips, ∀ (k0_h4 : k0_cond4 v1_0 k0_t2 = 1#1), ∀ (hinb : ∀ a, (k0_off297 v1_0 k0_t2) a + S1x704x3072.size a ≤ S3x704x3072.size a), (Rect.unit (s := S3x704x3072) (k0_off297 v1_0 k0_t2) S1x704x3072.size hinb).WholeWords (EltTy.packing .i8)) ∧
  (∀ k0_t2 : Fin (k0_t2_loop v1_0).trips, ∀ (k0_h4 : k0_cond4 v1_0 k0_t2 = 1#1), ∀ a, (k0_off299 v1_0 k0_t2) a + S1x1.size a ≤ S2x3.size a) ∧
  (∀ k0_t2 : Fin (k0_t2_loop v1_0).trips, ∀ (k0_h4 : k0_cond4 v1_0 k0_t2 = 1#1), ∀ a, (k0_off300 v1_0 k0_t2) a + S1x11x3072.size a ≤ S3x11x3072.size a) ∧
  ((k0_t3_loop v1_0).OK) ∧
  (∀ k0_t3 : Fin (k0_t3_loop v1_0).trips, ∀ a, (k0_off302 v1_0 k0_t3) a + S1.size a ≤ S65.size a) ∧
  (∀ k0_t3 : Fin (k0_t3_loop v1_0).trips, ∀ a, (k0_off303 v1_0 k0_t3) a + S1x1.size a ≤ S2x3.size a) ∧
  (∀ k0_t3 : Fin (k0_t3_loop v1_0).trips, ∀ a, (k0_off304 v1_0 k0_t3) a + S1x704x3072.size a ≤ S3x704x3072.size a) ∧
  (∀ k0_t3 : Fin (k0_t3_loop v1_0).trips, ∀ (hinb : ∀ a, (k0_off304 v1_0 k0_t3) a + S1x704x3072.size a ≤ S3x704x3072.size a), (Rect.unit (s := S3x704x3072) (k0_off304 v1_0 k0_t3) S1x704x3072.size hinb).WholeWords (EltTy.packing .i8)) ∧
  (∀ k0_t3 : Fin (k0_t3_loop v1_0).trips, ∀ a, (k0_off306 v1_0 k0_t3) a + S1x1.size a ≤ S2x3.size a) ∧
  (∀ k0_t3 : Fin (k0_t3_loop v1_0).trips, ∀ a, (k0_off307 v1_0 k0_t3) a + S1x11x3072.size a ≤ S3x11x3072.size a) ∧
  (∀ k0_t3 : Fin (k0_t3_loop v1_0).trips, ∀ a, (k0_off309 v1_0 k0_t3) a + S1.size a ≤ S65.size a)
def k0_chk2_9 (v1_0 : BitVec 32) : Prop :=
  (∀ k0_t3 : Fin (k0_t3_loop v1_0).trips, ∀ a, (k0_off310 v1_0 k0_t3) a + S1.size a ≤ S65.size a) ∧
  (∀ k0_t3 : Fin (k0_t3_loop v1_0).trips, ∀ a, (k0_off311 v1_0 k0_t3) a + S1x64x256.size a ≤ S3x704x3072.size a) ∧
  (∀ k0_t3 : Fin (k0_t3_loop v1_0).trips, ∀ a, (k0_off312 v1_0 k0_t3) a + S1x1x256.size a ≤ S3x11x3072.size a) ∧
  (∀ k0_t3 : Fin (k0_t3_loop v1_0).trips, ∀ a, (k0_off313 v1_0 k0_t3) a + S1x64x256.size a ≤ S3x704x3072.size a) ∧
  (∀ k0_t3 : Fin (k0_t3_loop v1_0).trips, ∀ a, (k0_off314 v1_0 k0_t3) a + S1x1x256.size a ≤ S3x11x3072.size a) ∧
  (∀ k0_t3 : Fin (k0_t3_loop v1_0).trips, ∀ a, (k0_off315 v1_0 k0_t3) a + S1x64x256.size a ≤ S3x704x3072.size a) ∧
  (∀ k0_t3 : Fin (k0_t3_loop v1_0).trips, ∀ a, (k0_off316 v1_0 k0_t3) a + S1x1x256.size a ≤ S3x11x3072.size a) ∧
  (∀ k0_t3 : Fin (k0_t3_loop v1_0).trips, ∀ a, (k0_off317 v1_0 k0_t3) a + S1x64x256.size a ≤ S3x704x3072.size a) ∧
  (∀ k0_t3 : Fin (k0_t3_loop v1_0).trips, ∀ a, (k0_off318 v1_0 k0_t3) a + S1x1x256.size a ≤ S3x11x3072.size a) ∧
  (∀ k0_t3 : Fin (k0_t3_loop v1_0).trips, ∀ a, (k0_off319 v1_0 k0_t3) a + S1x64x256.size a ≤ S3x704x3072.size a) ∧
  (∀ k0_t3 : Fin (k0_t3_loop v1_0).trips, ∀ a, (k0_off320 v1_0 k0_t3) a + S1x1x256.size a ≤ S3x11x3072.size a) ∧
  (∀ k0_t3 : Fin (k0_t3_loop v1_0).trips, ∀ a, (k0_off321 v1_0 k0_t3) a + S1x64x256.size a ≤ S3x704x3072.size a) ∧
  (∀ k0_t3 : Fin (k0_t3_loop v1_0).trips, ∀ a, (k0_off322 v1_0 k0_t3) a + S1x1x256.size a ≤ S3x11x3072.size a) ∧
  (∀ k0_t3 : Fin (k0_t3_loop v1_0).trips, ∀ a, (k0_off323 v1_0 k0_t3) a + S1x64x256.size a ≤ S3x704x3072.size a) ∧
  (∀ k0_t3 : Fin (k0_t3_loop v1_0).trips, ∀ a, (k0_off324 v1_0 k0_t3) a + S1x1x256.size a ≤ S3x11x3072.size a) ∧
  (∀ k0_t3 : Fin (k0_t3_loop v1_0).trips, ∀ a, (k0_off325 v1_0 k0_t3) a + S1x64x256.size a ≤ S3x704x3072.size a) ∧
  (∀ k0_t3 : Fin (k0_t3_loop v1_0).trips, ∀ a, (k0_off326 v1_0 k0_t3) a + S1x1x256.size a ≤ S3x11x3072.size a) ∧
  (∀ k0_t3 : Fin (k0_t3_loop v1_0).trips, ∀ a, (k0_off327 v1_0 k0_t3) a + S1x64x256.size a ≤ S3x704x3072.size a) ∧
  (∀ k0_t3 : Fin (k0_t3_loop v1_0).trips, ∀ a, (k0_off328 v1_0 k0_t3) a + S1x1x256.size a ≤ S3x11x3072.size a) ∧
  (∀ k0_t3 : Fin (k0_t3_loop v1_0).trips, ∀ a, (k0_off329 v1_0 k0_t3) a + S1x64x256.size a ≤ S3x704x3072.size a) ∧
  (∀ k0_t3 : Fin (k0_t3_loop v1_0).trips, ∀ a, (k0_off330 v1_0 k0_t3) a + S1x1x256.size a ≤ S3x11x3072.size a) ∧
  (∀ k0_t3 : Fin (k0_t3_loop v1_0).trips, ∀ a, (k0_off331 v1_0 k0_t3) a + S1x64x256.size a ≤ S3x704x3072.size a) ∧
  (∀ k0_t3 : Fin (k0_t3_loop v1_0).trips, ∀ a, (k0_off332 v1_0 k0_t3) a + S1x1x256.size a ≤ S3x11x3072.size a) ∧
  (∀ k0_t3 : Fin (k0_t3_loop v1_0).trips, ∀ a, (k0_off333 v1_0 k0_t3) a + S1x64x256.size a ≤ S3x704x3072.size a) ∧
  (∀ k0_t3 : Fin (k0_t3_loop v1_0).trips, ∀ a, (k0_off334 v1_0 k0_t3) a + S1x1x256.size a ≤ S3x11x3072.size a) ∧
  (∀ k0_t3 : Fin (k0_t3_loop v1_0).trips, ∀ a, (k0_off335 v1_0 k0_t3) a + S1x64x256.size a ≤ S3x704x3072.size a) ∧
  (∀ k0_t3 : Fin (k0_t3_loop v1_0).trips, ∀ a, (k0_off336 v1_0 k0_t3) a + S1x1x256.size a ≤ S3x11x3072.size a) ∧
  (∀ k0_t3 : Fin (k0_t3_loop v1_0).trips, ∀ a, (k0_off337 v1_0 k0_t3) a + S1x64x256.size a ≤ S3x704x3072.size a) ∧
  (∀ k0_t3 : Fin (k0_t3_loop v1_0).trips, ∀ a, (k0_off338 v1_0 k0_t3) a + S1x1x256.size a ≤ S3x11x3072.size a) ∧
  (∀ k0_t3 : Fin (k0_t3_loop v1_0).trips, ∀ a, (k0_off339 v1_0 k0_t3) a + S1x64x256.size a ≤ S3x704x3072.size a) ∧
  (∀ k0_t3 : Fin (k0_t3_loop v1_0).trips, ∀ a, (k0_off340 v1_0 k0_t3) a + S1x1x256.size a ≤ S3x11x3072.size a) ∧
  (∀ k0_t3 : Fin (k0_t3_loop v1_0).trips, ∀ a, (k0_off341 v1_0 k0_t3) a + S1x64x256.size a ≤ S3x704x3072.size a)
def k0_chk2_10 (v1_0 : BitVec 32) : Prop :=
  (∀ k0_t3 : Fin (k0_t3_loop v1_0).trips, ∀ a, (k0_off342 v1_0 k0_t3) a + S1x1x256.size a ≤ S3x11x3072.size a) ∧
  (∀ k0_t3 : Fin (k0_t3_loop v1_0).trips, ∀ a, (k0_off343 v1_0 k0_t3) a + S1x64x256.size a ≤ S3x704x3072.size a) ∧
  (∀ k0_t3 : Fin (k0_t3_loop v1_0).trips, ∀ a, (k0_off344 v1_0 k0_t3) a + S1x1x256.size a ≤ S3x11x3072.size a) ∧
  (∀ k0_t3 : Fin (k0_t3_loop v1_0).trips, ∀ a, (k0_off345 v1_0 k0_t3) a + S1x64x256.size a ≤ S3x704x3072.size a) ∧
  (∀ k0_t3 : Fin (k0_t3_loop v1_0).trips, ∀ a, (k0_off346 v1_0 k0_t3) a + S1x1x256.size a ≤ S3x11x3072.size a) ∧
  (∀ k0_t3 : Fin (k0_t3_loop v1_0).trips, ∀ a, (k0_off347 v1_0 k0_t3) a + S1x64x256.size a ≤ S3x704x3072.size a) ∧
  (∀ k0_t3 : Fin (k0_t3_loop v1_0).trips, ∀ a, (k0_off348 v1_0 k0_t3) a + S1x1x256.size a ≤ S3x11x3072.size a) ∧
  (∀ k0_t3 : Fin (k0_t3_loop v1_0).trips, ∀ a, (k0_off349 v1_0 k0_t3) a + S1x64x256.size a ≤ S3x704x3072.size a) ∧
  (∀ k0_t3 : Fin (k0_t3_loop v1_0).trips, ∀ a, (k0_off350 v1_0 k0_t3) a + S1x1x256.size a ≤ S3x11x3072.size a) ∧
  (∀ k0_t3 : Fin (k0_t3_loop v1_0).trips, ∀ a, (k0_off351 v1_0 k0_t3) a + S1x64x256.size a ≤ S3x704x3072.size a) ∧
  (∀ k0_t3 : Fin (k0_t3_loop v1_0).trips, ∀ a, (k0_off352 v1_0 k0_t3) a + S1x1x256.size a ≤ S3x11x3072.size a) ∧
  (∀ k0_t3 : Fin (k0_t3_loop v1_0).trips, ∀ a, (k0_off353 v1_0 k0_t3) a + S1x64x256.size a ≤ S3x704x3072.size a) ∧
  (∀ k0_t3 : Fin (k0_t3_loop v1_0).trips, ∀ a, (k0_off354 v1_0 k0_t3) a + S1x1x256.size a ≤ S3x11x3072.size a) ∧
  (∀ k0_t3 : Fin (k0_t3_loop v1_0).trips, ∀ a, (k0_off355 v1_0 k0_t3) a + S1x64x256.size a ≤ S3x704x3072.size a) ∧
  (∀ k0_t3 : Fin (k0_t3_loop v1_0).trips, ∀ a, (k0_off356 v1_0 k0_t3) a + S1x1x256.size a ≤ S3x11x3072.size a) ∧
  (∀ k0_t3 : Fin (k0_t3_loop v1_0).trips, ∀ a, (k0_off357 v1_0 k0_t3) a + S1x64x256.size a ≤ S3x704x3072.size a) ∧
  (∀ k0_t3 : Fin (k0_t3_loop v1_0).trips, ∀ a, (k0_off358 v1_0 k0_t3) a + S1x1x256.size a ≤ S3x11x3072.size a) ∧
  (∀ k0_t3 : Fin (k0_t3_loop v1_0).trips, ∀ a, (k0_off359 v1_0 k0_t3) a + S1x64x256.size a ≤ S3x704x3072.size a) ∧
  (∀ k0_t3 : Fin (k0_t3_loop v1_0).trips, ∀ a, (k0_off360 v1_0 k0_t3) a + S1x1x256.size a ≤ S3x11x3072.size a) ∧
  (∀ k0_t3 : Fin (k0_t3_loop v1_0).trips, ∀ a, (k0_off361 v1_0 k0_t3) a + S1x64x256.size a ≤ S3x704x3072.size a) ∧
  (∀ k0_t3 : Fin (k0_t3_loop v1_0).trips, ∀ a, (k0_off362 v1_0 k0_t3) a + S1x1x256.size a ≤ S3x11x3072.size a) ∧
  (∀ k0_t3 : Fin (k0_t3_loop v1_0).trips, ∀ a, (k0_off363 v1_0 k0_t3) a + S1x64x256.size a ≤ S3x704x3072.size a) ∧
  (∀ k0_t3 : Fin (k0_t3_loop v1_0).trips, ∀ a, (k0_off364 v1_0 k0_t3) a + S1x1x256.size a ≤ S3x11x3072.size a) ∧
  (∀ k0_t3 : Fin (k0_t3_loop v1_0).trips, ∀ a, (k0_off365 v1_0 k0_t3) a + S1x64x256.size a ≤ S3x704x3072.size a) ∧
  (∀ k0_t3 : Fin (k0_t3_loop v1_0).trips, ∀ a, (k0_off366 v1_0 k0_t3) a + S1x1x256.size a ≤ S3x11x3072.size a) ∧
  (∀ k0_t3 : Fin (k0_t3_loop v1_0).trips, ∀ a, (k0_off367 v1_0 k0_t3) a + S1x64x256.size a ≤ S3x704x3072.size a) ∧
  (∀ k0_t3 : Fin (k0_t3_loop v1_0).trips, ∀ a, (k0_off368 v1_0 k0_t3) a + S1x1x256.size a ≤ S3x11x3072.size a) ∧
  (∀ k0_t3 : Fin (k0_t3_loop v1_0).trips, ∀ a, (k0_off369 v1_0 k0_t3) a + S1x64x256.size a ≤ S3x704x3072.size a) ∧
  (∀ k0_t3 : Fin (k0_t3_loop v1_0).trips, ∀ a, (k0_off370 v1_0 k0_t3) a + S1x1x256.size a ≤ S3x11x3072.size a) ∧
  (∀ k0_t3 : Fin (k0_t3_loop v1_0).trips, ∀ a, (k0_off371 v1_0 k0_t3) a + S1x64x256.size a ≤ S3x704x3072.size a) ∧
  (∀ k0_t3 : Fin (k0_t3_loop v1_0).trips, ∀ a, (k0_off372 v1_0 k0_t3) a + S1x1x256.size a ≤ S3x11x3072.size a) ∧
  (∀ k0_t3 : Fin (k0_t3_loop v1_0).trips, ∀ a, (k0_off373 v1_0 k0_t3) a + S1x64x256.size a ≤ S3x704x3072.size a)
def k0_chk2_11 (v1_0 : BitVec 32) : Prop :=
  (∀ k0_t3 : Fin (k0_t3_loop v1_0).trips, ∀ a, (k0_off374 v1_0 k0_t3) a + S1x1x256.size a ≤ S3x11x3072.size a) ∧
  (∀ k0_t3 : Fin (k0_t3_loop v1_0).trips, ∀ a, (k0_off375 v1_0 k0_t3) a + S1x64x256.size a ≤ S3x704x3072.size a) ∧
  (∀ k0_t3 : Fin (k0_t3_loop v1_0).trips, ∀ a, (k0_off376 v1_0 k0_t3) a + S1x1x256.size a ≤ S3x11x3072.size a) ∧
  (∀ k0_t3 : Fin (k0_t3_loop v1_0).trips, ∀ a, (k0_off377 v1_0 k0_t3) a + S1x64x256.size a ≤ S3x704x3072.size a) ∧
  (∀ k0_t3 : Fin (k0_t3_loop v1_0).trips, ∀ a, (k0_off378 v1_0 k0_t3) a + S1x1x256.size a ≤ S3x11x3072.size a) ∧
  (∀ k0_t3 : Fin (k0_t3_loop v1_0).trips, ∀ a, (k0_off379 v1_0 k0_t3) a + S1x64x256.size a ≤ S3x704x3072.size a) ∧
  (∀ k0_t3 : Fin (k0_t3_loop v1_0).trips, ∀ a, (k0_off380 v1_0 k0_t3) a + S1x1x256.size a ≤ S3x11x3072.size a) ∧
  (∀ k0_t3 : Fin (k0_t3_loop v1_0).trips, ∀ a, (k0_off381 v1_0 k0_t3) a + S1x64x256.size a ≤ S3x704x3072.size a) ∧
  (∀ k0_t3 : Fin (k0_t3_loop v1_0).trips, ∀ a, (k0_off382 v1_0 k0_t3) a + S1x1x256.size a ≤ S3x11x3072.size a) ∧
  (∀ k0_t3 : Fin (k0_t3_loop v1_0).trips, ∀ a, (k0_off383 v1_0 k0_t3) a + S1x64x256.size a ≤ S3x704x3072.size a) ∧
  (∀ k0_t3 : Fin (k0_t3_loop v1_0).trips, ∀ a, (k0_off384 v1_0 k0_t3) a + S1x1x256.size a ≤ S3x11x3072.size a) ∧
  (∀ k0_t3 : Fin (k0_t3_loop v1_0).trips, ∀ a, (k0_off385 v1_0 k0_t3) a + S1x64x256.size a ≤ S3x704x3072.size a) ∧
  (∀ k0_t3 : Fin (k0_t3_loop v1_0).trips, ∀ a, (k0_off386 v1_0 k0_t3) a + S1x1x256.size a ≤ S3x11x3072.size a) ∧
  (∀ k0_t3 : Fin (k0_t3_loop v1_0).trips, ∀ a, (k0_off387 v1_0 k0_t3) a + S1x64x256.size a ≤ S3x704x3072.size a) ∧
  (∀ k0_t3 : Fin (k0_t3_loop v1_0).trips, ∀ a, (k0_off388 v1_0 k0_t3) a + S1x1x256.size a ≤ S3x11x3072.size a) ∧
  (∀ k0_t3 : Fin (k0_t3_loop v1_0).trips, ∀ a, (k0_off389 v1_0 k0_t3) a + S1x64x256.size a ≤ S3x704x3072.size a) ∧
  (∀ k0_t3 : Fin (k0_t3_loop v1_0).trips, ∀ a, (k0_off390 v1_0 k0_t3) a + S1x1x256.size a ≤ S3x11x3072.size a) ∧
  (∀ k0_t3 : Fin (k0_t3_loop v1_0).trips, ∀ a, (k0_off391 v1_0 k0_t3) a + S1x64x256.size a ≤ S3x704x3072.size a) ∧
  (∀ k0_t3 : Fin (k0_t3_loop v1_0).trips, ∀ a, (k0_off392 v1_0 k0_t3) a + S1x1x256.size a ≤ S3x11x3072.size a) ∧
  (∀ k0_t3 : Fin (k0_t3_loop v1_0).trips, ∀ a, (k0_off393 v1_0 k0_t3) a + S1x64x256.size a ≤ S3x704x3072.size a) ∧
  (∀ k0_t3 : Fin (k0_t3_loop v1_0).trips, ∀ a, (k0_off394 v1_0 k0_t3) a + S1x1x256.size a ≤ S3x11x3072.size a) ∧
  (∀ k0_t3 : Fin (k0_t3_loop v1_0).trips, ∀ a, (k0_off395 v1_0 k0_t3) a + S1x64x256.size a ≤ S3x704x3072.size a) ∧
  (∀ k0_t3 : Fin (k0_t3_loop v1_0).trips, ∀ a, (k0_off396 v1_0 k0_t3) a + S1x1x256.size a ≤ S3x11x3072.size a) ∧
  (∀ k0_t3 : Fin (k0_t3_loop v1_0).trips, ∀ a, (k0_off397 v1_0 k0_t3) a + S1x64x256.size a ≤ S3x704x3072.size a) ∧
  (∀ k0_t3 : Fin (k0_t3_loop v1_0).trips, ∀ a, (k0_off398 v1_0 k0_t3) a + S1x1x256.size a ≤ S3x11x3072.size a) ∧
  (∀ k0_t3 : Fin (k0_t3_loop v1_0).trips, ∀ a, (k0_off399 v1_0 k0_t3) a + S1x64x256.size a ≤ S3x704x3072.size a) ∧
  (∀ k0_t3 : Fin (k0_t3_loop v1_0).trips, ∀ a, (k0_off400 v1_0 k0_t3) a + S1x1x256.size a ≤ S3x11x3072.size a) ∧
  (∀ k0_t3 : Fin (k0_t3_loop v1_0).trips, ∀ a, (k0_off401 v1_0 k0_t3) a + S1x64x256.size a ≤ S3x704x3072.size a) ∧
  (∀ k0_t3 : Fin (k0_t3_loop v1_0).trips, ∀ a, (k0_off402 v1_0 k0_t3) a + S1x1x256.size a ≤ S3x11x3072.size a) ∧
  (∀ k0_t3 : Fin (k0_t3_loop v1_0).trips, ∀ a, (k0_off403 v1_0 k0_t3) a + S1x64x256.size a ≤ S3x704x3072.size a) ∧
  (∀ k0_t3 : Fin (k0_t3_loop v1_0).trips, ∀ a, (k0_off404 v1_0 k0_t3) a + S1x1x256.size a ≤ S3x11x3072.size a) ∧
  (∀ k0_t3 : Fin (k0_t3_loop v1_0).trips, ∀ a, (k0_off405 v1_0 k0_t3) a + S1x64x256.size a ≤ S3x704x3072.size a)
def k0_chk2_12 (v1_0 : BitVec 32) : Prop :=
  (∀ k0_t3 : Fin (k0_t3_loop v1_0).trips, ∀ a, (k0_off406 v1_0 k0_t3) a + S1x1x256.size a ≤ S3x11x3072.size a) ∧
  (∀ k0_t3 : Fin (k0_t3_loop v1_0).trips, ∀ a, (k0_off407 v1_0 k0_t3) a + S1x64x256.size a ≤ S3x704x3072.size a) ∧
  (∀ k0_t3 : Fin (k0_t3_loop v1_0).trips, ∀ a, (k0_off408 v1_0 k0_t3) a + S1x1x256.size a ≤ S3x11x3072.size a) ∧
  (∀ k0_t3 : Fin (k0_t3_loop v1_0).trips, ∀ a, (k0_off409 v1_0 k0_t3) a + S1x64x256.size a ≤ S3x704x3072.size a) ∧
  (∀ k0_t3 : Fin (k0_t3_loop v1_0).trips, ∀ a, (k0_off410 v1_0 k0_t3) a + S1x1x256.size a ≤ S3x11x3072.size a) ∧
  (∀ k0_t3 : Fin (k0_t3_loop v1_0).trips, ∀ a, (k0_off411 v1_0 k0_t3) a + S1x64x256.size a ≤ S3x704x3072.size a) ∧
  (∀ k0_t3 : Fin (k0_t3_loop v1_0).trips, ∀ a, (k0_off412 v1_0 k0_t3) a + S1x1x256.size a ≤ S3x11x3072.size a) ∧
  (∀ k0_t3 : Fin (k0_t3_loop v1_0).trips, ∀ a, (k0_off413 v1_0 k0_t3) a + S1x64x256.size a ≤ S3x704x3072.size a) ∧
  (∀ k0_t3 : Fin (k0_t3_loop v1_0).trips, ∀ a, (k0_off414 v1_0 k0_t3) a + S1x1x256.size a ≤ S3x11x3072.size a) ∧
  (∀ k0_t3 : Fin (k0_t3_loop v1_0).trips, ∀ a, (k0_off415 v1_0 k0_t3) a + S1x64x256.size a ≤ S3x704x3072.size a) ∧
  (∀ k0_t3 : Fin (k0_t3_loop v1_0).trips, ∀ a, (k0_off416 v1_0 k0_t3) a + S1x1x256.size a ≤ S3x11x3072.size a) ∧
  (∀ k0_t3 : Fin (k0_t3_loop v1_0).trips, ∀ a, (k0_off417 v1_0 k0_t3) a + S1x64x256.size a ≤ S3x704x3072.size a) ∧
  (∀ k0_t3 : Fin (k0_t3_loop v1_0).trips, ∀ a, (k0_off418 v1_0 k0_t3) a + S1x1x256.size a ≤ S3x11x3072.size a) ∧
  (∀ k0_t3 : Fin (k0_t3_loop v1_0).trips, ∀ a, (k0_off419 v1_0 k0_t3) a + S1x64x256.size a ≤ S3x704x3072.size a) ∧
  (∀ k0_t3 : Fin (k0_t3_loop v1_0).trips, ∀ a, (k0_off420 v1_0 k0_t3) a + S1x1x256.size a ≤ S3x11x3072.size a) ∧
  (∀ k0_t3 : Fin (k0_t3_loop v1_0).trips, ∀ a, (k0_off421 v1_0 k0_t3) a + S1x64x256.size a ≤ S3x704x3072.size a) ∧
  (∀ k0_t3 : Fin (k0_t3_loop v1_0).trips, ∀ a, (k0_off422 v1_0 k0_t3) a + S1x1x256.size a ≤ S3x11x3072.size a) ∧
  (∀ k0_t3 : Fin (k0_t3_loop v1_0).trips, ∀ a, (k0_off423 v1_0 k0_t3) a + S1x64x256.size a ≤ S3x704x3072.size a) ∧
  (∀ k0_t3 : Fin (k0_t3_loop v1_0).trips, ∀ a, (k0_off424 v1_0 k0_t3) a + S1x1x256.size a ≤ S3x11x3072.size a) ∧
  (∀ k0_t3 : Fin (k0_t3_loop v1_0).trips, ∀ a, (k0_off425 v1_0 k0_t3) a + S1x64x256.size a ≤ S3x704x3072.size a) ∧
  (∀ k0_t3 : Fin (k0_t3_loop v1_0).trips, ∀ a, (k0_off426 v1_0 k0_t3) a + S1x1x256.size a ≤ S3x11x3072.size a) ∧
  (∀ k0_t3 : Fin (k0_t3_loop v1_0).trips, ∀ a, (k0_off427 v1_0 k0_t3) a + S1x64x256.size a ≤ S3x704x3072.size a) ∧
  (∀ k0_t3 : Fin (k0_t3_loop v1_0).trips, ∀ a, (k0_off428 v1_0 k0_t3) a + S1x1x256.size a ≤ S3x11x3072.size a) ∧
  (∀ k0_t3 : Fin (k0_t3_loop v1_0).trips, ∀ a, (k0_off429 v1_0 k0_t3) a + S1x64x256.size a ≤ S3x704x3072.size a) ∧
  (∀ k0_t3 : Fin (k0_t3_loop v1_0).trips, ∀ a, (k0_off430 v1_0 k0_t3) a + S1x1x256.size a ≤ S3x11x3072.size a) ∧
  (∀ k0_t3 : Fin (k0_t3_loop v1_0).trips, ∀ a, (k0_off431 v1_0 k0_t3) a + S1x64x256.size a ≤ S3x704x3072.size a) ∧
  (∀ k0_t3 : Fin (k0_t3_loop v1_0).trips, ∀ a, (k0_off432 v1_0 k0_t3) a + S1x1x256.size a ≤ S3x11x3072.size a) ∧
  (∀ k0_t3 : Fin (k0_t3_loop v1_0).trips, ∀ a, (k0_off433 v1_0 k0_t3) a + S1x64x256.size a ≤ S3x704x3072.size a) ∧
  (∀ k0_t3 : Fin (k0_t3_loop v1_0).trips, ∀ a, (k0_off434 v1_0 k0_t3) a + S1x1x256.size a ≤ S3x11x3072.size a) ∧
  (∀ k0_t3 : Fin (k0_t3_loop v1_0).trips, ∀ a, (k0_off435 v1_0 k0_t3) a + S1x64x256.size a ≤ S3x704x3072.size a) ∧
  (∀ k0_t3 : Fin (k0_t3_loop v1_0).trips, ∀ a, (k0_off436 v1_0 k0_t3) a + S1x1x256.size a ≤ S3x11x3072.size a) ∧
  (∀ k0_t3 : Fin (k0_t3_loop v1_0).trips, ∀ a, (k0_off437 v1_0 k0_t3) a + S1x64x256.size a ≤ S3x704x3072.size a)
def k0_chk2_13 (v1_0 : BitVec 32) : Prop :=
  (∀ k0_t3 : Fin (k0_t3_loop v1_0).trips, ∀ a, (k0_off438 v1_0 k0_t3) a + S1x1x256.size a ≤ S3x11x3072.size a) ∧
  (∀ k0_t3 : Fin (k0_t3_loop v1_0).trips, ∀ a, (k0_off439 v1_0 k0_t3) a + S1x64x256.size a ≤ S3x704x3072.size a) ∧
  (∀ k0_t3 : Fin (k0_t3_loop v1_0).trips, ∀ a, (k0_off440 v1_0 k0_t3) a + S1x1x256.size a ≤ S3x11x3072.size a) ∧
  (∀ k0_t3 : Fin (k0_t3_loop v1_0).trips, ∀ a, (k0_off441 v1_0 k0_t3) a + S1x64x256.size a ≤ S3x704x3072.size a) ∧
  (∀ k0_t3 : Fin (k0_t3_loop v1_0).trips, ∀ a, (k0_off442 v1_0 k0_t3) a + S1x1x256.size a ≤ S3x11x3072.size a) ∧
  (∀ k0_t3 : Fin (k0_t3_loop v1_0).trips, ∀ a, (k0_off443 v1_0 k0_t3) a + S1x64x256.size a ≤ S3x704x3072.size a) ∧
  (∀ k0_t3 : Fin (k0_t3_loop v1_0).trips, ∀ a, (k0_off444 v1_0 k0_t3) a + S1x1x256.size a ≤ S3x11x3072.size a) ∧
  (∀ k0_t3 : Fin (k0_t3_loop v1_0).trips, ∀ a, (k0_off445 v1_0 k0_t3) a + S1x64x256.size a ≤ S3x704x3072.size a) ∧
  (∀ k0_t3 : Fin (k0_t3_loop v1_0).trips, ∀ a, (k0_off446 v1_0 k0_t3) a + S1x1x256.size a ≤ S3x11x3072.size a) ∧
  (∀ k0_t3 : Fin (k0_t3_loop v1_0).trips, ∀ a, (k0_off447 v1_0 k0_t3) a + S1x64x256.size a ≤ S3x704x3072.size a) ∧
  (∀ k0_t3 : Fin (k0_t3_loop v1_0).trips, ∀ a, (k0_off448 v1_0 k0_t3) a + S1x1x256.size a ≤ S3x11x3072.size a) ∧
  (∀ k0_t3 : Fin (k0_t3_loop v1_0).trips, ∀ a, (k0_off449 v1_0 k0_t3) a + S1x64x256.size a ≤ S3x704x3072.size a) ∧
  (∀ k0_t3 : Fin (k0_t3_loop v1_0).trips, ∀ a, (k0_off450 v1_0 k0_t3) a + S1x1x256.size a ≤ S3x11x3072.size a) ∧
  (∀ k0_t3 : Fin (k0_t3_loop v1_0).trips, ∀ a, (k0_off451 v1_0 k0_t3) a + S1x64x256.size a ≤ S3x704x3072.size a) ∧
  (∀ k0_t3 : Fin (k0_t3_loop v1_0).trips, ∀ a, (k0_off452 v1_0 k0_t3) a + S1x1x256.size a ≤ S3x11x3072.size a) ∧
  (∀ k0_t3 : Fin (k0_t3_loop v1_0).trips, ∀ a, (k0_off453 v1_0 k0_t3) a + S1x64x256.size a ≤ S3x704x3072.size a) ∧
  (∀ k0_t3 : Fin (k0_t3_loop v1_0).trips, ∀ a, (k0_off454 v1_0 k0_t3) a + S1x1x256.size a ≤ S3x11x3072.size a) ∧
  (∀ k0_t3 : Fin (k0_t3_loop v1_0).trips, ∀ a, (k0_off455 v1_0 k0_t3) a + S1x64x256.size a ≤ S3x704x3072.size a) ∧
  (∀ k0_t3 : Fin (k0_t3_loop v1_0).trips, ∀ a, (k0_off456 v1_0 k0_t3) a + S1x1x256.size a ≤ S3x11x3072.size a) ∧
  (∀ k0_t3 : Fin (k0_t3_loop v1_0).trips, ∀ a, (k0_off457 v1_0 k0_t3) a + S1x64x256.size a ≤ S3x704x3072.size a) ∧
  (∀ k0_t3 : Fin (k0_t3_loop v1_0).trips, ∀ a, (k0_off458 v1_0 k0_t3) a + S1x1x256.size a ≤ S3x11x3072.size a) ∧
  (∀ k0_t3 : Fin (k0_t3_loop v1_0).trips, ∀ a, (k0_off459 v1_0 k0_t3) a + S1x64x256.size a ≤ S3x704x3072.size a) ∧
  (∀ k0_t3 : Fin (k0_t3_loop v1_0).trips, ∀ a, (k0_off460 v1_0 k0_t3) a + S1x1x256.size a ≤ S3x11x3072.size a) ∧
  (∀ k0_t3 : Fin (k0_t3_loop v1_0).trips, ∀ a, (k0_off461 v1_0 k0_t3) a + S1x64x256.size a ≤ S3x704x3072.size a) ∧
  (∀ k0_t3 : Fin (k0_t3_loop v1_0).trips, ∀ a, (k0_off462 v1_0 k0_t3) a + S1x1x256.size a ≤ S3x11x3072.size a) ∧
  (∀ k0_t3 : Fin (k0_t3_loop v1_0).trips, ∀ a, (k0_off463 v1_0 k0_t3) a + S1x64x256.size a ≤ S3x704x3072.size a) ∧
  (∀ k0_t3 : Fin (k0_t3_loop v1_0).trips, ∀ a, (k0_off464 v1_0 k0_t3) a + S1x1x256.size a ≤ S3x11x3072.size a) ∧
  (∀ k0_t3 : Fin (k0_t3_loop v1_0).trips, ∀ a, (k0_off465 v1_0 k0_t3) a + S1x64x256.size a ≤ S3x704x3072.size a) ∧
  (∀ k0_t3 : Fin (k0_t3_loop v1_0).trips, ∀ a, (k0_off466 v1_0 k0_t3) a + S1x1x256.size a ≤ S3x11x3072.size a) ∧
  (∀ k0_t3 : Fin (k0_t3_loop v1_0).trips, ∀ a, (k0_off467 v1_0 k0_t3) a + S1x64x256.size a ≤ S3x704x3072.size a) ∧
  (∀ k0_t3 : Fin (k0_t3_loop v1_0).trips, ∀ a, (k0_off468 v1_0 k0_t3) a + S1x1x256.size a ≤ S3x11x3072.size a) ∧
  (∀ k0_t3 : Fin (k0_t3_loop v1_0).trips, ∀ a, (k0_off469 v1_0 k0_t3) a + S1x64x256.size a ≤ S3x704x3072.size a)
def k0_chk2_14 (v1_0 : BitVec 32) : Prop :=
  (∀ k0_t3 : Fin (k0_t3_loop v1_0).trips, ∀ a, (k0_off470 v1_0 k0_t3) a + S1x1x256.size a ≤ S3x11x3072.size a) ∧
  (∀ k0_t3 : Fin (k0_t3_loop v1_0).trips, ∀ a, (k0_off471 v1_0 k0_t3) a + S1x64x256.size a ≤ S3x704x3072.size a) ∧
  (∀ k0_t3 : Fin (k0_t3_loop v1_0).trips, ∀ a, (k0_off472 v1_0 k0_t3) a + S1x1x256.size a ≤ S3x11x3072.size a) ∧
  (∀ k0_t3 : Fin (k0_t3_loop v1_0).trips, ∀ a, (k0_off473 v1_0 k0_t3) a + S1x64x256.size a ≤ S3x704x3072.size a) ∧
  (∀ k0_t3 : Fin (k0_t3_loop v1_0).trips, ∀ a, (k0_off474 v1_0 k0_t3) a + S1x1x256.size a ≤ S3x11x3072.size a) ∧
  (∀ k0_t3 : Fin (k0_t3_loop v1_0).trips, ∀ a, (k0_off475 v1_0 k0_t3) a + S1x64x256.size a ≤ S3x704x3072.size a) ∧
  (∀ k0_t3 : Fin (k0_t3_loop v1_0).trips, ∀ a, (k0_off476 v1_0 k0_t3) a + S1x1x256.size a ≤ S3x11x3072.size a) ∧
  (∀ k0_t3 : Fin (k0_t3_loop v1_0).trips, ∀ a, (k0_off477 v1_0 k0_t3) a + S1x64x256.size a ≤ S3x704x3072.size a) ∧
  (∀ k0_t3 : Fin (k0_t3_loop v1_0).trips, ∀ a, (k0_off478 v1_0 k0_t3) a + S1x1x256.size a ≤ S3x11x3072.size a) ∧
  (∀ k0_t3 : Fin (k0_t3_loop v1_0).trips, ∀ a, (k0_off479 v1_0 k0_t3) a + S1x64x256.size a ≤ S3x704x3072.size a) ∧
  (∀ k0_t3 : Fin (k0_t3_loop v1_0).trips, ∀ a, (k0_off480 v1_0 k0_t3) a + S1x1x256.size a ≤ S3x11x3072.size a) ∧
  (∀ k0_t3 : Fin (k0_t3_loop v1_0).trips, ∀ a, (k0_off481 v1_0 k0_t3) a + S1x64x256.size a ≤ S3x704x3072.size a) ∧
  (∀ k0_t3 : Fin (k0_t3_loop v1_0).trips, ∀ a, (k0_off482 v1_0 k0_t3) a + S1x1x256.size a ≤ S3x11x3072.size a) ∧
  (∀ k0_t3 : Fin (k0_t3_loop v1_0).trips, ∀ a, (k0_off483 v1_0 k0_t3) a + S1x64x256.size a ≤ S3x704x3072.size a) ∧
  (∀ k0_t3 : Fin (k0_t3_loop v1_0).trips, ∀ a, (k0_off484 v1_0 k0_t3) a + S1x1x256.size a ≤ S3x11x3072.size a) ∧
  (∀ k0_t3 : Fin (k0_t3_loop v1_0).trips, ∀ a, (k0_off485 v1_0 k0_t3) a + S1x64x256.size a ≤ S3x704x3072.size a) ∧
  (∀ k0_t3 : Fin (k0_t3_loop v1_0).trips, ∀ a, (k0_off486 v1_0 k0_t3) a + S1x1x256.size a ≤ S3x11x3072.size a) ∧
  (∀ k0_t3 : Fin (k0_t3_loop v1_0).trips, ∀ a, (k0_off487 v1_0 k0_t3) a + S1x64x256.size a ≤ S3x704x3072.size a) ∧
  (∀ k0_t3 : Fin (k0_t3_loop v1_0).trips, ∀ a, (k0_off488 v1_0 k0_t3) a + S1x1x256.size a ≤ S3x11x3072.size a) ∧
  (∀ k0_t3 : Fin (k0_t3_loop v1_0).trips, ∀ a, (k0_off489 v1_0 k0_t3) a + S1x64x256.size a ≤ S3x704x3072.size a) ∧
  (∀ k0_t3 : Fin (k0_t3_loop v1_0).trips, ∀ a, (k0_off490 v1_0 k0_t3) a + S1x1x256.size a ≤ S3x11x3072.size a) ∧
  (∀ k0_t3 : Fin (k0_t3_loop v1_0).trips, ∀ a, (k0_off491 v1_0 k0_t3) a + S1x64x256.size a ≤ S3x704x3072.size a) ∧
  (∀ k0_t3 : Fin (k0_t3_loop v1_0).trips, ∀ a, (k0_off492 v1_0 k0_t3) a + S1x1x256.size a ≤ S3x11x3072.size a) ∧
  (∀ k0_t3 : Fin (k0_t3_loop v1_0).trips, ∀ a, (k0_off493 v1_0 k0_t3) a + S1x64x256.size a ≤ S3x704x3072.size a) ∧
  (∀ k0_t3 : Fin (k0_t3_loop v1_0).trips, ∀ a, (k0_off494 v1_0 k0_t3) a + S1x1x256.size a ≤ S3x11x3072.size a) ∧
  (∀ k0_t3 : Fin (k0_t3_loop v1_0).trips, ∀ a, (k0_off495 v1_0 k0_t3) a + S1x64x256.size a ≤ S3x704x3072.size a) ∧
  (∀ k0_t3 : Fin (k0_t3_loop v1_0).trips, ∀ a, (k0_off496 v1_0 k0_t3) a + S1x1x256.size a ≤ S3x11x3072.size a) ∧
  (∀ k0_t3 : Fin (k0_t3_loop v1_0).trips, ∀ a, (k0_off497 v1_0 k0_t3) a + S1x64x256.size a ≤ S3x704x3072.size a) ∧
  (∀ k0_t3 : Fin (k0_t3_loop v1_0).trips, ∀ a, (k0_off498 v1_0 k0_t3) a + S1x1x256.size a ≤ S3x11x3072.size a) ∧
  (∀ k0_t3 : Fin (k0_t3_loop v1_0).trips, ∀ a, (k0_off499 v1_0 k0_t3) a + S1x64x256.size a ≤ S3x704x3072.size a) ∧
  (∀ k0_t3 : Fin (k0_t3_loop v1_0).trips, ∀ a, (k0_off500 v1_0 k0_t3) a + S1x1x256.size a ≤ S3x11x3072.size a) ∧
  (∀ k0_t3 : Fin (k0_t3_loop v1_0).trips, ∀ a, (k0_off501 v1_0 k0_t3) a + S1x64x256.size a ≤ S3x704x3072.size a)
def k0_chk2_15 (v1_0 : BitVec 32) : Prop :=
  (∀ k0_t3 : Fin (k0_t3_loop v1_0).trips, ∀ a, (k0_off502 v1_0 k0_t3) a + S1x1x256.size a ≤ S3x11x3072.size a) ∧
  (∀ k0_t3 : Fin (k0_t3_loop v1_0).trips, ∀ a, (k0_off503 v1_0 k0_t3) a + S1x64x256.size a ≤ S3x704x3072.size a) ∧
  (∀ k0_t3 : Fin (k0_t3_loop v1_0).trips, ∀ a, (k0_off504 v1_0 k0_t3) a + S1x1x256.size a ≤ S3x11x3072.size a) ∧
  (∀ k0_t3 : Fin (k0_t3_loop v1_0).trips, ∀ a, (k0_off505 v1_0 k0_t3) a + S1x64x256.size a ≤ S3x704x3072.size a) ∧
  (∀ k0_t3 : Fin (k0_t3_loop v1_0).trips, ∀ a, (k0_off506 v1_0 k0_t3) a + S1x1x256.size a ≤ S3x11x3072.size a) ∧
  (∀ k0_t3 : Fin (k0_t3_loop v1_0).trips, ∀ a, (k0_off507 v1_0 k0_t3) a + S1x64x256.size a ≤ S3x704x3072.size a) ∧
  (∀ k0_t3 : Fin (k0_t3_loop v1_0).trips, ∀ a, (k0_off508 v1_0 k0_t3) a + S1x1x256.size a ≤ S3x11x3072.size a) ∧
  (∀ k0_t3 : Fin (k0_t3_loop v1_0).trips, ∀ a, (k0_off509 v1_0 k0_t3) a + S1x64x256.size a ≤ S3x704x3072.size a) ∧
  (∀ k0_t3 : Fin (k0_t3_loop v1_0).trips, ∀ a, (k0_off510 v1_0 k0_t3) a + S1x1x256.size a ≤ S3x11x3072.size a) ∧
  (∀ k0_t3 : Fin (k0_t3_loop v1_0).trips, ∀ a, (k0_off511 v1_0 k0_t3) a + S1x64x256.size a ≤ S3x704x3072.size a) ∧
  (∀ k0_t3 : Fin (k0_t3_loop v1_0).trips, ∀ a, (k0_off512 v1_0 k0_t3) a + S1x1x256.size a ≤ S3x11x3072.size a) ∧
  (∀ k0_t3 : Fin (k0_t3_loop v1_0).trips, ∀ a, (k0_off513 v1_0 k0_t3) a + S1x64x256.size a ≤ S3x704x3072.size a) ∧
  (∀ k0_t3 : Fin (k0_t3_loop v1_0).trips, ∀ a, (k0_off514 v1_0 k0_t3) a + S1x1x256.size a ≤ S3x11x3072.size a) ∧
  (∀ k0_t3 : Fin (k0_t3_loop v1_0).trips, ∀ a, (k0_off515 v1_0 k0_t3) a + S1x64x256.size a ≤ S3x704x3072.size a) ∧
  (∀ k0_t3 : Fin (k0_t3_loop v1_0).trips, ∀ a, (k0_off516 v1_0 k0_t3) a + S1x1x256.size a ≤ S3x11x3072.size a) ∧
  (∀ k0_t3 : Fin (k0_t3_loop v1_0).trips, ∀ a, (k0_off517 v1_0 k0_t3) a + S1x64x256.size a ≤ S3x704x3072.size a) ∧
  (∀ k0_t3 : Fin (k0_t3_loop v1_0).trips, ∀ a, (k0_off518 v1_0 k0_t3) a + S1x1x256.size a ≤ S3x11x3072.size a) ∧
  (∀ k0_t3 : Fin (k0_t3_loop v1_0).trips, ∀ a, (k0_off519 v1_0 k0_t3) a + S1x64x256.size a ≤ S3x704x3072.size a) ∧
  (∀ k0_t3 : Fin (k0_t3_loop v1_0).trips, ∀ a, (k0_off520 v1_0 k0_t3) a + S1x1x256.size a ≤ S3x11x3072.size a) ∧
  (∀ k0_t3 : Fin (k0_t3_loop v1_0).trips, ∀ a, (k0_off521 v1_0 k0_t3) a + S1x64x256.size a ≤ S3x704x3072.size a) ∧
  (∀ k0_t3 : Fin (k0_t3_loop v1_0).trips, ∀ a, (k0_off522 v1_0 k0_t3) a + S1x1x256.size a ≤ S3x11x3072.size a) ∧
  (∀ k0_t3 : Fin (k0_t3_loop v1_0).trips, ∀ a, (k0_off523 v1_0 k0_t3) a + S1x64x256.size a ≤ S3x704x3072.size a) ∧
  (∀ k0_t3 : Fin (k0_t3_loop v1_0).trips, ∀ a, (k0_off524 v1_0 k0_t3) a + S1x1x256.size a ≤ S3x11x3072.size a) ∧
  (∀ k0_t3 : Fin (k0_t3_loop v1_0).trips, ∀ a, (k0_off525 v1_0 k0_t3) a + S1x64x256.size a ≤ S3x704x3072.size a) ∧
  (∀ k0_t3 : Fin (k0_t3_loop v1_0).trips, ∀ a, (k0_off526 v1_0 k0_t3) a + S1x1x256.size a ≤ S3x11x3072.size a) ∧
  (∀ k0_t3 : Fin (k0_t3_loop v1_0).trips, ∀ a, (k0_off527 v1_0 k0_t3) a + S1x64x256.size a ≤ S3x704x3072.size a) ∧
  (∀ k0_t3 : Fin (k0_t3_loop v1_0).trips, ∀ a, (k0_off528 v1_0 k0_t3) a + S1x1x256.size a ≤ S3x11x3072.size a) ∧
  (∀ k0_t3 : Fin (k0_t3_loop v1_0).trips, ∀ a, (k0_off529 v1_0 k0_t3) a + S1x64x256.size a ≤ S3x704x3072.size a) ∧
  (∀ k0_t3 : Fin (k0_t3_loop v1_0).trips, ∀ a, (k0_off530 v1_0 k0_t3) a + S1x1x256.size a ≤ S3x11x3072.size a) ∧
  (∀ k0_t3 : Fin (k0_t3_loop v1_0).trips, ∀ a, (k0_off531 v1_0 k0_t3) a + S1x64x256.size a ≤ S3x704x3072.size a) ∧
  (∀ k0_t3 : Fin (k0_t3_loop v1_0).trips, ∀ a, (k0_off532 v1_0 k0_t3) a + S1x1x256.size a ≤ S3x11x3072.size a) ∧
  (∀ k0_t3 : Fin (k0_t3_loop v1_0).trips, ∀ a, (k0_off533 v1_0 k0_t3) a + S1x64x256.size a ≤ S3x704x3072.size a)
def k0_chk2_16 (v1_0 : BitVec 32) : Prop :=
  (∀ k0_t3 : Fin (k0_t3_loop v1_0).trips, ∀ a, (k0_off534 v1_0 k0_t3) a + S1x1x256.size a ≤ S3x11x3072.size a) ∧
  (∀ k0_t3 : Fin (k0_t3_loop v1_0).trips, ∀ a, (k0_off535 v1_0 k0_t3) a + S1x64x256.size a ≤ S3x704x3072.size a) ∧
  (∀ k0_t3 : Fin (k0_t3_loop v1_0).trips, ∀ a, (k0_off536 v1_0 k0_t3) a + S1x1x256.size a ≤ S3x11x3072.size a) ∧
  (∀ k0_t3 : Fin (k0_t3_loop v1_0).trips, ∀ a, (k0_off537 v1_0 k0_t3) a + S1x64x256.size a ≤ S3x704x3072.size a) ∧
  (∀ k0_t3 : Fin (k0_t3_loop v1_0).trips, ∀ a, (k0_off538 v1_0 k0_t3) a + S1x1x256.size a ≤ S3x11x3072.size a) ∧
  (∀ k0_t3 : Fin (k0_t3_loop v1_0).trips, ∀ a, (k0_off539 v1_0 k0_t3) a + S1x64x256.size a ≤ S3x704x3072.size a) ∧
  (∀ k0_t3 : Fin (k0_t3_loop v1_0).trips, ∀ a, (k0_off540 v1_0 k0_t3) a + S1x1x256.size a ≤ S3x11x3072.size a) ∧
  (∀ k0_t3 : Fin (k0_t3_loop v1_0).trips, ∀ a, (k0_off541 v1_0 k0_t3) a + S1x64x256.size a ≤ S3x704x3072.size a) ∧
  (∀ k0_t3 : Fin (k0_t3_loop v1_0).trips, ∀ a, (k0_off542 v1_0 k0_t3) a + S1x1x256.size a ≤ S3x11x3072.size a) ∧
  (∀ k0_t3 : Fin (k0_t3_loop v1_0).trips, ∀ a, (k0_off543 v1_0 k0_t3) a + S1x64x256.size a ≤ S3x704x3072.size a) ∧
  (∀ k0_t3 : Fin (k0_t3_loop v1_0).trips, ∀ a, (k0_off544 v1_0 k0_t3) a + S1x1x256.size a ≤ S3x11x3072.size a) ∧
  (∀ k0_t3 : Fin (k0_t3_loop v1_0).trips, ∀ a, (k0_off545 v1_0 k0_t3) a + S1x64x256.size a ≤ S3x704x3072.size a) ∧
  (∀ k0_t3 : Fin (k0_t3_loop v1_0).trips, ∀ a, (k0_off546 v1_0 k0_t3) a + S1x1x256.size a ≤ S3x11x3072.size a) ∧
  (∀ k0_t3 : Fin (k0_t3_loop v1_0).trips, ∀ a, (k0_off547 v1_0 k0_t3) a + S1x64x256.size a ≤ S3x704x3072.size a) ∧
  (∀ k0_t3 : Fin (k0_t3_loop v1_0).trips, ∀ a, (k0_off548 v1_0 k0_t3) a + S1x1x256.size a ≤ S3x11x3072.size a) ∧
  (∀ k0_t3 : Fin (k0_t3_loop v1_0).trips, ∀ a, (k0_off549 v1_0 k0_t3) a + S1x64x256.size a ≤ S3x704x3072.size a) ∧
  (∀ k0_t3 : Fin (k0_t3_loop v1_0).trips, ∀ a, (k0_off550 v1_0 k0_t3) a + S1x1x256.size a ≤ S3x11x3072.size a) ∧
  (∀ k0_t3 : Fin (k0_t3_loop v1_0).trips, ∀ a, (k0_off551 v1_0 k0_t3) a + S1x64x256.size a ≤ S3x704x3072.size a) ∧
  (∀ k0_t3 : Fin (k0_t3_loop v1_0).trips, ∀ a, (k0_off552 v1_0 k0_t3) a + S1x1x256.size a ≤ S3x11x3072.size a) ∧
  (∀ k0_t3 : Fin (k0_t3_loop v1_0).trips, ∀ a, (k0_off553 v1_0 k0_t3) a + S1x64x256.size a ≤ S3x704x3072.size a) ∧
  (∀ k0_t3 : Fin (k0_t3_loop v1_0).trips, ∀ a, (k0_off554 v1_0 k0_t3) a + S1x1x256.size a ≤ S3x11x3072.size a) ∧
  (∀ k0_t3 : Fin (k0_t3_loop v1_0).trips, ∀ a, (k0_off555 v1_0 k0_t3) a + S1x64x256.size a ≤ S3x704x3072.size a) ∧
  (∀ k0_t3 : Fin (k0_t3_loop v1_0).trips, ∀ a, (k0_off556 v1_0 k0_t3) a + S1x1x256.size a ≤ S3x11x3072.size a) ∧
  (∀ k0_t3 : Fin (k0_t3_loop v1_0).trips, ∀ a, (k0_off557 v1_0 k0_t3) a + S1x64x256.size a ≤ S3x704x3072.size a) ∧
  (∀ k0_t3 : Fin (k0_t3_loop v1_0).trips, ∀ a, (k0_off558 v1_0 k0_t3) a + S1x1x256.size a ≤ S3x11x3072.size a) ∧
  (∀ k0_t3 : Fin (k0_t3_loop v1_0).trips, ∀ a, (k0_off559 v1_0 k0_t3) a + S1x64x256.size a ≤ S3x704x3072.size a) ∧
  (∀ k0_t3 : Fin (k0_t3_loop v1_0).trips, ∀ a, (k0_off560 v1_0 k0_t3) a + S1x1x256.size a ≤ S3x11x3072.size a) ∧
  (∀ k0_t3 : Fin (k0_t3_loop v1_0).trips, ∀ a, (k0_off561 v1_0 k0_t3) a + S1x64x256.size a ≤ S3x704x3072.size a) ∧
  (∀ k0_t3 : Fin (k0_t3_loop v1_0).trips, ∀ a, (k0_off562 v1_0 k0_t3) a + S1x1x256.size a ≤ S3x11x3072.size a) ∧
  (∀ k0_t3 : Fin (k0_t3_loop v1_0).trips, ∀ a, (k0_off563 v1_0 k0_t3) a + S1x64x256.size a ≤ S3x704x3072.size a) ∧
  (∀ k0_t3 : Fin (k0_t3_loop v1_0).trips, ∀ a, (k0_off564 v1_0 k0_t3) a + S1x1x256.size a ≤ S3x11x3072.size a) ∧
  (∀ k0_t3 : Fin (k0_t3_loop v1_0).trips, ∀ a, (k0_off565 v1_0 k0_t3) a + S1x64x256.size a ≤ S3x704x3072.size a)
def k0_chk2_17 (v1_0 : BitVec 32) : Prop :=
  (∀ k0_t3 : Fin (k0_t3_loop v1_0).trips, ∀ a, (k0_off566 v1_0 k0_t3) a + S1x1x256.size a ≤ S3x11x3072.size a) ∧
  (∀ k0_t3 : Fin (k0_t3_loop v1_0).trips, ∀ a, (k0_off567 v1_0 k0_t3) a + S1x64x256.size a ≤ S3x704x3072.size a) ∧
  (∀ k0_t3 : Fin (k0_t3_loop v1_0).trips, ∀ a, (k0_off568 v1_0 k0_t3) a + S1x1x256.size a ≤ S3x11x3072.size a) ∧
  (∀ k0_t3 : Fin (k0_t3_loop v1_0).trips, ∀ a, (k0_off569 v1_0 k0_t3) a + S1x64x256.size a ≤ S3x704x3072.size a) ∧
  (∀ k0_t3 : Fin (k0_t3_loop v1_0).trips, ∀ a, (k0_off570 v1_0 k0_t3) a + S1x1x256.size a ≤ S3x11x3072.size a) ∧
  (∀ k0_t3 : Fin (k0_t3_loop v1_0).trips, ∀ a, (k0_off571 v1_0 k0_t3) a + S1x64x256.size a ≤ S3x704x3072.size a) ∧
  (∀ k0_t3 : Fin (k0_t3_loop v1_0).trips, ∀ a, (k0_off572 v1_0 k0_t3) a + S1x1x256.size a ≤ S3x11x3072.size a) ∧
  (∀ k0_t3 : Fin (k0_t3_loop v1_0).trips, ∀ a, (k0_off573 v1_0 k0_t3) a + S1x64x256.size a ≤ S3x704x3072.size a) ∧
  (∀ k0_t3 : Fin (k0_t3_loop v1_0).trips, ∀ a, (k0_off574 v1_0 k0_t3) a + S1x1x256.size a ≤ S3x11x3072.size a) ∧
  (∀ k0_t3 : Fin (k0_t3_loop v1_0).trips, ∀ (k0_h5 : k0_cond5 v1_0 k0_t3 = 1#1), ∀ a, (k0_off575 v1_0 k0_t3) a + S1.size a ≤ S65.size a) ∧
  (∀ k0_t3 : Fin (k0_t3_loop v1_0).trips, ∀ (k0_h5 : k0_cond5 v1_0 k0_t3 = 1#1), ∀ a, (k0_off576 v1_0 k0_t3) a + S1x1.size a ≤ S2x3.size a) ∧
  (∀ k0_t3 : Fin (k0_t3_loop v1_0).trips, ∀ (k0_h5 : k0_cond5 v1_0 k0_t3 = 1#1), ∀ a, (k0_off577 v1_0 k0_t3) a + S1x704x3072.size a ≤ S3x704x3072.size a) ∧
  (∀ k0_t3 : Fin (k0_t3_loop v1_0).trips, ∀ (k0_h5 : k0_cond5 v1_0 k0_t3 = 1#1), ∀ (hinb : ∀ a, (k0_off577 v1_0 k0_t3) a + S1x704x3072.size a ≤ S3x704x3072.size a), (Rect.unit (s := S3x704x3072) (k0_off577 v1_0 k0_t3) S1x704x3072.size hinb).WholeWords (EltTy.packing .i8)) ∧
  (∀ k0_t3 : Fin (k0_t3_loop v1_0).trips, ∀ (k0_h5 : k0_cond5 v1_0 k0_t3 = 1#1), ∀ a, (k0_off579 v1_0 k0_t3) a + S1x1.size a ≤ S2x3.size a) ∧
  (∀ k0_t3 : Fin (k0_t3_loop v1_0).trips, ∀ (k0_h5 : k0_cond5 v1_0 k0_t3 = 1#1), ∀ a, (k0_off580 v1_0 k0_t3) a + S1x11x3072.size a ≤ S3x11x3072.size a)
def k0_chk2 (v1_0 : BitVec 32) : Prop :=
  k0_chk2_0 v1_0 ∧
  k0_chk2_1 v1_0 ∧
  k0_chk2_2 v1_0 ∧
  k0_chk2_3 v1_0 ∧
  k0_chk2_4 v1_0 ∧
  k0_chk2_5 v1_0 ∧
  k0_chk2_6 v1_0 ∧
  k0_chk2_7 v1_0 ∧
  k0_chk2_8 v1_0 ∧
  k0_chk2_9 v1_0 ∧
  k0_chk2_10 v1_0 ∧
  k0_chk2_11 v1_0 ∧
  k0_chk2_12 v1_0 ∧
  k0_chk2_13 v1_0 ∧
  k0_chk2_14 v1_0 ∧
  k0_chk2_15 v1_0 ∧
  k0_chk2_16 v1_0 ∧
  k0_chk2_17 v1_0
theorem k0_off3_inb : ∀ (v1_0 : BitVec 32) (k0_hw2 : k0_chk2 v1_0), ∀ a, (k0_off3 v1_0) a + S1.size a ≤ S65.size a := fun v1_0 k0_hw2 => k0_hw2.1.1
theorem k0_t2_ok : ∀ (v1_0 : BitVec 32) (k0_hw2 : k0_chk2 v1_0), (k0_t2_loop v1_0).OK := fun v1_0 k0_hw2 => k0_hw2.1.2.1
theorem k0_off22_inb : ∀ (v1_0 : BitVec 32) (k0_hw2 : k0_chk2 v1_0) (k0_t2 : Fin (k0_t2_loop v1_0).trips), ∀ a, (k0_off22 v1_0 k0_t2) a + S1.size a ≤ S65.size a := fun v1_0 k0_hw2 k0_t2 => k0_hw2.1.2.2.1 k0_t2
theorem k0_off23_inb : ∀ (v1_0 : BitVec 32) (k0_hw2 : k0_chk2 v1_0) (k0_t2 : Fin (k0_t2_loop v1_0).trips), ∀ a, (k0_off23 v1_0 k0_t2) a + S1x1.size a ≤ S2x3.size a := fun v1_0 k0_hw2 k0_t2 => k0_hw2.1.2.2.2.1 k0_t2
theorem k0_off24_inb : ∀ (v1_0 : BitVec 32) (k0_hw2 : k0_chk2 v1_0) (k0_t2 : Fin (k0_t2_loop v1_0).trips), ∀ a, (k0_off24 v1_0 k0_t2) a + S1x704x3072.size a ≤ S3x704x3072.size a := fun v1_0 k0_hw2 k0_t2 => k0_hw2.1.2.2.2.2.1 k0_t2
theorem k0_off24_wordsi8 : ∀ (v1_0 : BitVec 32) (k0_hw2 : k0_chk2 v1_0) (k0_t2 : Fin (k0_t2_loop v1_0).trips), (Rect.unit (s := S3x704x3072) (k0_off24 v1_0 k0_t2) S1x704x3072.size (k0_off24_inb v1_0 k0_hw2 k0_t2)).WholeWords (EltTy.packing .i8) := fun v1_0 k0_hw2 k0_t2 => k0_hw2.1.2.2.2.2.2.1 k0_t2 (k0_off24_inb v1_0 k0_hw2 k0_t2)
theorem k0_off26_inb : ∀ (v1_0 : BitVec 32) (k0_hw2 : k0_chk2 v1_0) (k0_t2 : Fin (k0_t2_loop v1_0).trips), ∀ a, (k0_off26 v1_0 k0_t2) a + S1x1.size a ≤ S2x3.size a := fun v1_0 k0_hw2 k0_t2 => k0_hw2.1.2.2.2.2.2.2.1 k0_t2
theorem k0_off27_inb : ∀ (v1_0 : BitVec 32) (k0_hw2 : k0_chk2 v1_0) (k0_t2 : Fin (k0_t2_loop v1_0).trips), ∀ a, (k0_off27 v1_0 k0_t2) a + S1x11x3072.size a ≤ S3x11x3072.size a := fun v1_0 k0_hw2 k0_t2 => k0_hw2.1.2.2.2.2.2.2.2.1 k0_t2
theorem k0_off29_inb : ∀ (v1_0 : BitVec 32) (k0_hw2 : k0_chk2 v1_0) (k0_t2 : Fin (k0_t2_loop v1_0).trips), ∀ a, (k0_off29 v1_0 k0_t2) a + S1.size a ≤ S65.size a := fun v1_0 k0_hw2 k0_t2 => k0_hw2.1.2.2.2.2.2.2.2.2.1 k0_t2
theorem k0_off30_inb : ∀ (v1_0 : BitVec 32) (k0_hw2 : k0_chk2 v1_0) (k0_t2 : Fin (k0_t2_loop v1_0).trips), ∀ a, (k0_off30 v1_0 k0_t2) a + S1.size a ≤ S65.size a := fun v1_0 k0_hw2 k0_t2 => k0_hw2.1.2.2.2.2.2.2.2.2.2.1 k0_t2
theorem k0_off31_inb : ∀ (v1_0 : BitVec 32) (k0_hw2 : k0_chk2 v1_0) (k0_t2 : Fin (k0_t2_loop v1_0).trips), ∀ a, (k0_off31 v1_0 k0_t2) a + S1x64x256.size a ≤ S3x704x3072.size a := fun v1_0 k0_hw2 k0_t2 => k0_hw2.1.2.2.2.2.2.2.2.2.2.2.1 k0_t2
theorem k0_off32_inb : ∀ (v1_0 : BitVec 32) (k0_hw2 : k0_chk2 v1_0) (k0_t2 : Fin (k0_t2_loop v1_0).trips), ∀ a, (k0_off32 v1_0 k0_t2) a + S1x1x256.size a ≤ S3x11x3072.size a := fun v1_0 k0_hw2 k0_t2 => k0_hw2.1.2.2.2.2.2.2.2.2.2.2.2.1 k0_t2
theorem k0_off33_inb : ∀ (v1_0 : BitVec 32) (k0_hw2 : k0_chk2 v1_0) (k0_t2 : Fin (k0_t2_loop v1_0).trips), ∀ a, (k0_off33 v1_0 k0_t2) a + S1x64x256.size a ≤ S3x704x3072.size a := fun v1_0 k0_hw2 k0_t2 => k0_hw2.1.2.2.2.2.2.2.2.2.2.2.2.2.1 k0_t2
theorem k0_off34_inb : ∀ (v1_0 : BitVec 32) (k0_hw2 : k0_chk2 v1_0) (k0_t2 : Fin (k0_t2_loop v1_0).trips), ∀ a, (k0_off34 v1_0 k0_t2) a + S1x1x256.size a ≤ S3x11x3072.size a := fun v1_0 k0_hw2 k0_t2 => k0_hw2.1.2.2.2.2.2.2.2.2.2.2.2.2.2.1 k0_t2
theorem k0_off35_inb : ∀ (v1_0 : BitVec 32) (k0_hw2 : k0_chk2 v1_0) (k0_t2 : Fin (k0_t2_loop v1_0).trips), ∀ a, (k0_off35 v1_0 k0_t2) a + S1x64x256.size a ≤ S3x704x3072.size a := fun v1_0 k0_hw2 k0_t2 => k0_hw2.1.2.2.2.2.2.2.2.2.2.2.2.2.2.2.1 k0_t2
theorem k0_off36_inb : ∀ (v1_0 : BitVec 32) (k0_hw2 : k0_chk2 v1_0) (k0_t2 : Fin (k0_t2_loop v1_0).trips), ∀ a, (k0_off36 v1_0 k0_t2) a + S1x1x256.size a ≤ S3x11x3072.size a := fun v1_0 k0_hw2 k0_t2 => k0_hw2.1.2.2.2.2.2.2.2.2.2.2.2.2.2.2.2.1 k0_t2
theorem k0_off37_inb : ∀ (v1_0 : BitVec 32) (k0_hw2 : k0_chk2 v1_0) (k0_t2 : Fin (k0_t2_loop v1_0).trips), ∀ a, (k0_off37 v1_0 k0_t2) a + S1x64x256.size a ≤ S3x704x3072.size a := fun v1_0 k0_hw2 k0_t2 => k0_hw2.1.2.2.2.2.2.2.2.2.2.2.2.2.2.2.2.2.1 k0_t2
theorem k0_off38_inb : ∀ (v1_0 : BitVec 32) (k0_hw2 : k0_chk2 v1_0) (k0_t2 : Fin (k0_t2_loop v1_0).trips), ∀ a, (k0_off38 v1_0 k0_t2) a + S1x1x256.size a ≤ S3x11x3072.size a := fun v1_0 k0_hw2 k0_t2 => k0_hw2.1.2.2.2.2.2.2.2.2.2.2.2.2.2.2.2.2.2.1 k0_t2
theorem k0_off39_inb : ∀ (v1_0 : BitVec 32) (k0_hw2 : k0_chk2 v1_0) (k0_t2 : Fin (k0_t2_loop v1_0).trips), ∀ a, (k0_off39 v1_0 k0_t2) a + S1x64x256.size a ≤ S3x704x3072.size a := fun v1_0 k0_hw2 k0_t2 => k0_hw2.1.2.2.2.2.2.2.2.2.2.2.2.2.2.2.2.2.2.2.1 k0_t2
theorem k0_off40_inb : ∀ (v1_0 : BitVec 32) (k0_hw2 : k0_chk2 v1_0) (k0_t2 : Fin (k0_t2_loop v1_0).trips), ∀ a, (k0_off40 v1_0 k0_t2) a + S1x1x256.size a ≤ S3x11x3072.size a := fun v1_0 k0_hw2 k0_t2 => k0_hw2.1.2.2.2.2.2.2.2.2.2.2.2.2.2.2.2.2.2.2.2.1 k0_t2
theorem k0_off41_inb : ∀ (v1_0 : BitVec 32) (k0_hw2 : k0_chk2 v1_0) (k0_t2 : Fin (k0_t2_loop v1_0).trips), ∀ a, (k0_off41 v1_0 k0_t2) a + S1x64x256.size a ≤ S3x704x3072.size a := fun v1_0 k0_hw2 k0_t2 => k0_hw2.1.2.2.2.2.2.2.2.2.2.2.2.2.2.2.2.2.2.2.2.2.1 k0_t2
theorem k0_off42_inb : ∀ (v1_0 : BitVec 32) (k0_hw2 : k0_chk2 v1_0) (k0_t2 : Fin (k0_t2_loop v1_0).trips), ∀ a, (k0_off42 v1_0 k0_t2) a + S1x1x256.size a ≤ S3x11x3072.size a := fun v1_0 k0_hw2 k0_t2 => k0_hw2.1.2.2.2.2.2.2.2.2.2.2.2.2.2.2.2.2.2.2.2.2.2.1 k0_t2
theorem k0_off43_inb : ∀ (v1_0 : BitVec 32) (k0_hw2 : k0_chk2 v1_0) (k0_t2 : Fin (k0_t2_loop v1_0).trips), ∀ a, (k0_off43 v1_0 k0_t2) a + S1x64x256.size a ≤ S3x704x3072.size a := fun v1_0 k0_hw2 k0_t2 => k0_hw2.1.2.2.2.2.2.2.2.2.2.2.2.2.2.2.2.2.2.2.2.2.2.2.1 k0_t2
theorem k0_off44_inb : ∀ (v1_0 : BitVec 32) (k0_hw2 : k0_chk2 v1_0) (k0_t2 : Fin (k0_t2_loop v1_0).trips), ∀ a, (k0_off44 v1_0 k0_t2) a + S1x1x256.size a ≤ S3x11x3072.size a := fun v1_0 k0_hw2 k0_t2 => k0_hw2.1.2.2.2.2.2.2.2.2.2.2.2.2.2.2.2.2.2.2.2.2.2.2.2.1 k0_t2
theorem k0_off45_inb : ∀ (v1_0 : BitVec 32) (k0_hw2 : k0_chk2 v1_0) (k0_t2 : Fin (k0_t2_loop v1_0).trips), ∀ a, (k0_off45 v1_0 k0_t2) a + S1x64x256.size a ≤ S3x704x3072.size a := fun v1_0 k0_hw2 k0_t2 => k0_hw2.1.2.2.2.2.2.2.2.2.2.2.2.2.2.2.2.2.2.2.2.2.2.2.2.2.1 k0_t2
theorem k0_off46_inb : ∀ (v1_0 : BitVec 32) (k0_hw2 : k0_chk2 v1_0) (k0_t2 : Fin (k0_t2_loop v1_0).trips), ∀ a, (k0_off46 v1_0 k0_t2) a + S1x1x256.size a ≤ S3x11x3072.size a := fun v1_0 k0_hw2 k0_t2 => k0_hw2.1.2.2.2.2.2.2.2.2.2.2.2.2.2.2.2.2.2.2.2.2.2.2.2.2.2.1 k0_t2
theorem k0_off47_inb : ∀ (v1_0 : BitVec 32) (k0_hw2 : k0_chk2 v1_0) (k0_t2 : Fin (k0_t2_loop v1_0).trips), ∀ a, (k0_off47 v1_0 k0_t2) a + S1x64x256.size a ≤ S3x704x3072.size a := fun v1_0 k0_hw2 k0_t2 => k0_hw2.1.2.2.2.2.2.2.2.2.2.2.2.2.2.2.2.2.2.2.2.2.2.2.2.2.2.2.1 k0_t2
theorem k0_off48_inb : ∀ (v1_0 : BitVec 32) (k0_hw2 : k0_chk2 v1_0) (k0_t2 : Fin (k0_t2_loop v1_0).trips), ∀ a, (k0_off48 v1_0 k0_t2) a + S1x1x256.size a ≤ S3x11x3072.size a := fun v1_0 k0_hw2 k0_t2 => k0_hw2.1.2.2.2.2.2.2.2.2.2.2.2.2.2.2.2.2.2.2.2.2.2.2.2.2.2.2.2.1 k0_t2
theorem k0_off49_inb : ∀ (v1_0 : BitVec 32) (k0_hw2 : k0_chk2 v1_0) (k0_t2 : Fin (k0_t2_loop v1_0).trips), ∀ a, (k0_off49 v1_0 k0_t2) a + S1x64x256.size a ≤ S3x704x3072.size a := fun v1_0 k0_hw2 k0_t2 => k0_hw2.1.2.2.2.2.2.2.2.2.2.2.2.2.2.2.2.2.2.2.2.2.2.2.2.2.2.2.2.2.1 k0_t2
theorem k0_off50_inb : ∀ (v1_0 : BitVec 32) (k0_hw2 : k0_chk2 v1_0) (k0_t2 : Fin (k0_t2_loop v1_0).trips), ∀ a, (k0_off50 v1_0 k0_t2) a + S1x1x256.size a ≤ S3x11x3072.size a := fun v1_0 k0_hw2 k0_t2 => k0_hw2.1.2.2.2.2.2.2.2.2.2.2.2.2.2.2.2.2.2.2.2.2.2.2.2.2.2.2.2.2.2.1 k0_t2
theorem k0_off51_inb : ∀ (v1_0 : BitVec 32) (k0_hw2 : k0_chk2 v1_0) (k0_t2 : Fin (k0_t2_loop v1_0).trips), ∀ a, (k0_off51 v1_0 k0_t2) a + S1x64x256.size a ≤ S3x704x3072.size a := fun v1_0 k0_hw2 k0_t2 => k0_hw2.1.2.2.2.2.2.2.2.2.2.2.2.2.2.2.2.2.2.2.2.2.2.2.2.2.2.2.2.2.2.2.1 k0_t2
theorem k0_off52_inb : ∀ (v1_0 : BitVec 32) (k0_hw2 : k0_chk2 v1_0) (k0_t2 : Fin (k0_t2_loop v1_0).trips), ∀ a, (k0_off52 v1_0 k0_t2) a + S1x1x256.size a ≤ S3x11x3072.size a := fun v1_0 k0_hw2 k0_t2 => k0_hw2.1.2.2.2.2.2.2.2.2.2.2.2.2.2.2.2.2.2.2.2.2.2.2.2.2.2.2.2.2.2.2.2 k0_t2
theorem k0_off53_inb : ∀ (v1_0 : BitVec 32) (k0_hw2 : k0_chk2 v1_0) (k0_t2 : Fin (k0_t2_loop v1_0).trips), ∀ a, (k0_off53 v1_0 k0_t2) a + S1x64x256.size a ≤ S3x704x3072.size a := fun v1_0 k0_hw2 k0_t2 => k0_hw2.2.1.1 k0_t2
theorem k0_off54_inb : ∀ (v1_0 : BitVec 32) (k0_hw2 : k0_chk2 v1_0) (k0_t2 : Fin (k0_t2_loop v1_0).trips), ∀ a, (k0_off54 v1_0 k0_t2) a + S1x1x256.size a ≤ S3x11x3072.size a := fun v1_0 k0_hw2 k0_t2 => k0_hw2.2.1.2.1 k0_t2
theorem k0_off55_inb : ∀ (v1_0 : BitVec 32) (k0_hw2 : k0_chk2 v1_0) (k0_t2 : Fin (k0_t2_loop v1_0).trips), ∀ a, (k0_off55 v1_0 k0_t2) a + S1x64x256.size a ≤ S3x704x3072.size a := fun v1_0 k0_hw2 k0_t2 => k0_hw2.2.1.2.2.1 k0_t2
theorem k0_off56_inb : ∀ (v1_0 : BitVec 32) (k0_hw2 : k0_chk2 v1_0) (k0_t2 : Fin (k0_t2_loop v1_0).trips), ∀ a, (k0_off56 v1_0 k0_t2) a + S1x1x256.size a ≤ S3x11x3072.size a := fun v1_0 k0_hw2 k0_t2 => k0_hw2.2.1.2.2.2.1 k0_t2
theorem k0_off57_inb : ∀ (v1_0 : BitVec 32) (k0_hw2 : k0_chk2 v1_0) (k0_t2 : Fin (k0_t2_loop v1_0).trips), ∀ a, (k0_off57 v1_0 k0_t2) a + S1x64x256.size a ≤ S3x704x3072.size a := fun v1_0 k0_hw2 k0_t2 => k0_hw2.2.1.2.2.2.2.1 k0_t2
theorem k0_off58_inb : ∀ (v1_0 : BitVec 32) (k0_hw2 : k0_chk2 v1_0) (k0_t2 : Fin (k0_t2_loop v1_0).trips), ∀ a, (k0_off58 v1_0 k0_t2) a + S1x1x256.size a ≤ S3x11x3072.size a := fun v1_0 k0_hw2 k0_t2 => k0_hw2.2.1.2.2.2.2.2.1 k0_t2
theorem k0_off59_inb : ∀ (v1_0 : BitVec 32) (k0_hw2 : k0_chk2 v1_0) (k0_t2 : Fin (k0_t2_loop v1_0).trips), ∀ a, (k0_off59 v1_0 k0_t2) a + S1x64x256.size a ≤ S3x704x3072.size a := fun v1_0 k0_hw2 k0_t2 => k0_hw2.2.1.2.2.2.2.2.2.1 k0_t2
theorem k0_off60_inb : ∀ (v1_0 : BitVec 32) (k0_hw2 : k0_chk2 v1_0) (k0_t2 : Fin (k0_t2_loop v1_0).trips), ∀ a, (k0_off60 v1_0 k0_t2) a + S1x1x256.size a ≤ S3x11x3072.size a := fun v1_0 k0_hw2 k0_t2 => k0_hw2.2.1.2.2.2.2.2.2.2.1 k0_t2
theorem k0_off61_inb : ∀ (v1_0 : BitVec 32) (k0_hw2 : k0_chk2 v1_0) (k0_t2 : Fin (k0_t2_loop v1_0).trips), ∀ a, (k0_off61 v1_0 k0_t2) a + S1x64x256.size a ≤ S3x704x3072.size a := fun v1_0 k0_hw2 k0_t2 => k0_hw2.2.1.2.2.2.2.2.2.2.2.1 k0_t2
theorem k0_off62_inb : ∀ (v1_0 : BitVec 32) (k0_hw2 : k0_chk2 v1_0) (k0_t2 : Fin (k0_t2_loop v1_0).trips), ∀ a, (k0_off62 v1_0 k0_t2) a + S1x1x256.size a ≤ S3x11x3072.size a := fun v1_0 k0_hw2 k0_t2 => k0_hw2.2.1.2.2.2.2.2.2.2.2.2.1 k0_t2
theorem k0_off63_inb : ∀ (v1_0 : BitVec 32) (k0_hw2 : k0_chk2 v1_0) (k0_t2 : Fin (k0_t2_loop v1_0).trips), ∀ a, (k0_off63 v1_0 k0_t2) a + S1x64x256.size a ≤ S3x704x3072.size a := fun v1_0 k0_hw2 k0_t2 => k0_hw2.2.1.2.2.2.2.2.2.2.2.2.2.1 k0_t2
theorem k0_off64_inb : ∀ (v1_0 : BitVec 32) (k0_hw2 : k0_chk2 v1_0) (k0_t2 : Fin (k0_t2_loop v1_0).trips), ∀ a, (k0_off64 v1_0 k0_t2) a + S1x1x256.size a ≤ S3x11x3072.size a := fun v1_0 k0_hw2 k0_t2 => k0_hw2.2.1.2.2.2.2.2.2.2.2.2.2.2.1 k0_t2
theorem k0_off65_inb : ∀ (v1_0 : BitVec 32) (k0_hw2 : k0_chk2 v1_0) (k0_t2 : Fin (k0_t2_loop v1_0).trips), ∀ a, (k0_off65 v1_0 k0_t2) a + S1x64x256.size a ≤ S3x704x3072.size a := fun v1_0 k0_hw2 k0_t2 => k0_hw2.2.1.2.2.2.2.2.2.2.2.2.2.2.2.1 k0_t2
theorem k0_off66_inb : ∀ (v1_0 : BitVec 32) (k0_hw2 : k0_chk2 v1_0) (k0_t2 : Fin (k0_t2_loop v1_0).trips), ∀ a, (k0_off66 v1_0 k0_t2) a + S1x1x256.size a ≤ S3x11x3072.size a := fun v1_0 k0_hw2 k0_t2 => k0_hw2.2.1.2.2.2.2.2.2.2.2.2.2.2.2.2.1 k0_t2
theorem k0_off67_inb : ∀ (v1_0 : BitVec 32) (k0_hw2 : k0_chk2 v1_0) (k0_t2 : Fin (k0_t2_loop v1_0).trips), ∀ a, (k0_off67 v1_0 k0_t2) a + S1x64x256.size a ≤ S3x704x3072.size a := fun v1_0 k0_hw2 k0_t2 => k0_hw2.2.1.2.2.2.2.2.2.2.2.2.2.2.2.2.2.1 k0_t2
theorem k0_off68_inb : ∀ (v1_0 : BitVec 32) (k0_hw2 : k0_chk2 v1_0) (k0_t2 : Fin (k0_t2_loop v1_0).trips), ∀ a, (k0_off68 v1_0 k0_t2) a + S1x1x256.size a ≤ S3x11x3072.size a := fun v1_0 k0_hw2 k0_t2 => k0_hw2.2.1.2.2.2.2.2.2.2.2.2.2.2.2.2.2.2.1 k0_t2
theorem k0_off69_inb : ∀ (v1_0 : BitVec 32) (k0_hw2 : k0_chk2 v1_0) (k0_t2 : Fin (k0_t2_loop v1_0).trips), ∀ a, (k0_off69 v1_0 k0_t2) a + S1x64x256.size a ≤ S3x704x3072.size a := fun v1_0 k0_hw2 k0_t2 => k0_hw2.2.1.2.2.2.2.2.2.2.2.2.2.2.2.2.2.2.2.1 k0_t2
theorem k0_off70_inb : ∀ (v1_0 : BitVec 32) (k0_hw2 : k0_chk2 v1_0) (k0_t2 : Fin (k0_t2_loop v1_0).trips), ∀ a, (k0_off70 v1_0 k0_t2) a + S1x1x256.size a ≤ S3x11x3072.size a := fun v1_0 k0_hw2 k0_t2 => k0_hw2.2.1.2.2.2.2.2.2.2.2.2.2.2.2.2.2.2.2.2.1 k0_t2
theorem k0_off71_inb : ∀ (v1_0 : BitVec 32) (k0_hw2 : k0_chk2 v1_0) (k0_t2 : Fin (k0_t2_loop v1_0).trips), ∀ a, (k0_off71 v1_0 k0_t2) a + S1x64x256.size a ≤ S3x704x3072.size a := fun v1_0 k0_hw2 k0_t2 => k0_hw2.2.1.2.2.2.2.2.2.2.2.2.2.2.2.2.2.2.2.2.2.1 k0_t2
theorem k0_off72_inb : ∀ (v1_0 : BitVec 32) (k0_hw2 : k0_chk2 v1_0) (k0_t2 : Fin (k0_t2_loop v1_0).trips), ∀ a, (k0_off72 v1_0 k0_t2) a + S1x1x256.size a ≤ S3x11x3072.size a := fun v1_0 k0_hw2 k0_t2 => k0_hw2.2.1.2.2.2.2.2.2.2.2.2.2.2.2.2.2.2.2.2.2.2.1 k0_t2
theorem k0_off73_inb : ∀ (v1_0 : BitVec 32) (k0_hw2 : k0_chk2 v1_0) (k0_t2 : Fin (k0_t2_loop v1_0).trips), ∀ a, (k0_off73 v1_0 k0_t2) a + S1x64x256.size a ≤ S3x704x3072.size a := fun v1_0 k0_hw2 k0_t2 => k0_hw2.2.1.2.2.2.2.2.2.2.2.2.2.2.2.2.2.2.2.2.2.2.2.1 k0_t2
theorem k0_off74_inb : ∀ (v1_0 : BitVec 32) (k0_hw2 : k0_chk2 v1_0) (k0_t2 : Fin (k0_t2_loop v1_0).trips), ∀ a, (k0_off74 v1_0 k0_t2) a + S1x1x256.size a ≤ S3x11x3072.size a := fun v1_0 k0_hw2 k0_t2 => k0_hw2.2.1.2.2.2.2.2.2.2.2.2.2.2.2.2.2.2.2.2.2.2.2.2.1 k0_t2
theorem k0_off75_inb : ∀ (v1_0 : BitVec 32) (k0_hw2 : k0_chk2 v1_0) (k0_t2 : Fin (k0_t2_loop v1_0).trips), ∀ a, (k0_off75 v1_0 k0_t2) a + S1x64x256.size a ≤ S3x704x3072.size a := fun v1_0 k0_hw2 k0_t2 => k0_hw2.2.1.2.2.2.2.2.2.2.2.2.2.2.2.2.2.2.2.2.2.2.2.2.2.1 k0_t2
theorem k0_off76_inb : ∀ (v1_0 : BitVec 32) (k0_hw2 : k0_chk2 v1_0) (k0_t2 : Fin (k0_t2_loop v1_0).trips), ∀ a, (k0_off76 v1_0 k0_t2) a + S1x1x256.size a ≤ S3x11x3072.size a := fun v1_0 k0_hw2 k0_t2 => k0_hw2.2.1.2.2.2.2.2.2.2.2.2.2.2.2.2.2.2.2.2.2.2.2.2.2.2.1 k0_t2
theorem k0_off77_inb : ∀ (v1_0 : BitVec 32) (k0_hw2 : k0_chk2 v1_0) (k0_t2 : Fin (k0_t2_loop v1_0).trips), ∀ a, (k0_off77 v1_0 k0_t2) a + S1x64x256.size a ≤ S3x704x3072.size a := fun v1_0 k0_hw2 k0_t2 => k0_hw2.2.1.2.2.2.2.2.2.2.2.2.2.2.2.2.2.2.2.2.2.2.2.2.2.2.2.1 k0_t2
theorem k0_off78_inb : ∀ (v1_0 : BitVec 32) (k0_hw2 : k0_chk2 v1_0) (k0_t2 : Fin (k0_t2_loop v1_0).trips), ∀ a, (k0_off78 v1_0 k0_t2) a + S1x1x256.size a ≤ S3x11x3072.size a := fun v1_0 k0_hw2 k0_t2 => k0_hw2.2.1.2.2.2.2.2.2.2.2.2.2.2.2.2.2.2.2.2.2.2.2.2.2.2.2.2.1 k0_t2
theorem k0_off79_inb : ∀ (v1_0 : BitVec 32) (k0_hw2 : k0_chk2 v1_0) (k0_t2 : Fin (k0_t2_loop v1_0).trips), ∀ a, (k0_off79 v1_0 k0_t2) a + S1x64x256.size a ≤ S3x704x3072.size a := fun v1_0 k0_hw2 k0_t2 => k0_hw2.2.1.2.2.2.2.2.2.2.2.2.2.2.2.2.2.2.2.2.2.2.2.2.2.2.2.2.2.1 k0_t2
theorem k0_off80_inb : ∀ (v1_0 : BitVec 32) (k0_hw2 : k0_chk2 v1_0) (k0_t2 : Fin (k0_t2_loop v1_0).trips), ∀ a, (k0_off80 v1_0 k0_t2) a + S1x1x256.size a ≤ S3x11x3072.size a := fun v1_0 k0_hw2 k0_t2 => k0_hw2.2.1.2.2.2.2.2.2.2.2.2.2.2.2.2.2.2.2.2.2.2.2.2.2.2.2.2.2.2.1 k0_t2
theorem k0_off81_inb : ∀ (v1_0 : BitVec 32) (k0_hw2 : k0_chk2 v1_0) (k0_t2 : Fin (k0_t2_loop v1_0).trips), ∀ a, (k0_off81 v1_0 k0_t2) a + S1x64x256.size a ≤ S3x704x3072.size a := fun v1_0 k0_hw2 k0_t2 => k0_hw2.2.1.2.2.2.2.2.2.2.2.2.2.2.2.2.2.2.2.2.2.2.2.2.2.2.2.2.2.2.2.1 k0_t2
theorem k0_off82_inb : ∀ (v1_0 : BitVec 32) (k0_hw2 : k0_chk2 v1_0) (k0_t2 : Fin (k0_t2_loop v1_0).trips), ∀ a, (k0_off82 v1_0 k0_t2) a + S1x1x256.size a ≤ S3x11x3072.size a := fun v1_0 k0_hw2 k0_t2 => k0_hw2.2.1.2.2.2.2.2.2.2.2.2.2.2.2.2.2.2.2.2.2.2.2.2.2.2.2.2.2.2.2.2.1 k0_t2
theorem k0_off83_inb : ∀ (v1_0 : BitVec 32) (k0_hw2 : k0_chk2 v1_0) (k0_t2 : Fin (k0_t2_loop v1_0).trips), ∀ a, (k0_off83 v1_0 k0_t2) a + S1x64x256.size a ≤ S3x704x3072.size a := fun v1_0 k0_hw2 k0_t2 => k0_hw2.2.1.2.2.2.2.2.2.2.2.2.2.2.2.2.2.2.2.2.2.2.2.2.2.2.2.2.2.2.2.2.2.1 k0_t2
theorem k0_off84_inb : ∀ (v1_0 : BitVec 32) (k0_hw2 : k0_chk2 v1_0) (k0_t2 : Fin (k0_t2_loop v1_0).trips), ∀ a, (k0_off84 v1_0 k0_t2) a + S1x1x256.size a ≤ S3x11x3072.size a := fun v1_0 k0_hw2 k0_t2 => k0_hw2.2.1.2.2.2.2.2.2.2.2.2.2.2.2.2.2.2.2.2.2.2.2.2.2.2.2.2.2.2.2.2.2.2 k0_t2
theorem k0_off85_inb : ∀ (v1_0 : BitVec 32) (k0_hw2 : k0_chk2 v1_0) (k0_t2 : Fin (k0_t2_loop v1_0).trips), ∀ a, (k0_off85 v1_0 k0_t2) a + S1x64x256.size a ≤ S3x704x3072.size a := fun v1_0 k0_hw2 k0_t2 => k0_hw2.2.2.1.1 k0_t2
theorem k0_off86_inb : ∀ (v1_0 : BitVec 32) (k0_hw2 : k0_chk2 v1_0) (k0_t2 : Fin (k0_t2_loop v1_0).trips), ∀ a, (k0_off86 v1_0 k0_t2) a + S1x1x256.size a ≤ S3x11x3072.size a := fun v1_0 k0_hw2 k0_t2 => k0_hw2.2.2.1.2.1 k0_t2
theorem k0_off87_inb : ∀ (v1_0 : BitVec 32) (k0_hw2 : k0_chk2 v1_0) (k0_t2 : Fin (k0_t2_loop v1_0).trips), ∀ a, (k0_off87 v1_0 k0_t2) a + S1x64x256.size a ≤ S3x704x3072.size a := fun v1_0 k0_hw2 k0_t2 => k0_hw2.2.2.1.2.2.1 k0_t2
theorem k0_off88_inb : ∀ (v1_0 : BitVec 32) (k0_hw2 : k0_chk2 v1_0) (k0_t2 : Fin (k0_t2_loop v1_0).trips), ∀ a, (k0_off88 v1_0 k0_t2) a + S1x1x256.size a ≤ S3x11x3072.size a := fun v1_0 k0_hw2 k0_t2 => k0_hw2.2.2.1.2.2.2.1 k0_t2
theorem k0_off89_inb : ∀ (v1_0 : BitVec 32) (k0_hw2 : k0_chk2 v1_0) (k0_t2 : Fin (k0_t2_loop v1_0).trips), ∀ a, (k0_off89 v1_0 k0_t2) a + S1x64x256.size a ≤ S3x704x3072.size a := fun v1_0 k0_hw2 k0_t2 => k0_hw2.2.2.1.2.2.2.2.1 k0_t2
theorem k0_off90_inb : ∀ (v1_0 : BitVec 32) (k0_hw2 : k0_chk2 v1_0) (k0_t2 : Fin (k0_t2_loop v1_0).trips), ∀ a, (k0_off90 v1_0 k0_t2) a + S1x1x256.size a ≤ S3x11x3072.size a := fun v1_0 k0_hw2 k0_t2 => k0_hw2.2.2.1.2.2.2.2.2.1 k0_t2
theorem k0_off91_inb : ∀ (v1_0 : BitVec 32) (k0_hw2 : k0_chk2 v1_0) (k0_t2 : Fin (k0_t2_loop v1_0).trips), ∀ a, (k0_off91 v1_0 k0_t2) a + S1x64x256.size a ≤ S3x704x3072.size a := fun v1_0 k0_hw2 k0_t2 => k0_hw2.2.2.1.2.2.2.2.2.2.1 k0_t2
theorem k0_off92_inb : ∀ (v1_0 : BitVec 32) (k0_hw2 : k0_chk2 v1_0) (k0_t2 : Fin (k0_t2_loop v1_0).trips), ∀ a, (k0_off92 v1_0 k0_t2) a + S1x1x256.size a ≤ S3x11x3072.size a := fun v1_0 k0_hw2 k0_t2 => k0_hw2.2.2.1.2.2.2.2.2.2.2.1 k0_t2
theorem k0_off93_inb : ∀ (v1_0 : BitVec 32) (k0_hw2 : k0_chk2 v1_0) (k0_t2 : Fin (k0_t2_loop v1_0).trips), ∀ a, (k0_off93 v1_0 k0_t2) a + S1x64x256.size a ≤ S3x704x3072.size a := fun v1_0 k0_hw2 k0_t2 => k0_hw2.2.2.1.2.2.2.2.2.2.2.2.1 k0_t2
theorem k0_off94_inb : ∀ (v1_0 : BitVec 32) (k0_hw2 : k0_chk2 v1_0) (k0_t2 : Fin (k0_t2_loop v1_0).trips), ∀ a, (k0_off94 v1_0 k0_t2) a + S1x1x256.size a ≤ S3x11x3072.size a := fun v1_0 k0_hw2 k0_t2 => k0_hw2.2.2.1.2.2.2.2.2.2.2.2.2.1 k0_t2
theorem k0_off95_inb : ∀ (v1_0 : BitVec 32) (k0_hw2 : k0_chk2 v1_0) (k0_t2 : Fin (k0_t2_loop v1_0).trips), ∀ a, (k0_off95 v1_0 k0_t2) a + S1x64x256.size a ≤ S3x704x3072.size a := fun v1_0 k0_hw2 k0_t2 => k0_hw2.2.2.1.2.2.2.2.2.2.2.2.2.2.1 k0_t2
theorem k0_off96_inb : ∀ (v1_0 : BitVec 32) (k0_hw2 : k0_chk2 v1_0) (k0_t2 : Fin (k0_t2_loop v1_0).trips), ∀ a, (k0_off96 v1_0 k0_t2) a + S1x1x256.size a ≤ S3x11x3072.size a := fun v1_0 k0_hw2 k0_t2 => k0_hw2.2.2.1.2.2.2.2.2.2.2.2.2.2.2.1 k0_t2
theorem k0_off97_inb : ∀ (v1_0 : BitVec 32) (k0_hw2 : k0_chk2 v1_0) (k0_t2 : Fin (k0_t2_loop v1_0).trips), ∀ a, (k0_off97 v1_0 k0_t2) a + S1x64x256.size a ≤ S3x704x3072.size a := fun v1_0 k0_hw2 k0_t2 => k0_hw2.2.2.1.2.2.2.2.2.2.2.2.2.2.2.2.1 k0_t2
theorem k0_off98_inb : ∀ (v1_0 : BitVec 32) (k0_hw2 : k0_chk2 v1_0) (k0_t2 : Fin (k0_t2_loop v1_0).trips), ∀ a, (k0_off98 v1_0 k0_t2) a + S1x1x256.size a ≤ S3x11x3072.size a := fun v1_0 k0_hw2 k0_t2 => k0_hw2.2.2.1.2.2.2.2.2.2.2.2.2.2.2.2.2.1 k0_t2
theorem k0_off99_inb : ∀ (v1_0 : BitVec 32) (k0_hw2 : k0_chk2 v1_0) (k0_t2 : Fin (k0_t2_loop v1_0).trips), ∀ a, (k0_off99 v1_0 k0_t2) a + S1x64x256.size a ≤ S3x704x3072.size a := fun v1_0 k0_hw2 k0_t2 => k0_hw2.2.2.1.2.2.2.2.2.2.2.2.2.2.2.2.2.2.1 k0_t2
theorem k0_off100_inb : ∀ (v1_0 : BitVec 32) (k0_hw2 : k0_chk2 v1_0) (k0_t2 : Fin (k0_t2_loop v1_0).trips), ∀ a, (k0_off100 v1_0 k0_t2) a + S1x1x256.size a ≤ S3x11x3072.size a := fun v1_0 k0_hw2 k0_t2 => k0_hw2.2.2.1.2.2.2.2.2.2.2.2.2.2.2.2.2.2.2.1 k0_t2
theorem k0_off101_inb : ∀ (v1_0 : BitVec 32) (k0_hw2 : k0_chk2 v1_0) (k0_t2 : Fin (k0_t2_loop v1_0).trips), ∀ a, (k0_off101 v1_0 k0_t2) a + S1x64x256.size a ≤ S3x704x3072.size a := fun v1_0 k0_hw2 k0_t2 => k0_hw2.2.2.1.2.2.2.2.2.2.2.2.2.2.2.2.2.2.2.2.1 k0_t2
theorem k0_off102_inb : ∀ (v1_0 : BitVec 32) (k0_hw2 : k0_chk2 v1_0) (k0_t2 : Fin (k0_t2_loop v1_0).trips), ∀ a, (k0_off102 v1_0 k0_t2) a + S1x1x256.size a ≤ S3x11x3072.size a := fun v1_0 k0_hw2 k0_t2 => k0_hw2.2.2.1.2.2.2.2.2.2.2.2.2.2.2.2.2.2.2.2.2.1 k0_t2
theorem k0_off103_inb : ∀ (v1_0 : BitVec 32) (k0_hw2 : k0_chk2 v1_0) (k0_t2 : Fin (k0_t2_loop v1_0).trips), ∀ a, (k0_off103 v1_0 k0_t2) a + S1x64x256.size a ≤ S3x704x3072.size a := fun v1_0 k0_hw2 k0_t2 => k0_hw2.2.2.1.2.2.2.2.2.2.2.2.2.2.2.2.2.2.2.2.2.2.1 k0_t2
theorem k0_off104_inb : ∀ (v1_0 : BitVec 32) (k0_hw2 : k0_chk2 v1_0) (k0_t2 : Fin (k0_t2_loop v1_0).trips), ∀ a, (k0_off104 v1_0 k0_t2) a + S1x1x256.size a ≤ S3x11x3072.size a := fun v1_0 k0_hw2 k0_t2 => k0_hw2.2.2.1.2.2.2.2.2.2.2.2.2.2.2.2.2.2.2.2.2.2.2.1 k0_t2
theorem k0_off105_inb : ∀ (v1_0 : BitVec 32) (k0_hw2 : k0_chk2 v1_0) (k0_t2 : Fin (k0_t2_loop v1_0).trips), ∀ a, (k0_off105 v1_0 k0_t2) a + S1x64x256.size a ≤ S3x704x3072.size a := fun v1_0 k0_hw2 k0_t2 => k0_hw2.2.2.1.2.2.2.2.2.2.2.2.2.2.2.2.2.2.2.2.2.2.2.2.1 k0_t2
theorem k0_off106_inb : ∀ (v1_0 : BitVec 32) (k0_hw2 : k0_chk2 v1_0) (k0_t2 : Fin (k0_t2_loop v1_0).trips), ∀ a, (k0_off106 v1_0 k0_t2) a + S1x1x256.size a ≤ S3x11x3072.size a := fun v1_0 k0_hw2 k0_t2 => k0_hw2.2.2.1.2.2.2.2.2.2.2.2.2.2.2.2.2.2.2.2.2.2.2.2.2.1 k0_t2
theorem k0_off107_inb : ∀ (v1_0 : BitVec 32) (k0_hw2 : k0_chk2 v1_0) (k0_t2 : Fin (k0_t2_loop v1_0).trips), ∀ a, (k0_off107 v1_0 k0_t2) a + S1x64x256.size a ≤ S3x704x3072.size a := fun v1_0 k0_hw2 k0_t2 => k0_hw2.2.2.1.2.2.2.2.2.2.2.2.2.2.2.2.2.2.2.2.2.2.2.2.2.2.1 k0_t2
theorem k0_off108_inb : ∀ (v1_0 : BitVec 32) (k0_hw2 : k0_chk2 v1_0) (k0_t2 : Fin (k0_t2_loop v1_0).trips), ∀ a, (k0_off108 v1_0 k0_t2) a + S1x1x256.size a ≤ S3x11x3072.size a := fun v1_0 k0_hw2 k0_t2 => k0_hw2.2.2.1.2.2.2.2.2.2.2.2.2.2.2.2.2.2.2.2.2.2.2.2.2.2.2.1 k0_t2
theorem k0_off109_inb : ∀ (v1_0 : BitVec 32) (k0_hw2 : k0_chk2 v1_0) (k0_t2 : Fin (k0_t2_loop v1_0).trips), ∀ a, (k0_off109 v1_0 k0_t2) a + S1x64x256.size a ≤ S3x704x3072.size a := fun v1_0 k0_hw2 k0_t2 => k0_hw2.2.2.1.2.2.2.2.2.2.2.2.2.2.2.2.2.2.2.2.2.2.2.2.2.2.2.2.1 k0_t2
theorem k0_off110_inb : ∀ (v1_0 : BitVec 32) (k0_hw2 : k0_chk2 v1_0) (k0_t2 : Fin (k0_t2_loop v1_0).trips), ∀ a, (k0_off110 v1_0 k0_t2) a + S1x1x256.size a ≤ S3x11x3072.size a := fun v1_0 k0_hw2 k0_t2 => k0_hw2.2.2.1.2.2.2.2.2.2.2.2.2.2.2.2.2.2.2.2.2.2.2.2.2.2.2.2.2.1 k0_t2
theorem k0_off111_inb : ∀ (v1_0 : BitVec 32) (k0_hw2 : k0_chk2 v1_0) (k0_t2 : Fin (k0_t2_loop v1_0).trips), ∀ a, (k0_off111 v1_0 k0_t2) a + S1x64x256.size a ≤ S3x704x3072.size a := fun v1_0 k0_hw2 k0_t2 => k0_hw2.2.2.1.2.2.2.2.2.2.2.2.2.2.2.2.2.2.2.2.2.2.2.2.2.2.2.2.2.2.1 k0_t2
theorem k0_off112_inb : ∀ (v1_0 : BitVec 32) (k0_hw2 : k0_chk2 v1_0) (k0_t2 : Fin (k0_t2_loop v1_0).trips), ∀ a, (k0_off112 v1_0 k0_t2) a + S1x1x256.size a ≤ S3x11x3072.size a := fun v1_0 k0_hw2 k0_t2 => k0_hw2.2.2.1.2.2.2.2.2.2.2.2.2.2.2.2.2.2.2.2.2.2.2.2.2.2.2.2.2.2.2.1 k0_t2
theorem k0_off113_inb : ∀ (v1_0 : BitVec 32) (k0_hw2 : k0_chk2 v1_0) (k0_t2 : Fin (k0_t2_loop v1_0).trips), ∀ a, (k0_off113 v1_0 k0_t2) a + S1x64x256.size a ≤ S3x704x3072.size a := fun v1_0 k0_hw2 k0_t2 => k0_hw2.2.2.1.2.2.2.2.2.2.2.2.2.2.2.2.2.2.2.2.2.2.2.2.2.2.2.2.2.2.2.2.1 k0_t2
theorem k0_off114_inb : ∀ (v1_0 : BitVec 32) (k0_hw2 : k0_chk2 v1_0) (k0_t2 : Fin (k0_t2_loop v1_0).trips), ∀ a, (k0_off114 v1_0 k0_t2) a + S1x1x256.size a ≤ S3x11x3072.size a := fun v1_0 k0_hw2 k0_t2 => k0_hw2.2.2.1.2.2.2.2.2.2.2.2.2.2.2.2.2.2.2.2.2.2.2.2.2.2.2.2.2.2.2.2.2.1 k0_t2
theorem k0_off115_inb : ∀ (v1_0 : BitVec 32) (k0_hw2 : k0_chk2 v1_0) (k0_t2 : Fin (k0_t2_loop v1_0).trips), ∀ a, (k0_off115 v1_0 k0_t2) a + S1x64x256.size a ≤ S3x704x3072.size a := fun v1_0 k0_hw2 k0_t2 => k0_hw2.2.2.1.2.2.2.2.2.2.2.2.2.2.2.2.2.2.2.2.2.2.2.2.2.2.2.2.2.2.2.2.2.2.1 k0_t2
theorem k0_off116_inb : ∀ (v1_0 : BitVec 32) (k0_hw2 : k0_chk2 v1_0) (k0_t2 : Fin (k0_t2_loop v1_0).trips), ∀ a, (k0_off116 v1_0 k0_t2) a + S1x1x256.size a ≤ S3x11x3072.size a := fun v1_0 k0_hw2 k0_t2 => k0_hw2.2.2.1.2.2.2.2.2.2.2.2.2.2.2.2.2.2.2.2.2.2.2.2.2.2.2.2.2.2.2.2.2.2.2 k0_t2
theorem k0_off117_inb : ∀ (v1_0 : BitVec 32) (k0_hw2 : k0_chk2 v1_0) (k0_t2 : Fin (k0_t2_loop v1_0).trips), ∀ a, (k0_off117 v1_0 k0_t2) a + S1x64x256.size a ≤ S3x704x3072.size a := fun v1_0 k0_hw2 k0_t2 => k0_hw2.2.2.2.1.1 k0_t2
theorem k0_off118_inb : ∀ (v1_0 : BitVec 32) (k0_hw2 : k0_chk2 v1_0) (k0_t2 : Fin (k0_t2_loop v1_0).trips), ∀ a, (k0_off118 v1_0 k0_t2) a + S1x1x256.size a ≤ S3x11x3072.size a := fun v1_0 k0_hw2 k0_t2 => k0_hw2.2.2.2.1.2.1 k0_t2
theorem k0_off119_inb : ∀ (v1_0 : BitVec 32) (k0_hw2 : k0_chk2 v1_0) (k0_t2 : Fin (k0_t2_loop v1_0).trips), ∀ a, (k0_off119 v1_0 k0_t2) a + S1x64x256.size a ≤ S3x704x3072.size a := fun v1_0 k0_hw2 k0_t2 => k0_hw2.2.2.2.1.2.2.1 k0_t2
theorem k0_off120_inb : ∀ (v1_0 : BitVec 32) (k0_hw2 : k0_chk2 v1_0) (k0_t2 : Fin (k0_t2_loop v1_0).trips), ∀ a, (k0_off120 v1_0 k0_t2) a + S1x1x256.size a ≤ S3x11x3072.size a := fun v1_0 k0_hw2 k0_t2 => k0_hw2.2.2.2.1.2.2.2.1 k0_t2
theorem k0_off121_inb : ∀ (v1_0 : BitVec 32) (k0_hw2 : k0_chk2 v1_0) (k0_t2 : Fin (k0_t2_loop v1_0).trips), ∀ a, (k0_off121 v1_0 k0_t2) a + S1x64x256.size a ≤ S3x704x3072.size a := fun v1_0 k0_hw2 k0_t2 => k0_hw2.2.2.2.1.2.2.2.2.1 k0_t2
theorem k0_off122_inb : ∀ (v1_0 : BitVec 32) (k0_hw2 : k0_chk2 v1_0) (k0_t2 : Fin (k0_t2_loop v1_0).trips), ∀ a, (k0_off122 v1_0 k0_t2) a + S1x1x256.size a ≤ S3x11x3072.size a := fun v1_0 k0_hw2 k0_t2 => k0_hw2.2.2.2.1.2.2.2.2.2.1 k0_t2
theorem k0_off123_inb : ∀ (v1_0 : BitVec 32) (k0_hw2 : k0_chk2 v1_0) (k0_t2 : Fin (k0_t2_loop v1_0).trips), ∀ a, (k0_off123 v1_0 k0_t2) a + S1x64x256.size a ≤ S3x704x3072.size a := fun v1_0 k0_hw2 k0_t2 => k0_hw2.2.2.2.1.2.2.2.2.2.2.1 k0_t2
theorem k0_off124_inb : ∀ (v1_0 : BitVec 32) (k0_hw2 : k0_chk2 v1_0) (k0_t2 : Fin (k0_t2_loop v1_0).trips), ∀ a, (k0_off124 v1_0 k0_t2) a + S1x1x256.size a ≤ S3x11x3072.size a := fun v1_0 k0_hw2 k0_t2 => k0_hw2.2.2.2.1.2.2.2.2.2.2.2.1 k0_t2
theorem k0_off125_inb : ∀ (v1_0 : BitVec 32) (k0_hw2 : k0_chk2 v1_0) (k0_t2 : Fin (k0_t2_loop v1_0).trips), ∀ a, (k0_off125 v1_0 k0_t2) a + S1x64x256.size a ≤ S3x704x3072.size a := fun v1_0 k0_hw2 k0_t2 => k0_hw2.2.2.2.1.2.2.2.2.2.2.2.2.1 k0_t2
theorem k0_off126_inb : ∀ (v1_0 : BitVec 32) (k0_hw2 : k0_chk2 v1_0) (k0_t2 : Fin (k0_t2_loop v1_0).trips), ∀ a, (k0_off126 v1_0 k0_t2) a + S1x1x256.size a ≤ S3x11x3072.size a := fun v1_0 k0_hw2 k0_t2 => k0_hw2.2.2.2.1.2.2.2.2.2.2.2.2.2.1 k0_t2
theorem k0_off127_inb : ∀ (v1_0 : BitVec 32) (k0_hw2 : k0_chk2 v1_0) (k0_t2 : Fin (k0_t2_loop v1_0).trips), ∀ a, (k0_off127 v1_0 k0_t2) a + S1x64x256.size a ≤ S3x704x3072.size a := fun v1_0 k0_hw2 k0_t2 => k0_hw2.2.2.2.1.2.2.2.2.2.2.2.2.2.2.1 k0_t2
theorem k0_off128_inb : ∀ (v1_0 : BitVec 32) (k0_hw2 : k0_chk2 v1_0) (k0_t2 : Fin (k0_t2_loop v1_0).trips), ∀ a, (k0_off128 v1_0 k0_t2) a + S1x1x256.size a ≤ S3x11x3072.size a := fun v1_0 k0_hw2 k0_t2 => k0_hw2.2.2.2.1.2.2.2.2.2.2.2.2.2.2.2.1 k0_t2
theorem k0_off129_inb : ∀ (v1_0 : BitVec 32) (k0_hw2 : k0_chk2 v1_0) (k0_t2 : Fin (k0_t2_loop v1_0).trips), ∀ a, (k0_off129 v1_0 k0_t2) a + S1x64x256.size a ≤ S3x704x3072.size a := fun v1_0 k0_hw2 k0_t2 => k0_hw2.2.2.2.1.2.2.2.2.2.2.2.2.2.2.2.2.1 k0_t2
theorem k0_off130_inb : ∀ (v1_0 : BitVec 32) (k0_hw2 : k0_chk2 v1_0) (k0_t2 : Fin (k0_t2_loop v1_0).trips), ∀ a, (k0_off130 v1_0 k0_t2) a + S1x1x256.size a ≤ S3x11x3072.size a := fun v1_0 k0_hw2 k0_t2 => k0_hw2.2.2.2.1.2.2.2.2.2.2.2.2.2.2.2.2.2.1 k0_t2
theorem k0_off131_inb : ∀ (v1_0 : BitVec 32) (k0_hw2 : k0_chk2 v1_0) (k0_t2 : Fin (k0_t2_loop v1_0).trips), ∀ a, (k0_off131 v1_0 k0_t2) a + S1x64x256.size a ≤ S3x704x3072.size a := fun v1_0 k0_hw2 k0_t2 => k0_hw2.2.2.2.1.2.2.2.2.2.2.2.2.2.2.2.2.2.2.1 k0_t2
theorem k0_off132_inb : ∀ (v1_0 : BitVec 32) (k0_hw2 : k0_chk2 v1_0) (k0_t2 : Fin (k0_t2_loop v1_0).trips), ∀ a, (k0_off132 v1_0 k0_t2) a + S1x1x256.size a ≤ S3x11x3072.size a := fun v1_0 k0_hw2 k0_t2 => k0_hw2.2.2.2.1.2.2.2.2.2.2.2.2.2.2.2.2.2.2.2.1 k0_t2
theorem k0_off133_inb : ∀ (v1_0 : BitVec 32) (k0_hw2 : k0_chk2 v1_0) (k0_t2 : Fin (k0_t2_loop v1_0).trips), ∀ a, (k0_off133 v1_0 k0_t2) a + S1x64x256.size a ≤ S3x704x3072.size a := fun v1_0 k0_hw2 k0_t2 => k0_hw2.2.2.2.1.2.2.2.2.2.2.2.2.2.2.2.2.2.2.2.2.1 k0_t2
theorem k0_off134_inb : ∀ (v1_0 : BitVec 32) (k0_hw2 : k0_chk2 v1_0) (k0_t2 : Fin (k0_t2_loop v1_0).trips), ∀ a, (k0_off134 v1_0 k0_t2) a + S1x1x256.size a ≤ S3x11x3072.size a := fun v1_0 k0_hw2 k0_t2 => k0_hw2.2.2.2.1.2.2.2.2.2.2.2.2.2.2.2.2.2.2.2.2.2.1 k0_t2
theorem k0_off135_inb : ∀ (v1_0 : BitVec 32) (k0_hw2 : k0_chk2 v1_0) (k0_t2 : Fin (k0_t2_loop v1_0).trips), ∀ a, (k0_off135 v1_0 k0_t2) a + S1x64x256.size a ≤ S3x704x3072.size a := fun v1_0 k0_hw2 k0_t2 => k0_hw2.2.2.2.1.2.2.2.2.2.2.2.2.2.2.2.2.2.2.2.2.2.2.1 k0_t2
theorem k0_off136_inb : ∀ (v1_0 : BitVec 32) (k0_hw2 : k0_chk2 v1_0) (k0_t2 : Fin (k0_t2_loop v1_0).trips), ∀ a, (k0_off136 v1_0 k0_t2) a + S1x1x256.size a ≤ S3x11x3072.size a := fun v1_0 k0_hw2 k0_t2 => k0_hw2.2.2.2.1.2.2.2.2.2.2.2.2.2.2.2.2.2.2.2.2.2.2.2.1 k0_t2
theorem k0_off137_inb : ∀ (v1_0 : BitVec 32) (k0_hw2 : k0_chk2 v1_0) (k0_t2 : Fin (k0_t2_loop v1_0).trips), ∀ a, (k0_off137 v1_0 k0_t2) a + S1x64x256.size a ≤ S3x704x3072.size a := fun v1_0 k0_hw2 k0_t2 => k0_hw2.2.2.2.1.2.2.2.2.2.2.2.2.2.2.2.2.2.2.2.2.2.2.2.2.1 k0_t2
theorem k0_off138_inb : ∀ (v1_0 : BitVec 32) (k0_hw2 : k0_chk2 v1_0) (k0_t2 : Fin (k0_t2_loop v1_0).trips), ∀ a, (k0_off138 v1_0 k0_t2) a + S1x1x256.size a ≤ S3x11x3072.size a := fun v1_0 k0_hw2 k0_t2 => k0_hw2.2.2.2.1.2.2.2.2.2.2.2.2.2.2.2.2.2.2.2.2.2.2.2.2.2.1 k0_t2
theorem k0_off139_inb : ∀ (v1_0 : BitVec 32) (k0_hw2 : k0_chk2 v1_0) (k0_t2 : Fin (k0_t2_loop v1_0).trips), ∀ a, (k0_off139 v1_0 k0_t2) a + S1x64x256.size a ≤ S3x704x3072.size a := fun v1_0 k0_hw2 k0_t2 => k0_hw2.2.2.2.1.2.2.2.2.2.2.2.2.2.2.2.2.2.2.2.2.2.2.2.2.2.2.1 k0_t2
theorem k0_off140_inb : ∀ (v1_0 : BitVec 32) (k0_hw2 : k0_chk2 v1_0) (k0_t2 : Fin (k0_t2_loop v1_0).trips), ∀ a, (k0_off140 v1_0 k0_t2) a + S1x1x256.size a ≤ S3x11x3072.size a := fun v1_0 k0_hw2 k0_t2 => k0_hw2.2.2.2.1.2.2.2.2.2.2.2.2.2.2.2.2.2.2.2.2.2.2.2.2.2.2.2.1 k0_t2
theorem k0_off141_inb : ∀ (v1_0 : BitVec 32) (k0_hw2 : k0_chk2 v1_0) (k0_t2 : Fin (k0_t2_loop v1_0).trips), ∀ a, (k0_off141 v1_0 k0_t2) a + S1x64x256.size a ≤ S3x704x3072.size a := fun v1_0 k0_hw2 k0_t2 => k0_hw2.2.2.2.1.2.2.2.2.2.2.2.2.2.2.2.2.2.2.2.2.2.2.2.2.2.2.2.2.1 k0_t2
theorem k0_off142_inb : ∀ (v1_0 : BitVec 32) (k0_hw2 : k0_chk2 v1_0) (k0_t2 : Fin (k0_t2_loop v1_0).trips), ∀ a, (k0_off142 v1_0 k0_t2) a + S1x1x256.size a ≤ S3x11x3072.size a := fun v1_0 k0_hw2 k0_t2 => k0_hw2.2.2.2.1.2.2.2.2.2.2.2.2.2.2.2.2.2.2.2.2.2.2.2.2.2.2.2.2.2.1 k0_t2
theorem k0_off143_inb : ∀ (v1_0 : BitVec 32) (k0_hw2 : k0_chk2 v1_0) (k0_t2 : Fin (k0_t2_loop v1_0).trips), ∀ a, (k0_off143 v1_0 k0_t2) a + S1x64x256.size a ≤ S3x704x3072.size a := fun v1_0 k0_hw2 k0_t2 => k0_hw2.2.2.2.1.2.2.2.2.2.2.2.2.2.2.2.2.2.2.2.2.2.2.2.2.2.2.2.2.2.2.1 k0_t2
theorem k0_off144_inb : ∀ (v1_0 : BitVec 32) (k0_hw2 : k0_chk2 v1_0) (k0_t2 : Fin (k0_t2_loop v1_0).trips), ∀ a, (k0_off144 v1_0 k0_t2) a + S1x1x256.size a ≤ S3x11x3072.size a := fun v1_0 k0_hw2 k0_t2 => k0_hw2.2.2.2.1.2.2.2.2.2.2.2.2.2.2.2.2.2.2.2.2.2.2.2.2.2.2.2.2.2.2.2.1 k0_t2
theorem k0_off145_inb : ∀ (v1_0 : BitVec 32) (k0_hw2 : k0_chk2 v1_0) (k0_t2 : Fin (k0_t2_loop v1_0).trips), ∀ a, (k0_off145 v1_0 k0_t2) a + S1x64x256.size a ≤ S3x704x3072.size a := fun v1_0 k0_hw2 k0_t2 => k0_hw2.2.2.2.1.2.2.2.2.2.2.2.2.2.2.2.2.2.2.2.2.2.2.2.2.2.2.2.2.2.2.2.2.1 k0_t2
theorem k0_off146_inb : ∀ (v1_0 : BitVec 32) (k0_hw2 : k0_chk2 v1_0) (k0_t2 : Fin (k0_t2_loop v1_0).trips), ∀ a, (k0_off146 v1_0 k0_t2) a + S1x1x256.size a ≤ S3x11x3072.size a := fun v1_0 k0_hw2 k0_t2 => k0_hw2.2.2.2.1.2.2.2.2.2.2.2.2.2.2.2.2.2.2.2.2.2.2.2.2.2.2.2.2.2.2.2.2.2.1 k0_t2
theorem k0_off147_inb : ∀ (v1_0 : BitVec 32) (k0_hw2 : k0_chk2 v1_0) (k0_t2 : Fin (k0_t2_loop v1_0).trips), ∀ a, (k0_off147 v1_0 k0_t2) a + S1x64x256.size a ≤ S3x704x3072.size a := fun v1_0 k0_hw2 k0_t2 => k0_hw2.2.2.2.1.2.2.2.2.2.2.2.2.2.2.2.2.2.2.2.2.2.2.2.2.2.2.2.2.2.2.2.2.2.2.1 k0_t2
theorem k0_off148_inb : ∀ (v1_0 : BitVec 32) (k0_hw2 : k0_chk2 v1_0) (k0_t2 : Fin (k0_t2_loop v1_0).trips), ∀ a, (k0_off148 v1_0 k0_t2) a + S1x1x256.size a ≤ S3x11x3072.size a := fun v1_0 k0_hw2 k0_t2 => k0_hw2.2.2.2.1.2.2.2.2.2.2.2.2.2.2.2.2.2.2.2.2.2.2.2.2.2.2.2.2.2.2.2.2.2.2.2 k0_t2
theorem k0_off149_inb : ∀ (v1_0 : BitVec 32) (k0_hw2 : k0_chk2 v1_0) (k0_t2 : Fin (k0_t2_loop v1_0).trips), ∀ a, (k0_off149 v1_0 k0_t2) a + S1x64x256.size a ≤ S3x704x3072.size a := fun v1_0 k0_hw2 k0_t2 => k0_hw2.2.2.2.2.1.1 k0_t2
theorem k0_off150_inb : ∀ (v1_0 : BitVec 32) (k0_hw2 : k0_chk2 v1_0) (k0_t2 : Fin (k0_t2_loop v1_0).trips), ∀ a, (k0_off150 v1_0 k0_t2) a + S1x1x256.size a ≤ S3x11x3072.size a := fun v1_0 k0_hw2 k0_t2 => k0_hw2.2.2.2.2.1.2.1 k0_t2
theorem k0_off151_inb : ∀ (v1_0 : BitVec 32) (k0_hw2 : k0_chk2 v1_0) (k0_t2 : Fin (k0_t2_loop v1_0).trips), ∀ a, (k0_off151 v1_0 k0_t2) a + S1x64x256.size a ≤ S3x704x3072.size a := fun v1_0 k0_hw2 k0_t2 => k0_hw2.2.2.2.2.1.2.2.1 k0_t2
theorem k0_off152_inb : ∀ (v1_0 : BitVec 32) (k0_hw2 : k0_chk2 v1_0) (k0_t2 : Fin (k0_t2_loop v1_0).trips), ∀ a, (k0_off152 v1_0 k0_t2) a + S1x1x256.size a ≤ S3x11x3072.size a := fun v1_0 k0_hw2 k0_t2 => k0_hw2.2.2.2.2.1.2.2.2.1 k0_t2
theorem k0_off153_inb : ∀ (v1_0 : BitVec 32) (k0_hw2 : k0_chk2 v1_0) (k0_t2 : Fin (k0_t2_loop v1_0).trips), ∀ a, (k0_off153 v1_0 k0_t2) a + S1x64x256.size a ≤ S3x704x3072.size a := fun v1_0 k0_hw2 k0_t2 => k0_hw2.2.2.2.2.1.2.2.2.2.1 k0_t2
theorem k0_off154_inb : ∀ (v1_0 : BitVec 32) (k0_hw2 : k0_chk2 v1_0) (k0_t2 : Fin (k0_t2_loop v1_0).trips), ∀ a, (k0_off154 v1_0 k0_t2) a + S1x1x256.size a ≤ S3x11x3072.size a := fun v1_0 k0_hw2 k0_t2 => k0_hw2.2.2.2.2.1.2.2.2.2.2.1 k0_t2
theorem k0_off155_inb : ∀ (v1_0 : BitVec 32) (k0_hw2 : k0_chk2 v1_0) (k0_t2 : Fin (k0_t2_loop v1_0).trips), ∀ a, (k0_off155 v1_0 k0_t2) a + S1x64x256.size a ≤ S3x704x3072.size a := fun v1_0 k0_hw2 k0_t2 => k0_hw2.2.2.2.2.1.2.2.2.2.2.2.1 k0_t2
theorem k0_off156_inb : ∀ (v1_0 : BitVec 32) (k0_hw2 : k0_chk2 v1_0) (k0_t2 : Fin (k0_t2_loop v1_0).trips), ∀ a, (k0_off156 v1_0 k0_t2) a + S1x1x256.size a ≤ S3x11x3072.size a := fun v1_0 k0_hw2 k0_t2 => k0_hw2.2.2.2.2.1.2.2.2.2.2.2.2.1 k0_t2
theorem k0_off157_inb : ∀ (v1_0 : BitVec 32) (k0_hw2 : k0_chk2 v1_0) (k0_t2 : Fin (k0_t2_loop v1_0).trips), ∀ a, (k0_off157 v1_0 k0_t2) a + S1x64x256.size a ≤ S3x704x3072.size a := fun v1_0 k0_hw2 k0_t2 => k0_hw2.2.2.2.2.1.2.2.2.2.2.2.2.2.1 k0_t2
theorem k0_off158_inb : ∀ (v1_0 : BitVec 32) (k0_hw2 : k0_chk2 v1_0) (k0_t2 : Fin (k0_t2_loop v1_0).trips), ∀ a, (k0_off158 v1_0 k0_t2) a + S1x1x256.size a ≤ S3x11x3072.size a := fun v1_0 k0_hw2 k0_t2 => k0_hw2.2.2.2.2.1.2.2.2.2.2.2.2.2.2.1 k0_t2
theorem k0_off159_inb : ∀ (v1_0 : BitVec 32) (k0_hw2 : k0_chk2 v1_0) (k0_t2 : Fin (k0_t2_loop v1_0).trips), ∀ a, (k0_off159 v1_0 k0_t2) a + S1x64x256.size a ≤ S3x704x3072.size a := fun v1_0 k0_hw2 k0_t2 => k0_hw2.2.2.2.2.1.2.2.2.2.2.2.2.2.2.2.1 k0_t2
theorem k0_off160_inb : ∀ (v1_0 : BitVec 32) (k0_hw2 : k0_chk2 v1_0) (k0_t2 : Fin (k0_t2_loop v1_0).trips), ∀ a, (k0_off160 v1_0 k0_t2) a + S1x1x256.size a ≤ S3x11x3072.size a := fun v1_0 k0_hw2 k0_t2 => k0_hw2.2.2.2.2.1.2.2.2.2.2.2.2.2.2.2.2.1 k0_t2
theorem k0_off161_inb : ∀ (v1_0 : BitVec 32) (k0_hw2 : k0_chk2 v1_0) (k0_t2 : Fin (k0_t2_loop v1_0).trips), ∀ a, (k0_off161 v1_0 k0_t2) a + S1x64x256.size a ≤ S3x704x3072.size a := fun v1_0 k0_hw2 k0_t2 => k0_hw2.2.2.2.2.1.2.2.2.2.2.2.2.2.2.2.2.2.1 k0_t2
theorem k0_off162_inb : ∀ (v1_0 : BitVec 32) (k0_hw2 : k0_chk2 v1_0) (k0_t2 : Fin (k0_t2_loop v1_0).trips), ∀ a, (k0_off162 v1_0 k0_t2) a + S1x1x256.size a ≤ S3x11x3072.size a := fun v1_0 k0_hw2 k0_t2 => k0_hw2.2.2.2.2.1.2.2.2.2.2.2.2.2.2.2.2.2.2.1 k0_t2
theorem k0_off163_inb : ∀ (v1_0 : BitVec 32) (k0_hw2 : k0_chk2 v1_0) (k0_t2 : Fin (k0_t2_loop v1_0).trips), ∀ a, (k0_off163 v1_0 k0_t2) a + S1x64x256.size a ≤ S3x704x3072.size a := fun v1_0 k0_hw2 k0_t2 => k0_hw2.2.2.2.2.1.2.2.2.2.2.2.2.2.2.2.2.2.2.2.1 k0_t2
theorem k0_off164_inb : ∀ (v1_0 : BitVec 32) (k0_hw2 : k0_chk2 v1_0) (k0_t2 : Fin (k0_t2_loop v1_0).trips), ∀ a, (k0_off164 v1_0 k0_t2) a + S1x1x256.size a ≤ S3x11x3072.size a := fun v1_0 k0_hw2 k0_t2 => k0_hw2.2.2.2.2.1.2.2.2.2.2.2.2.2.2.2.2.2.2.2.2.1 k0_t2
theorem k0_off165_inb : ∀ (v1_0 : BitVec 32) (k0_hw2 : k0_chk2 v1_0) (k0_t2 : Fin (k0_t2_loop v1_0).trips), ∀ a, (k0_off165 v1_0 k0_t2) a + S1x64x256.size a ≤ S3x704x3072.size a := fun v1_0 k0_hw2 k0_t2 => k0_hw2.2.2.2.2.1.2.2.2.2.2.2.2.2.2.2.2.2.2.2.2.2.1 k0_t2
theorem k0_off166_inb : ∀ (v1_0 : BitVec 32) (k0_hw2 : k0_chk2 v1_0) (k0_t2 : Fin (k0_t2_loop v1_0).trips), ∀ a, (k0_off166 v1_0 k0_t2) a + S1x1x256.size a ≤ S3x11x3072.size a := fun v1_0 k0_hw2 k0_t2 => k0_hw2.2.2.2.2.1.2.2.2.2.2.2.2.2.2.2.2.2.2.2.2.2.2.1 k0_t2
theorem k0_off167_inb : ∀ (v1_0 : BitVec 32) (k0_hw2 : k0_chk2 v1_0) (k0_t2 : Fin (k0_t2_loop v1_0).trips), ∀ a, (k0_off167 v1_0 k0_t2) a + S1x64x256.size a ≤ S3x704x3072.size a := fun v1_0 k0_hw2 k0_t2 => k0_hw2.2.2.2.2.1.2.2.2.2.2.2.2.2.2.2.2.2.2.2.2.2.2.2.1 k0_t2
theorem k0_off168_inb : ∀ (v1_0 : BitVec 32) (k0_hw2 : k0_chk2 v1_0) (k0_t2 : Fin (k0_t2_loop v1_0).trips), ∀ a, (k0_off168 v1_0 k0_t2) a + S1x1x256.size a ≤ S3x11x3072.size a := fun v1_0 k0_hw2 k0_t2 => k0_hw2.2.2.2.2.1.2.2.2.2.2.2.2.2.2.2.2.2.2.2.2.2.2.2.2.1 k0_t2
theorem k0_off169_inb : ∀ (v1_0 : BitVec 32) (k0_hw2 : k0_chk2 v1_0) (k0_t2 : Fin (k0_t2_loop v1_0).trips), ∀ a, (k0_off169 v1_0 k0_t2) a + S1x64x256.size a ≤ S3x704x3072.size a := fun v1_0 k0_hw2 k0_t2 => k0_hw2.2.2.2.2.1.2.2.2.2.2.2.2.2.2.2.2.2.2.2.2.2.2.2.2.2.1 k0_t2
theorem k0_off170_inb : ∀ (v1_0 : BitVec 32) (k0_hw2 : k0_chk2 v1_0) (k0_t2 : Fin (k0_t2_loop v1_0).trips), ∀ a, (k0_off170 v1_0 k0_t2) a + S1x1x256.size a ≤ S3x11x3072.size a := fun v1_0 k0_hw2 k0_t2 => k0_hw2.2.2.2.2.1.2.2.2.2.2.2.2.2.2.2.2.2.2.2.2.2.2.2.2.2.2.1 k0_t2
theorem k0_off171_inb : ∀ (v1_0 : BitVec 32) (k0_hw2 : k0_chk2 v1_0) (k0_t2 : Fin (k0_t2_loop v1_0).trips), ∀ a, (k0_off171 v1_0 k0_t2) a + S1x64x256.size a ≤ S3x704x3072.size a := fun v1_0 k0_hw2 k0_t2 => k0_hw2.2.2.2.2.1.2.2.2.2.2.2.2.2.2.2.2.2.2.2.2.2.2.2.2.2.2.2.1 k0_t2
theorem k0_off172_inb : ∀ (v1_0 : BitVec 32) (k0_hw2 : k0_chk2 v1_0) (k0_t2 : Fin (k0_t2_loop v1_0).trips), ∀ a, (k0_off172 v1_0 k0_t2) a + S1x1x256.size a ≤ S3x11x3072.size a := fun v1_0 k0_hw2 k0_t2 => k0_hw2.2.2.2.2.1.2.2.2.2.2.2.2.2.2.2.2.2.2.2.2.2.2.2.2.2.2.2.2.1 k0_t2
theorem k0_off173_inb : ∀ (v1_0 : BitVec 32) (k0_hw2 : k0_chk2 v1_0) (k0_t2 : Fin (k0_t2_loop v1_0).trips), ∀ a, (k0_off173 v1_0 k0_t2) a + S1x64x256.size a ≤ S3x704x3072.size a := fun v1_0 k0_hw2 k0_t2 => k0_hw2.2.2.2.2.1.2.2.2.2.2.2.2.2.2.2.2.2.2.2.2.2.2.2.2.2.2.2.2.2.1 k0_t2
theorem k0_off174_inb : ∀ (v1_0 : BitVec 32) (k0_hw2 : k0_chk2 v1_0) (k0_t2 : Fin (k0_t2_loop v1_0).trips), ∀ a, (k0_off174 v1_0 k0_t2) a + S1x1x256.size a ≤ S3x11x3072.size a := fun v1_0 k0_hw2 k0_t2 => k0_hw2.2.2.2.2.1.2.2.2.2.2.2.2.2.2.2.2.2.2.2.2.2.2.2.2.2.2.2.2.2.2.1 k0_t2
theorem k0_off175_inb : ∀ (v1_0 : BitVec 32) (k0_hw2 : k0_chk2 v1_0) (k0_t2 : Fin (k0_t2_loop v1_0).trips), ∀ a, (k0_off175 v1_0 k0_t2) a + S1x64x256.size a ≤ S3x704x3072.size a := fun v1_0 k0_hw2 k0_t2 => k0_hw2.2.2.2.2.1.2.2.2.2.2.2.2.2.2.2.2.2.2.2.2.2.2.2.2.2.2.2.2.2.2.2.1 k0_t2
theorem k0_off176_inb : ∀ (v1_0 : BitVec 32) (k0_hw2 : k0_chk2 v1_0) (k0_t2 : Fin (k0_t2_loop v1_0).trips), ∀ a, (k0_off176 v1_0 k0_t2) a + S1x1x256.size a ≤ S3x11x3072.size a := fun v1_0 k0_hw2 k0_t2 => k0_hw2.2.2.2.2.1.2.2.2.2.2.2.2.2.2.2.2.2.2.2.2.2.2.2.2.2.2.2.2.2.2.2.2.1 k0_t2
theorem k0_off177_inb : ∀ (v1_0 : BitVec 32) (k0_hw2 : k0_chk2 v1_0) (k0_t2 : Fin (k0_t2_loop v1_0).trips), ∀ a, (k0_off177 v1_0 k0_t2) a + S1x64x256.size a ≤ S3x704x3072.size a := fun v1_0 k0_hw2 k0_t2 => k0_hw2.2.2.2.2.1.2.2.2.2.2.2.2.2.2.2.2.2.2.2.2.2.2.2.2.2.2.2.2.2.2.2.2.2.1 k0_t2
theorem k0_off178_inb : ∀ (v1_0 : BitVec 32) (k0_hw2 : k0_chk2 v1_0) (k0_t2 : Fin (k0_t2_loop v1_0).trips), ∀ a, (k0_off178 v1_0 k0_t2) a + S1x1x256.size a ≤ S3x11x3072.size a := fun v1_0 k0_hw2 k0_t2 => k0_hw2.2.2.2.2.1.2.2.2.2.2.2.2.2.2.2.2.2.2.2.2.2.2.2.2.2.2.2.2.2.2.2.2.2.2.1 k0_t2
theorem k0_off179_inb : ∀ (v1_0 : BitVec 32) (k0_hw2 : k0_chk2 v1_0) (k0_t2 : Fin (k0_t2_loop v1_0).trips), ∀ a, (k0_off179 v1_0 k0_t2) a + S1x64x256.size a ≤ S3x704x3072.size a := fun v1_0 k0_hw2 k0_t2 => k0_hw2.2.2.2.2.1.2.2.2.2.2.2.2.2.2.2.2.2.2.2.2.2.2.2.2.2.2.2.2.2.2.2.2.2.2.2.1 k0_t2
theorem k0_off180_inb : ∀ (v1_0 : BitVec 32) (k0_hw2 : k0_chk2 v1_0) (k0_t2 : Fin (k0_t2_loop v1_0).trips), ∀ a, (k0_off180 v1_0 k0_t2) a + S1x1x256.size a ≤ S3x11x3072.size a := fun v1_0 k0_hw2 k0_t2 => k0_hw2.2.2.2.2.1.2.2.2.2.2.2.2.2.2.2.2.2.2.2.2.2.2.2.2.2.2.2.2.2.2.2.2.2.2.2.2 k0_t2
theorem k0_off181_inb : ∀ (v1_0 : BitVec 32) (k0_hw2 : k0_chk2 v1_0) (k0_t2 : Fin (k0_t2_loop v1_0).trips), ∀ a, (k0_off181 v1_0 k0_t2) a + S1x64x256.size a ≤ S3x704x3072.size a := fun v1_0 k0_hw2 k0_t2 => k0_hw2.2.2.2.2.2.1.1 k0_t2
theorem k0_off182_inb : ∀ (v1_0 : BitVec 32) (k0_hw2 : k0_chk2 v1_0) (k0_t2 : Fin (k0_t2_loop v1_0).trips), ∀ a, (k0_off182 v1_0 k0_t2) a + S1x1x256.size a ≤ S3x11x3072.size a := fun v1_0 k0_hw2 k0_t2 => k0_hw2.2.2.2.2.2.1.2.1 k0_t2
theorem k0_off183_inb : ∀ (v1_0 : BitVec 32) (k0_hw2 : k0_chk2 v1_0) (k0_t2 : Fin (k0_t2_loop v1_0).trips), ∀ a, (k0_off183 v1_0 k0_t2) a + S1x64x256.size a ≤ S3x704x3072.size a := fun v1_0 k0_hw2 k0_t2 => k0_hw2.2.2.2.2.2.1.2.2.1 k0_t2
theorem k0_off184_inb : ∀ (v1_0 : BitVec 32) (k0_hw2 : k0_chk2 v1_0) (k0_t2 : Fin (k0_t2_loop v1_0).trips), ∀ a, (k0_off184 v1_0 k0_t2) a + S1x1x256.size a ≤ S3x11x3072.size a := fun v1_0 k0_hw2 k0_t2 => k0_hw2.2.2.2.2.2.1.2.2.2.1 k0_t2
theorem k0_off185_inb : ∀ (v1_0 : BitVec 32) (k0_hw2 : k0_chk2 v1_0) (k0_t2 : Fin (k0_t2_loop v1_0).trips), ∀ a, (k0_off185 v1_0 k0_t2) a + S1x64x256.size a ≤ S3x704x3072.size a := fun v1_0 k0_hw2 k0_t2 => k0_hw2.2.2.2.2.2.1.2.2.2.2.1 k0_t2
theorem k0_off186_inb : ∀ (v1_0 : BitVec 32) (k0_hw2 : k0_chk2 v1_0) (k0_t2 : Fin (k0_t2_loop v1_0).trips), ∀ a, (k0_off186 v1_0 k0_t2) a + S1x1x256.size a ≤ S3x11x3072.size a := fun v1_0 k0_hw2 k0_t2 => k0_hw2.2.2.2.2.2.1.2.2.2.2.2.1 k0_t2
theorem k0_off187_inb : ∀ (v1_0 : BitVec 32) (k0_hw2 : k0_chk2 v1_0) (k0_t2 : Fin (k0_t2_loop v1_0).trips), ∀ a, (k0_off187 v1_0 k0_t2) a + S1x64x256.size a ≤ S3x704x3072.size a := fun v1_0 k0_hw2 k0_t2 => k0_hw2.2.2.2.2.2.1.2.2.2.2.2.2.1 k0_t2
theorem k0_off188_inb : ∀ (v1_0 : BitVec 32) (k0_hw2 : k0_chk2 v1_0) (k0_t2 : Fin (k0_t2_loop v1_0).trips), ∀ a, (k0_off188 v1_0 k0_t2) a + S1x1x256.size a ≤ S3x11x3072.size a := fun v1_0 k0_hw2 k0_t2 => k0_hw2.2.2.2.2.2.1.2.2.2.2.2.2.2.1 k0_t2
theorem k0_off189_inb : ∀ (v1_0 : BitVec 32) (k0_hw2 : k0_chk2 v1_0) (k0_t2 : Fin (k0_t2_loop v1_0).trips), ∀ a, (k0_off189 v1_0 k0_t2) a + S1x64x256.size a ≤ S3x704x3072.size a := fun v1_0 k0_hw2 k0_t2 => k0_hw2.2.2.2.2.2.1.2.2.2.2.2.2.2.2.1 k0_t2
theorem k0_off190_inb : ∀ (v1_0 : BitVec 32) (k0_hw2 : k0_chk2 v1_0) (k0_t2 : Fin (k0_t2_loop v1_0).trips), ∀ a, (k0_off190 v1_0 k0_t2) a + S1x1x256.size a ≤ S3x11x3072.size a := fun v1_0 k0_hw2 k0_t2 => k0_hw2.2.2.2.2.2.1.2.2.2.2.2.2.2.2.2.1 k0_t2
theorem k0_off191_inb : ∀ (v1_0 : BitVec 32) (k0_hw2 : k0_chk2 v1_0) (k0_t2 : Fin (k0_t2_loop v1_0).trips), ∀ a, (k0_off191 v1_0 k0_t2) a + S1x64x256.size a ≤ S3x704x3072.size a := fun v1_0 k0_hw2 k0_t2 => k0_hw2.2.2.2.2.2.1.2.2.2.2.2.2.2.2.2.2.1 k0_t2
theorem k0_off192_inb : ∀ (v1_0 : BitVec 32) (k0_hw2 : k0_chk2 v1_0) (k0_t2 : Fin (k0_t2_loop v1_0).trips), ∀ a, (k0_off192 v1_0 k0_t2) a + S1x1x256.size a ≤ S3x11x3072.size a := fun v1_0 k0_hw2 k0_t2 => k0_hw2.2.2.2.2.2.1.2.2.2.2.2.2.2.2.2.2.2.1 k0_t2
theorem k0_off193_inb : ∀ (v1_0 : BitVec 32) (k0_hw2 : k0_chk2 v1_0) (k0_t2 : Fin (k0_t2_loop v1_0).trips), ∀ a, (k0_off193 v1_0 k0_t2) a + S1x64x256.size a ≤ S3x704x3072.size a := fun v1_0 k0_hw2 k0_t2 => k0_hw2.2.2.2.2.2.1.2.2.2.2.2.2.2.2.2.2.2.2.1 k0_t2
theorem k0_off194_inb : ∀ (v1_0 : BitVec 32) (k0_hw2 : k0_chk2 v1_0) (k0_t2 : Fin (k0_t2_loop v1_0).trips), ∀ a, (k0_off194 v1_0 k0_t2) a + S1x1x256.size a ≤ S3x11x3072.size a := fun v1_0 k0_hw2 k0_t2 => k0_hw2.2.2.2.2.2.1.2.2.2.2.2.2.2.2.2.2.2.2.2.1 k0_t2
theorem k0_off195_inb : ∀ (v1_0 : BitVec 32) (k0_hw2 : k0_chk2 v1_0) (k0_t2 : Fin (k0_t2_loop v1_0).trips), ∀ a, (k0_off195 v1_0 k0_t2) a + S1x64x256.size a ≤ S3x704x3072.size a := fun v1_0 k0_hw2 k0_t2 => k0_hw2.2.2.2.2.2.1.2.2.2.2.2.2.2.2.2.2.2.2.2.2.1 k0_t2
theorem k0_off196_inb : ∀ (v1_0 : BitVec 32) (k0_hw2 : k0_chk2 v1_0) (k0_t2 : Fin (k0_t2_loop v1_0).trips), ∀ a, (k0_off196 v1_0 k0_t2) a + S1x1x256.size a ≤ S3x11x3072.size a := fun v1_0 k0_hw2 k0_t2 => k0_hw2.2.2.2.2.2.1.2.2.2.2.2.2.2.2.2.2.2.2.2.2.2.1 k0_t2
theorem k0_off197_inb : ∀ (v1_0 : BitVec 32) (k0_hw2 : k0_chk2 v1_0) (k0_t2 : Fin (k0_t2_loop v1_0).trips), ∀ a, (k0_off197 v1_0 k0_t2) a + S1x64x256.size a ≤ S3x704x3072.size a := fun v1_0 k0_hw2 k0_t2 => k0_hw2.2.2.2.2.2.1.2.2.2.2.2.2.2.2.2.2.2.2.2.2.2.2.1 k0_t2
theorem k0_off198_inb : ∀ (v1_0 : BitVec 32) (k0_hw2 : k0_chk2 v1_0) (k0_t2 : Fin (k0_t2_loop v1_0).trips), ∀ a, (k0_off198 v1_0 k0_t2) a + S1x1x256.size a ≤ S3x11x3072.size a := fun v1_0 k0_hw2 k0_t2 => k0_hw2.2.2.2.2.2.1.2.2.2.2.2.2.2.2.2.2.2.2.2.2.2.2.2.1 k0_t2
theorem k0_off199_inb : ∀ (v1_0 : BitVec 32) (k0_hw2 : k0_chk2 v1_0) (k0_t2 : Fin (k0_t2_loop v1_0).trips), ∀ a, (k0_off199 v1_0 k0_t2) a + S1x64x256.size a ≤ S3x704x3072.size a := fun v1_0 k0_hw2 k0_t2 => k0_hw2.2.2.2.2.2.1.2.2.2.2.2.2.2.2.2.2.2.2.2.2.2.2.2.2.1 k0_t2
theorem k0_off200_inb : ∀ (v1_0 : BitVec 32) (k0_hw2 : k0_chk2 v1_0) (k0_t2 : Fin (k0_t2_loop v1_0).trips), ∀ a, (k0_off200 v1_0 k0_t2) a + S1x1x256.size a ≤ S3x11x3072.size a := fun v1_0 k0_hw2 k0_t2 => k0_hw2.2.2.2.2.2.1.2.2.2.2.2.2.2.2.2.2.2.2.2.2.2.2.2.2.2.1 k0_t2
theorem k0_off201_inb : ∀ (v1_0 : BitVec 32) (k0_hw2 : k0_chk2 v1_0) (k0_t2 : Fin (k0_t2_loop v1_0).trips), ∀ a, (k0_off201 v1_0 k0_t2) a + S1x64x256.size a ≤ S3x704x3072.size a := fun v1_0 k0_hw2 k0_t2 => k0_hw2.2.2.2.2.2.1.2.2.2.2.2.2.2.2.2.2.2.2.2.2.2.2.2.2.2.2.1 k0_t2
theorem k0_off202_inb : ∀ (v1_0 : BitVec 32) (k0_hw2 : k0_chk2 v1_0) (k0_t2 : Fin (k0_t2_loop v1_0).trips), ∀ a, (k0_off202 v1_0 k0_t2) a + S1x1x256.size a ≤ S3x11x3072.size a := fun v1_0 k0_hw2 k0_t2 => k0_hw2.2.2.2.2.2.1.2.2.2.2.2.2.2.2.2.2.2.2.2.2.2.2.2.2.2.2.2.1 k0_t2
theorem k0_off203_inb : ∀ (v1_0 : BitVec 32) (k0_hw2 : k0_chk2 v1_0) (k0_t2 : Fin (k0_t2_loop v1_0).trips), ∀ a, (k0_off203 v1_0 k0_t2) a + S1x64x256.size a ≤ S3x704x3072.size a := fun v1_0 k0_hw2 k0_t2 => k0_hw2.2.2.2.2.2.1.2.2.2.2.2.2.2.2.2.2.2.2.2.2.2.2.2.2.2.2.2.2.1 k0_t2
theorem k0_off204_inb : ∀ (v1_0 : BitVec 32) (k0_hw2 : k0_chk2 v1_0) (k0_t2 : Fin (k0_t2_loop v1_0).trips), ∀ a, (k0_off204 v1_0 k0_t2) a + S1x1x256.size a ≤ S3x11x3072.size a := fun v1_0 k0_hw2 k0_t2 => k0_hw2.2.2.2.2.2.1.2.2.2.2.2.2.2.2.2.2.2.2.2.2.2.2.2.2.2.2.2.2.2.1 k0_t2
theorem k0_off205_inb : ∀ (v1_0 : BitVec 32) (k0_hw2 : k0_chk2 v1_0) (k0_t2 : Fin (k0_t2_loop v1_0).trips), ∀ a, (k0_off205 v1_0 k0_t2) a + S1x64x256.size a ≤ S3x704x3072.size a := fun v1_0 k0_hw2 k0_t2 => k0_hw2.2.2.2.2.2.1.2.2.2.2.2.2.2.2.2.2.2.2.2.2.2.2.2.2.2.2.2.2.2.2.1 k0_t2
theorem k0_off206_inb : ∀ (v1_0 : BitVec 32) (k0_hw2 : k0_chk2 v1_0) (k0_t2 : Fin (k0_t2_loop v1_0).trips), ∀ a, (k0_off206 v1_0 k0_t2) a + S1x1x256.size a ≤ S3x11x3072.size a := fun v1_0 k0_hw2 k0_t2 => k0_hw2.2.2.2.2.2.1.2.2.2.2.2.2.2.2.2.2.2.2.2.2.2.2.2.2.2.2.2.2.2.2.2.1 k0_t2
theorem k0_off207_inb : ∀ (v1_0 : BitVec 32) (k0_hw2 : k0_chk2 v1_0) (k0_t2 : Fin (k0_t2_loop v1_0).trips), ∀ a, (k0_off207 v1_0 k0_t2) a + S1x64x256.size a ≤ S3x704x3072.size a := fun v1_0 k0_hw2 k0_t2 => k0_hw2.2.2.2.2.2.1.2.2.2.2.2.2.2.2.2.2.2.2.2.2.2.2.2.2.2.2.2.2.2.2.2.2.1 k0_t2
theorem k0_off208_inb : ∀ (v1_0 : BitVec 32) (k0_hw2 : k0_chk2 v1_0) (k0_t2 : Fin (k0_t2_loop v1_0).trips), ∀ a, (k0_off208 v1_0 k0_t2) a + S1x1x256.size a ≤ S3x11x3072.size a := fun v1_0 k0_hw2 k0_t2 => k0_hw2.2.2.2.2.2.1.2.2.2.2.2.2.2.2.2.2.2.2.2.2.2.2.2.2.2.2.2.2.2.2.2.2.2.1 k0_t2
theorem k0_off209_inb : ∀ (v1_0 : BitVec 32) (k0_hw2 : k0_chk2 v1_0) (k0_t2 : Fin (k0_t2_loop v1_0).trips), ∀ a, (k0_off209 v1_0 k0_t2) a + S1x64x256.size a ≤ S3x704x3072.size a := fun v1_0 k0_hw2 k0_t2 => k0_hw2.2.2.2.2.2.1.2.2.2.2.2.2.2.2.2.2.2.2.2.2.2.2.2.2.2.2.2.2.2.2.2.2.2.2.1 k0_t2
theorem k0_off210_inb : ∀ (v1_0 : BitVec 32) (k0_hw2 : k0_chk2 v1_0) (k0_t2 : Fin (k0_t2_loop v1_0).trips), ∀ a, (k0_off210 v1_0 k0_t2) a + S1x1x256.size a ≤ S3x11x3072.size a := fun v1_0 k0_hw2 k0_t2 => k0_hw2.2.2.2.2.2.1.2.2.2.2.2.2.2.2.2.2.2.2.2.2.2.2.2.2.2.2.2.2.2.2.2.2.2.2.2.1 k0_t2
theorem k0_off211_inb : ∀ (v1_0 : BitVec 32) (k0_hw2 : k0_chk2 v1_0) (k0_t2 : Fin (k0_t2_loop v1_0).trips), ∀ a, (k0_off211 v1_0 k0_t2) a + S1x64x256.size a ≤ S3x704x3072.size a := fun v1_0 k0_hw2 k0_t2 => k0_hw2.2.2.2.2.2.1.2.2.2.2.2.2.2.2.2.2.2.2.2.2.2.2.2.2.2.2.2.2.2.2.2.2.2.2.2.2.1 k0_t2
theorem k0_off212_inb : ∀ (v1_0 : BitVec 32) (k0_hw2 : k0_chk2 v1_0) (k0_t2 : Fin (k0_t2_loop v1_0).trips), ∀ a, (k0_off212 v1_0 k0_t2) a + S1x1x256.size a ≤ S3x11x3072.size a := fun v1_0 k0_hw2 k0_t2 => k0_hw2.2.2.2.2.2.1.2.2.2.2.2.2.2.2.2.2.2.2.2.2.2.2.2.2.2.2.2.2.2.2.2.2.2.2.2.2.2 k0_t2
theorem k0_off213_inb : ∀ (v1_0 : BitVec 32) (k0_hw2 : k0_chk2 v1_0) (k0_t2 : Fin (k0_t2_loop v1_0).trips), ∀ a, (k0_off213 v1_0 k0_t2) a + S1x64x256.size a ≤ S3x704x3072.size a := fun v1_0 k0_hw2 k0_t2 => k0_hw2.2.2.2.2.2.2.1.1 k0_t2
theorem k0_off214_inb : ∀ (v1_0 : BitVec 32) (k0_hw2 : k0_chk2 v1_0) (k0_t2 : Fin (k0_t2_loop v1_0).trips), ∀ a, (k0_off214 v1_0 k0_t2) a + S1x1x256.size a ≤ S3x11x3072.size a := fun v1_0 k0_hw2 k0_t2 => k0_hw2.2.2.2.2.2.2.1.2.1 k0_t2
theorem k0_off215_inb : ∀ (v1_0 : BitVec 32) (k0_hw2 : k0_chk2 v1_0) (k0_t2 : Fin (k0_t2_loop v1_0).trips), ∀ a, (k0_off215 v1_0 k0_t2) a + S1x64x256.size a ≤ S3x704x3072.size a := fun v1_0 k0_hw2 k0_t2 => k0_hw2.2.2.2.2.2.2.1.2.2.1 k0_t2
theorem k0_off216_inb : ∀ (v1_0 : BitVec 32) (k0_hw2 : k0_chk2 v1_0) (k0_t2 : Fin (k0_t2_loop v1_0).trips), ∀ a, (k0_off216 v1_0 k0_t2) a + S1x1x256.size a ≤ S3x11x3072.size a := fun v1_0 k0_hw2 k0_t2 => k0_hw2.2.2.2.2.2.2.1.2.2.2.1 k0_t2
theorem k0_off217_inb : ∀ (v1_0 : BitVec 32) (k0_hw2 : k0_chk2 v1_0) (k0_t2 : Fin (k0_t2_loop v1_0).trips), ∀ a, (k0_off217 v1_0 k0_t2) a + S1x64x256.size a ≤ S3x704x3072.size a := fun v1_0 k0_hw2 k0_t2 => k0_hw2.2.2.2.2.2.2.1.2.2.2.2.1 k0_t2
theorem k0_off218_inb : ∀ (v1_0 : BitVec 32) (k0_hw2 : k0_chk2 v1_0) (k0_t2 : Fin (k0_t2_loop v1_0).trips), ∀ a, (k0_off218 v1_0 k0_t2) a + S1x1x256.size a ≤ S3x11x3072.size a := fun v1_0 k0_hw2 k0_t2 => k0_hw2.2.2.2.2.2.2.1.2.2.2.2.2.1 k0_t2
theorem k0_off219_inb : ∀ (v1_0 : BitVec 32) (k0_hw2 : k0_chk2 v1_0) (k0_t2 : Fin (k0_t2_loop v1_0).trips), ∀ a, (k0_off219 v1_0 k0_t2) a + S1x64x256.size a ≤ S3x704x3072.size a := fun v1_0 k0_hw2 k0_t2 => k0_hw2.2.2.2.2.2.2.1.2.2.2.2.2.2.1 k0_t2
theorem k0_off220_inb : ∀ (v1_0 : BitVec 32) (k0_hw2 : k0_chk2 v1_0) (k0_t2 : Fin (k0_t2_loop v1_0).trips), ∀ a, (k0_off220 v1_0 k0_t2) a + S1x1x256.size a ≤ S3x11x3072.size a := fun v1_0 k0_hw2 k0_t2 => k0_hw2.2.2.2.2.2.2.1.2.2.2.2.2.2.2.1 k0_t2
theorem k0_off221_inb : ∀ (v1_0 : BitVec 32) (k0_hw2 : k0_chk2 v1_0) (k0_t2 : Fin (k0_t2_loop v1_0).trips), ∀ a, (k0_off221 v1_0 k0_t2) a + S1x64x256.size a ≤ S3x704x3072.size a := fun v1_0 k0_hw2 k0_t2 => k0_hw2.2.2.2.2.2.2.1.2.2.2.2.2.2.2.2.1 k0_t2
theorem k0_off222_inb : ∀ (v1_0 : BitVec 32) (k0_hw2 : k0_chk2 v1_0) (k0_t2 : Fin (k0_t2_loop v1_0).trips), ∀ a, (k0_off222 v1_0 k0_t2) a + S1x1x256.size a ≤ S3x11x3072.size a := fun v1_0 k0_hw2 k0_t2 => k0_hw2.2.2.2.2.2.2.1.2.2.2.2.2.2.2.2.2.1 k0_t2
theorem k0_off223_inb : ∀ (v1_0 : BitVec 32) (k0_hw2 : k0_chk2 v1_0) (k0_t2 : Fin (k0_t2_loop v1_0).trips), ∀ a, (k0_off223 v1_0 k0_t2) a + S1x64x256.size a ≤ S3x704x3072.size a := fun v1_0 k0_hw2 k0_t2 => k0_hw2.2.2.2.2.2.2.1.2.2.2.2.2.2.2.2.2.2.1 k0_t2
theorem k0_off224_inb : ∀ (v1_0 : BitVec 32) (k0_hw2 : k0_chk2 v1_0) (k0_t2 : Fin (k0_t2_loop v1_0).trips), ∀ a, (k0_off224 v1_0 k0_t2) a + S1x1x256.size a ≤ S3x11x3072.size a := fun v1_0 k0_hw2 k0_t2 => k0_hw2.2.2.2.2.2.2.1.2.2.2.2.2.2.2.2.2.2.2.1 k0_t2
theorem k0_off225_inb : ∀ (v1_0 : BitVec 32) (k0_hw2 : k0_chk2 v1_0) (k0_t2 : Fin (k0_t2_loop v1_0).trips), ∀ a, (k0_off225 v1_0 k0_t2) a + S1x64x256.size a ≤ S3x704x3072.size a := fun v1_0 k0_hw2 k0_t2 => k0_hw2.2.2.2.2.2.2.1.2.2.2.2.2.2.2.2.2.2.2.2.1 k0_t2
theorem k0_off226_inb : ∀ (v1_0 : BitVec 32) (k0_hw2 : k0_chk2 v1_0) (k0_t2 : Fin (k0_t2_loop v1_0).trips), ∀ a, (k0_off226 v1_0 k0_t2) a + S1x1x256.size a ≤ S3x11x3072.size a := fun v1_0 k0_hw2 k0_t2 => k0_hw2.2.2.2.2.2.2.1.2.2.2.2.2.2.2.2.2.2.2.2.2.1 k0_t2
theorem k0_off227_inb : ∀ (v1_0 : BitVec 32) (k0_hw2 : k0_chk2 v1_0) (k0_t2 : Fin (k0_t2_loop v1_0).trips), ∀ a, (k0_off227 v1_0 k0_t2) a + S1x64x256.size a ≤ S3x704x3072.size a := fun v1_0 k0_hw2 k0_t2 => k0_hw2.2.2.2.2.2.2.1.2.2.2.2.2.2.2.2.2.2.2.2.2.2.1 k0_t2
theorem k0_off228_inb : ∀ (v1_0 : BitVec 32) (k0_hw2 : k0_chk2 v1_0) (k0_t2 : Fin (k0_t2_loop v1_0).trips), ∀ a, (k0_off228 v1_0 k0_t2) a + S1x1x256.size a ≤ S3x11x3072.size a := fun v1_0 k0_hw2 k0_t2 => k0_hw2.2.2.2.2.2.2.1.2.2.2.2.2.2.2.2.2.2.2.2.2.2.2.1 k0_t2
theorem k0_off229_inb : ∀ (v1_0 : BitVec 32) (k0_hw2 : k0_chk2 v1_0) (k0_t2 : Fin (k0_t2_loop v1_0).trips), ∀ a, (k0_off229 v1_0 k0_t2) a + S1x64x256.size a ≤ S3x704x3072.size a := fun v1_0 k0_hw2 k0_t2 => k0_hw2.2.2.2.2.2.2.1.2.2.2.2.2.2.2.2.2.2.2.2.2.2.2.2.1 k0_t2
theorem k0_off230_inb : ∀ (v1_0 : BitVec 32) (k0_hw2 : k0_chk2 v1_0) (k0_t2 : Fin (k0_t2_loop v1_0).trips), ∀ a, (k0_off230 v1_0 k0_t2) a + S1x1x256.size a ≤ S3x11x3072.size a := fun v1_0 k0_hw2 k0_t2 => k0_hw2.2.2.2.2.2.2.1.2.2.2.2.2.2.2.2.2.2.2.2.2.2.2.2.2.1 k0_t2
theorem k0_off231_inb : ∀ (v1_0 : BitVec 32) (k0_hw2 : k0_chk2 v1_0) (k0_t2 : Fin (k0_t2_loop v1_0).trips), ∀ a, (k0_off231 v1_0 k0_t2) a + S1x64x256.size a ≤ S3x704x3072.size a := fun v1_0 k0_hw2 k0_t2 => k0_hw2.2.2.2.2.2.2.1.2.2.2.2.2.2.2.2.2.2.2.2.2.2.2.2.2.2.1 k0_t2
theorem k0_off232_inb : ∀ (v1_0 : BitVec 32) (k0_hw2 : k0_chk2 v1_0) (k0_t2 : Fin (k0_t2_loop v1_0).trips), ∀ a, (k0_off232 v1_0 k0_t2) a + S1x1x256.size a ≤ S3x11x3072.size a := fun v1_0 k0_hw2 k0_t2 => k0_hw2.2.2.2.2.2.2.1.2.2.2.2.2.2.2.2.2.2.2.2.2.2.2.2.2.2.2.1 k0_t2
theorem k0_off233_inb : ∀ (v1_0 : BitVec 32) (k0_hw2 : k0_chk2 v1_0) (k0_t2 : Fin (k0_t2_loop v1_0).trips), ∀ a, (k0_off233 v1_0 k0_t2) a + S1x64x256.size a ≤ S3x704x3072.size a := fun v1_0 k0_hw2 k0_t2 => k0_hw2.2.2.2.2.2.2.1.2.2.2.2.2.2.2.2.2.2.2.2.2.2.2.2.2.2.2.2.1 k0_t2
theorem k0_off234_inb : ∀ (v1_0 : BitVec 32) (k0_hw2 : k0_chk2 v1_0) (k0_t2 : Fin (k0_t2_loop v1_0).trips), ∀ a, (k0_off234 v1_0 k0_t2) a + S1x1x256.size a ≤ S3x11x3072.size a := fun v1_0 k0_hw2 k0_t2 => k0_hw2.2.2.2.2.2.2.1.2.2.2.2.2.2.2.2.2.2.2.2.2.2.2.2.2.2.2.2.2.1 k0_t2
theorem k0_off235_inb : ∀ (v1_0 : BitVec 32) (k0_hw2 : k0_chk2 v1_0) (k0_t2 : Fin (k0_t2_loop v1_0).trips), ∀ a, (k0_off235 v1_0 k0_t2) a + S1x64x256.size a ≤ S3x704x3072.size a := fun v1_0 k0_hw2 k0_t2 => k0_hw2.2.2.2.2.2.2.1.2.2.2.2.2.2.2.2.2.2.2.2.2.2.2.2.2.2.2.2.2.2.1 k0_t2
theorem k0_off236_inb : ∀ (v1_0 : BitVec 32) (k0_hw2 : k0_chk2 v1_0) (k0_t2 : Fin (k0_t2_loop v1_0).trips), ∀ a, (k0_off236 v1_0 k0_t2) a + S1x1x256.size a ≤ S3x11x3072.size a := fun v1_0 k0_hw2 k0_t2 => k0_hw2.2.2.2.2.2.2.1.2.2.2.2.2.2.2.2.2.2.2.2.2.2.2.2.2.2.2.2.2.2.2.1 k0_t2
theorem k0_off237_inb : ∀ (v1_0 : BitVec 32) (k0_hw2 : k0_chk2 v1_0) (k0_t2 : Fin (k0_t2_loop v1_0).trips), ∀ a, (k0_off237 v1_0 k0_t2) a + S1x64x256.size a ≤ S3x704x3072.size a := fun v1_0 k0_hw2 k0_t2 => k0_hw2.2.2.2.2.2.2.1.2.2.2.2.2.2.2.2.2.2.2.2.2.2.2.2.2.2.2.2.2.2.2.2.1 k0_t2
theorem k0_off238_inb : ∀ (v1_0 : BitVec 32) (k0_hw2 : k0_chk2 v1_0) (k0_t2 : Fin (k0_t2_loop v1_0).trips), ∀ a, (k0_off238 v1_0 k0_t2) a + S1x1x256.size a ≤ S3x11x3072.size a := fun v1_0 k0_hw2 k0_t2 => k0_hw2.2.2.2.2.2.2.1.2.2.2.2.2.2.2.2.2.2.2.2.2.2.2.2.2.2.2.2.2.2.2.2.2.1 k0_t2
theorem k0_off239_inb : ∀ (v1_0 : BitVec 32) (k0_hw2 : k0_chk2 v1_0) (k0_t2 : Fin (k0_t2_loop v1_0).trips), ∀ a, (k0_off239 v1_0 k0_t2) a + S1x64x256.size a ≤ S3x704x3072.size a := fun v1_0 k0_hw2 k0_t2 => k0_hw2.2.2.2.2.2.2.1.2.2.2.2.2.2.2.2.2.2.2.2.2.2.2.2.2.2.2.2.2.2.2.2.2.2.1 k0_t2
theorem k0_off240_inb : ∀ (v1_0 : BitVec 32) (k0_hw2 : k0_chk2 v1_0) (k0_t2 : Fin (k0_t2_loop v1_0).trips), ∀ a, (k0_off240 v1_0 k0_t2) a + S1x1x256.size a ≤ S3x11x3072.size a := fun v1_0 k0_hw2 k0_t2 => k0_hw2.2.2.2.2.2.2.1.2.2.2.2.2.2.2.2.2.2.2.2.2.2.2.2.2.2.2.2.2.2.2.2.2.2.2.1 k0_t2
theorem k0_off241_inb : ∀ (v1_0 : BitVec 32) (k0_hw2 : k0_chk2 v1_0) (k0_t2 : Fin (k0_t2_loop v1_0).trips), ∀ a, (k0_off241 v1_0 k0_t2) a + S1x64x256.size a ≤ S3x704x3072.size a := fun v1_0 k0_hw2 k0_t2 => k0_hw2.2.2.2.2.2.2.1.2.2.2.2.2.2.2.2.2.2.2.2.2.2.2.2.2.2.2.2.2.2.2.2.2.2.2.2.1 k0_t2
theorem k0_off242_inb : ∀ (v1_0 : BitVec 32) (k0_hw2 : k0_chk2 v1_0) (k0_t2 : Fin (k0_t2_loop v1_0).trips), ∀ a, (k0_off242 v1_0 k0_t2) a + S1x1x256.size a ≤ S3x11x3072.size a := fun v1_0 k0_hw2 k0_t2 => k0_hw2.2.2.2.2.2.2.1.2.2.2.2.2.2.2.2.2.2.2.2.2.2.2.2.2.2.2.2.2.2.2.2.2.2.2.2.2.1 k0_t2
theorem k0_off243_inb : ∀ (v1_0 : BitVec 32) (k0_hw2 : k0_chk2 v1_0) (k0_t2 : Fin (k0_t2_loop v1_0).trips), ∀ a, (k0_off243 v1_0 k0_t2) a + S1x64x256.size a ≤ S3x704x3072.size a := fun v1_0 k0_hw2 k0_t2 => k0_hw2.2.2.2.2.2.2.1.2.2.2.2.2.2.2.2.2.2.2.2.2.2.2.2.2.2.2.2.2.2.2.2.2.2.2.2.2.2.1 k0_t2
theorem k0_off244_inb : ∀ (v1_0 : BitVec 32) (k0_hw2 : k0_chk2 v1_0) (k0_t2 : Fin (k0_t2_loop v1_0).trips), ∀ a, (k0_off244 v1_0 k0_t2) a + S1x1x256.size a ≤ S3x11x3072.size a := fun v1_0 k0_hw2 k0_t2 => k0_hw2.2.2.2.2.2.2.1.2.2.2.2.2.2.2.2.2.2.2.2.2.2.2.2.2.2.2.2.2.2.2.2.2.2.2.2.2.2.2 k0_t2
theorem k0_off245_inb : ∀ (v1_0 : BitVec 32) (k0_hw2 : k0_chk2 v1_0) (k0_t2 : Fin (k0_t2_loop v1_0).trips), ∀ a, (k0_off245 v1_0 k0_t2) a + S1x64x256.size a ≤ S3x704x3072.size a := fun v1_0 k0_hw2 k0_t2 => k0_hw2.2.2.2.2.2.2.2.1.1 k0_t2
theorem k0_off246_inb : ∀ (v1_0 : BitVec 32) (k0_hw2 : k0_chk2 v1_0) (k0_t2 : Fin (k0_t2_loop v1_0).trips), ∀ a, (k0_off246 v1_0 k0_t2) a + S1x1x256.size a ≤ S3x11x3072.size a := fun v1_0 k0_hw2 k0_t2 => k0_hw2.2.2.2.2.2.2.2.1.2.1 k0_t2
theorem k0_off247_inb : ∀ (v1_0 : BitVec 32) (k0_hw2 : k0_chk2 v1_0) (k0_t2 : Fin (k0_t2_loop v1_0).trips), ∀ a, (k0_off247 v1_0 k0_t2) a + S1x64x256.size a ≤ S3x704x3072.size a := fun v1_0 k0_hw2 k0_t2 => k0_hw2.2.2.2.2.2.2.2.1.2.2.1 k0_t2
theorem k0_off248_inb : ∀ (v1_0 : BitVec 32) (k0_hw2 : k0_chk2 v1_0) (k0_t2 : Fin (k0_t2_loop v1_0).trips), ∀ a, (k0_off248 v1_0 k0_t2) a + S1x1x256.size a ≤ S3x11x3072.size a := fun v1_0 k0_hw2 k0_t2 => k0_hw2.2.2.2.2.2.2.2.1.2.2.2.1 k0_t2
theorem k0_off249_inb : ∀ (v1_0 : BitVec 32) (k0_hw2 : k0_chk2 v1_0) (k0_t2 : Fin (k0_t2_loop v1_0).trips), ∀ a, (k0_off249 v1_0 k0_t2) a + S1x64x256.size a ≤ S3x704x3072.size a := fun v1_0 k0_hw2 k0_t2 => k0_hw2.2.2.2.2.2.2.2.1.2.2.2.2.1 k0_t2
theorem k0_off250_inb : ∀ (v1_0 : BitVec 32) (k0_hw2 : k0_chk2 v1_0) (k0_t2 : Fin (k0_t2_loop v1_0).trips), ∀ a, (k0_off250 v1_0 k0_t2) a + S1x1x256.size a ≤ S3x11x3072.size a := fun v1_0 k0_hw2 k0_t2 => k0_hw2.2.2.2.2.2.2.2.1.2.2.2.2.2.1 k0_t2
theorem k0_off251_inb : ∀ (v1_0 : BitVec 32) (k0_hw2 : k0_chk2 v1_0) (k0_t2 : Fin (k0_t2_loop v1_0).trips), ∀ a, (k0_off251 v1_0 k0_t2) a + S1x64x256.size a ≤ S3x704x3072.size a := fun v1_0 k0_hw2 k0_t2 => k0_hw2.2.2.2.2.2.2.2.1.2.2.2.2.2.2.1 k0_t2
theorem k0_off252_inb : ∀ (v1_0 : BitVec 32) (k0_hw2 : k0_chk2 v1_0) (k0_t2 : Fin (k0_t2_loop v1_0).trips), ∀ a, (k0_off252 v1_0 k0_t2) a + S1x1x256.size a ≤ S3x11x3072.size a := fun v1_0 k0_hw2 k0_t2 => k0_hw2.2.2.2.2.2.2.2.1.2.2.2.2.2.2.2.1 k0_t2
theorem k0_off253_inb : ∀ (v1_0 : BitVec 32) (k0_hw2 : k0_chk2 v1_0) (k0_t2 : Fin (k0_t2_loop v1_0).trips), ∀ a, (k0_off253 v1_0 k0_t2) a + S1x64x256.size a ≤ S3x704x3072.size a := fun v1_0 k0_hw2 k0_t2 => k0_hw2.2.2.2.2.2.2.2.1.2.2.2.2.2.2.2.2.1 k0_t2
theorem k0_off254_inb : ∀ (v1_0 : BitVec 32) (k0_hw2 : k0_chk2 v1_0) (k0_t2 : Fin (k0_t2_loop v1_0).trips), ∀ a, (k0_off254 v1_0 k0_t2) a + S1x1x256.size a ≤ S3x11x3072.size a := fun v1_0 k0_hw2 k0_t2 => k0_hw2.2.2.2.2.2.2.2.1.2.2.2.2.2.2.2.2.2.1 k0_t2
theorem k0_off255_inb : ∀ (v1_0 : BitVec 32) (k0_hw2 : k0_chk2 v1_0) (k0_t2 : Fin (k0_t2_loop v1_0).trips), ∀ a, (k0_off255 v1_0 k0_t2) a + S1x64x256.size a ≤ S3x704x3072.size a := fun v1_0 k0_hw2 k0_t2 => k0_hw2.2.2.2.2.2.2.2.1.2.2.2.2.2.2.2.2.2.2.1 k0_t2
theorem k0_off256_inb : ∀ (v1_0 : BitVec 32) (k0_hw2 : k0_chk2 v1_0) (k0_t2 : Fin (k0_t2_loop v1_0).trips), ∀ a, (k0_off256 v1_0 k0_t2) a + S1x1x256.size a ≤ S3x11x3072.size a := fun v1_0 k0_hw2 k0_t2 => k0_hw2.2.2.2.2.2.2.2.1.2.2.2.2.2.2.2.2.2.2.2.1 k0_t2
theorem k0_off257_inb : ∀ (v1_0 : BitVec 32) (k0_hw2 : k0_chk2 v1_0) (k0_t2 : Fin (k0_t2_loop v1_0).trips), ∀ a, (k0_off257 v1_0 k0_t2) a + S1x64x256.size a ≤ S3x704x3072.size a := fun v1_0 k0_hw2 k0_t2 => k0_hw2.2.2.2.2.2.2.2.1.2.2.2.2.2.2.2.2.2.2.2.2.1 k0_t2
theorem k0_off258_inb : ∀ (v1_0 : BitVec 32) (k0_hw2 : k0_chk2 v1_0) (k0_t2 : Fin (k0_t2_loop v1_0).trips), ∀ a, (k0_off258 v1_0 k0_t2) a + S1x1x256.size a ≤ S3x11x3072.size a := fun v1_0 k0_hw2 k0_t2 => k0_hw2.2.2.2.2.2.2.2.1.2.2.2.2.2.2.2.2.2.2.2.2.2.1 k0_t2
theorem k0_off259_inb : ∀ (v1_0 : BitVec 32) (k0_hw2 : k0_chk2 v1_0) (k0_t2 : Fin (k0_t2_loop v1_0).trips), ∀ a, (k0_off259 v1_0 k0_t2) a + S1x64x256.size a ≤ S3x704x3072.size a := fun v1_0 k0_hw2 k0_t2 => k0_hw2.2.2.2.2.2.2.2.1.2.2.2.2.2.2.2.2.2.2.2.2.2.2.1 k0_t2
theorem k0_off260_inb : ∀ (v1_0 : BitVec 32) (k0_hw2 : k0_chk2 v1_0) (k0_t2 : Fin (k0_t2_loop v1_0).trips), ∀ a, (k0_off260 v1_0 k0_t2) a + S1x1x256.size a ≤ S3x11x3072.size a := fun v1_0 k0_hw2 k0_t2 => k0_hw2.2.2.2.2.2.2.2.1.2.2.2.2.2.2.2.2.2.2.2.2.2.2.2.1 k0_t2
theorem k0_off261_inb : ∀ (v1_0 : BitVec 32) (k0_hw2 : k0_chk2 v1_0) (k0_t2 : Fin (k0_t2_loop v1_0).trips), ∀ a, (k0_off261 v1_0 k0_t2) a + S1x64x256.size a ≤ S3x704x3072.size a := fun v1_0 k0_hw2 k0_t2 => k0_hw2.2.2.2.2.2.2.2.1.2.2.2.2.2.2.2.2.2.2.2.2.2.2.2.2.1 k0_t2
theorem k0_off262_inb : ∀ (v1_0 : BitVec 32) (k0_hw2 : k0_chk2 v1_0) (k0_t2 : Fin (k0_t2_loop v1_0).trips), ∀ a, (k0_off262 v1_0 k0_t2) a + S1x1x256.size a ≤ S3x11x3072.size a := fun v1_0 k0_hw2 k0_t2 => k0_hw2.2.2.2.2.2.2.2.1.2.2.2.2.2.2.2.2.2.2.2.2.2.2.2.2.2.1 k0_t2
theorem k0_off263_inb : ∀ (v1_0 : BitVec 32) (k0_hw2 : k0_chk2 v1_0) (k0_t2 : Fin (k0_t2_loop v1_0).trips), ∀ a, (k0_off263 v1_0 k0_t2) a + S1x64x256.size a ≤ S3x704x3072.size a := fun v1_0 k0_hw2 k0_t2 => k0_hw2.2.2.2.2.2.2.2.1.2.2.2.2.2.2.2.2.2.2.2.2.2.2.2.2.2.2.1 k0_t2
theorem k0_off264_inb : ∀ (v1_0 : BitVec 32) (k0_hw2 : k0_chk2 v1_0) (k0_t2 : Fin (k0_t2_loop v1_0).trips), ∀ a, (k0_off264 v1_0 k0_t2) a + S1x1x256.size a ≤ S3x11x3072.size a := fun v1_0 k0_hw2 k0_t2 => k0_hw2.2.2.2.2.2.2.2.1.2.2.2.2.2.2.2.2.2.2.2.2.2.2.2.2.2.2.2.1 k0_t2
theorem k0_off265_inb : ∀ (v1_0 : BitVec 32) (k0_hw2 : k0_chk2 v1_0) (k0_t2 : Fin (k0_t2_loop v1_0).trips), ∀ a, (k0_off265 v1_0 k0_t2) a + S1x64x256.size a ≤ S3x704x3072.size a := fun v1_0 k0_hw2 k0_t2 => k0_hw2.2.2.2.2.2.2.2.1.2.2.2.2.2.2.2.2.2.2.2.2.2.2.2.2.2.2.2.2.1 k0_t2
theorem k0_off266_inb : ∀ (v1_0 : BitVec 32) (k0_hw2 : k0_chk2 v1_0) (k0_t2 : Fin (k0_t2_loop v1_0).trips), ∀ a, (k0_off266 v1_0 k0_t2) a + S1x1x256.size a ≤ S3x11x3072.size a := fun v1_0 k0_hw2 k0_t2 => k0_hw2.2.2.2.2.2.2.2.1.2.2.2.2.2.2.2.2.2.2.2.2.2.2.2.2.2.2.2.2.2.1 k0_t2
theorem k0_off267_inb : ∀ (v1_0 : BitVec 32) (k0_hw2 : k0_chk2 v1_0) (k0_t2 : Fin (k0_t2_loop v1_0).trips), ∀ a, (k0_off267 v1_0 k0_t2) a + S1x64x256.size a ≤ S3x704x3072.size a := fun v1_0 k0_hw2 k0_t2 => k0_hw2.2.2.2.2.2.2.2.1.2.2.2.2.2.2.2.2.2.2.2.2.2.2.2.2.2.2.2.2.2.2.1 k0_t2
theorem k0_off268_inb : ∀ (v1_0 : BitVec 32) (k0_hw2 : k0_chk2 v1_0) (k0_t2 : Fin (k0_t2_loop v1_0).trips), ∀ a, (k0_off268 v1_0 k0_t2) a + S1x1x256.size a ≤ S3x11x3072.size a := fun v1_0 k0_hw2 k0_t2 => k0_hw2.2.2.2.2.2.2.2.1.2.2.2.2.2.2.2.2.2.2.2.2.2.2.2.2.2.2.2.2.2.2.2.1 k0_t2
theorem k0_off269_inb : ∀ (v1_0 : BitVec 32) (k0_hw2 : k0_chk2 v1_0) (k0_t2 : Fin (k0_t2_loop v1_0).trips), ∀ a, (k0_off269 v1_0 k0_t2) a + S1x64x256.size a ≤ S3x704x3072.size a := fun v1_0 k0_hw2 k0_t2 => k0_hw2.2.2.2.2.2.2.2.1.2.2.2.2.2.2.2.2.2.2.2.2.2.2.2.2.2.2.2.2.2.2.2.2.1 k0_t2
theorem k0_off270_inb : ∀ (v1_0 : BitVec 32) (k0_hw2 : k0_chk2 v1_0) (k0_t2 : Fin (k0_t2_loop v1_0).trips), ∀ a, (k0_off270 v1_0 k0_t2) a + S1x1x256.size a ≤ S3x11x3072.size a := fun v1_0 k0_hw2 k0_t2 => k0_hw2.2.2.2.2.2.2.2.1.2.2.2.2.2.2.2.2.2.2.2.2.2.2.2.2.2.2.2.2.2.2.2.2.2.1 k0_t2
theorem k0_off271_inb : ∀ (v1_0 : BitVec 32) (k0_hw2 : k0_chk2 v1_0) (k0_t2 : Fin (k0_t2_loop v1_0).trips), ∀ a, (k0_off271 v1_0 k0_t2) a + S1x64x256.size a ≤ S3x704x3072.size a := fun v1_0 k0_hw2 k0_t2 => k0_hw2.2.2.2.2.2.2.2.1.2.2.2.2.2.2.2.2.2.2.2.2.2.2.2.2.2.2.2.2.2.2.2.2.2.2.1 k0_t2
theorem k0_off272_inb : ∀ (v1_0 : BitVec 32) (k0_hw2 : k0_chk2 v1_0) (k0_t2 : Fin (k0_t2_loop v1_0).trips), ∀ a, (k0_off272 v1_0 k0_t2) a + S1x1x256.size a ≤ S3x11x3072.size a := fun v1_0 k0_hw2 k0_t2 => k0_hw2.2.2.2.2.2.2.2.1.2.2.2.2.2.2.2.2.2.2.2.2.2.2.2.2.2.2.2.2.2.2.2.2.2.2.2.1 k0_t2
theorem k0_off273_inb : ∀ (v1_0 : BitVec 32) (k0_hw2 : k0_chk2 v1_0) (k0_t2 : Fin (k0_t2_loop v1_0).trips), ∀ a, (k0_off273 v1_0 k0_t2) a + S1x64x256.size a ≤ S3x704x3072.size a := fun v1_0 k0_hw2 k0_t2 => k0_hw2.2.2.2.2.2.2.2.1.2.2.2.2.2.2.2.2.2.2.2.2.2.2.2.2.2.2.2.2.2.2.2.2.2.2.2.2.1 k0_t2
theorem k0_off274_inb : ∀ (v1_0 : BitVec 32) (k0_hw2 : k0_chk2 v1_0) (k0_t2 : Fin (k0_t2_loop v1_0).trips), ∀ a, (k0_off274 v1_0 k0_t2) a + S1x1x256.size a ≤ S3x11x3072.size a := fun v1_0 k0_hw2 k0_t2 => k0_hw2.2.2.2.2.2.2.2.1.2.2.2.2.2.2.2.2.2.2.2.2.2.2.2.2.2.2.2.2.2.2.2.2.2.2.2.2.2.1 k0_t2
theorem k0_off275_inb : ∀ (v1_0 : BitVec 32) (k0_hw2 : k0_chk2 v1_0) (k0_t2 : Fin (k0_t2_loop v1_0).trips), ∀ a, (k0_off275 v1_0 k0_t2) a + S1x64x256.size a ≤ S3x704x3072.size a := fun v1_0 k0_hw2 k0_t2 => k0_hw2.2.2.2.2.2.2.2.1.2.2.2.2.2.2.2.2.2.2.2.2.2.2.2.2.2.2.2.2.2.2.2.2.2.2.2.2.2.2.1 k0_t2
theorem k0_off276_inb : ∀ (v1_0 : BitVec 32) (k0_hw2 : k0_chk2 v1_0) (k0_t2 : Fin (k0_t2_loop v1_0).trips), ∀ a, (k0_off276 v1_0 k0_t2) a + S1x1x256.size a ≤ S3x11x3072.size a := fun v1_0 k0_hw2 k0_t2 => k0_hw2.2.2.2.2.2.2.2.1.2.2.2.2.2.2.2.2.2.2.2.2.2.2.2.2.2.2.2.2.2.2.2.2.2.2.2.2.2.2.2 k0_t2
theorem k0_off277_inb : ∀ (v1_0 : BitVec 32) (k0_hw2 : k0_chk2 v1_0) (k0_t2 : Fin (k0_t2_loop v1_0).trips), ∀ a, (k0_off277 v1_0 k0_t2) a + S1x64x256.size a ≤ S3x704x3072.size a := fun v1_0 k0_hw2 k0_t2 => k0_hw2.2.2.2.2.2.2.2.2.1.1 k0_t2
theorem k0_off278_inb : ∀ (v1_0 : BitVec 32) (k0_hw2 : k0_chk2 v1_0) (k0_t2 : Fin (k0_t2_loop v1_0).trips), ∀ a, (k0_off278 v1_0 k0_t2) a + S1x1x256.size a ≤ S3x11x3072.size a := fun v1_0 k0_hw2 k0_t2 => k0_hw2.2.2.2.2.2.2.2.2.1.2.1 k0_t2
theorem k0_off279_inb : ∀ (v1_0 : BitVec 32) (k0_hw2 : k0_chk2 v1_0) (k0_t2 : Fin (k0_t2_loop v1_0).trips), ∀ a, (k0_off279 v1_0 k0_t2) a + S1x64x256.size a ≤ S3x704x3072.size a := fun v1_0 k0_hw2 k0_t2 => k0_hw2.2.2.2.2.2.2.2.2.1.2.2.1 k0_t2
theorem k0_off280_inb : ∀ (v1_0 : BitVec 32) (k0_hw2 : k0_chk2 v1_0) (k0_t2 : Fin (k0_t2_loop v1_0).trips), ∀ a, (k0_off280 v1_0 k0_t2) a + S1x1x256.size a ≤ S3x11x3072.size a := fun v1_0 k0_hw2 k0_t2 => k0_hw2.2.2.2.2.2.2.2.2.1.2.2.2.1 k0_t2
theorem k0_off281_inb : ∀ (v1_0 : BitVec 32) (k0_hw2 : k0_chk2 v1_0) (k0_t2 : Fin (k0_t2_loop v1_0).trips), ∀ a, (k0_off281 v1_0 k0_t2) a + S1x64x256.size a ≤ S3x704x3072.size a := fun v1_0 k0_hw2 k0_t2 => k0_hw2.2.2.2.2.2.2.2.2.1.2.2.2.2.1 k0_t2
theorem k0_off282_inb : ∀ (v1_0 : BitVec 32) (k0_hw2 : k0_chk2 v1_0) (k0_t2 : Fin (k0_t2_loop v1_0).trips), ∀ a, (k0_off282 v1_0 k0_t2) a + S1x1x256.size a ≤ S3x11x3072.size a := fun v1_0 k0_hw2 k0_t2 => k0_hw2.2.2.2.2.2.2.2.2.1.2.2.2.2.2.1 k0_t2
theorem k0_off283_inb : ∀ (v1_0 : BitVec 32) (k0_hw2 : k0_chk2 v1_0) (k0_t2 : Fin (k0_t2_loop v1_0).trips), ∀ a, (k0_off283 v1_0 k0_t2) a + S1x64x256.size a ≤ S3x704x3072.size a := fun v1_0 k0_hw2 k0_t2 => k0_hw2.2.2.2.2.2.2.2.2.1.2.2.2.2.2.2.1 k0_t2
theorem k0_off284_inb : ∀ (v1_0 : BitVec 32) (k0_hw2 : k0_chk2 v1_0) (k0_t2 : Fin (k0_t2_loop v1_0).trips), ∀ a, (k0_off284 v1_0 k0_t2) a + S1x1x256.size a ≤ S3x11x3072.size a := fun v1_0 k0_hw2 k0_t2 => k0_hw2.2.2.2.2.2.2.2.2.1.2.2.2.2.2.2.2.1 k0_t2
theorem k0_off285_inb : ∀ (v1_0 : BitVec 32) (k0_hw2 : k0_chk2 v1_0) (k0_t2 : Fin (k0_t2_loop v1_0).trips), ∀ a, (k0_off285 v1_0 k0_t2) a + S1x64x256.size a ≤ S3x704x3072.size a := fun v1_0 k0_hw2 k0_t2 => k0_hw2.2.2.2.2.2.2.2.2.1.2.2.2.2.2.2.2.2.1 k0_t2
theorem k0_off286_inb : ∀ (v1_0 : BitVec 32) (k0_hw2 : k0_chk2 v1_0) (k0_t2 : Fin (k0_t2_loop v1_0).trips), ∀ a, (k0_off286 v1_0 k0_t2) a + S1x1x256.size a ≤ S3x11x3072.size a := fun v1_0 k0_hw2 k0_t2 => k0_hw2.2.2.2.2.2.2.2.2.1.2.2.2.2.2.2.2.2.2.1 k0_t2
theorem k0_off287_inb : ∀ (v1_0 : BitVec 32) (k0_hw2 : k0_chk2 v1_0) (k0_t2 : Fin (k0_t2_loop v1_0).trips), ∀ a, (k0_off287 v1_0 k0_t2) a + S1x64x256.size a ≤ S3x704x3072.size a := fun v1_0 k0_hw2 k0_t2 => k0_hw2.2.2.2.2.2.2.2.2.1.2.2.2.2.2.2.2.2.2.2.1 k0_t2
theorem k0_off288_inb : ∀ (v1_0 : BitVec 32) (k0_hw2 : k0_chk2 v1_0) (k0_t2 : Fin (k0_t2_loop v1_0).trips), ∀ a, (k0_off288 v1_0 k0_t2) a + S1x1x256.size a ≤ S3x11x3072.size a := fun v1_0 k0_hw2 k0_t2 => k0_hw2.2.2.2.2.2.2.2.2.1.2.2.2.2.2.2.2.2.2.2.2.1 k0_t2
theorem k0_off289_inb : ∀ (v1_0 : BitVec 32) (k0_hw2 : k0_chk2 v1_0) (k0_t2 : Fin (k0_t2_loop v1_0).trips), ∀ a, (k0_off289 v1_0 k0_t2) a + S1x64x256.size a ≤ S3x704x3072.size a := fun v1_0 k0_hw2 k0_t2 => k0_hw2.2.2.2.2.2.2.2.2.1.2.2.2.2.2.2.2.2.2.2.2.2.1 k0_t2
theorem k0_off290_inb : ∀ (v1_0 : BitVec 32) (k0_hw2 : k0_chk2 v1_0) (k0_t2 : Fin (k0_t2_loop v1_0).trips), ∀ a, (k0_off290 v1_0 k0_t2) a + S1x1x256.size a ≤ S3x11x3072.size a := fun v1_0 k0_hw2 k0_t2 => k0_hw2.2.2.2.2.2.2.2.2.1.2.2.2.2.2.2.2.2.2.2.2.2.2.1 k0_t2
theorem k0_off291_inb : ∀ (v1_0 : BitVec 32) (k0_hw2 : k0_chk2 v1_0) (k0_t2 : Fin (k0_t2_loop v1_0).trips), ∀ a, (k0_off291 v1_0 k0_t2) a + S1x64x256.size a ≤ S3x704x3072.size a := fun v1_0 k0_hw2 k0_t2 => k0_hw2.2.2.2.2.2.2.2.2.1.2.2.2.2.2.2.2.2.2.2.2.2.2.2.1 k0_t2
theorem k0_off292_inb : ∀ (v1_0 : BitVec 32) (k0_hw2 : k0_chk2 v1_0) (k0_t2 : Fin (k0_t2_loop v1_0).trips), ∀ a, (k0_off292 v1_0 k0_t2) a + S1x1x256.size a ≤ S3x11x3072.size a := fun v1_0 k0_hw2 k0_t2 => k0_hw2.2.2.2.2.2.2.2.2.1.2.2.2.2.2.2.2.2.2.2.2.2.2.2.2.1 k0_t2
theorem k0_off293_inb : ∀ (v1_0 : BitVec 32) (k0_hw2 : k0_chk2 v1_0) (k0_t2 : Fin (k0_t2_loop v1_0).trips), ∀ a, (k0_off293 v1_0 k0_t2) a + S1x64x256.size a ≤ S3x704x3072.size a := fun v1_0 k0_hw2 k0_t2 => k0_hw2.2.2.2.2.2.2.2.2.1.2.2.2.2.2.2.2.2.2.2.2.2.2.2.2.2.1 k0_t2
theorem k0_off294_inb : ∀ (v1_0 : BitVec 32) (k0_hw2 : k0_chk2 v1_0) (k0_t2 : Fin (k0_t2_loop v1_0).trips), ∀ a, (k0_off294 v1_0 k0_t2) a + S1x1x256.size a ≤ S3x11x3072.size a := fun v1_0 k0_hw2 k0_t2 => k0_hw2.2.2.2.2.2.2.2.2.1.2.2.2.2.2.2.2.2.2.2.2.2.2.2.2.2.2.1 k0_t2
theorem k0_off295_inb : ∀ (v1_0 : BitVec 32) (k0_hw2 : k0_chk2 v1_0) (k0_t2 : Fin (k0_t2_loop v1_0).trips), ∀ (k0_h4 : k0_cond4 v1_0 k0_t2 = 1#1), ∀ a, (k0_off295 v1_0 k0_t2) a + S1.size a ≤ S65.size a := fun v1_0 k0_hw2 k0_t2 k0_h4 => k0_hw2.2.2.2.2.2.2.2.2.1.2.2.2.2.2.2.2.2.2.2.2.2.2.2.2.2.2.2.1 k0_t2 k0_h4
theorem k0_off296_inb : ∀ (v1_0 : BitVec 32) (k0_hw2 : k0_chk2 v1_0) (k0_t2 : Fin (k0_t2_loop v1_0).trips), ∀ (k0_h4 : k0_cond4 v1_0 k0_t2 = 1#1), ∀ a, (k0_off296 v1_0 k0_t2) a + S1x1.size a ≤ S2x3.size a := fun v1_0 k0_hw2 k0_t2 k0_h4 => k0_hw2.2.2.2.2.2.2.2.2.1.2.2.2.2.2.2.2.2.2.2.2.2.2.2.2.2.2.2.2.1 k0_t2 k0_h4
theorem k0_off297_inb : ∀ (v1_0 : BitVec 32) (k0_hw2 : k0_chk2 v1_0) (k0_t2 : Fin (k0_t2_loop v1_0).trips), ∀ (k0_h4 : k0_cond4 v1_0 k0_t2 = 1#1), ∀ a, (k0_off297 v1_0 k0_t2) a + S1x704x3072.size a ≤ S3x704x3072.size a := fun v1_0 k0_hw2 k0_t2 k0_h4 => k0_hw2.2.2.2.2.2.2.2.2.1.2.2.2.2.2.2.2.2.2.2.2.2.2.2.2.2.2.2.2.2.1 k0_t2 k0_h4
theorem k0_off297_wordsi8 : ∀ (v1_0 : BitVec 32) (k0_hw2 : k0_chk2 v1_0) (k0_t2 : Fin (k0_t2_loop v1_0).trips), ∀ (k0_h4 : k0_cond4 v1_0 k0_t2 = 1#1), (Rect.unit (s := S3x704x3072) (k0_off297 v1_0 k0_t2) S1x704x3072.size (k0_off297_inb v1_0 k0_hw2 k0_t2 k0_h4)).WholeWords (EltTy.packing .i8) := fun v1_0 k0_hw2 k0_t2 k0_h4 => k0_hw2.2.2.2.2.2.2.2.2.1.2.2.2.2.2.2.2.2.2.2.2.2.2.2.2.2.2.2.2.2.2.1 k0_t2 k0_h4 (k0_off297_inb v1_0 k0_hw2 k0_t2 k0_h4)
theorem k0_off299_inb : ∀ (v1_0 : BitVec 32) (k0_hw2 : k0_chk2 v1_0) (k0_t2 : Fin (k0_t2_loop v1_0).trips), ∀ (k0_h4 : k0_cond4 v1_0 k0_t2 = 1#1), ∀ a, (k0_off299 v1_0 k0_t2) a + S1x1.size a ≤ S2x3.size a := fun v1_0 k0_hw2 k0_t2 k0_h4 => k0_hw2.2.2.2.2.2.2.2.2.1.2.2.2.2.2.2.2.2.2.2.2.2.2.2.2.2.2.2.2.2.2.2.1 k0_t2 k0_h4
theorem k0_off300_inb : ∀ (v1_0 : BitVec 32) (k0_hw2 : k0_chk2 v1_0) (k0_t2 : Fin (k0_t2_loop v1_0).trips), ∀ (k0_h4 : k0_cond4 v1_0 k0_t2 = 1#1), ∀ a, (k0_off300 v1_0 k0_t2) a + S1x11x3072.size a ≤ S3x11x3072.size a := fun v1_0 k0_hw2 k0_t2 k0_h4 => k0_hw2.2.2.2.2.2.2.2.2.1.2.2.2.2.2.2.2.2.2.2.2.2.2.2.2.2.2.2.2.2.2.2.2.1 k0_t2 k0_h4
theorem k0_t3_ok : ∀ (v1_0 : BitVec 32) (k0_hw2 : k0_chk2 v1_0), (k0_t3_loop v1_0).OK := fun v1_0 k0_hw2 => k0_hw2.2.2.2.2.2.2.2.2.1.2.2.2.2.2.2.2.2.2.2.2.2.2.2.2.2.2.2.2.2.2.2.2.2.1
theorem k0_off302_inb : ∀ (v1_0 : BitVec 32) (k0_hw2 : k0_chk2 v1_0) (k0_t3 : Fin (k0_t3_loop v1_0).trips), ∀ a, (k0_off302 v1_0 k0_t3) a + S1.size a ≤ S65.size a := fun v1_0 k0_hw2 k0_t3 => k0_hw2.2.2.2.2.2.2.2.2.1.2.2.2.2.2.2.2.2.2.2.2.2.2.2.2.2.2.2.2.2.2.2.2.2.2.1 k0_t3
theorem k0_off303_inb : ∀ (v1_0 : BitVec 32) (k0_hw2 : k0_chk2 v1_0) (k0_t3 : Fin (k0_t3_loop v1_0).trips), ∀ a, (k0_off303 v1_0 k0_t3) a + S1x1.size a ≤ S2x3.size a := fun v1_0 k0_hw2 k0_t3 => k0_hw2.2.2.2.2.2.2.2.2.1.2.2.2.2.2.2.2.2.2.2.2.2.2.2.2.2.2.2.2.2.2.2.2.2.2.2.1 k0_t3
theorem k0_off304_inb : ∀ (v1_0 : BitVec 32) (k0_hw2 : k0_chk2 v1_0) (k0_t3 : Fin (k0_t3_loop v1_0).trips), ∀ a, (k0_off304 v1_0 k0_t3) a + S1x704x3072.size a ≤ S3x704x3072.size a := fun v1_0 k0_hw2 k0_t3 => k0_hw2.2.2.2.2.2.2.2.2.1.2.2.2.2.2.2.2.2.2.2.2.2.2.2.2.2.2.2.2.2.2.2.2.2.2.2.2.1 k0_t3
theorem k0_off304_wordsi8 : ∀ (v1_0 : BitVec 32) (k0_hw2 : k0_chk2 v1_0) (k0_t3 : Fin (k0_t3_loop v1_0).trips), (Rect.unit (s := S3x704x3072) (k0_off304 v1_0 k0_t3) S1x704x3072.size (k0_off304_inb v1_0 k0_hw2 k0_t3)).WholeWords (EltTy.packing .i8) := fun v1_0 k0_hw2 k0_t3 => k0_hw2.2.2.2.2.2.2.2.2.1.2.2.2.2.2.2.2.2.2.2.2.2.2.2.2.2.2.2.2.2.2.2.2.2.2.2.2.2.1 k0_t3 (k0_off304_inb v1_0 k0_hw2 k0_t3)
theorem k0_off306_inb : ∀ (v1_0 : BitVec 32) (k0_hw2 : k0_chk2 v1_0) (k0_t3 : Fin (k0_t3_loop v1_0).trips), ∀ a, (k0_off306 v1_0 k0_t3) a + S1x1.size a ≤ S2x3.size a := fun v1_0 k0_hw2 k0_t3 => k0_hw2.2.2.2.2.2.2.2.2.1.2.2.2.2.2.2.2.2.2.2.2.2.2.2.2.2.2.2.2.2.2.2.2.2.2.2.2.2.2.1 k0_t3
theorem k0_off307_inb : ∀ (v1_0 : BitVec 32) (k0_hw2 : k0_chk2 v1_0) (k0_t3 : Fin (k0_t3_loop v1_0).trips), ∀ a, (k0_off307 v1_0 k0_t3) a + S1x11x3072.size a ≤ S3x11x3072.size a := fun v1_0 k0_hw2 k0_t3 => k0_hw2.2.2.2.2.2.2.2.2.1.2.2.2.2.2.2.2.2.2.2.2.2.2.2.2.2.2.2.2.2.2.2.2.2.2.2.2.2.2.2.1 k0_t3
theorem k0_off309_inb : ∀ (v1_0 : BitVec 32) (k0_hw2 : k0_chk2 v1_0) (k0_t3 : Fin (k0_t3_loop v1_0).trips), ∀ a, (k0_off309 v1_0 k0_t3) a + S1.size a ≤ S65.size a := fun v1_0 k0_hw2 k0_t3 => k0_hw2.2.2.2.2.2.2.2.2.1.2.2.2.2.2.2.2.2.2.2.2.2.2.2.2.2.2.2.2.2.2.2.2.2.2.2.2.2.2.2.2 k0_t3
theorem k0_off310_inb : ∀ (v1_0 : BitVec 32) (k0_hw2 : k0_chk2 v1_0) (k0_t3 : Fin (k0_t3_loop v1_0).trips), ∀ a, (k0_off310 v1_0 k0_t3) a + S1.size a ≤ S65.size a := fun v1_0 k0_hw2 k0_t3 => k0_hw2.2.2.2.2.2.2.2.2.2.1.1 k0_t3
theorem k0_off311_inb : ∀ (v1_0 : BitVec 32) (k0_hw2 : k0_chk2 v1_0) (k0_t3 : Fin (k0_t3_loop v1_0).trips), ∀ a, (k0_off311 v1_0 k0_t3) a + S1x64x256.size a ≤ S3x704x3072.size a := fun v1_0 k0_hw2 k0_t3 => k0_hw2.2.2.2.2.2.2.2.2.2.1.2.1 k0_t3
theorem k0_off312_inb : ∀ (v1_0 : BitVec 32) (k0_hw2 : k0_chk2 v1_0) (k0_t3 : Fin (k0_t3_loop v1_0).trips), ∀ a, (k0_off312 v1_0 k0_t3) a + S1x1x256.size a ≤ S3x11x3072.size a := fun v1_0 k0_hw2 k0_t3 => k0_hw2.2.2.2.2.2.2.2.2.2.1.2.2.1 k0_t3
theorem k0_off313_inb : ∀ (v1_0 : BitVec 32) (k0_hw2 : k0_chk2 v1_0) (k0_t3 : Fin (k0_t3_loop v1_0).trips), ∀ a, (k0_off313 v1_0 k0_t3) a + S1x64x256.size a ≤ S3x704x3072.size a := fun v1_0 k0_hw2 k0_t3 => k0_hw2.2.2.2.2.2.2.2.2.2.1.2.2.2.1 k0_t3
theorem k0_off314_inb : ∀ (v1_0 : BitVec 32) (k0_hw2 : k0_chk2 v1_0) (k0_t3 : Fin (k0_t3_loop v1_0).trips), ∀ a, (k0_off314 v1_0 k0_t3) a + S1x1x256.size a ≤ S3x11x3072.size a := fun v1_0 k0_hw2 k0_t3 => k0_hw2.2.2.2.2.2.2.2.2.2.1.2.2.2.2.1 k0_t3
theorem k0_off315_inb : ∀ (v1_0 : BitVec 32) (k0_hw2 : k0_chk2 v1_0) (k0_t3 : Fin (k0_t3_loop v1_0).trips), ∀ a, (k0_off315 v1_0 k0_t3) a + S1x64x256.size a ≤ S3x704x3072.size a := fun v1_0 k0_hw2 k0_t3 => k0_hw2.2.2.2.2.2.2.2.2.2.1.2.2.2.2.2.1 k0_t3
theorem k0_off316_inb : ∀ (v1_0 : BitVec 32) (k0_hw2 : k0_chk2 v1_0) (k0_t3 : Fin (k0_t3_loop v1_0).trips), ∀ a, (k0_off316 v1_0 k0_t3) a + S1x1x256.size a ≤ S3x11x3072.size a := fun v1_0 k0_hw2 k0_t3 => k0_hw2.2.2.2.2.2.2.2.2.2.1.2.2.2.2.2.2.1 k0_t3
theorem k0_off317_inb : ∀ (v1_0 : BitVec 32) (k0_hw2 : k0_chk2 v1_0) (k0_t3 : Fin (k0_t3_loop v1_0).trips), ∀ a, (k0_off317 v1_0 k0_t3) a + S1x64x256.size a ≤ S3x704x3072.size a := fun v1_0 k0_hw2 k0_t3 => k0_hw2.2.2.2.2.2.2.2.2.2.1.2.2.2.2.2.2.2.1 k0_t3
theorem k0_off318_inb : ∀ (v1_0 : BitVec 32) (k0_hw2 : k0_chk2 v1_0) (k0_t3 : Fin (k0_t3_loop v1_0).trips), ∀ a, (k0_off318 v1_0 k0_t3) a + S1x1x256.size a ≤ S3x11x3072.size a := fun v1_0 k0_hw2 k0_t3 => k0_hw2.2.2.2.2.2.2.2.2.2.1.2.2.2.2.2.2.2.2.1 k0_t3
theorem k0_off319_inb : ∀ (v1_0 : BitVec 32) (k0_hw2 : k0_chk2 v1_0) (k0_t3 : Fin (k0_t3_loop v1_0).trips), ∀ a, (k0_off319 v1_0 k0_t3) a + S1x64x256.size a ≤ S3x704x3072.size a := fun v1_0 k0_hw2 k0_t3 => k0_hw2.2.2.2.2.2.2.2.2.2.1.2.2.2.2.2.2.2.2.2.1 k0_t3
theorem k0_off320_inb : ∀ (v1_0 : BitVec 32) (k0_hw2 : k0_chk2 v1_0) (k0_t3 : Fin (k0_t3_loop v1_0).trips), ∀ a, (k0_off320 v1_0 k0_t3) a + S1x1x256.size a ≤ S3x11x3072.size a := fun v1_0 k0_hw2 k0_t3 => k0_hw2.2.2.2.2.2.2.2.2.2.1.2.2.2.2.2.2.2.2.2.2.1 k0_t3
theorem k0_off321_inb : ∀ (v1_0 : BitVec 32) (k0_hw2 : k0_chk2 v1_0) (k0_t3 : Fin (k0_t3_loop v1_0).trips), ∀ a, (k0_off321 v1_0 k0_t3) a + S1x64x256.size a ≤ S3x704x3072.size a := fun v1_0 k0_hw2 k0_t3 => k0_hw2.2.2.2.2.2.2.2.2.2.1.2.2.2.2.2.2.2.2.2.2.2.1 k0_t3
theorem k0_off322_inb : ∀ (v1_0 : BitVec 32) (k0_hw2 : k0_chk2 v1_0) (k0_t3 : Fin (k0_t3_loop v1_0).trips), ∀ a, (k0_off322 v1_0 k0_t3) a + S1x1x256.size a ≤ S3x11x3072.size a := fun v1_0 k0_hw2 k0_t3 => k0_hw2.2.2.2.2.2.2.2.2.2.1.2.2.2.2.2.2.2.2.2.2.2.2.1 k0_t3
theorem k0_off323_inb : ∀ (v1_0 : BitVec 32) (k0_hw2 : k0_chk2 v1_0) (k0_t3 : Fin (k0_t3_loop v1_0).trips), ∀ a, (k0_off323 v1_0 k0_t3) a + S1x64x256.size a ≤ S3x704x3072.size a := fun v1_0 k0_hw2 k0_t3 => k0_hw2.2.2.2.2.2.2.2.2.2.1.2.2.2.2.2.2.2.2.2.2.2.2.2.1 k0_t3
theorem k0_off324_inb : ∀ (v1_0 : BitVec 32) (k0_hw2 : k0_chk2 v1_0) (k0_t3 : Fin (k0_t3_loop v1_0).trips), ∀ a, (k0_off324 v1_0 k0_t3) a + S1x1x256.size a ≤ S3x11x3072.size a := fun v1_0 k0_hw2 k0_t3 => k0_hw2.2.2.2.2.2.2.2.2.2.1.2.2.2.2.2.2.2.2.2.2.2.2.2.2.1 k0_t3
theorem k0_off325_inb : ∀ (v1_0 : BitVec 32) (k0_hw2 : k0_chk2 v1_0) (k0_t3 : Fin (k0_t3_loop v1_0).trips), ∀ a, (k0_off325 v1_0 k0_t3) a + S1x64x256.size a ≤ S3x704x3072.size a := fun v1_0 k0_hw2 k0_t3 => k0_hw2.2.2.2.2.2.2.2.2.2.1.2.2.2.2.2.2.2.2.2.2.2.2.2.2.2.1 k0_t3
theorem k0_off326_inb : ∀ (v1_0 : BitVec 32) (k0_hw2 : k0_chk2 v1_0) (k0_t3 : Fin (k0_t3_loop v1_0).trips), ∀ a, (k0_off326 v1_0 k0_t3) a + S1x1x256.size a ≤ S3x11x3072.size a := fun v1_0 k0_hw2 k0_t3 => k0_hw2.2.2.2.2.2.2.2.2.2.1.2.2.2.2.2.2.2.2.2.2.2.2.2.2.2.2.1 k0_t3
theorem k0_off327_inb : ∀ (v1_0 : BitVec 32) (k0_hw2 : k0_chk2 v1_0) (k0_t3 : Fin (k0_t3_loop v1_0).trips), ∀ a, (k0_off327 v1_0 k0_t3) a + S1x64x256.size a ≤ S3x704x3072.size a := fun v1_0 k0_hw2 k0_t3 => k0_hw2.2.2.2.2.2.2.2.2.2.1.2.2.2.2.2.2.2.2.2.2.2.2.2.2.2.2.2.1 k0_t3
theorem k0_off328_inb : ∀ (v1_0 : BitVec 32) (k0_hw2 : k0_chk2 v1_0) (k0_t3 : Fin (k0_t3_loop v1_0).trips), ∀ a, (k0_off328 v1_0 k0_t3) a + S1x1x256.size a ≤ S3x11x3072.size a := fun v1_0 k0_hw2 k0_t3 => k0_hw2.2.2.2.2.2.2.2.2.2.1.2.2.2.2.2.2.2.2.2.2.2.2.2.2.2.2.2.2.1 k0_t3
theorem k0_off329_inb : ∀ (v1_0 : BitVec 32) (k0_hw2 : k0_chk2 v1_0) (k0_t3 : Fin (k0_t3_loop v1_0).trips), ∀ a, (k0_off329 v1_0 k0_t3) a + S1x64x256.size a ≤ S3x704x3072.size a := fun v1_0 k0_hw2 k0_t3 => k0_hw2.2.2.2.2.2.2.2.2.2.1.2.2.2.2.2.2.2.2.2.2.2.2.2.2.2.2.2.2.2.1 k0_t3
theorem k0_off330_inb : ∀ (v1_0 : BitVec 32) (k0_hw2 : k0_chk2 v1_0) (k0_t3 : Fin (k0_t3_loop v1_0).trips), ∀ a, (k0_off330 v1_0 k0_t3) a + S1x1x256.size a ≤ S3x11x3072.size a := fun v1_0 k0_hw2 k0_t3 => k0_hw2.2.2.2.2.2.2.2.2.2.1.2.2.2.2.2.2.2.2.2.2.2.2.2.2.2.2.2.2.2.2.1 k0_t3
theorem k0_off331_inb : ∀ (v1_0 : BitVec 32) (k0_hw2 : k0_chk2 v1_0) (k0_t3 : Fin (k0_t3_loop v1_0).trips), ∀ a, (k0_off331 v1_0 k0_t3) a + S1x64x256.size a ≤ S3x704x3072.size a := fun v1_0 k0_hw2 k0_t3 => k0_hw2.2.2.2.2.2.2.2.2.2.1.2.2.2.2.2.2.2.2.2.2.2.2.2.2.2.2.2.2.2.2.2.1 k0_t3
theorem k0_off332_inb : ∀ (v1_0 : BitVec 32) (k0_hw2 : k0_chk2 v1_0) (k0_t3 : Fin (k0_t3_loop v1_0).trips), ∀ a, (k0_off332 v1_0 k0_t3) a + S1x1x256.size a ≤ S3x11x3072.size a := fun v1_0 k0_hw2 k0_t3 => k0_hw2.2.2.2.2.2.2.2.2.2.1.2.2.2.2.2.2.2.2.2.2.2.2.2.2.2.2.2.2.2.2.2.2.1 k0_t3
theorem k0_off333_inb : ∀ (v1_0 : BitVec 32) (k0_hw2 : k0_chk2 v1_0) (k0_t3 : Fin (k0_t3_loop v1_0).trips), ∀ a, (k0_off333 v1_0 k0_t3) a + S1x64x256.size a ≤ S3x704x3072.size a := fun v1_0 k0_hw2 k0_t3 => k0_hw2.2.2.2.2.2.2.2.2.2.1.2.2.2.2.2.2.2.2.2.2.2.2.2.2.2.2.2.2.2.2.2.2.2.1 k0_t3
theorem k0_off334_inb : ∀ (v1_0 : BitVec 32) (k0_hw2 : k0_chk2 v1_0) (k0_t3 : Fin (k0_t3_loop v1_0).trips), ∀ a, (k0_off334 v1_0 k0_t3) a + S1x1x256.size a ≤ S3x11x3072.size a := fun v1_0 k0_hw2 k0_t3 => k0_hw2.2.2.2.2.2.2.2.2.2.1.2.2.2.2.2.2.2.2.2.2.2.2.2.2.2.2.2.2.2.2.2.2.2.2.1 k0_t3
theorem k0_off335_inb : ∀ (v1_0 : BitVec 32) (k0_hw2 : k0_chk2 v1_0) (k0_t3 : Fin (k0_t3_loop v1_0).trips), ∀ a, (k0_off335 v1_0 k0_t3) a + S1x64x256.size a ≤ S3x704x3072.size a := fun v1_0 k0_hw2 k0_t3 => k0_hw2.2.2.2.2.2.2.2.2.2.1.2.2.2.2.2.2.2.2.2.2.2.2.2.2.2.2.2.2.2.2.2.2.2.2.2.1 k0_t3
theorem k0_off336_inb : ∀ (v1_0 : BitVec 32) (k0_hw2 : k0_chk2 v1_0) (k0_t3 : Fin (k0_t3_loop v1_0).trips), ∀ a, (k0_off336 v1_0 k0_t3) a + S1x1x256.size a ≤ S3x11x3072.size a := fun v1_0 k0_hw2 k0_t3 => k0_hw2.2.2.2.2.2.2.2.2.2.1.2.2.2.2.2.2.2.2.2.2.2.2.2.2.2.2.2.2.2.2.2.2.2.2.2.2.1 k0_t3
theorem k0_off337_inb : ∀ (v1_0 : BitVec 32) (k0_hw2 : k0_chk2 v1_0) (k0_t3 : Fin (k0_t3_loop v1_0).trips), ∀ a, (k0_off337 v1_0 k0_t3) a + S1x64x256.size a ≤ S3x704x3072.size a := fun v1_0 k0_hw2 k0_t3 => k0_hw2.2.2.2.2.2.2.2.2.2.1.2.2.2.2.2.2.2.2.2.2.2.2.2.2.2.2.2.2.2.2.2.2.2.2.2.2.2.1 k0_t3
theorem k0_off338_inb : ∀ (v1_0 : BitVec 32) (k0_hw2 : k0_chk2 v1_0) (k0_t3 : Fin (k0_t3_loop v1_0).trips), ∀ a, (k0_off338 v1_0 k0_t3) a + S1x1x256.size a ≤ S3x11x3072.size a := fun v1_0 k0_hw2 k0_t3 => k0_hw2.2.2.2.2.2.2.2.2.2.1.2.2.2.2.2.2.2.2.2.2.2.2.2.2.2.2.2.2.2.2.2.2.2.2.2.2.2.2.1 k0_t3
theorem k0_off339_inb : ∀ (v1_0 : BitVec 32) (k0_hw2 : k0_chk2 v1_0) (k0_t3 : Fin (k0_t3_loop v1_0).trips), ∀ a, (k0_off339 v1_0 k0_t3) a + S1x64x256.size a ≤ S3x704x3072.size a := fun v1_0 k0_hw2 k0_t3 => k0_hw2.2.2.2.2.2.2.2.2.2.1.2.2.2.2.2.2.2.2.2.2.2.2.2.2.2.2.2.2.2.2.2.2.2.2.2.2.2.2.2.1 k0_t3
theorem k0_off340_inb : ∀ (v1_0 : BitVec 32) (k0_hw2 : k0_chk2 v1_0) (k0_t3 : Fin (k0_t3_loop v1_0).trips), ∀ a, (k0_off340 v1_0 k0_t3) a + S1x1x256.size a ≤ S3x11x3072.size a := fun v1_0 k0_hw2 k0_t3 => k0_hw2.2.2.2.2.2.2.2.2.2.1.2.2.2.2.2.2.2.2.2.2.2.2.2.2.2.2.2.2.2.2.2.2.2.2.2.2.2.2.2.2.1 k0_t3
theorem k0_off341_inb : ∀ (v1_0 : BitVec 32) (k0_hw2 : k0_chk2 v1_0) (k0_t3 : Fin (k0_t3_loop v1_0).trips), ∀ a, (k0_off341 v1_0 k0_t3) a + S1x64x256.size a ≤ S3x704x3072.size a := fun v1_0 k0_hw2 k0_t3 => k0_hw2.2.2.2.2.2.2.2.2.2.1.2.2.2.2.2.2.2.2.2.2.2.2.2.2.2.2.2.2.2.2.2.2.2.2.2.2.2.2.2.2.2 k0_t3
theorem k0_off342_inb : ∀ (v1_0 : BitVec 32) (k0_hw2 : k0_chk2 v1_0) (k0_t3 : Fin (k0_t3_loop v1_0).trips), ∀ a, (k0_off342 v1_0 k0_t3) a + S1x1x256.size a ≤ S3x11x3072.size a := fun v1_0 k0_hw2 k0_t3 => k0_hw2.2.2.2.2.2.2.2.2.2.2.1.1 k0_t3
theorem k0_off343_inb : ∀ (v1_0 : BitVec 32) (k0_hw2 : k0_chk2 v1_0) (k0_t3 : Fin (k0_t3_loop v1_0).trips), ∀ a, (k0_off343 v1_0 k0_t3) a + S1x64x256.size a ≤ S3x704x3072.size a := fun v1_0 k0_hw2 k0_t3 => k0_hw2.2.2.2.2.2.2.2.2.2.2.1.2.1 k0_t3
theorem k0_off344_inb : ∀ (v1_0 : BitVec 32) (k0_hw2 : k0_chk2 v1_0) (k0_t3 : Fin (k0_t3_loop v1_0).trips), ∀ a, (k0_off344 v1_0 k0_t3) a + S1x1x256.size a ≤ S3x11x3072.size a := fun v1_0 k0_hw2 k0_t3 => k0_hw2.2.2.2.2.2.2.2.2.2.2.1.2.2.1 k0_t3
theorem k0_off345_inb : ∀ (v1_0 : BitVec 32) (k0_hw2 : k0_chk2 v1_0) (k0_t3 : Fin (k0_t3_loop v1_0).trips), ∀ a, (k0_off345 v1_0 k0_t3) a + S1x64x256.size a ≤ S3x704x3072.size a := fun v1_0 k0_hw2 k0_t3 => k0_hw2.2.2.2.2.2.2.2.2.2.2.1.2.2.2.1 k0_t3
theorem k0_off346_inb : ∀ (v1_0 : BitVec 32) (k0_hw2 : k0_chk2 v1_0) (k0_t3 : Fin (k0_t3_loop v1_0).trips), ∀ a, (k0_off346 v1_0 k0_t3) a + S1x1x256.size a ≤ S3x11x3072.size a := fun v1_0 k0_hw2 k0_t3 => k0_hw2.2.2.2.2.2.2.2.2.2.2.1.2.2.2.2.1 k0_t3
theorem k0_off347_inb : ∀ (v1_0 : BitVec 32) (k0_hw2 : k0_chk2 v1_0) (k0_t3 : Fin (k0_t3_loop v1_0).trips), ∀ a, (k0_off347 v1_0 k0_t3) a + S1x64x256.size a ≤ S3x704x3072.size a := fun v1_0 k0_hw2 k0_t3 => k0_hw2.2.2.2.2.2.2.2.2.2.2.1.2.2.2.2.2.1 k0_t3
theorem k0_off348_inb : ∀ (v1_0 : BitVec 32) (k0_hw2 : k0_chk2 v1_0) (k0_t3 : Fin (k0_t3_loop v1_0).trips), ∀ a, (k0_off348 v1_0 k0_t3) a + S1x1x256.size a ≤ S3x11x3072.size a := fun v1_0 k0_hw2 k0_t3 => k0_hw2.2.2.2.2.2.2.2.2.2.2.1.2.2.2.2.2.2.1 k0_t3
theorem k0_off349_inb : ∀ (v1_0 : BitVec 32) (k0_hw2 : k0_chk2 v1_0) (k0_t3 : Fin (k0_t3_loop v1_0).trips), ∀ a, (k0_off349 v1_0 k0_t3) a + S1x64x256.size a ≤ S3x704x3072.size a := fun v1_0 k0_hw2 k0_t3 => k0_hw2.2.2.2.2.2.2.2.2.2.2.1.2.2.2.2.2.2.2.1 k0_t3
theorem k0_off350_inb : ∀ (v1_0 : BitVec 32) (k0_hw2 : k0_chk2 v1_0) (k0_t3 : Fin (k0_t3_loop v1_0).trips), ∀ a, (k0_off350 v1_0 k0_t3) a + S1x1x256.size a ≤ S3x11x3072.size a := fun v1_0 k0_hw2 k0_t3 => k0_hw2.2.2.2.2.2.2.2.2.2.2.1.2.2.2.2.2.2.2.2.1 k0_t3
theorem k0_off351_inb : ∀ (v1_0 : BitVec 32) (k0_hw2 : k0_chk2 v1_0) (k0_t3 : Fin (k0_t3_loop v1_0).trips), ∀ a, (k0_off351 v1_0 k0_t3) a + S1x64x256.size a ≤ S3x704x3072.size a := fun v1_0 k0_hw2 k0_t3 => k0_hw2.2.2.2.2.2.2.2.2.2.2.1.2.2.2.2.2.2.2.2.2.1 k0_t3
theorem k0_off352_inb : ∀ (v1_0 : BitVec 32) (k0_hw2 : k0_chk2 v1_0) (k0_t3 : Fin (k0_t3_loop v1_0).trips), ∀ a, (k0_off352 v1_0 k0_t3) a + S1x1x256.size a ≤ S3x11x3072.size a := fun v1_0 k0_hw2 k0_t3 => k0_hw2.2.2.2.2.2.2.2.2.2.2.1.2.2.2.2.2.2.2.2.2.2.1 k0_t3
theorem k0_off353_inb : ∀ (v1_0 : BitVec 32) (k0_hw2 : k0_chk2 v1_0) (k0_t3 : Fin (k0_t3_loop v1_0).trips), ∀ a, (k0_off353 v1_0 k0_t3) a + S1x64x256.size a ≤ S3x704x3072.size a := fun v1_0 k0_hw2 k0_t3 => k0_hw2.2.2.2.2.2.2.2.2.2.2.1.2.2.2.2.2.2.2.2.2.2.2.1 k0_t3
theorem k0_off354_inb : ∀ (v1_0 : BitVec 32) (k0_hw2 : k0_chk2 v1_0) (k0_t3 : Fin (k0_t3_loop v1_0).trips), ∀ a, (k0_off354 v1_0 k0_t3) a + S1x1x256.size a ≤ S3x11x3072.size a := fun v1_0 k0_hw2 k0_t3 => k0_hw2.2.2.2.2.2.2.2.2.2.2.1.2.2.2.2.2.2.2.2.2.2.2.2.1 k0_t3
theorem k0_off355_inb : ∀ (v1_0 : BitVec 32) (k0_hw2 : k0_chk2 v1_0) (k0_t3 : Fin (k0_t3_loop v1_0).trips), ∀ a, (k0_off355 v1_0 k0_t3) a + S1x64x256.size a ≤ S3x704x3072.size a := fun v1_0 k0_hw2 k0_t3 => k0_hw2.2.2.2.2.2.2.2.2.2.2.1.2.2.2.2.2.2.2.2.2.2.2.2.2.1 k0_t3
theorem k0_off356_inb : ∀ (v1_0 : BitVec 32) (k0_hw2 : k0_chk2 v1_0) (k0_t3 : Fin (k0_t3_loop v1_0).trips), ∀ a, (k0_off356 v1_0 k0_t3) a + S1x1x256.size a ≤ S3x11x3072.size a := fun v1_0 k0_hw2 k0_t3 => k0_hw2.2.2.2.2.2.2.2.2.2.2.1.2.2.2.2.2.2.2.2.2.2.2.2.2.2.1 k0_t3
theorem k0_off357_inb : ∀ (v1_0 : BitVec 32) (k0_hw2 : k0_chk2 v1_0) (k0_t3 : Fin (k0_t3_loop v1_0).trips), ∀ a, (k0_off357 v1_0 k0_t3) a + S1x64x256.size a ≤ S3x704x3072.size a := fun v1_0 k0_hw2 k0_t3 => k0_hw2.2.2.2.2.2.2.2.2.2.2.1.2.2.2.2.2.2.2.2.2.2.2.2.2.2.2.1 k0_t3
theorem k0_off358_inb : ∀ (v1_0 : BitVec 32) (k0_hw2 : k0_chk2 v1_0) (k0_t3 : Fin (k0_t3_loop v1_0).trips), ∀ a, (k0_off358 v1_0 k0_t3) a + S1x1x256.size a ≤ S3x11x3072.size a := fun v1_0 k0_hw2 k0_t3 => k0_hw2.2.2.2.2.2.2.2.2.2.2.1.2.2.2.2.2.2.2.2.2.2.2.2.2.2.2.2.1 k0_t3
theorem k0_off359_inb : ∀ (v1_0 : BitVec 32) (k0_hw2 : k0_chk2 v1_0) (k0_t3 : Fin (k0_t3_loop v1_0).trips), ∀ a, (k0_off359 v1_0 k0_t3) a + S1x64x256.size a ≤ S3x704x3072.size a := fun v1_0 k0_hw2 k0_t3 => k0_hw2.2.2.2.2.2.2.2.2.2.2.1.2.2.2.2.2.2.2.2.2.2.2.2.2.2.2.2.2.1 k0_t3
theorem k0_off360_inb : ∀ (v1_0 : BitVec 32) (k0_hw2 : k0_chk2 v1_0) (k0_t3 : Fin (k0_t3_loop v1_0).trips), ∀ a, (k0_off360 v1_0 k0_t3) a + S1x1x256.size a ≤ S3x11x3072.size a := fun v1_0 k0_hw2 k0_t3 => k0_hw2.2.2.2.2.2.2.2.2.2.2.1.2.2.2.2.2.2.2.2.2.2.2.2.2.2.2.2.2.2.1 k0_t3
theorem k0_off361_inb : ∀ (v1_0 : BitVec 32) (k0_hw2 : k0_chk2 v1_0) (k0_t3 : Fin (k0_t3_loop v1_0).trips), ∀ a, (k0_off361 v1_0 k0_t3) a + S1x64x256.size a ≤ S3x704x3072.size a := fun v1_0 k0_hw2 k0_t3 => k0_hw2.2.2.2.2.2.2.2.2.2.2.1.2.2.2.2.2.2.2.2.2.2.2.2.2.2.2.2.2.2.2.1 k0_t3
theorem k0_off362_inb : ∀ (v1_0 : BitVec 32) (k0_hw2 : k0_chk2 v1_0) (k0_t3 : Fin (k0_t3_loop v1_0).trips), ∀ a, (k0_off362 v1_0 k0_t3) a + S1x1x256.size a ≤ S3x11x3072.size a := fun v1_0 k0_hw2 k0_t3 => k0_hw2.2.2.2.2.2.2.2.2.2.2.1.2.2.2.2.2.2.2.2.2.2.2.2.2.2.2.2.2.2.2.2.1 k0_t3
theorem k0_off363_inb : ∀ (v1_0 : BitVec 32) (k0_hw2 : k0_chk2 v1_0) (k0_t3 : Fin (k0_t3_loop v1_0).trips), ∀ a, (k0_off363 v1_0 k0_t3) a + S1x64x256.size a ≤ S3x704x3072.size a := fun v1_0 k0_hw2 k0_t3 => k0_hw2.2.2.2.2.2.2.2.2.2.2.1.2.2.2.2.2.2.2.2.2.2.2.2.2.2.2.2.2.2.2.2.2.1 k0_t3
theorem k0_off364_inb : ∀ (v1_0 : BitVec 32) (k0_hw2 : k0_chk2 v1_0) (k0_t3 : Fin (k0_t3_loop v1_0).trips), ∀ a, (k0_off364 v1_0 k0_t3) a + S1x1x256.size a ≤ S3x11x3072.size a := fun v1_0 k0_hw2 k0_t3 => k0_hw2.2.2.2.2.2.2.2.2.2.2.1.2.2.2.2.2.2.2.2.2.2.2.2.2.2.2.2.2.2.2.2.2.2.1 k0_t3
theorem k0_off365_inb : ∀ (v1_0 : BitVec 32) (k0_hw2 : k0_chk2 v1_0) (k0_t3 : Fin (k0_t3_loop v1_0).trips), ∀ a, (k0_off365 v1_0 k0_t3) a + S1x64x256.size a ≤ S3x704x3072.size a := fun v1_0 k0_hw2 k0_t3 => k0_hw2.2.2.2.2.2.2.2.2.2.2.1.2.2.2.2.2.2.2.2.2.2.2.2.2.2.2.2.2.2.2.2.2.2.2.1 k0_t3
theorem k0_off366_inb : ∀ (v1_0 : BitVec 32) (k0_hw2 : k0_chk2 v1_0) (k0_t3 : Fin (k0_t3_loop v1_0).trips), ∀ a, (k0_off366 v1_0 k0_t3) a + S1x1x256.size a ≤ S3x11x3072.size a := fun v1_0 k0_hw2 k0_t3 => k0_hw2.2.2.2.2.2.2.2.2.2.2.1.2.2.2.2.2.2.2.2.2.2.2.2.2.2.2.2.2.2.2.2.2.2.2.2.1 k0_t3
theorem k0_off367_inb : ∀ (v1_0 : BitVec 32) (k0_hw2 : k0_chk2 v1_0) (k0_t3 : Fin (k0_t3_loop v1_0).trips), ∀ a, (k0_off367 v1_0 k0_t3) a + S1x64x256.size a ≤ S3x704x3072.size a := fun v1_0 k0_hw2 k0_t3 => k0_hw2.2.2.2.2.2.2.2.2.2.2.1.2.2.2.2.2.2.2.2.2.2.2.2.2.2.2.2.2.2.2.2.2.2.2.2.2.1 k0_t3
theorem k0_off368_inb : ∀ (v1_0 : BitVec 32) (k0_hw2 : k0_chk2 v1_0) (k0_t3 : Fin (k0_t3_loop v1_0).trips), ∀ a, (k0_off368 v1_0 k0_t3) a + S1x1x256.size a ≤ S3x11x3072.size a := fun v1_0 k0_hw2 k0_t3 => k0_hw2.2.2.2.2.2.2.2.2.2.2.1.2.2.2.2.2.2.2.2.2.2.2.2.2.2.2.2.2.2.2.2.2.2.2.2.2.2.1 k0_t3
theorem k0_off369_inb : ∀ (v1_0 : BitVec 32) (k0_hw2 : k0_chk2 v1_0) (k0_t3 : Fin (k0_t3_loop v1_0).trips), ∀ a, (k0_off369 v1_0 k0_t3) a + S1x64x256.size a ≤ S3x704x3072.size a := fun v1_0 k0_hw2 k0_t3 => k0_hw2.2.2.2.2.2.2.2.2.2.2.1.2.2.2.2.2.2.2.2.2.2.2.2.2.2.2.2.2.2.2.2.2.2.2.2.2.2.2.1 k0_t3
theorem k0_off370_inb : ∀ (v1_0 : BitVec 32) (k0_hw2 : k0_chk2 v1_0) (k0_t3 : Fin (k0_t3_loop v1_0).trips), ∀ a, (k0_off370 v1_0 k0_t3) a + S1x1x256.size a ≤ S3x11x3072.size a := fun v1_0 k0_hw2 k0_t3 => k0_hw2.2.2.2.2.2.2.2.2.2.2.1.2.2.2.2.2.2.2.2.2.2.2.2.2.2.2.2.2.2.2.2.2.2.2.2.2.2.2.2.1 k0_t3
theorem k0_off371_inb : ∀ (v1_0 : BitVec 32) (k0_hw2 : k0_chk2 v1_0) (k0_t3 : Fin (k0_t3_loop v1_0).trips), ∀ a, (k0_off371 v1_0 k0_t3) a + S1x64x256.size a ≤ S3x704x3072.size a := fun v1_0 k0_hw2 k0_t3 => k0_hw2.2.2.2.2.2.2.2.2.2.2.1.2.2.2.2.2.2.2.2.2.2.2.2.2.2.2.2.2.2.2.2.2.2.2.2.2.2.2.2.2.1 k0_t3
theorem k0_off372_inb : ∀ (v1_0 : BitVec 32) (k0_hw2 : k0_chk2 v1_0) (k0_t3 : Fin (k0_t3_loop v1_0).trips), ∀ a, (k0_off372 v1_0 k0_t3) a + S1x1x256.size a ≤ S3x11x3072.size a := fun v1_0 k0_hw2 k0_t3 => k0_hw2.2.2.2.2.2.2.2.2.2.2.1.2.2.2.2.2.2.2.2.2.2.2.2.2.2.2.2.2.2.2.2.2.2.2.2.2.2.2.2.2.2.1 k0_t3
theorem k0_off373_inb : ∀ (v1_0 : BitVec 32) (k0_hw2 : k0_chk2 v1_0) (k0_t3 : Fin (k0_t3_loop v1_0).trips), ∀ a, (k0_off373 v1_0 k0_t3) a + S1x64x256.size a ≤ S3x704x3072.size a := fun v1_0 k0_hw2 k0_t3 => k0_hw2.2.2.2.2.2.2.2.2.2.2.1.2.2.2.2.2.2.2.2.2.2.2.2.2.2.2.2.2.2.2.2.2.2.2.2.2.2.2.2.2.2.2 k0_t3
theorem k0_off374_inb : ∀ (v1_0 : BitVec 32) (k0_hw2 : k0_chk2 v1_0) (k0_t3 : Fin (k0_t3_loop v1_0).trips), ∀ a, (k0_off374 v1_0 k0_t3) a + S1x1x256.size a ≤ S3x11x3072.size a := fun v1_0 k0_hw2 k0_t3 => k0_hw2.2.2.2.2.2.2.2.2.2.2.2.1.1 k0_t3
theorem k0_off375_inb : ∀ (v1_0 : BitVec 32) (k0_hw2 : k0_chk2 v1_0) (k0_t3 : Fin (k0_t3_loop v1_0).trips), ∀ a, (k0_off375 v1_0 k0_t3) a + S1x64x256.size a ≤ S3x704x3072.size a := fun v1_0 k0_hw2 k0_t3 => k0_hw2.2.2.2.2.2.2.2.2.2.2.2.1.2.1 k0_t3
theorem k0_off376_inb : ∀ (v1_0 : BitVec 32) (k0_hw2 : k0_chk2 v1_0) (k0_t3 : Fin (k0_t3_loop v1_0).trips), ∀ a, (k0_off376 v1_0 k0_t3) a + S1x1x256.size a ≤ S3x11x3072.size a := fun v1_0 k0_hw2 k0_t3 => k0_hw2.2.2.2.2.2.2.2.2.2.2.2.1.2.2.1 k0_t3
theorem k0_off377_inb : ∀ (v1_0 : BitVec 32) (k0_hw2 : k0_chk2 v1_0) (k0_t3 : Fin (k0_t3_loop v1_0).trips), ∀ a, (k0_off377 v1_0 k0_t3) a + S1x64x256.size a ≤ S3x704x3072.size a := fun v1_0 k0_hw2 k0_t3 => k0_hw2.2.2.2.2.2.2.2.2.2.2.2.1.2.2.2.1 k0_t3
theorem k0_off378_inb : ∀ (v1_0 : BitVec 32) (k0_hw2 : k0_chk2 v1_0) (k0_t3 : Fin (k0_t3_loop v1_0).trips), ∀ a, (k0_off378 v1_0 k0_t3) a + S1x1x256.size a ≤ S3x11x3072.size a := fun v1_0 k0_hw2 k0_t3 => k0_hw2.2.2.2.2.2.2.2.2.2.2.2.1.2.2.2.2.1 k0_t3
theorem k0_off379_inb : ∀ (v1_0 : BitVec 32) (k0_hw2 : k0_chk2 v1_0) (k0_t3 : Fin (k0_t3_loop v1_0).trips), ∀ a, (k0_off379 v1_0 k0_t3) a + S1x64x256.size a ≤ S3x704x3072.size a := fun v1_0 k0_hw2 k0_t3 => k0_hw2.2.2.2.2.2.2.2.2.2.2.2.1.2.2.2.2.2.1 k0_t3
theorem k0_off380_inb : ∀ (v1_0 : BitVec 32) (k0_hw2 : k0_chk2 v1_0) (k0_t3 : Fin (k0_t3_loop v1_0).trips), ∀ a, (k0_off380 v1_0 k0_t3) a + S1x1x256.size a ≤ S3x11x3072.size a := fun v1_0 k0_hw2 k0_t3 => k0_hw2.2.2.2.2.2.2.2.2.2.2.2.1.2.2.2.2.2.2.1 k0_t3
theorem k0_off381_inb : ∀ (v1_0 : BitVec 32) (k0_hw2 : k0_chk2 v1_0) (k0_t3 : Fin (k0_t3_loop v1_0).trips), ∀ a, (k0_off381 v1_0 k0_t3) a + S1x64x256.size a ≤ S3x704x3072.size a := fun v1_0 k0_hw2 k0_t3 => k0_hw2.2.2.2.2.2.2.2.2.2.2.2.1.2.2.2.2.2.2.2.1 k0_t3
theorem k0_off382_inb : ∀ (v1_0 : BitVec 32) (k0_hw2 : k0_chk2 v1_0) (k0_t3 : Fin (k0_t3_loop v1_0).trips), ∀ a, (k0_off382 v1_0 k0_t3) a + S1x1x256.size a ≤ S3x11x3072.size a := fun v1_0 k0_hw2 k0_t3 => k0_hw2.2.2.2.2.2.2.2.2.2.2.2.1.2.2.2.2.2.2.2.2.1 k0_t3
theorem k0_off383_inb : ∀ (v1_0 : BitVec 32) (k0_hw2 : k0_chk2 v1_0) (k0_t3 : Fin (k0_t3_loop v1_0).trips), ∀ a, (k0_off383 v1_0 k0_t3) a + S1x64x256.size a ≤ S3x704x3072.size a := fun v1_0 k0_hw2 k0_t3 => k0_hw2.2.2.2.2.2.2.2.2.2.2.2.1.2.2.2.2.2.2.2.2.2.1 k0_t3
theorem k0_off384_inb : ∀ (v1_0 : BitVec 32) (k0_hw2 : k0_chk2 v1_0) (k0_t3 : Fin (k0_t3_loop v1_0).trips), ∀ a, (k0_off384 v1_0 k0_t3) a + S1x1x256.size a ≤ S3x11x3072.size a := fun v1_0 k0_hw2 k0_t3 => k0_hw2.2.2.2.2.2.2.2.2.2.2.2.1.2.2.2.2.2.2.2.2.2.2.1 k0_t3
theorem k0_off385_inb : ∀ (v1_0 : BitVec 32) (k0_hw2 : k0_chk2 v1_0) (k0_t3 : Fin (k0_t3_loop v1_0).trips), ∀ a, (k0_off385 v1_0 k0_t3) a + S1x64x256.size a ≤ S3x704x3072.size a := fun v1_0 k0_hw2 k0_t3 => k0_hw2.2.2.2.2.2.2.2.2.2.2.2.1.2.2.2.2.2.2.2.2.2.2.2.1 k0_t3
theorem k0_off386_inb : ∀ (v1_0 : BitVec 32) (k0_hw2 : k0_chk2 v1_0) (k0_t3 : Fin (k0_t3_loop v1_0).trips), ∀ a, (k0_off386 v1_0 k0_t3) a + S1x1x256.size a ≤ S3x11x3072.size a := fun v1_0 k0_hw2 k0_t3 => k0_hw2.2.2.2.2.2.2.2.2.2.2.2.1.2.2.2.2.2.2.2.2.2.2.2.2.1 k0_t3
theorem k0_off387_inb : ∀ (v1_0 : BitVec 32) (k0_hw2 : k0_chk2 v1_0) (k0_t3 : Fin (k0_t3_loop v1_0).trips), ∀ a, (k0_off387 v1_0 k0_t3) a + S1x64x256.size a ≤ S3x704x3072.size a := fun v1_0 k0_hw2 k0_t3 => k0_hw2.2.2.2.2.2.2.2.2.2.2.2.1.2.2.2.2.2.2.2.2.2.2.2.2.2.1 k0_t3
theorem k0_off388_inb : ∀ (v1_0 : BitVec 32) (k0_hw2 : k0_chk2 v1_0) (k0_t3 : Fin (k0_t3_loop v1_0).trips), ∀ a, (k0_off388 v1_0 k0_t3) a + S1x1x256.size a ≤ S3x11x3072.size a := fun v1_0 k0_hw2 k0_t3 => k0_hw2.2.2.2.2.2.2.2.2.2.2.2.1.2.2.2.2.2.2.2.2.2.2.2.2.2.2.1 k0_t3
theorem k0_off389_inb : ∀ (v1_0 : BitVec 32) (k0_hw2 : k0_chk2 v1_0) (k0_t3 : Fin (k0_t3_loop v1_0).trips), ∀ a, (k0_off389 v1_0 k0_t3) a + S1x64x256.size a ≤ S3x704x3072.size a := fun v1_0 k0_hw2 k0_t3 => k0_hw2.2.2.2.2.2.2.2.2.2.2.2.1.2.2.2.2.2.2.2.2.2.2.2.2.2.2.2.1 k0_t3
theorem k0_off390_inb : ∀ (v1_0 : BitVec 32) (k0_hw2 : k0_chk2 v1_0) (k0_t3 : Fin (k0_t3_loop v1_0).trips), ∀ a, (k0_off390 v1_0 k0_t3) a + S1x1x256.size a ≤ S3x11x3072.size a := fun v1_0 k0_hw2 k0_t3 => k0_hw2.2.2.2.2.2.2.2.2.2.2.2.1.2.2.2.2.2.2.2.2.2.2.2.2.2.2.2.2.1 k0_t3
theorem k0_off391_inb : ∀ (v1_0 : BitVec 32) (k0_hw2 : k0_chk2 v1_0) (k0_t3 : Fin (k0_t3_loop v1_0).trips), ∀ a, (k0_off391 v1_0 k0_t3) a + S1x64x256.size a ≤ S3x704x3072.size a := fun v1_0 k0_hw2 k0_t3 => k0_hw2.2.2.2.2.2.2.2.2.2.2.2.1.2.2.2.2.2.2.2.2.2.2.2.2.2.2.2.2.2.1 k0_t3
theorem k0_off392_inb : ∀ (v1_0 : BitVec 32) (k0_hw2 : k0_chk2 v1_0) (k0_t3 : Fin (k0_t3_loop v1_0).trips), ∀ a, (k0_off392 v1_0 k0_t3) a + S1x1x256.size a ≤ S3x11x3072.size a := fun v1_0 k0_hw2 k0_t3 => k0_hw2.2.2.2.2.2.2.2.2.2.2.2.1.2.2.2.2.2.2.2.2.2.2.2.2.2.2.2.2.2.2.1 k0_t3
theorem k0_off393_inb : ∀ (v1_0 : BitVec 32) (k0_hw2 : k0_chk2 v1_0) (k0_t3 : Fin (k0_t3_loop v1_0).trips), ∀ a, (k0_off393 v1_0 k0_t3) a + S1x64x256.size a ≤ S3x704x3072.size a := fun v1_0 k0_hw2 k0_t3 => k0_hw2.2.2.2.2.2.2.2.2.2.2.2.1.2.2.2.2.2.2.2.2.2.2.2.2.2.2.2.2.2.2.2.1 k0_t3
theorem k0_off394_inb : ∀ (v1_0 : BitVec 32) (k0_hw2 : k0_chk2 v1_0) (k0_t3 : Fin (k0_t3_loop v1_0).trips), ∀ a, (k0_off394 v1_0 k0_t3) a + S1x1x256.size a ≤ S3x11x3072.size a := fun v1_0 k0_hw2 k0_t3 => k0_hw2.2.2.2.2.2.2.2.2.2.2.2.1.2.2.2.2.2.2.2.2.2.2.2.2.2.2.2.2.2.2.2.2.1 k0_t3
theorem k0_off395_inb : ∀ (v1_0 : BitVec 32) (k0_hw2 : k0_chk2 v1_0) (k0_t3 : Fin (k0_t3_loop v1_0).trips), ∀ a, (k0_off395 v1_0 k0_t3) a + S1x64x256.size a ≤ S3x704x3072.size a := fun v1_0 k0_hw2 k0_t3 => k0_hw2.2.2.2.2.2.2.2.2.2.2.2.1.2.2.2.2.2.2.2.2.2.2.2.2.2.2.2.2.2.2.2.2.2.1 k0_t3
theorem k0_off396_inb : ∀ (v1_0 : BitVec 32) (k0_hw2 : k0_chk2 v1_0) (k0_t3 : Fin (k0_t3_loop v1_0).trips), ∀ a, (k0_off396 v1_0 k0_t3) a + S1x1x256.size a ≤ S3x11x3072.size a := fun v1_0 k0_hw2 k0_t3 => k0_hw2.2.2.2.2.2.2.2.2.2.2.2.1.2.2.2.2.2.2.2.2.2.2.2.2.2.2.2.2.2.2.2.2.2.2.1 k0_t3
theorem k0_off397_inb : ∀ (v1_0 : BitVec 32) (k0_hw2 : k0_chk2 v1_0) (k0_t3 : Fin (k0_t3_loop v1_0).trips), ∀ a, (k0_off397 v1_0 k0_t3) a + S1x64x256.size a ≤ S3x704x3072.size a := fun v1_0 k0_hw2 k0_t3 => k0_hw2.2.2.2.2.2.2.2.2.2.2.2.1.2.2.2.2.2.2.2.2.2.2.2.2.2.2.2.2.2.2.2.2.2.2.2.1 k0_t3
theorem k0_off398_inb : ∀ (v1_0 : BitVec 32) (k0_hw2 : k0_chk2 v1_0) (k0_t3 : Fin (k0_t3_loop v1_0).trips), ∀ a, (k0_off398 v1_0 k0_t3) a + S1x1x256.size a ≤ S3x11x3072.size a := fun v1_0 k0_hw2 k0_t3 => k0_hw2.2.2.2.2.2.2.2.2.2.2.2.1.2.2.2.2.2.2.2.2.2.2.2.2.2.2.2.2.2.2.2.2.2.2.2.2.1 k0_t3
theorem k0_off399_inb : ∀ (v1_0 : BitVec 32) (k0_hw2 : k0_chk2 v1_0) (k0_t3 : Fin (k0_t3_loop v1_0).trips), ∀ a, (k0_off399 v1_0 k0_t3) a + S1x64x256.size a ≤ S3x704x3072.size a := fun v1_0 k0_hw2 k0_t3 => k0_hw2.2.2.2.2.2.2.2.2.2.2.2.1.2.2.2.2.2.2.2.2.2.2.2.2.2.2.2.2.2.2.2.2.2.2.2.2.2.1 k0_t3
theorem k0_off400_inb : ∀ (v1_0 : BitVec 32) (k0_hw2 : k0_chk2 v1_0) (k0_t3 : Fin (k0_t3_loop v1_0).trips), ∀ a, (k0_off400 v1_0 k0_t3) a + S1x1x256.size a ≤ S3x11x3072.size a := fun v1_0 k0_hw2 k0_t3 => k0_hw2.2.2.2.2.2.2.2.2.2.2.2.1.2.2.2.2.2.2.2.2.2.2.2.2.2.2.2.2.2.2.2.2.2.2.2.2.2.2.1 k0_t3
theorem k0_off401_inb : ∀ (v1_0 : BitVec 32) (k0_hw2 : k0_chk2 v1_0) (k0_t3 : Fin (k0_t3_loop v1_0).trips), ∀ a, (k0_off401 v1_0 k0_t3) a + S1x64x256.size a ≤ S3x704x3072.size a := fun v1_0 k0_hw2 k0_t3 => k0_hw2.2.2.2.2.2.2.2.2.2.2.2.1.2.2.2.2.2.2.2.2.2.2.2.2.2.2.2.2.2.2.2.2.2.2.2.2.2.2.2.1 k0_t3
theorem k0_off402_inb : ∀ (v1_0 : BitVec 32) (k0_hw2 : k0_chk2 v1_0) (k0_t3 : Fin (k0_t3_loop v1_0).trips), ∀ a, (k0_off402 v1_0 k0_t3) a + S1x1x256.size a ≤ S3x11x3072.size a := fun v1_0 k0_hw2 k0_t3 => k0_hw2.2.2.2.2.2.2.2.2.2.2.2.1.2.2.2.2.2.2.2.2.2.2.2.2.2.2.2.2.2.2.2.2.2.2.2.2.2.2.2.2.1 k0_t3
theorem k0_off403_inb : ∀ (v1_0 : BitVec 32) (k0_hw2 : k0_chk2 v1_0) (k0_t3 : Fin (k0_t3_loop v1_0).trips), ∀ a, (k0_off403 v1_0 k0_t3) a + S1x64x256.size a ≤ S3x704x3072.size a := fun v1_0 k0_hw2 k0_t3 => k0_hw2.2.2.2.2.2.2.2.2.2.2.2.1.2.2.2.2.2.2.2.2.2.2.2.2.2.2.2.2.2.2.2.2.2.2.2.2.2.2.2.2.2.1 k0_t3
theorem k0_off404_inb : ∀ (v1_0 : BitVec 32) (k0_hw2 : k0_chk2 v1_0) (k0_t3 : Fin (k0_t3_loop v1_0).trips), ∀ a, (k0_off404 v1_0 k0_t3) a + S1x1x256.size a ≤ S3x11x3072.size a := fun v1_0 k0_hw2 k0_t3 => k0_hw2.2.2.2.2.2.2.2.2.2.2.2.1.2.2.2.2.2.2.2.2.2.2.2.2.2.2.2.2.2.2.2.2.2.2.2.2.2.2.2.2.2.2.1 k0_t3
theorem k0_off405_inb : ∀ (v1_0 : BitVec 32) (k0_hw2 : k0_chk2 v1_0) (k0_t3 : Fin (k0_t3_loop v1_0).trips), ∀ a, (k0_off405 v1_0 k0_t3) a + S1x64x256.size a ≤ S3x704x3072.size a := fun v1_0 k0_hw2 k0_t3 => k0_hw2.2.2.2.2.2.2.2.2.2.2.2.1.2.2.2.2.2.2.2.2.2.2.2.2.2.2.2.2.2.2.2.2.2.2.2.2.2.2.2.2.2.2.2 k0_t3
theorem k0_off406_inb : ∀ (v1_0 : BitVec 32) (k0_hw2 : k0_chk2 v1_0) (k0_t3 : Fin (k0_t3_loop v1_0).trips), ∀ a, (k0_off406 v1_0 k0_t3) a + S1x1x256.size a ≤ S3x11x3072.size a := fun v1_0 k0_hw2 k0_t3 => k0_hw2.2.2.2.2.2.2.2.2.2.2.2.2.1.1 k0_t3
theorem k0_off407_inb : ∀ (v1_0 : BitVec 32) (k0_hw2 : k0_chk2 v1_0) (k0_t3 : Fin (k0_t3_loop v1_0).trips), ∀ a, (k0_off407 v1_0 k0_t3) a + S1x64x256.size a ≤ S3x704x3072.size a := fun v1_0 k0_hw2 k0_t3 => k0_hw2.2.2.2.2.2.2.2.2.2.2.2.2.1.2.1 k0_t3
theorem k0_off408_inb : ∀ (v1_0 : BitVec 32) (k0_hw2 : k0_chk2 v1_0) (k0_t3 : Fin (k0_t3_loop v1_0).trips), ∀ a, (k0_off408 v1_0 k0_t3) a + S1x1x256.size a ≤ S3x11x3072.size a := fun v1_0 k0_hw2 k0_t3 => k0_hw2.2.2.2.2.2.2.2.2.2.2.2.2.1.2.2.1 k0_t3
theorem k0_off409_inb : ∀ (v1_0 : BitVec 32) (k0_hw2 : k0_chk2 v1_0) (k0_t3 : Fin (k0_t3_loop v1_0).trips), ∀ a, (k0_off409 v1_0 k0_t3) a + S1x64x256.size a ≤ S3x704x3072.size a := fun v1_0 k0_hw2 k0_t3 => k0_hw2.2.2.2.2.2.2.2.2.2.2.2.2.1.2.2.2.1 k0_t3
theorem k0_off410_inb : ∀ (v1_0 : BitVec 32) (k0_hw2 : k0_chk2 v1_0) (k0_t3 : Fin (k0_t3_loop v1_0).trips), ∀ a, (k0_off410 v1_0 k0_t3) a + S1x1x256.size a ≤ S3x11x3072.size a := fun v1_0 k0_hw2 k0_t3 => k0_hw2.2.2.2.2.2.2.2.2.2.2.2.2.1.2.2.2.2.1 k0_t3
theorem k0_off411_inb : ∀ (v1_0 : BitVec 32) (k0_hw2 : k0_chk2 v1_0) (k0_t3 : Fin (k0_t3_loop v1_0).trips), ∀ a, (k0_off411 v1_0 k0_t3) a + S1x64x256.size a ≤ S3x704x3072.size a := fun v1_0 k0_hw2 k0_t3 => k0_hw2.2.2.2.2.2.2.2.2.2.2.2.2.1.2.2.2.2.2.1 k0_t3
theorem k0_off412_inb : ∀ (v1_0 : BitVec 32) (k0_hw2 : k0_chk2 v1_0) (k0_t3 : Fin (k0_t3_loop v1_0).trips), ∀ a, (k0_off412 v1_0 k0_t3) a + S1x1x256.size a ≤ S3x11x3072.size a := fun v1_0 k0_hw2 k0_t3 => k0_hw2.2.2.2.2.2.2.2.2.2.2.2.2.1.2.2.2.2.2.2.1 k0_t3
theorem k0_off413_inb : ∀ (v1_0 : BitVec 32) (k0_hw2 : k0_chk2 v1_0) (k0_t3 : Fin (k0_t3_loop v1_0).trips), ∀ a, (k0_off413 v1_0 k0_t3) a + S1x64x256.size a ≤ S3x704x3072.size a := fun v1_0 k0_hw2 k0_t3 => k0_hw2.2.2.2.2.2.2.2.2.2.2.2.2.1.2.2.2.2.2.2.2.1 k0_t3
theorem k0_off414_inb : ∀ (v1_0 : BitVec 32) (k0_hw2 : k0_chk2 v1_0) (k0_t3 : Fin (k0_t3_loop v1_0).trips), ∀ a, (k0_off414 v1_0 k0_t3) a + S1x1x256.size a ≤ S3x11x3072.size a := fun v1_0 k0_hw2 k0_t3 => k0_hw2.2.2.2.2.2.2.2.2.2.2.2.2.1.2.2.2.2.2.2.2.2.1 k0_t3
theorem k0_off415_inb : ∀ (v1_0 : BitVec 32) (k0_hw2 : k0_chk2 v1_0) (k0_t3 : Fin (k0_t3_loop v1_0).trips), ∀ a, (k0_off415 v1_0 k0_t3) a + S1x64x256.size a ≤ S3x704x3072.size a := fun v1_0 k0_hw2 k0_t3 => k0_hw2.2.2.2.2.2.2.2.2.2.2.2.2.1.2.2.2.2.2.2.2.2.2.1 k0_t3
theorem k0_off416_inb : ∀ (v1_0 : BitVec 32) (k0_hw2 : k0_chk2 v1_0) (k0_t3 : Fin (k0_t3_loop v1_0).trips), ∀ a, (k0_off416 v1_0 k0_t3) a + S1x1x256.size a ≤ S3x11x3072.size a := fun v1_0 k0_hw2 k0_t3 => k0_hw2.2.2.2.2.2.2.2.2.2.2.2.2.1.2.2.2.2.2.2.2.2.2.2.1 k0_t3
theorem k0_off417_inb : ∀ (v1_0 : BitVec 32) (k0_hw2 : k0_chk2 v1_0) (k0_t3 : Fin (k0_t3_loop v1_0).trips), ∀ a, (k0_off417 v1_0 k0_t3) a + S1x64x256.size a ≤ S3x704x3072.size a := fun v1_0 k0_hw2 k0_t3 => k0_hw2.2.2.2.2.2.2.2.2.2.2.2.2.1.2.2.2.2.2.2.2.2.2.2.2.1 k0_t3
theorem k0_off418_inb : ∀ (v1_0 : BitVec 32) (k0_hw2 : k0_chk2 v1_0) (k0_t3 : Fin (k0_t3_loop v1_0).trips), ∀ a, (k0_off418 v1_0 k0_t3) a + S1x1x256.size a ≤ S3x11x3072.size a := fun v1_0 k0_hw2 k0_t3 => k0_hw2.2.2.2.2.2.2.2.2.2.2.2.2.1.2.2.2.2.2.2.2.2.2.2.2.2.1 k0_t3
theorem k0_off419_inb : ∀ (v1_0 : BitVec 32) (k0_hw2 : k0_chk2 v1_0) (k0_t3 : Fin (k0_t3_loop v1_0).trips), ∀ a, (k0_off419 v1_0 k0_t3) a + S1x64x256.size a ≤ S3x704x3072.size a := fun v1_0 k0_hw2 k0_t3 => k0_hw2.2.2.2.2.2.2.2.2.2.2.2.2.1.2.2.2.2.2.2.2.2.2.2.2.2.2.1 k0_t3
theorem k0_off420_inb : ∀ (v1_0 : BitVec 32) (k0_hw2 : k0_chk2 v1_0) (k0_t3 : Fin (k0_t3_loop v1_0).trips), ∀ a, (k0_off420 v1_0 k0_t3) a + S1x1x256.size a ≤ S3x11x3072.size a := fun v1_0 k0_hw2 k0_t3 => k0_hw2.2.2.2.2.2.2.2.2.2.2.2.2.1.2.2.2.2.2.2.2.2.2.2.2.2.2.2.1 k0_t3
theorem k0_off421_inb : ∀ (v1_0 : BitVec 32) (k0_hw2 : k0_chk2 v1_0) (k0_t3 : Fin (k0_t3_loop v1_0).trips), ∀ a, (k0_off421 v1_0 k0_t3) a + S1x64x256.size a ≤ S3x704x3072.size a := fun v1_0 k0_hw2 k0_t3 => k0_hw2.2.2.2.2.2.2.2.2.2.2.2.2.1.2.2.2.2.2.2.2.2.2.2.2.2.2.2.2.1 k0_t3
theorem k0_off422_inb : ∀ (v1_0 : BitVec 32) (k0_hw2 : k0_chk2 v1_0) (k0_t3 : Fin (k0_t3_loop v1_0).trips), ∀ a, (k0_off422 v1_0 k0_t3) a + S1x1x256.size a ≤ S3x11x3072.size a := fun v1_0 k0_hw2 k0_t3 => k0_hw2.2.2.2.2.2.2.2.2.2.2.2.2.1.2.2.2.2.2.2.2.2.2.2.2.2.2.2.2.2.1 k0_t3
theorem k0_off423_inb : ∀ (v1_0 : BitVec 32) (k0_hw2 : k0_chk2 v1_0) (k0_t3 : Fin (k0_t3_loop v1_0).trips), ∀ a, (k0_off423 v1_0 k0_t3) a + S1x64x256.size a ≤ S3x704x3072.size a := fun v1_0 k0_hw2 k0_t3 => k0_hw2.2.2.2.2.2.2.2.2.2.2.2.2.1.2.2.2.2.2.2.2.2.2.2.2.2.2.2.2.2.2.1 k0_t3
theorem k0_off424_inb : ∀ (v1_0 : BitVec 32) (k0_hw2 : k0_chk2 v1_0) (k0_t3 : Fin (k0_t3_loop v1_0).trips), ∀ a, (k0_off424 v1_0 k0_t3) a + S1x1x256.size a ≤ S3x11x3072.size a := fun v1_0 k0_hw2 k0_t3 => k0_hw2.2.2.2.2.2.2.2.2.2.2.2.2.1.2.2.2.2.2.2.2.2.2.2.2.2.2.2.2.2.2.2.1 k0_t3
theorem k0_off425_inb : ∀ (v1_0 : BitVec 32) (k0_hw2 : k0_chk2 v1_0) (k0_t3 : Fin (k0_t3_loop v1_0).trips), ∀ a, (k0_off425 v1_0 k0_t3) a + S1x64x256.size a ≤ S3x704x3072.size a := fun v1_0 k0_hw2 k0_t3 => k0_hw2.2.2.2.2.2.2.2.2.2.2.2.2.1.2.2.2.2.2.2.2.2.2.2.2.2.2.2.2.2.2.2.2.1 k0_t3
theorem k0_off426_inb : ∀ (v1_0 : BitVec 32) (k0_hw2 : k0_chk2 v1_0) (k0_t3 : Fin (k0_t3_loop v1_0).trips), ∀ a, (k0_off426 v1_0 k0_t3) a + S1x1x256.size a ≤ S3x11x3072.size a := fun v1_0 k0_hw2 k0_t3 => k0_hw2.2.2.2.2.2.2.2.2.2.2.2.2.1.2.2.2.2.2.2.2.2.2.2.2.2.2.2.2.2.2.2.2.2.1 k0_t3
theorem k0_off427_inb : ∀ (v1_0 : BitVec 32) (k0_hw2 : k0_chk2 v1_0) (k0_t3 : Fin (k0_t3_loop v1_0).trips), ∀ a, (k0_off427 v1_0 k0_t3) a + S1x64x256.size a ≤ S3x704x3072.size a := fun v1_0 k0_hw2 k0_t3 => k0_hw2.2.2.2.2.2.2.2.2.2.2.2.2.1.2.2.2.2.2.2.2.2.2.2.2.2.2.2.2.2.2.2.2.2.2.1 k0_t3
theorem k0_off428_inb : ∀ (v1_0 : BitVec 32) (k0_hw2 : k0_chk2 v1_0) (k0_t3 : Fin (k0_t3_loop v1_0).trips), ∀ a, (k0_off428 v1_0 k0_t3) a + S1x1x256.size a ≤ S3x11x3072.size a := fun v1_0 k0_hw2 k0_t3 => k0_hw2.2.2.2.2.2.2.2.2.2.2.2.2.1.2.2.2.2.2.2.2.2.2.2.2.2.2.2.2.2.2.2.2.2.2.2.1 k0_t3
theorem k0_off429_inb : ∀ (v1_0 : BitVec 32) (k0_hw2 : k0_chk2 v1_0) (k0_t3 : Fin (k0_t3_loop v1_0).trips), ∀ a, (k0_off429 v1_0 k0_t3) a + S1x64x256.size a ≤ S3x704x3072.size a := fun v1_0 k0_hw2 k0_t3 => k0_hw2.2.2.2.2.2.2.2.2.2.2.2.2.1.2.2.2.2.2.2.2.2.2.2.2.2.2.2.2.2.2.2.2.2.2.2.2.1 k0_t3
theorem k0_off430_inb : ∀ (v1_0 : BitVec 32) (k0_hw2 : k0_chk2 v1_0) (k0_t3 : Fin (k0_t3_loop v1_0).trips), ∀ a, (k0_off430 v1_0 k0_t3) a + S1x1x256.size a ≤ S3x11x3072.size a := fun v1_0 k0_hw2 k0_t3 => k0_hw2.2.2.2.2.2.2.2.2.2.2.2.2.1.2.2.2.2.2.2.2.2.2.2.2.2.2.2.2.2.2.2.2.2.2.2.2.2.1 k0_t3
theorem k0_off431_inb : ∀ (v1_0 : BitVec 32) (k0_hw2 : k0_chk2 v1_0) (k0_t3 : Fin (k0_t3_loop v1_0).trips), ∀ a, (k0_off431 v1_0 k0_t3) a + S1x64x256.size a ≤ S3x704x3072.size a := fun v1_0 k0_hw2 k0_t3 => k0_hw2.2.2.2.2.2.2.2.2.2.2.2.2.1.2.2.2.2.2.2.2.2.2.2.2.2.2.2.2.2.2.2.2.2.2.2.2.2.2.1 k0_t3
theorem k0_off432_inb : ∀ (v1_0 : BitVec 32) (k0_hw2 : k0_chk2 v1_0) (k0_t3 : Fin (k0_t3_loop v1_0).trips), ∀ a, (k0_off432 v1_0 k0_t3) a + S1x1x256.size a ≤ S3x11x3072.size a := fun v1_0 k0_hw2 k0_t3 => k0_hw2.2.2.2.2.2.2.2.2.2.2.2.2.1.2.2.2.2.2.2.2.2.2.2.2.2.2.2.2.2.2.2.2.2.2.2.2.2.2.2.1 k0_t3
theorem k0_off433_inb : ∀ (v1_0 : BitVec 32) (k0_hw2 : k0_chk2 v1_0) (k0_t3 : Fin (k0_t3_loop v1_0).trips), ∀ a, (k0_off433 v1_0 k0_t3) a + S1x64x256.size a ≤ S3x704x3072.size a := fun v1_0 k0_hw2 k0_t3 => k0_hw2.2.2.2.2.2.2.2.2.2.2.2.2.1.2.2.2.2.2.2.2.2.2.2.2.2.2.2.2.2.2.2.2.2.2.2.2.2.2.2.2.1 k0_t3
theorem k0_off434_inb : ∀ (v1_0 : BitVec 32) (k0_hw2 : k0_chk2 v1_0) (k0_t3 : Fin (k0_t3_loop v1_0).trips), ∀ a, (k0_off434 v1_0 k0_t3) a + S1x1x256.size a ≤ S3x11x3072.size a := fun v1_0 k0_hw2 k0_t3 => k0_hw2.2.2.2.2.2.2.2.2.2.2.2.2.1.2.2.2.2.2.2.2.2.2.2.2.2.2.2.2.2.2.2.2.2.2.2.2.2.2.2.2.2.1 k0_t3
theorem k0_off435_inb : ∀ (v1_0 : BitVec 32) (k0_hw2 : k0_chk2 v1_0) (k0_t3 : Fin (k0_t3_loop v1_0).trips), ∀ a, (k0_off435 v1_0 k0_t3) a + S1x64x256.size a ≤ S3x704x3072.size a := fun v1_0 k0_hw2 k0_t3 => k0_hw2.2.2.2.2.2.2.2.2.2.2.2.2.1.2.2.2.2.2.2.2.2.2.2.2.2.2.2.2.2.2.2.2.2.2.2.2.2.2.2.2.2.2.1 k0_t3
theorem k0_off436_inb : ∀ (v1_0 : BitVec 32) (k0_hw2 : k0_chk2 v1_0) (k0_t3 : Fin (k0_t3_loop v1_0).trips), ∀ a, (k0_off436 v1_0 k0_t3) a + S1x1x256.size a ≤ S3x11x3072.size a := fun v1_0 k0_hw2 k0_t3 => k0_hw2.2.2.2.2.2.2.2.2.2.2.2.2.1.2.2.2.2.2.2.2.2.2.2.2.2.2.2.2.2.2.2.2.2.2.2.2.2.2.2.2.2.2.2.1 k0_t3
theorem k0_off437_inb : ∀ (v1_0 : BitVec 32) (k0_hw2 : k0_chk2 v1_0) (k0_t3 : Fin (k0_t3_loop v1_0).trips), ∀ a, (k0_off437 v1_0 k0_t3) a + S1x64x256.size a ≤ S3x704x3072.size a := fun v1_0 k0_hw2 k0_t3 => k0_hw2.2.2.2.2.2.2.2.2.2.2.2.2.1.2.2.2.2.2.2.2.2.2.2.2.2.2.2.2.2.2.2.2.2.2.2.2.2.2.2.2.2.2.2.2 k0_t3
theorem k0_off438_inb : ∀ (v1_0 : BitVec 32) (k0_hw2 : k0_chk2 v1_0) (k0_t3 : Fin (k0_t3_loop v1_0).trips), ∀ a, (k0_off438 v1_0 k0_t3) a + S1x1x256.size a ≤ S3x11x3072.size a := fun v1_0 k0_hw2 k0_t3 => k0_hw2.2.2.2.2.2.2.2.2.2.2.2.2.2.1.1 k0_t3
theorem k0_off439_inb : ∀ (v1_0 : BitVec 32) (k0_hw2 : k0_chk2 v1_0) (k0_t3 : Fin (k0_t3_loop v1_0).trips), ∀ a, (k0_off439 v1_0 k0_t3) a + S1x64x256.size a ≤ S3x704x3072.size a := fun v1_0 k0_hw2 k0_t3 => k0_hw2.2.2.2.2.2.2.2.2.2.2.2.2.2.1.2.1 k0_t3
theorem k0_off440_inb : ∀ (v1_0 : BitVec 32) (k0_hw2 : k0_chk2 v1_0) (k0_t3 : Fin (k0_t3_loop v1_0).trips), ∀ a, (k0_off440 v1_0 k0_t3) a + S1x1x256.size a ≤ S3x11x3072.size a := fun v1_0 k0_hw2 k0_t3 => k0_hw2.2.2.2.2.2.2.2.2.2.2.2.2.2.1.2.2.1 k0_t3
theorem k0_off441_inb : ∀ (v1_0 : BitVec 32) (k0_hw2 : k0_chk2 v1_0) (k0_t3 : Fin (k0_t3_loop v1_0).trips), ∀ a, (k0_off441 v1_0 k0_t3) a + S1x64x256.size a ≤ S3x704x3072.size a := fun v1_0 k0_hw2 k0_t3 => k0_hw2.2.2.2.2.2.2.2.2.2.2.2.2.2.1.2.2.2.1 k0_t3
theorem k0_off442_inb : ∀ (v1_0 : BitVec 32) (k0_hw2 : k0_chk2 v1_0) (k0_t3 : Fin (k0_t3_loop v1_0).trips), ∀ a, (k0_off442 v1_0 k0_t3) a + S1x1x256.size a ≤ S3x11x3072.size a := fun v1_0 k0_hw2 k0_t3 => k0_hw2.2.2.2.2.2.2.2.2.2.2.2.2.2.1.2.2.2.2.1 k0_t3
theorem k0_off443_inb : ∀ (v1_0 : BitVec 32) (k0_hw2 : k0_chk2 v1_0) (k0_t3 : Fin (k0_t3_loop v1_0).trips), ∀ a, (k0_off443 v1_0 k0_t3) a + S1x64x256.size a ≤ S3x704x3072.size a := fun v1_0 k0_hw2 k0_t3 => k0_hw2.2.2.2.2.2.2.2.2.2.2.2.2.2.1.2.2.2.2.2.1 k0_t3
theorem k0_off444_inb : ∀ (v1_0 : BitVec 32) (k0_hw2 : k0_chk2 v1_0) (k0_t3 : Fin (k0_t3_loop v1_0).trips), ∀ a, (k0_off444 v1_0 k0_t3) a + S1x1x256.size a ≤ S3x11x3072.size a := fun v1_0 k0_hw2 k0_t3 => k0_hw2.2.2.2.2.2.2.2.2.2.2.2.2.2.1.2.2.2.2.2.2.1 k0_t3
theorem k0_off445_inb : ∀ (v1_0 : BitVec 32) (k0_hw2 : k0_chk2 v1_0) (k0_t3 : Fin (k0_t3_loop v1_0).trips), ∀ a, (k0_off445 v1_0 k0_t3) a + S1x64x256.size a ≤ S3x704x3072.size a := fun v1_0 k0_hw2 k0_t3 => k0_hw2.2.2.2.2.2.2.2.2.2.2.2.2.2.1.2.2.2.2.2.2.2.1 k0_t3
theorem k0_off446_inb : ∀ (v1_0 : BitVec 32) (k0_hw2 : k0_chk2 v1_0) (k0_t3 : Fin (k0_t3_loop v1_0).trips), ∀ a, (k0_off446 v1_0 k0_t3) a + S1x1x256.size a ≤ S3x11x3072.size a := fun v1_0 k0_hw2 k0_t3 => k0_hw2.2.2.2.2.2.2.2.2.2.2.2.2.2.1.2.2.2.2.2.2.2.2.1 k0_t3
theorem k0_off447_inb : ∀ (v1_0 : BitVec 32) (k0_hw2 : k0_chk2 v1_0) (k0_t3 : Fin (k0_t3_loop v1_0).trips), ∀ a, (k0_off447 v1_0 k0_t3) a + S1x64x256.size a ≤ S3x704x3072.size a := fun v1_0 k0_hw2 k0_t3 => k0_hw2.2.2.2.2.2.2.2.2.2.2.2.2.2.1.2.2.2.2.2.2.2.2.2.1 k0_t3
theorem k0_off448_inb : ∀ (v1_0 : BitVec 32) (k0_hw2 : k0_chk2 v1_0) (k0_t3 : Fin (k0_t3_loop v1_0).trips), ∀ a, (k0_off448 v1_0 k0_t3) a + S1x1x256.size a ≤ S3x11x3072.size a := fun v1_0 k0_hw2 k0_t3 => k0_hw2.2.2.2.2.2.2.2.2.2.2.2.2.2.1.2.2.2.2.2.2.2.2.2.2.1 k0_t3
theorem k0_off449_inb : ∀ (v1_0 : BitVec 32) (k0_hw2 : k0_chk2 v1_0) (k0_t3 : Fin (k0_t3_loop v1_0).trips), ∀ a, (k0_off449 v1_0 k0_t3) a + S1x64x256.size a ≤ S3x704x3072.size a := fun v1_0 k0_hw2 k0_t3 => k0_hw2.2.2.2.2.2.2.2.2.2.2.2.2.2.1.2.2.2.2.2.2.2.2.2.2.2.1 k0_t3
theorem k0_off450_inb : ∀ (v1_0 : BitVec 32) (k0_hw2 : k0_chk2 v1_0) (k0_t3 : Fin (k0_t3_loop v1_0).trips), ∀ a, (k0_off450 v1_0 k0_t3) a + S1x1x256.size a ≤ S3x11x3072.size a := fun v1_0 k0_hw2 k0_t3 => k0_hw2.2.2.2.2.2.2.2.2.2.2.2.2.2.1.2.2.2.2.2.2.2.2.2.2.2.2.1 k0_t3
theorem k0_off451_inb : ∀ (v1_0 : BitVec 32) (k0_hw2 : k0_chk2 v1_0) (k0_t3 : Fin (k0_t3_loop v1_0).trips), ∀ a, (k0_off451 v1_0 k0_t3) a + S1x64x256.size a ≤ S3x704x3072.size a := fun v1_0 k0_hw2 k0_t3 => k0_hw2.2.2.2.2.2.2.2.2.2.2.2.2.2.1.2.2.2.2.2.2.2.2.2.2.2.2.2.1 k0_t3
theorem k0_off452_inb : ∀ (v1_0 : BitVec 32) (k0_hw2 : k0_chk2 v1_0) (k0_t3 : Fin (k0_t3_loop v1_0).trips), ∀ a, (k0_off452 v1_0 k0_t3) a + S1x1x256.size a ≤ S3x11x3072.size a := fun v1_0 k0_hw2 k0_t3 => k0_hw2.2.2.2.2.2.2.2.2.2.2.2.2.2.1.2.2.2.2.2.2.2.2.2.2.2.2.2.2.1 k0_t3
theorem k0_off453_inb : ∀ (v1_0 : BitVec 32) (k0_hw2 : k0_chk2 v1_0) (k0_t3 : Fin (k0_t3_loop v1_0).trips), ∀ a, (k0_off453 v1_0 k0_t3) a + S1x64x256.size a ≤ S3x704x3072.size a := fun v1_0 k0_hw2 k0_t3 => k0_hw2.2.2.2.2.2.2.2.2.2.2.2.2.2.1.2.2.2.2.2.2.2.2.2.2.2.2.2.2.2.1 k0_t3
theorem k0_off454_inb : ∀ (v1_0 : BitVec 32) (k0_hw2 : k0_chk2 v1_0) (k0_t3 : Fin (k0_t3_loop v1_0).trips), ∀ a, (k0_off454 v1_0 k0_t3) a + S1x1x256.size a ≤ S3x11x3072.size a := fun v1_0 k0_hw2 k0_t3 => k0_hw2.2.2.2.2.2.2.2.2.2.2.2.2.2.1.2.2.2.2.2.2.2.2.2.2.2.2.2.2.2.2.1 k0_t3
theorem k0_off455_inb : ∀ (v1_0 : BitVec 32) (k0_hw2 : k0_chk2 v1_0) (k0_t3 : Fin (k0_t3_loop v1_0).trips), ∀ a, (k0_off455 v1_0 k0_t3) a + S1x64x256.size a ≤ S3x704x3072.size a := fun v1_0 k0_hw2 k0_t3 => k0_hw2.2.2.2.2.2.2.2.2.2.2.2.2.2.1.2.2.2.2.2.2.2.2.2.2.2.2.2.2.2.2.2.1 k0_t3
theorem k0_off456_inb : ∀ (v1_0 : BitVec 32) (k0_hw2 : k0_chk2 v1_0) (k0_t3 : Fin (k0_t3_loop v1_0).trips), ∀ a, (k0_off456 v1_0 k0_t3) a + S1x1x256.size a ≤ S3x11x3072.size a := fun v1_0 k0_hw2 k0_t3 => k0_hw2.2.2.2.2.2.2.2.2.2.2.2.2.2.1.2.2.2.2.2.2.2.2.2.2.2.2.2.2.2.2.2.2.1 k0_t3
theorem k0_off457_inb : ∀ (v1_0 : BitVec 32) (k0_hw2 : k0_chk2 v1_0) (k0_t3 : Fin (k0_t3_loop v1_0).trips), ∀ a, (k0_off457 v1_0 k0_t3) a + S1x64x256.size a ≤ S3x704x3072.size a := fun v1_0 k0_hw2 k0_t3 => k0_hw2.2.2.2.2.2.2.2.2.2.2.2.2.2.1.2.2.2.2.2.2.2.2.2.2.2.2.2.2.2.2.2.2.2.1 k0_t3
theorem k0_off458_inb : ∀ (v1_0 : BitVec 32) (k0_hw2 : k0_chk2 v1_0) (k0_t3 : Fin (k0_t3_loop v1_0).trips), ∀ a, (k0_off458 v1_0 k0_t3) a + S1x1x256.size a ≤ S3x11x3072.size a := fun v1_0 k0_hw2 k0_t3 => k0_hw2.2.2.2.2.2.2.2.2.2.2.2.2.2.1.2.2.2.2.2.2.2.2.2.2.2.2.2.2.2.2.2.2.2.2.1 k0_t3
theorem k0_off459_inb : ∀ (v1_0 : BitVec 32) (k0_hw2 : k0_chk2 v1_0) (k0_t3 : Fin (k0_t3_loop v1_0).trips), ∀ a, (k0_off459 v1_0 k0_t3) a + S1x64x256.size a ≤ S3x704x3072.size a := fun v1_0 k0_hw2 k0_t3 => k0_hw2.2.2.2.2.2.2.2.2.2.2.2.2.2.1.2.2.2.2.2.2.2.2.2.2.2.2.2.2.2.2.2.2.2.2.2.1 k0_t3
theorem k0_off460_inb : ∀ (v1_0 : BitVec 32) (k0_hw2 : k0_chk2 v1_0) (k0_t3 : Fin (k0_t3_loop v1_0).trips), ∀ a, (k0_off460 v1_0 k0_t3) a + S1x1x256.size a ≤ S3x11x3072.size a := fun v1_0 k0_hw2 k0_t3 => k0_hw2.2.2.2.2.2.2.2.2.2.2.2.2.2.1.2.2.2.2.2.2.2.2.2.2.2.2.2.2.2.2.2.2.2.2.2.2.1 k0_t3
theorem k0_off461_inb : ∀ (v1_0 : BitVec 32) (k0_hw2 : k0_chk2 v1_0) (k0_t3 : Fin (k0_t3_loop v1_0).trips), ∀ a, (k0_off461 v1_0 k0_t3) a + S1x64x256.size a ≤ S3x704x3072.size a := fun v1_0 k0_hw2 k0_t3 => k0_hw2.2.2.2.2.2.2.2.2.2.2.2.2.2.1.2.2.2.2.2.2.2.2.2.2.2.2.2.2.2.2.2.2.2.2.2.2.2.1 k0_t3
theorem k0_off462_inb : ∀ (v1_0 : BitVec 32) (k0_hw2 : k0_chk2 v1_0) (k0_t3 : Fin (k0_t3_loop v1_0).trips), ∀ a, (k0_off462 v1_0 k0_t3) a + S1x1x256.size a ≤ S3x11x3072.size a := fun v1_0 k0_hw2 k0_t3 => k0_hw2.2.2.2.2.2.2.2.2.2.2.2.2.2.1.2.2.2.2.2.2.2.2.2.2.2.2.2.2.2.2.2.2.2.2.2.2.2.2.1 k0_t3
theorem k0_off463_inb : ∀ (v1_0 : BitVec 32) (k0_hw2 : k0_chk2 v1_0) (k0_t3 : Fin (k0_t3_loop v1_0).trips), ∀ a, (k0_off463 v1_0 k0_t3) a + S1x64x256.size a ≤ S3x704x3072.size a := fun v1_0 k0_hw2 k0_t3 => k0_hw2.2.2.2.2.2.2.2.2.2.2.2.2.2.1.2.2.2.2.2.2.2.2.2.2.2.2.2.2.2.2.2.2.2.2.2.2.2.2.2.1 k0_t3
theorem k0_off464_inb : ∀ (v1_0 : BitVec 32) (k0_hw2 : k0_chk2 v1_0) (k0_t3 : Fin (k0_t3_loop v1_0).trips), ∀ a, (k0_off464 v1_0 k0_t3) a + S1x1x256.size a ≤ S3x11x3072.size a := fun v1_0 k0_hw2 k0_t3 => k0_hw2.2.2.2.2.2.2.2.2.2.2.2.2.2.1.2.2.2.2.2.2.2.2.2.2.2.2.2.2.2.2.2.2.2.2.2.2.2.2.2.2.1 k0_t3
theorem k0_off465_inb : ∀ (v1_0 : BitVec 32) (k0_hw2 : k0_chk2 v1_0) (k0_t3 : Fin (k0_t3_loop v1_0).trips), ∀ a, (k0_off465 v1_0 k0_t3) a + S1x64x256.size a ≤ S3x704x3072.size a := fun v1_0 k0_hw2 k0_t3 => k0_hw2.2.2.2.2.2.2.2.2.2.2.2.2.2.1.2.2.2.2.2.2.2.2.2.2.2.2.2.2.2.2.2.2.2.2.2.2.2.2.2.2.2.1 k0_t3
theorem k0_off466_inb : ∀ (v1_0 : BitVec 32) (k0_hw2 : k0_chk2 v1_0) (k0_t3 : Fin (k0_t3_loop v1_0).trips), ∀ a, (k0_off466 v1_0 k0_t3) a + S1x1x256.size a ≤ S3x11x3072.size a := fun v1_0 k0_hw2 k0_t3 => k0_hw2.2.2.2.2.2.2.2.2.2.2.2.2.2.1.2.2.2.2.2.2.2.2.2.2.2.2.2.2.2.2.2.2.2.2.2.2.2.2.2.2.2.2.1 k0_t3
theorem k0_off467_inb : ∀ (v1_0 : BitVec 32) (k0_hw2 : k0_chk2 v1_0) (k0_t3 : Fin (k0_t3_loop v1_0).trips), ∀ a, (k0_off467 v1_0 k0_t3) a + S1x64x256.size a ≤ S3x704x3072.size a := fun v1_0 k0_hw2 k0_t3 => k0_hw2.2.2.2.2.2.2.2.2.2.2.2.2.2.1.2.2.2.2.2.2.2.2.2.2.2.2.2.2.2.2.2.2.2.2.2.2.2.2.2.2.2.2.2.1 k0_t3
theorem k0_off468_inb : ∀ (v1_0 : BitVec 32) (k0_hw2 : k0_chk2 v1_0) (k0_t3 : Fin (k0_t3_loop v1_0).trips), ∀ a, (k0_off468 v1_0 k0_t3) a + S1x1x256.size a ≤ S3x11x3072.size a := fun v1_0 k0_hw2 k0_t3 => k0_hw2.2.2.2.2.2.2.2.2.2.2.2.2.2.1.2.2.2.2.2.2.2.2.2.2.2.2.2.2.2.2.2.2.2.2.2.2.2.2.2.2.2.2.2.2.1 k0_t3
theorem k0_off469_inb : ∀ (v1_0 : BitVec 32) (k0_hw2 : k0_chk2 v1_0) (k0_t3 : Fin (k0_t3_loop v1_0).trips), ∀ a, (k0_off469 v1_0 k0_t3) a + S1x64x256.size a ≤ S3x704x3072.size a := fun v1_0 k0_hw2 k0_t3 => k0_hw2.2.2.2.2.2.2.2.2.2.2.2.2.2.1.2.2.2.2.2.2.2.2.2.2.2.2.2.2.2.2.2.2.2.2.2.2.2.2.2.2.2.2.2.2.2 k0_t3
theorem k0_off470_inb : ∀ (v1_0 : BitVec 32) (k0_hw2 : k0_chk2 v1_0) (k0_t3 : Fin (k0_t3_loop v1_0).trips), ∀ a, (k0_off470 v1_0 k0_t3) a + S1x1x256.size a ≤ S3x11x3072.size a := fun v1_0 k0_hw2 k0_t3 => k0_hw2.2.2.2.2.2.2.2.2.2.2.2.2.2.2.1.1 k0_t3
theorem k0_off471_inb : ∀ (v1_0 : BitVec 32) (k0_hw2 : k0_chk2 v1_0) (k0_t3 : Fin (k0_t3_loop v1_0).trips), ∀ a, (k0_off471 v1_0 k0_t3) a + S1x64x256.size a ≤ S3x704x3072.size a := fun v1_0 k0_hw2 k0_t3 => k0_hw2.2.2.2.2.2.2.2.2.2.2.2.2.2.2.1.2.1 k0_t3
theorem k0_off472_inb : ∀ (v1_0 : BitVec 32) (k0_hw2 : k0_chk2 v1_0) (k0_t3 : Fin (k0_t3_loop v1_0).trips), ∀ a, (k0_off472 v1_0 k0_t3) a + S1x1x256.size a ≤ S3x11x3072.size a := fun v1_0 k0_hw2 k0_t3 => k0_hw2.2.2.2.2.2.2.2.2.2.2.2.2.2.2.1.2.2.1 k0_t3
theorem k0_off473_inb : ∀ (v1_0 : BitVec 32) (k0_hw2 : k0_chk2 v1_0) (k0_t3 : Fin (k0_t3_loop v1_0).trips), ∀ a, (k0_off473 v1_0 k0_t3) a + S1x64x256.size a ≤ S3x704x3072.size a := fun v1_0 k0_hw2 k0_t3 => k0_hw2.2.2.2.2.2.2.2.2.2.2.2.2.2.2.1.2.2.2.1 k0_t3
theorem k0_off474_inb : ∀ (v1_0 : BitVec 32) (k0_hw2 : k0_chk2 v1_0) (k0_t3 : Fin (k0_t3_loop v1_0).trips), ∀ a, (k0_off474 v1_0 k0_t3) a + S1x1x256.size a ≤ S3x11x3072.size a := fun v1_0 k0_hw2 k0_t3 => k0_hw2.2.2.2.2.2.2.2.2.2.2.2.2.2.2.1.2.2.2.2.1 k0_t3
theorem k0_off475_inb : ∀ (v1_0 : BitVec 32) (k0_hw2 : k0_chk2 v1_0) (k0_t3 : Fin (k0_t3_loop v1_0).trips), ∀ a, (k0_off475 v1_0 k0_t3) a + S1x64x256.size a ≤ S3x704x3072.size a := fun v1_0 k0_hw2 k0_t3 => k0_hw2.2.2.2.2.2.2.2.2.2.2.2.2.2.2.1.2.2.2.2.2.1 k0_t3
theorem k0_off476_inb : ∀ (v1_0 : BitVec 32) (k0_hw2 : k0_chk2 v1_0) (k0_t3 : Fin (k0_t3_loop v1_0).trips), ∀ a, (k0_off476 v1_0 k0_t3) a + S1x1x256.size a ≤ S3x11x3072.size a := fun v1_0 k0_hw2 k0_t3 => k0_hw2.2.2.2.2.2.2.2.2.2.2.2.2.2.2.1.2.2.2.2.2.2.1 k0_t3
theorem k0_off477_inb : ∀ (v1_0 : BitVec 32) (k0_hw2 : k0_chk2 v1_0) (k0_t3 : Fin (k0_t3_loop v1_0).trips), ∀ a, (k0_off477 v1_0 k0_t3) a + S1x64x256.size a ≤ S3x704x3072.size a := fun v1_0 k0_hw2 k0_t3 => k0_hw2.2.2.2.2.2.2.2.2.2.2.2.2.2.2.1.2.2.2.2.2.2.2.1 k0_t3
theorem k0_off478_inb : ∀ (v1_0 : BitVec 32) (k0_hw2 : k0_chk2 v1_0) (k0_t3 : Fin (k0_t3_loop v1_0).trips), ∀ a, (k0_off478 v1_0 k0_t3) a + S1x1x256.size a ≤ S3x11x3072.size a := fun v1_0 k0_hw2 k0_t3 => k0_hw2.2.2.2.2.2.2.2.2.2.2.2.2.2.2.1.2.2.2.2.2.2.2.2.1 k0_t3
theorem k0_off479_inb : ∀ (v1_0 : BitVec 32) (k0_hw2 : k0_chk2 v1_0) (k0_t3 : Fin (k0_t3_loop v1_0).trips), ∀ a, (k0_off479 v1_0 k0_t3) a + S1x64x256.size a ≤ S3x704x3072.size a := fun v1_0 k0_hw2 k0_t3 => k0_hw2.2.2.2.2.2.2.2.2.2.2.2.2.2.2.1.2.2.2.2.2.2.2.2.2.1 k0_t3
theorem k0_off480_inb : ∀ (v1_0 : BitVec 32) (k0_hw2 : k0_chk2 v1_0) (k0_t3 : Fin (k0_t3_loop v1_0).trips), ∀ a, (k0_off480 v1_0 k0_t3) a + S1x1x256.size a ≤ S3x11x3072.size a := fun v1_0 k0_hw2 k0_t3 => k0_hw2.2.2.2.2.2.2.2.2.2.2.2.2.2.2.1.2.2.2.2.2.2.2.2.2.2.1 k0_t3
theorem k0_off481_inb : ∀ (v1_0 : BitVec 32) (k0_hw2 : k0_chk2 v1_0) (k0_t3 : Fin (k0_t3_loop v1_0).trips), ∀ a, (k0_off481 v1_0 k0_t3) a + S1x64x256.size a ≤ S3x704x3072.size a := fun v1_0 k0_hw2 k0_t3 => k0_hw2.2.2.2.2.2.2.2.2.2.2.2.2.2.2.1.2.2.2.2.2.2.2.2.2.2.2.1 k0_t3
theorem k0_off482_inb : ∀ (v1_0 : BitVec 32) (k0_hw2 : k0_chk2 v1_0) (k0_t3 : Fin (k0_t3_loop v1_0).trips), ∀ a, (k0_off482 v1_0 k0_t3) a + S1x1x256.size a ≤ S3x11x3072.size a := fun v1_0 k0_hw2 k0_t3 => k0_hw2.2.2.2.2.2.2.2.2.2.2.2.2.2.2.1.2.2.2.2.2.2.2.2.2.2.2.2.1 k0_t3
theorem k0_off483_inb : ∀ (v1_0 : BitVec 32) (k0_hw2 : k0_chk2 v1_0) (k0_t3 : Fin (k0_t3_loop v1_0).trips), ∀ a, (k0_off483 v1_0 k0_t3) a + S1x64x256.size a ≤ S3x704x3072.size a := fun v1_0 k0_hw2 k0_t3 => k0_hw2.2.2.2.2.2.2.2.2.2.2.2.2.2.2.1.2.2.2.2.2.2.2.2.2.2.2.2.2.1 k0_t3
theorem k0_off484_inb : ∀ (v1_0 : BitVec 32) (k0_hw2 : k0_chk2 v1_0) (k0_t3 : Fin (k0_t3_loop v1_0).trips), ∀ a, (k0_off484 v1_0 k0_t3) a + S1x1x256.size a ≤ S3x11x3072.size a := fun v1_0 k0_hw2 k0_t3 => k0_hw2.2.2.2.2.2.2.2.2.2.2.2.2.2.2.1.2.2.2.2.2.2.2.2.2.2.2.2.2.2.1 k0_t3
theorem k0_off485_inb : ∀ (v1_0 : BitVec 32) (k0_hw2 : k0_chk2 v1_0) (k0_t3 : Fin (k0_t3_loop v1_0).trips), ∀ a, (k0_off485 v1_0 k0_t3) a + S1x64x256.size a ≤ S3x704x3072.size a := fun v1_0 k0_hw2 k0_t3 => k0_hw2.2.2.2.2.2.2.2.2.2.2.2.2.2.2.1.2.2.2.2.2.2.2.2.2.2.2.2.2.2.2.1 k0_t3
theorem k0_off486_inb : ∀ (v1_0 : BitVec 32) (k0_hw2 : k0_chk2 v1_0) (k0_t3 : Fin (k0_t3_loop v1_0).trips), ∀ a, (k0_off486 v1_0 k0_t3) a + S1x1x256.size a ≤ S3x11x3072.size a := fun v1_0 k0_hw2 k0_t3 => k0_hw2.2.2.2.2.2.2.2.2.2.2.2.2.2.2.1.2.2.2.2.2.2.2.2.2.2.2.2.2.2.2.2.1 k0_t3
theorem k0_off487_inb : ∀ (v1_0 : BitVec 32) (k0_hw2 : k0_chk2 v1_0) (k0_t3 : Fin (k0_t3_loop v1_0).trips), ∀ a, (k0_off487 v1_0 k0_t3) a + S1x64x256.size a ≤ S3x704x3072.size a := fun v1_0 k0_hw2 k0_t3 => k0_hw2.2.2.2.2.2.2.2.2.2.2.2.2.2.2.1.2.2.2.2.2.2.2.2.2.2.2.2.2.2.2.2.2.1 k0_t3
theorem k0_off488_inb : ∀ (v1_0 : BitVec 32) (k0_hw2 : k0_chk2 v1_0) (k0_t3 : Fin (k0_t3_loop v1_0).trips), ∀ a, (k0_off488 v1_0 k0_t3) a + S1x1x256.size a ≤ S3x11x3072.size a := fun v1_0 k0_hw2 k0_t3 => k0_hw2.2.2.2.2.2.2.2.2.2.2.2.2.2.2.1.2.2.2.2.2.2.2.2.2.2.2.2.2.2.2.2.2.2.1 k0_t3
theorem k0_off489_inb : ∀ (v1_0 : BitVec 32) (k0_hw2 : k0_chk2 v1_0) (k0_t3 : Fin (k0_t3_loop v1_0).trips), ∀ a, (k0_off489 v1_0 k0_t3) a + S1x64x256.size a ≤ S3x704x3072.size a := fun v1_0 k0_hw2 k0_t3 => k0_hw2.2.2.2.2.2.2.2.2.2.2.2.2.2.2.1.2.2.2.2.2.2.2.2.2.2.2.2.2.2.2.2.2.2.2.1 k0_t3
theorem k0_off490_inb : ∀ (v1_0 : BitVec 32) (k0_hw2 : k0_chk2 v1_0) (k0_t3 : Fin (k0_t3_loop v1_0).trips), ∀ a, (k0_off490 v1_0 k0_t3) a + S1x1x256.size a ≤ S3x11x3072.size a := fun v1_0 k0_hw2 k0_t3 => k0_hw2.2.2.2.2.2.2.2.2.2.2.2.2.2.2.1.2.2.2.2.2.2.2.2.2.2.2.2.2.2.2.2.2.2.2.2.1 k0_t3
theorem k0_off491_inb : ∀ (v1_0 : BitVec 32) (k0_hw2 : k0_chk2 v1_0) (k0_t3 : Fin (k0_t3_loop v1_0).trips), ∀ a, (k0_off491 v1_0 k0_t3) a + S1x64x256.size a ≤ S3x704x3072.size a := fun v1_0 k0_hw2 k0_t3 => k0_hw2.2.2.2.2.2.2.2.2.2.2.2.2.2.2.1.2.2.2.2.2.2.2.2.2.2.2.2.2.2.2.2.2.2.2.2.2.1 k0_t3
theorem k0_off492_inb : ∀ (v1_0 : BitVec 32) (k0_hw2 : k0_chk2 v1_0) (k0_t3 : Fin (k0_t3_loop v1_0).trips), ∀ a, (k0_off492 v1_0 k0_t3) a + S1x1x256.size a ≤ S3x11x3072.size a := fun v1_0 k0_hw2 k0_t3 => k0_hw2.2.2.2.2.2.2.2.2.2.2.2.2.2.2.1.2.2.2.2.2.2.2.2.2.2.2.2.2.2.2.2.2.2.2.2.2.2.1 k0_t3
theorem k0_off493_inb : ∀ (v1_0 : BitVec 32) (k0_hw2 : k0_chk2 v1_0) (k0_t3 : Fin (k0_t3_loop v1_0).trips), ∀ a, (k0_off493 v1_0 k0_t3) a + S1x64x256.size a ≤ S3x704x3072.size a := fun v1_0 k0_hw2 k0_t3 => k0_hw2.2.2.2.2.2.2.2.2.2.2.2.2.2.2.1.2.2.2.2.2.2.2.2.2.2.2.2.2.2.2.2.2.2.2.2.2.2.2.1 k0_t3
theorem k0_off494_inb : ∀ (v1_0 : BitVec 32) (k0_hw2 : k0_chk2 v1_0) (k0_t3 : Fin (k0_t3_loop v1_0).trips), ∀ a, (k0_off494 v1_0 k0_t3) a + S1x1x256.size a ≤ S3x11x3072.size a := fun v1_0 k0_hw2 k0_t3 => k0_hw2.2.2.2.2.2.2.2.2.2.2.2.2.2.2.1.2.2.2.2.2.2.2.2.2.2.2.2.2.2.2.2.2.2.2.2.2.2.2.2.1 k0_t3
theorem k0_off495_inb : ∀ (v1_0 : BitVec 32) (k0_hw2 : k0_chk2 v1_0) (k0_t3 : Fin (k0_t3_loop v1_0).trips), ∀ a, (k0_off495 v1_0 k0_t3) a + S1x64x256.size a ≤ S3x704x3072.size a := fun v1_0 k0_hw2 k0_t3 => k0_hw2.2.2.2.2.2.2.2.2.2.2.2.2.2.2.1.2.2.2.2.2.2.2.2.2.2.2.2.2.2.2.2.2.2.2.2.2.2.2.2.2.1 k0_t3
theorem k0_off496_inb : ∀ (v1_0 : BitVec 32) (k0_hw2 : k0_chk2 v1_0) (k0_t3 : Fin (k0_t3_loop v1_0).trips), ∀ a, (k0_off496 v1_0 k0_t3) a + S1x1x256.size a ≤ S3x11x3072.size a := fun v1_0 k0_hw2 k0_t3 => k0_hw2.2.2.2.2.2.2.2.2.2.2.2.2.2.2.1.2.2.2.2.2.2.2.2.2.2.2.2.2.2.2.2.2.2.2.2.2.2.2.2.2.2.1 k0_t3
theorem k0_off497_inb : ∀ (v1_0 : BitVec 32) (k0_hw2 : k0_chk2 v1_0) (k0_t3 : Fin (k0_t3_loop v1_0).trips), ∀ a, (k0_off497 v1_0 k0_t3) a + S1x64x256.size a ≤ S3x704x3072.size a := fun v1_0 k0_hw2 k0_t3 => k0_hw2.2.2.2.2.2.2.2.2.2.2.2.2.2.2.1.2.2.2.2.2.2.2.2.2.2.2.2.2.2.2.2.2.2.2.2.2.2.2.2.2.2.2.1 k0_t3
theorem k0_off498_inb : ∀ (v1_0 : BitVec 32) (k0_hw2 : k0_chk2 v1_0) (k0_t3 : Fin (k0_t3_loop v1_0).trips), ∀ a, (k0_off498 v1_0 k0_t3) a + S1x1x256.size a ≤ S3x11x3072.size a := fun v1_0 k0_hw2 k0_t3 => k0_hw2.2.2.2.2.2.2.2.2.2.2.2.2.2.2.1.2.2.2.2.2.2.2.2.2.2.2.2.2.2.2.2.2.2.2.2.2.2.2.2.2.2.2.2.1 k0_t3
theorem k0_off499_inb : ∀ (v1_0 : BitVec 32) (k0_hw2 : k0_chk2 v1_0) (k0_t3 : Fin (k0_t3_loop v1_0).trips), ∀ a, (k0_off499 v1_0 k0_t3) a + S1x64x256.size a ≤ S3x704x3072.size a := fun v1_0 k0_hw2 k0_t3 => k0_hw2.2.2.2.2.2.2.2.2.2.2.2.2.2.2.1.2.2.2.2.2.2.2.2.2.2.2.2.2.2.2.2.2.2.2.2.2.2.2.2.2.2.2.2.2.1 k0_t3
theorem k0_off500_inb : ∀ (v1_0 : BitVec 32) (k0_hw2 : k0_chk2 v1_0) (k0_t3 : Fin (k0_t3_loop v1_0).trips), ∀ a, (k0_off500 v1_0 k0_t3) a + S1x1x256.size a ≤ S3x11x3072.size a := fun v1_0 k0_hw2 k0_t3 => k0_hw2.2.2.2.2.2.2.2.2.2.2.2.2.2.2.1.2.2.2.2.2.2.2.2.2.2.2.2.2.2.2.2.2.2.2.2.2.2.2.2.2.2.2.2.2.2.1 k0_t3
theorem k0_off501_inb : ∀ (v1_0 : BitVec 32) (k0_hw2 : k0_chk2 v1_0) (k0_t3 : Fin (k0_t3_loop v1_0).trips), ∀ a, (k0_off501 v1_0 k0_t3) a + S1x64x256.size a ≤ S3x704x3072.size a := fun v1_0 k0_hw2 k0_t3 => k0_hw2.2.2.2.2.2.2.2.2.2.2.2.2.2.2.1.2.2.2.2.2.2.2.2.2.2.2.2.2.2.2.2.2.2.2.2.2.2.2.2.2.2.2.2.2.2.2 k0_t3
theorem k0_off502_inb : ∀ (v1_0 : BitVec 32) (k0_hw2 : k0_chk2 v1_0) (k0_t3 : Fin (k0_t3_loop v1_0).trips), ∀ a, (k0_off502 v1_0 k0_t3) a + S1x1x256.size a ≤ S3x11x3072.size a := fun v1_0 k0_hw2 k0_t3 => k0_hw2.2.2.2.2.2.2.2.2.2.2.2.2.2.2.2.1.1 k0_t3
theorem k0_off503_inb : ∀ (v1_0 : BitVec 32) (k0_hw2 : k0_chk2 v1_0) (k0_t3 : Fin (k0_t3_loop v1_0).trips), ∀ a, (k0_off503 v1_0 k0_t3) a + S1x64x256.size a ≤ S3x704x3072.size a := fun v1_0 k0_hw2 k0_t3 => k0_hw2.2.2.2.2.2.2.2.2.2.2.2.2.2.2.2.1.2.1 k0_t3
theorem k0_off504_inb : ∀ (v1_0 : BitVec 32) (k0_hw2 : k0_chk2 v1_0) (k0_t3 : Fin (k0_t3_loop v1_0).trips), ∀ a, (k0_off504 v1_0 k0_t3) a + S1x1x256.size a ≤ S3x11x3072.size a := fun v1_0 k0_hw2 k0_t3 => k0_hw2.2.2.2.2.2.2.2.2.2.2.2.2.2.2.2.1.2.2.1 k0_t3
theorem k0_off505_inb : ∀ (v1_0 : BitVec 32) (k0_hw2 : k0_chk2 v1_0) (k0_t3 : Fin (k0_t3_loop v1_0).trips), ∀ a, (k0_off505 v1_0 k0_t3) a + S1x64x256.size a ≤ S3x704x3072.size a := fun v1_0 k0_hw2 k0_t3 => k0_hw2.2.2.2.2.2.2.2.2.2.2.2.2.2.2.2.1.2.2.2.1 k0_t3
theorem k0_off506_inb : ∀ (v1_0 : BitVec 32) (k0_hw2 : k0_chk2 v1_0) (k0_t3 : Fin (k0_t3_loop v1_0).trips), ∀ a, (k0_off506 v1_0 k0_t3) a + S1x1x256.size a ≤ S3x11x3072.size a := fun v1_0 k0_hw2 k0_t3 => k0_hw2.2.2.2.2.2.2.2.2.2.2.2.2.2.2.2.1.2.2.2.2.1 k0_t3
theorem k0_off507_inb : ∀ (v1_0 : BitVec 32) (k0_hw2 : k0_chk2 v1_0) (k0_t3 : Fin (k0_t3_loop v1_0).trips), ∀ a, (k0_off507 v1_0 k0_t3) a + S1x64x256.size a ≤ S3x704x3072.size a := fun v1_0 k0_hw2 k0_t3 => k0_hw2.2.2.2.2.2.2.2.2.2.2.2.2.2.2.2.1.2.2.2.2.2.1 k0_t3
theorem k0_off508_inb : ∀ (v1_0 : BitVec 32) (k0_hw2 : k0_chk2 v1_0) (k0_t3 : Fin (k0_t3_loop v1_0).trips), ∀ a, (k0_off508 v1_0 k0_t3) a + S1x1x256.size a ≤ S3x11x3072.size a := fun v1_0 k0_hw2 k0_t3 => k0_hw2.2.2.2.2.2.2.2.2.2.2.2.2.2.2.2.1.2.2.2.2.2.2.1 k0_t3
theorem k0_off509_inb : ∀ (v1_0 : BitVec 32) (k0_hw2 : k0_chk2 v1_0) (k0_t3 : Fin (k0_t3_loop v1_0).trips), ∀ a, (k0_off509 v1_0 k0_t3) a + S1x64x256.size a ≤ S3x704x3072.size a := fun v1_0 k0_hw2 k0_t3 => k0_hw2.2.2.2.2.2.2.2.2.2.2.2.2.2.2.2.1.2.2.2.2.2.2.2.1 k0_t3
theorem k0_off510_inb : ∀ (v1_0 : BitVec 32) (k0_hw2 : k0_chk2 v1_0) (k0_t3 : Fin (k0_t3_loop v1_0).trips), ∀ a, (k0_off510 v1_0 k0_t3) a + S1x1x256.size a ≤ S3x11x3072.size a := fun v1_0 k0_hw2 k0_t3 => k0_hw2.2.2.2.2.2.2.2.2.2.2.2.2.2.2.2.1.2.2.2.2.2.2.2.2.1 k0_t3
theorem k0_off511_inb : ∀ (v1_0 : BitVec 32) (k0_hw2 : k0_chk2 v1_0) (k0_t3 : Fin (k0_t3_loop v1_0).trips), ∀ a, (k0_off511 v1_0 k0_t3) a + S1x64x256.size a ≤ S3x704x3072.size a := fun v1_0 k0_hw2 k0_t3 => k0_hw2.2.2.2.2.2.2.2.2.2.2.2.2.2.2.2.1.2.2.2.2.2.2.2.2.2.1 k0_t3
theorem k0_off512_inb : ∀ (v1_0 : BitVec 32) (k0_hw2 : k0_chk2 v1_0) (k0_t3 : Fin (k0_t3_loop v1_0).trips), ∀ a, (k0_off512 v1_0 k0_t3) a + S1x1x256.size a ≤ S3x11x3072.size a := fun v1_0 k0_hw2 k0_t3 => k0_hw2.2.2.2.2.2.2.2.2.2.2.2.2.2.2.2.1.2.2.2.2.2.2.2.2.2.2.1 k0_t3
theorem k0_off513_inb : ∀ (v1_0 : BitVec 32) (k0_hw2 : k0_chk2 v1_0) (k0_t3 : Fin (k0_t3_loop v1_0).trips), ∀ a, (k0_off513 v1_0 k0_t3) a + S1x64x256.size a ≤ S3x704x3072.size a := fun v1_0 k0_hw2 k0_t3 => k0_hw2.2.2.2.2.2.2.2.2.2.2.2.2.2.2.2.1.2.2.2.2.2.2.2.2.2.2.2.1 k0_t3
theorem k0_off514_inb : ∀ (v1_0 : BitVec 32) (k0_hw2 : k0_chk2 v1_0) (k0_t3 : Fin (k0_t3_loop v1_0).trips), ∀ a, (k0_off514 v1_0 k0_t3) a + S1x1x256.size a ≤ S3x11x3072.size a := fun v1_0 k0_hw2 k0_t3 => k0_hw2.2.2.2.2.2.2.2.2.2.2.2.2.2.2.2.1.2.2.2.2.2.2.2.2.2.2.2.2.1 k0_t3
theorem k0_off515_inb : ∀ (v1_0 : BitVec 32) (k0_hw2 : k0_chk2 v1_0) (k0_t3 : Fin (k0_t3_loop v1_0).trips), ∀ a, (k0_off515 v1_0 k0_t3) a + S1x64x256.size a ≤ S3x704x3072.size a := fun v1_0 k0_hw2 k0_t3 => k0_hw2.2.2.2.2.2.2.2.2.2.2.2.2.2.2.2.1.2.2.2.2.2.2.2.2.2.2.2.2.2.1 k0_t3
theorem k0_off516_inb : ∀ (v1_0 : BitVec 32) (k0_hw2 : k0_chk2 v1_0) (k0_t3 : Fin (k0_t3_loop v1_0).trips), ∀ a, (k0_off516 v1_0 k0_t3) a + S1x1x256.size a ≤ S3x11x3072.size a := fun v1_0 k0_hw2 k0_t3 => k0_hw2.2.2.2.2.2.2.2.2.2.2.2.2.2.2.2.1.2.2.2.2.2.2.2.2.2.2.2.2.2.2.1 k0_t3
theorem k0_off517_inb : ∀ (v1_0 : BitVec 32) (k0_hw2 : k0_chk2 v1_0) (k0_t3 : Fin (k0_t3_loop v1_0).trips), ∀ a, (k0_off517 v1_0 k0_t3) a + S1x64x256.size a ≤ S3x704x3072.size a := fun v1_0 k0_hw2 k0_t3 => k0_hw2.2.2.2.2.2.2.2.2.2.2.2.2.2.2.2.1.2.2.2.2.2.2.2.2.2.2.2.2.2.2.2.1 k0_t3
theorem k0_off518_inb : ∀ (v1_0 : BitVec 32) (k0_hw2 : k0_chk2 v1_0) (k0_t3 : Fin (k0_t3_loop v1_0).trips), ∀ a, (k0_off518 v1_0 k0_t3) a + S1x1x256.size a ≤ S3x11x3072.size a := fun v1_0 k0_hw2 k0_t3 => k0_hw2.2.2.2.2.2.2.2.2.2.2.2.2.2.2.2.1.2.2.2.2.2.2.2.2.2.2.2.2.2.2.2.2.1 k0_t3
theorem k0_off519_inb : ∀ (v1_0 : BitVec 32) (k0_hw2 : k0_chk2 v1_0) (k0_t3 : Fin (k0_t3_loop v1_0).trips), ∀ a, (k0_off519 v1_0 k0_t3) a + S1x64x256.size a ≤ S3x704x3072.size a := fun v1_0 k0_hw2 k0_t3 => k0_hw2.2.2.2.2.2.2.2.2.2.2.2.2.2.2.2.1.2.2.2.2.2.2.2.2.2.2.2.2.2.2.2.2.2.1 k0_t3
theorem k0_off520_inb : ∀ (v1_0 : BitVec 32) (k0_hw2 : k0_chk2 v1_0) (k0_t3 : Fin (k0_t3_loop v1_0).trips), ∀ a, (k0_off520 v1_0 k0_t3) a + S1x1x256.size a ≤ S3x11x3072.size a := fun v1_0 k0_hw2 k0_t3 => k0_hw2.2.2.2.2.2.2.2.2.2.2.2.2.2.2.2.1.2.2.2.2.2.2.2.2.2.2.2.2.2.2.2.2.2.2.1 k0_t3
theorem k0_off521_inb : ∀ (v1_0 : BitVec 32) (k0_hw2 : k0_chk2 v1_0) (k0_t3 : Fin (k0_t3_loop v1_0).trips), ∀ a, (k0_off521 v1_0 k0_t3) a + S1x64x256.size a ≤ S3x704x3072.size a := fun v1_0 k0_hw2 k0_t3 => k0_hw2.2.2.2.2.2.2.2.2.2.2.2.2.2.2.2.1.2.2.2.2.2.2.2.2.2.2.2.2.2.2.2.2.2.2.2.1 k0_t3
theorem k0_off522_inb : ∀ (v1_0 : BitVec 32) (k0_hw2 : k0_chk2 v1_0) (k0_t3 : Fin (k0_t3_loop v1_0).trips), ∀ a, (k0_off522 v1_0 k0_t3) a + S1x1x256.size a ≤ S3x11x3072.size a := fun v1_0 k0_hw2 k0_t3 => k0_hw2.2.2.2.2.2.2.2.2.2.2.2.2.2.2.2.1.2.2.2.2.2.2.2.2.2.2.2.2.2.2.2.2.2.2.2.2.1 k0_t3
theorem k0_off523_inb : ∀ (v1_0 : BitVec 32) (k0_hw2 : k0_chk2 v1_0) (k0_t3 : Fin (k0_t3_loop v1_0).trips), ∀ a, (k0_off523 v1_0 k0_t3) a + S1x64x256.size a ≤ S3x704x3072.size a := fun v1_0 k0_hw2 k0_t3 => k0_hw2.2.2.2.2.2.2.2.2.2.2.2.2.2.2.2.1.2.2.2.2.2.2.2.2.2.2.2.2.2.2.2.2.2.2.2.2.2.1 k0_t3
theorem k0_off524_inb : ∀ (v1_0 : BitVec 32) (k0_hw2 : k0_chk2 v1_0) (k0_t3 : Fin (k0_t3_loop v1_0).trips), ∀ a, (k0_off524 v1_0 k0_t3) a + S1x1x256.size a ≤ S3x11x3072.size a := fun v1_0 k0_hw2 k0_t3 => k0_hw2.2.2.2.2.2.2.2.2.2.2.2.2.2.2.2.1.2.2.2.2.2.2.2.2.2.2.2.2.2.2.2.2.2.2.2.2.2.2.1 k0_t3
theorem k0_off525_inb : ∀ (v1_0 : BitVec 32) (k0_hw2 : k0_chk2 v1_0) (k0_t3 : Fin (k0_t3_loop v1_0).trips), ∀ a, (k0_off525 v1_0 k0_t3) a + S1x64x256.size a ≤ S3x704x3072.size a := fun v1_0 k0_hw2 k0_t3 => k0_hw2.2.2.2.2.2.2.2.2.2.2.2.2.2.2.2.1.2.2.2.2.2.2.2.2.2.2.2.2.2.2.2.2.2.2.2.2.2.2.2.1 k0_t3
theorem k0_off526_inb : ∀ (v1_0 : BitVec 32) (k0_hw2 : k0_chk2 v1_0) (k0_t3 : Fin (k0_t3_loop v1_0).trips), ∀ a, (k0_off526 v1_0 k0_t3) a + S1x1x256.size a ≤ S3x11x3072.size a := fun v1_0 k0_hw2 k0_t3 => k0_hw2.2.2.2.2.2.2.2.2.2.2.2.2.2.2.2.1.2.2.2.2.2.2.2.2.2.2.2.2.2.2.2.2.2.2.2.2.2.2.2.2.1 k0_t3
theorem k0_off527_inb : ∀ (v1_0 : BitVec 32) (k0_hw2 : k0_chk2 v1_0) (k0_t3 : Fin (k0_t3_loop v1_0).trips), ∀ a, (k0_off527 v1_0 k0_t3) a + S1x64x256.size a ≤ S3x704x3072.size a := fun v1_0 k0_hw2 k0_t3 => k0_hw2.2.2.2.2.2.2.2.2.2.2.2.2.2.2.2.1.2.2.2.2.2.2.2.2.2.2.2.2.2.2.2.2.2.2.2.2.2.2.2.2.2.1 k0_t3
theorem k0_off528_inb : ∀ (v1_0 : BitVec 32) (k0_hw2 : k0_chk2 v1_0) (k0_t3 : Fin (k0_t3_loop v1_0).trips), ∀ a, (k0_off528 v1_0 k0_t3) a + S1x1x256.size a ≤ S3x11x3072.size a := fun v1_0 k0_hw2 k0_t3 => k0_hw2.2.2.2.2.2.2.2.2.2.2.2.2.2.2.2.1.2.2.2.2.2.2.2.2.2.2.2.2.2.2.2.2.2.2.2.2.2.2.2.2.2.2.1 k0_t3
theorem k0_off529_inb : ∀ (v1_0 : BitVec 32) (k0_hw2 : k0_chk2 v1_0) (k0_t3 : Fin (k0_t3_loop v1_0).trips), ∀ a, (k0_off529 v1_0 k0_t3) a + S1x64x256.size a ≤ S3x704x3072.size a := fun v1_0 k0_hw2 k0_t3 => k0_hw2.2.2.2.2.2.2.2.2.2.2.2.2.2.2.2.1.2.2.2.2.2.2.2.2.2.2.2.2.2.2.2.2.2.2.2.2.2.2.2.2.2.2.2.1 k0_t3
theorem k0_off530_inb : ∀ (v1_0 : BitVec 32) (k0_hw2 : k0_chk2 v1_0) (k0_t3 : Fin (k0_t3_loop v1_0).trips), ∀ a, (k0_off530 v1_0 k0_t3) a + S1x1x256.size a ≤ S3x11x3072.size a := fun v1_0 k0_hw2 k0_t3 => k0_hw2.2.2.2.2.2.2.2.2.2.2.2.2.2.2.2.1.2.2.2.2.2.2.2.2.2.2.2.2.2.2.2.2.2.2.2.2.2.2.2.2.2.2.2.2.1 k0_t3
theorem k0_off531_inb : ∀ (v1_0 : BitVec 32) (k0_hw2 : k0_chk2 v1_0) (k0_t3 : Fin (k0_t3_loop v1_0).trips), ∀ a, (k0_off531 v1_0 k0_t3) a + S1x64x256.size a ≤ S3x704x3072.size a := fun v1_0 k0_hw2 k0_t3 => k0_hw2.2.2.2.2.2.2.2.2.2.2.2.2.2.2.2.1.2.2.2.2.2.2.2.2.2.2.2.2.2.2.2.2.2.2.2.2.2.2.2.2.2.2.2.2.2.1 k0_t3
theorem k0_off532_inb : ∀ (v1_0 : BitVec 32) (k0_hw2 : k0_chk2 v1_0) (k0_t3 : Fin (k0_t3_loop v1_0).trips), ∀ a, (k0_off532 v1_0 k0_t3) a + S1x1x256.size a ≤ S3x11x3072.size a := fun v1_0 k0_hw2 k0_t3 => k0_hw2.2.2.2.2.2.2.2.2.2.2.2.2.2.2.2.1.2.2.2.2.2.2.2.2.2.2.2.2.2.2.2.2.2.2.2.2.2.2.2.2.2.2.2.2.2.2.1 k0_t3
theorem k0_off533_inb : ∀ (v1_0 : BitVec 32) (k0_hw2 : k0_chk2 v1_0) (k0_t3 : Fin (k0_t3_loop v1_0).trips), ∀ a, (k0_off533 v1_0 k0_t3) a + S1x64x256.size a ≤ S3x704x3072.size a := fun v1_0 k0_hw2 k0_t3 => k0_hw2.2.2.2.2.2.2.2.2.2.2.2.2.2.2.2.1.2.2.2.2.2.2.2.2.2.2.2.2.2.2.2.2.2.2.2.2.2.2.2.2.2.2.2.2.2.2.2 k0_t3
theorem k0_off534_inb : ∀ (v1_0 : BitVec 32) (k0_hw2 : k0_chk2 v1_0) (k0_t3 : Fin (k0_t3_loop v1_0).trips), ∀ a, (k0_off534 v1_0 k0_t3) a + S1x1x256.size a ≤ S3x11x3072.size a := fun v1_0 k0_hw2 k0_t3 => k0_hw2.2.2.2.2.2.2.2.2.2.2.2.2.2.2.2.2.1.1 k0_t3
theorem k0_off535_inb : ∀ (v1_0 : BitVec 32) (k0_hw2 : k0_chk2 v1_0) (k0_t3 : Fin (k0_t3_loop v1_0).trips), ∀ a, (k0_off535 v1_0 k0_t3) a + S1x64x256.size a ≤ S3x704x3072.size a := fun v1_0 k0_hw2 k0_t3 => k0_hw2.2.2.2.2.2.2.2.2.2.2.2.2.2.2.2.2.1.2.1 k0_t3
theorem k0_off536_inb : ∀ (v1_0 : BitVec 32) (k0_hw2 : k0_chk2 v1_0) (k0_t3 : Fin (k0_t3_loop v1_0).trips), ∀ a, (k0_off536 v1_0 k0_t3) a + S1x1x256.size a ≤ S3x11x3072.size a := fun v1_0 k0_hw2 k0_t3 => k0_hw2.2.2.2.2.2.2.2.2.2.2.2.2.2.2.2.2.1.2.2.1 k0_t3
theorem k0_off537_inb : ∀ (v1_0 : BitVec 32) (k0_hw2 : k0_chk2 v1_0) (k0_t3 : Fin (k0_t3_loop v1_0).trips), ∀ a, (k0_off537 v1_0 k0_t3) a + S1x64x256.size a ≤ S3x704x3072.size a := fun v1_0 k0_hw2 k0_t3 => k0_hw2.2.2.2.2.2.2.2.2.2.2.2.2.2.2.2.2.1.2.2.2.1 k0_t3
theorem k0_off538_inb : ∀ (v1_0 : BitVec 32) (k0_hw2 : k0_chk2 v1_0) (k0_t3 : Fin (k0_t3_loop v1_0).trips), ∀ a, (k0_off538 v1_0 k0_t3) a + S1x1x256.size a ≤ S3x11x3072.size a := fun v1_0 k0_hw2 k0_t3 => k0_hw2.2.2.2.2.2.2.2.2.2.2.2.2.2.2.2.2.1.2.2.2.2.1 k0_t3
theorem k0_off539_inb : ∀ (v1_0 : BitVec 32) (k0_hw2 : k0_chk2 v1_0) (k0_t3 : Fin (k0_t3_loop v1_0).trips), ∀ a, (k0_off539 v1_0 k0_t3) a + S1x64x256.size a ≤ S3x704x3072.size a := fun v1_0 k0_hw2 k0_t3 => k0_hw2.2.2.2.2.2.2.2.2.2.2.2.2.2.2.2.2.1.2.2.2.2.2.1 k0_t3
theorem k0_off540_inb : ∀ (v1_0 : BitVec 32) (k0_hw2 : k0_chk2 v1_0) (k0_t3 : Fin (k0_t3_loop v1_0).trips), ∀ a, (k0_off540 v1_0 k0_t3) a + S1x1x256.size a ≤ S3x11x3072.size a := fun v1_0 k0_hw2 k0_t3 => k0_hw2.2.2.2.2.2.2.2.2.2.2.2.2.2.2.2.2.1.2.2.2.2.2.2.1 k0_t3
theorem k0_off541_inb : ∀ (v1_0 : BitVec 32) (k0_hw2 : k0_chk2 v1_0) (k0_t3 : Fin (k0_t3_loop v1_0).trips), ∀ a, (k0_off541 v1_0 k0_t3) a + S1x64x256.size a ≤ S3x704x3072.size a := fun v1_0 k0_hw2 k0_t3 => k0_hw2.2.2.2.2.2.2.2.2.2.2.2.2.2.2.2.2.1.2.2.2.2.2.2.2.1 k0_t3
theorem k0_off542_inb : ∀ (v1_0 : BitVec 32) (k0_hw2 : k0_chk2 v1_0) (k0_t3 : Fin (k0_t3_loop v1_0).trips), ∀ a, (k0_off542 v1_0 k0_t3) a + S1x1x256.size a ≤ S3x11x3072.size a := fun v1_0 k0_hw2 k0_t3 => k0_hw2.2.2.2.2.2.2.2.2.2.2.2.2.2.2.2.2.1.2.2.2.2.2.2.2.2.1 k0_t3
theorem k0_off543_inb : ∀ (v1_0 : BitVec 32) (k0_hw2 : k0_chk2 v1_0) (k0_t3 : Fin (k0_t3_loop v1_0).trips), ∀ a, (k0_off543 v1_0 k0_t3) a + S1x64x256.size a ≤ S3x704x3072.size a := fun v1_0 k0_hw2 k0_t3 => k0_hw2.2.2.2.2.2.2.2.2.2.2.2.2.2.2.2.2.1.2.2.2.2.2.2.2.2.2.1 k0_t3
theorem k0_off544_inb : ∀ (v1_0 : BitVec 32) (k0_hw2 : k0_chk2 v1_0) (k0_t3 : Fin (k0_t3_loop v1_0).trips), ∀ a, (k0_off544 v1_0 k0_t3) a + S1x1x256.size a ≤ S3x11x3072.size a := fun v1_0 k0_hw2 k0_t3 => k0_hw2.2.2.2.2.2.2.2.2.2.2.2.2.2.2.2.2.1.2.2.2.2.2.2.2.2.2.2.1 k0_t3
theorem k0_off545_inb : ∀ (v1_0 : BitVec 32) (k0_hw2 : k0_chk2 v1_0) (k0_t3 : Fin (k0_t3_loop v1_0).trips), ∀ a, (k0_off545 v1_0 k0_t3) a + S1x64x256.size a ≤ S3x704x3072.size a := fun v1_0 k0_hw2 k0_t3 => k0_hw2.2.2.2.2.2.2.2.2.2.2.2.2.2.2.2.2.1.2.2.2.2.2.2.2.2.2.2.2.1 k0_t3
theorem k0_off546_inb : ∀ (v1_0 : BitVec 32) (k0_hw2 : k0_chk2 v1_0) (k0_t3 : Fin (k0_t3_loop v1_0).trips), ∀ a, (k0_off546 v1_0 k0_t3) a + S1x1x256.size a ≤ S3x11x3072.size a := fun v1_0 k0_hw2 k0_t3 => k0_hw2.2.2.2.2.2.2.2.2.2.2.2.2.2.2.2.2.1.2.2.2.2.2.2.2.2.2.2.2.2.1 k0_t3
theorem k0_off547_inb : ∀ (v1_0 : BitVec 32) (k0_hw2 : k0_chk2 v1_0) (k0_t3 : Fin (k0_t3_loop v1_0).trips), ∀ a, (k0_off547 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.1 k0_t3
theorem k0_off548_inb : ∀ (v1_0 : BitVec 32) (k0_hw2 : k0_chk2 v1_0) (k0_t3 : Fin (k0_t3_loop v1_0).trips), ∀ a, (k0_off548 v1_0 k0_t3) a + S1x1x256.size a ≤ S3x11x3072.size a := fun v1_0 k0_hw2 k0_t3 => k0_hw2.2.2.2.2.2.2.2.2.2.2.2.2.2.2.2.2.1.2.2.2.2.2.2.2.2.2.2.2.2.2.2.1 k0_t3
theorem k0_off549_inb : ∀ (v1_0 : BitVec 32) (k0_hw2 : k0_chk2 v1_0) (k0_t3 : Fin (k0_t3_loop v1_0).trips), ∀ a, (k0_off549 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.2.2.1 k0_t3
theorem k0_off550_inb : ∀ (v1_0 : BitVec 32) (k0_hw2 : k0_chk2 v1_0) (k0_t3 : Fin (k0_t3_loop v1_0).trips), ∀ a, (k0_off550 v1_0 k0_t3) a + S1x1x256.size a ≤ S3x11x3072.size a := fun v1_0 k0_hw2 k0_t3 => k0_hw2.2.2.2.2.2.2.2.2.2.2.2.2.2.2.2.2.1.2.2.2.2.2.2.2.2.2.2.2.2.2.2.2.2.1 k0_t3
theorem k0_off551_inb : ∀ (v1_0 : BitVec 32) (k0_hw2 : k0_chk2 v1_0) (k0_t3 : Fin (k0_t3_loop v1_0).trips), ∀ a, (k0_off551 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.2.2.2.2.1 k0_t3
theorem k0_off552_inb : ∀ (v1_0 : BitVec 32) (k0_hw2 : k0_chk2 v1_0) (k0_t3 : Fin (k0_t3_loop v1_0).trips), ∀ a, (k0_off552 v1_0 k0_t3) a + S1x1x256.size a ≤ S3x11x3072.size a := fun v1_0 k0_hw2 k0_t3 => k0_hw2.2.2.2.2.2.2.2.2.2.2.2.2.2.2.2.2.1.2.2.2.2.2.2.2.2.2.2.2.2.2.2.2.2.2.2.1 k0_t3
theorem k0_off553_inb : ∀ (v1_0 : BitVec 32) (k0_hw2 : k0_chk2 v1_0) (k0_t3 : Fin (k0_t3_loop v1_0).trips), ∀ a, (k0_off553 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.2.2.2.2.2.2.1 k0_t3
theorem k0_off554_inb : ∀ (v1_0 : BitVec 32) (k0_hw2 : k0_chk2 v1_0) (k0_t3 : Fin (k0_t3_loop v1_0).trips), ∀ a, (k0_off554 v1_0 k0_t3) a + S1x1x256.size a ≤ S3x11x3072.size a := fun v1_0 k0_hw2 k0_t3 => k0_hw2.2.2.2.2.2.2.2.2.2.2.2.2.2.2.2.2.1.2.2.2.2.2.2.2.2.2.2.2.2.2.2.2.2.2.2.2.2.1 k0_t3
theorem k0_off555_inb : ∀ (v1_0 : BitVec 32) (k0_hw2 : k0_chk2 v1_0) (k0_t3 : Fin (k0_t3_loop v1_0).trips), ∀ a, (k0_off555 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.2.2.2.2.2.2.2.2.1 k0_t3
theorem k0_off556_inb : ∀ (v1_0 : BitVec 32) (k0_hw2 : k0_chk2 v1_0) (k0_t3 : Fin (k0_t3_loop v1_0).trips), ∀ a, (k0_off556 v1_0 k0_t3) a + S1x1x256.size a ≤ S3x11x3072.size a := fun v1_0 k0_hw2 k0_t3 => k0_hw2.2.2.2.2.2.2.2.2.2.2.2.2.2.2.2.2.1.2.2.2.2.2.2.2.2.2.2.2.2.2.2.2.2.2.2.2.2.2.2.1 k0_t3
theorem k0_off557_inb : ∀ (v1_0 : BitVec 32) (k0_hw2 : k0_chk2 v1_0) (k0_t3 : Fin (k0_t3_loop v1_0).trips), ∀ a, (k0_off557 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.2.2.2.2.2.2.2.2.2.2.1 k0_t3
theorem k0_off558_inb : ∀ (v1_0 : BitVec 32) (k0_hw2 : k0_chk2 v1_0) (k0_t3 : Fin (k0_t3_loop v1_0).trips), ∀ a, (k0_off558 v1_0 k0_t3) a + S1x1x256.size a ≤ S3x11x3072.size a := fun v1_0 k0_hw2 k0_t3 => k0_hw2.2.2.2.2.2.2.2.2.2.2.2.2.2.2.2.2.1.2.2.2.2.2.2.2.2.2.2.2.2.2.2.2.2.2.2.2.2.2.2.2.2.1 k0_t3
theorem k0_off559_inb : ∀ (v1_0 : BitVec 32) (k0_hw2 : k0_chk2 v1_0) (k0_t3 : Fin (k0_t3_loop v1_0).trips), ∀ a, (k0_off559 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.2.2.2.2.2.2.2.2.2.2.2.2.1 k0_t3
theorem k0_off560_inb : ∀ (v1_0 : BitVec 32) (k0_hw2 : k0_chk2 v1_0) (k0_t3 : Fin (k0_t3_loop v1_0).trips), ∀ a, (k0_off560 v1_0 k0_t3) a + S1x1x256.size a ≤ S3x11x3072.size a := fun v1_0 k0_hw2 k0_t3 => k0_hw2.2.2.2.2.2.2.2.2.2.2.2.2.2.2.2.2.1.2.2.2.2.2.2.2.2.2.2.2.2.2.2.2.2.2.2.2.2.2.2.2.2.2.2.1 k0_t3
theorem k0_off561_inb : ∀ (v1_0 : BitVec 32) (k0_hw2 : k0_chk2 v1_0) (k0_t3 : Fin (k0_t3_loop v1_0).trips), ∀ a, (k0_off561 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.2.2.2.2.2.2.2.2.2.2.2.2.2.2.1 k0_t3
theorem k0_off562_inb : ∀ (v1_0 : BitVec 32) (k0_hw2 : k0_chk2 v1_0) (k0_t3 : Fin (k0_t3_loop v1_0).trips), ∀ a, (k0_off562 v1_0 k0_t3) a + S1x1x256.size a ≤ S3x11x3072.size a := fun v1_0 k0_hw2 k0_t3 => k0_hw2.2.2.2.2.2.2.2.2.2.2.2.2.2.2.2.2.1.2.2.2.2.2.2.2.2.2.2.2.2.2.2.2.2.2.2.2.2.2.2.2.2.2.2.2.2.1 k0_t3
theorem k0_off563_inb : ∀ (v1_0 : BitVec 32) (k0_hw2 : k0_chk2 v1_0) (k0_t3 : Fin (k0_t3_loop v1_0).trips), ∀ a, (k0_off563 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.2.2.2.2.2.2.2.2.2.2.2.2.2.2.2.2.1 k0_t3
theorem k0_off564_inb : ∀ (v1_0 : BitVec 32) (k0_hw2 : k0_chk2 v1_0) (k0_t3 : Fin (k0_t3_loop v1_0).trips), ∀ a, (k0_off564 v1_0 k0_t3) a + S1x1x256.size a ≤ S3x11x3072.size a := fun v1_0 k0_hw2 k0_t3 => k0_hw2.2.2.2.2.2.2.2.2.2.2.2.2.2.2.2.2.1.2.2.2.2.2.2.2.2.2.2.2.2.2.2.2.2.2.2.2.2.2.2.2.2.2.2.2.2.2.2.1 k0_t3
theorem k0_off565_inb : ∀ (v1_0 : BitVec 32) (k0_hw2 : k0_chk2 v1_0) (k0_t3 : Fin (k0_t3_loop v1_0).trips), ∀ a, (k0_off565 v1_0 k0_t3) a + S1x64x256.size a ≤ S3x704x3072.size a := fun v1_0 k0_hw2 k0_t3 => k0_hw2.2.2.2.2.2.2.2.2.2.2.2.2.2.2.2.2.1.2.2.2.2.2.2.2.2.2.2.2.2.2.2.2.2.2.2.2.2.2.2.2.2.2.2.2.2.2.2.2 k0_t3
theorem k0_off566_inb : ∀ (v1_0 : BitVec 32) (k0_hw2 : k0_chk2 v1_0) (k0_t3 : Fin (k0_t3_loop v1_0).trips), ∀ a, (k0_off566 v1_0 k0_t3) a + S1x1x256.size a ≤ S3x11x3072.size a := fun v1_0 k0_hw2 k0_t3 => k0_hw2.2.2.2.2.2.2.2.2.2.2.2.2.2.2.2.2.2.1 k0_t3
theorem k0_off567_inb : ∀ (v1_0 : BitVec 32) (k0_hw2 : k0_chk2 v1_0) (k0_t3 : Fin (k0_t3_loop v1_0).trips), ∀ a, (k0_off567 v1_0 k0_t3) a + S1x64x256.size a ≤ S3x704x3072.size a := fun v1_0 k0_hw2 k0_t3 => k0_hw2.2.2.2.2.2.2.2.2.2.2.2.2.2.2.2.2.2.2.1 k0_t3
theorem k0_off568_inb : ∀ (v1_0 : BitVec 32) (k0_hw2 : k0_chk2 v1_0) (k0_t3 : Fin (k0_t3_loop v1_0).trips), ∀ a, (k0_off568 v1_0 k0_t3) a + S1x1x256.size a ≤ S3x11x3072.size a := fun v1_0 k0_hw2 k0_t3 => k0_hw2.2.2.2.2.2.2.2.2.2.2.2.2.2.2.2.2.2.2.2.1 k0_t3
theorem k0_off569_inb : ∀ (v1_0 : BitVec 32) (k0_hw2 : k0_chk2 v1_0) (k0_t3 : Fin (k0_t3_loop v1_0).trips), ∀ a, (k0_off569 v1_0 k0_t3) a + S1x64x256.size a ≤ S3x704x3072.size a := fun v1_0 k0_hw2 k0_t3 => k0_hw2.2.2.2.2.2.2.2.2.2.2.2.2.2.2.2.2.2.2.2.2.1 k0_t3
theorem k0_off570_inb : ∀ (v1_0 : BitVec 32) (k0_hw2 : k0_chk2 v1_0) (k0_t3 : Fin (k0_t3_loop v1_0).trips), ∀ a, (k0_off570 v1_0 k0_t3) a + S1x1x256.size a ≤ S3x11x3072.size a := fun v1_0 k0_hw2 k0_t3 => k0_hw2.2.2.2.2.2.2.2.2.2.2.2.2.2.2.2.2.2.2.2.2.2.1 k0_t3
theorem k0_off571_inb : ∀ (v1_0 : BitVec 32) (k0_hw2 : k0_chk2 v1_0) (k0_t3 : Fin (k0_t3_loop v1_0).trips), ∀ a, (k0_off571 v1_0 k0_t3) a + S1x64x256.size a ≤ S3x704x3072.size a := fun v1_0 k0_hw2 k0_t3 => k0_hw2.2.2.2.2.2.2.2.2.2.2.2.2.2.2.2.2.2.2.2.2.2.2.1 k0_t3
theorem k0_off572_inb : ∀ (v1_0 : BitVec 32) (k0_hw2 : k0_chk2 v1_0) (k0_t3 : Fin (k0_t3_loop v1_0).trips), ∀ a, (k0_off572 v1_0 k0_t3) a + S1x1x256.size a ≤ S3x11x3072.size a := fun v1_0 k0_hw2 k0_t3 => k0_hw2.2.2.2.2.2.2.2.2.2.2.2.2.2.2.2.2.2.2.2.2.2.2.2.1 k0_t3
theorem k0_off573_inb : ∀ (v1_0 : BitVec 32) (k0_hw2 : k0_chk2 v1_0) (k0_t3 : Fin (k0_t3_loop v1_0).trips), ∀ a, (k0_off573 v1_0 k0_t3) a + S1x64x256.size a ≤ S3x704x3072.size a := fun v1_0 k0_hw2 k0_t3 => k0_hw2.2.2.2.2.2.2.2.2.2.2.2.2.2.2.2.2.2.2.2.2.2.2.2.2.1 k0_t3
theorem k0_off574_inb : ∀ (v1_0 : BitVec 32) (k0_hw2 : k0_chk2 v1_0) (k0_t3 : Fin (k0_t3_loop v1_0).trips), ∀ a, (k0_off574 v1_0 k0_t3) a + S1x1x256.size a ≤ S3x11x3072.size a := fun v1_0 k0_hw2 k0_t3 => k0_hw2.2.2.2.2.2.2.2.2.2.2.2.2.2.2.2.2.2.2.2.2.2.2.2.2.2.1 k0_t3
theorem k0_off575_inb : ∀ (v1_0 : BitVec 32) (k0_hw2 : k0_chk2 v1_0) (k0_t3 : Fin (k0_t3_loop v1_0).trips), ∀ (k0_h5 : k0_cond5 v1_0 k0_t3 = 1#1), ∀ a, (k0_off575 v1_0 k0_t3) a + S1.size a ≤ S65.size a := fun v1_0 k0_hw2 k0_t3 k0_h5 => k0_hw2.2.2.2.2.2.2.2.2.2.2.2.2.2.2.2.2.2.2.2.2.2.2.2.2.2.2.1 k0_t3 k0_h5
theorem k0_off576_inb : ∀ (v1_0 : BitVec 32) (k0_hw2 : k0_chk2 v1_0) (k0_t3 : Fin (k0_t3_loop v1_0).trips), ∀ (k0_h5 : k0_cond5 v1_0 k0_t3 = 1#1), ∀ a, (k0_off576 v1_0 k0_t3) a + S1x1.size a ≤ S2x3.size a := fun v1_0 k0_hw2 k0_t3 k0_h5 => k0_hw2.2.2.2.2.2.2.2.2.2.2.2.2.2.2.2.2.2.2.2.2.2.2.2.2.2.2.2.1 k0_t3 k0_h5
theorem k0_off577_inb : ∀ (v1_0 : BitVec 32) (k0_hw2 : k0_chk2 v1_0) (k0_t3 : Fin (k0_t3_loop v1_0).trips), ∀ (k0_h5 : k0_cond5 v1_0 k0_t3 = 1#1), ∀ a, (k0_off577 v1_0 k0_t3) a + S1x704x3072.size a ≤ S3x704x3072.size a := fun v1_0 k0_hw2 k0_t3 k0_h5 => k0_hw2.2.2.2.2.2.2.2.2.2.2.2.2.2.2.2.2.2.2.2.2.2.2.2.2.2.2.2.2.1 k0_t3 k0_h5
theorem k0_off577_wordsi8 : ∀ (v1_0 : BitVec 32) (k0_hw2 : k0_chk2 v1_0) (k0_t3 : Fin (k0_t3_loop v1_0).trips), ∀ (k0_h5 : k0_cond5 v1_0 k0_t3 = 1#1), (Rect.unit (s := S3x704x3072) (k0_off577 v1_0 k0_t3) S1x704x3072.size (k0_off577_inb v1_0 k0_hw2 k0_t3 k0_h5)).WholeWords (EltTy.packing .i8) := fun v1_0 k0_hw2 k0_t3 k0_h5 => k0_hw2.2.2.2.2.2.2.2.2.2.2.2.2.2.2.2.2.2.2.2.2.2.2.2.2.2.2.2.2.2.1 k0_t3 k0_h5 (k0_off577_inb v1_0 k0_hw2 k0_t3 k0_h5)
theorem k0_off579_inb : ∀ (v1_0 : BitVec 32) (k0_hw2 : k0_chk2 v1_0) (k0_t3 : Fin (k0_t3_loop v1_0).trips), ∀ (k0_h5 : k0_cond5 v1_0 k0_t3 = 1#1), ∀ a, (k0_off579 v1_0 k0_t3) a + S1x1.size a ≤ S2x3.size a := fun v1_0 k0_hw2 k0_t3 k0_h5 => k0_hw2.2.2.2.2.2.2.2.2.2.2.2.2.2.2.2.2.2.2.2.2.2.2.2.2.2.2.2.2.2.2.1 k0_t3 k0_h5
theorem k0_off580_inb : ∀ (v1_0 : BitVec 32) (k0_hw2 : k0_chk2 v1_0) (k0_t3 : Fin (k0_t3_loop v1_0).trips), ∀ (k0_h5 : k0_cond5 v1_0 k0_t3 = 1#1), ∀ a, (k0_off580 v1_0 k0_t3) a + S1x11x3072.size a ≤ S3x11x3072.size a := fun v1_0 k0_hw2 k0_t3 k0_h5 => k0_hw2.2.2.2.2.2.2.2.2.2.2.2.2.2.2.2.2.2.2.2.2.2.2.2.2.2.2.2.2.2.2.2 k0_t3 k0_h5

def k0_off581 (v3634 : BitVec 32) : Fin 3 → Nat :=
  let c0_i32_1173 : BitVec 32 := 0#32
  let c0_i32_1174 : BitVec 32 := 0#32
  ![v3634.toNat, 0, 0]

def k0_chk9 (v1_0 : BitVec 32) (k0_t3 : Fin (k0_t3_loop v1_0).trips) (v3634 : BitVec 32) : Prop :=
  (∀ (k0_h5 : k0_cond5 v1_0 k0_t3 = 1#1), ∀ a, (k0_off578 v3634) a + S1x704x3072.size a ≤ S64x704x3072.size a) ∧
  (∀ (k0_h5 : k0_cond5 v1_0 k0_t3 = 1#1), ∀ (hinb : ∀ a, (k0_off578 v3634) a + S1x704x3072.size a ≤ S64x704x3072.size a), (Rect.unit (s := S64x704x3072) (k0_off578 v3634) S1x704x3072.size hinb).WholeWords (EltTy.packing .i8)) ∧
  (∀ (k0_h5 : k0_cond5 v1_0 k0_t3 = 1#1), ∀ a, (k0_off581 v3634) a + S1x11x3072.size a ≤ S64x11x3072.size a)
theorem k0_off578_inb : ∀ (v1_0 : BitVec 32) (k0_t3 : Fin (k0_t3_loop v1_0).trips) (v3634 : BitVec 32) (k0_hw9 : k0_chk9 v1_0 k0_t3 v3634), ∀ (k0_h5 : k0_cond5 v1_0 k0_t3 = 1#1), ∀ a, (k0_off578 v3634) a + S1x704x3072.size a ≤ S64x704x3072.size a := fun v1_0 k0_t3 v3634 k0_hw9 k0_h5 => k0_hw9.1 k0_h5
theorem k0_off578_wordsi8 : ∀ (v1_0 : BitVec 32) (k0_t3 : Fin (k0_t3_loop v1_0).trips) (v3634 : BitVec 32) (k0_hw9 : k0_chk9 v1_0 k0_t3 v3634), ∀ (k0_h5 : k0_cond5 v1_0 k0_t3 = 1#1), (Rect.unit (s := S64x704x3072) (k0_off578 v3634) S1x704x3072.size (k0_off578_inb v1_0 k0_t3 v3634 k0_hw9 k0_h5)).WholeWords (EltTy.packing .i8) := fun v1_0 k0_t3 v3634 k0_hw9 k0_h5 => k0_hw9.2.1 k0_h5 (k0_off578_inb v1_0 k0_t3 v3634 k0_hw9 k0_h5)
theorem k0_off581_inb : ∀ (v1_0 : BitVec 32) (k0_t3 : Fin (k0_t3_loop v1_0).trips) (v3634 : BitVec 32) (k0_hw9 : k0_chk9 v1_0 k0_t3 v3634), ∀ (k0_h5 : k0_cond5 v1_0 k0_t3 = 1#1), ∀ a, (k0_off581 v3634) a + S1x11x3072.size a ≤ S64x11x3072.size a := fun v1_0 k0_t3 v3634 k0_hw9 k0_h5 => k0_hw9.2.2 k0_h5

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S96x1408 : Shape := ⟨2, ![96, 1408]⟩
abbrev S64 : Shape := ⟨1, ![64]⟩
abbrev S64x704x3072 : Shape := ⟨3, ![64, 704, 3072]⟩
abbrev S64x11x3072 : Shape := ⟨3, ![64, 11, 3072]⟩
abbrev S96x11x128 : Shape := ⟨3, ![96, 11, 128]⟩
abbrev S_ : Shape := ⟨0, ![]⟩
abbrev S96x11 : Shape := ⟨2, ![96, 11]⟩
abbrev S276 : Shape := ⟨1, ![276]⟩
abbrev S96x11x1 : Shape := ⟨3, ![96, 11, 1]⟩
abbrev S1x1x276 : Shape := ⟨3, ![1, 1, 276]⟩
abbrev S96x11x276 : Shape := ⟨3, ![96, 11, 276]⟩
abbrev S96x704x2 : Shape := ⟨3, ![96, 704, 2]⟩
abbrev S64x11x1x3072 : Shape := ⟨4, ![64, 11, 1, 3072]⟩
abbrev S64x11x64x3072 : Shape := ⟨4, ![64, 11, 64, 3072]⟩
abbrev S96x704x1 : Shape := ⟨3, ![96, 704, 1]⟩
abbrev S96x704 : Shape := ⟨2, ![96, 704]⟩
abbrev S96 : Shape := ⟨1, ![96]⟩
abbrev S96x1 : Shape := ⟨2, ![96, 1]⟩
abbrev S1x64 : Shape := ⟨2, ![1, 64]⟩
abbrev S96x64 : Shape := ⟨2, ![96, 64]⟩
abbrev S96x64x3072 : Shape := ⟨3, ![96, 64, 3072]⟩
abbrev S96x64x1 : Shape := ⟨3, ![96, 64, 1]⟩
abbrev S96x3072 : Shape := ⟨2, ![96, 3072]⟩

abbrev nBuf : Space → Nat
  | .hbm => 141
  | .vmem => 2
  | .smem => 0
  | _ => 0

abbrev hbmTy0_0 (i : Nat) : BufTy := match i % 128 with
  | 0 => ⟨S96x1408, .bf16⟩
  | 1 => ⟨S64, .i32⟩
  | 2 => ⟨S64x704x3072, .i8⟩
  | 3 => ⟨S64x11x3072, .f32⟩
  | 4 => ⟨S96x1408, .f32⟩
  | 5 => ⟨S96x11x128, .f32⟩
  | 6 => ⟨S96x11x128, .f32⟩
  | 7 => ⟨S_, .f32⟩
  | 8 => ⟨S96x11, .f32⟩
  | 9 => ⟨S_, .f32⟩
  | 10 => ⟨S96x11, .f32⟩
  | 11 => ⟨S96x11, .f32⟩
  | 12 => ⟨S276, .i32⟩
  | 13 => ⟨S_, .i32⟩
  | 14 => ⟨S276, .i32⟩
  | 15 => ⟨S276, .i32⟩
  | 16 => ⟨S276, .f32⟩
  | 17 => ⟨S_, .f32⟩
  | 18 => ⟨S276, .f32⟩
  | 19 => ⟨S276, .f32⟩
  | 20 => ⟨S96x11x1, .f32⟩
  | 21 => ⟨S1x1x276, .f32⟩
  | 22 => ⟨S96x11x276, .f32⟩
  | 23 => ⟨S96x11x276, .f32⟩
  | 24 => ⟨S96x11x276, .i1⟩
  | 25 => ⟨S_, .f32⟩
  | 26 => ⟨S_, .f32⟩
  | 27 => ⟨S96x11x276, .f32⟩
  | 28 => ⟨S96x11x276, .f32⟩
  | 29 => ⟨S96x11x276, .f32⟩
  | 30 => ⟨S_, .f32⟩
  | 31 => ⟨S96x11, .f32⟩
  | 32 => ⟨S_, .f32⟩
  | 33 => ⟨S96x11, .f32⟩
  | 34 => ⟨S96x11, .i1⟩
  | 35 => ⟨S_, .f32⟩
  | 36 => ⟨S96x11, .f32⟩
  | 37 => ⟨S96x11, .i1⟩
  | 38 => ⟨S96x11, .i1⟩
  | 39 => ⟨S_, .f32⟩
  | 40 => ⟨S_, .f32⟩
  | 41 => ⟨S96x11, .f32⟩
  | 42 => ⟨S96x11, .f32⟩
  | 43 => ⟨S96x11x1, .f32⟩
  | 44 => ⟨S96x11x128, .f32⟩
  | 45 => ⟨S96x11x128, .f32⟩
  | 46 => ⟨S96x1408, .f32⟩
  | 47 => ⟨S96x1408, .bf16⟩
  | 48 => ⟨S96x11x128, .bf16⟩
  | 49 => ⟨S96x11, .bf16⟩
  | 50 => ⟨S96x11x1, .bf16⟩
  | 51 => ⟨S96x11x128, .bf16⟩
  | 52 => ⟨S96x11x128, .bf16⟩
  | 53 => ⟨S96x704x2, .bf16⟩
  | 54 => ⟨S64x704x3072, .i32⟩
  | 55 => ⟨S_, .i32⟩
  | 56 => ⟨S64x704x3072, .i32⟩
  | 57 => ⟨S64x704x3072, .i32⟩
  | 58 => ⟨S_, .i32⟩
  | 59 => ⟨S64x704x3072, .i32⟩
  | 60 => ⟨S64x704x3072, .i32⟩
  | 61 => ⟨S_, .i32⟩
  | 62 => ⟨S64x704x3072, .i32⟩
  | 63 => ⟨S64x704x3072, .i1⟩
  | 64 => ⟨S_, .i32⟩
  | 65 => ⟨S64x704x3072, .i32⟩
  | 66 => ⟨S64x704x3072, .i32⟩
  | 67 => ⟨S64x704x3072, .i32⟩
  | 68 => ⟨S_, .i32⟩
  | 69 => ⟨S64x704x3072, .i32⟩
  | 70 => ⟨S64x704x3072, .i1⟩
  | 71 => ⟨S_, .i32⟩
  | 72 => ⟨S64x704x3072, .i32⟩
  | 73 => ⟨S64x704x3072, .i32⟩
  | 74 => ⟨S64x704x3072, .i32⟩
  | 75 => ⟨S64x11x3072, .bf16⟩
  | 76 => ⟨S64x11x1x3072, .bf16⟩
  | 77 => ⟨S64x704x3072, .bf16⟩
  | 78 => ⟨S64x11x64x3072, .bf16⟩
  | 79 => ⟨S64x11x64x3072, .bf16⟩
  | 80 => ⟨S64x11x64x3072, .bf16⟩
  | 81 => ⟨S64x704x3072, .bf16⟩
  | 82 => ⟨S64x704x3072, .bf16⟩
  | 83 => ⟨S64x11x64x3072, .bf16⟩
  | 84 => ⟨S64x11x64x3072, .bf16⟩
  | 85 => ⟨S64x11x64x3072, .bf16⟩
  | 86 => ⟨S64x704x3072, .bf16⟩
  | 87 => ⟨S96x704x1, .bf16⟩
  | 88 => ⟨S96x704, .bf16⟩
  | 89 => ⟨S_, .i32⟩
  | 90 => ⟨S_, .i32⟩
  | 91 => ⟨S64, .i32⟩
  | 92 => ⟨S96, .i32⟩
  | 93 => ⟨S96x1, .i32⟩
  | 94 => ⟨S64, .i32⟩
  | 95 => ⟨S1x64, .i32⟩
  | 96 => ⟨S96x64, .i32⟩
  | 97 => ⟨S96x64, .i32⟩
  | 98 => ⟨S96x64, .i1⟩
  | 99 => ⟨S1x64, .i32⟩
  | 100 => ⟨S96x64, .i32⟩
  | 101 => ⟨S96x64, .i32⟩
  | 102 => ⟨S96x64, .i1⟩
  | 103 => ⟨S96x64, .i1⟩
  | 104 => ⟨S96x64x3072, .f32⟩
  | 105 => ⟨S96x64x1, .i1⟩
  | 106 => ⟨S_, .f32⟩
  | 107 => ⟨S_, .f32⟩
  | 108 => ⟨S96x64x3072, .i1⟩
  | 109 => ⟨S96x64x3072, .f32⟩
  | 110 => ⟨S96x64x3072, .f32⟩
  | 111 => ⟨S_, .f32⟩
  | 112 => ⟨S96x3072, .f32⟩
  | 113 => ⟨S96x704x1, .bf16⟩
  | 114 => ⟨S96x704, .bf16⟩
  | 115 => ⟨S_, .i32⟩
  | 116 => ⟨S_, .i32⟩
  | 117 => ⟨S64, .i32⟩
  | 118 => ⟨S96, .i32⟩
  | 119 => ⟨S96x1, .i32⟩
  | 120 => ⟨S64, .i32⟩
  | 121 => ⟨S1x64, .i32⟩
  | 122 => ⟨S96x64, .i32⟩
  | 123 => ⟨S96x64, .i32⟩
  | 124 => ⟨S96x64, .i1⟩
  | 125 => ⟨S1x64, .i32⟩
  | 126 => ⟨S96x64, .i32⟩
  | 127 => ⟨S96x64, .i32⟩
  | _ => ⟨S96x1408, .bf16⟩

abbrev hbmTy0_1 (i : Nat) : BufTy := match i % 128 with
  | 0 => ⟨S96x64, .i1⟩
  | 1 => ⟨S96x64, .i1⟩
  | 2 => ⟨S96x64x3072, .f32⟩
  | 3 => ⟨S96x64x1, .i1⟩
  | 4 => ⟨S_, .f32⟩
  | 5 => ⟨S_, .f32⟩
  | 6 => ⟨S96x64x3072, .i1⟩
  | 7 => ⟨S96x64x3072, .f32⟩
  | 8 => ⟨S96x64x3072, .f32⟩
  | 9 => ⟨S_, .f32⟩
  | 10 => ⟨S96x3072, .f32⟩
  | 11 => ⟨S96x3072, .f32⟩
  | 12 => ⟨S96x3072, .bf16⟩
  | _ => ⟨S96x1408, .bf16⟩

abbrev hbmTy (i : Nat) : BufTy := match i / 128 with
  | 0 => hbmTy0_0 i
  | 1 => hbmTy0_1 i
  | _ => ⟨S96x1408, .bf16⟩

abbrev bufTy : (tb : Table) → Fin (tcTables nBuf tb) → BufTy
  | .hbm, ⟨i, _⟩ => hbmTy i
  | .local _ .vmem, ⟨0, _⟩ => ⟨S96x1408, .f32⟩
  | .local _ .vmem, ⟨1, _⟩ => ⟨S96x1408, .bf16⟩
  | _, _ => ⟨S96x1408, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call4_call0_c : Ref sig .tc := ⟨.hbm, 89, rfl⟩
abbrev main_call4_call0_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call6_call0_c : Ref sig .tc := ⟨.hbm, 115, rfl⟩
abbrev main_call6_call0_v0 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_15 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_v99 : Ref sig .tc := ⟨.hbm, 136, rfl⟩
abbrev main_cst_16 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S96x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KChecks.lean ====
/-
  The side conditions the kernel's body assumes of the words it reads: every offset lies within its buffer and
  every loop has a meaning, as soon as the number of experts found is at most 64 and the expert numbers read
  back are below 64.
-/
module

public import proofs.«01_k».proof.Proof.Gen.Kernel
public import Idealize.ShloMosaic.Lib.LoopRemainder
public import Idealize.ShloMosaic.Lib.Affine

@[expose] public section

noncomputable section

namespace Cert.Kernel.Hand

open Cert.Kernel Cert.Kernel.Gen
open Idealize.ShloMosaic Idealize.SL.Sem

/-- The induction variable of a loop from 0 by steps of 1 is the trip's number. -/
theorem iv_eq (t : ℕ) : Scf.iv (0#32) (1#32) t = BitVec.ofNat 32 t := by
  unfold Scf.iv; simp

/-- The trip's number read back. -/
theorem iv_toNat {t : ℕ} (ht : t < 64) : (Scf.iv (0#32) (1#32) t).toNat = t := by
  rw [iv_eq, BitVec.toNat_ofNat]; omega

/-- The trip's number three steps ahead, read back. -/
theorem iv3_toNat {t : ℕ} (ht : t < 64) : (Scalar.addi (Scf.iv (0#32) (1#32) t) 3#32).toNat = t + 3 := by
  show (Scf.iv (0#32) (1#32) t + 3#32).toNat = _
  rw [BitVec.toNat_add, iv_toNat ht]; simp; omega

/-- The trip's number one step ahead, read back. -/
theorem iv1_toNat {t : ℕ} (ht : t < 64) : (Scalar.addi (Scf.iv (0#32) (1#32) t) 1#32).toNat = t + 1 := by
  show (Scf.iv (0#32) (1#32) t + 1#32).toNat = _
  rw [BitVec.toNat_add, iv_toNat ht]; simp; omega

/-- A number's slot of the ring of three. -/
theorem rem_toNat {w : BitVec 32} (hw : w.toNat < 128) : (Scalar.remsi w 3#32).toNat = w.toNat % 3 :=
  IntOp.toNat_remsi .scalar (by omega) 3 (by decide) (by decide)

/-- The main loop's trips are the number of experts found. -/
theorem trips2 {v : BitVec 32} (hv : v.toNat ≤ 64) : (k0_t2_loop v).trips = v.toNat := by
  show Scf.trips 0#32 (Scalar.addi 0#32 (Scalar.muli (Scalar.divsi (Scalar.subi v 0#32) 1#32) 1#32)) 1#32 = _
  rw [Scalar.muli_divsi_one]
  have h0 : Scalar.addi 0#32 (Scalar.subi v 0#32) = v := by
    show 0#32 + (v - 0#32) = v
    simp
  rw [h0]
  unfold Scf.trips
  have h1 : (1#32 : BitVec 32).toInt = 1 := by decide
  have h2 : (0#32 : BitVec 32).toInt = 0 := by decide
  have h3 : v.toInt = v.toNat := BitVec.toInt_eq_toNat_of_lt (by omega)
  rw [h1, h2, h3]; simp

/-- The main loop has a meaning. -/
theorem ok2 {v : BitVec 32} (hv : v.toNat ≤ 64) : (k0_t2_loop v).OK := by
  have ht := trips2 hv
  refine ⟨show 0 < (1#32 : BitVec 32).toInt by decide, ?_⟩
  show (0#32 : BitVec 32).toInt + ((k0_t2_loop v).trips : ℤ) * (1#32 : BitVec 32).toInt < 2 ^ (32 - 1)
  rw [ht]
  have h1 : (1#32 : BitVec 32).toInt = 1 := by decide
  have h2 : (0#32 : BitVec 32).toInt = 0 := by decide
  rw [h1, h2]; omega

/-- A trip of the main loop is below 64. -/
theorem t2_lt {v : BitVec 32} (hv : v.toNat ≤ 64) (t : Fin (k0_t2_loop v).trips) : t.val < 64 :=
  lt_of_lt_of_le t.isLt ((trips2 hv).le.trans hv)

/-- The remainder loop has no trip. -/
theorem no_t3 {v : BitVec 32} (t : Fin (k0_t3_loop v).trips) : False :=
  Scf.rem_no_trip 0#32 (Scalar.subi v 0#32) t

/-- The slot of a trip's expert is one of the three. -/
theorem slot_lt {v : BitVec 32} (hv : v.toNat ≤ 64) (t : Fin (k0_t2_loop v).trips) :
    (Scalar.remsi (Scf.iv (0#32) (1#32) t) 3#32).toNat < 3 := by
  have := t2_lt hv t
  rw [rem_toNat (by rw [iv_toNat this]; omega)]; exact Nat.mod_lt _ (by decide)

/-- The slot of the expert three ahead is one of the three. -/
theorem slot3_lt {v : BitVec 32} (hv : v.toNat ≤ 64) (t : Fin (k0_t2_loop v).trips) :
    (Scalar.remsi (Scalar.addi (Scf.iv (0#32) (1#32) t) 3#32) 3#32).toNat < 3 := by
  have := t2_lt hv t
  rw [rem_toNat (by rw [iv3_toNat this]; omega)]; exact Nat.mod_lt _ (by decide)

/-- One element of a list of 65 at a number below 65. -/
theorem inb65 {w : BitVec 32} (hw : w.toNat < 65) : ∀ a, (![w.toNat] : Fin 1 → ℕ) a + S1.size a ≤ S65.size a := by
  intro a; fin_cases a; show w.toNat + 1 ≤ 65; omega

/-- A tile of a slot of the weight ring. -/
theorem inbW {w : BitVec 32} (hw : w.toNat < 3) {b c : ℕ} (h : b + 64 ≤ 704 ∧ c + 256 ≤ 3072) :
    ∀ a, (![w.toNat, b, c] : Fin 3 → ℕ) a + S1x64x256.size a ≤ S3x704x3072.size a := by
  intro a; fin_cases a
  · show w.toNat + 1 ≤ 3; omega
  · exact h.1
  · exact h.2

/-- A row tile of a slot of the scale ring. -/
theorem inbS {w : BitVec 32} (hw : w.toNat < 3) {b c : ℕ} (h : b + 1 ≤ 11 ∧ c + 256 ≤ 3072) :
    ∀ a, (![w.toNat, b, c] : Fin 3 → ℕ) a + S1x1x256.size a ≤ S3x11x3072.size a := by
  intro a; fin_cases a
  · show w.toNat + 1 ≤ 3; omega
  · exact h.1
  · exact h.2

/-- A semaphore of the two rows of three. -/
theorem inbSem {w : BitVec 32} (hw : w.toNat < 3) {b : ℕ} (h : b < 2) :
    ∀ a, (![b, w.toNat] : Fin 2 → ℕ) a + S1x1.size a ≤ S2x3.size a := by
  intro a; fin_cases a
  · show b + 1 ≤ 2; omega
  · show w.toNat + 1 ≤ 3; omega

/-- A slot of the weight ring. -/
theorem inbSlotW {w : BitVec 32} (hw : w.toNat < 3) :
    ∀ a, (![w.toNat, 0, 0] : Fin 3 → ℕ) a + S1x704x3072.size a ≤ S3x704x3072.size a := by
  intro a; fin_cases a
  · show w.toNat + 1 ≤ 3; omega
  · exact le_refl _
  · exact le_refl _

/-- A slot of the scale ring. -/
theorem inbSlotS {w : BitVec 32} (hw : w.toNat < 3) :
    ∀ a, (![w.toNat, 0, 0] : Fin 3 → ℕ) a + S1x11x3072.size a ≤ S3x11x3072.size a := by
  intro a; fin_cases a
  · show w.toNat + 1 ≤ 3; omega
  · exact le_refl _
  · exact le_refl _

/-- An expert's block of the weights. -/
theorem inbExpW {w : BitVec 32} (hw : w.toNat < 64) :
    ∀ a, (![w.toNat, 0, 0] : Fin 3 → ℕ) a + S1x704x3072.size a ≤ S64x704x3072.size a := by
  intro a; fin_cases a
  · show w.toNat + 1 ≤ 64; omega
  · exact le_refl _
  · exact le_refl _

/-- An expert's block of the scales. -/
theorem inbExpS {w : BitVec 32} (hw : w.toNat < 64) :
    ∀ a, (![w.toNat, 0, 0] : Fin 3 → ℕ) a + S1x11x3072.size a ≤ S64x11x3072.size a := by
  intro a; fin_cases a
  · show w.toNat + 1 ≤ 64; omega
  · exact le_refl _
  · exact le_refl _

/-- A slot of the weight ring takes whole words. -/
theorem wordsSlotW {o : Fin 3 → ℕ} (h1 : o 1 = 0) (h : ∀ a, o a + S1x704x3072.size a ≤ S3x704x3072.size a) :
    (Rect.unit (s := S3x704x3072) o S1x704x3072.size h).WholeWords (EltTy.packing .i8) :=
  Or.inr ⟨by decide, rfl, h1, rfl⟩

/-- An expert's block of the weights takes whole words. -/
theorem wordsExpW {o : Fin 3 → ℕ} (h1 : o 1 = 0) (h : ∀ a, o a + S1x704x3072.size a ≤ S64x704x3072.size a) :
    (Rect.unit (s := S64x704x3072) o S1x704x3072.size h).WholeWords (EltTy.packing .i8) :=
  Or.inr ⟨by decide, rfl, h1, rfl⟩

/-- The next expert is started only while it is one of those found. -/
theorem cond4_lt {v : BitVec 32} (hv : v.toNat ≤ 64) (t : Fin (k0_t2_loop v).trips) :
    k0_cond4 v t = 1#1 ↔ t.val + 3 < v.toNat := by
  have ht := t2_lt hv t
  have h3 := iv3_toNat ht
  have key : (Scalar.addi (Scf.iv (0#32) (1#32) t) 3#32).slt v = decide (t.val + 3 < v.toNat) := by
    rw [BitVec.slt_eq_decide]
    rw [BitVec.toInt_eq_toNat_of_lt (by omega), BitVec.toInt_eq_toNat_of_lt (by omega), h3]
    simp only [decide_eq_decide]; omega
  show IntOp.cmpi .ne ((BitVec.ofBool ((Scalar.addi (Scf.iv (0#32) (1#32) t) 3#32).slt v)).setWidth 32) 0#32 = 1#1 ↔ _
  rw [key]
  by_cases h : t.val + 3 < v.toNat
  · simp only [h, decide_true, iff_true]; decide
  · simp only [h, decide_false, iff_false]; decide

/-- A trip's number names an element of a list of 65, -/
theorem inb65_t {v : BitVec 32} (hv : v.toNat ≤ 64) (t : Fin (k0_t2_loop v).trips) :
    ∀ a, (![(Scf.iv (0#32) (1#32) t).toNat] : Fin 1 → ℕ) a + S1.size a ≤ S65.size a :=
  inb65 (by rw [iv_toNat (t2_lt hv t)]; have := t2_lt hv t; omega)

/-- so does the next one, -/
theorem inb65_t1 {v : BitVec 32} (hv : v.toNat ≤ 64) (t : Fin (k0_t2_loop v).trips) :
    ∀ a, (![(Scalar.addi (Scf.iv (0#32) (1#32) t) 1#32).toNat] : Fin 1 → ℕ) a + S1.size a ≤ S65.size a :=
  inb65 (by rw [iv1_toNat (t2_lt hv t)]; have := t2_lt hv t; omega)

/-- and the one three ahead, where there is an expert to start. -/
theorem inb65_t3 {v : BitVec 32} (hv : v.toNat ≤ 64) (t : Fin (k0_t2_loop v).trips) (h : k0_cond4 v t = 1#1) :
    ∀ a, (![(Scalar.addi (Scf.iv (0#32) (1#32) t) 3#32).toNat] : Fin 1 → ℕ) a + S1.size a ≤ S65.size a :=
  inb65 (by rw [iv3_toNat (t2_lt hv t)]; have := (cond4_lt hv t).1 h; omega)

theorem chk2_0 {v : BitVec 32} (hv : v.toNat ≤ 64) : k0_chk2_0 v := by
  refine ⟨inb65 (w := v) (by omega), ok2 hv, fun t => inb65_t hv t,
    fun t => inbSem (slot_lt hv t) (by decide), fun t => inbSlotW (slot_lt hv t), fun t h => wordsSlotW rfl h,
    fun t => inbSem (slot_lt hv t) (by decide), fun t => inbSlotS (slot_lt hv t),
    fun t => inb65_t hv t, fun t => inb65_t1 hv t, ?_⟩
  repeat' apply And.intro
  all_goals first
    | exact fun t => inbW (slot_lt hv t) (by decide)
    | exact fun t => inbS (slot_lt hv t) (by decide)
theorem chk2_1 {v : BitVec 32} (hv : v.toNat ≤ 64) : k0_chk2_1 v := by
  unfold k0_chk2_1
  repeat' apply And.intro
  all_goals first
    | exact fun t => inbW (slot_lt hv t) (by decide)
    | exact fun t => inbS (slot_lt hv t) (by decide)
theorem chk2_2 {v : BitVec 32} (hv : v.toNat ≤ 64) : k0_chk2_2 v := by
  unfold k0_chk2_2
  repeat' apply And.intro
  all_goals first
    | exact fun t => inbW (slot_lt hv t) (by decide)
    | exact fun t => inbS (slot_lt hv t) (by decide)
theorem chk2_3 {v : BitVec 32} (hv : v.toNat ≤ 64) : k0_chk2_3 v := by
  unfold k0_chk2_3
  repeat' apply And.intro
  all_goals first
    | exact fun t => inbW (slot_lt hv t) (by decide)
    | exact fun t => inbS (slot_lt hv t) (by decide)
theorem chk2_4 {v : BitVec 32} (hv : v.toNat ≤ 64) : k0_chk2_4 v := by
  unfold k0_chk2_4
  repeat' apply And.intro
  all_goals first
    | exact fun t => inbW (slot_lt hv t) (by decide)
    | exact fun t => inbS (slot_lt hv t) (by decide)
theorem chk2_5 {v : BitVec 32} (hv : v.toNat ≤ 64) : k0_chk2_5 v := by
  unfold k0_chk2_5
  repeat' apply And.intro
  all_goals first
    | exact fun t => inbW (slot_lt hv t) (by decide)
    | exact fun t => inbS (slot_lt hv t) (by decide)
theorem chk2_6 {v : BitVec 32} (hv : v.toNat ≤ 64) : k0_chk2_6 v := by
  unfold k0_chk2_6
  repeat' apply And.intro
  all_goals first
    | exact fun t => inbW (slot_lt hv t) (by decide)
    | exact fun t => inbS (slot_lt hv t) (by decide)
theorem chk2_7 {v : BitVec 32} (hv : v.toNat ≤ 64) : k0_chk2_7 v := by
  unfold k0_chk2_7
  repeat' apply And.intro
  all_goals first
    | exact fun t => inbW (slot_lt hv t) (by decide)
    | exact fun t => inbS (slot_lt hv t) (by decide)
theorem chk2_8 {v : BitVec 32} (hv : v.toNat ≤ 64) : k0_chk2_8 v := by
  have W : ∀ t : Fin (k0_t2_loop v).trips, (Scalar.remsi (Scf.iv (0#32) (1#32) t) 3#32).toNat < 3 := slot_lt hv
  refine ⟨fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide),
    fun t h => inb65_t3 hv t h, fun t _ => inbSem (slot3_lt hv t) (by decide), fun t _ => inbSlotW (slot3_lt hv t),
    fun t _ h => wordsSlotW rfl h, fun t _ => inbSem (slot3_lt hv t) (by decide), fun t _ => inbSlotS (slot3_lt hv t),
    Scf.rem_ok 0#32 (Scalar.subi v 0#32), fun t => (no_t3 t).elim, fun t => (no_t3 t).elim, fun t => (no_t3 t).elim, fun t => (no_t3 t).elim, fun t => (no_t3 t).elim, fun t => (no_t3 t).elim, fun t => (no_t3 t).elim⟩
theorem chk2_9 {v : BitVec 32} (hv : v.toNat ≤ 64) : k0_chk2_9 v := by
  unfold k0_chk2_9
  repeat' apply And.intro
  all_goals exact fun t => (no_t3 t).elim
theorem chk2_10 {v : BitVec 32} (hv : v.toNat ≤ 64) : k0_chk2_10 v := by
  unfold k0_chk2_10
  repeat' apply And.intro
  all_goals exact fun t => (no_t3 t).elim
theorem chk2_11 {v : BitVec 32} (hv : v.toNat ≤ 64) : k0_chk2_11 v := by
  unfold k0_chk2_11
  repeat' apply And.intro
  all_goals exact fun t => (no_t3 t).elim
theorem chk2_12 {v : BitVec 32} (hv : v.toNat ≤ 64) : k0_chk2_12 v := by
  unfold k0_chk2_12
  repeat' apply And.intro
  all_goals exact fun t => (no_t3 t).elim
theorem chk2_13 {v : BitVec 32} (hv : v.toNat ≤ 64) : k0_chk2_13 v := by
  unfold k0_chk2_13
  repeat' apply And.intro
  all_goals exact fun t => (no_t3 t).elim
theorem chk2_14 {v : BitVec 32} (hv : v.toNat ≤ 64) : k0_chk2_14 v := by
  unfold k0_chk2_14
  repeat' apply And.intro
  all_goals exact fun t => (no_t3 t).elim
theorem chk2_15 {v : BitVec 32} (hv : v.toNat ≤ 64) : k0_chk2_15 v := by
  unfold k0_chk2_15
  repeat' apply And.intro
  all_goals exact fun t => (no_t3 t).elim
theorem chk2_16 {v : BitVec 32} (hv : v.toNat ≤ 64) : k0_chk2_16 v := by
  unfold k0_chk2_16
  repeat' apply And.intro
  all_goals exact fun t => (no_t3 t).elim
theorem chk2_17 {v : BitVec 32} (hv : v.toNat ≤ 64) : k0_chk2_17 v := by
  unfold k0_chk2_17
  repeat' apply And.intro
  all_goals exact fun t => (no_t3 t).elim

/-- Everything the body assumes once the experts are found. -/
theorem chk2 {v : BitVec 32} (hv : v.toNat ≤ 64) : k0_chk2 v :=
  ⟨chk2_0 hv, chk2_1 hv, chk2_2 hv, chk2_3 hv, chk2_4 hv, chk2_5 hv, chk2_6 hv, chk2_7 hv, chk2_8 hv, chk2_9 hv,
    chk2_10 hv, chk2_11 hv, chk2_12 hv, chk2_13 hv, chk2_14 hv, chk2_15 hv, chk2_16 hv, chk2_17 hv⟩

/-- What is assumed of the running count while the lists are built. -/
theorem chk1 {w : BitVec 32} (hw : w.toNat < 65) : k0_chk1 w := inb65 hw

/-- What is assumed of an expert's number, wherever one is read. -/
theorem chk3 {v w : BitVec 32} (hw : w.toNat < 64) : k0_chk3 v w :=
  ⟨fun _ => inbExpW hw, fun _ h => wordsExpW rfl h, fun _ => inbExpS hw⟩
theorem chk4 {v w : BitVec 32} (hw : w.toNat < 64) : k0_chk4 v w :=
  ⟨fun _ => inbExpW hw, fun _ h => wordsExpW rfl h, fun _ => inbExpS hw⟩
theorem chk5 {v w : BitVec 32} (hw : w.toNat < 64) : k0_chk5 v w :=
  ⟨fun _ => inbExpW hw, fun _ h => wordsExpW rfl h, fun _ => inbExpS hw⟩
theorem chk6 {w : BitVec 32} (hw : w.toNat < 64) : k0_chk6 w :=
  ⟨inbExpW hw, fun h => wordsExpW rfl h, inbExpS hw⟩
theorem chk7 {v w : BitVec 32} {t : Fin (k0_t2_loop v).trips} (hw : w.toNat < 64) : k0_chk7 v t w :=
  ⟨fun _ => inbExpW hw, fun _ h => wordsExpW rfl h, fun _ => inbExpS hw⟩

end Cert.Kernel.Hand

end
-- ==== Proof.KStep.lean ====
/-
  The grouped matmul kernel one operation at a time: the names of its ring slots, cells and expert blocks, and
  for each operation of the body a rule from what is held before it to what is held after it, over a continuation.
-/
module

public import proofs.«01_k».proof.Proof.KChecks
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Ring.Window
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the proof's assertions are about: the machine, with the pipeline library's user algebra beside the transfers' counters. -/
abbrev Asn (F : FTy → Type) : Type := sProp (MT nD τ sig Unit (Elt F) ℕ (Pipeline.UD sig nD τ) ℕ)

/-- What core `c` must hold to run `p` and end with `Q`. -/
abbrev Run (c : Dev nD) {α : Type} (p : Prog (TpuEff nD τ sig (Elt F) Λ₀ .tc) α) (Q : α → Asn F) : Asn F :=
  wp frame (wpE (defs₀ (F := F)) Variants.none (c : Thread nD τ) none) Set.univ p Q

/-- The core's waits, whatever they have been. -/
abbrev waits (c : Dev nD) : Asn F := iprop(∃ W, owes (c : Thread nD τ) 0 W)

section Rules

variable {α β : Type} (c : Dev nD) {P P' R : Asn F} {Q : α → Asn F}

/-- A program in two pieces: the second is met where the first returns. -/
theorem bind_step {p : Prog (TpuEff nD τ sig (Elt F) Λ₀ .tc) β} {k : β → Prog (TpuEff nD τ sig (Elt F) Λ₀ .tc) α}
    (h : P ⊢ Run c p (fun a => Run c (k a) Q)) : P ⊢ Run c (p >>= k) Q := by
  unfold Run; rw [Sem.wp_bind]; exact h

/-- A program that has ended. -/
theorem pure_step {a : α} (h : P ⊢ Q a) : P ⊢ Run c (pure a : Prog (TpuEff nD τ sig (Elt F) Λ₀ .tc) α) Q := by
  unfold Run; rw [Sem.wp_pure]
  exact h.trans fupd_intro

/-- An assumption that holds. -/
theorem assume_step {p : Prop} {d : Decidable p} {k : PLift p → Prog (TpuEff nD τ sig (Elt F) Λ₀ .tc) α} (hp : p)
    (h : P ⊢ Run c (k ⟨hp⟩) Q) : P ⊢ Run c (Prog.lift (.assume p d) >>= k) Q :=
  h.trans (wp_assume Variants.none (c : Thread nD τ) none Set.univ hp)

/-- A vector load from a buffer of which enough elements are held. -/
theorem load_step {cs : CoreSpace} {s : Shape} {e : EltTy} {m : Memref sig .tc cs s e} {r : LoadRect s} {hl : m.view.LoadsAt r}
    {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    (hS : m.view.setOn r.set ⊆ S) (hP : P ⊢ iprop((m.view.loc (c : Thread nD τ) ↦[S]{q} f) ∗ R))
    (hP' : iprop((m.view.loc (c : Thread nD τ) ↦[S]{q} f) ∗ R) ⊢ P)
    (h : P ⊢ Run c (k (m.view.readAt (Elt F) r f)) Q) : P ⊢ Run c (Prog.lift (.load m r hl) >>= k) Q := by
  refine hP.trans ?_
  iintro ⟨Hm, HR⟩
  iapply (wp_load Variants.none (c : Thread nD τ) none Set.univ hS) $$ Hm
  iintro Hm
  iapply (hP'.trans h)
  isplitl [Hm] <;> iassumption

/-- A load of one word from scalar memory. -/
theorem word_step {s : Shape} {e : EltTy} {m : Memref sig .tc .smem s e} {r : Rect s} {h1 : r.shape.numel = 1} {hp : e.packing = 1}
    {k : Elt F e → Prog (TpuEff nD τ sig (Elt F) Λ₀ .tc) α}
    {S : Finset (Idx (m.view.loc (c : Thread nD τ)))} {q : PosShare TreeShare} {f : Buf (Elt F) (m.view.loc (c : Thread nD τ))}
    (hS : (m.access r).set ⊆ S) (hP : P ⊢ iprop((m.view.loc (c : Thread nD τ) ↦[S]{q} f) ∗ R))
    (hP' : iprop((m.view.loc (c : Thread nD τ) ↦[S]{q} f) ∗ R) ⊢ P)
    (h : P ⊢ Run c (k ((m.access r).read (Elt F) f (Shape.Idx.first (h1.symm ▸ Nat.one_pos)))) Q) :
    P ⊢ Run c (smemLoad m r h1 hp >>= k) Q := by
  refine hP.trans ?_
  iintro ⟨Hm, HR⟩
  iapply (wp_load_rect Variants.none (c : Thread nD τ) none Set.univ
    (k := fun f => k (f (Shape.Idx.first (h1.symm ▸ Nat.one_pos)))) hS) $$ Hm
  iintro Hm
  iapply (hP'.trans h)
  isplitl [Hm] <;> iassumption

/-- A vector store, masked or not. -/
theorem store_step {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    {k : PUnit → Prog (TpuEff nD τ sig (Elt F) Λ₀ .tc) α}
    {S : Finset (Idx ((m.access r).loc (c : Thread nD τ)))} {f : Buf (Elt F) ((m.access r).loc (c : Thread nD τ))}
    (hS : (m.access r).setOn Mk ⊆ S) (hP : P ⊢ iprop(((m.access r).loc (c : Thread nD τ) ↦[S]{fullShare} f) ∗ R))
    (hP' : iprop(((m.access r).loc (c : Thread nD τ) ↦[S]{fullShare} ((m.access r).write (Elt F) f w Mk)) ∗ R) ⊢ P')
    (h : P' ⊢ Run c (k ⟨⟩) Q) : P ⊢ Run c (Prog.lift (.store m r w Mk hx hm) >>= k) Q := by
  refine hP.trans ?_
  iintro ⟨Hm, HR⟩
  iapply (wp_store Variants.none (c : Thread nD τ) none Set.univ hS) $$ Hm
  iintro Hm
  iapply (hP'.trans h)
  isplitl [Hm] <;> iassumption

/-- The start of a copy: its source's own elements, its destination and its cell at zero are given up for the flight. -/
theorem start_step {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (p := Proc.tc) sp sm (.here dst)}
    {k : PUnit → Prog (TpuEff nD τ sig (Elt F) Λ₀ .tc) α} {q : PosShare TreeShare}
    {fs : Buf (Elt F) (src.view.loc (c : Thread nD τ))} {fd : Buf (Elt F) (dst.view.loc (c : Thread nD τ))} (N : ℕ)
    (hN : dst.view.amount sm = N) (hN0 : 0 < N)
    (hP : P ⊢ iprop(((src.view.loc (c : Thread nD τ) ↦[src.view.set]{q} fs) ∗ (dst.view.loc (c : Thread nD τ) ↦[dst.view.set]{fullShare} fd)
      ∗ semVal ((c : Thread nD τ), sm) 0) ∗ R))
    (h : iprop(Transfers.Flight (countersEmb (U := Pipeline.UD sig nD τ)) (c : Thread nD τ) sm () N
        iprop((dst.view.loc (c : Thread nD τ) ↦[dst.view.set]{fullShare} (dst.view.write (Elt F) fd (src.view.read (Elt F) fs) Finset.univ))
          ∗ (src.view.loc (c : Thread nD τ) ↦[src.view.set]{q} fs)) ∗ R) ⊢ Run c (k ⟨⟩) Q) :
    P ⊢ Run c (Prog.lift (.enqueueDma src (.here dst) sm hsrc hdst hsem) >>= k) Q := by
  refine hP.trans ?_
  iintro ⟨H, HR⟩
  iapply (Transfers.wp_dmaLocal (countersEmb (U := Pipeline.UD sig nD τ)) Variants.none (c : Thread nD τ) none () N hN hN0
    (Finset.Subset.refl _)) $$ H
  iintro Hf
  iapply h
  isplitl [Hf] <;> iassumption

/-- The wait for a copy: what it delivers comes back, its cell at zero. -/
theorem wait_step {sp sp' : Space} {s : Shape} {e : EltTy} {s' : Shape} {e' : EltTy} {src : Memref sig .tc sp s e}
    {dst : Memref sig .tc sp' s' e'} {sem : DmaSem sig} {hsrc : src.view.WordExact} {hdst : dst.view.WordExact}
    {k : PUnit → Prog (TpuEff nD τ sig (Elt F) Λ₀ .tc) α} {N : ℕ} (hN : dst.view.dmaCredit = N) {D : Asn F}
    (hP : P ⊢ iprop(Transfers.Flight (countersEmb (U := Pipeline.UD sig nD τ)) (c : Thread nD τ) (.dma sem) () N D ∗ waits c ∗ R))
    (h : iprop(D ∗ semVal ((c : Thread nD τ), SemLoc.dma sem) 0 ∗ waits c ∗ R) ⊢ Run c (k ⟨⟩) Q) :
    P ⊢ Run c (Prog.lift (.waitDma2 sem src dst hsrc hdst) >>= k) Q := by
  refine hP.trans ?_
  iintro ⟨Hf, ⟨%W, HW⟩, HR⟩
  iapply (Transfers.wp_waitLocal (countersEmb (U := Pipeline.UD sig nD τ)) Variants.none (c : Thread nD τ) none () hN) $$ [Hf HW]
  · isplitl [Hf] <;> iassumption
  iintro ⟨HD, Hs, HW⟩
  iapply h
  isplitl [HD]; · iexact HD
  isplitl [Hs]; · iexact Hs
  isplitl [HW]; · iexists _; iexact HW
  iexact HR

end Rules

end Cert.Kernel.Hand

end
-- ==== Proof.KTile.lean ====
/-
  What one trip of the kernel's main loop computes: the tile of a slot's packed weights and of its scales a load
  reads, the dequantised weight of one column tile, its product with the activations, and the rows of the result
  it replaces. The ring's slots and the experts' blocks are named here too, with the elements they are made of.
-/
module

public import proofs.«01_k».proof.Proof.KStep
public import Idealize.ShloMosaic.Lib.Pointwise

@[expose] public section

noncomputable section

namespace Cert.Kernel.Hand

open Cert.Kernel Cert.Kernel.Gen
open Idealize.ShloMosaic Idealize.ShloMosaic.TcCoe Idealize.ShloMosaic.Tactic

variable {F : FTy → Type} [FloatOps F]

/-! ## The buffers -/

abbrev hbW : Memref sig .tc .hbm S64x704x3072 .i8 := Memref.whole main_arg2
abbrev hbS : Memref sig .tc .hbm S64x11x3072 .f32 := Memref.whole main_arg3
abbrev bW : Memref sig .tc .vmem S3x704x3072 .i8 := Memref.whole cc0_scratch0
abbrev bS : Memref sig .tc .vmem S3x11x3072 .f32 := Memref.whole cc0_scratch1
abbrev bX : Memref sig .tc .vmem S96x1408 .bf16 := Memref.whole cc0_scratch2
abbrev bY : Memref sig .tc .vmem S96x3072 .f32 := Memref.whole cc0_scratch3
abbrev bL : Memref sig .tc .smem S65 .i32 := Memref.whole cc0_scratch4
abbrev bA : Memref sig .tc .smem S65 .i32 := Memref.whole cc0_scratch5

/-- A slot lies within its buffer. -/
theorem atSlotW (k : Fin 3) : ∀ a, (![k.val, 0, 0] : Fin 3 → ℕ) a + S1x704x3072.size a ≤ S3x704x3072.size a := by
  intro a; have := k.isLt; fin_cases a <;> simp [S1x704x3072, S3x704x3072] <;> omega
/-- A slot lies within its buffer. -/
theorem atSlotS (k : Fin 3) : ∀ a, (![k.val, 0, 0] : Fin 3 → ℕ) a + S1x11x3072.size a ≤ S3x11x3072.size a := by
  intro a; have := k.isLt; fin_cases a <;> simp [S1x11x3072, S3x11x3072] <;> omega
/-- An expert's block lies within its buffer. -/
theorem atExpW (e : Fin 64) : ∀ a, (![e.val, 0, 0] : Fin 3 → ℕ) a + S1x704x3072.size a ≤ S64x704x3072.size a := by
  intro a; have := e.isLt; fin_cases a <;> simp [S1x704x3072, S64x704x3072] <;> omega
/-- An expert's block lies within its buffer. -/
theorem atExpS (e : Fin 64) : ∀ a, (![e.val, 0, 0] : Fin 3 → ℕ) a + S1x11x3072.size a ≤ S64x11x3072.size a := by
  intro a; have := e.isLt; fin_cases a <;> simp [S1x11x3072, S64x11x3072] <;> omega
/-- A cell lies within the cells. -/
theorem atCell (r : Fin 2) (k : Fin 3) : ∀ a, (![r.val, k.val] : Fin 2 → ℕ) a + S1x1.size a ≤ S2x3.size a := by
  intro a; have := r.isLt; have := k.isLt; fin_cases a <;> simp [S1x1, S2x3] <;> omega

/-- Slot `k` of the weights' ring. -/
abbrev slotW (k : Fin 3) : Memref sig .tc .vmem S704x3072 .i8 :=
  (bW.slice (Rect.unit (s := S3x704x3072) ![k.val, 0, 0] S1x704x3072.size (atSlotW k)) (fun _ => rfl)).squeeze S704x3072
    squeezes_S1x704x3072_S704x3072
/-- Slot `k` of the scales' ring. -/
abbrev slotS (k : Fin 3) : Memref sig .tc .vmem S11x3072 .f32 :=
  (bS.slice (Rect.unit (s := S3x11x3072) ![k.val, 0, 0] S1x11x3072.size (atSlotS k)) (fun _ => rfl)).squeeze S11x3072
    squeezes_S1x11x3072_S11x3072
/-- Expert `e`'s packed weights. -/
abbrev expW (e : Fin 64) : Memref sig .tc .hbm S704x3072 .i8 :=
  (hbW.slice (Rect.unit (s := S64x704x3072) ![e.val, 0, 0] S1x704x3072.size (atExpW e)) (fun _ => rfl)).squeeze S704x3072
    squeezes_S1x704x3072_S704x3072
/-- Expert `e`'s scales. -/
abbrev expS (e : Fin 64) : Memref sig .tc .hbm S11x3072 .f32 :=
  (hbS.slice (Rect.unit (s := S64x11x3072) ![e.val, 0, 0] S1x11x3072.size (atExpS e)) (fun _ => rfl)).squeeze S11x3072
    squeezes_S1x11x3072_S11x3072
/-- The cell of slot `k` of the weights' ring. -/
abbrev cellW (k : Fin 3) : DmaSem sig :=
  ((cc0_scratch6.slice (Rect.unit (s := S2x3) ![0, k.val] S1x1.size (atCell 0 k))).squeeze S_ squeezes_S1x1_S_).sem
/-- The cell of slot `k` of the scales' ring. -/
abbrev cellS (k : Fin 3) : DmaSem sig :=
  ((cc0_scratch6.slice (Rect.unit (s := S2x3) ![1, k.val] S1x1.size (atCell 1 k))).squeeze S_ squeezes_S1x1_S_).sem

/-- Where slot `k`'s elements lie in the weights' ring. -/
theorem slotW_emb (k : Fin 3) (x : S704x3072.Idx) : (slotW k).view.emb x = ix3 k (x 0) (x 1) := by
  show (Rect.unit (s := S3x704x3072) ![k.val, 0, 0] S1x704x3072.size _).emb (Shape.reshapeEquiv _ x) = _
  rw [Shape.reshapeEquiv_cons_one (n := 2) (d := ![704, 3072])]
  funext a
  refine Fin.ext ?_
  rw [Rect.emb_apply]
  fin_cases a <;> simp [ix3] <;> rfl

/-- Where slot `k`'s elements lie in the scales' ring. -/
theorem slotS_emb (k : Fin 3) (x : S11x3072.Idx) : (slotS k).view.emb x = ix3 k (x 0) (x 1) := by
  show (Rect.unit (s := S3x11x3072) ![k.val, 0, 0] S1x11x3072.size _).emb (Shape.reshapeEquiv _ x) = _
  rw [Shape.reshapeEquiv_cons_one (n := 2) (d := ![11, 3072])]
  funext a
  refine Fin.ext ?_
  rw [Rect.emb_apply]
  fin_cases a <;> simp [ix3] <;> rfl

/-- Where expert `e`'s packed weights lie among all the experts'. -/
theorem expW_emb (e : Fin 64) (x : S704x3072.Idx) : (expW e).view.emb x = ix3 e (x 0) (x 1) := by
  show (Rect.unit (s := S64x704x3072) ![e.val, 0, 0] S1x704x3072.size _).emb (Shape.reshapeEquiv _ x) = _
  rw [Shape.reshapeEquiv_cons_one (n := 2) (d := ![704, 3072])]
  funext a
  refine Fin.ext ?_
  rw [Rect.emb_apply]
  fin_cases a <;> simp [ix3] <;> rfl

/-- Where expert `e`'s scales lie among all the experts'. -/
theorem expS_emb (e : Fin 64) (x : S11x3072.Idx) : (expS e).view.emb x = ix3 e (x 0) (x 1) := by
  show (Rect.unit (s := S64x11x3072) ![e.val, 0, 0] S1x11x3072.size _).emb (Shape.reshapeEquiv _ x) = _
  rw [Shape.reshapeEquiv_cons_one (n := 2) (d := ![11, 3072])]
  funext a
  refine Fin.ext ?_
  rw [Rect.emb_apply]
  fin_cases a <;> simp [ix3] <;> rfl

/-! ## One trip's arithmetic -/

/-- The 64 rows from `b` on and the 256 columns from `c` on of a slot's packed weights. -/
def tW (wv : S704x3072.Idx → Elt F .i8) (b c : ℕ) : S1x64x256.Idx → Elt F .i8 :=
  fun i => wv (ix2 (Fin.ofNat 704 (b + (i 1).val)) (Fin.ofNat 3072 (c + (i 2).val)))

/-- The 256 columns from `c` on of group `b`'s scales. -/
def tS (sv : S11x3072.Idx → Elt F .f32) (b c : ℕ) : S1x1x256.Idx → Elt F .f32 :=
  fun i => sv (ix2 (Fin.ofNat 11 (b + (i 1).val)) (Fin.ofNat 3072 (c + (i 2).val)))

/-- Group `g`'s 128 dequantised rows of the column tile from `c` on. -/
abbrev deq (wv : S704x3072.Idx → Elt F .i8) (sv : S11x3072.Idx → Elt F .f32) (b g c : ℕ) : FVec F S128x256 .bf16 :=
  k0_pay6 k0_pay2 (tW wv b c) (tS sv g c)

/-- The dequantised column tile from `c` on: the eleven groups one above the other. -/
def deqTile (wv : S704x3072.Idx → Elt F .i8) (sv : S11x3072.Idx → Elt F .f32) (c : ℕ) : FVec F S1408x256 .bf16 :=
  concatenate S1408x256 0 [⟨S128x256, deq wv sv 0 0 c⟩, ⟨S128x256, deq wv sv 64 1 c⟩, ⟨S128x256, deq wv sv 128 2 c⟩,
    ⟨S128x256, deq wv sv 192 3 c⟩, ⟨S128x256, deq wv sv 256 4 c⟩, ⟨S128x256, deq wv sv 320 5 c⟩, ⟨S128x256, deq wv sv 384 6 c⟩,
    ⟨S128x256, deq wv sv 448 7 c⟩, ⟨S128x256, deq wv sv 512 8 c⟩, ⟨S128x256, deq wv sv 576 9 c⟩, ⟨S128x256, deq wv sv 640 10 c⟩]
    concatenates_S128x256_S128x256_S128x256_S128x256_S128x256_S128x256_S128x256_S128x256_S128x256_S128x256_S128x256_S1408x256_d0

/-- The activations times the dequantised column tile from `c` on. -/
abbrev tilePay (wv : S704x3072.Idx → Elt F .i8) (sv : S11x3072.Idx → Elt F .f32) (xs : Vec F S96x1408 .bf16) (c : ℕ) : FVec F S96x256 .f32 :=
  k0_pay16 (deqTile wv sv c) xs

/-- The result with the marked rows of the column tile from `c` on replaced. -/
def yPut (c : ℕ) (pay : FVec F S96x256 .f32) (mask : IVec S96x256 1) (y : S96x3072.Idx → Elt F .f32) : S96x3072.Idx → Elt F .f32 :=
  fun i => if c ≤ (i 1).val ∧ (i 1).val < c + 256 ∧ mask (ix2 (i 0) (Fin.ofNat 256 ((i 1).val - c))) = 1#1
    then pay (ix2 (i 0) (Fin.ofNat 256 ((i 1).val - c))) else y i

/-- The result after the first `j` column tiles of one expert. -/
def yTo (wv : S704x3072.Idx → Elt F .i8) (sv : S11x3072.Idx → Elt F .f32) (xs : Vec F S96x1408 .bf16) (lo hi : Elt F .i32)
    (y : S96x3072.Idx → Elt F .f32) : ℕ → S96x3072.Idx → Elt F .f32
  | 0 => y
  | j + 1 => yPut (256 * j) (tilePay wv sv xs (256 * j)) (k0_pay17 (k0_pay3 (F := F) lo hi)) (yTo wv sv xs lo hi y j)

end Cert.Kernel.Hand

end
-- ==== Proof.KTrip.lean ====
/-
  The arithmetic of one trip of the kernel's main loop: what is held while a trip computes, and a rule for each
  kind of load and for the masked store of a column tile.
-/
module

public import proofs.«01_k».proof.Proof.KTile
public import Idealize.ShloMosaic.Lib.TopK.GroupedStream

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A tile of a slot's weights lies in the slot. -/
theorem tile_sub_W (k : Fin 3) {o : Fin 3 → ℕ} (h : ∀ a, o a + S1x64x256.size a ≤ S3x704x3072.size a) (h0 : o 0 = k.val) :
    bW.view.setOn (Rect.unit (s := S3x704x3072) o S1x64x256.size h).toLoadRect.set ⊆ (slotW k).view.set := by
  intro i hi
  obtain ⟨y, hy, rfl⟩ := Finset.mem_map.mp hi
  have hm := (Rect.mem_set_unit).mp hy
  have e : bW.view.emb y = (slotW k).view.emb (ix2 (y 1) (y 2)) := by
    rw [slotW_emb]
    funext a
    fin_cases a
    · refine Fin.ext ?_
      have := hm 0
      have h1 : S1x64x256.size 0 = 1 := rfl
      show (y 0).val = k.val
      omega
    · rfl
    · rfl
  show bW.view.emb y ∈ _
  rw [e]; exact View.emb_mem_set _ _

/-- A group's scales over a tile lie in the slot. -/
theorem tile_sub_S (k : Fin 3) {o : Fin 3 → ℕ} (h : ∀ a, o a + S1x1x256.size a ≤ S3x11x3072.size a) (h0 : o 0 = k.val) :
    bS.view.setOn (Rect.unit (s := S3x11x3072) o S1x1x256.size h).toLoadRect.set ⊆ (slotS k).view.set := by
  intro i hi
  obtain ⟨y, hy, rfl⟩ := Finset.mem_map.mp hi
  have hm := (Rect.mem_set_unit).mp hy
  have e : bS.view.emb y = (slotS k).view.emb (ix2 (y 1) (y 2)) := by
    rw [slotS_emb]
    funext a
    fin_cases a
    · refine Fin.ext ?_
      have := hm 0
      have h1 : S1x1x256.size 0 = 1 := rfl
      show (y 0).val = k.val
      omega
    · rfl
    · rfl
  show bS.view.emb y ∈ _
  rw [e]; exact View.emb_mem_set _ _

/-- What a load of a tile of a slot's weights reads. -/
theorem tile_read_W (k : Fin 3) {o : Fin 3 → ℕ} (h : ∀ a, o a + S1x64x256.size a ≤ S3x704x3072.size a) {b cc : ℕ}
    (h0 : o = ![k.val, b, cc]) (f : bW.view.ty.Contents (Elt F)) :
    bW.view.readAt (Elt F) (Rect.unit (s := S3x704x3072) o S1x64x256.size h).toLoadRect f
      = tW ((slotW k).view.read (Elt F) f) b cc := by
  subst h0
  funext i
  show f ((Rect.unit (s := S3x704x3072) ![k.val, b, cc] S1x64x256.size h).emb i) = f ((slotW k).view.emb _)
  rw [slotW_emb]
  congr 1
  funext a
  refine Fin.ext ?_
  have hb : b + 64 ≤ 704 := h 1
  have hc : cc + 256 ≤ 3072 := h 2
  have h1 : (i 0).val < 1 := (i 0).isLt
  have h2 : (i 1).val < 64 := (i 1).isLt
  have h3 : (i 2).val < 256 := (i 2).isLt
  rw [Rect.emb_apply]
  fin_cases a
  · show k.val + 1 * (i 0).val = k.val; omega
  · show b + 1 * (i 1).val = (b + (i 1).val) % 704; rw [Nat.mod_eq_of_lt (by omega)]; omega
  · show cc + 1 * (i 2).val = (cc + (i 2).val) % 3072; rw [Nat.mod_eq_of_lt (by omega)]; omega

/-- What a load of a group's scales over a tile reads. -/
theorem tile_read_S (k : Fin 3) {o : Fin 3 → ℕ} (h : ∀ a, o a + S1x1x256.size a ≤ S3x11x3072.size a) {b cc : ℕ}
    (h0 : o = ![k.val, b, cc]) (f : bS.view.ty.Contents (Elt F)) :
    bS.view.readAt (Elt F) (Rect.unit (s := S3x11x3072) o S1x1x256.size h).toLoadRect f
      = tS ((slotS k).view.read (Elt F) f) b cc := by
  subst h0
  funext i
  show f ((Rect.unit (s := S3x11x3072) ![k.val, b, cc] S1x1x256.size h).emb i) = f ((slotS k).view.emb _)
  rw [slotS_emb]
  congr 1
  funext a
  refine Fin.ext ?_
  have hb : b + 1 ≤ 11 := h 1
  have hc : cc + 256 ≤ 3072 := h 2
  have h1 : (i 0).val < 1 := (i 0).isLt
  have h2 : (i 1).val < 1 := (i 1).isLt
  have h3 : (i 2).val < 256 := (i 2).isLt
  rw [Rect.emb_apply]
  fin_cases a
  · show k.val + 1 * (i 0).val = k.val; omega
  · show b + 1 * (i 1).val = (b + (i 1).val) % 11; rw [Nat.mod_eq_of_lt (by omega)]; omega
  · show cc + 1 * (i 2).val = (cc + (i 2).val) % 3072; rw [Nat.mod_eq_of_lt (by omega)]; omega

/-- What the masked store of a column tile leaves. -/
theorem tile_write (cc : ℕ) (h : ∀ a, (![0, cc] : Fin 2 → ℕ) a + S96x256.size a ≤ S96x3072.size a) (f : bY.view.ty.Contents (Elt F))
    (pay : FVec F S96x256 .f32) (mask : IVec S96x256 1) :
    (bY.access (Rect.unit (s := S96x3072) ![0, cc] S96x256.size h)).write (Elt F) f pay (IVec.on mask) = yPut cc pay mask f := by
  funext i
  have hc : cc + 256 ≤ 3072 := h 1
  by_cases hr : cc ≤ (i 1).val ∧ (i 1).val < cc + 256
  · have hi : i = (bY.access (Rect.unit (s := S96x3072) ![0, cc] S96x256.size h)).emb (ix2 (i 0) (Fin.ofNat 256 ((i 1).val - cc))) := by
      show i = (Rect.unit (s := S96x3072) ![0, cc] S96x256.size h).emb _
      funext a
      refine Fin.ext ?_
      rw [Rect.emb_apply]
      fin_cases a
      · show (i 0).val = 0 + 1 * (i 0).val; omega
      · show (i 1).val = cc + 1 * (((i 1).val - cc) % 256); rw [Nat.mod_eq_of_lt (by omega)]; omega
    conv_lhs => rw [hi]
    rw [View.write_emb, ← hi]
    unfold yPut
    by_cases hm : mask (ix2 (i 0) (Fin.ofNat 256 ((i 1).val - cc))) = 1#1
    · exact (if_pos ((IVec.mem_on_iff _ _).mpr hm)).trans (if_pos ⟨hr.1, hr.2, hm⟩).symm
    · exact (if_neg (fun hh => hm ((IVec.mem_on_iff _ _).mp hh))).trans (if_neg (fun hh => hm hh.2.2)).symm
  · rw [View.write_of_not_mem]
    · unfold yPut
      rw [if_neg (fun hh => hr ⟨hh.1, hh.2.1⟩)]
    · intro hi
      obtain ⟨y, hy, rfl⟩ := Finset.mem_map.mp hi
      apply hr
      have e : (((bY.access (Rect.unit (s := S96x3072) ![0, cc] S96x256.size h)).emb y) 1).val = cc + (y 1).val := by
        show ((Rect.unit (s := S96x3072) ![0, cc] S96x256.size h).emb y 1).val = _
        rw [Rect.emb_apply]
        show cc + 1 * (y 1).val = _
        omega
      rw [e]
      have : (y 1).val < 256 := (y 1).isLt
      omega

/-! ## What is held while a trip computes -/

variable (c : Dev nD)

/-- While a trip computes: the slot's weights and scales, the activations, and the result so far. -/
def Cmp (k : Fin 3) (fw : bW.view.ty.Contents (Elt F)) (fs : bS.view.ty.Contents (Elt F)) (xs : Vec F S96x1408 .bf16) (R : Asn F)
    (y : S96x3072.Idx → Elt F .f32) : Asn F :=
  iprop(((slotW k).view.loc (c : Thread nD τ) ↦[(slotW k).view.set]{fullShare} fw)
    ∗ ((slotS k).view.loc (c : Thread nD τ) ↦[(slotS k).view.set]{fullShare} fs)
    ∗ (bX.view.loc (c : Thread nD τ) ↦[Finset.univ]{fullShare} xs) ∗ (bY.view.loc (c : Thread nD τ) ↦[Finset.univ]{fullShare} y) ∗ R)

section

variable {α : Type} {Q : α → Asn F} {k : Fin 3} {fw : bW.view.ty.Contents (Elt F)} {fs : bS.view.ty.Contents (Elt F)}
  {wv : S704x3072.Idx → Elt F .i8} {sv : S11x3072.Idx → Elt F .f32} {xs : Vec F S96x1408 .bf16} {R : Asn F} {y : S96x3072.Idx → Elt F .f32}

/-- A load of a tile of the slot's weights. -/
theorem load_w {w : BitVec 32} (hwk : w.toNat = k.val) (hwv : (slotW k).view.read (Elt F) fw = wv) {o : Fin 3 → ℕ}
    {h : ∀ a, o a + S1x64x256.size a ≤ S3x704x3072.size a}
    {hl : bW.view.LoadsAt (Rect.unit (s := S3x704x3072) o S1x64x256.size h).toLoadRect}
    {kk : (S1x64x256.Idx → Elt F .i8) → Prog (TpuEff nD τ sig (Elt F) Λ₀ .tc) α} {b cc : ℕ} (ho : o = ![w.toNat, b, cc])
    (H : Cmp c k fw fs xs R y ⊢ Run c (kk (tW wv b cc)) Q) :
    Cmp c k fw fs xs R y ⊢ Run c (Prog.lift (.load bW (Rect.unit (s := S3x704x3072) o S1x64x256.size h).toLoadRect hl) >>= kk) Q := by
  have ho' : o = ![k.val, b, cc] := by rw [ho, hwk]
  refine load_step c (S := (slotW k).view.set) (q := fullShare) (f := fw) (R := iprop(((slotS k).view.loc (c : Thread nD τ) ↦[(slotS k).view.set]{fullShare} fs)
    ∗ (bX.view.loc (c : Thread nD τ) ↦[Finset.univ]{fullShare} xs) ∗ (bY.view.loc (c : Thread nD τ) ↦[Finset.univ]{fullShare} y) ∗ R))
    (tile_sub_W k h (by rw [ho']; rfl)) .rfl .rfl ?_
  rw [tile_read_W k h ho', hwv]; exact H

/-- A load of a group's scales over a tile. -/
theorem load_s {w : BitVec 32} (hwk : w.toNat = k.val) (hsv : (slotS k).view.read (Elt F) fs = sv) {o : Fin 3 → ℕ}
    {h : ∀ a, o a + S1x1x256.size a ≤ S3x11x3072.size a}
    {hl : bS.view.LoadsAt (Rect.unit (s := S3x11x3072) o S1x1x256.size h).toLoadRect}
    {kk : (S1x1x256.Idx → Elt F .f32) → Prog (TpuEff nD τ sig (Elt F) Λ₀ .tc) α} {b cc : ℕ} (ho : o = ![w.toNat, b, cc])
    (H : Cmp c k fw fs xs R y ⊢ Run c (kk (tS sv b cc)) Q) :
    Cmp c k fw fs xs R y ⊢ Run c (Prog.lift (.load bS (Rect.unit (s := S3x11x3072) o S1x1x256.size h).toLoadRect hl) >>= kk) Q := by
  have ho' : o = ![k.val, b, cc] := by rw [ho, hwk]
  refine load_step c (S := (slotS k).view.set) (q := fullShare) (f := fs) (R := iprop(((slotW k).view.loc (c : Thread nD τ) ↦[(slotW k).view.set]{fullShare} fw)
    ∗ (bX.view.loc (c : Thread nD τ) ↦[Finset.univ]{fullShare} xs) ∗ (bY.view.loc (c : Thread nD τ) ↦[Finset.univ]{fullShare} y) ∗ R))
    (tile_sub_S k h (by rw [ho']; rfl)) ?_ ?_ ?_
  · unfold Cmp; iintro ⟨H1, H2, H3⟩; isplitl [H2]; · iexact H2
    isplitl [H1]; · iexact H1
    iexact H3
  · unfold Cmp; iintro ⟨H1, H2, H3⟩; isplitl [H2]; · iexact H2
    isplitl [H1]; · iexact H1
    iexact H3
  rw [tile_read_S k h ho', hsv]; exact H

/-- The load of the activations. -/
theorem load_x {h : ∀ a, (![0, 0] : Fin 2 → ℕ) a + S96x1408.size a ≤ S96x1408.size a}
    {hl : bX.view.LoadsAt (Rect.unit (s := S96x1408) ![0, 0] S96x1408.size h).toLoadRect}
    {kk : (S96x1408.Idx → Elt F .bf16) → Prog (TpuEff nD τ sig (Elt F) Λ₀ .tc) α}
    (H : Cmp c k fw fs xs R y ⊢ Run c (kk xs) Q) :
    Cmp c k fw fs xs R y ⊢ Run c (Prog.lift (.load bX (Rect.unit (s := S96x1408) ![0, 0] S96x1408.size h).toLoadRect hl) >>= kk) Q := by
  refine load_step c (S := Finset.univ) (q := fullShare) (f := xs) (R := iprop(((slotW k).view.loc (c : Thread nD τ) ↦[(slotW k).view.set]{fullShare} fw)
    ∗ ((slotS k).view.loc (c : Thread nD τ) ↦[(slotS k).view.set]{fullShare} fs)
    ∗ (bY.view.loc (c : Thread nD τ) ↦[Finset.univ]{fullShare} y) ∗ R)) (Finset.subset_univ _) ?_ ?_ ?_
  · unfold Cmp; iintro ⟨H1, H2, H3, H4⟩; isplitl [H3]; · iexact H3
    isplitl [H1]; · iexact H1
    isplitl [H2]; · iexact H2
    iexact H4
  · unfold Cmp; iintro ⟨H3, H1, H2, H4⟩; isplitl [H1]; · iexact H1
    isplitl [H2]; · iexact H2
    isplitl [H3]; · iexact H3
    iexact H4
  have e := Memref.readAt_unit_zero (Elt F) cc0_scratch2 (off := ![0, 0]) (by decide) h xs
  exact H.trans (Entails.of_eq (congrArg (fun v => Run c (kk v) Q) e.symm))

/-- The load of a column tile of the result, whose value nothing uses. -/
theorem load_y {o : Fin 2 → ℕ} {h : ∀ a, o a + S96x256.size a ≤ S96x3072.size a}
    {hl : bY.view.LoadsAt (Rect.unit (s := S96x3072) o S96x256.size h).toLoadRect}
    {kk : (S96x256.Idx → Elt F .f32) → Prog (TpuEff nD τ sig (Elt F) Λ₀ .tc) α}
    (H : ∀ v, Cmp c k fw fs xs R y ⊢ Run c (kk v) Q) :
    Cmp c k fw fs xs R y ⊢ Run c (Prog.lift (.load bY (Rect.unit (s := S96x3072) o S96x256.size h).toLoadRect hl) >>= kk) Q := by
  refine load_step c (S := Finset.univ) (q := fullShare) (f := y) (R := iprop(((slotW k).view.loc (c : Thread nD τ) ↦[(slotW k).view.set]{fullShare} fw)
    ∗ ((slotS k).view.loc (c : Thread nD τ) ↦[(slotS k).view.set]{fullShare} fs)
    ∗ (bX.view.loc (c : Thread nD τ) ↦[Finset.univ]{fullShare} xs) ∗ R)) (Finset.subset_univ _) ?_ ?_ (H _)
  · unfold Cmp; iintro ⟨H1, H2, H3, H4, H5⟩; isplitl [H4]; · iexact H4
    isplitl [H1]; · iexact H1
    isplitl [H2]; · iexact H2
    isplitl [H3]; · iexact H3
    iexact H5
  · unfold Cmp; iintro ⟨H4, H1, H2, H3, H5⟩; isplitl [H1]; · iexact H1
    isplitl [H2]; · iexact H2
    isplitl [H3]; · iexact H3
    isplitl [H4]; · iexact H4
    iexact H5

/-- The masked store of column tile `j`. -/
theorem store_y {lo hi : Elt F .i32} {y0 : S96x3072.Idx → Elt F .f32} {j : ℕ} {o : Fin 2 → ℕ}
    {h : ∀ a, o a + S96x256.size a ≤ S96x3072.size a} {pay : S96x256.Idx → Elt F .f32} {mask : IVec S96x256 1}
    {hx : (bY.access (Rect.unit (s := S96x3072) o S96x256.size h)).Stores (IVec.on mask)}
    {hm : IVec.on mask = Finset.univ ∨ ∀ a, (Rect.unit (s := S96x3072) o S96x256.size h).stride a = 1}
    {kk : PUnit → Prog (TpuEff nD τ sig (Elt F) Λ₀ .tc) α} (ho : o = ![0, 256 * j]) (hp : pay = tilePay wv sv xs (256 * j))
    (hmk : mask = k0_pay17 (k0_pay3 (F := F) lo hi))
    (H : Cmp c k fw fs xs R (yTo wv sv xs lo hi y0 (j + 1)) ⊢ Run c (kk ⟨⟩) Q) :
    Cmp c k fw fs xs R (yTo wv sv xs lo hi y0 j)
      ⊢ Run c (Prog.lift (.store bY (Rect.unit (s := S96x3072) o S96x256.size h) pay (IVec.on mask) hx hm) >>= kk) Q := by
  subst ho hp hmk
  refine store_step c (S := Finset.univ) (f := yTo wv sv xs lo hi y0 j) (R := iprop(((slotW k).view.loc (c : Thread nD τ) ↦[(slotW k).view.set]{fullShare} fw)
    ∗ ((slotS k).view.loc (c : Thread nD τ) ↦[(slotS k).view.set]{fullShare} fs)
    ∗ (bX.view.loc (c : Thread nD τ) ↦[Finset.univ]{fullShare} xs) ∗ R)) (Finset.subset_univ _) ?_ ?_ H
  · unfold Cmp; iintro ⟨H1, H2, H3, H4, H5⟩; isplitl [H4]; · iexact H4
    isplitl [H1]; · iexact H1
    isplitl [H2]; · iexact H2
    isplitl [H3]; · iexact H3
    iexact H5
  · rw [tile_write]
    unfold Cmp; iintro ⟨H4, H1, H2, H3, H5⟩; isplitl [H1]; · iexact H1
    isplitl [H2]; · iexact H2
    isplitl [H3]; · iexact H3
    isplitl [H4]; · iexact H4
    iexact H5

end

end Cert.Kernel.Hand

end
-- ==== Proof.KRing.lean ====
/-
  The kernel's ring of copies: a slot idle or being filled, the start of a copy and the wait for it, and the
  reads of one word of scalar memory.
-/
module

public import proofs.«01_k».proof.Proof.KTrip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)

/-- A slot at rest: its elements, its cell at zero, and a share of the array its copies read. -/
def Idle {s : Shape} {e : EltTy} (cell : DmaSem sig) (dst : Memref sig .tc .vmem s e) (src : Memref sig .tc .hbm s e)
    (q : PosShare TreeShare) (g : Buf (Elt F) (src.view.loc (c : Thread nD τ))) : Asn F :=
  iprop((∃ f, (dst.view.loc (c : Thread nD τ) ↦[dst.view.set]{fullShare} f)) ∗ semVal ((c : Thread nD τ), SemLoc.dma cell) 0
    ∗ (src.view.loc (c : Thread nD τ) ↦[Finset.univ]{q} g))

/-- A slot being filled from `src`: the copy in flight, and the share of the rest of the array. -/
def Busy {s : Shape} {e : EltTy} (cell : DmaSem sig) (dst : Memref sig .tc .vmem s e) (src : Memref sig .tc .hbm s e)
    (q : PosShare TreeShare) (g : Buf (Elt F) (src.view.loc (c : Thread nD τ))) : Asn F :=
  iprop((∃ f, Transfers.Flight (countersEmb (U := Pipeline.UD sig nD τ)) (c : Thread nD τ) (SemLoc.dma cell) () dst.view.dmaCredit
      iprop((dst.view.loc (c : Thread nD τ) ↦[dst.view.set]{fullShare} (dst.view.write (Elt F) f (src.view.read (Elt F) g) Finset.univ))
        ∗ (src.view.loc (c : Thread nD τ) ↦[src.view.set]{q} g)))
    ∗ (src.view.loc (c : Thread nD τ) ↦[Finset.univ \ src.view.set]{q} g))

/-- The start of a slot's copy. -/
theorem start_slot {α : Type} {Q : α → Asn F} {P R : Asn F} {s : Shape} {e : EltTy} {cell : DmaSem sig} {dst : Memref sig .tc .vmem s e}
    {src : Memref sig .tc .hbm s e} {q : PosShare TreeShare} {g : Buf (Elt F) (src.view.loc (c : Thread nD τ))}
    {hsrc : src.view.WordExact} {hdst : dst.view.WordExact} {hsem : DmaTarget.Typed (nD := nD) (p := Proc.tc) .hbm (SemLoc.dma cell) (.here dst)}
    {k : PUnit → Prog (TpuEff nD τ sig (Elt F) Λ₀ .tc) α} (hN : 0 < dst.view.dmaCredit)
    (hP : P ⊢ iprop(Idle c cell dst src q g ∗ R)) (h : iprop(Busy c cell dst src q g ∗ R) ⊢ Run c (k ⟨⟩) Q) :
    P ⊢ Run c (Prog.lift (.enqueueDma src (.here dst) (SemLoc.dma cell) hsrc hdst hsem) >>= k) Q := by
  refine hP.trans ?_
  unfold Idle
  iintro ⟨⟨⟨%f, Hd⟩, Hc, Hs⟩, HR⟩
  ihave Hs := (pointsTo_split_subset (Finset.subset_univ src.view.set)).1 $$ Hs
  icases Hs with ⟨Hs, Ht⟩
  iapply (start_step c (P := iprop(((src.view.loc (c : Thread nD τ) ↦[src.view.set]{q} g) ∗ (dst.view.loc (c : Thread nD τ) ↦[dst.view.set]{fullShare} f)
      ∗ semVal ((c : Thread nD τ), SemLoc.dma cell) 0) ∗ ((src.view.loc (c : Thread nD τ) ↦[Finset.univ \ src.view.set]{q} g) ∗ R)))
    (dst.view.dmaCredit) rfl hN .rfl (h := by
      refine BIBase.Entails.trans ?_ h
      unfold Busy
      iintro ⟨Hf, Ht, HR⟩
      isplitr [HR]
      · isplitl [Hf]
        · iexists f; iexact Hf
        · iexact Ht
      · iexact HR))
  isplitl [Hs Hd Hc]
  · isplitl [Hs]; · iexact Hs
    isplitl [Hd]; · iexact Hd
    iexact Hc
  isplitl [Ht]; · iexact Ht
  iexact HR

/-- The wait for a slot's copy: the slot now reads what the source reads. -/
theorem wait_slot {α : Type} {Q : α → Asn F} {P R : Asn F} {s : Shape} {e : EltTy} {cell : DmaSem sig} {dst : Memref sig .tc .vmem s e}
    {src src' : Memref sig .tc .hbm s e} {q : PosShare TreeShare} {g : Buf (Elt F) (src.view.loc (c : Thread nD τ))}
    {hsrc : src'.view.WordExact} {hdst : dst.view.WordExact}
    {k : PUnit → Prog (TpuEff nD τ sig (Elt F) Λ₀ .tc) α}
    (hP : P ⊢ iprop(Busy c cell dst src q g ∗ waits c ∗ R))
    (h : ∀ f, dst.view.read (Elt F) f = src.view.read (Elt F) g →
      iprop(((dst.view.loc (c : Thread nD τ) ↦[dst.view.set]{fullShare} f) ∗ semVal ((c : Thread nD τ), SemLoc.dma cell) 0
        ∗ (src.view.loc (c : Thread nD τ) ↦[Finset.univ]{q} g)) ∗ waits c ∗ R) ⊢ Run c (k ⟨⟩) Q) :
    P ⊢ Run c (Prog.lift (.waitDma2 cell src' dst hsrc hdst) >>= k) Q := by
  refine hP.trans ?_
  have hj : iprop((src.view.loc (c : Thread nD τ) ↦[src.view.set]{q} g) ∗ (src.view.loc (c : Thread nD τ) ↦[Finset.univ \ src.view.set]{q} g))
      ⊢ (src.view.loc (c : Thread nD τ) ↦[Finset.univ]{q} g : Asn F) := (pointsTo_split_subset (Finset.subset_univ _)).2
  unfold Busy
  iintro ⟨⟨⟨%f, Hf⟩, Ht⟩, HW, HR⟩
  iapply (wait_step c (P := iprop(Transfers.Flight (countersEmb (U := Pipeline.UD sig nD τ)) (c : Thread nD τ) (SemLoc.dma cell) () dst.view.dmaCredit
      iprop((dst.view.loc (c : Thread nD τ) ↦[dst.view.set]{fullShare} (dst.view.write (Elt F) f (src.view.read (Elt F) g) Finset.univ))
        ∗ (src.view.loc (c : Thread nD τ) ↦[src.view.set]{q} g)) ∗ waits c ∗ ((src.view.loc (c : Thread nD τ) ↦[Finset.univ \ src.view.set]{q} g) ∗ R)))
    rfl .rfl (h := by
      refine BIBase.Entails.trans ?_ (h _ (View.read_write_univ f (src.view.read (Elt F) g)))
      iintro ⟨⟨Hd, Hs⟩, Hc, HW, Ht, HR⟩
      ihave Hs := hj $$ [Hs Ht]
      · isplitl [Hs]; · iexact Hs
        iexact Ht
      isplitl [Hd Hc Hs]
      · isplitl [Hd]; · iexact Hd
        isplitl [Hc]; · iexact Hc
        iexact Hs
      isplitl [HW]; · iexact HW
      iexact HR))
  isplitl [Hf]; · iexact Hf
  isplitl [HW]; · iexact HW
  isplitl [Ht]; · iexact Ht
  iexact HR

/-- The share of an array the copies into slot `k` read through. -/
abbrev tok (k : Fin 3) : PosShare TreeShare := Transfers.shareTok fullShare 3 k

/-- Slot `k` of both rings: at rest, or being filled with the `i`-th expert's weights and scales. -/
def Slot (gW : hbW.view.ty.Contents (Elt F)) (gS : hbS.view.ty.Contents (Elt F)) (L : ℕ → Fin 64) (k : Fin 3) : Option ℕ → Asn F
  | none => iprop(Idle c (cellW k) (slotW k) (expW 0) (tok k) gW ∗ Idle c (cellS k) (slotS k) (expS 0) (tok k) gS)
  | some i => iprop(Busy c (cellW k) (slotW k) (expW (L i)) (tok k) gW ∗ Busy c (cellS k) (slotS k) (expS (L i)) (tok k) gS)

theorem creditW (k : Fin 3) : 0 < (slotW k).view.dmaCredit := by
  fin_cases k <;> decide
theorem creditS (k : Fin 3) : 0 < (slotS k).view.dmaCredit := by
  fin_cases k <;> decide

section
variable {α : Type} {Q : α → Asn F} {P R : Asn F} {gW : hbW.view.ty.Contents (Elt F)} {gS : hbS.view.ty.Contents (Elt F)}

/-- The start of the copy of an expert's weights into slot `k`, at printed offsets. -/
theorem start_w (k : Fin 3) (e : Fin 64) {o1 : Fin 2 → ℕ} {o2 o3 : Fin 3 → ℕ} {h1 : ∀ a, o1 a + S1x1.size a ≤ S2x3.size a}
    {h2 : ∀ a, o2 a + S1x704x3072.size a ≤ S3x704x3072.size a} {h3 : ∀ a, o3 a + S1x704x3072.size a ≤ S64x704x3072.size a}
    {hsrc hdst hsem} {kk : PUnit → Prog (TpuEff nD τ sig (Elt F) Λ₀ .tc) α}
    (e1 : o1 = ![0, k.val]) (e2 : o2 = ![k.val, 0, 0]) (e3 : o3 = ![e.val, 0, 0])
    (hP : P ⊢ iprop(Idle c (cellW k) (slotW k) (expW 0) (tok k) gW ∗ R))
    (h : iprop(Busy c (cellW k) (slotW k) (expW e) (tok k) gW ∗ R) ⊢ Run c (kk ⟨⟩) Q) :
    P ⊢ Run c (Prog.lift (.enqueueDma ((hbW.slice (Rect.unit (s := S64x704x3072) o3 S1x704x3072.size h3) (fun _ => rfl)).squeeze S704x3072 squeezes_S1x704x3072_S704x3072)
      (.here ((bW.slice (Rect.unit (s := S3x704x3072) o2 S1x704x3072.size h2) (fun _ => rfl)).squeeze S704x3072 squeezes_S1x704x3072_S704x3072))
      (.dma ((cc0_scratch6.slice (Rect.unit (s := S2x3) o1 S1x1.size h1)).squeeze S_ squeezes_S1x1_S_).sem) hsrc hdst hsem) >>= kk) Q := by
  subst e1 e2 e3
  exact start_slot c (src := expW e) (dst := slotW k) (cell := cellW k) (q := tok k) (g := gW) (creditW k) hP h

/-- The start of the copy of an expert's scales into slot `k`, at printed offsets. -/
theorem start_s (k : Fin 3) (e : Fin 64) {o1 : Fin 2 → ℕ} {o2 o3 : Fin 3 → ℕ} {h1 : ∀ a, o1 a + S1x1.size a ≤ S2x3.size a}
    {h2 : ∀ a, o2 a + S1x11x3072.size a ≤ S3x11x3072.size a} {h3 : ∀ a, o3 a + S1x11x3072.size a ≤ S64x11x3072.size a}
    {hsrc hdst hsem} {kk : PUnit → Prog (TpuEff nD τ sig (Elt F) Λ₀ .tc) α}
    (e1 : o1 = ![1, k.val]) (e2 : o2 = ![k.val, 0, 0]) (e3 : o3 = ![e.val, 0, 0])
    (hP : P ⊢ iprop(Idle c (cellS k) (slotS k) (expS 0) (tok k) gS ∗ R))
    (h : iprop(Busy c (cellS k) (slotS k) (expS e) (tok k) gS ∗ R) ⊢ Run c (kk ⟨⟩) Q) :
    P ⊢ Run c (Prog.lift (.enqueueDma ((hbS.slice (Rect.unit (s := S64x11x3072) o3 S1x11x3072.size h3) (fun _ => rfl)).squeeze S11x3072 squeezes_S1x11x3072_S11x3072)
      (.here ((bS.slice (Rect.unit (s := S3x11x3072) o2 S1x11x3072.size h2) (fun _ => rfl)).squeeze S11x3072 squeezes_S1x11x3072_S11x3072))
      (.dma ((cc0_scratch6.slice (Rect.unit (s := S2x3) o1 S1x1.size h1)).squeeze S_ squeezes_S1x1_S_).sem) hsrc hdst hsem) >>= kk) Q := by
  subst e1 e2 e3
  exact start_slot c (src := expS e) (dst := slotS k) (cell := cellS k) (q := tok k) (g := gS) (creditS k) hP h

/-- The wait for the weights of slot `k`, at printed offsets. -/
theorem wait_w (k : Fin 3) (e : Fin 64) {o1 : Fin 2 → ℕ} {o2 : Fin 3 → ℕ} {h1 : ∀ a, o1 a + S1x1.size a ≤ S2x3.size a}
    {h2 : ∀ a, o2 a + S1x704x3072.size a ≤ S3x704x3072.size a} {src : Memref sig .tc .hbm S704x3072 .i8}
    {hsrc hdst} {kk : PUnit → Prog (TpuEff nD τ sig (Elt F) Λ₀ .tc) α}
    (e1 : o1 = ![0, k.val]) (e2 : o2 = ![k.val, 0, 0])
    (hP : P ⊢ iprop(Busy c (cellW k) (slotW k) (expW e) (tok k) gW ∗ waits c ∗ R))
    (h : ∀ f, (slotW k).view.read (Elt F) f = (expW e).view.read (Elt F) gW →
      iprop((((slotW k).view.loc (c : Thread nD τ) ↦[(slotW k).view.set]{fullShare} f) ∗ semVal ((c : Thread nD τ), SemLoc.dma (cellW k)) 0
        ∗ (hbW.view.loc (c : Thread nD τ) ↦[Finset.univ]{tok k} gW)) ∗ waits c ∗ R) ⊢ Run c (kk ⟨⟩) Q) :
    P ⊢ Run c (Prog.lift (.waitDma2 ((cc0_scratch6.slice (Rect.unit (s := S2x3) o1 S1x1.size h1)).squeeze S_ squeezes_S1x1_S_).sem src
      ((bW.slice (Rect.unit (s := S3x704x3072) o2 S1x704x3072.size h2) (fun _ => rfl)).squeeze S704x3072 squeezes_S1x704x3072_S704x3072) hsrc hdst) >>= kk) Q := by
  subst e1 e2
  exact wait_slot c (src := expW e) (dst := slotW k) (cell := cellW k) (q := tok k) (g := gW) hP h

/-- The wait for the scales of slot `k`, at printed offsets. -/
theorem wait_s (k : Fin 3) (e : Fin 64) {o1 : Fin 2 → ℕ} {o2 : Fin 3 → ℕ} {h1 : ∀ a, o1 a + S1x1.size a ≤ S2x3.size a}
    {h2 : ∀ a, o2 a + S1x11x3072.size a ≤ S3x11x3072.size a} {src : Memref sig .tc .hbm S11x3072 .f32}
    {hsrc hdst} {kk : PUnit → Prog (TpuEff nD τ sig (Elt F) Λ₀ .tc) α}
    (e1 : o1 = ![1, k.val]) (e2 : o2 = ![k.val, 0, 0])
    (hP : P ⊢ iprop(Busy c (cellS k) (slotS k) (expS e) (tok k) gS ∗ waits c ∗ R))
    (h : ∀ f, (slotS k).view.read (Elt F) f = (expS e).view.read (Elt F) gS →
      iprop((((slotS k).view.loc (c : Thread nD τ) ↦[(slotS k).view.set]{fullShare} f) ∗ semVal ((c : Thread nD τ), SemLoc.dma (cellS k)) 0
        ∗ (hbS.view.loc (c : Thread nD τ) ↦[Finset.univ]{tok k} gS)) ∗ waits c ∗ R) ⊢ Run c (kk ⟨⟩) Q) :
    P ⊢ Run c (Prog.lift (.waitDma2 ((cc0_scratch6.slice (Rect.unit (s := S2x3) o1 S1x1.size h1)).squeeze S_ squeezes_S1x1_S_).sem src
      ((bS.slice (Rect.unit (s := S3x11x3072) o2 S1x11x3072.size h2) (fun _ => rfl)).squeeze S11x3072 squeezes_S1x11x3072_S11x3072) hsrc hdst) >>= kk) Q := by
  subst e1 e2
  exact wait_slot c (src := expS e) (dst := slotS k) (cell := cellS k) (q := tok k) (g := gS) hP h

/-- A load of word `j` of the list of experts. -/
theorem word_l {f : S65.Idx → Elt F .i32} {o : Fin 1 → ℕ} {h : ∀ a, o a + S1.size a ≤ S65.size a} {h1 hp}
    {kk : Elt F .i32 → Prog (TpuEff nD τ sig (Elt F) Λ₀ .tc) α} (j : ℕ) (hj : j < 65) (ho : o 0 = j)
    (hP : P ⊢ iprop((bL.view.loc (c : Thread nD τ) ↦[Finset.univ]{fullShare} f) ∗ R))
    (hP' : iprop((bL.view.loc (c : Thread nD τ) ↦[Finset.univ]{fullShare} f) ∗ R) ⊢ P)
    (H : P ⊢ Run c (kk (f (ix1 ⟨j, hj⟩))) Q) :
    P ⊢ Run c (smemLoad bL (Rect.unit (s := S65) o S1.size h) h1 hp >>= kk) Q := by
  refine word_step c (S := Finset.univ) (q := fullShare) (f := f) (Finset.subset_univ _) hP hP' ?_
  have e : (bL.access (Rect.unit (s := S65) o S1.size h)).read (Elt F) f (Shape.Idx.first (h1.symm ▸ Nat.one_pos)) = f (ix1 ⟨j, hj⟩) := by
    show f _ = f _
    congr 1
    funext a
    refine Fin.ext ?_
    show ((Rect.unit (s := S65) o S1.size h).emb _ a).val = _
    rw [Rect.emb_apply]
    fin_cases a
    show o 0 + 1 * 0 = j
    omega
  exact H.trans (Entails.of_eq (congrArg (fun v => Run c (kk v) Q) e.symm))

/-- A load of word `j` of the list of first rows. -/
theorem word_a {f : S65.Idx → Elt F .i32} {o : Fin 1 → ℕ} {h : ∀ a, o a + S1.size a ≤ S65.size a} {h1 hp}
    {kk : Elt F .i32 → Prog (TpuEff nD τ sig (Elt F) Λ₀ .tc) α} (j : ℕ) (hj : j < 65) (ho : o 0 = j)
    (hP : P ⊢ iprop((bA.view.loc (c : Thread nD τ) ↦[Finset.univ]{fullShare} f) ∗ R))
    (hP' : iprop((bA.view.loc (c : Thread nD τ) ↦[Finset.univ]{fullShare} f) ∗ R) ⊢ P)
    (H : P ⊢ Run c (kk (f (ix1 ⟨j, hj⟩))) Q) :
    P ⊢ Run c (smemLoad bA (Rect.unit (s := S65) o S1.size h) h1 hp >>= kk) Q := by
  refine word_step c (S := Finset.univ) (q := fullShare) (f := f) (Finset.subset_univ _) hP hP' ?_
  have e : (bA.access (Rect.unit (s := S65) o S1.size h)).read (Elt F) f (Shape.Idx.first (h1.symm ▸ Nat.one_pos)) = f (ix1 ⟨j, hj⟩) := by
    show f _ = f _
    congr 1
    funext a
    refine Fin.ext ?_
    show ((Rect.unit (s := S65) o S1.size h).emb _ a).val = _
    rw [Rect.emb_apply]
    fin_cases a
    show o 0 + 1 * 0 = j
    omega
  exact H.trans (Entails.of_eq (congrArg (fun v => Run c (kk v) Q) e.symm))

end

end Cert.Kernel.Hand

end
-- ==== Proof.KScan.lean ====
/-
  The kernel's first loop: the list of the experts that have rows, and where each one's rows start.
-/
module

public import proofs.«01_k».proof.Proof.KRing

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The lists as a function of the group sizes -/

/-- A list with its `n`-th entry replaced. -/
def put (f : S65.Idx → Elt F .i32) (n : ℕ) (x : BitVec 32) : S65.Idx → Elt F .i32 := fun i => if (i 0).val = n then x else f i

/-- The group sizes, by number. -/
def gsz (g : S64.Idx → Elt F .i32) (t : ℕ) : BitVec 32 := g (ix1 (Fin.ofNat 64 t))

/-- What the first loop has after `t` trips: how many experts have rows so far, the rows so far, the list of those
experts, and the list of the rows each one starts at. -/
def scan (g : S64.Idx → Elt F .i32) (fL fA : S65.Idx → Elt F .i32) :
    ℕ → (BitVec 32 × BitVec 32) × (S65.Idx → Elt F .i32) × (S65.Idx → Elt F .i32)
  | 0 => ((0#32, 0#32), fL, fA)
  | t + 1 =>
    ((Scalar.addi (scan g fL fA t).1.1 (Scalar.extui (Scalar.cmpi .sgt (gsz g t) 0#32)), Scalar.addi (scan g fL fA t).1.2 (gsz g t)),
      put (scan g fL fA t).2.1 (scan g fL fA t).1.1.toNat (Scf.iv 0#32 1#32 t),
      put (scan g fL fA t).2.2 (scan g fL fA t).1.1.toNat (scan g fL fA t).1.2)

/-- One comparison adds at most one to the count. -/
theorem count_step (n x : BitVec 32) (hn : n.toNat < 65) :
    (Scalar.addi n (Scalar.extui (Scalar.cmpi .sgt x 0#32)) : BitVec 32).toNat = n.toNat + if 0 < x.toInt then 1 else 0 := by
  have e : (Scalar.extui (Scalar.cmpi .sgt x 0#32) : BitVec 32) = if 0 < x.toInt then 1#32 else 0#32 := by
    by_cases h : 0 < x.toInt
    · rw [if_pos h]
      have : Scalar.cmpi .sgt x 0#32 = 1#1 := by
        show BitVec.ofBool _ = _
        rw [show ((0#32).slt x) = true by rw [BitVec.slt_eq_decide]; exact decide_eq_true h]; rfl
      rw [this]; rfl
    · rw [if_neg h]
      have : Scalar.cmpi .sgt x 0#32 = 0#1 := by
        show BitVec.ofBool _ = _
        rw [show ((0#32).slt x) = false by rw [BitVec.slt_eq_decide]; exact decide_eq_false h]; rfl
      rw [this]; rfl
  rw [e]
  show (n + _).toNat = _
  split <;> rw [BitVec.toNat_add] <;> simp <;> omega

/-- The count of experts never passes the trips made. -/
theorem scan_le (g : S64.Idx → Elt F .i32) (fL fA : S65.Idx → Elt F .i32) : ∀ t, t ≤ 64 → (scan g fL fA t).1.1.toNat ≤ t
  | 0, _ => le_refl _
  | t + 1, ht => by
    have h := scan_le g fL fA t (by omega)
    show (Scalar.addi _ _ : BitVec 32).toNat ≤ _
    rw [count_step _ _ (by omega)]
    split <;> omega

/-- Every listed expert is one of the trips made. -/
theorem scan_list (g : S64.Idx → Elt F .i32) (fL fA : S65.Idx → Elt F .i32) : ∀ t, t ≤ 64 → ∀ j (hj : j < 65),
    j < (scan g fL fA t).1.1.toNat → ∃ e : Fin 64, e.val < t ∧ (scan g fL fA t).2.1 (ix1 ⟨j, hj⟩) = BitVec.ofNat 32 e.val
  | 0, _, j, hj, h => by simp [scan] at h
  | t + 1, ht, j, hj, h => by
    have hle := scan_le g fL fA t (by omega)
    rw [show (scan g fL fA (t + 1)).1.1 = Scalar.addi (scan g fL fA t).1.1 (Scalar.extui (Scalar.cmpi .sgt (gsz g t) 0#32)) from rfl,
      count_step _ _ (by omega)] at h
    show ∃ e : Fin 64, _ ∧ put _ _ _ _ = _
    unfold put
    by_cases hh : j = (scan g fL fA t).1.1.toNat
    · refine ⟨⟨t, by omega⟩, by simp, (if_pos hh).trans ?_⟩
      apply BitVec.eq_of_toNat_eq
      rw [iv_toNat (by omega), BitVec.toNat_ofNat]; simp; omega
    · obtain ⟨e, h1, h2⟩ := scan_list g fL fA t (by omega) j hj (by split at h <;> omega)
      exact ⟨e, by omega, (if_neg hh).trans h2⟩

/-- The listed experts. -/
def listed (g : S64.Idx → Elt F .i32) (fL fA : S65.Idx → Elt F .i32) (j : ℕ) : Fin 64 :=
  Fin.ofNat 64 ((scan g fL fA 64).2.1 (ix1 (Fin.ofNat 65 j)) : BitVec 32).toNat

theorem scan_listed (g : S64.Idx → Elt F .i32) (fL fA : S65.Idx → Elt F .i32) (j : ℕ) (hj : j < 65) (h : j < (scan g fL fA 64).1.1.toNat) :
    (scan g fL fA 64).2.1 (ix1 ⟨j, hj⟩) = BitVec.ofNat 32 (listed g fL fA j).val := by
  obtain ⟨e, h1, h2⟩ := scan_list g fL fA 64 (le_refl _) j hj h
  have e1 : (Fin.ofNat 65 j : Fin 65) = ⟨j, hj⟩ := Fin.ext (Nat.mod_eq_of_lt hj)
  unfold listed
  rw [e1, h2]
  show _ = BitVec.ofNat 32 ((BitVec.ofNat 32 e.val).toNat % 64)
  have := e.isLt
  rw [BitVec.toNat_ofNat, Nat.mod_eq_of_lt (show e.val < 2 ^ 32 by omega), Nat.mod_eq_of_lt this]

/-! ## Words of the lists -/

variable (c : Dev nD)

/-- The store of one word into the list of experts. -/
theorem put_write_l (f : bL.view.ty.Contents (Elt F)) (x : BitVec 32) {o : Fin 1 → ℕ} (h : ∀ a, o a + S1.size a ≤ S65.size a) (j : ℕ) (ho : o 0 = j) :
    (bL.access (Rect.unit (s := S65) o S1.size h)).write (Elt F) f (fun _ => x) Finset.univ = put f j x := by
  funext i
  unfold put
  by_cases hr : (i 0).val = j
  · have hi : i = (bL.access (Rect.unit (s := S65) o S1.size h)).emb (ix1 (0 : Fin 1)) := by
      show i = (Rect.unit (s := S65) o S1.size h).emb _
      funext a
      refine Fin.ext ?_
      rw [Rect.emb_apply]
      fin_cases a
      show (i 0).val = o 0 + 1 * 0; omega
    rw [if_pos hr]
    conv_lhs => rw [hi]
    rw [View.write_emb]
    exact if_pos (Finset.mem_univ _)
  · rw [View.write_of_not_mem, if_neg hr]
    intro hi
    obtain ⟨y, hy, rfl⟩ := Finset.mem_map.mp hi
    apply hr
    show ((Rect.unit (s := S65) o S1.size h).emb y 0).val = _
    rw [Rect.emb_apply]
    have : (y 0).val < 1 := (y 0).isLt
    show o 0 + 1 * (y 0).val = _
    omega

/-- The store of one word into the list of starts. -/
theorem put_write_a (f : bA.view.ty.Contents (Elt F)) (x : BitVec 32) {o : Fin 1 → ℕ} (h : ∀ a, o a + S1.size a ≤ S65.size a) (j : ℕ) (ho : o 0 = j) :
    (bA.access (Rect.unit (s := S65) o S1.size h)).write (Elt F) f (fun _ => x) Finset.univ = put f j x := put_write_l f x h j ho

section
variable {α : Type} {Q : α → Asn F} {P P' R : Asn F}

/-- What holds under a fact is met with the fact in hand. -/
theorem fact_step {φ : Prop} (h : φ → R ⊢ P) : iprop(⌜φ⌝ ∗ R) ⊢ P := by
  iintro ⟨%hφ, HR⟩
  iapply (h hφ)
  iexact HR

/-- A loop, by what holds before each trip. -/
theorem loop_step {σ : Type} {lb ub st : BitVec 32} {hok : Scf.OK lb ub st} {init : σ}
    {body : Fin (Scf.trips lb ub st) → σ → Prog (TpuEff nD τ sig (Elt F) Λ₀ .tc) σ} {kk : σ → Prog (TpuEff nD τ sig (Elt F) Λ₀ .tc) α}
    (I : ℕ → σ → Asn F) (hbody : ∀ (k : Fin (Scf.trips lb ub st)) (acc : σ), I k.val acc ⊢ Run c (body k acc) (I (k.val + 1)))
    (hP : P ⊢ I 0 init) (H : ∀ acc, I (Scf.trips lb ub st) acc ⊢ Run c (kk acc) Q) :
    P ⊢ Run c (Scf.for lb ub st hok init body >>= kk) Q := by
  refine hP.trans ?_
  iintro HI
  iapply (Scf.wp_for_bind frame (wpE (defs₀ (F := F)) Variants.none (c : Thread nD τ) none) Set.univ lb ub st hok init body I hbody) $$ HI
  iintro %acc HI
  iapply (H acc)
  iexact HI

theorem store_l {f : S65.Idx → Elt F .i32} {o : Fin 1 → ℕ} {h : ∀ a, o a + S1.size a ≤ S65.size a} {x : BitVec 32} {hx hm}
    {kk : PUnit → Prog (TpuEff nD τ sig (Elt F) Λ₀ .tc) α} (j : ℕ) (ho : o 0 = j)
    (hP : P ⊢ iprop((bL.view.loc (c : Thread nD τ) ↦[Finset.univ]{fullShare} f) ∗ R))
    (hP' : iprop((bL.view.loc (c : Thread nD τ) ↦[Finset.univ]{fullShare} (put f j x)) ∗ R) ⊢ P')
    (H : P' ⊢ Run c (kk ⟨⟩) Q) :
    P ⊢ Run c (Prog.lift (.store bL (Rect.unit (s := S65) o S1.size h) (fun _ => x) Finset.univ hx hm) >>= kk) Q := by
  refine store_step c (S := Finset.univ) (f := f) (P' := P') (R := R) (Finset.subset_univ _) hP ?_ H
  refine BIBase.Entails.trans (Entails.of_eq ?_) hP'
  exact congrArg (fun z => iprop((bL.view.loc (c : Thread nD τ) ↦[Finset.univ]{fullShare} z) ∗ R)) (put_write_l f x h j ho)

theorem store_a {f : S65.Idx → Elt F .i32} {o : Fin 1 → ℕ} {h : ∀ a, o a + S1.size a ≤ S65.size a} {x : BitVec 32} {hx hm}
    {kk : PUnit → Prog (TpuEff nD τ sig (Elt F) Λ₀ .tc) α} (j : ℕ) (ho : o 0 = j)
    (hP : P ⊢ iprop((bA.view.loc (c : Thread nD τ) ↦[Finset.univ]{fullShare} f) ∗ R))
    (hP' : iprop((bA.view.loc (c : Thread nD τ) ↦[Finset.univ]{fullShare} (put f j x)) ∗ R) ⊢ P')
    (H : P' ⊢ Run c (kk ⟨⟩) Q) :
    P ⊢ Run c (Prog.lift (.store bA (Rect.unit (s := S65) o S1.size h) (fun _ => x) Finset.univ hx hm) >>= kk) Q := by
  refine store_step c (S := Finset.univ) (f := f) (P' := P') (R := R) (Finset.subset_univ _) hP ?_ H
  refine BIBase.Entails.trans (Entails.of_eq ?_) hP'
  exact congrArg (fun z => iprop((bA.view.loc (c : Thread nD τ) ↦[Finset.univ]{fullShare} z) ∗ R)) (put_write_a f x h j ho)

end

/-! ## The loop -/

/-- What the first loop holds: the group sizes, the two lists, and whatever else. -/
def Lists (arg0 : Memref sig .tc .smem S64 .i32) (q0 : PosShare TreeShare) (f0 : Buf (Elt F) (arg0.view.loc (c : Thread nD τ))) (R : Asn F)
    (fL fA : S65.Idx → Elt F .i32) : Asn F :=
  iprop((arg0.view.loc (c : Thread nD τ) ↦[Finset.univ]{q0} f0) ∗ (bL.view.loc (c : Thread nD τ) ↦[Finset.univ]{fullShare} fL)
    ∗ (bA.view.loc (c : Thread nD τ) ↦[Finset.univ]{fullShare} fA) ∗ R)

variable (arg0 : Memref sig .tc .smem S64 .i32) (harg0 : arg0.IsWhole) (arg1 : Memref sig .tc .vmem S96x1408 .bf16) (harg1 : arg1.IsWhole)
  (harg2 : hbW.IsWhole) (harg3 : hbS.IsWhole) (arg4 : Memref sig .tc .vmem S96x3072 .bf16) (harg4 : arg4.IsWhole)
  (harg5 : bW.IsWhole) (harg6 : bS.IsWhole) (harg7 : bX.IsWhole) (harg8 : bY.IsWhole) (harg9 : bL.IsWhole) (harg10 : bA.IsWhole)

/-- One trip of the first loop. -/
theorem scan_trip (q0 : PosShare TreeShare) (f0 : Buf (Elt F) (arg0.view.loc (c : Thread nD τ))) (R : Asn F) (gL gA : S65.Idx → Elt F .i32)
    (k : Fin k0_t1_loop.trips) (acc : BitVec 32 × BitVec 32) :
    iprop(⌜acc = (scan (arg0.view.read (Elt F) f0) gL gA k.val).1⌝ ∗ Lists c arg0 q0 f0 R (scan (arg0.view.read (Elt F) f0) gL gA k.val).2.1 (scan (arg0.view.read (Elt F) f0) gL gA k.val).2.2)
      ⊢ Run c (k0_t1_body arg0 harg0 arg1 harg1 hbW harg2 hbS harg3 arg4 harg4 bW harg5 bS harg6 bX harg7 bY harg8 bL harg9 bA harg10 cc0_scratch6 k acc)
        (fun acc' => iprop(⌜acc' = (scan (arg0.view.read (Elt F) f0) gL gA (k.val + 1)).1⌝
          ∗ Lists c arg0 q0 f0 R (scan (arg0.view.read (Elt F) f0) gL gA (k.val + 1)).2.1 (scan (arg0.view.read (Elt F) f0) gL gA (k.val + 1)).2.2)) := by
  have hk : k.val < 64 := k.isLt
  have hle := scan_le (arg0.view.read (Elt F) f0) gL gA k.val (by omega)
  refine fact_step fun hacc => ?_
  obtain ⟨n, row⟩ := acc
  have h1 : n = (scan (arg0.view.read (Elt F) f0) gL gA k.val).1.1 := congrArg Prod.fst hacc
  have h2 : row = (scan (arg0.view.read (Elt F) f0) gL gA k.val).1.2 := congrArg Prod.snd hacc
  have hn : scan (arg0.view.read (Elt F) f0) gL gA (k.val + 1) = ((Scalar.addi (scan (arg0.view.read (Elt F) f0) gL gA k.val).1.1 (Scalar.extui (Scalar.cmpi .sgt (gsz (arg0.view.read (Elt F) f0) k.val) 0#32)), Scalar.addi (scan (arg0.view.read (Elt F) f0) gL gA k.val).1.2 (gsz (arg0.view.read (Elt F) f0) k.val)),
      put (scan (arg0.view.read (Elt F) f0) gL gA k.val).2.1 (scan (arg0.view.read (Elt F) f0) gL gA k.val).1.1.toNat (Scf.iv 0#32 1#32 k.val),
      put (scan (arg0.view.read (Elt F) f0) gL gA k.val).2.2 (scan (arg0.view.read (Elt F) f0) gL gA k.val).1.1.toNat (scan (arg0.view.read (Elt F) f0) gL gA k.val).1.2) := rfl
  rw [hn]
  clear hn
  generalize hs : scan (arg0.view.read (Elt F) f0) gL gA k.val = s at *
  unfold k0_t1_body
  refine assume_step c (chk1 (by rw [h1]; omega)) ?_
  refine word_step c (m := arg0) (S := Finset.univ) (q := q0) (f := f0) (R := iprop((bL.view.loc (c : Thread nD τ) ↦[Finset.univ]{fullShare} s.2.1)
    ∗ (bA.view.loc (c : Thread nD τ) ↦[Finset.univ]{fullShare} s.2.2) ∗ R)) (Finset.subset_univ _) .rfl .rfl ?_
  have e : ∀ h1, (arg0.access (Rect.unit (s := S64) (k0_off1 k) S1.size (k0_off1_inb k))).read (Elt F) f0 (Shape.Idx.first h1)
      = gsz (arg0.view.read (Elt F) f0) k.val := by
    intro h1
    show arg0.view.read (Elt F) f0 ((Rect.unit (s := S64) (k0_off1 k) S1.size (k0_off1_inb k)).emb _) = arg0.view.read (Elt F) f0 _
    congr 1
    funext a
    refine Fin.ext ?_
    rw [Rect.emb_apply]
    fin_cases a
    show (Scf.iv 0#32 1#32 k.val).toNat + 1 * 0 = k.val % 64
    rw [iv_toNat (by omega)]; omega
  rw [e]
  refine word_step c (m := bL) (S := Finset.univ) (q := fullShare) (f := s.2.1) (R := iprop((arg0.view.loc (c : Thread nD τ) ↦[Finset.univ]{q0} f0)
    ∗ (bA.view.loc (c : Thread nD τ) ↦[Finset.univ]{fullShare} s.2.2) ∗ R)) (Finset.subset_univ _) ?_ ?_ ?_
  · unfold Lists; iintro ⟨H0, HL, H⟩; isplitl [HL]; · iexact HL
    isplitl [H0]; · iexact H0
    iexact H
  · unfold Lists; iintro ⟨HL, H0, H⟩; isplitl [H0]; · iexact H0
    isplitl [HL]; · iexact HL
    iexact H
  refine store_l c (f := s.2.1) (P' := Lists c arg0 q0 f0 R (put s.2.1 s.1.1.toNat (Scf.iv 0#32 1#32 k.val)) s.2.2) (R := iprop((arg0.view.loc (c : Thread nD τ) ↦[Finset.univ]{q0} f0)
    ∗ (bA.view.loc (c : Thread nD τ) ↦[Finset.univ]{fullShare} s.2.2) ∗ R)) s.1.1.toNat (by rw [← h1]; rfl) ?_ ?_ ?_
  · unfold Lists; iintro ⟨H0, HL, H⟩; isplitl [HL]; · iexact HL
    isplitl [H0]; · iexact H0
    iexact H
  · unfold Lists; iintro ⟨HL, H0, H⟩; isplitl [H0]; · iexact H0
    isplitl [HL]; · iexact HL
    iexact H
  generalize put s.2.1 s.1.1.toNat (Scf.iv 0#32 1#32 k.val) = fL
  refine word_step c (m := bA) (S := Finset.univ) (q := fullShare) (f := s.2.2) (R := iprop((arg0.view.loc (c : Thread nD τ) ↦[Finset.univ]{q0} f0)
    ∗ (bL.view.loc (c : Thread nD τ) ↦[Finset.univ]{fullShare} fL) ∗ R)) (Finset.subset_univ _) ?_ ?_ ?_
  · unfold Lists; iintro ⟨H0, HL, HA, H⟩; isplitl [HA]; · iexact HA
    isplitl [H0]; · iexact H0
    isplitl [HL]; · iexact HL
    iexact H
  · unfold Lists; iintro ⟨HA, H0, HL, H⟩; isplitl [H0]; · iexact H0
    isplitl [HL]; · iexact HL
    isplitl [HA]; · iexact HA
    iexact H
  refine store_a c (f := s.2.2) (P' := Lists c arg0 q0 f0 R fL (put s.2.2 s.1.1.toNat s.1.2)) (R := iprop((arg0.view.loc (c : Thread nD τ) ↦[Finset.univ]{q0} f0)
    ∗ (bL.view.loc (c : Thread nD τ) ↦[Finset.univ]{fullShare} fL) ∗ R)) s.1.1.toNat (by rw [← h1]; rfl) ?_ ?_ ?_
  · unfold Lists; iintro ⟨H0, HL, HA, H⟩; isplitl [HA]; · iexact HA
    isplitl [H0]; · iexact H0
    isplitl [HL]; · iexact HL
    iexact H
  · unfold Lists; rw [h2]; iintro ⟨HA, H0, HL, H⟩; isplitl [H0]; · iexact H0
    isplitl [HL]; · iexact HL
    isplitl [HA]; · iexact HA
    iexact H
  refine pure_step c ?_
  iintro H
  isplitr
  · ipureintro
    rw [h1, h2]
  · iexact H

end Cert.Kernel.Hand

end
-- ==== Proof.KQuant.lean ====
/-
  The quantised activations: what the kernel stores for one group of 128 columns, whichever group it is.
-/
module

public import proofs.«01_k».proof.Proof.KScan

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What is stored for a group of 128 columns. -/
def qz (v : Vec F S96x128 .bf16) : FVec F S96x128 .bf16 :=
  k0_pay363 (k0_pay362 (k0_pay354 v) (k0_pay355 v)
    (k0_pay359 (k0_pay355 v) (k0_pay356 v) (k0_pay357 v) k0_pay358) (k0_pay360 (k0_pay355 v) (k0_pay356 v) (k0_pay357 v) k0_pay358) k0_pay361)

/-- The group of 128 columns from column `cc` on. -/
def tX (x : S96x1408.Idx → Elt F .bf16) (cc : ℕ) : Vec F S96x128 .bf16 := fun i => x (ix2 (i 0) (Fin.ofNat 1408 (cc + (i 1).val)))

/-- The activations with the group of 128 columns from `cc` on replaced. -/
def xPut (cc : ℕ) (p : FVec F S96x128 .bf16) (X : Vec F S96x1408 .bf16) : Vec F S96x1408 .bf16 :=
  fun i => if cc ≤ (i 1).val ∧ (i 1).val < cc + 128 then p (ix2 (i 0) (Fin.ofNat 128 ((i 1).val - cc))) else X i

/-- The activations after `g` groups are quantised. -/
def xTo (x : S96x1408.Idx → Elt F .bf16) (X : Vec F S96x1408 .bf16) : ℕ → Vec F S96x1408 .bf16
  | 0 => X
  | g + 1 => xPut (128 * g) (qz (tX x (128 * g))) (xTo x X g)

/-- The activations quantised. -/
def quant (x : S96x1408.Idx → Elt F .bf16) : Vec F S96x1408 .bf16 :=
  fun i => qz (tX x (128 * ((i 1).val / 128))) (ix2 (i 0) (Fin.ofNat 128 ((i 1).val % 128)))

/-- After `g` groups the columns of those groups are quantised, -/
theorem xTo_lt (x : S96x1408.Idx → Elt F .bf16) (X : Vec F S96x1408 .bf16) (i : S96x1408.Idx) :
    ∀ g, (i 1).val < 128 * g → xTo x X g i = quant x i
  | 0, h => absurd h (by omega)
  | g + 1, h => by
    show xPut _ _ _ i = _
    unfold xPut
    by_cases hh : 128 * g ≤ (i 1).val ∧ (i 1).val < 128 * g + 128
    · rw [if_pos hh]
      unfold quant
      rw [show (i 1).val / 128 = g by omega, show (i 1).val - 128 * g = (i 1).val % 128 by omega]
    · rw [if_neg hh]; exact xTo_lt x X i g (by omega)

/-- and after eleven all are. -/
theorem xTo_all (x : S96x1408.Idx → Elt F .bf16) (X : Vec F S96x1408 .bf16) : xTo x X 11 = quant x :=
  funext fun i => xTo_lt x X i 11 (i 1).isLt

/-- What a load of one group of columns reads. -/
theorem read_X (arg1 : Memref sig .tc .vmem S96x1408 .bf16) (cc : ℕ) (h : ∀ a, (![0, cc] : Fin 2 → ℕ) a + S96x128.size a ≤ S96x1408.size a)
    (f : arg1.view.ty.Contents (Elt F)) :
    arg1.view.readAt (Elt F) (Rect.unit (s := S96x1408) ![0, cc] S96x128.size h).toLoadRect f = tX (arg1.view.read (Elt F) f) cc := by
  funext i
  show arg1.view.read (Elt F) f ((Rect.unit (s := S96x1408) ![0, cc] S96x128.size h).emb i) = arg1.view.read (Elt F) f _
  congr 1
  funext a
  refine Fin.ext ?_
  rw [Rect.emb_apply]
  have hc : cc + 128 ≤ 1408 := h 1
  have h1 : (i 1).val < 128 := (i 1).isLt
  fin_cases a
  · show 0 + 1 * (i 0).val = (i 0).val; omega
  · show cc + 1 * (i 1).val = (cc + (i 1).val) % 1408
    rw [Nat.mod_eq_of_lt (by omega)]; omega

/-- What the store of one group of columns leaves. -/
theorem write_X (cc : ℕ) (h : ∀ a, (![0, cc] : Fin 2 → ℕ) a + S96x128.size a ≤ S96x1408.size a) (f : bX.view.ty.Contents (Elt F))
    (p : FVec F S96x128 .bf16) :
    (bX.access (Rect.unit (s := S96x1408) ![0, cc] S96x128.size h)).write (Elt F) f p Finset.univ = xPut cc p f := by
  funext i
  have hc : cc + 128 ≤ 1408 := h 1
  unfold xPut
  by_cases hr : cc ≤ (i 1).val ∧ (i 1).val < cc + 128
  · have hi : i = (bX.access (Rect.unit (s := S96x1408) ![0, cc] S96x128.size h)).emb (ix2 (i 0) (Fin.ofNat 128 ((i 1).val - cc))) := by
      show i = (Rect.unit (s := S96x1408) ![0, cc] S96x128.size h).emb _
      funext a
      refine Fin.ext ?_
      rw [Rect.emb_apply]
      fin_cases a
      · show (i 0).val = 0 + 1 * (i 0).val; omega
      · show (i 1).val = cc + 1 * (((i 1).val - cc) % 128); rw [Nat.mod_eq_of_lt (by omega)]; omega
    rw [if_pos hr]
    conv_lhs => rw [hi]
    rw [View.write_emb]
    exact if_pos (Finset.mem_univ _)
  · rw [View.write_of_not_mem, if_neg hr]
    intro hi
    obtain ⟨y, hy, rfl⟩ := Finset.mem_map.mp hi
    apply hr
    have e : (((bX.access (Rect.unit (s := S96x1408) ![0, cc] S96x128.size h)).emb y) 1).val = cc + (y 1).val := by
      show ((Rect.unit (s := S96x1408) ![0, cc] S96x128.size h).emb y 1).val = _
      rw [Rect.emb_apply]
      show cc + 1 * (y 1).val = _
      omega
    rw [e]
    have : (y 1).val < 128 := (y 1).isLt
    omega

variable (c : Dev nD)

/-- While the activations are quantised: the activations given, those quantised, and whatever else. -/
def Act (arg1 : Memref sig .tc .vmem S96x1408 .bf16) (q1 : PosShare TreeShare) (f1 : Buf (Elt F) (arg1.view.loc (c : Thread nD τ))) (R : Asn F)
    (X : Vec F S96x1408 .bf16) : Asn F :=
  iprop((arg1.view.loc (c : Thread nD τ) ↦[Finset.univ]{q1} f1) ∗ (bX.view.loc (c : Thread nD τ) ↦[Finset.univ]{fullShare} X) ∗ R)

section
variable {α : Type} {Q : α → Asn F} {R : Asn F} {arg1 : Memref sig .tc .vmem S96x1408 .bf16} {q1 : PosShare TreeShare}
  {f1 : Buf (Elt F) (arg1.view.loc (c : Thread nD τ))} {X : Vec F S96x1408 .bf16}

theorem load_1 {cc : ℕ} {h : ∀ a, (![0, cc] : Fin 2 → ℕ) a + S96x128.size a ≤ S96x1408.size a}
    {hl : arg1.view.LoadsAt (Rect.unit (s := S96x1408) ![0, cc] S96x128.size h).toLoadRect}
    {kk : (S96x128.Idx → Elt F .bf16) → Prog (TpuEff nD τ sig (Elt F) Λ₀ .tc) α}
    (H : Act c arg1 q1 f1 R X ⊢ Run c (kk (tX (arg1.view.read (Elt F) f1) cc)) Q) :
    Act c arg1 q1 f1 R X ⊢ Run c (Prog.lift (.load arg1 (Rect.unit (s := S96x1408) ![0, cc] S96x128.size h).toLoadRect hl) >>= kk) Q := by
  refine load_step c (S := Finset.univ) (q := q1) (f := f1) (R := iprop((bX.view.loc (c : Thread nD τ) ↦[Finset.univ]{fullShare} X) ∗ R))
    (Finset.subset_univ _) .rfl .rfl ?_
  exact H.trans (Entails.of_eq (congrArg (fun v => Run c (kk v) Q) (read_X arg1 cc h f1).symm))

theorem load_7 {cc : ℕ} {h : ∀ a, (![0, cc] : Fin 2 → ℕ) a + S96x128.size a ≤ S96x1408.size a}
    {hl : bX.view.LoadsAt (Rect.unit (s := S96x1408) ![0, cc] S96x128.size h).toLoadRect}
    {kk : (S96x128.Idx → Elt F .bf16) → Prog (TpuEff nD τ sig (Elt F) Λ₀ .tc) α}
    (H : ∀ v, Act c arg1 q1 f1 R X ⊢ Run c (kk v) Q) :
    Act c arg1 q1 f1 R X ⊢ Run c (Prog.lift (.load bX (Rect.unit (s := S96x1408) ![0, cc] S96x128.size h).toLoadRect hl) >>= kk) Q := by
  refine load_step c (S := Finset.univ) (q := fullShare) (f := X) (R := iprop((arg1.view.loc (c : Thread nD τ) ↦[Finset.univ]{q1} f1) ∗ R))
    (Finset.subset_univ _) ?_ ?_ (H _)
  · unfold Act; iintro ⟨H1, H2, H3⟩; isplitl [H2]; · iexact H2
    isplitl [H1]; · iexact H1
    iexact H3
  · unfold Act; iintro ⟨H2, H1, H3⟩; isplitl [H1]; · iexact H1
    isplitl [H2]; · iexact H2
    iexact H3

theorem store_7 (g : ℕ) {cc : ℕ} {h : ∀ a, (![0, cc] : Fin 2 → ℕ) a + S96x128.size a ≤ S96x1408.size a} {p : FVec F S96x128 .bf16} {hx hm}
    {kk : PUnit → Prog (TpuEff nD τ sig (Elt F) Λ₀ .tc) α} (hcc : cc = 128 * g) (hp : p = qz (tX (arg1.view.read (Elt F) f1) cc))
    (H : Act c arg1 q1 f1 R (xTo (arg1.view.read (Elt F) f1) X (g + 1)) ⊢ Run c (kk ⟨⟩) Q) :
    Act c arg1 q1 f1 R (xTo (arg1.view.read (Elt F) f1) X g)
      ⊢ Run c (Prog.lift (.store bX (Rect.unit (s := S96x1408) ![0, cc] S96x128.size h) p Finset.univ hx hm) >>= kk) Q := by
  subst hp hcc
  refine store_step c (S := Finset.univ) (f := xTo (arg1.view.read (Elt F) f1) X g) (P' := Act c arg1 q1 f1 R (xTo (arg1.view.read (Elt F) f1) X (g + 1)))
    (R := iprop((arg1.view.loc (c : Thread nD τ) ↦[Finset.univ]{q1} f1) ∗ R)) (Finset.subset_univ _) ?_ ?_ H
  · unfold Act; iintro ⟨H1, H2, H3⟩; isplitl [H2]; · iexact H2
    isplitl [H1]; · iexact H1
    iexact H3
  · rw [write_X]
    unfold Act; iintro ⟨H2, H1, H3⟩; isplitl [H1]; · iexact H1
    isplitl [H2]; · iexact H2
    iexact H3

end

end Cert.Kernel.Hand

end
-- ==== Proof.KPre.lean ====
/-
  The start of the kernel: the lists built, the first three experts' copies started, the first group of columns read.
-/
module

public import proofs.«01_k».proof.Proof.KQuant

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Whether there is a first expert. -/
theorem cond1_lt {v : BitVec 32} (hv : v.toNat ≤ 64) : k0_cond1 v = 1#1 ↔ 0 < v.toNat := by
  have key : (0#32).slt v = decide (0 < v.toNat) := by
    rw [BitVec.slt_eq_decide, BitVec.toInt_eq_toNat_of_lt (x := 0#32) (by decide), BitVec.toInt_eq_toNat_of_lt (by omega)]
    simp
  show IntOp.cmpi .ne ((BitVec.ofBool ((0#32).slt v)).setWidth 32) 0#32 = 1#1 ↔ _
  rw [key]
  by_cases h : 0 < v.toNat
  · simp only [h, decide_true, iff_true]; decide
  · simp only [h, decide_false, iff_false]; decide

/-- Whether there is a second expert. -/
theorem cond2_lt {v : BitVec 32} (hv : v.toNat ≤ 64) : k0_cond2 v = 1#1 ↔ 1 < v.toNat := by
  have key : (1#32).slt v = decide (1 < v.toNat) := by
    rw [BitVec.slt_eq_decide, BitVec.toInt_eq_toNat_of_lt (x := 1#32) (by decide), BitVec.toInt_eq_toNat_of_lt (by omega)]
    simp
  show IntOp.cmpi .ne ((BitVec.ofBool ((1#32).slt v)).setWidth 32) 0#32 = 1#1 ↔ _
  rw [key]
  by_cases h : 1 < v.toNat
  · simp only [h, decide_true, iff_true]; decide
  · simp only [h, decide_false, iff_false]; decide

/-- Whether there is a third expert. -/
theorem cond3_lt {v : BitVec 32} (hv : v.toNat ≤ 64) : k0_cond3 v = 1#1 ↔ 2 < v.toNat := by
  have key : (2#32).slt v = decide (2 < v.toNat) := by
    rw [BitVec.slt_eq_decide, BitVec.toInt_eq_toNat_of_lt (x := 2#32) (by decide), BitVec.toInt_eq_toNat_of_lt (by omega)]
    simp
  show IntOp.cmpi .ne ((BitVec.ofBool ((2#32).slt v)).setWidth 32) 0#32 = 1#1 ↔ _
  rw [key]
  by_cases h : 2 < v.toNat
  · simp only [h, decide_true, iff_true]; decide
  · simp only [h, decide_false, iff_false]; decide

variable (c : Dev nD)

/-- The next expert's weights and scales started into the slot that is theirs. -/
theorem start_both {α : Type} {Q : α → Asn F} {P R : Asn F} {gW : hbW.view.ty.Contents (Elt F)} {gS : hbS.view.ty.Contents (Elt F)} {L : ℕ → Fin 64}
    (j : ℕ) (hj : j < 3) {o1 o4 : Fin 2 → ℕ} {o2 o3 o5 o6 : Fin 3 → ℕ} {h1 : ∀ a, o1 a + S1x1.size a ≤ S2x3.size a}
    {h2 : ∀ a, o2 a + S1x704x3072.size a ≤ S3x704x3072.size a} {h3 : ∀ a, o3 a + S1x704x3072.size a ≤ S64x704x3072.size a}
    {h4 : ∀ a, o4 a + S1x1.size a ≤ S2x3.size a} {h5 : ∀ a, o5 a + S1x11x3072.size a ≤ S3x11x3072.size a}
    {h6 : ∀ a, o6 a + S1x11x3072.size a ≤ S64x11x3072.size a} {hsrc hdst hsem hsrc' hdst' hsem'}
    {kk : PUnit → Prog (TpuEff nD τ sig (Elt F) Λ₀ .tc) α}
    (e1 : o1 = ![0, j]) (e2 : o2 = ![j, 0, 0]) (e3 : o3 = ![(L j).val, 0, 0])
    (e4 : o4 = ![1, j]) (e5 : o5 = ![j, 0, 0]) (e6 : o6 = ![(L j).val, 0, 0])
    (hP : P ⊢ iprop(Ring.AtW (Slot c gW gS L) (Ring.inWin 0 j 3) ∗ R))
    (h : iprop(Ring.AtW (Slot c gW gS L) (Ring.inWin 0 (j + 1) 3) ∗ R) ⊢ Run c (kk ⟨⟩) Q) :
    P ⊢ Run c (Prog.lift (.enqueueDma ((hbW.slice (Rect.unit (s := S64x704x3072) o3 S1x704x3072.size h3) (fun _ => rfl)).squeeze S704x3072 squeezes_S1x704x3072_S704x3072)
      (.here ((bW.slice (Rect.unit (s := S3x704x3072) o2 S1x704x3072.size h2) (fun _ => rfl)).squeeze S704x3072 squeezes_S1x704x3072_S704x3072))
      (.dma ((cc0_scratch6.slice (Rect.unit (s := S2x3) o1 S1x1.size h1)).squeeze S_ squeezes_S1x1_S_).sem) hsrc hdst hsem) >>= fun _ =>
      Prog.lift (.enqueueDma ((hbS.slice (Rect.unit (s := S64x11x3072) o6 S1x11x3072.size h6) (fun _ => rfl)).squeeze S11x3072 squeezes_S1x11x3072_S11x3072)
      (.here ((bS.slice (Rect.unit (s := S3x11x3072) o5 S1x11x3072.size h5) (fun _ => rfl)).squeeze S11x3072 squeezes_S1x11x3072_S11x3072))
      (.dma ((cc0_scratch6.slice (Rect.unit (s := S2x3) o4 S1x1.size h4)).squeeze S_ squeezes_S1x1_S_).sem) hsrc' hdst' hsem') >>= kk) Q := by
  have hk : (⟨j, hj⟩ : Fin 3) = Ring.sl 3 j := Fin.ext (by rw [Ring.sl_val]; exact (Nat.mod_eq_of_lt hj).symm)
  have hn : Ring.inWin 0 j 3 ⟨j, hj⟩ = none := by rw [hk]; exact Ring.inWin_hi (by omega) (by omega)
  refine start_w c ⟨j, hj⟩ (L j) (gW := gW) (R := iprop(Idle c (cellS ⟨j, hj⟩) (slotS ⟨j, hj⟩) (expS 0) (tok ⟨j, hj⟩) gS
      ∗ Ring.restW (Slot c gW gS L) (Ring.inWin 0 j 3) ⟨j, hj⟩ ∗ R)) e1 e2 e3 ?_ ?_
  · refine hP.trans ?_
    rw [Ring.AtW_focus (Slot c gW gS L) (Ring.inWin 0 j 3) ⟨j, hj⟩, hn]
    unfold Slot
    iintro ⟨⟨⟨Hi, Hj⟩, Hr⟩, HR⟩
    isplitl [Hi]; · iexact Hi
    isplitl [Hj]; · iexact Hj
    isplitl [Hr]; · iexact Hr
    iexact HR
  refine start_s c ⟨j, hj⟩ (L j) (gS := gS) (R := iprop(Busy c (cellW ⟨j, hj⟩) (slotW ⟨j, hj⟩) (expW (L j)) (tok ⟨j, hj⟩) gW
      ∗ Ring.restW (Slot c gW gS L) (Ring.inWin 0 j 3) ⟨j, hj⟩ ∗ R)) e4 e5 e6 ?_ ?_
  · iintro ⟨Hi, Hj, Hr⟩
    isplitl [Hj]; · iexact Hj
    isplitl [Hi]; · iexact Hi
    iexact Hr
  refine BIBase.Entails.trans ?_ h
  rw [Ring.inWin_push (by omega) (by omega), ← hk]
  iintro ⟨Hj, Hi, Hr, HR⟩
  isplitl [Hj Hi Hr]
  · iapply Ring.AtW_update
    isplitl [Hj Hi]
    · unfold Slot
      isplitl [Hi]; · iexact Hi
      iexact Hj
    iexact Hr
  iexact HR

/-- A branch with nothing on its other side: what follows is met once. -/
theorem join_step {α : Type} {Q : α → Asn F} {P P' : Asn F} {rest : Prog (TpuEff nD τ sig (Elt F) Λ₀ .tc) α}
    {p : Prop} {d : Decidable p} {A : p → Prog (TpuEff nD τ sig (Elt F) Λ₀ .tc) α}
    (h1 : P' ⊢ Run c rest Q) (h2 : (P' ⊢ Run c rest Q) → ∀ h : p, P ⊢ Run c (A h) Q) (h3 : ¬ p → P ⊢ P') :
    P ⊢ Run c (if h : p then A h else rest) Q := by
  by_cases h : p
  · rw [dif_pos h]; exact h2 h1 h
  · rw [dif_neg h]; exact (h3 h).trans h1

/-- The ring with the first experts' copies started, the two lists, and whatever else. -/
def Start (gW : hbW.view.ty.Contents (Elt F)) (gS : hbS.view.ty.Contents (Elt F)) (L : ℕ → Fin 64) (fL fA : S65.Idx → Elt F .i32) (R : Asn F) (m : ℕ) : Asn F :=
  iprop(Ring.AtW (Slot c gW gS L) (Ring.inWin 0 m 3) ∗ (bL.view.loc (c : Thread nD τ) ↦[Finset.univ]{fullShare} fL)
    ∗ (bA.view.loc (c : Thread nD τ) ↦[Finset.univ]{fullShare} fA) ∗ R)

variable (arg0 : Memref sig .tc .smem S64 .i32) (harg0 : arg0.IsWhole) (arg1 : Memref sig .tc .vmem S96x1408 .bf16) (harg1 : arg1.IsWhole)
  (harg2 : hbW.IsWhole) (harg3 : hbS.IsWhole) (arg4 : Memref sig .tc .vmem S96x3072 .bf16) (harg4 : arg4.IsWhole)
  (harg5 : bW.IsWhole) (harg6 : bS.IsWhole) (harg7 : bX.IsWhole) (harg8 : bY.IsWhole) (harg9 : bL.IsWhole) (harg10 : bA.IsWhole)

set_option maxHeartbeats 2000000 in
/-- The kernel up to the first group of columns. -/
theorem prologue {Q : (Σ' (v1_0 : BitVec 32) (k0_hw2 : k0_chk2 v1_0) (v14 : FVec F S96x128 .f32) (v19 : FVec F S96x1 .f32) (v29 : IVec S96x1 32) (v31 : IVec S96x1 32), IVec S96x1 32) → Asn F}
    {R : Asn F} {q0 q1 : PosShare TreeShare} {f0 : Buf (Elt F) (arg0.view.loc (c : Thread nD τ))} {f1 : Buf (Elt F) (arg1.view.loc (c : Thread nD τ))}
    {X : Vec F S96x1408 .bf16} {gW : hbW.view.ty.Contents (Elt F)} {gS : hbS.view.ty.Contents (Elt F)} {gL gA : S65.Idx → Elt F .i32}
    {sc : (BitVec 32 × BitVec 32) × (S65.Idx → Elt F .i32) × (S65.Idx → Elt F .i32)}
    (hsc : sc = scan (arg0.view.read (Elt F) f0) gL gA 64)
    (H : ∀ hw2, Act c arg1 q1 f1 (Start c gW gS (listed (arg0.view.read (Elt F) f0) gL gA) sc.2.1 (put sc.2.2 sc.1.1.toNat sc.1.2)
        iprop((arg0.view.loc (c : Thread nD τ) ↦[Finset.univ]{q0} f0) ∗ R) (min 3 sc.1.1.toNat)) X
      ⊢ Q ⟨sc.1.1, hw2, k0_pay354 (tX (arg1.view.read (Elt F) f1) 0), k0_pay355 (tX (arg1.view.read (Elt F) f1) 0),
        k0_pay356 (tX (arg1.view.read (Elt F) f1) 0), k0_pay357 (tX (arg1.view.read (Elt F) f1) 0), k0_pay358⟩) :
    Lists c arg0 q0 f0 iprop(Ring.AtW (Slot c gW gS (listed (arg0.view.read (Elt F) f0) gL gA)) (fun _ => none) ∗ (arg1.view.loc (c : Thread nD τ) ↦[Finset.univ]{q1} f1)
        ∗ (bX.view.loc (c : Thread nD τ) ↦[Finset.univ]{fullShare} X) ∗ R) gL gA
      ⊢ Run c (k0_part105 arg0 harg0 arg1 harg1 hbW harg2 hbS harg3 arg4 harg4 bW harg5 bS harg6 bX harg7 bY harg8 bL harg9 bA harg10 cc0_scratch6) Q := by
  rw [k0_part105_eq_skeleton]; unfold k0_part105_skel
  refine loop_step c (fun t acc => iprop(⌜acc = (scan (arg0.view.read (Elt F) f0) gL gA t).1⌝ ∗ Lists c arg0 q0 f0
      iprop(Ring.AtW (Slot c gW gS (listed (arg0.view.read (Elt F) f0) gL gA)) (fun _ => none) ∗ (arg1.view.loc (c : Thread nD τ) ↦[Finset.univ]{q1} f1)
        ∗ (bX.view.loc (c : Thread nD τ) ↦[Finset.univ]{fullShare} X) ∗ R)
      (scan (arg0.view.read (Elt F) f0) gL gA t).2.1 (scan (arg0.view.read (Elt F) f0) gL gA t).2.2))
    (fun k acc => scan_trip c arg0 harg0 arg1 harg1 harg2 harg3 arg4 harg4 harg5 harg6 harg7 harg8 harg9 harg10 q0 f0 _ gL gA k acc) ?_ fun acc => ?_
  · iintro H
    isplitr
    · ipureintro; rfl
    iexact H
  rw [show Scf.trips k0_t1_loop.lb k0_t1_loop.ub k0_t1_loop.st = 64 from rfl, ← hsc]
  refine fact_step fun hacc => ?_
  obtain ⟨n, row⟩ := acc
  have hn : n = sc.1.1 := congrArg Prod.fst hacc
  have hrow : row = sc.1.2 := congrArg Prod.snd hacc
  have hv : sc.1.1.toNat ≤ 64 := by rw [hsc]; exact scan_le _ _ _ 64 (le_refl _)
  have hL : ∀ j (hj : j < 65), j < sc.1.1.toNat → sc.2.1 (ix1 ⟨j, hj⟩) = BitVec.ofNat 32 (listed (arg0.view.read (Elt F) f0) gL gA j).val := by
    rw [hsc]; exact fun j hj h => scan_listed _ _ _ j hj h
  generalize listed (arg0.view.read (Elt F) f0) gL gA = L at *
  clear hsc hacc
  obtain ⟨⟨n', row'⟩, fL, fA⟩ := sc
  simp only at hn hrow hv hL H
  subst hn hrow
  have he : ∀ j, (BitVec.ofNat 32 (L j).val).toNat = (L j).val := fun j => by
    rw [BitVec.toNat_ofNat]; have := (L j).isLt; omega
  refine assume_step c (chk2 hv) ?_
  generalize hR0 : iprop((arg0.view.loc (c : Thread nD τ) ↦[Finset.univ]{q0} f0) ∗ (bX.view.loc (c : Thread nD τ) ↦[Finset.univ]{fullShare} X) ∗ (arg1.view.loc (c : Thread nD τ) ↦[Finset.univ]{q1} f1) ∗ R) = R0
  refine BIBase.Entails.trans (Q := Start c gW gS L fL fA R0 (min 0 n.toNat)) ?_ ?_
  · subst hR0
    unfold Start Lists
    rw [show Ring.inWin 0 (min 0 n.toNat) 3 = (fun _ => none) from by funext k; rw [Nat.zero_min]; exact (Ring.inWin_eq_none_iff (by omega) k).2 (fun x h1 h2 => absurd h2 (by omega))]
    iintro ⟨H0, HL, HA, Hr, H1, HX, HR⟩
    isplitl [Hr]; · iexact Hr
    isplitl [HL]; · iexact HL
    isplitl [HA]; · iexact HA
    isplitl [H0]; · iexact H0
    isplitl [HX]; · iexact HX
    isplitl [H1]; · iexact H1
    iexact HR
  refine word_a c (f := fA) n.toNat (by omega) rfl (R := iprop(Ring.AtW (Slot c gW gS L) (Ring.inWin 0 (min 0 n.toNat) 3)
    ∗ (bL.view.loc (c : Thread nD τ) ↦[Finset.univ]{fullShare} fL) ∗ R0)) ?_ ?_ ?_
  · unfold Start; iintro ⟨Hr, HL, HA, HR⟩; isplitl [HA]; · iexact HA
    isplitl [Hr]; · iexact Hr
    isplitl [HL]; · iexact HL
    iexact HR
  · unfold Start; iintro ⟨HA, Hr, HL, HR⟩; isplitl [Hr]; · iexact Hr
    isplitl [HL]; · iexact HL
    isplitl [HA]; · iexact HA
    iexact HR
  refine store_a c (f := fA) (P' := Start c gW gS L fL (put fA n.toNat row) R0 (min 0 n.toNat)) n.toNat rfl (R := iprop(Ring.AtW (Slot c gW gS L) (Ring.inWin 0 (min 0 n.toNat) 3)
    ∗ (bL.view.loc (c : Thread nD τ) ↦[Finset.univ]{fullShare} fL) ∗ R0)) ?_ ?_ ?_
  · unfold Start; iintro ⟨Hr, HL, HA, HR⟩; isplitl [HA]; · iexact HA
    isplitl [Hr]; · iexact Hr
    isplitl [HL]; · iexact HL
    iexact HR
  · unfold Start; iintro ⟨HA, Hr, HL, HR⟩; isplitl [Hr]; · iexact Hr
    isplitl [HL]; · iexact HL
    isplitl [HA]; · iexact HA
    iexact HR
  generalize put fA n.toNat row = fB at *
  refine join_step c (P' := Start c gW gS L fL fB R0 (min 1 n.toNat)) ?_ (fun next h1 => ?_) (fun h1 => ?_)
  rotate_left
  rotate_left
  · have hlt : ¬ 0 < n.toNat := fun h => h1 ((cond1_lt hv).2 h)
    rw [show min 0 n.toNat = min 1 n.toNat by omega]
  rotate_left
  · have hlt := (cond1_lt hv).1 h1
    refine word_l c (f := fL) 0 (by omega) rfl (R := iprop(Ring.AtW (Slot c gW gS L) (Ring.inWin 0 (min 0 n.toNat) 3)
      ∗ (bA.view.loc (c : Thread nD τ) ↦[Finset.univ]{fullShare} fB) ∗ R0)) ?_ ?_ ?_
    · unfold Start; iintro ⟨Hr, HL, HR⟩; isplitl [HL]; · iexact HL
      isplitl [Hr]; · iexact Hr
      iexact HR
    · unfold Start; iintro ⟨HL, Hr, HR⟩; isplitl [Hr]; · iexact Hr
      isplitl [HL]; · iexact HL
      iexact HR
    rw [hL 0 (by omega) hlt]
    refine assume_step c (chk3 (by rw [he]; exact (L 0).isLt)) ?_
    refine start_both c (L := L) (gW := gW) (gS := gS) 0 (by omega) (R := iprop((bL.view.loc (c : Thread nD τ) ↦[Finset.univ]{fullShare} fL)
      ∗ (bA.view.loc (c : Thread nD τ) ↦[Finset.univ]{fullShare} fB) ∗ R0)) rfl rfl (congrArg (fun x : ℕ => (![x, 0, 0] : Fin 3 → ℕ)) (he 0))
      rfl rfl (congrArg (fun x : ℕ => (![x, 0, 0] : Fin 3 → ℕ)) (he 0)) ?_ ?_
    · rw [show min 0 n.toNat = 0 by omega]
      exact .rfl
    refine BIBase.Entails.trans (Q := Start c gW gS L fL fB R0 (min 1 n.toNat)) ?_ next
    rw [show min 1 n.toNat = 0 + 1 by omega]
    exact .rfl
  refine join_step c (P' := Start c gW gS L fL fB R0 (min 2 n.toNat)) ?_ (fun next h2 => ?_) (fun h2 => ?_)
  rotate_left
  rotate_left
  · have hlt : ¬ 1 < n.toNat := fun h => h2 ((cond2_lt hv).2 h)
    rw [show min 1 n.toNat = min 2 n.toNat by omega]
  rotate_left
  · have hlt := (cond2_lt hv).1 h2
    refine word_l c (f := fL) 1 (by omega) rfl (R := iprop(Ring.AtW (Slot c gW gS L) (Ring.inWin 0 (min 1 n.toNat) 3)
      ∗ (bA.view.loc (c : Thread nD τ) ↦[Finset.univ]{fullShare} fB) ∗ R0)) ?_ ?_ ?_
    · unfold Start; iintro ⟨Hr, HL, HR⟩; isplitl [HL]; · iexact HL
      isplitl [Hr]; · iexact Hr
      iexact HR
    · unfold Start; iintro ⟨HL, Hr, HR⟩; isplitl [Hr]; · iexact Hr
      isplitl [HL]; · iexact HL
      iexact HR
    rw [hL 1 (by omega) hlt]
    refine assume_step c (chk4 (by rw [he]; exact (L 1).isLt)) ?_
    refine start_both c (L := L) (gW := gW) (gS := gS) 1 (by omega) (R := iprop((bL.view.loc (c : Thread nD τ) ↦[Finset.univ]{fullShare} fL)
      ∗ (bA.view.loc (c : Thread nD τ) ↦[Finset.univ]{fullShare} fB) ∗ R0)) rfl rfl (congrArg (fun x : ℕ => (![x, 0, 0] : Fin 3 → ℕ)) (he 1))
      rfl rfl (congrArg (fun x : ℕ => (![x, 0, 0] : Fin 3 → ℕ)) (he 1)) ?_ ?_
    · rw [show min 1 n.toNat = 1 by omega]
      exact .rfl
    refine BIBase.Entails.trans (Q := Start c gW gS L fL fB R0 (min 2 n.toNat)) ?_ next
    rw [show min 2 n.toNat = 1 + 1 by omega]
    exact .rfl
  refine join_step c (P' := Start c gW gS L fL fB R0 (min 3 n.toNat)) ?_ (fun next h3 => ?_) (fun h3 => ?_)
  rotate_left
  rotate_left
  · have hlt : ¬ 2 < n.toNat := fun h => h3 ((cond3_lt hv).2 h)
    rw [show min 2 n.toNat = min 3 n.toNat by omega]
  rotate_left
  · have hlt := (cond3_lt hv).1 h3
    refine word_l c (f := fL) 2 (by omega) rfl (R := iprop(Ring.AtW (Slot c gW gS L) (Ring.inWin 0 (min 2 n.toNat) 3)
      ∗ (bA.view.loc (c : Thread nD τ) ↦[Finset.univ]{fullShare} fB) ∗ R0)) ?_ ?_ ?_
    · unfold Start; iintro ⟨Hr, HL, HR⟩; isplitl [HL]; · iexact HL
      isplitl [Hr]; · iexact Hr
      iexact HR
    · unfold Start; iintro ⟨HL, Hr, HR⟩; isplitl [Hr]; · iexact Hr
      isplitl [HL]; · iexact HL
      iexact HR
    rw [hL 2 (by omega) hlt]
    refine assume_step c (chk5 (by rw [he]; exact (L 2).isLt)) ?_
    refine start_both c (L := L) (gW := gW) (gS := gS) 2 (by omega) (R := iprop((bL.view.loc (c : Thread nD τ) ↦[Finset.univ]{fullShare} fL)
      ∗ (bA.view.loc (c : Thread nD τ) ↦[Finset.univ]{fullShare} fB) ∗ R0)) rfl rfl (congrArg (fun x : ℕ => (![x, 0, 0] : Fin 3 → ℕ)) (he 2))
      rfl rfl (congrArg (fun x : ℕ => (![x, 0, 0] : Fin 3 → ℕ)) (he 2)) ?_ ?_
    · rw [show min 2 n.toNat = 2 by omega]
      exact .rfl
    refine BIBase.Entails.trans (Q := Start c gW gS L fL fB R0 (min 3 n.toNat)) ?_ next
    rw [show min 3 n.toNat = 2 + 1 by omega]
    exact .rfl
  subst hR0
  refine BIBase.Entails.trans (Q := Act c arg1 q1 f1 (Start c gW gS L fL fB iprop((arg0.view.loc (c : Thread nD τ) ↦[Finset.univ]{q0} f0) ∗ R) (min 3 n.toNat)) X) ?_ ?_
  · unfold Start Act
    iintro ⟨Hr, HL, HA, H0, HX, H1, HR⟩
    isplitl [H1]; · iexact H1
    isplitl [HX]; · iexact HX
    isplitl [Hr]; · iexact Hr
    isplitl [HL]; · iexact HL
    isplitl [HA]; · iexact HA
    isplitl [H0]; · iexact H0
    iexact HR
  refine load_1 c ?_
  refine pure_step c ?_
  exact H _

end Cert.Kernel.Hand

end
-- ==== Proof.KNext.lean ====
/-
  What the kernel's main loop holds between trips, and the end of a trip: the start of the copies of the expert
  three trips ahead, when there is one.
-/
module

public import proofs.«01_k».proof.Proof.KRing

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)

/-- What the main loop holds before trip `t`: the ring with the next three experts' copies in flight, the activations,
the result so far, the two lists, and the core's waits. -/
def Main (gW : hbW.view.ty.Contents (Elt F)) (gS : hbS.view.ty.Contents (Elt F)) (L : ℕ → Fin 64) (n : ℕ) (xs : Vec F S96x1408 .bf16)
    (fL fA : S65.Idx → Elt F .i32) (t : ℕ) (y : S96x3072.Idx → Elt F .f32) : Asn F :=
  iprop(Ring.AtW (Slot c gW gS L) (Ring.inWin t (min (t + 3) n) 3)
    ∗ (bX.view.loc (c : Thread nD τ) ↦[Finset.univ]{fullShare} xs) ∗ (bY.view.loc (c : Thread nD τ) ↦[Finset.univ]{fullShare} y)
    ∗ (bL.view.loc (c : Thread nD τ) ↦[Finset.univ]{fullShare} fL) ∗ (bA.view.loc (c : Thread nD τ) ↦[Finset.univ]{fullShare} fA) ∗ waits c)

/-- What lies aside while a trip computes. -/
def Aside (gW : hbW.view.ty.Contents (Elt F)) (gS : hbS.view.ty.Contents (Elt F)) (L : ℕ → Fin 64) (st : Fin 3 → Option ℕ) (k : Fin 3)
    (fL fA : S65.Idx → Elt F .i32) : Asn F :=
  iprop((semVal ((c : Thread nD τ), SemLoc.dma (cellW k)) 0 ∗ (hbW.view.loc (c : Thread nD τ) ↦[Finset.univ]{tok k} gW))
    ∗ (semVal ((c : Thread nD τ), SemLoc.dma (cellS k)) 0 ∗ (hbS.view.loc (c : Thread nD τ) ↦[Finset.univ]{tok k} gS))
    ∗ Ring.restW (Slot c gW gS L) st k
    ∗ (bL.view.loc (c : Thread nD τ) ↦[Finset.univ]{fullShare} fL) ∗ (bA.view.loc (c : Thread nD τ) ↦[Finset.univ]{fullShare} fA) ∗ waits c)

set_option maxHeartbeats 1000000 in
/-- The end of a trip: the slot it used goes to the expert three trips ahead, if there is one. -/
theorem trip_next (harg2 : hbW.IsWhole) (harg5 : bW.IsWhole) {v : BitVec 32} (hv : v.toNat ≤ 64) (hw2 : k0_chk2 v) (t : Fin (k0_t2_loop v).trips)
    (gW : hbW.view.ty.Contents (Elt F)) (gS : hbS.view.ty.Contents (Elt F)) (L : ℕ → Fin 64) (xs : Vec F S96x1408 .bf16)
    (fL fA : S65.Idx → Elt F .i32) (hL : ∀ j (hj : j < 65), j < v.toNat → fL (ix1 ⟨j, hj⟩) = BitVec.ofNat 32 (L j).val)
    (y : S96x3072.Idx → Elt F .f32) (ht : t.val < v.toNat) {k : Fin 3} (hk : k = Ring.sl 3 t.val)
    (fw : bW.view.ty.Contents (Elt F)) (fs : bS.view.ty.Contents (Elt F)) :
    Cmp c k fw fs xs (Aside c gW gS L (Ring.inWin t.val (min (t.val + 3) v.toNat) 3) k fL fA) y ⊢ Run c (do
    if k0_h4 : k0_cond4 v t = 1#1 then do
      let v3634 : Elt F .i32 ← smemLoad bL (Rect.unit (s := S65) (k0_off295 v t) S1.size (k0_off295_inb v hw2 t k0_h4)) numel1_S1 rfl
      have k0_hw7 : k0_chk7 v t v3634 := (← Prog.lift (TpuEff.assume (k0_chk7 v t v3634) (k0_chk7.dec v t v3634))).down
      let v3636 : DmaSems sig S1x1 := cc0_scratch6.slice (Rect.unit (s := S2x3) (k0_off296 v t) S1x1.size (k0_off296_inb v hw2 t k0_h4))
      let v3637 : DmaSems sig S_ := v3636.squeeze S_ squeezes_S1x1_S_
      let v3638 : Memref sig .tc .vmem S1x704x3072 .i8 := bW.slice (Rect.unit (s := S3x704x3072) (k0_off297 v t) S1x704x3072.size (k0_off297_inb v hw2 t k0_h4)) (fun _ => rfl)
      let v3639 : Memref sig .tc .vmem S704x3072 .i8 := v3638.squeeze S704x3072 squeezes_S1x704x3072_S704x3072
      let v3640 : Memref sig .tc .hbm S1x704x3072 .i8 := hbW.slice (Rect.unit (s := S64x704x3072) (k0_off298 v3634) S1x704x3072.size (k0_off298_inb v t v3634 k0_hw7 k0_h4)) (fun _ => rfl)
      let v3641 : Memref sig .tc .hbm S704x3072 .i8 := v3640.squeeze S704x3072 squeezes_S1x704x3072_S704x3072
      Prog.lift (.enqueueDma v3641 (.here v3639) (.dma v3637.sem) ((harg2.wordExact_slice rfl _ (k0_off298_wordsi8 v t v3634 k0_hw7 k0_h4)).reshape _ _) ((harg5.wordExact_slice rfl _ (k0_off297_wordsi8 v hw2 t k0_h4)).reshape _ _) ⟨Or.inl rfl, trivial⟩)
      let v3642 : DmaSems sig S1x1 := cc0_scratch6.slice (Rect.unit (s := S2x3) (k0_off299 v t) S1x1.size (k0_off299_inb v hw2 t k0_h4))
      let v3643 : DmaSems sig S_ := v3642.squeeze S_ squeezes_S1x1_S_
      let v3644 : Memref sig .tc .vmem S1x11x3072 .f32 := bS.slice (Rect.unit (s := S3x11x3072) (k0_off300 v t) S1x11x3072.size (k0_off300_inb v hw2 t k0_h4)) (fun _ => rfl)
      let v3645 : Memref sig .tc .vmem S11x3072 .f32 := v3644.squeeze S11x3072 squeezes_S1x11x3072_S11x3072
      let v3646 : Memref sig .tc .hbm S1x11x3072 .f32 := hbS.slice (Rect.unit (s := S64x11x3072) (k0_off301 v3634) S1x11x3072.size (k0_off301_inb v t v3634 k0_hw7 k0_h4)) (fun _ => rfl)
      let v3647 : Memref sig .tc .hbm S11x3072 .f32 := v3646.squeeze S11x3072 squeezes_S1x11x3072_S11x3072
      Prog.lift (.enqueueDma v3647 (.here v3645) (.dma v3643.sem) ((View.wordExact_bits rfl).reshape _ _) ((View.wordExact_bits rfl).reshape _ _) ⟨Or.inl rfl, trivial⟩)
      pure ⟨⟩
    else do
      pure ⟨⟩
    pure 0#32) (fun _ => Main c gW gS L v.toNat xs fL fA (t.val + 1) y) := by
  have hkv : k.val = t.val % 3 := by rw [hk, Ring.sl_val]
  have h3 := iv3_toNat (t2_lt hv t)
  have hwk : (Scalar.remsi (Scalar.addi (Scf.iv 0#32 1#32 t.val) 3#32) 3#32).toNat = k.val := by
    rw [rem_toNat (by rw [h3]; omega), h3, hkv]; omega
  -- the slot at rest again
  refine BIBase.Entails.trans (Q := iprop((Idle c (cellW k) (slotW k) (expW 0) (tok k) gW ∗ Idle c (cellS k) (slotS k) (expS 0) (tok k) gS)
    ∗ Ring.restW (Slot c gW gS L) (Ring.inWin t.val (min (t.val + 3) v.toNat) 3) k
    ∗ (bX.view.loc (c : Thread nD τ) ↦[Finset.univ]{fullShare} xs) ∗ (bY.view.loc (c : Thread nD τ) ↦[Finset.univ]{fullShare} y)
    ∗ (bL.view.loc (c : Thread nD τ) ↦[Finset.univ]{fullShare} fL) ∗ (bA.view.loc (c : Thread nD τ) ↦[Finset.univ]{fullShare} fA) ∗ waits c)) ?_ ?_
  · unfold Cmp Aside Idle
    iintro ⟨Hw, Hs, HX, HY, ⟨Hcw, Hgw⟩, ⟨Hcs, Hgs⟩, Hr, HL, HA, HW⟩
    isplitl [Hw Hcw Hgw Hs Hcs Hgs]
    · isplitl [Hw Hcw Hgw]
      · isplitl [Hw]; · iexists fw; iexact Hw
        isplitl [Hcw]; · iexact Hcw
        iexact Hgw
      · isplitl [Hs]; · iexists fs; iexact Hs
        isplitl [Hcs]; · iexact Hcs
        iexact Hgs
    isplitl [Hr]; · iexact Hr
    isplitl [HX]; · iexact HX
    isplitl [HY]; · iexact HY
    isplitl [HL]; · iexact HL
    isplitl [HA]; · iexact HA
    iexact HW
  by_cases h4 : k0_cond4 v t = 1#1
  · have hlt := (cond4_lt hv t).1 h4
    simp only [dif_pos h4]
    refine word_l c (f := fL) (t.val + 3) (by omega) h3 (R := iprop((Idle c (cellW k) (slotW k) (expW 0) (tok k) gW ∗ Idle c (cellS k) (slotS k) (expS 0) (tok k) gS)
      ∗ Ring.restW (Slot c gW gS L) (Ring.inWin t.val (min (t.val + 3) v.toNat) 3) k
      ∗ (bX.view.loc (c : Thread nD τ) ↦[Finset.univ]{fullShare} xs) ∗ (bY.view.loc (c : Thread nD τ) ↦[Finset.univ]{fullShare} y)
      ∗ (bA.view.loc (c : Thread nD τ) ↦[Finset.univ]{fullShare} fA) ∗ waits c)) ?_ ?_ ?_
    · iintro ⟨Hi, Hr, HX, HY, HL, HA, HW⟩
      isplitl [HL]; · iexact HL
      isplitl [Hi]; · iexact Hi
      isplitl [Hr]; · iexact Hr
      isplitl [HX]; · iexact HX
      isplitl [HY]; · iexact HY
      isplitl [HA]; · iexact HA
      iexact HW
    · iintro ⟨HL, Hi, Hr, HX, HY, HA, HW⟩
      isplitl [Hi]; · iexact Hi
      isplitl [Hr]; · iexact Hr
      isplitl [HX]; · iexact HX
      isplitl [HY]; · iexact HY
      isplitl [HL]; · iexact HL
      isplitl [HA]; · iexact HA
      iexact HW
    rw [hL (t.val + 3) (by omega) hlt]
    have he : (BitVec.ofNat 32 (L (t.val + 3)).val).toNat = (L (t.val + 3)).val := by
      rw [BitVec.toNat_ofNat]; have := (L (t.val + 3)).isLt; omega
    refine assume_step c (chk7 (by rw [he]; exact (L (t.val + 3)).isLt)) ?_
    refine start_w c k (L (t.val + 3)) (gW := gW) (R := iprop(Idle c (cellS k) (slotS k) (expS 0) (tok k) gS
      ∗ Ring.restW (Slot c gW gS L) (Ring.inWin t.val (min (t.val + 3) v.toNat) 3) k
      ∗ (bX.view.loc (c : Thread nD τ) ↦[Finset.univ]{fullShare} xs) ∗ (bY.view.loc (c : Thread nD τ) ↦[Finset.univ]{fullShare} y)
      ∗ (bL.view.loc (c : Thread nD τ) ↦[Finset.univ]{fullShare} fL) ∗ (bA.view.loc (c : Thread nD τ) ↦[Finset.univ]{fullShare} fA) ∗ waits c))
      (by rw [← hwk]; rfl) (by rw [← hwk]; rfl) (congrArg (fun x : ℕ => (![x, 0, 0] : Fin 3 → ℕ)) he) ?_ ?_
    · iintro ⟨⟨Hi, Hj⟩, Hr⟩
      isplitl [Hi]; · iexact Hi
      isplitl [Hj]; · iexact Hj
      iexact Hr
    refine start_s c k (L (t.val + 3)) (gS := gS) (R := iprop(Busy c (cellW k) (slotW k) (expW (L (t.val + 3))) (tok k) gW
      ∗ Ring.restW (Slot c gW gS L) (Ring.inWin t.val (min (t.val + 3) v.toNat) 3) k
      ∗ (bX.view.loc (c : Thread nD τ) ↦[Finset.univ]{fullShare} xs) ∗ (bY.view.loc (c : Thread nD τ) ↦[Finset.univ]{fullShare} y)
      ∗ (bL.view.loc (c : Thread nD τ) ↦[Finset.univ]{fullShare} fL) ∗ (bA.view.loc (c : Thread nD τ) ↦[Finset.univ]{fullShare} fA) ∗ waits c))
      (by rw [← hwk]; rfl) (by rw [← hwk]; rfl) (congrArg (fun x : ℕ => (![x, 0, 0] : Fin 3 → ℕ)) he) ?_ ?_
    · iintro ⟨Hi, Hj, Hr⟩
      isplitl [Hj]; · iexact Hj
      isplitl [Hi]; · iexact Hi
      iexact Hr
    refine pure_step c ?_
    have hu : Ring.inWin (t.val + 1) (min (t.val + 1 + 3) v.toNat) 3
        = Function.update (Ring.inWin t.val (min (t.val + 3) v.toNat) 3) k (some (t.val + 3)) := by
      rw [show min (t.val + 1 + 3) v.toNat = (t.val + 3) + 1 by omega, show min (t.val + 3) v.toNat = t.val + 3 by omega,
        Ring.inWin_push (by omega) (by omega), Ring.inWin_pop (by omega) (by omega), Ring.sl_add, hk,
        Function.update_idem]
    unfold Main
    rw [hu]
    iintro ⟨Hj, Hi, Hr, HR⟩
    isplitl [Hj Hi Hr]
    · iapply Ring.AtW_update
      isplitl [Hj Hi]
      · unfold Slot
        isplitl [Hi]; · iexact Hi
        iexact Hj
      iexact Hr
    iexact HR
  · have hlt : ¬ t.val + 3 < v.toNat := fun h => h4 ((cond4_lt hv t).2 h)
    simp only [dif_neg h4]
    refine pure_step c ?_
    have hu : Ring.inWin (t.val + 1) (min (t.val + 1 + 3) v.toNat) 3
        = Function.update (Ring.inWin t.val (min (t.val + 3) v.toNat) 3) k none := by
      rw [show min (t.val + 1 + 3) v.toNat = v.toNat by omega, show min (t.val + 3) v.toNat = v.toNat by omega,
        Ring.inWin_pop (by omega) (by omega), hk]
    unfold Main
    rw [hu]
    iintro ⟨Hi, Hr, HR⟩
    isplitl [Hi Hr]
    · iapply Ring.AtW_update
      isplitl [Hi]
      · unfold Slot; iexact Hi
      iexact Hr
    iexact HR

end Cert.Kernel.Hand

end
-- ==== Proof.KBody.lean ====
/-
  One trip of the kernel's main loop, and the loop: each trip waits for its expert's weights and scales, replaces
  the expert's rows of the result, and starts the copy of the expert three trips ahead.
-/
module

public import proofs.«01_k».proof.Proof.KNext

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)

section
variable (arg0 : Memref sig .tc .smem S64 .i32) (harg0 : arg0.IsWhole) (arg1 : Memref sig .tc .vmem S96x1408 .bf16) (harg1 : arg1.IsWhole)
  (harg2 : hbW.IsWhole) (harg3 : hbS.IsWhole) (arg4 : Memref sig .tc .vmem S96x3072 .bf16) (harg4 : arg4.IsWhole) (harg5 : bW.IsWhole)
  (harg6 : bS.IsWhole) (harg7 : bX.IsWhole) (harg8 : bY.IsWhole) (harg9 : bL.IsWhole) (harg10 : bA.IsWhole)

set_option maxHeartbeats 4000000 in
/-- One trip of the main loop. -/
theorem trip {v : BitVec 32} (hv : v.toNat ≤ 64) (hw2 : k0_chk2 v) (t : Fin (k0_t2_loop v).trips)
    (gW : hbW.view.ty.Contents (Elt F)) (gS : hbS.view.ty.Contents (Elt F)) (L : ℕ → Fin 64) (xs : Vec F S96x1408 .bf16)
    (fL fA : S65.Idx → Elt F .i32) (hL : ∀ j (hj : j < 65), j < v.toNat → fL (ix1 ⟨j, hj⟩) = BitVec.ofNat 32 (L j).val)
    (y : S96x3072.Idx → Elt F .f32) (a : BitVec 32) (ht : t.val < v.toNat) :
    Main c gW gS L v.toNat xs fL fA t.val y ⊢ Run c (k0_t2_body arg0 harg0 arg1 harg1 hbW harg2 hbS harg3 arg4 harg4 bW harg5 bS harg6
      bX harg7 bY harg8 bL harg9 bA harg10 cc0_scratch6 v hw2 0#32 t a)
      (fun _ => Main c gW gS L v.toNat xs fL fA (t.val + 1)
        (yTo ((expW (L t.val)).view.read (Elt F) gW) ((expS (L t.val)).view.read (Elt F) gS) xs (fA (ix1 ⟨t.val, by omega⟩)) (fA (ix1 ⟨t.val + 1, by omega⟩)) y 12)) := by
  obtain ⟨k, hk⟩ : ∃ k, k = Ring.sl 3 t.val := ⟨_, rfl⟩
  have hkv : k.val = t.val % 3 := by rw [hk, Ring.sl_val]
  have hwk : (Scalar.remsi (Scf.iv 0#32 1#32 t.val) 3#32).toNat = k.val := by
    rw [rem_toNat (by rw [iv_toNat (by omega)]; omega), iv_toNat (by omega), hkv]
  have h0 : (Scf.iv 0#32 1#32 t.val).toNat = t.val := iv_toNat (by omega)
  have h1 : (Scalar.addi (Scf.iv 0#32 1#32 t.val) 1#32).toNat = t.val + 1 := iv1_toNat (by omega)
  have hst : Ring.inWin t.val (min (t.val + 3) v.toNat) 3 k = some t.val := by
    rw [hk]; exact Ring.inWin_lo (by omega) (by omega)
  have hLt := hL t.val (by omega) ht
  unfold Main
  rw [Ring.AtW_focus _ _ k, hst]
  unfold k0_t2_body
  refine bind_step c ?_
  rw [k0_part1_eq_skeleton]; unfold k0_part1_skel
  -- the number of this trip's expert
  refine word_l c (f := fL) t.val (by omega) h0 (R := iprop((Slot c gW gS L k (some t.val) ∗ Ring.restW (Slot c gW gS L) (Ring.inWin t.val (min (t.val + 3) v.toNat) 3) k)
    ∗ (bX.view.loc (c : Thread nD τ) ↦[Finset.univ]{fullShare} xs) ∗ (bY.view.loc (c : Thread nD τ) ↦[Finset.univ]{fullShare} y)
    ∗ (bA.view.loc (c : Thread nD τ) ↦[Finset.univ]{fullShare} fA) ∗ waits c)) ?_ ?_ ?_
  · iintro ⟨Hr, HX, HY, HL, HA, HW⟩
    isplitl [HL]; · iexact HL
    isplitl [Hr]; · iexact Hr
    isplitl [HX]; · iexact HX
    isplitl [HY]; · iexact HY
    isplitl [HA]; · iexact HA
    iexact HW
  · iintro ⟨HL, Hr, HX, HY, HA, HW⟩
    isplitl [Hr]; · iexact Hr
    isplitl [HX]; · iexact HX
    isplitl [HY]; · iexact HY
    isplitl [HL]; · iexact HL
    isplitl [HA]; · iexact HA
    iexact HW
  rw [hLt]
  refine assume_step c (chk6 (by rw [BitVec.toNat_ofNat]; have := (L t.val).isLt; omega)) ?_
  -- its weights and its scales
  refine wait_w c k (L t.val) (gW := gW) (R := iprop(Busy c (cellS k) (slotS k) (expS (L t.val)) (tok k) gS
    ∗ Ring.restW (Slot c gW gS L) (Ring.inWin t.val (min (t.val + 3) v.toNat) 3) k
    ∗ (bX.view.loc (c : Thread nD τ) ↦[Finset.univ]{fullShare} xs) ∗ (bY.view.loc (c : Thread nD τ) ↦[Finset.univ]{fullShare} y)
    ∗ (bL.view.loc (c : Thread nD τ) ↦[Finset.univ]{fullShare} fL) ∗ (bA.view.loc (c : Thread nD τ) ↦[Finset.univ]{fullShare} fA)))
    (by rw [← hwk]; rfl) (by rw [← hwk]; rfl) ?_ fun fw hwv => ?_
  · unfold Slot
    iintro ⟨⟨⟨Hw, Hs⟩, Hr⟩, HX, HY, HL, HA, HW⟩
    isplitl [Hw]; · iexact Hw
    isplitl [HW]; · iexact HW
    isplitl [Hs]; · iexact Hs
    isplitl [Hr]; · iexact Hr
    isplitl [HX]; · iexact HX
    isplitl [HY]; · iexact HY
    isplitl [HL]; · iexact HL
    iexact HA
  refine wait_s c k (L t.val) (gS := gS) (R := iprop((((slotW k).view.loc (c : Thread nD τ) ↦[(slotW k).view.set]{fullShare} fw)
      ∗ semVal ((c : Thread nD τ), SemLoc.dma (cellW k)) 0 ∗ (hbW.view.loc (c : Thread nD τ) ↦[Finset.univ]{tok k} gW))
    ∗ Ring.restW (Slot c gW gS L) (Ring.inWin t.val (min (t.val + 3) v.toNat) 3) k
    ∗ (bX.view.loc (c : Thread nD τ) ↦[Finset.univ]{fullShare} xs) ∗ (bY.view.loc (c : Thread nD τ) ↦[Finset.univ]{fullShare} y)
    ∗ (bL.view.loc (c : Thread nD τ) ↦[Finset.univ]{fullShare} fL) ∗ (bA.view.loc (c : Thread nD τ) ↦[Finset.univ]{fullShare} fA)))
    (by rw [← hwk]; rfl) (by rw [← hwk]; rfl) ?_ fun fs hsv => ?_
  · iintro ⟨Hw, HW, Hs, Hr⟩
    isplitl [Hs]; · iexact Hs
    isplitl [HW]; · iexact HW
    isplitl [Hw]; · iexact Hw
    iexact Hr
  -- its first row and the next expert's
  refine BIBase.Entails.trans (Q := Cmp c k fw fs xs (Aside c gW gS L (Ring.inWin t.val (min (t.val + 3) v.toNat) 3) k fL fA) y) ?_ ?_
  · unfold Cmp Aside
    iintro ⟨⟨Hs, Hcs, Hgs⟩, HW, ⟨Hw, Hcw, Hgw⟩, Hr, HX, HY, HL, HA⟩
    isplitl [Hw]; · iexact Hw
    isplitl [Hs]; · iexact Hs
    isplitl [HX]; · iexact HX
    isplitl [HY]; · iexact HY
    isplitl [Hcw Hgw]
    · isplitl [Hcw]; · iexact Hcw
      iexact Hgw
    isplitl [Hcs Hgs]
    · isplitl [Hcs]; · iexact Hcs
      iexact Hgs
    isplitl [Hr]; · iexact Hr
    isplitl [HL]; · iexact HL
    isplitl [HA]; · iexact HA
    iexact HW
  have hA1 : Cmp c k fw fs xs (Aside c gW gS L (Ring.inWin t.val (min (t.val + 3) v.toNat) 3) k fL fA) y
      ⊢ iprop((bA.view.loc (c : Thread nD τ) ↦[Finset.univ]{fullShare} fA)
        ∗ ((bA.view.loc (c : Thread nD τ) ↦[Finset.univ]{fullShare} fA) -∗ Cmp c k fw fs xs (Aside c gW gS L (Ring.inWin t.val (min (t.val + 3) v.toNat) 3) k fL fA) y)) := by
    unfold Cmp Aside
    iintro ⟨Hw, Hs, HX, HY, H1, H2, Hr, HL, HA, HW⟩
    isplitl [HA]; · iexact HA
    iintro HA
    isplitl [Hw]; · iexact Hw
    isplitl [Hs]; · iexact Hs
    isplitl [HX]; · iexact HX
    isplitl [HY]; · iexact HY
    isplitl [H1]; · iexact H1
    isplitl [H2]; · iexact H2
    isplitl [Hr]; · iexact Hr
    isplitl [HL]; · iexact HL
    isplitl [HA]; · iexact HA
    iexact HW
  have hA2 : iprop((bA.view.loc (c : Thread nD τ) ↦[Finset.univ]{fullShare} fA)
        ∗ ((bA.view.loc (c : Thread nD τ) ↦[Finset.univ]{fullShare} fA) -∗ Cmp c k fw fs xs (Aside c gW gS L (Ring.inWin t.val (min (t.val + 3) v.toNat) 3) k fL fA) y))
      ⊢ Cmp c k fw fs xs (Aside c gW gS L (Ring.inWin t.val (min (t.val + 3) v.toNat) 3) k fL fA) y := by
    iintro ⟨HA, H⟩
    iapply H $$ HA
  refine word_a c (f := fA) t.val (by omega) h0 hA1 hA2 ?_
  refine word_a c (f := fA) (t.val + 1) (by omega) h1 hA1 hA2 ?_
  generalize fA (ix1 ⟨t.val, _⟩) = lo
  generalize fA (ix1 ⟨t.val + 1, _⟩) = hi
  generalize (expW (L t.val)).view.read (Elt F) gW = wv at hwv ⊢
  generalize (expS (L t.val)).view.read (Elt F) gS = sv at hsv ⊢
  change Cmp c k fw fs xs _ (yTo wv sv xs lo hi y 0) ⊢ _
  generalize hR : Aside c gW gS L (Ring.inWin t.val (min (t.val + 3) v.toNat) 3) k fL fA = R
  (with_reducible apply load_w c hwk hwv); (focus exact rfl)
  refine pure_step c ?_
  refine bind_step c ?_
  -- the parts in their order: each load and each store by its rule, each part's end by handing on what it computed
  repeat (first
    | ((with_reducible apply load_w c hwk hwv); (focus exact rfl))
    | ((with_reducible apply load_s c hwk hsv); (focus exact rfl))
    | (with_reducible apply load_x c)
    | ((with_reducible apply load_y c); intro _)
    | ((with_reducible apply store_y c (wv := wv) (sv := sv) (lo := lo) (hi := hi)); (focus exact rfl); (focus exact rfl); (focus exact rfl))
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (refine pure_step c ?_; refine bind_step c ?_))
  refine pure_step c ?_
  subst hR
  exact trip_next c harg2 harg5 hv hw2 t gW gS L xs fL fA hL _ ht hk fw fs

end
end Cert.Kernel.Hand

end
-- ==== Proof.KRun.lean ====
/-
  The kernel's whole run: from what it is given to what it leaves.
-/
module

public import proofs.«01_k».proof.Proof.KPre
public import proofs.«01_k».proof.Proof.KBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)

/-- The result after `t` of the listed experts. -/
def yAll (gW : hbW.view.ty.Contents (Elt F)) (gS : hbS.view.ty.Contents (Elt F)) (L : ℕ → Fin 64) (xs : Vec F S96x1408 .bf16)
    (fA : S65.Idx → Elt F .i32) (y : S96x3072.Idx → Elt F .f32) : ℕ → S96x3072.Idx → Elt F .f32
  | 0 => y
  | t + 1 => yTo ((expW (L t)).view.read (Elt F) gW) ((expS (L t)).view.read (Elt F) gS) xs (fA (ix1 (Fin.ofNat 65 t))) (fA (ix1 (Fin.ofNat 65 (t + 1))))
      (yAll gW gS L xs fA y t) 12

variable (arg0 : Memref sig .tc .smem S64 .i32) (harg0 : arg0.IsWhole) (arg1 : Memref sig .tc .vmem S96x1408 .bf16) (harg1 : arg1.IsWhole)
  (harg2 : hbW.IsWhole) (harg3 : hbS.IsWhole) (arg4 : Memref sig .tc .vmem S96x3072 .bf16) (harg4 : arg4.IsWhole)
  (harg5 : bW.IsWhole) (harg6 : bS.IsWhole) (harg7 : bX.IsWhole) (harg8 : bY.IsWhole) (harg9 : bL.IsWhole) (harg10 : bA.IsWhole)

/-- One trip of the main loop, the result so far as a function of the trip. -/
theorem main_trip {v : BitVec 32} (hv : v.toNat ≤ 64) (hw2 : k0_chk2 v) (gW : hbW.view.ty.Contents (Elt F)) (gS : hbS.view.ty.Contents (Elt F))
    (L : ℕ → Fin 64) (xs : Vec F S96x1408 .bf16) (fL fA : S65.Idx → Elt F .i32)
    (hL : ∀ j (hj : j < 65), j < v.toNat → fL (ix1 ⟨j, hj⟩) = BitVec.ofNat 32 (L j).val) (y : S96x3072.Idx → Elt F .f32)
    (t : Fin (k0_t2_loop v).trips) (a : BitVec 32) :
    Main c gW gS L v.toNat xs fL fA t.val (yAll gW gS L xs fA y t.val) ⊢ Run c (k0_t2_body arg0 harg0 arg1 harg1 hbW harg2 hbS harg3 arg4 harg4 bW harg5 bS harg6 bX harg7 bY harg8 bL harg9 bA harg10 cc0_scratch6 v hw2 0#32 t a)
      (fun _ => Main c gW gS L v.toNat xs fL fA (t.val + 1) (yAll gW gS L xs fA y (t.val + 1))) := by
  have ht : t.val < v.toNat := lt_of_lt_of_eq t.isLt (trips2 hv)
  have h1 : (Fin.ofNat 65 t.val : Fin 65) = ⟨t.val, by omega⟩ := Fin.ext (Nat.mod_eq_of_lt (by omega))
  have h2 : (Fin.ofNat 65 (t.val + 1) : Fin 65) = ⟨t.val + 1, by omega⟩ := Fin.ext (Nat.mod_eq_of_lt (by omega))
  have e : yTo ((expW (L t.val)).view.read (Elt F) gW) ((expS (L t.val)).view.read (Elt F) gS) xs (fA (ix1 ⟨t.val, by omega⟩)) (fA (ix1 ⟨t.val + 1, by omega⟩))
      (yAll gW gS L xs fA y t.val) 12 = yAll gW gS L xs fA y (t.val + 1) := by
    rw [← h1, ← h2]; rfl
  exact BIBase.Entails.trans
    (trip c arg0 harg0 arg1 harg1 harg2 harg3 arg4 harg4 harg5 harg6 harg7 harg8 harg9 harg10 hv hw2 t gW gS L xs fL fA hL (yAll gW gS L xs fA y t.val) a ht)
    (Entails.of_eq (congrArg (fun y' => Run c _ (fun _ => Main c gW gS L v.toNat xs fL fA (t.val + 1) y')) e))

/-- What the kernel leaves in its result's buffer. -/
def outBuf (arg4 : Memref sig .tc .vmem S96x3072 .bf16) (f4 : Buf (Elt F) (arg4.view.loc (c : Thread nD τ))) (y : S96x3072.Idx → Elt F .f32) :
    Buf (Elt F) (arg4.view.loc (c : Thread nD τ)) :=
  (arg4.access (Rect.unit (s := S96x3072) ![0, 0] S96x3072.size inb_S96x3072_S96x3072_0_0)).write (Elt F) f4 (k0_pay1 y) Finset.univ

set_option maxHeartbeats 2000000 in
set_option maxRecDepth 200000 in
/-- The kernel's whole run. -/
theorem whole {q0 q1 : PosShare TreeShare} {f0 : Buf (Elt F) (arg0.view.loc (c : Thread nD τ))} {f1 : Buf (Elt F) (arg1.view.loc (c : Thread nD τ))}
    {f4 : Buf (Elt F) (arg4.view.loc (c : Thread nD τ))}
    {X : Vec F S96x1408 .bf16} {y : S96x3072.Idx → Elt F .f32} {gW : hbW.view.ty.Contents (Elt F)} {gS : hbS.view.ty.Contents (Elt F)} {gL gA : S65.Idx → Elt F .i32}
    {sc : (BitVec 32 × BitVec 32) × (S65.Idx → Elt F .i32) × (S65.Idx → Elt F .i32)} (hsc : sc = scan (arg0.view.read (Elt F) f0) gL gA 64)
    {L : ℕ → Fin 64} (hLi : L = listed (arg0.view.read (Elt F) f0) gL gA) :
    Lists c arg0 q0 f0 iprop(Ring.AtW (Slot c gW gS L) (fun _ => none) ∗ (arg1.view.loc (c : Thread nD τ) ↦[Finset.univ]{q1} f1)
        ∗ (bX.view.loc (c : Thread nD τ) ↦[Finset.univ]{fullShare} X) ∗ (bY.view.loc (c : Thread nD τ) ↦[Finset.univ]{fullShare} y)
        ∗ (arg4.view.loc (c : Thread nD τ) ↦[Finset.univ]{fullShare} f4) ∗ waits c) gL gA
      ⊢ Run c (cc0_grouped_w4 arg0 harg0 arg1 harg1 hbW harg2 hbS harg3 arg4 harg4 bW harg5 bS harg6 bX harg7 bY harg8 bL harg9 bA harg10 cc0_scratch6) (fun _ => iprop(
        (arg0.view.loc (c : Thread nD τ) ↦[Finset.univ]{q0} f0) ∗ (arg1.view.loc (c : Thread nD τ) ↦[Finset.univ]{q1} f1)
        ∗ (arg4.view.loc (c : Thread nD τ) ↦[Finset.univ]{fullShare} (outBuf c arg4 f4
          (yAll gW gS L (quant (arg1.view.read (Elt F) f1)) (put sc.2.2 sc.1.1.toNat sc.1.2) y sc.1.1.toNat)))
        ∗ Main c gW gS L sc.1.1.toNat (quant (arg1.view.read (Elt F) f1)) sc.2.1 (put sc.2.2 sc.1.1.toNat sc.1.2) sc.1.1.toNat
          (yAll gW gS L (quant (arg1.view.read (Elt F) f1)) (put sc.2.2 sc.1.1.toNat sc.1.2) y sc.1.1.toNat))) := by
  have hv : sc.1.1.toNat ≤ 64 := by rw [hsc]; exact scan_le _ _ _ 64 (le_refl _)
  have hL : ∀ j (hj : j < 65), j < sc.1.1.toNat → sc.2.1 (ix1 ⟨j, hj⟩) = BitVec.ofNat 32 (L j).val := by
    rw [hsc, hLi]; exact fun j hj h => scan_listed _ _ _ j hj h
  rw [cc0_grouped_w4_eq_skeleton]; unfold cc0_grouped_w4_skel
  refine bind_step c ?_
  subst hLi
  refine prologue c arg0 harg0 arg1 harg1 harg2 harg3 arg4 harg4 harg5 harg6 harg7 harg8 harg9 harg10 hsc fun hw2 => ?_
  generalize listed (arg0.view.read (Elt F) f0) gL gA = L at *
  clear hsc
  obtain ⟨⟨n, row⟩, fL, fA⟩ := sc
  simp only at hv hL hw2 ⊢
  generalize put fA n.toNat row = fB at *
  change Act c arg1 q1 f1 _ (xTo (arg1.view.read (Elt F) f1) X 0) ⊢ _
  refine bind_step c ?_
  rw [k0_part106_eq_skeleton]; unfold k0_part106_skel
  refine pure_step c ?_
  refine bind_step c ?_
  rw [k0_part107_eq_skeleton]; unfold k0_part107_skel
  refine pure_step c ?_
  refine bind_step c ?_
  rw [k0_part108_eq_skeleton]; unfold k0_part108_skel
  refine load_7 c fun _ => ?_
  refine store_7 c 0 rfl rfl ?_
  refine load_1 c ?_
  refine pure_step c ?_
  refine bind_step c ?_
  rw [k0_part109_eq_skeleton]; unfold k0_part109_skel
  refine pure_step c ?_
  refine bind_step c ?_
  rw [k0_part110_eq_skeleton]; unfold k0_part110_skel
  refine load_7 c fun _ => ?_
  refine store_7 c 1 rfl rfl ?_
  refine load_1 c ?_
  refine pure_step c ?_
  refine bind_step c ?_
  rw [k0_part111_eq_skeleton]; unfold k0_part111_skel
  refine pure_step c ?_
  refine bind_step c ?_
  rw [k0_part112_eq_skeleton]; unfold k0_part112_skel
  refine pure_step c ?_
  refine bind_step c ?_
  rw [k0_part113_eq_skeleton]; unfold k0_part113_skel
  refine load_7 c fun _ => ?_
  refine store_7 c 2 rfl rfl ?_
  refine load_1 c ?_
  refine pure_step c ?_
  refine bind_step c ?_
  rw [k0_part114_eq_skeleton]; unfold k0_part114_skel
  refine pure_step c ?_
  refine bind_step c ?_
  rw [k0_part115_eq_skeleton]; unfold k0_part115_skel
  refine load_7 c fun _ => ?_
  refine store_7 c 3 rfl rfl ?_
  refine load_1 c ?_
  refine pure_step c ?_
  refine bind_step c ?_
  rw [k0_part116_eq_skeleton]; unfold k0_part116_skel
  refine pure_step c ?_
  refine bind_step c ?_
  rw [k0_part117_eq_skeleton]; unfold k0_part117_skel
  refine pure_step c ?_
  refine bind_step c ?_
  rw [k0_part118_eq_skeleton]; unfold k0_part118_skel
  refine load_7 c fun _ => ?_
  refine store_7 c 4 rfl rfl ?_
  refine load_1 c ?_
  refine pure_step c ?_
  refine bind_step c ?_
  rw [k0_part119_eq_skeleton]; unfold k0_part119_skel
  refine pure_step c ?_
  refine bind_step c ?_
  rw [k0_part120_eq_skeleton]; unfold k0_part120_skel
  refine load_7 c fun _ => ?_
  refine store_7 c 5 rfl rfl ?_
  refine pure_step c ?_
  refine bind_step c ?_
  rw [k0_part121_eq_skeleton]; unfold k0_part121_skel
  refine load_1 c ?_
  refine pure_step c ?_
  refine bind_step c ?_
  rw [k0_part122_eq_skeleton]; unfold k0_part122_skel
  refine pure_step c ?_
  refine bind_step c ?_
  rw [k0_part123_eq_skeleton]; unfold k0_part123_skel
  refine load_7 c fun _ => ?_
  refine store_7 c 6 rfl rfl ?_
  refine load_1 c ?_
  refine pure_step c ?_
  refine bind_step c ?_
  rw [k0_part124_eq_skeleton]; unfold k0_part124_skel
  refine pure_step c ?_
  refine bind_step c ?_
  rw [k0_part125_eq_skeleton]; unfold k0_part125_skel
  refine pure_step c ?_
  refine bind_step c ?_
  rw [k0_part126_eq_skeleton]; unfold k0_part126_skel
  refine load_7 c fun _ => ?_
  refine store_7 c 7 rfl rfl ?_
  refine load_1 c ?_
  refine pure_step c ?_
  refine bind_step c ?_
  rw [k0_part127_eq_skeleton]; unfold k0_part127_skel
  refine pure_step c ?_
  refine bind_step c ?_
  rw [k0_part128_eq_skeleton]; unfold k0_part128_skel
  refine load_7 c fun _ => ?_
  refine store_7 c 8 rfl rfl ?_
  refine load_1 c ?_
  refine pure_step c ?_
  refine bind_step c ?_
  rw [k0_part129_eq_skeleton]; unfold k0_part129_skel
  refine pure_step c ?_
  refine bind_step c ?_
  rw [k0_part130_eq_skeleton]; unfold k0_part130_skel
  refine pure_step c ?_
  refine bind_step c ?_
  rw [k0_part131_eq_skeleton]; unfold k0_part131_skel
  refine load_7 c fun _ => ?_
  refine store_7 c 9 rfl rfl ?_
  refine load_1 c ?_
  refine pure_step c ?_
  refine bind_step c ?_
  rw [k0_part132_eq_skeleton]; unfold k0_part132_skel
  refine pure_step c ?_
  refine bind_step c ?_
  rw [k0_part133_eq_skeleton]; unfold k0_part133_skel
  refine load_7 c fun _ => ?_
  refine store_7 c 10 rfl rfl ?_
  refine pure_step c ?_
  rw [show (0 : ℕ) + 1 + 1 + 1 + 1 + 1 + 1 + 1 + 1 + 1 + 1 + 1 = 11 from rfl, xTo_all]
  refine loop_step c (fun t _ => iprop(Main c gW gS L n.toNat (quant (arg1.view.read (Elt F) f1)) fL fB t (yAll gW gS L (quant (arg1.view.read (Elt F) f1)) fB y t)
      ∗ ((arg0.view.loc (c : Thread nD τ) ↦[Finset.univ]{q0} f0) ∗ (arg1.view.loc (c : Thread nD τ) ↦[Finset.univ]{q1} f1)
        ∗ (arg4.view.loc (c : Thread nD τ) ↦[Finset.univ]{fullShare} f4)))) (fun t a => ?_) ?_ fun a => ?_
  · exact BIBase.Entails.trans (sep_mono (main_trip c arg0 harg0 arg1 harg1 harg2 harg3 arg4 harg4 harg5 harg6 harg7 harg8 harg9 harg10 hv hw2 gW gS L
      (quant (arg1.view.read (Elt F) f1)) fL fB hL y t a) .rfl) (wp_frame_r _ _ _)
  · unfold Act Start Main
    rw [show min (0 + 3) n.toNat = min 3 n.toNat by omega]
    iintro ⟨H1, HX, Hr, HL, HA, H0, HY, H4, HW⟩
    isplitr [H0 H1 H4]
    · isplitl [Hr]; · iexact Hr
      isplitl [HX]; · iexact HX
      isplitl [HY]; · iexact HY
      isplitl [HL]; · iexact HL
      isplitl [HA]; · iexact HA
      iexact HW
    isplitl [H0]; · iexact H0
    isplitl [H1]; · iexact H1
    iexact H4
  have e2 : Scf.trips (k0_t2_loop n).lb (k0_t2_loop n).ub (k0_t2_loop n).st = n.toNat := trips2 hv
  rw [e2]
  refine loop_step c (fun t _ => iprop(Main c gW gS L n.toNat (quant (arg1.view.read (Elt F) f1)) fL fB n.toNat (yAll gW gS L (quant (arg1.view.read (Elt F) f1)) fB y n.toNat)
      ∗ ((arg0.view.loc (c : Thread nD τ) ↦[Finset.univ]{q0} f0) ∗ (arg1.view.loc (c : Thread nD τ) ↦[Finset.univ]{q1} f1)
        ∗ (arg4.view.loc (c : Thread nD τ) ↦[Finset.univ]{fullShare} f4)))) (fun t a => (no_t3 t).elim) .rfl fun a => ?_
  generalize yAll gW gS L (quant (arg1.view.read (Elt F) f1)) fB y n.toNat = Y
  refine load_step c (S := Finset.univ) (f := Y) (q := fullShare) (R := iprop(Ring.AtW (Slot c gW gS L) (Ring.inWin n.toNat (min (n.toNat + 3) n.toNat) 3)
      ∗ (bX.view.loc (c : Thread nD τ) ↦[Finset.univ]{fullShare} (quant (arg1.view.read (Elt F) f1)))
      ∗ (bL.view.loc (c : Thread nD τ) ↦[Finset.univ]{fullShare} fL) ∗ (bA.view.loc (c : Thread nD τ) ↦[Finset.univ]{fullShare} fB) ∗ waits c
      ∗ ((arg0.view.loc (c : Thread nD τ) ↦[Finset.univ]{q0} f0) ∗ (arg1.view.loc (c : Thread nD τ) ↦[Finset.univ]{q1} f1)
        ∗ (arg4.view.loc (c : Thread nD τ) ↦[Finset.univ]{fullShare} f4)))) (Finset.subset_univ _) ?_ ?_ ?_
  · unfold Main
    iintro ⟨⟨Hr, HX, HY, HL, HA, HW⟩, HR⟩
    isplitl [HY]; · iexact HY
    isplitl [Hr]; · iexact Hr
    isplitl [HX]; · iexact HX
    isplitl [HL]; · iexact HL
    isplitl [HA]; · iexact HA
    isplitl [HW]; · iexact HW
    iexact HR
  · unfold Main
    iintro ⟨HY, Hr, HX, HL, HA, HW, HR⟩
    isplitr [HR]
    · isplitl [Hr]; · iexact Hr
      isplitl [HX]; · iexact HX
      isplitl [HY]; · iexact HY
      isplitl [HL]; · iexact HL
      isplitl [HA]; · iexact HA
      iexact HW
    iexact HR
  have eY : bY.view.readAt (Elt F) (Rect.unit (s := S96x3072) ![0, 0] S96x3072.size inb_S96x3072_S96x3072_0_0).toLoadRect Y = Y :=
    Memref.readAt_unit_zero (Elt F) cc0_scratch3 (off := ![0, 0]) (by decide) inb_S96x3072_S96x3072_0_0 Y
  rw [eY]
  refine load_step c (S := Finset.univ) (f := f4) (q := fullShare) (R := iprop(Main c gW gS L n.toNat (quant (arg1.view.read (Elt F) f1)) fL fB n.toNat Y
      ∗ ((arg0.view.loc (c : Thread nD τ) ↦[Finset.univ]{q0} f0) ∗ (arg1.view.loc (c : Thread nD τ) ↦[Finset.univ]{q1} f1)))) (Finset.subset_univ _) ?_ ?_ ?_
  · iintro ⟨HM, H0, H1, H4⟩
    isplitl [H4]; · iexact H4
    isplitl [HM]; · iexact HM
    isplitl [H0]; · iexact H0
    iexact H1
  · iintro ⟨H4, HM, H0, H1⟩
    isplitl [HM]; · iexact HM
    isplitl [H0]; · iexact H0
    isplitl [H1]; · iexact H1
    iexact H4
  refine store_step c (S := Finset.univ) (f := f4) (R := iprop(Main c gW gS L n.toNat (quant (arg1.view.read (Elt F) f1)) fL fB n.toNat Y
      ∗ ((arg0.view.loc (c : Thread nD τ) ↦[Finset.univ]{q0} f0) ∗ (arg1.view.loc (c : Thread nD τ) ↦[Finset.univ]{q1} f1))))
    (P' := iprop((arg0.view.loc (c : Thread nD τ) ↦[Finset.univ]{q0} f0) ∗ (arg1.view.loc (c : Thread nD τ) ↦[Finset.univ]{q1} f1)
        ∗ (arg4.view.loc (c : Thread nD τ) ↦[Finset.univ]{fullShare} (outBuf c arg4 f4 Y))
        ∗ Main c gW gS L n.toNat (quant (arg1.view.read (Elt F) f1)) fL fB n.toNat Y)) (Finset.subset_univ _) ?_ ?_ ?_
  · iintro ⟨HM, H0, H1, H4⟩
    isplitl [H4]; · iexact H4
    isplitl [HM]; · iexact HM
    isplitl [H0]; · iexact H0
    iexact H1
  · unfold outBuf
    iintro ⟨H4, HM, H0, H1⟩
    isplitl [H0]; · iexact H0
    isplitl [H1]; · iexact H1
    isplitl [H4]; · iexact H4
    iexact HM
  exact pure_step c .rfl

end Cert.Kernel.Hand

end
-- ==== Proof.KDeal.lean ====
/-
  The kernel's rings: dealt out to their slots before the first copy and gathered again after the last.
-/
module

public import proofs.«01_k».proof.Proof.KRing
public import Idealize.ShloMosaic.Lib.Transfers

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The rings, dealt out and gathered -/

theorem mem_slotW (k : Fin 3) (i : S3x704x3072.Idx) : i ∈ (slotW k).view.set ↔ i 0 = k := by
  unfold View.set
  rw [Finset.mem_map]
  constructor
  · rintro ⟨x, -, hx⟩
    rw [slotW_emb] at hx
    rw [← hx]; rfl
  · intro h
    refine ⟨ix2 (i 1) (i 2), Finset.mem_univ _, ?_⟩
    rw [slotW_emb]
    funext a
    fin_cases a
    · exact h.symm
    · rfl
    · rfl

theorem mem_slotS (k : Fin 3) (i : S3x11x3072.Idx) : i ∈ (slotS k).view.set ↔ i 0 = k := by
  unfold View.set
  rw [Finset.mem_map]
  constructor
  · rintro ⟨x, -, hx⟩
    rw [slotS_emb] at hx
    rw [← hx]; rfl
  · intro h
    refine ⟨ix2 (i 1) (i 2), Finset.mem_univ _, ?_⟩
    rw [slotS_emb]
    funext a
    fin_cases a
    · exact h.symm
    · rfl
    · rfl

/-- The elements of a slot of the weights' ring. -/
def setW (k : Fin 3) : Finset S3x704x3072.Idx := (slotW k).view.set
/-- The elements of a slot of the scales' ring. -/
def setS (k : Fin 3) : Finset S3x11x3072.Idx := (slotS k).view.set

theorem setW_disjoint (s s' : Fin 3) (h : s ≠ s') : Disjoint (setW s) (setW s') :=
  Finset.disjoint_left.mpr fun i h1 h2 => h (((mem_slotW s i).1 h1).symm.trans ((mem_slotW s' i).1 h2))
theorem setS_disjoint (s s' : Fin 3) (h : s ≠ s') : Disjoint (setS s) (setS s') :=
  Finset.disjoint_left.mpr fun i h1 h2 => h (((mem_slotS s i).1 h1).symm.trans ((mem_slotS s' i).1 h2))
theorem setW_cover : Finset.univ.biUnion setW = Finset.univ :=
  Finset.eq_univ_iff_forall.mpr fun i => Finset.mem_biUnion.mpr ⟨i 0, Finset.mem_univ _, (mem_slotW _ i).2 rfl⟩
theorem setS_cover : Finset.univ.biUnion setS = Finset.univ :=
  Finset.eq_univ_iff_forall.mpr fun i => Finset.mem_biUnion.mpr ⟨i 0, Finset.mem_univ _, (mem_slotS _ i).2 rfl⟩

variable (c : Dev nD)

/-- The six cells at zero. -/
abbrev cells0 : Asn F :=
  iprop(semVal ((c : Thread nD τ), SemLoc.dma 3) 0 ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0 ∗ semVal ((c : Thread nD τ), SemLoc.dma 8) 0)

/-- What the rings are made of: both buffers at anything, the cells at zero, the experts' arrays whole. -/
abbrev Parts (gW : hbW.view.ty.Contents (Elt F)) (gS : hbS.view.ty.Contents (Elt F)) : Asn F :=
  iprop((∃ f : Buf (Elt F) (bW.view.loc (c : Thread nD τ)), (bW.view.loc (c : Thread nD τ) ↦{fullShare} f))
    ∗ (∃ f : Buf (Elt F) (bS.view.loc (c : Thread nD τ)), (bS.view.loc (c : Thread nD τ) ↦{fullShare} f))
    ∗ cells0 c ∗ (hbW.view.loc (c : Thread nD τ) ↦{fullShare} gW) ∗ (hbS.view.loc (c : Thread nD τ) ↦{fullShare} gS))

/-- The share of the experts' arrays that no slot takes. -/
abbrev Spare (gW : hbW.view.ty.Contents (Elt F)) (gS : hbS.view.ty.Contents (Elt F)) : Asn F :=
  iprop((hbW.view.loc (c : Thread nD τ) ↦{Transfers.shareDrop fullShare 3} gW) ∗ (hbS.view.loc (c : Thread nD τ) ↦{Transfers.shareDrop fullShare 3} gS))

/-- Every slot at rest. -/
theorem atW_none (gW : hbW.view.ty.Contents (Elt F)) (gS : hbS.view.ty.Contents (Elt F)) (L : ℕ → Fin 64) :
    (Ring.AtW (Slot c gW gS L) (fun _ => none) : Asn F)
      = iprop((Idle c (cellW 0) (slotW 0) (expW 0) (tok 0) gW ∗ Idle c (cellS 0) (slotS 0) (expS 0) (tok 0) gS)
        ∗ (Idle c (cellW 1) (slotW 1) (expW 0) (tok 1) gW ∗ Idle c (cellS 1) (slotS 1) (expS 0) (tok 1) gS)
        ∗ (Idle c (cellW 2) (slotW 2) (expW 0) (tok 2) gW ∗ Idle c (cellS 2) (slotS 2) (expS 0) (tok 2) gS)) := by
  unfold Ring.AtW
  rw [Ring.bigSep_fin3]
  rfl

/-- The weights' ring, and a slot's elements in it. -/
abbrev locW : Loc nD τ sig := bW.view.loc (c : Thread nD τ)
/-- The scales' ring, and a slot's elements in it. -/
abbrev locS : Loc nD τ sig := bS.view.loc (c : Thread nD τ)

theorem splitW : (iprop(∃ f : Buf (Elt F) (locW c), (locW c ↦{fullShare} f)) : Asn F)
    ⊢ iprop((∃ f : Buf (Elt F) (locW c), (locW c ↦[setW 0]{fullShare} f)) ∗ (∃ f : Buf (Elt F) (locW c), (locW c ↦[setW 1]{fullShare} f))
      ∗ (∃ f : Buf (Elt F) (locW c), (locW c ↦[setW 2]{fullShare} f))) :=
  Ring.slots3_split (ℓ := locW c) (J := setW) setW_disjoint setW_cover (fun f => (locW c ↦[setW 0]{fullShare} f)) (fun f => (locW c ↦[setW 1]{fullShare} f))
    (fun f => (locW c ↦[setW 2]{fullShare} f)) (fun _ => rfl) (fun _ => rfl) (fun _ => rfl)
theorem splitS : (iprop(∃ f : Buf (Elt F) (locS c), (locS c ↦{fullShare} f)) : Asn F)
    ⊢ iprop((∃ f : Buf (Elt F) (locS c), (locS c ↦[setS 0]{fullShare} f)) ∗ (∃ f : Buf (Elt F) (locS c), (locS c ↦[setS 1]{fullShare} f))
      ∗ (∃ f : Buf (Elt F) (locS c), (locS c ↦[setS 2]{fullShare} f))) :=
  Ring.slots3_split (ℓ := locS c) (J := setS) setS_disjoint setS_cover (fun f => (locS c ↦[setS 0]{fullShare} f)) (fun f => (locS c ↦[setS 1]{fullShare} f))
    (fun f => (locS c ↦[setS 2]{fullShare} f)) (fun _ => rfl) (fun _ => rfl) (fun _ => rfl)
theorem joinW : (iprop((∃ f : Buf (Elt F) (locW c), (locW c ↦[setW 0]{fullShare} f)) ∗ (∃ f : Buf (Elt F) (locW c), (locW c ↦[setW 1]{fullShare} f))
      ∗ (∃ f : Buf (Elt F) (locW c), (locW c ↦[setW 2]{fullShare} f))) : Asn F)
    ⊢ iprop(∃ f : Buf (Elt F) (locW c), (locW c ↦{fullShare} f)) :=
  Ring.slots3_join (ℓ := locW c) (J := setW) setW_disjoint setW_cover (fun f => (locW c ↦[setW 0]{fullShare} f)) (fun f => (locW c ↦[setW 1]{fullShare} f))
    (fun f => (locW c ↦[setW 2]{fullShare} f)) (fun _ => rfl) (fun _ => rfl) (fun _ => rfl)
theorem joinS : (iprop((∃ f : Buf (Elt F) (locS c), (locS c ↦[setS 0]{fullShare} f)) ∗ (∃ f : Buf (Elt F) (locS c), (locS c ↦[setS 1]{fullShare} f))
      ∗ (∃ f : Buf (Elt F) (locS c), (locS c ↦[setS 2]{fullShare} f))) : Asn F)
    ⊢ iprop(∃ f : Buf (Elt F) (locS c), (locS c ↦{fullShare} f)) :=
  Ring.slots3_join (ℓ := locS c) (J := setS) setS_disjoint setS_cover (fun f => (locS c ↦[setS 0]{fullShare} f)) (fun f => (locS c ↦[setS 1]{fullShare} f))
    (fun f => (locS c ↦[setS 2]{fullShare} f)) (fun _ => rfl) (fun _ => rfl) (fun _ => rfl)

/-- A whole array's share as three tokens and the rest. -/
theorem toks3 {ℓ : Loc nD τ sig} (g : Buf (Elt F) ℓ) : (iprop(ℓ ↦{fullShare} g) : Asn F)
    ⊢ iprop((ℓ ↦{Transfers.shareDrop fullShare 3} g) ∗ (ℓ ↦{tok 0} g) ∗ (ℓ ↦{tok 1} g) ∗ (ℓ ↦{tok 2} g)) :=
  BIBase.Entails.trans (Transfers.pointsTo_toks_split fullShare 3) (sep_mono .rfl (Entails.of_eq (Ring.bigSep_fin3 (fun i : Fin 3 => (ℓ ↦{tok i} g : Asn F)))))
theorem toks3_join {ℓ : Loc nD τ sig} (g : Buf (Elt F) ℓ) :
    (iprop((ℓ ↦{Transfers.shareDrop fullShare 3} g) ∗ (ℓ ↦{tok 0} g) ∗ (ℓ ↦{tok 1} g) ∗ (ℓ ↦{tok 2} g)) : Asn F) ⊢ iprop(ℓ ↦{fullShare} g) :=
  BIBase.Entails.trans (sep_mono .rfl (Entails.of_eq (Ring.bigSep_fin3 (fun i : Fin 3 => (ℓ ↦{tok i} g : Asn F))).symm)) (Transfers.pointsTo_toks_join fullShare 3)

/-- The rings from their parts. -/
theorem ring_enter (gW : hbW.view.ty.Contents (Elt F)) (gS : hbS.view.ty.Contents (Elt F)) (L : ℕ → Fin 64) :
    Parts c gW gS ⊢ iprop(Ring.AtW (Slot c gW gS L) (fun _ => none) ∗ Spare c gW gS) := by
  rw [atW_none]
  unfold Idle
  iintro ⟨HW, HS, ⟨C3, C4, C5, C6, C7, C8⟩, GW, GS⟩
  ihave HW := (splitW c) $$ HW
  ihave HS := (splitS c) $$ HS
  ihave GW := (toks3 (ℓ := hbW.view.loc (c : Thread nD τ)) gW) $$ GW
  ihave GS := (toks3 (ℓ := hbS.view.loc (c : Thread nD τ)) gS) $$ GS
  icases HW with ⟨W0, W1, W2⟩
  icases HS with ⟨S0, S1, S2⟩
  icases GW with ⟨GWr, GW0, GW1, GW2⟩
  icases GS with ⟨GSr, GS0, GS1, GS2⟩
  isplitr [GWr GSr]
  · isplitl [W0 S0 C3 C6 GW0 GS0]
    · isplitl [W0 C3 GW0]
      · isplitl [W0]; · iexact W0
        isplitl [C3]; · iexact C3
        iexact GW0
      isplitl [S0]; · iexact S0
      isplitl [C6]; · iexact C6
      iexact GS0
    isplitl [W1 S1 C4 C7 GW1 GS1]
    · isplitl [W1 C4 GW1]
      · isplitl [W1]; · iexact W1
        isplitl [C4]; · iexact C4
        iexact GW1
      isplitl [S1]; · iexact S1
      isplitl [C7]; · iexact C7
      iexact GS1
    isplitl [W2 C5 GW2]
    · isplitl [W2]; · iexact W2
      isplitl [C5]; · iexact C5
      iexact GW2
    isplitl [S2]; · iexact S2
    isplitl [C8]; · iexact C8
    iexact GS2
  isplitl [GWr]; · iexact GWr
  iexact GSr

/-- The rings taken apart. -/
theorem ring_leave (gW : hbW.view.ty.Contents (Elt F)) (gS : hbS.view.ty.Contents (Elt F)) (L : ℕ → Fin 64) :
    (iprop(Ring.AtW (Slot c gW gS L) (fun _ => none) ∗ Spare c gW gS) : Asn F) ⊢ Parts c gW gS := by
  rw [atW_none]
  unfold Idle
  iintro ⟨⟨⟨⟨W0, C3, GW0⟩, ⟨S0, C6, GS0⟩⟩, ⟨⟨W1, C4, GW1⟩, ⟨S1, C7, GS1⟩⟩, ⟨⟨W2, C5, GW2⟩, ⟨S2, C8, GS2⟩⟩⟩, GWr, GSr⟩
  isplitl [W0 W1 W2]
  · iapply (joinW c)
    isplitl [W0]; · iexact W0
    isplitl [W1]; · iexact W1
    iexact W2
  isplitl [S0 S1 S2]
  · iapply (joinS c)
    isplitl [S0]; · iexact S0
    isplitl [S1]; · iexact S1
    iexact S2
  isplitl [C3 C4 C5 C6 C7 C8]
  · isplitl [C3]; · iexact C3
    isplitl [C4]; · iexact C4
    isplitl [C5]; · iexact C5
    isplitl [C6]; · iexact C6
    isplitl [C7]; · iexact C7
    iexact C8
  isplitl [GWr GW0 GW1 GW2]
  · iapply (toks3_join (ℓ := hbW.view.loc (c : Thread nD τ)) gW)
    isplitl [GWr]; · iexact GWr
    isplitl [GW0]; · iexact GW0
    isplitl [GW1]; · iexact GW1
    iexact GW2
  iapply (toks3_join (ℓ := hbS.view.loc (c : Thread nD τ)) gS)
  isplitl [GSr]; · iexact GSr
  isplitl [GS0]; · iexact GS0
  isplitl [GS1]; · iexact GS1
  iexact GS2

end Cert.Kernel.Hand

end
-- ==== Proof.KFrame.lean ====
/-
  The launch: the one grid point's body, and what every run of the program leaves: its arguments as they were, its
  semaphores at zero, and a result that some contents of the uninitialised buffers account for.
-/
module

public import proofs.«01_k».proof.Proof.KRun
public import proofs.«01_k».proof.Proof.KDeal
public import proofs.«01_k».proof.Proof.Gen.Kernel.Frame
public import Idealize.ShloMosaic.Lib.Pipeline.DatRel
public import Idealize.ShloMosaic.Lib.Pipeline.ArrRel
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

variable (m : (ℓ : Loc nD τ sig) → Buf (Elt F) ℓ) (ρ : Dev nD → PrngReg)

/-! ## What the body may leave -/

/-- A result the kernel may leave: from some contents `y` of the accumulator, `gL` and `gA` of the two lists. -/
def Leaves (g : S64.Idx → Elt F .i32) (x : S96x1408.Idx → Elt F .bf16) (gW : hbW.view.ty.Contents (Elt F)) (gS : hbS.view.ty.Contents (Elt F))
    (X : Vec F S96x3072 .bf16) : Prop :=
  ∃ (y : S96x3072.Idx → Elt F .f32) (gL gA : S65.Idx → Elt F .i32), X = k0_pay1 (yAll gW gS (listed g gL gA) (quant x)
    (put (scan g gL gA 64).2.2 (scan g gL gA 64).1.1.toNat (scan g gL gA 64).1.2) y (scan g gL gA 64).1.1.toNat)

/-! ## @main up to the region, at this proof's algebra -/

theorem hmainU (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

abbrev ms0_0 (t : Fin cfg0.N) : Memref sig .tc .smem S64 .i32 := win0_0.stage (cfg0.slots t 0)
abbrev ms0_1 (t : Fin cfg0.N) : Memref sig .tc .vmem S96x1408 .bf16 := win0_1.stage (cfg0.slots t 1)
abbrev ms0_2 (t : Fin cfg0.N) : Memref sig .tc .vmem S96x3072 .bf16 := win0_2.stage (cfg0.slots t 2)

/-- The body's six copy cells. -/
abbrev osem0 : Fin 6 → SemLoc sig :=
  fun j => (![SemLoc.dma 3, SemLoc.dma 4, SemLoc.dma 5, SemLoc.dma 6, SemLoc.dma 7, SemLoc.dma 8] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : Asn F) = cells0 c := by
  rw [Pipeline.ownSems0_eq_of_list c osem0 [0, 1, 2, 3, 4, 5] (by decide) (by decide)]; rfl

/-- The arrays the body's copies read. -/
def H0 : Finset (Ref sig .tc) := {main_arg2, main_arg3}
theorem H0_sub : H0 ⊆ Pipeline.restRefs sig spec0 := by decide
/-- The arrays the body's copies write: none. -/
def R0 : Finset (Ref sig .tc) := ∅
theorem R0_sub : R0 ⊆ Pipeline.restRefs sig spec0 \ H0 := Finset.empty_subset _

theorem hbmPts0_eq (c : Dev nD) :
    (bigSep H0 (fun b => ((c : Thread nD τ).loc b) ↦{fullShare} V m c b) : Asn F)
      = iprop((hbW.view.loc (c : Thread nD τ) ↦{fullShare} V m c main_arg2) ∗ (hbS.view.loc (c : Thread nD τ) ↦{fullShare} V m c main_arg3)) := by
  rw [BI.bigSep_eq_bigSepL_of_eq [main_arg2, main_arg3] (by decide) (by decide)]; rfl

theorem PhiDR0_eq (c : Dev nD) :
    (Pipeline.ΦDR osem0 spec0 H0 R0 (V m) c : Asn F)
      = iprop(iprop((∃ f : Buf (Elt F) (locW c), locW c ↦{fullShare} f) ∗ (∃ f : Buf (Elt F) (locS c), locS c ↦{fullShare} f)
            ∗ (∃ f : Buf (Elt F) (bX.view.loc (c : Thread nD τ)), bX.view.loc (c : Thread nD τ) ↦{fullShare} f)
            ∗ (∃ f : Buf (Elt F) (bY.view.loc (c : Thread nD τ)), bY.view.loc (c : Thread nD τ) ↦{fullShare} f)
            ∗ (∃ f : Buf (Elt F) (bL.view.loc (c : Thread nD τ)), bL.view.loc (c : Thread nD τ) ↦{fullShare} f)
            ∗ (∃ f : Buf (Elt F) (bA.view.loc (c : Thread nD τ)), bA.view.loc (c : Thread nD τ) ↦{fullShare} f))
          ∗ (∃ r, prngReg c r) ∗ cells0 c
          ∗ iprop((hbW.view.loc (c : Thread nD τ) ↦{fullShare} V m c main_arg2) ∗ (hbS.view.loc (c : Thread nD τ) ↦{fullShare} V m c main_arg3))
          ∗ Pipeline.owned R0 c) := by
  rw [Pipeline.ΦDR_eq, scopedRest0_eq, ownSems00_eq, hbmPts0_eq]
  try rfl

/-- Which windows are outputs. -/
def fgt0 (w : Fin cfg0.W) : Bool := match w with
  | ⟨0, _⟩ => false
  | ⟨1, _⟩ => false
  | ⟨2, _⟩ => true

/-- The proof data: the inputs stay as fetched. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay1 (fun _ => FloatOps.ofBits .f32 0)
  Φ _ := Pipeline.ΦDR osem0 spec0 H0 R0 (V m) c
  q _ := fullShare
  owed _ := 0

/-- What is known of the result's buffer after the body. -/
def rel0 (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun X => Leaves (iblk m c 0 t) (iblk m c 1 t) (V m c main_arg2) (V m c main_arg3) X

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body -/

def bodyPre (c : Dev nD) (t : Fin cfg0.N) : Asn F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ Y, ⌜((dats m 0 c).toRRel fgt0 (rel0 m c)).Finds 2 t Y⌝ ∗ owns (c : Thread nD τ) (ms0_2 t) fullShare Y))
def bodyPost (c : Dev nD) (t : Fin cfg0.N) : Asn F :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ X, ⌜rel0 m c 2 t X⌝ ∗ owns (c : Thread nD τ) (ms0_2 t) fullShare X))

/-- The result's buffer, read back after the whole store. -/
theorem read_outBuf (c : Dev nD) (arg4 : Memref sig .tc .vmem S96x3072 .bf16) (f4 : Buf (Elt F) (arg4.view.loc (c : Thread nD τ))) (y : S96x3072.Idx → Elt F .f32) :
    arg4.view.read (Elt F) (outBuf c arg4 f4 y) = k0_pay1 y :=
  View.read_writes_full arg4.view f4 (off := ![0, 0]) inb_S96x3072_S96x3072_0_0 (k0_pay1 y) []

/-- A whole buffer held, as its elements. -/
theorem owns_open (c : Dev nD) {sp : Space} {s : Shape} {e : EltTy} {r : Memref sig .tc sp s e} (h : r.IsWhole) {X : s.Idx → Elt F e} :
    (owns (c : Thread nD τ) r fullShare X : Asn F) ⊢ iprop(∃ f, ⌜r.view.read (Elt F) f = X⌝ ∗ (r.view.loc (c : Thread nD τ) ↦[Finset.univ]{fullShare} f)) := by
  unfold owns; rw [h.set_eq_univ]

theorem owns_close (c : Dev nD) {sp : Space} {s : Shape} {e : EltTy} {r : Memref sig .tc sp s e} (h : r.IsWhole) {X : s.Idx → Elt F e}
    {f : Buf (Elt F) (r.view.loc (c : Thread nD τ))} (hf : r.view.read (Elt F) f = X) :
    (iprop(r.view.loc (c : Thread nD τ) ↦[Finset.univ]{fullShare} f) : Asn F) ⊢ owns (c : Thread nD τ) r fullShare X := by
  unfold owns; rw [h.set_eq_univ]
  iintro H; iexists f; isplitr; · ipureintro; exact hf
  iexact H

/-- After the last listed expert no slot is being filled. -/
theorem inWin_end (n : ℕ) : (Ring.inWin n (min (n + 3) n) 3 : Fin 3 → Option ℕ) = fun _ => none := by
  funext k
  rw [show min (n + 3) n = n by omega, Ring.inWin_eq_none_iff (by omega)]
  intro x h1 h2; omega

set_option maxHeartbeats 1000000 in
theorem sound_body (c : Dev nD) (t : Fin cfg0.N) :
    bodyPre m c t ⊢ Run c (bodyAt0 t) (fun _ => bodyPost m c t) := by
  unfold bodyPre bodyPost
  rw [show (dats m 0 c).Φ t.succ = (dats m 0 c).Φ t.castSucc from rfl, after0_0, after0_1]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  iintro ⟨⟨⟨HW, HS, ⟨%X, HX⟩, ⟨%y, HY⟩, ⟨%gL, HL⟩, ⟨%gA, HA⟩⟩, Hg, HC, ⟨GW, GS⟩, Ho⟩, ⟨%W, -, HO⟩, ⟨%d0, H0⟩, ⟨%d1, H1⟩, ⟨%Y, -, H4⟩⟩
  ihave H0 := (owns_open c (hstage0_0 0)) $$ H0
  icases H0 with ⟨%f0, %e0, H0⟩
  ihave H1 := (owns_open c (hstage0_1 0)) $$ H1
  icases H1 with ⟨%f1, %e1, H1⟩
  ihave H4 := (owns_open c (hstage0_2 0)) $$ H4
  icases H4 with ⟨%f4, -, H4⟩
  rw [before0_0] at e0
  rw [before0_1] at e1
  ihave HR := (ring_enter c (V m c main_arg2) (V m c main_arg3) (listed ((ms0_0 t).view.read (Elt F) f0) gL gA)) $$ [HW HS HC GW GS]
  · isplitl [HW]; · iexact HW
    isplitl [HS]; · iexact HS
    isplitl [HC]; · iexact HC
    isplitl [GW]; · iexact GW
    iexact GS
  icases HR with ⟨HR, HSp⟩
  iapply (wp_wand_r _ _ _)
  isplitl [HR HX HY HL HA HO H0 H1 H4]
  · iapply (whole c (ms0_0 t) (hstage0_0 0) (ms0_1 t) (hstage0_1 0) (Memref.isWhole_whole _) (Memref.isWhole_whole _) (ms0_2 t) (hstage0_2 0)
      (Memref.isWhole_whole _) (Memref.isWhole_whole _) (Memref.isWhole_whole _) (Memref.isWhole_whole _) (Memref.isWhole_whole _) (Memref.isWhole_whole _)
      (f0 := f0) (f1 := f1) (f4 := f4) (gL := gL) (gA := gA) (X := X) (y := y) (gW := V m c main_arg2) (gS := V m c main_arg3) rfl rfl)
    unfold Lists
    isplitl [H0]; · iexact H0
    isplitl [HL]; · iexact HL
    isplitl [HA]; · iexact HA
    isplitl [HR]; · iexact HR
    isplitl [H1]; · iexact H1
    isplitl [HX]; · iexact HX
    isplitl [HY]; · iexact HY
    isplitl [H4]; · iexact H4
    iexists W; iexact HO
  iintro %u ⟨H0, H1, H4, HM⟩
  unfold Main
  icases HM with ⟨HR, HX, HY, HL, HA, ⟨%W', HO⟩⟩
  ihave HP := (BIBase.Entails.trans (sep_mono (Entails.of_eq (congrArg (Ring.AtW _) (inWin_end _))) .rfl) (ring_leave c (V m c main_arg2) (V m c main_arg3)
    (listed ((ms0_0 t).view.read (Elt F) f0) gL gA))) $$ [HR HSp]
  · isplitl [HR]; · iexact HR
    iexact HSp
  icases HP with ⟨HW, HS, HC, GW, GS⟩
  isplitl [HW HS HX HY HL HA Hg HC GW GS Ho]
  · isplitl [HW HS HX HY HL HA]
    · isplitl [HW]; · iexact HW
      isplitl [HS]; · iexact HS
      isplitl [HX]; · iexists _; iexact HX
      isplitl [HY]; · iexists _; iexact HY
      isplitl [HL]; · iexists _; iexact HL
      iexists _; iexact HA
    isplitl [Hg]; · iexact Hg
    isplitl [HC]; · iexact HC
    isplitl [GW GS]
    · isplitl [GW]; · iexact GW
      iexact GS
    iexact Ho
  isplitl [HO]
  · iexists W'; isplitr; · ipureintro; exact fun _ _ => Or.inl trivial
    iexact HO
  isplitl [H0]; · iapply (owns_close c (hstage0_0 0) e0); iexact H0
  isplitl [H1]; · iapply (owns_close c (hstage0_1 0) e1); iexact H1
  iexists _
  isplitr
  swap; · iapply (owns_close c (hstage0_2 0) (read_outBuf c _ f4 _)); iexact H4
  ipureintro
  exact ⟨y, gL, gA, by rw [e0, e1]⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt0 (rel0 m c) := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.RDat.FramePostR (cfgs 0) (fun c => (dats m 0 c).toRRel fgt0 (rel0 m c)) R0 (V m) r ∧ r.2.sem = fun _ => 0) :=
  Pipeline.RDat.θ_run_frame_dmaR (Q' := _) cfgs (0 : Fin 1) launch0 osem0 defs₀ Variants.none (fun c => (dats m 0 c).toRRel fgt0 (rel0 m c)) ownSemFacts0 H0 R0 H0_sub R0_sub m ρ main
    (hbody := fun c => (body_obligation m c).toRRel) (hshare := fun c => (dats m 0 c).share_full fun _ => rfl) (howed := fun _ _ => rfl) (V := V m)
    (hmain := hmainU m Variants.none) (hA := A_eq m) (hin := fun _ => .rfl) (hout := fun _ => .rfl)

/-- The first window's block is its whole array. -/
theorem emb0 (j : S64.Idx) : ((cfg0.win 0).blk t0_0).view.emb j = j := by
  funext a; fin_cases a; refine Fin.ext ?_; exact (Nat.zero_add _).trans (Nat.one_mul _)
/-- The second window's block is its whole array. -/
theorem emb1 (j : S96x1408.Idx) : ((cfg0.win 1).blk t0_0).view.emb j = j := by
  funext a; fin_cases a <;> refine Fin.ext ?_ <;> exact (Nat.zero_add _).trans (Nat.one_mul _)

/-- What every run leaves: the arguments as they were, and a result that the body may leave. -/
theorem run_leaves : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ Leaves (F := F) (m ((c.tc : Thread nD τ).loc main_arg1)) (m ((c.tc : Thread nD τ).loc main_arg0)) (m ((c.tc : Thread nD τ).loc main_arg2))
          (m ((c.tc : Thread nD τ).loc main_arg3)) (r.2.mem ((c.tc : Thread nD τ).loc main_v0)))
      ∧ r.2.sem = fun _ => 0) := by
  refine (θ_run defs _ _).mono (fun r h => ⟨fun c => ⟨⟨h.1.arr_in c 1 rfl, h.1.arr_in c 0 rfl,
      ((h.1 c).2 main_arg2 (Finset.mem_sdiff.mpr ⟨Pipeline.mem_restRefs_of main_arg2 (by decide) (by decide), by decide⟩)),
      ((h.1 c).2 main_arg3 (Finset.mem_sdiff.mpr ⟨Pipeline.mem_restRefs_of main_arg3 (by decide) (by decide), by decide⟩))⟩, ?_⟩, h.2⟩) (run_main m ρ)
  obtain ⟨X, hX, hG⟩ := ((h.1 c).1 2).emb_eq_of_wholeAt (t₀ := t0_0) (by decide +kernel)
  have hR : Leaves (iblk m c 0 t0_0) (iblk m c 1 t0_0) (V m c main_arg2) (V m c main_arg3) X := (dats m 0 c).toRRel_leaves rfl hX
  have eX : r.2.mem ((c.tc : Thread nD τ).loc main_v0) = X := funext fun j => hG j
  have e0 : iblk m c 0 t0_0 = m ((c.tc : Thread nD τ).loc main_arg1) := by
    funext j; exact congrArg (m ((c.tc : Thread nD τ).loc main_arg1)) (emb0 j)
  have e1 : iblk m c 1 t0_0 = m ((c.tc : Thread nD τ).loc main_arg0) := by
    funext j; exact congrArg (m ((c.tc : Thread nD τ).loc main_arg0)) (emb1 j)
  rw [eX, ← e0, ← e1]
  exact hR

end Cert.Kernel.Hand

end
-- ==== Proof.IChecks.lean ====
/-
  The side conditions the kernel's body assumes of the words it reads: every offset lies within its buffer and
  every loop has a meaning, as soon as the number of experts found is at most 64 and the expert numbers read
  back are below 64.
-/
module

public import proofs.«01_k».proof.Proof.Gen.KernelIdeal
public import Idealize.ShloMosaic.Lib.LoopRemainder
public import Idealize.ShloMosaic.Lib.Affine

@[expose] public section

noncomputable section

namespace Cert.KernelIdeal.Hand

open Cert.KernelIdeal Cert.KernelIdeal.Gen
open Idealize.ShloMosaic Idealize.SL.Sem

/-- The induction variable of a loop from 0 by steps of 1 is the trip's number. -/
theorem iv_eq (t : ℕ) : Scf.iv (0#32) (1#32) t = BitVec.ofNat 32 t := by
  unfold Scf.iv; simp

/-- The trip's number read back. -/
theorem iv_toNat {t : ℕ} (ht : t < 64) : (Scf.iv (0#32) (1#32) t).toNat = t := by
  rw [iv_eq, BitVec.toNat_ofNat]; omega

/-- The trip's number three steps ahead, read back. -/
theorem iv3_toNat {t : ℕ} (ht : t < 64) : (Scalar.addi (Scf.iv (0#32) (1#32) t) 3#32).toNat = t + 3 := by
  show (Scf.iv (0#32) (1#32) t + 3#32).toNat = _
  rw [BitVec.toNat_add, iv_toNat ht]; simp; omega

/-- The trip's number one step ahead, read back. -/
theorem iv1_toNat {t : ℕ} (ht : t < 64) : (Scalar.addi (Scf.iv (0#32) (1#32) t) 1#32).toNat = t + 1 := by
  show (Scf.iv (0#32) (1#32) t + 1#32).toNat = _
  rw [BitVec.toNat_add, iv_toNat ht]; simp; omega

/-- A number's slot of the ring of three. -/
theorem rem_toNat {w : BitVec 32} (hw : w.toNat < 128) : (Scalar.remsi w 3#32).toNat = w.toNat % 3 :=
  IntOp.toNat_remsi .scalar (by omega) 3 (by decide) (by decide)

/-- The main loop's trips are the number of experts found. -/
theorem trips2 {v : BitVec 32} (hv : v.toNat ≤ 64) : (k0_t2_loop v).trips = v.toNat := by
  show Scf.trips 0#32 (Scalar.addi 0#32 (Scalar.muli (Scalar.divsi (Scalar.subi v 0#32) 1#32) 1#32)) 1#32 = _
  rw [Scalar.muli_divsi_one]
  have h0 : Scalar.addi 0#32 (Scalar.subi v 0#32) = v := by
    show 0#32 + (v - 0#32) = v
    simp
  rw [h0]
  unfold Scf.trips
  have h1 : (1#32 : BitVec 32).toInt = 1 := by decide
  have h2 : (0#32 : BitVec 32).toInt = 0 := by decide
  have h3 : v.toInt = v.toNat := BitVec.toInt_eq_toNat_of_lt (by omega)
  rw [h1, h2, h3]; simp

/-- The main loop has a meaning. -/
theorem ok2 {v : BitVec 32} (hv : v.toNat ≤ 64) : (k0_t2_loop v).OK := by
  have ht := trips2 hv
  refine ⟨show 0 < (1#32 : BitVec 32).toInt by decide, ?_⟩
  show (0#32 : BitVec 32).toInt + ((k0_t2_loop v).trips : ℤ) * (1#32 : BitVec 32).toInt < 2 ^ (32 - 1)
  rw [ht]
  have h1 : (1#32 : BitVec 32).toInt = 1 := by decide
  have h2 : (0#32 : BitVec 32).toInt = 0 := by decide
  rw [h1, h2]; omega

/-- A trip of the main loop is below 64. -/
theorem t2_lt {v : BitVec 32} (hv : v.toNat ≤ 64) (t : Fin (k0_t2_loop v).trips) : t.val < 64 :=
  lt_of_lt_of_le t.isLt ((trips2 hv).le.trans hv)

/-- The remainder loop has no trip. -/
theorem no_t3 {v : BitVec 32} (t : Fin (k0_t3_loop v).trips) : False :=
  Scf.rem_no_trip 0#32 (Scalar.subi v 0#32) t

/-- The slot of a trip's expert is one of the three. -/
theorem slot_lt {v : BitVec 32} (hv : v.toNat ≤ 64) (t : Fin (k0_t2_loop v).trips) :
    (Scalar.remsi (Scf.iv (0#32) (1#32) t) 3#32).toNat < 3 := by
  have := t2_lt hv t
  rw [rem_toNat (by rw [iv_toNat this]; omega)]; exact Nat.mod_lt _ (by decide)

/-- The slot of the expert three ahead is one of the three. -/
theorem slot3_lt {v : BitVec 32} (hv : v.toNat ≤ 64) (t : Fin (k0_t2_loop v).trips) :
    (Scalar.remsi (Scalar.addi (Scf.iv (0#32) (1#32) t) 3#32) 3#32).toNat < 3 := by
  have := t2_lt hv t
  rw [rem_toNat (by rw [iv3_toNat this]; omega)]; exact Nat.mod_lt _ (by decide)

/-- One element of a list of 65 at a number below 65. -/
theorem inb65 {w : BitVec 32} (hw : w.toNat < 65) : ∀ a, (![w.toNat] : Fin 1 → ℕ) a + S1.size a ≤ S65.size a := by
  intro a; fin_cases a; show w.toNat + 1 ≤ 65; omega

/-- A tile of a slot of the weight ring. -/
theorem inbW {w : BitVec 32} (hw : w.toNat < 3) {b c : ℕ} (h : b + 64 ≤ 704 ∧ c + 256 ≤ 3072) :
    ∀ a, (![w.toNat, b, c] : Fin 3 → ℕ) a + S1x64x256.size a ≤ S3x704x3072.size a := by
  intro a; fin_cases a
  · show w.toNat + 1 ≤ 3; omega
  · exact h.1
  · exact h.2

/-- A row tile of a slot of the scale ring. -/
theorem inbS {w : BitVec 32} (hw : w.toNat < 3) {b c : ℕ} (h : b + 1 ≤ 11 ∧ c + 256 ≤ 3072) :
    ∀ a, (![w.toNat, b, c] : Fin 3 → ℕ) a + S1x1x256.size a ≤ S3x11x3072.size a := by
  intro a; fin_cases a
  · show w.toNat + 1 ≤ 3; omega
  · exact h.1
  · exact h.2

/-- A semaphore of the two rows of three. -/
theorem inbSem {w : BitVec 32} (hw : w.toNat < 3) {b : ℕ} (h : b < 2) :
    ∀ a, (![b, w.toNat] : Fin 2 → ℕ) a + S1x1.size a ≤ S2x3.size a := by
  intro a; fin_cases a
  · show b + 1 ≤ 2; omega
  · show w.toNat + 1 ≤ 3; omega

/-- A slot of the weight ring. -/
theorem inbSlotW {w : BitVec 32} (hw : w.toNat < 3) :
    ∀ a, (![w.toNat, 0, 0] : Fin 3 → ℕ) a + S1x704x3072.size a ≤ S3x704x3072.size a := by
  intro a; fin_cases a
  · show w.toNat + 1 ≤ 3; omega
  · exact le_refl _
  · exact le_refl _

/-- A slot of the scale ring. -/
theorem inbSlotS {w : BitVec 32} (hw : w.toNat < 3) :
    ∀ a, (![w.toNat, 0, 0] : Fin 3 → ℕ) a + S1x11x3072.size a ≤ S3x11x3072.size a := by
  intro a; fin_cases a
  · show w.toNat + 1 ≤ 3; omega
  · exact le_refl _
  · exact le_refl _

/-- An expert's block of the weights. -/
theorem inbExpW {w : BitVec 32} (hw : w.toNat < 64) :
    ∀ a, (![w.toNat, 0, 0] : Fin 3 → ℕ) a + S1x704x3072.size a ≤ S64x704x3072.size a := by
  intro a; fin_cases a
  · show w.toNat + 1 ≤ 64; omega
  · exact le_refl _
  · exact le_refl _

/-- An expert's block of the scales. -/
theorem inbExpS {w : BitVec 32} (hw : w.toNat < 64) :
    ∀ a, (![w.toNat, 0, 0] : Fin 3 → ℕ) a + S1x11x3072.size a ≤ S64x11x3072.size a := by
  intro a; fin_cases a
  · show w.toNat + 1 ≤ 64; omega
  · exact le_refl _
  · exact le_refl _

/-- A slot of the weight ring takes whole words. -/
theorem wordsSlotW {o : Fin 3 → ℕ} (h1 : o 1 = 0) (h : ∀ a, o a + S1x704x3072.size a ≤ S3x704x3072.size a) :
    (Rect.unit (s := S3x704x3072) o S1x704x3072.size h).WholeWords (EltTy.packing .i8) :=
  Or.inr ⟨by decide, rfl, h1, rfl⟩

/-- An expert's block of the weights takes whole words. -/
theorem wordsExpW {o : Fin 3 → ℕ} (h1 : o 1 = 0) (h : ∀ a, o a + S1x704x3072.size a ≤ S64x704x3072.size a) :
    (Rect.unit (s := S64x704x3072) o S1x704x3072.size h).WholeWords (EltTy.packing .i8) :=
  Or.inr ⟨by decide, rfl, h1, rfl⟩

/-- The next expert is started only while it is one of those found. -/
theorem cond4_lt {v : BitVec 32} (hv : v.toNat ≤ 64) (t : Fin (k0_t2_loop v).trips) :
    k0_cond4 v t = 1#1 ↔ t.val + 3 < v.toNat := by
  have ht := t2_lt hv t
  have h3 := iv3_toNat ht
  have key : (Scalar.addi (Scf.iv (0#32) (1#32) t) 3#32).slt v = decide (t.val + 3 < v.toNat) := by
    rw [BitVec.slt_eq_decide]
    rw [BitVec.toInt_eq_toNat_of_lt (by omega), BitVec.toInt_eq_toNat_of_lt (by omega), h3]
    simp only [decide_eq_decide]; omega
  show IntOp.cmpi .ne ((BitVec.ofBool ((Scalar.addi (Scf.iv (0#32) (1#32) t) 3#32).slt v)).setWidth 32) 0#32 = 1#1 ↔ _
  rw [key]
  by_cases h : t.val + 3 < v.toNat
  · simp only [h, decide_true, iff_true]; decide
  · simp only [h, decide_false, iff_false]; decide

/-- A trip's number names an element of a list of 65, -/
theorem inb65_t {v : BitVec 32} (hv : v.toNat ≤ 64) (t : Fin (k0_t2_loop v).trips) :
    ∀ a, (![(Scf.iv (0#32) (1#32) t).toNat] : Fin 1 → ℕ) a + S1.size a ≤ S65.size a :=
  inb65 (by rw [iv_toNat (t2_lt hv t)]; have := t2_lt hv t; omega)

/-- so does the next one, -/
theorem inb65_t1 {v : BitVec 32} (hv : v.toNat ≤ 64) (t : Fin (k0_t2_loop v).trips) :
    ∀ a, (![(Scalar.addi (Scf.iv (0#32) (1#32) t) 1#32).toNat] : Fin 1 → ℕ) a + S1.size a ≤ S65.size a :=
  inb65 (by rw [iv1_toNat (t2_lt hv t)]; have := t2_lt hv t; omega)

/-- and the one three ahead, where there is an expert to start. -/
theorem inb65_t3 {v : BitVec 32} (hv : v.toNat ≤ 64) (t : Fin (k0_t2_loop v).trips) (h : k0_cond4 v t = 1#1) :
    ∀ a, (![(Scalar.addi (Scf.iv (0#32) (1#32) t) 3#32).toNat] : Fin 1 → ℕ) a + S1.size a ≤ S65.size a :=
  inb65 (by rw [iv3_toNat (t2_lt hv t)]; have := (cond4_lt hv t).1 h; omega)

theorem chk2_0 {v : BitVec 32} (hv : v.toNat ≤ 64) : k0_chk2_0 v := by
  refine ⟨inb65 (w := v) (by omega), ok2 hv, fun t => inb65_t hv t,
    fun t => inbSem (slot_lt hv t) (by decide), fun t => inbSlotW (slot_lt hv t), fun t h => wordsSlotW rfl h,
    fun t => inbSem (slot_lt hv t) (by decide), fun t => inbSlotS (slot_lt hv t),
    fun t => inb65_t hv t, fun t => inb65_t1 hv t, ?_⟩
  repeat' apply And.intro
  all_goals first
    | exact fun t => inbW (slot_lt hv t) (by decide)
    | exact fun t => inbS (slot_lt hv t) (by decide)
theorem chk2_1 {v : BitVec 32} (hv : v.toNat ≤ 64) : k0_chk2_1 v := by
  unfold k0_chk2_1
  repeat' apply And.intro
  all_goals first
    | exact fun t => inbW (slot_lt hv t) (by decide)
    | exact fun t => inbS (slot_lt hv t) (by decide)
theorem chk2_2 {v : BitVec 32} (hv : v.toNat ≤ 64) : k0_chk2_2 v := by
  unfold k0_chk2_2
  repeat' apply And.intro
  all_goals first
    | exact fun t => inbW (slot_lt hv t) (by decide)
    | exact fun t => inbS (slot_lt hv t) (by decide)
theorem chk2_3 {v : BitVec 32} (hv : v.toNat ≤ 64) : k0_chk2_3 v := by
  unfold k0_chk2_3
  repeat' apply And.intro
  all_goals first
    | exact fun t => inbW (slot_lt hv t) (by decide)
    | exact fun t => inbS (slot_lt hv t) (by decide)
theorem chk2_4 {v : BitVec 32} (hv : v.toNat ≤ 64) : k0_chk2_4 v := by
  unfold k0_chk2_4
  repeat' apply And.intro
  all_goals first
    | exact fun t => inbW (slot_lt hv t) (by decide)
    | exact fun t => inbS (slot_lt hv t) (by decide)
theorem chk2_5 {v : BitVec 32} (hv : v.toNat ≤ 64) : k0_chk2_5 v := by
  unfold k0_chk2_5
  repeat' apply And.intro
  all_goals first
    | exact fun t => inbW (slot_lt hv t) (by decide)
    | exact fun t => inbS (slot_lt hv t) (by decide)
theorem chk2_6 {v : BitVec 32} (hv : v.toNat ≤ 64) : k0_chk2_6 v := by
  unfold k0_chk2_6
  repeat' apply And.intro
  all_goals first
    | exact fun t => inbW (slot_lt hv t) (by decide)
    | exact fun t => inbS (slot_lt hv t) (by decide)
theorem chk2_7 {v : BitVec 32} (hv : v.toNat ≤ 64) : k0_chk2_7 v := by
  unfold k0_chk2_7
  repeat' apply And.intro
  all_goals first
    | exact fun t => inbW (slot_lt hv t) (by decide)
    | exact fun t => inbS (slot_lt hv t) (by decide)
theorem chk2_8 {v : BitVec 32} (hv : v.toNat ≤ 64) : k0_chk2_8 v := by
  have W : ∀ t : Fin (k0_t2_loop v).trips, (Scalar.remsi (Scf.iv (0#32) (1#32) t) 3#32).toNat < 3 := slot_lt hv
  refine ⟨fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide), fun t => inbW (W t) (by decide), fun t => inbS (W t) (by decide),
    fun t h => inb65_t3 hv t h, fun t _ => inbSem (slot3_lt hv t) (by decide), fun t _ => inbSlotW (slot3_lt hv t),
    fun t _ h => wordsSlotW rfl h, fun t _ => inbSem (slot3_lt hv t) (by decide), fun t _ => inbSlotS (slot3_lt hv t),
    Scf.rem_ok 0#32 (Scalar.subi v 0#32), fun t => (no_t3 t).elim, fun t => (no_t3 t).elim, fun t => (no_t3 t).elim, fun t => (no_t3 t).elim, fun t => (no_t3 t).elim, fun t => (no_t3 t).elim, fun t => (no_t3 t).elim⟩
theorem chk2_9 {v : BitVec 32} (hv : v.toNat ≤ 64) : k0_chk2_9 v := by
  unfold k0_chk2_9
  repeat' apply And.intro
  all_goals exact fun t => (no_t3 t).elim
theorem chk2_10 {v : BitVec 32} (hv : v.toNat ≤ 64) : k0_chk2_10 v := by
  unfold k0_chk2_10
  repeat' apply And.intro
  all_goals exact fun t => (no_t3 t).elim
theorem chk2_11 {v : BitVec 32} (hv : v.toNat ≤ 64) : k0_chk2_11 v := by
  unfold k0_chk2_11
  repeat' apply And.intro
  all_goals exact fun t => (no_t3 t).elim
theorem chk2_12 {v : BitVec 32} (hv : v.toNat ≤ 64) : k0_chk2_12 v := by
  unfold k0_chk2_12
  repeat' apply And.intro
  all_goals exact fun t => (no_t3 t).elim
theorem chk2_13 {v : BitVec 32} (hv : v.toNat ≤ 64) : k0_chk2_13 v := by
  unfold k0_chk2_13
  repeat' apply And.intro
  all_goals exact fun t => (no_t3 t).elim
theorem chk2_14 {v : BitVec 32} (hv : v.toNat ≤ 64) : k0_chk2_14 v := by
  unfold k0_chk2_14
  repeat' apply And.intro
  all_goals exact fun t => (no_t3 t).elim
theorem chk2_15 {v : BitVec 32} (hv : v.toNat ≤ 64) : k0_chk2_15 v := by
  unfold k0_chk2_15
  repeat' apply And.intro
  all_goals exact fun t => (no_t3 t).elim
theorem chk2_16 {v : BitVec 32} (hv : v.toNat ≤ 64) : k0_chk2_16 v := by
  unfold k0_chk2_16
  repeat' apply And.intro
  all_goals exact fun t => (no_t3 t).elim
theorem chk2_17 {v : BitVec 32} (hv : v.toNat ≤ 64) : k0_chk2_17 v := by
  unfold k0_chk2_17
  repeat' apply And.intro
  all_goals exact fun t => (no_t3 t).elim

/-- Everything the body assumes once the experts are found. -/
theorem chk2 {v : BitVec 32} (hv : v.toNat ≤ 64) : k0_chk2 v :=
  ⟨chk2_0 hv, chk2_1 hv, chk2_2 hv, chk2_3 hv, chk2_4 hv, chk2_5 hv, chk2_6 hv, chk2_7 hv, chk2_8 hv, chk2_9 hv,
    chk2_10 hv, chk2_11 hv, chk2_12 hv, chk2_13 hv, chk2_14 hv, chk2_15 hv, chk2_16 hv, chk2_17 hv⟩

/-- What is assumed of the running count while the lists are built. -/
theorem chk1 {w : BitVec 32} (hw : w.toNat < 65) : k0_chk1 w := inb65 hw

/-- What is assumed of an expert's number, wherever one is read. -/
theorem chk3 {v w : BitVec 32} (hw : w.toNat < 64) : k0_chk3 v w :=
  ⟨fun _ => inbExpW hw, fun _ h => wordsExpW rfl h, fun _ => inbExpS hw⟩
theorem chk4 {v w : BitVec 32} (hw : w.toNat < 64) : k0_chk4 v w :=
  ⟨fun _ => inbExpW hw, fun _ h => wordsExpW rfl h, fun _ => inbExpS hw⟩
theorem chk5 {v w : BitVec 32} (hw : w.toNat < 64) : k0_chk5 v w :=
  ⟨fun _ => inbExpW hw, fun _ h => wordsExpW rfl h, fun _ => inbExpS hw⟩
theorem chk6 {w : BitVec 32} (hw : w.toNat < 64) : k0_chk6 w :=
  ⟨inbExpW hw, fun h => wordsExpW rfl h, inbExpS hw⟩
theorem chk7 {v w : BitVec 32} {t : Fin (k0_t2_loop v).trips} (hw : w.toNat < 64) : k0_chk7 v t w :=
  ⟨fun _ => inbExpW hw, fun _ h => wordsExpW rfl h, fun _ => inbExpS hw⟩

end Cert.KernelIdeal.Hand

end
-- ==== Proof.IStep.lean ====
/-
  The grouped matmul kernel one operation at a time: the names of its ring slots, cells and expert blocks, and
  for each operation of the body a rule from what is held before it to what is held after it, over a continuation.
-/
module

public import proofs.«01_k».proof.Proof.IChecks
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.Window
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the proof's assertions are about: the machine, with the pipeline library's user algebra beside the transfers' counters. -/
abbrev Asn (F : FTy → Type) : Type := sProp (MT nD τ sig Unit (Elt F) ℕ (Pipeline.UD sig nD τ) ℕ)

/-- What core `c` must hold to run `p` and end with `Q`. -/
abbrev Run (c : Dev nD) {α : Type} (p : Prog (TpuEff nD τ sig (Elt F) Λ₀ .tc) α) (Q : α → Asn F) : Asn F :=
  wp frame (wpE (defs₀ (F := F)) Variants.none (c : Thread nD τ) none) Set.univ p Q

/-- The core's waits, whatever they have been. -/
abbrev waits (c : Dev nD) : Asn F := iprop(∃ W, owes (c : Thread nD τ) 0 W)

section Rules

variable {α β : Type} (c : Dev nD) {P P' R : Asn F} {Q : α → Asn F}

/-- A program in two pieces: the second is met where the first returns. -/
theorem bind_step {p : Prog (TpuEff nD τ sig (Elt F) Λ₀ .tc) β} {k : β → Prog (TpuEff nD τ sig (Elt F) Λ₀ .tc) α}
    (h : P ⊢ Run c p (fun a => Run c (k a) Q)) : P ⊢ Run c (p >>= k) Q := by
  unfold Run; rw [Sem.wp_bind]; exact h

/-- A program that has ended. -/
theorem pure_step {a : α} (h : P ⊢ Q a) : P ⊢ Run c (pure a : Prog (TpuEff nD τ sig (Elt F) Λ₀ .tc) α) Q := by
  unfold Run; rw [Sem.wp_pure]
  exact h.trans fupd_intro

/-- An assumption that holds. -/
theorem assume_step {p : Prop} {d : Decidable p} {k : PLift p → Prog (TpuEff nD τ sig (Elt F) Λ₀ .tc) α} (hp : p)
    (h : P ⊢ Run c (k ⟨hp⟩) Q) : P ⊢ Run c (Prog.lift (.assume p d) >>= k) Q :=
  h.trans (wp_assume Variants.none (c : Thread nD τ) none Set.univ hp)

/-- A vector load from a buffer of which enough elements are held. -/
theorem load_step {cs : CoreSpace} {s : Shape} {e : EltTy} {m : Memref sig .tc cs s e} {r : LoadRect s} {hl : m.view.LoadsAt r}
    {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    (hS : m.view.setOn r.set ⊆ S) (hP : P ⊢ iprop((m.view.loc (c : Thread nD τ) ↦[S]{q} f) ∗ R))
    (hP' : iprop((m.view.loc (c : Thread nD τ) ↦[S]{q} f) ∗ R) ⊢ P)
    (h : P ⊢ Run c (k (m.view.readAt (Elt F) r f)) Q) : P ⊢ Run c (Prog.lift (.load m r hl) >>= k) Q := by
  refine hP.trans ?_
  iintro ⟨Hm, HR⟩
  iapply (wp_load Variants.none (c : Thread nD τ) none Set.univ hS) $$ Hm
  iintro Hm
  iapply (hP'.trans h)
  isplitl [Hm] <;> iassumption

/-- A load of one word from scalar memory. -/
theorem word_step {s : Shape} {e : EltTy} {m : Memref sig .tc .smem s e} {r : Rect s} {h1 : r.shape.numel = 1} {hp : e.packing = 1}
    {k : Elt F e → Prog (TpuEff nD τ sig (Elt F) Λ₀ .tc) α}
    {S : Finset (Idx (m.view.loc (c : Thread nD τ)))} {q : PosShare TreeShare} {f : Buf (Elt F) (m.view.loc (c : Thread nD τ))}
    (hS : (m.access r).set ⊆ S) (hP : P ⊢ iprop((m.view.loc (c : Thread nD τ) ↦[S]{q} f) ∗ R))
    (hP' : iprop((m.view.loc (c : Thread nD τ) ↦[S]{q} f) ∗ R) ⊢ P)
    (h : P ⊢ Run c (k ((m.access r).read (Elt F) f (Shape.Idx.first (h1.symm ▸ Nat.one_pos)))) Q) :
    P ⊢ Run c (smemLoad m r h1 hp >>= k) Q := by
  refine hP.trans ?_
  iintro ⟨Hm, HR⟩
  iapply (wp_load_rect Variants.none (c : Thread nD τ) none Set.univ
    (k := fun f => k (f (Shape.Idx.first (h1.symm ▸ Nat.one_pos)))) hS) $$ Hm
  iintro Hm
  iapply (hP'.trans h)
  isplitl [Hm] <;> iassumption

/-- A vector store, masked or not. -/
theorem store_step {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    {k : PUnit → Prog (TpuEff nD τ sig (Elt F) Λ₀ .tc) α}
    {S : Finset (Idx ((m.access r).loc (c : Thread nD τ)))} {f : Buf (Elt F) ((m.access r).loc (c : Thread nD τ))}
    (hS : (m.access r).setOn Mk ⊆ S) (hP : P ⊢ iprop(((m.access r).loc (c : Thread nD τ) ↦[S]{fullShare} f) ∗ R))
    (hP' : iprop(((m.access r).loc (c : Thread nD τ) ↦[S]{fullShare} ((m.access r).write (Elt F) f w Mk)) ∗ R) ⊢ P')
    (h : P' ⊢ Run c (k ⟨⟩) Q) : P ⊢ Run c (Prog.lift (.store m r w Mk hx hm) >>= k) Q := by
  refine hP.trans ?_
  iintro ⟨Hm, HR⟩
  iapply (wp_store Variants.none (c : Thread nD τ) none Set.univ hS) $$ Hm
  iintro Hm
  iapply (hP'.trans h)
  isplitl [Hm] <;> iassumption

/-- The start of a copy: its source's own elements, its destination and its cell at zero are given up for the flight. -/
theorem start_step {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (p := Proc.tc) sp sm (.here dst)}
    {k : PUnit → Prog (TpuEff nD τ sig (Elt F) Λ₀ .tc) α} {q : PosShare TreeShare}
    {fs : Buf (Elt F) (src.view.loc (c : Thread nD τ))} {fd : Buf (Elt F) (dst.view.loc (c : Thread nD τ))} (N : ℕ)
    (hN : dst.view.amount sm = N) (hN0 : 0 < N)
    (hP : P ⊢ iprop(((src.view.loc (c : Thread nD τ) ↦[src.view.set]{q} fs) ∗ (dst.view.loc (c : Thread nD τ) ↦[dst.view.set]{fullShare} fd)
      ∗ semVal ((c : Thread nD τ), sm) 0) ∗ R))
    (h : iprop(Transfers.Flight (countersEmb (U := Pipeline.UD sig nD τ)) (c : Thread nD τ) sm () N
        iprop((dst.view.loc (c : Thread nD τ) ↦[dst.view.set]{fullShare} (dst.view.write (Elt F) fd (src.view.read (Elt F) fs) Finset.univ))
          ∗ (src.view.loc (c : Thread nD τ) ↦[src.view.set]{q} fs)) ∗ R) ⊢ Run c (k ⟨⟩) Q) :
    P ⊢ Run c (Prog.lift (.enqueueDma src (.here dst) sm hsrc hdst hsem) >>= k) Q := by
  refine hP.trans ?_
  iintro ⟨H, HR⟩
  iapply (Transfers.wp_dmaLocal (countersEmb (U := Pipeline.UD sig nD τ)) Variants.none (c : Thread nD τ) none () N hN hN0
    (Finset.Subset.refl _)) $$ H
  iintro Hf
  iapply h
  isplitl [Hf] <;> iassumption

/-- The wait for a copy: what it delivers comes back, its cell at zero. -/
theorem wait_step {sp sp' : Space} {s : Shape} {e : EltTy} {s' : Shape} {e' : EltTy} {src : Memref sig .tc sp s e}
    {dst : Memref sig .tc sp' s' e'} {sem : DmaSem sig} {hsrc : src.view.WordExact} {hdst : dst.view.WordExact}
    {k : PUnit → Prog (TpuEff nD τ sig (Elt F) Λ₀ .tc) α} {N : ℕ} (hN : dst.view.dmaCredit = N) {D : Asn F}
    (hP : P ⊢ iprop(Transfers.Flight (countersEmb (U := Pipeline.UD sig nD τ)) (c : Thread nD τ) (.dma sem) () N D ∗ waits c ∗ R))
    (h : iprop(D ∗ semVal ((c : Thread nD τ), SemLoc.dma sem) 0 ∗ waits c ∗ R) ⊢ Run c (k ⟨⟩) Q) :
    P ⊢ Run c (Prog.lift (.waitDma2 sem src dst hsrc hdst) >>= k) Q := by
  refine hP.trans ?_
  iintro ⟨Hf, ⟨%W, HW⟩, HR⟩
  iapply (Transfers.wp_waitLocal (countersEmb (U := Pipeline.UD sig nD τ)) Variants.none (c : Thread nD τ) none () hN) $$ [Hf HW]
  · isplitl [Hf] <;> iassumption
  iintro ⟨HD, Hs, HW⟩
  iapply h
  isplitl [HD]; · iexact HD
  isplitl [Hs]; · iexact Hs
  isplitl [HW]; · iexists _; iexact HW
  iexact HR

end Rules

end Cert.KernelIdeal.Hand

end
-- ==== Proof.ITile.lean ====
/-
  What one trip of the kernel's main loop computes: the tile of a slot's packed weights and of its scales a load
  reads, the dequantised weight of one column tile, its product with the activations, and the rows of the result
  it replaces. The ring's slots and the experts' blocks are named here too, with the elements they are made of.
-/
module

public import proofs.«01_k».proof.Proof.IStep
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The buffers -/

abbrev hbW : Memref sig .tc .hbm S64x704x3072 .i8 := Memref.whole main_arg2
abbrev hbS : Memref sig .tc .hbm S64x11x3072 .f32 := Memref.whole main_arg3
abbrev bW : Memref sig .tc .vmem S3x704x3072 .i8 := Memref.whole cc0_scratch0
abbrev bS : Memref sig .tc .vmem S3x11x3072 .f32 := Memref.whole cc0_scratch1
abbrev bX : Memref sig .tc .vmem S96x1408 .bf16 := Memref.whole cc0_scratch2
abbrev bY : Memref sig .tc .vmem S96x3072 .f32 := Memref.whole cc0_scratch3
abbrev bL : Memref sig .tc .smem S65 .i32 := Memref.whole cc0_scratch4
abbrev bA : Memref sig .tc .smem S65 .i32 := Memref.whole cc0_scratch5

/-- A slot lies within its buffer. -/
theorem atSlotW (k : Fin 3) : ∀ a, (![k.val, 0, 0] : Fin 3 → ℕ) a + S1x704x3072.size a ≤ S3x704x3072.size a := by
  intro a; have := k.isLt; fin_cases a <;> simp [S1x704x3072, S3x704x3072] <;> omega
/-- A slot lies within its buffer. -/
theorem atSlotS (k : Fin 3) : ∀ a, (![k.val, 0, 0] : Fin 3 → ℕ) a + S1x11x3072.size a ≤ S3x11x3072.size a := by
  intro a; have := k.isLt; fin_cases a <;> simp [S1x11x3072, S3x11x3072] <;> omega
/-- An expert's block lies within its buffer. -/
theorem atExpW (e : Fin 64) : ∀ a, (![e.val, 0, 0] : Fin 3 → ℕ) a + S1x704x3072.size a ≤ S64x704x3072.size a := by
  intro a; have := e.isLt; fin_cases a <;> simp [S1x704x3072, S64x704x3072] <;> omega
/-- An expert's block lies within its buffer. -/
theorem atExpS (e : Fin 64) : ∀ a, (![e.val, 0, 0] : Fin 3 → ℕ) a + S1x11x3072.size a ≤ S64x11x3072.size a := by
  intro a; have := e.isLt; fin_cases a <;> simp [S1x11x3072, S64x11x3072] <;> omega
/-- A cell lies within the cells. -/
theorem atCell (r : Fin 2) (k : Fin 3) : ∀ a, (![r.val, k.val] : Fin 2 → ℕ) a + S1x1.size a ≤ S2x3.size a := by
  intro a; have := r.isLt; have := k.isLt; fin_cases a <;> simp [S1x1, S2x3] <;> omega

/-- Slot `k` of the weights' ring. -/
abbrev slotW (k : Fin 3) : Memref sig .tc .vmem S704x3072 .i8 :=
  (bW.slice (Rect.unit (s := S3x704x3072) ![k.val, 0, 0] S1x704x3072.size (atSlotW k)) (fun _ => rfl)).squeeze S704x3072
    squeezes_S1x704x3072_S704x3072
/-- Slot `k` of the scales' ring. -/
abbrev slotS (k : Fin 3) : Memref sig .tc .vmem S11x3072 .f32 :=
  (bS.slice (Rect.unit (s := S3x11x3072) ![k.val, 0, 0] S1x11x3072.size (atSlotS k)) (fun _ => rfl)).squeeze S11x3072
    squeezes_S1x11x3072_S11x3072
/-- Expert `e`'s packed weights. -/
abbrev expW (e : Fin 64) : Memref sig .tc .hbm S704x3072 .i8 :=
  (hbW.slice (Rect.unit (s := S64x704x3072) ![e.val, 0, 0] S1x704x3072.size (atExpW e)) (fun _ => rfl)).squeeze S704x3072
    squeezes_S1x704x3072_S704x3072
/-- Expert `e`'s scales. -/
abbrev expS (e : Fin 64) : Memref sig .tc .hbm S11x3072 .f32 :=
  (hbS.slice (Rect.unit (s := S64x11x3072) ![e.val, 0, 0] S1x11x3072.size (atExpS e)) (fun _ => rfl)).squeeze S11x3072
    squeezes_S1x11x3072_S11x3072
/-- The cell of slot `k` of the weights' ring. -/
abbrev cellW (k : Fin 3) : DmaSem sig :=
  ((cc0_scratch6.slice (Rect.unit (s := S2x3) ![0, k.val] S1x1.size (atCell 0 k))).squeeze S_ squeezes_S1x1_S_).sem
/-- The cell of slot `k` of the scales' ring. -/
abbrev cellS (k : Fin 3) : DmaSem sig :=
  ((cc0_scratch6.slice (Rect.unit (s := S2x3) ![1, k.val] S1x1.size (atCell 1 k))).squeeze S_ squeezes_S1x1_S_).sem

/-- Where slot `k`'s elements lie in the weights' ring. -/
theorem slotW_emb (k : Fin 3) (x : S704x3072.Idx) : (slotW k).view.emb x = ix3 k (x 0) (x 1) := by
  show (Rect.unit (s := S3x704x3072) ![k.val, 0, 0] S1x704x3072.size _).emb (Shape.reshapeEquiv _ x) = _
  rw [Shape.reshapeEquiv_cons_one (n := 2) (d := ![704, 3072])]
  funext a
  refine Fin.ext ?_
  rw [Rect.emb_apply]
  fin_cases a <;> simp [ix3] <;> rfl

/-- Where slot `k`'s elements lie in the scales' ring. -/
theorem slotS_emb (k : Fin 3) (x : S11x3072.Idx) : (slotS k).view.emb x = ix3 k (x 0) (x 1) := by
  show (Rect.unit (s := S3x11x3072) ![k.val, 0, 0] S1x11x3072.size _).emb (Shape.reshapeEquiv _ x) = _
  rw [Shape.reshapeEquiv_cons_one (n := 2) (d := ![11, 3072])]
  funext a
  refine Fin.ext ?_
  rw [Rect.emb_apply]
  fin_cases a <;> simp [ix3] <;> rfl

/-- Where expert `e`'s packed weights lie among all the experts'. -/
theorem expW_emb (e : Fin 64) (x : S704x3072.Idx) : (expW e).view.emb x = ix3 e (x 0) (x 1) := by
  show (Rect.unit (s := S64x704x3072) ![e.val, 0, 0] S1x704x3072.size _).emb (Shape.reshapeEquiv _ x) = _
  rw [Shape.reshapeEquiv_cons_one (n := 2) (d := ![704, 3072])]
  funext a
  refine Fin.ext ?_
  rw [Rect.emb_apply]
  fin_cases a <;> simp [ix3] <;> rfl

/-- Where expert `e`'s scales lie among all the experts'. -/
theorem expS_emb (e : Fin 64) (x : S11x3072.Idx) : (expS e).view.emb x = ix3 e (x 0) (x 1) := by
  show (Rect.unit (s := S64x11x3072) ![e.val, 0, 0] S1x11x3072.size _).emb (Shape.reshapeEquiv _ x) = _
  rw [Shape.reshapeEquiv_cons_one (n := 2) (d := ![11, 3072])]
  funext a
  refine Fin.ext ?_
  rw [Rect.emb_apply]
  fin_cases a <;> simp [ix3] <;> rfl

/-! ## One trip's arithmetic -/

/-- The 64 rows from `b` on and the 256 columns from `c` on of a slot's packed weights. -/
def tW (wv : S704x3072.Idx → Elt F .i8) (b c : ℕ) : S1x64x256.Idx → Elt F .i8 :=
  fun i => wv (ix2 (Fin.ofNat 704 (b + (i 1).val)) (Fin.ofNat 3072 (c + (i 2).val)))

/-- The 256 columns from `c` on of group `b`'s scales. -/
def tS (sv : S11x3072.Idx → Elt F .f32) (b c : ℕ) : S1x1x256.Idx → Elt F .f32 :=
  fun i => sv (ix2 (Fin.ofNat 11 (b + (i 1).val)) (Fin.ofNat 3072 (c + (i 2).val)))

/-- Group `g`'s 128 dequantised rows of the column tile from `c` on. -/
abbrev deq (wv : S704x3072.Idx → Elt F .i8) (sv : S11x3072.Idx → Elt F .f32) (b g c : ℕ) : FVec F S128x256 .bf16 :=
  k0_pay6 k0_pay2 (tW wv b c) (tS sv g c)

/-- The dequantised column tile from `c` on: the eleven groups one above the other. -/
def deqTile (wv : S704x3072.Idx → Elt F .i8) (sv : S11x3072.Idx → Elt F .f32) (c : ℕ) : FVec F S1408x256 .bf16 :=
  concatenate S1408x256 0 [⟨S128x256, deq wv sv 0 0 c⟩, ⟨S128x256, deq wv sv 64 1 c⟩, ⟨S128x256, deq wv sv 128 2 c⟩,
    ⟨S128x256, deq wv sv 192 3 c⟩, ⟨S128x256, deq wv sv 256 4 c⟩, ⟨S128x256, deq wv sv 320 5 c⟩, ⟨S128x256, deq wv sv 384 6 c⟩,
    ⟨S128x256, deq wv sv 448 7 c⟩, ⟨S128x256, deq wv sv 512 8 c⟩, ⟨S128x256, deq wv sv 576 9 c⟩, ⟨S128x256, deq wv sv 640 10 c⟩]
    concatenates_S128x256_S128x256_S128x256_S128x256_S128x256_S128x256_S128x256_S128x256_S128x256_S128x256_S128x256_S1408x256_d0

/-- The activations times the dequantised column tile from `c` on. -/
abbrev tilePay (wv : S704x3072.Idx → Elt F .i8) (sv : S11x3072.Idx → Elt F .f32) (xs : Vec F S96x1408 .bf16) (c : ℕ) : FVec F S96x256 .f32 :=
  k0_pay16 (deqTile wv sv c) xs

/-- The result with the marked rows of the column tile from `c` on replaced. -/
def yPut (c : ℕ) (pay : FVec F S96x256 .f32) (mask : IVec S96x256 1) (y : S96x3072.Idx → Elt F .f32) : S96x3072.Idx → Elt F .f32 :=
  fun i => if c ≤ (i 1).val ∧ (i 1).val < c + 256 ∧ mask (ix2 (i 0) (Fin.ofNat 256 ((i 1).val - c))) = 1#1
    then pay (ix2 (i 0) (Fin.ofNat 256 ((i 1).val - c))) else y i

/-- The result after the first `j` column tiles of one expert. -/
def yTo (wv : S704x3072.Idx → Elt F .i8) (sv : S11x3072.Idx → Elt F .f32) (xs : Vec F S96x1408 .bf16) (lo hi : Elt F .i32)
    (y : S96x3072.Idx → Elt F .f32) : ℕ → S96x3072.Idx → Elt F .f32
  | 0 => y
  | j + 1 => yPut (256 * j) (tilePay wv sv xs (256 * j)) (k0_pay17 (k0_pay3 (F := F) lo hi)) (yTo wv sv xs lo hi y j)

end Cert.KernelIdeal.Hand

end
-- ==== Proof.ITrip.lean ====
/-
  The arithmetic of one trip of the kernel's main loop: what is held while a trip computes, and a rule for each
  kind of load and for the masked store of a column tile.
-/
module

public import proofs.«01_k».proof.Proof.ITile
public import Idealize.ShloMosaic.Lib.TopK.GroupedStream

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A tile of a slot's weights lies in the slot. -/
theorem tile_sub_W (k : Fin 3) {o : Fin 3 → ℕ} (h : ∀ a, o a + S1x64x256.size a ≤ S3x704x3072.size a) (h0 : o 0 = k.val) :
    bW.view.setOn (Rect.unit (s := S3x704x3072) o S1x64x256.size h).toLoadRect.set ⊆ (slotW k).view.set := by
  intro i hi
  obtain ⟨y, hy, rfl⟩ := Finset.mem_map.mp hi
  have hm := (Rect.mem_set_unit).mp hy
  have e : bW.view.emb y = (slotW k).view.emb (ix2 (y 1) (y 2)) := by
    rw [slotW_emb]
    funext a
    fin_cases a
    · refine Fin.ext ?_
      have := hm 0
      have h1 : S1x64x256.size 0 = 1 := rfl
      show (y 0).val = k.val
      omega
    · rfl
    · rfl
  show bW.view.emb y ∈ _
  rw [e]; exact View.emb_mem_set _ _

/-- A group's scales over a tile lie in the slot. -/
theorem tile_sub_S (k : Fin 3) {o : Fin 3 → ℕ} (h : ∀ a, o a + S1x1x256.size a ≤ S3x11x3072.size a) (h0 : o 0 = k.val) :
    bS.view.setOn (Rect.unit (s := S3x11x3072) o S1x1x256.size h).toLoadRect.set ⊆ (slotS k).view.set := by
  intro i hi
  obtain ⟨y, hy, rfl⟩ := Finset.mem_map.mp hi
  have hm := (Rect.mem_set_unit).mp hy
  have e : bS.view.emb y = (slotS k).view.emb (ix2 (y 1) (y 2)) := by
    rw [slotS_emb]
    funext a
    fin_cases a
    · refine Fin.ext ?_
      have := hm 0
      have h1 : S1x1x256.size 0 = 1 := rfl
      show (y 0).val = k.val
      omega
    · rfl
    · rfl
  show bS.view.emb y ∈ _
  rw [e]; exact View.emb_mem_set _ _

/-- What a load of a tile of a slot's weights reads. -/
theorem tile_read_W (k : Fin 3) {o : Fin 3 → ℕ} (h : ∀ a, o a + S1x64x256.size a ≤ S3x704x3072.size a) {b cc : ℕ}
    (h0 : o = ![k.val, b, cc]) (f : bW.view.ty.Contents (Elt F)) :
    bW.view.readAt (Elt F) (Rect.unit (s := S3x704x3072) o S1x64x256.size h).toLoadRect f
      = tW ((slotW k).view.read (Elt F) f) b cc := by
  subst h0
  funext i
  show f ((Rect.unit (s := S3x704x3072) ![k.val, b, cc] S1x64x256.size h).emb i) = f ((slotW k).view.emb _)
  rw [slotW_emb]
  congr 1
  funext a
  refine Fin.ext ?_
  have hb : b + 64 ≤ 704 := h 1
  have hc : cc + 256 ≤ 3072 := h 2
  have h1 : (i 0).val < 1 := (i 0).isLt
  have h2 : (i 1).val < 64 := (i 1).isLt
  have h3 : (i 2).val < 256 := (i 2).isLt
  rw [Rect.emb_apply]
  fin_cases a
  · show k.val + 1 * (i 0).val = k.val; omega
  · show b + 1 * (i 1).val = (b + (i 1).val) % 704; rw [Nat.mod_eq_of_lt (by omega)]; omega
  · show cc + 1 * (i 2).val = (cc + (i 2).val) % 3072; rw [Nat.mod_eq_of_lt (by omega)]; omega

/-- What a load of a group's scales over a tile reads. -/
theorem tile_read_S (k : Fin 3) {o : Fin 3 → ℕ} (h : ∀ a, o a + S1x1x256.size a ≤ S3x11x3072.size a) {b cc : ℕ}
    (h0 : o = ![k.val, b, cc]) (f : bS.view.ty.Contents (Elt F)) :
    bS.view.readAt (Elt F) (Rect.unit (s := S3x11x3072) o S1x1x256.size h).toLoadRect f
      = tS ((slotS k).view.read (Elt F) f) b cc := by
  subst h0
  funext i
  show f ((Rect.unit (s := S3x11x3072) ![k.val, b, cc] S1x1x256.size h).emb i) = f ((slotS k).view.emb _)
  rw [slotS_emb]
  congr 1
  funext a
  refine Fin.ext ?_
  have hb : b + 1 ≤ 11 := h 1
  have hc : cc + 256 ≤ 3072 := h 2
  have h1 : (i 0).val < 1 := (i 0).isLt
  have h2 : (i 1).val < 1 := (i 1).isLt
  have h3 : (i 2).val < 256 := (i 2).isLt
  rw [Rect.emb_apply]
  fin_cases a
  · show k.val + 1 * (i 0).val = k.val; omega
  · show b + 1 * (i 1).val = (b + (i 1).val) % 11; rw [Nat.mod_eq_of_lt (by omega)]; omega
  · show cc + 1 * (i 2).val = (cc + (i 2).val) % 3072; rw [Nat.mod_eq_of_lt (by omega)]; omega

/-- What the masked store of a column tile leaves. -/
theorem tile_write (cc : ℕ) (h : ∀ a, (![0, cc] : Fin 2 → ℕ) a + S96x256.size a ≤ S96x3072.size a) (f : bY.view.ty.Contents (Elt F))
    (pay : FVec F S96x256 .f32) (mask : IVec S96x256 1) :
    (bY.access (Rect.unit (s := S96x3072) ![0, cc] S96x256.size h)).write (Elt F) f pay (IVec.on mask) = yPut cc pay mask f := by
  funext i
  have hc : cc + 256 ≤ 3072 := h 1
  by_cases hr : cc ≤ (i 1).val ∧ (i 1).val < cc + 256
  · have hi : i = (bY.access (Rect.unit (s := S96x3072) ![0, cc] S96x256.size h)).emb (ix2 (i 0) (Fin.ofNat 256 ((i 1).val - cc))) := by
      show i = (Rect.unit (s := S96x3072) ![0, cc] S96x256.size h).emb _
      funext a
      refine Fin.ext ?_
      rw [Rect.emb_apply]
      fin_cases a
      · show (i 0).val = 0 + 1 * (i 0).val; omega
      · show (i 1).val = cc + 1 * (((i 1).val - cc) % 256); rw [Nat.mod_eq_of_lt (by omega)]; omega
    conv_lhs => rw [hi]
    rw [View.write_emb, ← hi]
    unfold yPut
    by_cases hm : mask (ix2 (i 0) (Fin.ofNat 256 ((i 1).val - cc))) = 1#1
    · exact (if_pos ((IVec.mem_on_iff _ _).mpr hm)).trans (if_pos ⟨hr.1, hr.2, hm⟩).symm
    · exact (if_neg (fun hh => hm ((IVec.mem_on_iff _ _).mp hh))).trans (if_neg (fun hh => hm hh.2.2)).symm
  · rw [View.write_of_not_mem]
    · unfold yPut
      rw [if_neg (fun hh => hr ⟨hh.1, hh.2.1⟩)]
    · intro hi
      obtain ⟨y, hy, rfl⟩ := Finset.mem_map.mp hi
      apply hr
      have e : (((bY.access (Rect.unit (s := S96x3072) ![0, cc] S96x256.size h)).emb y) 1).val = cc + (y 1).val := by
        show ((Rect.unit (s := S96x3072) ![0, cc] S96x256.size h).emb y 1).val = _
        rw [Rect.emb_apply]
        show cc + 1 * (y 1).val = _
        omega
      rw [e]
      have : (y 1).val < 256 := (y 1).isLt
      omega

/-! ## What is held while a trip computes -/

variable (c : Dev nD)

/-- While a trip computes: the slot's weights and scales, the activations, and the result so far. -/
def Cmp (k : Fin 3) (fw : bW.view.ty.Contents (Elt F)) (fs : bS.view.ty.Contents (Elt F)) (xs : Vec F S96x1408 .bf16) (R : Asn F)
    (y : S96x3072.Idx → Elt F .f32) : Asn F :=
  iprop(((slotW k).view.loc (c : Thread nD τ) ↦[(slotW k).view.set]{fullShare} fw)
    ∗ ((slotS k).view.loc (c : Thread nD τ) ↦[(slotS k).view.set]{fullShare} fs)
    ∗ (bX.view.loc (c : Thread nD τ) ↦[Finset.univ]{fullShare} xs) ∗ (bY.view.loc (c : Thread nD τ) ↦[Finset.univ]{fullShare} y) ∗ R)

section

variable {α : Type} {Q : α → Asn F} {k : Fin 3} {fw : bW.view.ty.Contents (Elt F)} {fs : bS.view.ty.Contents (Elt F)}
  {wv : S704x3072.Idx → Elt F .i8} {sv : S11x3072.Idx → Elt F .f32} {xs : Vec F S96x1408 .bf16} {R : Asn F} {y : S96x3072.Idx → Elt F .f32}

/-- A load of a tile of the slot's weights. -/
theorem load_w {w : BitVec 32} (hwk : w.toNat = k.val) (hwv : (slotW k).view.read (Elt F) fw = wv) {o : Fin 3 → ℕ}
    {h : ∀ a, o a + S1x64x256.size a ≤ S3x704x3072.size a}
    {hl : bW.view.LoadsAt (Rect.unit (s := S3x704x3072) o S1x64x256.size h).toLoadRect}
    {kk : (S1x64x256.Idx → Elt F .i8) → Prog (TpuEff nD τ sig (Elt F) Λ₀ .tc) α} {b cc : ℕ} (ho : o = ![w.toNat, b, cc])
    (H : Cmp c k fw fs xs R y ⊢ Run c (kk (tW wv b cc)) Q) :
    Cmp c k fw fs xs R y ⊢ Run c (Prog.lift (.load bW (Rect.unit (s := S3x704x3072) o S1x64x256.size h).toLoadRect hl) >>= kk) Q := by
  have ho' : o = ![k.val, b, cc] := by rw [ho, hwk]
  refine load_step c (S := (slotW k).view.set) (q := fullShare) (f := fw) (R := iprop(((slotS k).view.loc (c : Thread nD τ) ↦[(slotS k).view.set]{fullShare} fs)
    ∗ (bX.view.loc (c : Thread nD τ) ↦[Finset.univ]{fullShare} xs) ∗ (bY.view.loc (c : Thread nD τ) ↦[Finset.univ]{fullShare} y) ∗ R))
    (tile_sub_W k h (by rw [ho']; rfl)) .rfl .rfl ?_
  rw [tile_read_W k h ho', hwv]; exact H

/-- A load of a group's scales over a tile. -/
theorem load_s {w : BitVec 32} (hwk : w.toNat = k.val) (hsv : (slotS k).view.read (Elt F) fs = sv) {o : Fin 3 → ℕ}
    {h : ∀ a, o a + S1x1x256.size a ≤ S3x11x3072.size a}
    {hl : bS.view.LoadsAt (Rect.unit (s := S3x11x3072) o S1x1x256.size h).toLoadRect}
    {kk : (S1x1x256.Idx → Elt F .f32) → Prog (TpuEff nD τ sig (Elt F) Λ₀ .tc) α} {b cc : ℕ} (ho : o = ![w.toNat, b, cc])
    (H : Cmp c k fw fs xs R y ⊢ Run c (kk (tS sv b cc)) Q) :
    Cmp c k fw fs xs R y ⊢ Run c (Prog.lift (.load bS (Rect.unit (s := S3x11x3072) o S1x1x256.size h).toLoadRect hl) >>= kk) Q := by
  have ho' : o = ![k.val, b, cc] := by rw [ho, hwk]
  refine load_step c (S := (slotS k).view.set) (q := fullShare) (f := fs) (R := iprop(((slotW k).view.loc (c : Thread nD τ) ↦[(slotW k).view.set]{fullShare} fw)
    ∗ (bX.view.loc (c : Thread nD τ) ↦[Finset.univ]{fullShare} xs) ∗ (bY.view.loc (c : Thread nD τ) ↦[Finset.univ]{fullShare} y) ∗ R))
    (tile_sub_S k h (by rw [ho']; rfl)) ?_ ?_ ?_
  · unfold Cmp; iintro ⟨H1, H2, H3⟩; isplitl [H2]; · iexact H2
    isplitl [H1]; · iexact H1
    iexact H3
  · unfold Cmp; iintro ⟨H1, H2, H3⟩; isplitl [H2]; · iexact H2
    isplitl [H1]; · iexact H1
    iexact H3
  rw [tile_read_S k h ho', hsv]; exact H

/-- The load of the activations. -/
theorem load_x {h : ∀ a, (![0, 0] : Fin 2 → ℕ) a + S96x1408.size a ≤ S96x1408.size a}
    {hl : bX.view.LoadsAt (Rect.unit (s := S96x1408) ![0, 0] S96x1408.size h).toLoadRect}
    {kk : (S96x1408.Idx → Elt F .bf16) → Prog (TpuEff nD τ sig (Elt F) Λ₀ .tc) α}
    (H : Cmp c k fw fs xs R y ⊢ Run c (kk xs) Q) :
    Cmp c k fw fs xs R y ⊢ Run c (Prog.lift (.load bX (Rect.unit (s := S96x1408) ![0, 0] S96x1408.size h).toLoadRect hl) >>= kk) Q := by
  refine load_step c (S := Finset.univ) (q := fullShare) (f := xs) (R := iprop(((slotW k).view.loc (c : Thread nD τ) ↦[(slotW k).view.set]{fullShare} fw)
    ∗ ((slotS k).view.loc (c : Thread nD τ) ↦[(slotS k).view.set]{fullShare} fs)
    ∗ (bY.view.loc (c : Thread nD τ) ↦[Finset.univ]{fullShare} y) ∗ R)) (Finset.subset_univ _) ?_ ?_ ?_
  · unfold Cmp; iintro ⟨H1, H2, H3, H4⟩; isplitl [H3]; · iexact H3
    isplitl [H1]; · iexact H1
    isplitl [H2]; · iexact H2
    iexact H4
  · unfold Cmp; iintro ⟨H3, H1, H2, H4⟩; isplitl [H1]; · iexact H1
    isplitl [H2]; · iexact H2
    isplitl [H3]; · iexact H3
    iexact H4
  have e := Memref.readAt_unit_zero (Elt F) cc0_scratch2 (off := ![0, 0]) (by decide) h xs
  exact H.trans (Entails.of_eq (congrArg (fun v => Run c (kk v) Q) e.symm))

/-- The load of a column tile of the result, whose value nothing uses. -/
theorem load_y {o : Fin 2 → ℕ} {h : ∀ a, o a + S96x256.size a ≤ S96x3072.size a}
    {hl : bY.view.LoadsAt (Rect.unit (s := S96x3072) o S96x256.size h).toLoadRect}
    {kk : (S96x256.Idx → Elt F .f32) → Prog (TpuEff nD τ sig (Elt F) Λ₀ .tc) α}
    (H : ∀ v, Cmp c k fw fs xs R y ⊢ Run c (kk v) Q) :
    Cmp c k fw fs xs R y ⊢ Run c (Prog.lift (.load bY (Rect.unit (s := S96x3072) o S96x256.size h).toLoadRect hl) >>= kk) Q := by
  refine load_step c (S := Finset.univ) (q := fullShare) (f := y) (R := iprop(((slotW k).view.loc (c : Thread nD τ) ↦[(slotW k).view.set]{fullShare} fw)
    ∗ ((slotS k).view.loc (c : Thread nD τ) ↦[(slotS k).view.set]{fullShare} fs)
    ∗ (bX.view.loc (c : Thread nD τ) ↦[Finset.univ]{fullShare} xs) ∗ R)) (Finset.subset_univ _) ?_ ?_ (H _)
  · unfold Cmp; iintro ⟨H1, H2, H3, H4, H5⟩; isplitl [H4]; · iexact H4
    isplitl [H1]; · iexact H1
    isplitl [H2]; · iexact H2
    isplitl [H3]; · iexact H3
    iexact H5
  · unfold Cmp; iintro ⟨H4, H1, H2, H3, H5⟩; isplitl [H1]; · iexact H1
    isplitl [H2]; · iexact H2
    isplitl [H3]; · iexact H3
    isplitl [H4]; · iexact H4
    iexact H5

/-- The masked store of column tile `j`. -/
theorem store_y {lo hi : Elt F .i32} {y0 : S96x3072.Idx → Elt F .f32} {j : ℕ} {o : Fin 2 → ℕ}
    {h : ∀ a, o a + S96x256.size a ≤ S96x3072.size a} {pay : S96x256.Idx → Elt F .f32} {mask : IVec S96x256 1}
    {hx : (bY.access (Rect.unit (s := S96x3072) o S96x256.size h)).Stores (IVec.on mask)}
    {hm : IVec.on mask = Finset.univ ∨ ∀ a, (Rect.unit (s := S96x3072) o S96x256.size h).stride a = 1}
    {kk : PUnit → Prog (TpuEff nD τ sig (Elt F) Λ₀ .tc) α} (ho : o = ![0, 256 * j]) (hp : pay = tilePay wv sv xs (256 * j))
    (hmk : mask = k0_pay17 (k0_pay3 (F := F) lo hi))
    (H : Cmp c k fw fs xs R (yTo wv sv xs lo hi y0 (j + 1)) ⊢ Run c (kk ⟨⟩) Q) :
    Cmp c k fw fs xs R (yTo wv sv xs lo hi y0 j)
      ⊢ Run c (Prog.lift (.store bY (Rect.unit (s := S96x3072) o S96x256.size h) pay (IVec.on mask) hx hm) >>= kk) Q := by
  subst ho hp hmk
  refine store_step c (S := Finset.univ) (f := yTo wv sv xs lo hi y0 j) (R := iprop(((slotW k).view.loc (c : Thread nD τ) ↦[(slotW k).view.set]{fullShare} fw)
    ∗ ((slotS k).view.loc (c : Thread nD τ) ↦[(slotS k).view.set]{fullShare} fs)
    ∗ (bX.view.loc (c : Thread nD τ) ↦[Finset.univ]{fullShare} xs) ∗ R)) (Finset.subset_univ _) ?_ ?_ H
  · unfold Cmp; iintro ⟨H1, H2, H3, H4, H5⟩; isplitl [H4]; · iexact H4
    isplitl [H1]; · iexact H1
    isplitl [H2]; · iexact H2
    isplitl [H3]; · iexact H3
    iexact H5
  · rw [tile_write]
    unfold Cmp; iintro ⟨H4, H1, H2, H3, H5⟩; isplitl [H1]; · iexact H1
    isplitl [H2]; · iexact H2
    isplitl [H3]; · iexact H3
    isplitl [H4]; · iexact H4
    iexact H5

end

end Cert.KernelIdeal.Hand

end
-- ==== Proof.IRing.lean ====
/-
  The kernel's ring of copies: a slot idle or being filled, the start of a copy and the wait for it, and the
  reads of one word of scalar memory.
-/
module

public import proofs.«01_k».proof.Proof.ITrip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)

/-- A slot at rest: its elements, its cell at zero, and a share of the array its copies read. -/
def Idle {s : Shape} {e : EltTy} (cell : DmaSem sig) (dst : Memref sig .tc .vmem s e) (src : Memref sig .tc .hbm s e)
    (q : PosShare TreeShare) (g : Buf (Elt F) (src.view.loc (c : Thread nD τ))) : Asn F :=
  iprop((∃ f, (dst.view.loc (c : Thread nD τ) ↦[dst.view.set]{fullShare} f)) ∗ semVal ((c : Thread nD τ), SemLoc.dma cell) 0
    ∗ (src.view.loc (c : Thread nD τ) ↦[Finset.univ]{q} g))

/-- A slot being filled from `src`: the copy in flight, and the share of the rest of the array. -/
def Busy {s : Shape} {e : EltTy} (cell : DmaSem sig) (dst : Memref sig .tc .vmem s e) (src : Memref sig .tc .hbm s e)
    (q : PosShare TreeShare) (g : Buf (Elt F) (src.view.loc (c : Thread nD τ))) : Asn F :=
  iprop((∃ f, Transfers.Flight (countersEmb (U := Pipeline.UD sig nD τ)) (c : Thread nD τ) (SemLoc.dma cell) () dst.view.dmaCredit
      iprop((dst.view.loc (c : Thread nD τ) ↦[dst.view.set]{fullShare} (dst.view.write (Elt F) f (src.view.read (Elt F) g) Finset.univ))
        ∗ (src.view.loc (c : Thread nD τ) ↦[src.view.set]{q} g)))
    ∗ (src.view.loc (c : Thread nD τ) ↦[Finset.univ \ src.view.set]{q} g))

/-- The start of a slot's copy. -/
theorem start_slot {α : Type} {Q : α → Asn F} {P R : Asn F} {s : Shape} {e : EltTy} {cell : DmaSem sig} {dst : Memref sig .tc .vmem s e}
    {src : Memref sig .tc .hbm s e} {q : PosShare TreeShare} {g : Buf (Elt F) (src.view.loc (c : Thread nD τ))}
    {hsrc : src.view.WordExact} {hdst : dst.view.WordExact} {hsem : DmaTarget.Typed (nD := nD) (p := Proc.tc) .hbm (SemLoc.dma cell) (.here dst)}
    {k : PUnit → Prog (TpuEff nD τ sig (Elt F) Λ₀ .tc) α} (hN : 0 < dst.view.dmaCredit)
    (hP : P ⊢ iprop(Idle c cell dst src q g ∗ R)) (h : iprop(Busy c cell dst src q g ∗ R) ⊢ Run c (k ⟨⟩) Q) :
    P ⊢ Run c (Prog.lift (.enqueueDma src (.here dst) (SemLoc.dma cell) hsrc hdst hsem) >>= k) Q := by
  refine hP.trans ?_
  unfold Idle
  iintro ⟨⟨⟨%f, Hd⟩, Hc, Hs⟩, HR⟩
  ihave Hs := (pointsTo_split_subset (Finset.subset_univ src.view.set)).1 $$ Hs
  icases Hs with ⟨Hs, Ht⟩
  iapply (start_step c (P := iprop(((src.view.loc (c : Thread nD τ) ↦[src.view.set]{q} g) ∗ (dst.view.loc (c : Thread nD τ) ↦[dst.view.set]{fullShare} f)
      ∗ semVal ((c : Thread nD τ), SemLoc.dma cell) 0) ∗ ((src.view.loc (c : Thread nD τ) ↦[Finset.univ \ src.view.set]{q} g) ∗ R)))
    (dst.view.dmaCredit) rfl hN .rfl (h := by
      refine BIBase.Entails.trans ?_ h
      unfold Busy
      iintro ⟨Hf, Ht, HR⟩
      isplitr [HR]
      · isplitl [Hf]
        · iexists f; iexact Hf
        · iexact Ht
      · iexact HR))
  isplitl [Hs Hd Hc]
  · isplitl [Hs]; · iexact Hs
    isplitl [Hd]; · iexact Hd
    iexact Hc
  isplitl [Ht]; · iexact Ht
  iexact HR

/-- The wait for a slot's copy: the slot now reads what the source reads. -/
theorem wait_slot {α : Type} {Q : α → Asn F} {P R : Asn F} {s : Shape} {e : EltTy} {cell : DmaSem sig} {dst : Memref sig .tc .vmem s e}
    {src src' : Memref sig .tc .hbm s e} {q : PosShare TreeShare} {g : Buf (Elt F) (src.view.loc (c : Thread nD τ))}
    {hsrc : src'.view.WordExact} {hdst : dst.view.WordExact}
    {k : PUnit → Prog (TpuEff nD τ sig (Elt F) Λ₀ .tc) α}
    (hP : P ⊢ iprop(Busy c cell dst src q g ∗ waits c ∗ R))
    (h : ∀ f, dst.view.read (Elt F) f = src.view.read (Elt F) g →
      iprop(((dst.view.loc (c : Thread nD τ) ↦[dst.view.set]{fullShare} f) ∗ semVal ((c : Thread nD τ), SemLoc.dma cell) 0
        ∗ (src.view.loc (c : Thread nD τ) ↦[Finset.univ]{q} g)) ∗ waits c ∗ R) ⊢ Run c (k ⟨⟩) Q) :
    P ⊢ Run c (Prog.lift (.waitDma2 cell src' dst hsrc hdst) >>= k) Q := by
  refine hP.trans ?_
  have hj : iprop((src.view.loc (c : Thread nD τ) ↦[src.view.set]{q} g) ∗ (src.view.loc (c : Thread nD τ) ↦[Finset.univ \ src.view.set]{q} g))
      ⊢ (src.view.loc (c : Thread nD τ) ↦[Finset.univ]{q} g : Asn F) := (pointsTo_split_subset (Finset.subset_univ _)).2
  unfold Busy
  iintro ⟨⟨⟨%f, Hf⟩, Ht⟩, HW, HR⟩
  iapply (wait_step c (P := iprop(Transfers.Flight (countersEmb (U := Pipeline.UD sig nD τ)) (c : Thread nD τ) (SemLoc.dma cell) () dst.view.dmaCredit
      iprop((dst.view.loc (c : Thread nD τ) ↦[dst.view.set]{fullShare} (dst.view.write (Elt F) f (src.view.read (Elt F) g) Finset.univ))
        ∗ (src.view.loc (c : Thread nD τ) ↦[src.view.set]{q} g)) ∗ waits c ∗ ((src.view.loc (c : Thread nD τ) ↦[Finset.univ \ src.view.set]{q} g) ∗ R)))
    rfl .rfl (h := by
      refine BIBase.Entails.trans ?_ (h _ (View.read_write_univ f (src.view.read (Elt F) g)))
      iintro ⟨⟨Hd, Hs⟩, Hc, HW, Ht, HR⟩
      ihave Hs := hj $$ [Hs Ht]
      · isplitl [Hs]; · iexact Hs
        iexact Ht
      isplitl [Hd Hc Hs]
      · isplitl [Hd]; · iexact Hd
        isplitl [Hc]; · iexact Hc
        iexact Hs
      isplitl [HW]; · iexact HW
      iexact HR))
  isplitl [Hf]; · iexact Hf
  isplitl [HW]; · iexact HW
  isplitl [Ht]; · iexact Ht
  iexact HR

/-- The share of an array the copies into slot `k` read through. -/
abbrev tok (k : Fin 3) : PosShare TreeShare := Transfers.shareTok fullShare 3 k

/-- Slot `k` of both rings: at rest, or being filled with the `i`-th expert's weights and scales. -/
def Slot (gW : hbW.view.ty.Contents (Elt F)) (gS : hbS.view.ty.Contents (Elt F)) (L : ℕ → Fin 64) (k : Fin 3) : Option ℕ → Asn F
  | none => iprop(Idle c (cellW k) (slotW k) (expW 0) (tok k) gW ∗ Idle c (cellS k) (slotS k) (expS 0) (tok k) gS)
  | some i => iprop(Busy c (cellW k) (slotW k) (expW (L i)) (tok k) gW ∗ Busy c (cellS k) (slotS k) (expS (L i)) (tok k) gS)

theorem creditW (k : Fin 3) : 0 < (slotW k).view.dmaCredit := by
  fin_cases k <;> decide
theorem creditS (k : Fin 3) : 0 < (slotS k).view.dmaCredit := by
  fin_cases k <;> decide

section
variable {α : Type} {Q : α → Asn F} {P R : Asn F} {gW : hbW.view.ty.Contents (Elt F)} {gS : hbS.view.ty.Contents (Elt F)}

/-- The start of the copy of an expert's weights into slot `k`, at printed offsets. -/
theorem start_w (k : Fin 3) (e : Fin 64) {o1 : Fin 2 → ℕ} {o2 o3 : Fin 3 → ℕ} {h1 : ∀ a, o1 a + S1x1.size a ≤ S2x3.size a}
    {h2 : ∀ a, o2 a + S1x704x3072.size a ≤ S3x704x3072.size a} {h3 : ∀ a, o3 a + S1x704x3072.size a ≤ S64x704x3072.size a}
    {hsrc hdst hsem} {kk : PUnit → Prog (TpuEff nD τ sig (Elt F) Λ₀ .tc) α}
    (e1 : o1 = ![0, k.val]) (e2 : o2 = ![k.val, 0, 0]) (e3 : o3 = ![e.val, 0, 0])
    (hP : P ⊢ iprop(Idle c (cellW k) (slotW k) (expW 0) (tok k) gW ∗ R))
    (h : iprop(Busy c (cellW k) (slotW k) (expW e) (tok k) gW ∗ R) ⊢ Run c (kk ⟨⟩) Q) :
    P ⊢ Run c (Prog.lift (.enqueueDma ((hbW.slice (Rect.unit (s := S64x704x3072) o3 S1x704x3072.size h3) (fun _ => rfl)).squeeze S704x3072 squeezes_S1x704x3072_S704x3072)
      (.here ((bW.slice (Rect.unit (s := S3x704x3072) o2 S1x704x3072.size h2) (fun _ => rfl)).squeeze S704x3072 squeezes_S1x704x3072_S704x3072))
      (.dma ((cc0_scratch6.slice (Rect.unit (s := S2x3) o1 S1x1.size h1)).squeeze S_ squeezes_S1x1_S_).sem) hsrc hdst hsem) >>= kk) Q := by
  subst e1 e2 e3
  exact start_slot c (src := expW e) (dst := slotW k) (cell := cellW k) (q := tok k) (g := gW) (creditW k) hP h

/-- The start of the copy of an expert's scales into slot `k`, at printed offsets. -/
theorem start_s (k : Fin 3) (e : Fin 64) {o1 : Fin 2 → ℕ} {o2 o3 : Fin 3 → ℕ} {h1 : ∀ a, o1 a + S1x1.size a ≤ S2x3.size a}
    {h2 : ∀ a, o2 a + S1x11x3072.size a ≤ S3x11x3072.size a} {h3 : ∀ a, o3 a + S1x11x3072.size a ≤ S64x11x3072.size a}
    {hsrc hdst hsem} {kk : PUnit → Prog (TpuEff nD τ sig (Elt F) Λ₀ .tc) α}
    (e1 : o1 = ![1, k.val]) (e2 : o2 = ![k.val, 0, 0]) (e3 : o3 = ![e.val, 0, 0])
    (hP : P ⊢ iprop(Idle c (cellS k) (slotS k) (expS 0) (tok k) gS ∗ R))
    (h : iprop(Busy c (cellS k) (slotS k) (expS e) (tok k) gS ∗ R) ⊢ Run c (kk ⟨⟩) Q) :
    P ⊢ Run c (Prog.lift (.enqueueDma ((hbS.slice (Rect.unit (s := S64x11x3072) o3 S1x11x3072.size h3) (fun _ => rfl)).squeeze S11x3072 squeezes_S1x11x3072_S11x3072)
      (.here ((bS.slice (Rect.unit (s := S3x11x3072) o2 S1x11x3072.size h2) (fun _ => rfl)).squeeze S11x3072 squeezes_S1x11x3072_S11x3072))
      (.dma ((cc0_scratch6.slice (Rect.unit (s := S2x3) o1 S1x1.size h1)).squeeze S_ squeezes_S1x1_S_).sem) hsrc hdst hsem) >>= kk) Q := by
  subst e1 e2 e3
  exact start_slot c (src := expS e) (dst := slotS k) (cell := cellS k) (q := tok k) (g := gS) (creditS k) hP h

/-- The wait for the weights of slot `k`, at printed offsets. -/
theorem wait_w (k : Fin 3) (e : Fin 64) {o1 : Fin 2 → ℕ} {o2 : Fin 3 → ℕ} {h1 : ∀ a, o1 a + S1x1.size a ≤ S2x3.size a}
    {h2 : ∀ a, o2 a + S1x704x3072.size a ≤ S3x704x3072.size a} {src : Memref sig .tc .hbm S704x3072 .i8}
    {hsrc hdst} {kk : PUnit → Prog (TpuEff nD τ sig (Elt F) Λ₀ .tc) α}
    (e1 : o1 = ![0, k.val]) (e2 : o2 = ![k.val, 0, 0])
    (hP : P ⊢ iprop(Busy c (cellW k) (slotW k) (expW e) (tok k) gW ∗ waits c ∗ R))
    (h : ∀ f, (slotW k).view.read (Elt F) f = (expW e).view.read (Elt F) gW →
      iprop((((slotW k).view.loc (c : Thread nD τ) ↦[(slotW k).view.set]{fullShare} f) ∗ semVal ((c : Thread nD τ), SemLoc.dma (cellW k)) 0
        ∗ (hbW.view.loc (c : Thread nD τ) ↦[Finset.univ]{tok k} gW)) ∗ waits c ∗ R) ⊢ Run c (kk ⟨⟩) Q) :
    P ⊢ Run c (Prog.lift (.waitDma2 ((cc0_scratch6.slice (Rect.unit (s := S2x3) o1 S1x1.size h1)).squeeze S_ squeezes_S1x1_S_).sem src
      ((bW.slice (Rect.unit (s := S3x704x3072) o2 S1x704x3072.size h2) (fun _ => rfl)).squeeze S704x3072 squeezes_S1x704x3072_S704x3072) hsrc hdst) >>= kk) Q := by
  subst e1 e2
  exact wait_slot c (src := expW e) (dst := slotW k) (cell := cellW k) (q := tok k) (g := gW) hP h

/-- The wait for the scales of slot `k`, at printed offsets. -/
theorem wait_s (k : Fin 3) (e : Fin 64) {o1 : Fin 2 → ℕ} {o2 : Fin 3 → ℕ} {h1 : ∀ a, o1 a + S1x1.size a ≤ S2x3.size a}
    {h2 : ∀ a, o2 a + S1x11x3072.size a ≤ S3x11x3072.size a} {src : Memref sig .tc .hbm S11x3072 .f32}
    {hsrc hdst} {kk : PUnit → Prog (TpuEff nD τ sig (Elt F) Λ₀ .tc) α}
    (e1 : o1 = ![1, k.val]) (e2 : o2 = ![k.val, 0, 0])
    (hP : P ⊢ iprop(Busy c (cellS k) (slotS k) (expS e) (tok k) gS ∗ waits c ∗ R))
    (h : ∀ f, (slotS k).view.read (Elt F) f = (expS e).view.read (Elt F) gS →
      iprop((((slotS k).view.loc (c : Thread nD τ) ↦[(slotS k).view.set]{fullShare} f) ∗ semVal ((c : Thread nD τ), SemLoc.dma (cellS k)) 0
        ∗ (hbS.view.loc (c : Thread nD τ) ↦[Finset.univ]{tok k} gS)) ∗ waits c ∗ R) ⊢ Run c (kk ⟨⟩) Q) :
    P ⊢ Run c (Prog.lift (.waitDma2 ((cc0_scratch6.slice (Rect.unit (s := S2x3) o1 S1x1.size h1)).squeeze S_ squeezes_S1x1_S_).sem src
      ((bS.slice (Rect.unit (s := S3x11x3072) o2 S1x11x3072.size h2) (fun _ => rfl)).squeeze S11x3072 squeezes_S1x11x3072_S11x3072) hsrc hdst) >>= kk) Q := by
  subst e1 e2
  exact wait_slot c (src := expS e) (dst := slotS k) (cell := cellS k) (q := tok k) (g := gS) hP h

/-- A load of word `j` of the list of experts. -/
theorem word_l {f : S65.Idx → Elt F .i32} {o : Fin 1 → ℕ} {h : ∀ a, o a + S1.size a ≤ S65.size a} {h1 hp}
    {kk : Elt F .i32 → Prog (TpuEff nD τ sig (Elt F) Λ₀ .tc) α} (j : ℕ) (hj : j < 65) (ho : o 0 = j)
    (hP : P ⊢ iprop((bL.view.loc (c : Thread nD τ) ↦[Finset.univ]{fullShare} f) ∗ R))
    (hP' : iprop((bL.view.loc (c : Thread nD τ) ↦[Finset.univ]{fullShare} f) ∗ R) ⊢ P)
    (H : P ⊢ Run c (kk (f (ix1 ⟨j, hj⟩))) Q) :
    P ⊢ Run c (smemLoad bL (Rect.unit (s := S65) o S1.size h) h1 hp >>= kk) Q := by
  refine word_step c (S := Finset.univ) (q := fullShare) (f := f) (Finset.subset_univ _) hP hP' ?_
  have e : (bL.access (Rect.unit (s := S65) o S1.size h)).read (Elt F) f (Shape.Idx.first (h1.symm ▸ Nat.one_pos)) = f (ix1 ⟨j, hj⟩) := by
    show f _ = f _
    congr 1
    funext a
    refine Fin.ext ?_
    show ((Rect.unit (s := S65) o S1.size h).emb _ a).val = _
    rw [Rect.emb_apply]
    fin_cases a
    show o 0 + 1 * 0 = j
    omega
  exact H.trans (Entails.of_eq (congrArg (fun v => Run c (kk v) Q) e.symm))

/-- A load of word `j` of the list of first rows. -/
theorem word_a {f : S65.Idx → Elt F .i32} {o : Fin 1 → ℕ} {h : ∀ a, o a + S1.size a ≤ S65.size a} {h1 hp}
    {kk : Elt F .i32 → Prog (TpuEff nD τ sig (Elt F) Λ₀ .tc) α} (j : ℕ) (hj : j < 65) (ho : o 0 = j)
    (hP : P ⊢ iprop((bA.view.loc (c : Thread nD τ) ↦[Finset.univ]{fullShare} f) ∗ R))
    (hP' : iprop((bA.view.loc (c : Thread nD τ) ↦[Finset.univ]{fullShare} f) ∗ R) ⊢ P)
    (H : P ⊢ Run c (kk (f (ix1 ⟨j, hj⟩))) Q) :
    P ⊢ Run c (smemLoad bA (Rect.unit (s := S65) o S1.size h) h1 hp >>= kk) Q := by
  refine word_step c (S := Finset.univ) (q := fullShare) (f := f) (Finset.subset_univ _) hP hP' ?_
  have e : (bA.access (Rect.unit (s := S65) o S1.size h)).read (Elt F) f (Shape.Idx.first (h1.symm ▸ Nat.one_pos)) = f (ix1 ⟨j, hj⟩) := by
    show f _ = f _
    congr 1
    funext a
    refine Fin.ext ?_
    show ((Rect.unit (s := S65) o S1.size h).emb _ a).val = _
    rw [Rect.emb_apply]
    fin_cases a
    show o 0 + 1 * 0 = j
    omega
  exact H.trans (Entails.of_eq (congrArg (fun v => Run c (kk v) Q) e.symm))

end

end Cert.KernelIdeal.Hand

end
-- ==== Proof.IScan.lean ====
/-
  The kernel's first loop: the list of the experts that have rows, and where each one's rows start.
-/
module

public import proofs.«01_k».proof.Proof.IRing

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The lists as a function of the group sizes -/

/-- A list with its `n`-th entry replaced. -/
def put (f : S65.Idx → Elt F .i32) (n : ℕ) (x : BitVec 32) : S65.Idx → Elt F .i32 := fun i => if (i 0).val = n then x else f i

/-- The group sizes, by number. -/
def gsz (g : S64.Idx → Elt F .i32) (t : ℕ) : BitVec 32 := g (ix1 (Fin.ofNat 64 t))

/-- What the first loop has after `t` trips: how many experts have rows so far, the rows so far, the list of those
experts, and the list of the rows each one starts at. -/
def scan (g : S64.Idx → Elt F .i32) (fL fA : S65.Idx → Elt F .i32) :
    ℕ → (BitVec 32 × BitVec 32) × (S65.Idx → Elt F .i32) × (S65.Idx → Elt F .i32)
  | 0 => ((0#32, 0#32), fL, fA)
  | t + 1 =>
    ((Scalar.addi (scan g fL fA t).1.1 (Scalar.extui (Scalar.cmpi .sgt (gsz g t) 0#32)), Scalar.addi (scan g fL fA t).1.2 (gsz g t)),
      put (scan g fL fA t).2.1 (scan g fL fA t).1.1.toNat (Scf.iv 0#32 1#32 t),
      put (scan g fL fA t).2.2 (scan g fL fA t).1.1.toNat (scan g fL fA t).1.2)

/-- One comparison adds at most one to the count. -/
theorem count_step (n x : BitVec 32) (hn : n.toNat < 65) :
    (Scalar.addi n (Scalar.extui (Scalar.cmpi .sgt x 0#32)) : BitVec 32).toNat = n.toNat + if 0 < x.toInt then 1 else 0 := by
  have e : (Scalar.extui (Scalar.cmpi .sgt x 0#32) : BitVec 32) = if 0 < x.toInt then 1#32 else 0#32 := by
    by_cases h : 0 < x.toInt
    · rw [if_pos h]
      have : Scalar.cmpi .sgt x 0#32 = 1#1 := by
        show BitVec.ofBool _ = _
        rw [show ((0#32).slt x) = true by rw [BitVec.slt_eq_decide]; exact decide_eq_true h]; rfl
      rw [this]; rfl
    · rw [if_neg h]
      have : Scalar.cmpi .sgt x 0#32 = 0#1 := by
        show BitVec.ofBool _ = _
        rw [show ((0#32).slt x) = false by rw [BitVec.slt_eq_decide]; exact decide_eq_false h]; rfl
      rw [this]; rfl
  rw [e]
  show (n + _).toNat = _
  split <;> rw [BitVec.toNat_add] <;> simp <;> omega

/-- The count of experts never passes the trips made. -/
theorem scan_le (g : S64.Idx → Elt F .i32) (fL fA : S65.Idx → Elt F .i32) : ∀ t, t ≤ 64 → (scan g fL fA t).1.1.toNat ≤ t
  | 0, _ => le_refl _
  | t + 1, ht => by
    have h := scan_le g fL fA t (by omega)
    show (Scalar.addi _ _ : BitVec 32).toNat ≤ _
    rw [count_step _ _ (by omega)]
    split <;> omega

/-- Every listed expert is one of the trips made. -/
theorem scan_list (g : S64.Idx → Elt F .i32) (fL fA : S65.Idx → Elt F .i32) : ∀ t, t ≤ 64 → ∀ j (hj : j < 65),
    j < (scan g fL fA t).1.1.toNat → ∃ e : Fin 64, e.val < t ∧ (scan g fL fA t).2.1 (ix1 ⟨j, hj⟩) = BitVec.ofNat 32 e.val
  | 0, _, j, hj, h => by simp [scan] at h
  | t + 1, ht, j, hj, h => by
    have hle := scan_le g fL fA t (by omega)
    rw [show (scan g fL fA (t + 1)).1.1 = Scalar.addi (scan g fL fA t).1.1 (Scalar.extui (Scalar.cmpi .sgt (gsz g t) 0#32)) from rfl,
      count_step _ _ (by omega)] at h
    show ∃ e : Fin 64, _ ∧ put _ _ _ _ = _
    unfold put
    by_cases hh : j = (scan g fL fA t).1.1.toNat
    · refine ⟨⟨t, by omega⟩, by simp, (if_pos hh).trans ?_⟩
      apply BitVec.eq_of_toNat_eq
      rw [iv_toNat (by omega), BitVec.toNat_ofNat]; simp; omega
    · obtain ⟨e, h1, h2⟩ := scan_list g fL fA t (by omega) j hj (by split at h <;> omega)
      exact ⟨e, by omega, (if_neg hh).trans h2⟩

/-- The listed experts. -/
def listed (g : S64.Idx → Elt F .i32) (fL fA : S65.Idx → Elt F .i32) (j : ℕ) : Fin 64 :=
  Fin.ofNat 64 ((scan g fL fA 64).2.1 (ix1 (Fin.ofNat 65 j)) : BitVec 32).toNat

theorem scan_listed (g : S64.Idx → Elt F .i32) (fL fA : S65.Idx → Elt F .i32) (j : ℕ) (hj : j < 65) (h : j < (scan g fL fA 64).1.1.toNat) :
    (scan g fL fA 64).2.1 (ix1 ⟨j, hj⟩) = BitVec.ofNat 32 (listed g fL fA j).val := by
  obtain ⟨e, h1, h2⟩ := scan_list g fL fA 64 (le_refl _) j hj h
  have e1 : (Fin.ofNat 65 j : Fin 65) = ⟨j, hj⟩ := Fin.ext (Nat.mod_eq_of_lt hj)
  unfold listed
  rw [e1, h2]
  show _ = BitVec.ofNat 32 ((BitVec.ofNat 32 e.val).toNat % 64)
  have := e.isLt
  rw [BitVec.toNat_ofNat, Nat.mod_eq_of_lt (show e.val < 2 ^ 32 by omega), Nat.mod_eq_of_lt this]

/-! ## Words of the lists -/

variable (c : Dev nD)

/-- The store of one word into the list of experts. -/
theorem put_write_l (f : bL.view.ty.Contents (Elt F)) (x : BitVec 32) {o : Fin 1 → ℕ} (h : ∀ a, o a + S1.size a ≤ S65.size a) (j : ℕ) (ho : o 0 = j) :
    (bL.access (Rect.unit (s := S65) o S1.size h)).write (Elt F) f (fun _ => x) Finset.univ = put f j x := by
  funext i
  unfold put
  by_cases hr : (i 0).val = j
  · have hi : i = (bL.access (Rect.unit (s := S65) o S1.size h)).emb (ix1 (0 : Fin 1)) := by
      show i = (Rect.unit (s := S65) o S1.size h).emb _
      funext a
      refine Fin.ext ?_
      rw [Rect.emb_apply]
      fin_cases a
      show (i 0).val = o 0 + 1 * 0; omega
    rw [if_pos hr]
    conv_lhs => rw [hi]
    rw [View.write_emb]
    exact if_pos (Finset.mem_univ _)
  · rw [View.write_of_not_mem, if_neg hr]
    intro hi
    obtain ⟨y, hy, rfl⟩ := Finset.mem_map.mp hi
    apply hr
    show ((Rect.unit (s := S65) o S1.size h).emb y 0).val = _
    rw [Rect.emb_apply]
    have : (y 0).val < 1 := (y 0).isLt
    show o 0 + 1 * (y 0).val = _
    omega

/-- The store of one word into the list of starts. -/
theorem put_write_a (f : bA.view.ty.Contents (Elt F)) (x : BitVec 32) {o : Fin 1 → ℕ} (h : ∀ a, o a + S1.size a ≤ S65.size a) (j : ℕ) (ho : o 0 = j) :
    (bA.access (Rect.unit (s := S65) o S1.size h)).write (Elt F) f (fun _ => x) Finset.univ = put f j x := put_write_l f x h j ho

section
variable {α : Type} {Q : α → Asn F} {P P' R : Asn F}

/-- What holds under a fact is met with the fact in hand. -/
theorem fact_step {φ : Prop} (h : φ → R ⊢ P) : iprop(⌜φ⌝ ∗ R) ⊢ P := by
  iintro ⟨%hφ, HR⟩
  iapply (h hφ)
  iexact HR

/-- A loop, by what holds before each trip. -/
theorem loop_step {σ : Type} {lb ub st : BitVec 32} {hok : Scf.OK lb ub st} {init : σ}
    {body : Fin (Scf.trips lb ub st) → σ → Prog (TpuEff nD τ sig (Elt F) Λ₀ .tc) σ} {kk : σ → Prog (TpuEff nD τ sig (Elt F) Λ₀ .tc) α}
    (I : ℕ → σ → Asn F) (hbody : ∀ (k : Fin (Scf.trips lb ub st)) (acc : σ), I k.val acc ⊢ Run c (body k acc) (I (k.val + 1)))
    (hP : P ⊢ I 0 init) (H : ∀ acc, I (Scf.trips lb ub st) acc ⊢ Run c (kk acc) Q) :
    P ⊢ Run c (Scf.for lb ub st hok init body >>= kk) Q := by
  refine hP.trans ?_
  iintro HI
  iapply (Scf.wp_for_bind frame (wpE (defs₀ (F := F)) Variants.none (c : Thread nD τ) none) Set.univ lb ub st hok init body I hbody) $$ HI
  iintro %acc HI
  iapply (H acc)
  iexact HI

theorem store_l {f : S65.Idx → Elt F .i32} {o : Fin 1 → ℕ} {h : ∀ a, o a + S1.size a ≤ S65.size a} {x : BitVec 32} {hx hm}
    {kk : PUnit → Prog (TpuEff nD τ sig (Elt F) Λ₀ .tc) α} (j : ℕ) (ho : o 0 = j)
    (hP : P ⊢ iprop((bL.view.loc (c : Thread nD τ) ↦[Finset.univ]{fullShare} f) ∗ R))
    (hP' : iprop((bL.view.loc (c : Thread nD τ) ↦[Finset.univ]{fullShare} (put f j x)) ∗ R) ⊢ P')
    (H : P' ⊢ Run c (kk ⟨⟩) Q) :
    P ⊢ Run c (Prog.lift (.store bL (Rect.unit (s := S65) o S1.size h) (fun _ => x) Finset.univ hx hm) >>= kk) Q := by
  refine store_step c (S := Finset.univ) (f := f) (P' := P') (R := R) (Finset.subset_univ _) hP ?_ H
  refine BIBase.Entails.trans (Entails.of_eq ?_) hP'
  exact congrArg (fun z => iprop((bL.view.loc (c : Thread nD τ) ↦[Finset.univ]{fullShare} z) ∗ R)) (put_write_l f x h j ho)

theorem store_a {f : S65.Idx → Elt F .i32} {o : Fin 1 → ℕ} {h : ∀ a, o a + S1.size a ≤ S65.size a} {x : BitVec 32} {hx hm}
    {kk : PUnit → Prog (TpuEff nD τ sig (Elt F) Λ₀ .tc) α} (j : ℕ) (ho : o 0 = j)
    (hP : P ⊢ iprop((bA.view.loc (c : Thread nD τ) ↦[Finset.univ]{fullShare} f) ∗ R))
    (hP' : iprop((bA.view.loc (c : Thread nD τ) ↦[Finset.univ]{fullShare} (put f j x)) ∗ R) ⊢ P')
    (H : P' ⊢ Run c (kk ⟨⟩) Q) :
    P ⊢ Run c (Prog.lift (.store bA (Rect.unit (s := S65) o S1.size h) (fun _ => x) Finset.univ hx hm) >>= kk) Q := by
  refine store_step c (S := Finset.univ) (f := f) (P' := P') (R := R) (Finset.subset_univ _) hP ?_ H
  refine BIBase.Entails.trans (Entails.of_eq ?_) hP'
  exact congrArg (fun z => iprop((bA.view.loc (c : Thread nD τ) ↦[Finset.univ]{fullShare} z) ∗ R)) (put_write_a f x h j ho)

end

/-! ## The loop -/

/-- What the first loop holds: the group sizes, the two lists, and whatever else. -/
def Lists (arg0 : Memref sig .tc .smem S64 .i32) (q0 : PosShare TreeShare) (f0 : Buf (Elt F) (arg0.view.loc (c : Thread nD τ))) (R : Asn F)
    (fL fA : S65.Idx → Elt F .i32) : Asn F :=
  iprop((arg0.view.loc (c : Thread nD τ) ↦[Finset.univ]{q0} f0) ∗ (bL.view.loc (c : Thread nD τ) ↦[Finset.univ]{fullShare} fL)
    ∗ (bA.view.loc (c : Thread nD τ) ↦[Finset.univ]{fullShare} fA) ∗ R)

variable (arg0 : Memref sig .tc .smem S64 .i32) (harg0 : arg0.IsWhole) (arg1 : Memref sig .tc .vmem S96x1408 .bf16) (harg1 : arg1.IsWhole)
  (harg2 : hbW.IsWhole) (harg3 : hbS.IsWhole) (arg4 : Memref sig .tc .vmem S96x3072 .bf16) (harg4 : arg4.IsWhole)
  (harg5 : bW.IsWhole) (harg6 : bS.IsWhole) (harg7 : bX.IsWhole) (harg8 : bY.IsWhole) (harg9 : bL.IsWhole) (harg10 : bA.IsWhole)

/-- One trip of the first loop. -/
theorem scan_trip (q0 : PosShare TreeShare) (f0 : Buf (Elt F) (arg0.view.loc (c : Thread nD τ))) (R : Asn F) (gL gA : S65.Idx → Elt F .i32)
    (k : Fin k0_t1_loop.trips) (acc : BitVec 32 × BitVec 32) :
    iprop(⌜acc = (scan (arg0.view.read (Elt F) f0) gL gA k.val).1⌝ ∗ Lists c arg0 q0 f0 R (scan (arg0.view.read (Elt F) f0) gL gA k.val).2.1 (scan (arg0.view.read (Elt F) f0) gL gA k.val).2.2)
      ⊢ Run c (k0_t1_body arg0 harg0 arg1 harg1 hbW harg2 hbS harg3 arg4 harg4 bW harg5 bS harg6 bX harg7 bY harg8 bL harg9 bA harg10 cc0_scratch6 k acc)
        (fun acc' => iprop(⌜acc' = (scan (arg0.view.read (Elt F) f0) gL gA (k.val + 1)).1⌝
          ∗ Lists c arg0 q0 f0 R (scan (arg0.view.read (Elt F) f0) gL gA (k.val + 1)).2.1 (scan (arg0.view.read (Elt F) f0) gL gA (k.val + 1)).2.2)) := by
  have hk : k.val < 64 := k.isLt
  have hle := scan_le (arg0.view.read (Elt F) f0) gL gA k.val (by omega)
  refine fact_step fun hacc => ?_
  obtain ⟨n, row⟩ := acc
  have h1 : n = (scan (arg0.view.read (Elt F) f0) gL gA k.val).1.1 := congrArg Prod.fst hacc
  have h2 : row = (scan (arg0.view.read (Elt F) f0) gL gA k.val).1.2 := congrArg Prod.snd hacc
  have hn : scan (arg0.view.read (Elt F) f0) gL gA (k.val + 1) = ((Scalar.addi (scan (arg0.view.read (Elt F) f0) gL gA k.val).1.1 (Scalar.extui (Scalar.cmpi .sgt (gsz (arg0.view.read (Elt F) f0) k.val) 0#32)), Scalar.addi (scan (arg0.view.read (Elt F) f0) gL gA k.val).1.2 (gsz (arg0.view.read (Elt F) f0) k.val)),
      put (scan (arg0.view.read (Elt F) f0) gL gA k.val).2.1 (scan (arg0.view.read (Elt F) f0) gL gA k.val).1.1.toNat (Scf.iv 0#32 1#32 k.val),
      put (scan (arg0.view.read (Elt F) f0) gL gA k.val).2.2 (scan (arg0.view.read (Elt F) f0) gL gA k.val).1.1.toNat (scan (arg0.view.read (Elt F) f0) gL gA k.val).1.2) := rfl
  rw [hn]
  clear hn
  generalize hs : scan (arg0.view.read (Elt F) f0) gL gA k.val = s at *
  unfold k0_t1_body
  refine assume_step c (chk1 (by rw [h1]; omega)) ?_
  refine word_step c (m := arg0) (S := Finset.univ) (q := q0) (f := f0) (R := iprop((bL.view.loc (c : Thread nD τ) ↦[Finset.univ]{fullShare} s.2.1)
    ∗ (bA.view.loc (c : Thread nD τ) ↦[Finset.univ]{fullShare} s.2.2) ∗ R)) (Finset.subset_univ _) .rfl .rfl ?_
  have e : ∀ h1, (arg0.access (Rect.unit (s := S64) (k0_off1 k) S1.size (k0_off1_inb k))).read (Elt F) f0 (Shape.Idx.first h1)
      = gsz (arg0.view.read (Elt F) f0) k.val := by
    intro h1
    show arg0.view.read (Elt F) f0 ((Rect.unit (s := S64) (k0_off1 k) S1.size (k0_off1_inb k)).emb _) = arg0.view.read (Elt F) f0 _
    congr 1
    funext a
    refine Fin.ext ?_
    rw [Rect.emb_apply]
    fin_cases a
    show (Scf.iv 0#32 1#32 k.val).toNat + 1 * 0 = k.val % 64
    rw [iv_toNat (by omega)]; omega
  rw [e]
  refine word_step c (m := bL) (S := Finset.univ) (q := fullShare) (f := s.2.1) (R := iprop((arg0.view.loc (c : Thread nD τ) ↦[Finset.univ]{q0} f0)
    ∗ (bA.view.loc (c : Thread nD τ) ↦[Finset.univ]{fullShare} s.2.2) ∗ R)) (Finset.subset_univ _) ?_ ?_ ?_
  · unfold Lists; iintro ⟨H0, HL, H⟩; isplitl [HL]; · iexact HL
    isplitl [H0]; · iexact H0
    iexact H
  · unfold Lists; iintro ⟨HL, H0, H⟩; isplitl [H0]; · iexact H0
    isplitl [HL]; · iexact HL
    iexact H
  refine store_l c (f := s.2.1) (P' := Lists c arg0 q0 f0 R (put s.2.1 s.1.1.toNat (Scf.iv 0#32 1#32 k.val)) s.2.2) (R := iprop((arg0.view.loc (c : Thread nD τ) ↦[Finset.univ]{q0} f0)
    ∗ (bA.view.loc (c : Thread nD τ) ↦[Finset.univ]{fullShare} s.2.2) ∗ R)) s.1.1.toNat (by rw [← h1]; rfl) ?_ ?_ ?_
  · unfold Lists; iintro ⟨H0, HL, H⟩; isplitl [HL]; · iexact HL
    isplitl [H0]; · iexact H0
    iexact H
  · unfold Lists; iintro ⟨HL, H0, H⟩; isplitl [H0]; · iexact H0
    isplitl [HL]; · iexact HL
    iexact H
  generalize put s.2.1 s.1.1.toNat (Scf.iv 0#32 1#32 k.val) = fL
  refine word_step c (m := bA) (S := Finset.univ) (q := fullShare) (f := s.2.2) (R := iprop((arg0.view.loc (c : Thread nD τ) ↦[Finset.univ]{q0} f0)
    ∗ (bL.view.loc (c : Thread nD τ) ↦[Finset.univ]{fullShare} fL) ∗ R)) (Finset.subset_univ _) ?_ ?_ ?_
  · unfold Lists; iintro ⟨H0, HL, HA, H⟩; isplitl [HA]; · iexact HA
    isplitl [H0]; · iexact H0
    isplitl [HL]; · iexact HL
    iexact H
  · unfold Lists; iintro ⟨HA, H0, HL, H⟩; isplitl [H0]; · iexact H0
    isplitl [HL]; · iexact HL
    isplitl [HA]; · iexact HA
    iexact H
  refine store_a c (f := s.2.2) (P' := Lists c arg0 q0 f0 R fL (put s.2.2 s.1.1.toNat s.1.2)) (R := iprop((arg0.view.loc (c : Thread nD τ) ↦[Finset.univ]{q0} f0)
    ∗ (bL.view.loc (c : Thread nD τ) ↦[Finset.univ]{fullShare} fL) ∗ R)) s.1.1.toNat (by rw [← h1]; rfl) ?_ ?_ ?_
  · unfold Lists; iintro ⟨H0, HL, HA, H⟩; isplitl [HA]; · iexact HA
    isplitl [H0]; · iexact H0
    isplitl [HL]; · iexact HL
    iexact H
  · unfold Lists; rw [h2]; iintro ⟨HA, H0, HL, H⟩; isplitl [H0]; · iexact H0
    isplitl [HL]; · iexact HL
    isplitl [HA]; · iexact HA
    iexact H
  refine pure_step c ?_
  iintro H
  isplitr
  · ipureintro
    rw [h1, h2]
  · iexact H

end Cert.KernelIdeal.Hand

end
-- ==== Proof.IQuant.lean ====
/-
  The quantised activations: what the kernel stores for one group of 128 columns, whichever group it is.
-/
module

public import proofs.«01_k».proof.Proof.IScan

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What is stored for a group of 128 columns. -/
def qz (v : Vec F S96x128 .bf16) : FVec F S96x128 .bf16 :=
  k0_pay363 (k0_pay362 (k0_pay354 v) (k0_pay355 v)
    (k0_pay359 (k0_pay355 v) (k0_pay356 v) (k0_pay357 v) k0_pay358) (k0_pay360 (k0_pay355 v) (k0_pay356 v) (k0_pay357 v) k0_pay358) k0_pay361)

/-- The group of 128 columns from column `cc` on. -/
def tX (x : S96x1408.Idx → Elt F .bf16) (cc : ℕ) : Vec F S96x128 .bf16 := fun i => x (ix2 (i 0) (Fin.ofNat 1408 (cc + (i 1).val)))

/-- The activations with the group of 128 columns from `cc` on replaced. -/
def xPut (cc : ℕ) (p : FVec F S96x128 .bf16) (X : Vec F S96x1408 .bf16) : Vec F S96x1408 .bf16 :=
  fun i => if cc ≤ (i 1).val ∧ (i 1).val < cc + 128 then p (ix2 (i 0) (Fin.ofNat 128 ((i 1).val - cc))) else X i

/-- The activations after `g` groups are quantised. -/
def xTo (x : S96x1408.Idx → Elt F .bf16) (X : Vec F S96x1408 .bf16) : ℕ → Vec F S96x1408 .bf16
  | 0 => X
  | g + 1 => xPut (128 * g) (qz (tX x (128 * g))) (xTo x X g)

/-- The activations quantised. -/
def quant (x : S96x1408.Idx → Elt F .bf16) : Vec F S96x1408 .bf16 :=
  fun i => qz (tX x (128 * ((i 1).val / 128))) (ix2 (i 0) (Fin.ofNat 128 ((i 1).val % 128)))

/-- After `g` groups the columns of those groups are quantised, -/
theorem xTo_lt (x : S96x1408.Idx → Elt F .bf16) (X : Vec F S96x1408 .bf16) (i : S96x1408.Idx) :
    ∀ g, (i 1).val < 128 * g → xTo x X g i = quant x i
  | 0, h => absurd h (by omega)
  | g + 1, h => by
    show xPut _ _ _ i = _
    unfold xPut
    by_cases hh : 128 * g ≤ (i 1).val ∧ (i 1).val < 128 * g + 128
    · rw [if_pos hh]
      unfold quant
      rw [show (i 1).val / 128 = g by omega, show (i 1).val - 128 * g = (i 1).val % 128 by omega]
    · rw [if_neg hh]; exact xTo_lt x X i g (by omega)

/-- and after eleven all are. -/
theorem xTo_all (x : S96x1408.Idx → Elt F .bf16) (X : Vec F S96x1408 .bf16) : xTo x X 11 = quant x :=
  funext fun i => xTo_lt x X i 11 (i 1).isLt

/-- What a load of one group of columns reads. -/
theorem read_X (arg1 : Memref sig .tc .vmem S96x1408 .bf16) (cc : ℕ) (h : ∀ a, (![0, cc] : Fin 2 → ℕ) a + S96x128.size a ≤ S96x1408.size a)
    (f : arg1.view.ty.Contents (Elt F)) :
    arg1.view.readAt (Elt F) (Rect.unit (s := S96x1408) ![0, cc] S96x128.size h).toLoadRect f = tX (arg1.view.read (Elt F) f) cc := by
  funext i
  show arg1.view.read (Elt F) f ((Rect.unit (s := S96x1408) ![0, cc] S96x128.size h).emb i) = arg1.view.read (Elt F) f _
  congr 1
  funext a
  refine Fin.ext ?_
  rw [Rect.emb_apply]
  have hc : cc + 128 ≤ 1408 := h 1
  have h1 : (i 1).val < 128 := (i 1).isLt
  fin_cases a
  · show 0 + 1 * (i 0).val = (i 0).val; omega
  · show cc + 1 * (i 1).val = (cc + (i 1).val) % 1408
    rw [Nat.mod_eq_of_lt (by omega)]; omega

/-- What the store of one group of columns leaves. -/
theorem write_X (cc : ℕ) (h : ∀ a, (![0, cc] : Fin 2 → ℕ) a + S96x128.size a ≤ S96x1408.size a) (f : bX.view.ty.Contents (Elt F))
    (p : FVec F S96x128 .bf16) :
    (bX.access (Rect.unit (s := S96x1408) ![0, cc] S96x128.size h)).write (Elt F) f p Finset.univ = xPut cc p f := by
  funext i
  have hc : cc + 128 ≤ 1408 := h 1
  unfold xPut
  by_cases hr : cc ≤ (i 1).val ∧ (i 1).val < cc + 128
  · have hi : i = (bX.access (Rect.unit (s := S96x1408) ![0, cc] S96x128.size h)).emb (ix2 (i 0) (Fin.ofNat 128 ((i 1).val - cc))) := by
      show i = (Rect.unit (s := S96x1408) ![0, cc] S96x128.size h).emb _
      funext a
      refine Fin.ext ?_
      rw [Rect.emb_apply]
      fin_cases a
      · show (i 0).val = 0 + 1 * (i 0).val; omega
      · show (i 1).val = cc + 1 * (((i 1).val - cc) % 128); rw [Nat.mod_eq_of_lt (by omega)]; omega
    rw [if_pos hr]
    conv_lhs => rw [hi]
    rw [View.write_emb]
    exact if_pos (Finset.mem_univ _)
  · rw [View.write_of_not_mem, if_neg hr]
    intro hi
    obtain ⟨y, hy, rfl⟩ := Finset.mem_map.mp hi
    apply hr
    have e : (((bX.access (Rect.unit (s := S96x1408) ![0, cc] S96x128.size h)).emb y) 1).val = cc + (y 1).val := by
      show ((Rect.unit (s := S96x1408) ![0, cc] S96x128.size h).emb y 1).val = _
      rw [Rect.emb_apply]
      show cc + 1 * (y 1).val = _
      omega
    rw [e]
    have : (y 1).val < 128 := (y 1).isLt
    omega

variable (c : Dev nD)

/-- While the activations are quantised: the activations given, those quantised, and whatever else. -/
def Act (arg1 : Memref sig .tc .vmem S96x1408 .bf16) (q1 : PosShare TreeShare) (f1 : Buf (Elt F) (arg1.view.loc (c : Thread nD τ))) (R : Asn F)
    (X : Vec F S96x1408 .bf16) : Asn F :=
  iprop((arg1.view.loc (c : Thread nD τ) ↦[Finset.univ]{q1} f1) ∗ (bX.view.loc (c : Thread nD τ) ↦[Finset.univ]{fullShare} X) ∗ R)

section
variable {α : Type} {Q : α → Asn F} {R : Asn F} {arg1 : Memref sig .tc .vmem S96x1408 .bf16} {q1 : PosShare TreeShare}
  {f1 : Buf (Elt F) (arg1.view.loc (c : Thread nD τ))} {X : Vec F S96x1408 .bf16}

theorem load_1 {cc : ℕ} {h : ∀ a, (![0, cc] : Fin 2 → ℕ) a + S96x128.size a ≤ S96x1408.size a}
    {hl : arg1.view.LoadsAt (Rect.unit (s := S96x1408) ![0, cc] S96x128.size h).toLoadRect}
    {kk : (S96x128.Idx → Elt F .bf16) → Prog (TpuEff nD τ sig (Elt F) Λ₀ .tc) α}
    (H : Act c arg1 q1 f1 R X ⊢ Run c (kk (tX (arg1.view.read (Elt F) f1) cc)) Q) :
    Act c arg1 q1 f1 R X ⊢ Run c (Prog.lift (.load arg1 (Rect.unit (s := S96x1408) ![0, cc] S96x128.size h).toLoadRect hl) >>= kk) Q := by
  refine load_step c (S := Finset.univ) (q := q1) (f := f1) (R := iprop((bX.view.loc (c : Thread nD τ) ↦[Finset.univ]{fullShare} X) ∗ R))
    (Finset.subset_univ _) .rfl .rfl ?_
  exact H.trans (Entails.of_eq (congrArg (fun v => Run c (kk v) Q) (read_X arg1 cc h f1).symm))

theorem load_7 {cc : ℕ} {h : ∀ a, (![0, cc] : Fin 2 → ℕ) a + S96x128.size a ≤ S96x1408.size a}
    {hl : bX.view.LoadsAt (Rect.unit (s := S96x1408) ![0, cc] S96x128.size h).toLoadRect}
    {kk : (S96x128.Idx → Elt F .bf16) → Prog (TpuEff nD τ sig (Elt F) Λ₀ .tc) α}
    (H : ∀ v, Act c arg1 q1 f1 R X ⊢ Run c (kk v) Q) :
    Act c arg1 q1 f1 R X ⊢ Run c (Prog.lift (.load bX (Rect.unit (s := S96x1408) ![0, cc] S96x128.size h).toLoadRect hl) >>= kk) Q := by
  refine load_step c (S := Finset.univ) (q := fullShare) (f := X) (R := iprop((arg1.view.loc (c : Thread nD τ) ↦[Finset.univ]{q1} f1) ∗ R))
    (Finset.subset_univ _) ?_ ?_ (H _)
  · unfold Act; iintro ⟨H1, H2, H3⟩; isplitl [H2]; · iexact H2
    isplitl [H1]; · iexact H1
    iexact H3
  · unfold Act; iintro ⟨H2, H1, H3⟩; isplitl [H1]; · iexact H1
    isplitl [H2]; · iexact H2
    iexact H3

theorem store_7 (g : ℕ) {cc : ℕ} {h : ∀ a, (![0, cc] : Fin 2 → ℕ) a + S96x128.size a ≤ S96x1408.size a} {p : FVec F S96x128 .bf16} {hx hm}
    {kk : PUnit → Prog (TpuEff nD τ sig (Elt F) Λ₀ .tc) α} (hcc : cc = 128 * g) (hp : p = qz (tX (arg1.view.read (Elt F) f1) cc))
    (H : Act c arg1 q1 f1 R (xTo (arg1.view.read (Elt F) f1) X (g + 1)) ⊢ Run c (kk ⟨⟩) Q) :
    Act c arg1 q1 f1 R (xTo (arg1.view.read (Elt F) f1) X g)
      ⊢ Run c (Prog.lift (.store bX (Rect.unit (s := S96x1408) ![0, cc] S96x128.size h) p Finset.univ hx hm) >>= kk) Q := by
  subst hp hcc
  refine store_step c (S := Finset.univ) (f := xTo (arg1.view.read (Elt F) f1) X g) (P' := Act c arg1 q1 f1 R (xTo (arg1.view.read (Elt F) f1) X (g + 1)))
    (R := iprop((arg1.view.loc (c : Thread nD τ) ↦[Finset.univ]{q1} f1) ∗ R)) (Finset.subset_univ _) ?_ ?_ H
  · unfold Act; iintro ⟨H1, H2, H3⟩; isplitl [H2]; · iexact H2
    isplitl [H1]; · iexact H1
    iexact H3
  · rw [write_X]
    unfold Act; iintro ⟨H2, H1, H3⟩; isplitl [H1]; · iexact H1
    isplitl [H2]; · iexact H2
    iexact H3

end

end Cert.KernelIdeal.Hand

end
-- ==== Proof.IPre.lean ====
/-
  The start of the kernel: the lists built, the first three experts' copies started, the first group of columns read.
-/
module

public import proofs.«01_k».proof.Proof.IQuant

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Whether there is a first expert. -/
theorem cond1_lt {v : BitVec 32} (hv : v.toNat ≤ 64) : k0_cond1 v = 1#1 ↔ 0 < v.toNat := by
  have key : (0#32).slt v = decide (0 < v.toNat) := by
    rw [BitVec.slt_eq_decide, BitVec.toInt_eq_toNat_of_lt (x := 0#32) (by decide), BitVec.toInt_eq_toNat_of_lt (by omega)]
    simp
  show IntOp.cmpi .ne ((BitVec.ofBool ((0#32).slt v)).setWidth 32) 0#32 = 1#1 ↔ _
  rw [key]
  by_cases h : 0 < v.toNat
  · simp only [h, decide_true, iff_true]; decide
  · simp only [h, decide_false, iff_false]; decide

/-- Whether there is a second expert. -/
theorem cond2_lt {v : BitVec 32} (hv : v.toNat ≤ 64) : k0_cond2 v = 1#1 ↔ 1 < v.toNat := by
  have key : (1#32).slt v = decide (1 < v.toNat) := by
    rw [BitVec.slt_eq_decide, BitVec.toInt_eq_toNat_of_lt (x := 1#32) (by decide), BitVec.toInt_eq_toNat_of_lt (by omega)]
    simp
  show IntOp.cmpi .ne ((BitVec.ofBool ((1#32).slt v)).setWidth 32) 0#32 = 1#1 ↔ _
  rw [key]
  by_cases h : 1 < v.toNat
  · simp only [h, decide_true, iff_true]; decide
  · simp only [h, decide_false, iff_false]; decide

/-- Whether there is a third expert. -/
theorem cond3_lt {v : BitVec 32} (hv : v.toNat ≤ 64) : k0_cond3 v = 1#1 ↔ 2 < v.toNat := by
  have key : (2#32).slt v = decide (2 < v.toNat) := by
    rw [BitVec.slt_eq_decide, BitVec.toInt_eq_toNat_of_lt (x := 2#32) (by decide), BitVec.toInt_eq_toNat_of_lt (by omega)]
    simp
  show IntOp.cmpi .ne ((BitVec.ofBool ((2#32).slt v)).setWidth 32) 0#32 = 1#1 ↔ _
  rw [key]
  by_cases h : 2 < v.toNat
  · simp only [h, decide_true, iff_true]; decide
  · simp only [h, decide_false, iff_false]; decide

variable (c : Dev nD)

/-- The next expert's weights and scales started into the slot that is theirs. -/
theorem start_both {α : Type} {Q : α → Asn F} {P R : Asn F} {gW : hbW.view.ty.Contents (Elt F)} {gS : hbS.view.ty.Contents (Elt F)} {L : ℕ → Fin 64}
    (j : ℕ) (hj : j < 3) {o1 o4 : Fin 2 → ℕ} {o2 o3 o5 o6 : Fin 3 → ℕ} {h1 : ∀ a, o1 a + S1x1.size a ≤ S2x3.size a}
    {h2 : ∀ a, o2 a + S1x704x3072.size a ≤ S3x704x3072.size a} {h3 : ∀ a, o3 a + S1x704x3072.size a ≤ S64x704x3072.size a}
    {h4 : ∀ a, o4 a + S1x1.size a ≤ S2x3.size a} {h5 : ∀ a, o5 a + S1x11x3072.size a ≤ S3x11x3072.size a}
    {h6 : ∀ a, o6 a + S1x11x3072.size a ≤ S64x11x3072.size a} {hsrc hdst hsem hsrc' hdst' hsem'}
    {kk : PUnit → Prog (TpuEff nD τ sig (Elt F) Λ₀ .tc) α}
    (e1 : o1 = ![0, j]) (e2 : o2 = ![j, 0, 0]) (e3 : o3 = ![(L j).val, 0, 0])
    (e4 : o4 = ![1, j]) (e5 : o5 = ![j, 0, 0]) (e6 : o6 = ![(L j).val, 0, 0])
    (hP : P ⊢ iprop(Ring.AtW (Slot c gW gS L) (Ring.inWin 0 j 3) ∗ R))
    (h : iprop(Ring.AtW (Slot c gW gS L) (Ring.inWin 0 (j + 1) 3) ∗ R) ⊢ Run c (kk ⟨⟩) Q) :
    P ⊢ Run c (Prog.lift (.enqueueDma ((hbW.slice (Rect.unit (s := S64x704x3072) o3 S1x704x3072.size h3) (fun _ => rfl)).squeeze S704x3072 squeezes_S1x704x3072_S704x3072)
      (.here ((bW.slice (Rect.unit (s := S3x704x3072) o2 S1x704x3072.size h2) (fun _ => rfl)).squeeze S704x3072 squeezes_S1x704x3072_S704x3072))
      (.dma ((cc0_scratch6.slice (Rect.unit (s := S2x3) o1 S1x1.size h1)).squeeze S_ squeezes_S1x1_S_).sem) hsrc hdst hsem) >>= fun _ =>
      Prog.lift (.enqueueDma ((hbS.slice (Rect.unit (s := S64x11x3072) o6 S1x11x3072.size h6) (fun _ => rfl)).squeeze S11x3072 squeezes_S1x11x3072_S11x3072)
      (.here ((bS.slice (Rect.unit (s := S3x11x3072) o5 S1x11x3072.size h5) (fun _ => rfl)).squeeze S11x3072 squeezes_S1x11x3072_S11x3072))
      (.dma ((cc0_scratch6.slice (Rect.unit (s := S2x3) o4 S1x1.size h4)).squeeze S_ squeezes_S1x1_S_).sem) hsrc' hdst' hsem') >>= kk) Q := by
  have hk : (⟨j, hj⟩ : Fin 3) = Ring.sl 3 j := Fin.ext (by rw [Ring.sl_val]; exact (Nat.mod_eq_of_lt hj).symm)
  have hn : Ring.inWin 0 j 3 ⟨j, hj⟩ = none := by rw [hk]; exact Ring.inWin_hi (by omega) (by omega)
  refine start_w c ⟨j, hj⟩ (L j) (gW := gW) (R := iprop(Idle c (cellS ⟨j, hj⟩) (slotS ⟨j, hj⟩) (expS 0) (tok ⟨j, hj⟩) gS
      ∗ Ring.restW (Slot c gW gS L) (Ring.inWin 0 j 3) ⟨j, hj⟩ ∗ R)) e1 e2 e3 ?_ ?_
  · refine hP.trans ?_
    rw [Ring.AtW_focus (Slot c gW gS L) (Ring.inWin 0 j 3) ⟨j, hj⟩, hn]
    unfold Slot
    iintro ⟨⟨⟨Hi, Hj⟩, Hr⟩, HR⟩
    isplitl [Hi]; · iexact Hi
    isplitl [Hj]; · iexact Hj
    isplitl [Hr]; · iexact Hr
    iexact HR
  refine start_s c ⟨j, hj⟩ (L j) (gS := gS) (R := iprop(Busy c (cellW ⟨j, hj⟩) (slotW ⟨j, hj⟩) (expW (L j)) (tok ⟨j, hj⟩) gW
      ∗ Ring.restW (Slot c gW gS L) (Ring.inWin 0 j 3) ⟨j, hj⟩ ∗ R)) e4 e5 e6 ?_ ?_
  · iintro ⟨Hi, Hj, Hr⟩
    isplitl [Hj]; · iexact Hj
    isplitl [Hi]; · iexact Hi
    iexact Hr
  refine BIBase.Entails.trans ?_ h
  rw [Ring.inWin_push (by omega) (by omega), ← hk]
  iintro ⟨Hj, Hi, Hr, HR⟩
  isplitl [Hj Hi Hr]
  · iapply Ring.AtW_update
    isplitl [Hj Hi]
    · unfold Slot
      isplitl [Hi]; · iexact Hi
      iexact Hj
    iexact Hr
  iexact HR

/-- A branch with nothing on its other side: what follows is met once. -/
theorem join_step {α : Type} {Q : α → Asn F} {P P' : Asn F} {rest : Prog (TpuEff nD τ sig (Elt F) Λ₀ .tc) α}
    {p : Prop} {d : Decidable p} {A : p → Prog (TpuEff nD τ sig (Elt F) Λ₀ .tc) α}
    (h1 : P' ⊢ Run c rest Q) (h2 : (P' ⊢ Run c rest Q) → ∀ h : p, P ⊢ Run c (A h) Q) (h3 : ¬ p → P ⊢ P') :
    P ⊢ Run c (if h : p then A h else rest) Q := by
  by_cases h : p
  · rw [dif_pos h]; exact h2 h1 h
  · rw [dif_neg h]; exact (h3 h).trans h1

/-- The ring with the first experts' copies started, the two lists, and whatever else. -/
def Start (gW : hbW.view.ty.Contents (Elt F)) (gS : hbS.view.ty.Contents (Elt F)) (L : ℕ → Fin 64) (fL fA : S65.Idx → Elt F .i32) (R : Asn F) (m : ℕ) : Asn F :=
  iprop(Ring.AtW (Slot c gW gS L) (Ring.inWin 0 m 3) ∗ (bL.view.loc (c : Thread nD τ) ↦[Finset.univ]{fullShare} fL)
    ∗ (bA.view.loc (c : Thread nD τ) ↦[Finset.univ]{fullShare} fA) ∗ R)

variable (arg0 : Memref sig .tc .smem S64 .i32) (harg0 : arg0.IsWhole) (arg1 : Memref sig .tc .vmem S96x1408 .bf16) (harg1 : arg1.IsWhole)
  (harg2 : hbW.IsWhole) (harg3 : hbS.IsWhole) (arg4 : Memref sig .tc .vmem S96x3072 .bf16) (harg4 : arg4.IsWhole)
  (harg5 : bW.IsWhole) (harg6 : bS.IsWhole) (harg7 : bX.IsWhole) (harg8 : bY.IsWhole) (harg9 : bL.IsWhole) (harg10 : bA.IsWhole)

set_option maxHeartbeats 2000000 in
/-- The kernel up to the first group of columns. -/
theorem prologue {Q : (Σ' (v1_0 : BitVec 32) (k0_hw2 : k0_chk2 v1_0) (v14 : FVec F S96x128 .f32) (v19 : FVec F S96x1 .f32) (v29 : IVec S96x1 32) (v31 : IVec S96x1 32), IVec S96x1 32) → Asn F}
    {R : Asn F} {q0 q1 : PosShare TreeShare} {f0 : Buf (Elt F) (arg0.view.loc (c : Thread nD τ))} {f1 : Buf (Elt F) (arg1.view.loc (c : Thread nD τ))}
    {X : Vec F S96x1408 .bf16} {gW : hbW.view.ty.Contents (Elt F)} {gS : hbS.view.ty.Contents (Elt F)} {gL gA : S65.Idx → Elt F .i32}
    {sc : (BitVec 32 × BitVec 32) × (S65.Idx → Elt F .i32) × (S65.Idx → Elt F .i32)}
    (hsc : sc = scan (arg0.view.read (Elt F) f0) gL gA 64)
    (H : ∀ hw2, Act c arg1 q1 f1 (Start c gW gS (listed (arg0.view.read (Elt F) f0) gL gA) sc.2.1 (put sc.2.2 sc.1.1.toNat sc.1.2)
        iprop((arg0.view.loc (c : Thread nD τ) ↦[Finset.univ]{q0} f0) ∗ R) (min 3 sc.1.1.toNat)) X
      ⊢ Q ⟨sc.1.1, hw2, k0_pay354 (tX (arg1.view.read (Elt F) f1) 0), k0_pay355 (tX (arg1.view.read (Elt F) f1) 0),
        k0_pay356 (tX (arg1.view.read (Elt F) f1) 0), k0_pay357 (tX (arg1.view.read (Elt F) f1) 0), k0_pay358⟩) :
    Lists c arg0 q0 f0 iprop(Ring.AtW (Slot c gW gS (listed (arg0.view.read (Elt F) f0) gL gA)) (fun _ => none) ∗ (arg1.view.loc (c : Thread nD τ) ↦[Finset.univ]{q1} f1)
        ∗ (bX.view.loc (c : Thread nD τ) ↦[Finset.univ]{fullShare} X) ∗ R) gL gA
      ⊢ Run c (k0_part105 arg0 harg0 arg1 harg1 hbW harg2 hbS harg3 arg4 harg4 bW harg5 bS harg6 bX harg7 bY harg8 bL harg9 bA harg10 cc0_scratch6) Q := by
  rw [k0_part105_eq_skeleton]; unfold k0_part105_skel
  refine loop_step c (fun t acc => iprop(⌜acc = (scan (arg0.view.read (Elt F) f0) gL gA t).1⌝ ∗ Lists c arg0 q0 f0
      iprop(Ring.AtW (Slot c gW gS (listed (arg0.view.read (Elt F) f0) gL gA)) (fun _ => none) ∗ (arg1.view.loc (c : Thread nD τ) ↦[Finset.univ]{q1} f1)
        ∗ (bX.view.loc (c : Thread nD τ) ↦[Finset.univ]{fullShare} X) ∗ R)
      (scan (arg0.view.read (Elt F) f0) gL gA t).2.1 (scan (arg0.view.read (Elt F) f0) gL gA t).2.2))
    (fun k acc => scan_trip c arg0 harg0 arg1 harg1 harg2 harg3 arg4 harg4 harg5 harg6 harg7 harg8 harg9 harg10 q0 f0 _ gL gA k acc) ?_ fun acc => ?_
  · iintro H
    isplitr
    · ipureintro; rfl
    iexact H
  rw [show Scf.trips k0_t1_loop.lb k0_t1_loop.ub k0_t1_loop.st = 64 from rfl, ← hsc]
  refine fact_step fun hacc => ?_
  obtain ⟨n, row⟩ := acc
  have hn : n = sc.1.1 := congrArg Prod.fst hacc
  have hrow : row = sc.1.2 := congrArg Prod.snd hacc
  have hv : sc.1.1.toNat ≤ 64 := by rw [hsc]; exact scan_le _ _ _ 64 (le_refl _)
  have hL : ∀ j (hj : j < 65), j < sc.1.1.toNat → sc.2.1 (ix1 ⟨j, hj⟩) = BitVec.ofNat 32 (listed (arg0.view.read (Elt F) f0) gL gA j).val := by
    rw [hsc]; exact fun j hj h => scan_listed _ _ _ j hj h
  generalize listed (arg0.view.read (Elt F) f0) gL gA = L at *
  clear hsc hacc
  obtain ⟨⟨n', row'⟩, fL, fA⟩ := sc
  simp only at hn hrow hv hL H
  subst hn hrow
  have he : ∀ j, (BitVec.ofNat 32 (L j).val).toNat = (L j).val := fun j => by
    rw [BitVec.toNat_ofNat]; have := (L j).isLt; omega
  refine assume_step c (chk2 hv) ?_
  generalize hR0 : iprop((arg0.view.loc (c : Thread nD τ) ↦[Finset.univ]{q0} f0) ∗ (bX.view.loc (c : Thread nD τ) ↦[Finset.univ]{fullShare} X) ∗ (arg1.view.loc (c : Thread nD τ) ↦[Finset.univ]{q1} f1) ∗ R) = R0
  refine BIBase.Entails.trans (Q := Start c gW gS L fL fA R0 (min 0 n.toNat)) ?_ ?_
  · subst hR0
    unfold Start Lists
    rw [show Ring.inWin 0 (min 0 n.toNat) 3 = (fun _ => none) from by funext k; rw [Nat.zero_min]; exact (Ring.inWin_eq_none_iff (by omega) k).2 (fun x h1 h2 => absurd h2 (by omega))]
    iintro ⟨H0, HL, HA, Hr, H1, HX, HR⟩
    isplitl [Hr]; · iexact Hr
    isplitl [HL]; · iexact HL
    isplitl [HA]; · iexact HA
    isplitl [H0]; · iexact H0
    isplitl [HX]; · iexact HX
    isplitl [H1]; · iexact H1
    iexact HR
  refine word_a c (f := fA) n.toNat (by omega) rfl (R := iprop(Ring.AtW (Slot c gW gS L) (Ring.inWin 0 (min 0 n.toNat) 3)
    ∗ (bL.view.loc (c : Thread nD τ) ↦[Finset.univ]{fullShare} fL) ∗ R0)) ?_ ?_ ?_
  · unfold Start; iintro ⟨Hr, HL, HA, HR⟩; isplitl [HA]; · iexact HA
    isplitl [Hr]; · iexact Hr
    isplitl [HL]; · iexact HL
    iexact HR
  · unfold Start; iintro ⟨HA, Hr, HL, HR⟩; isplitl [Hr]; · iexact Hr
    isplitl [HL]; · iexact HL
    isplitl [HA]; · iexact HA
    iexact HR
  refine store_a c (f := fA) (P' := Start c gW gS L fL (put fA n.toNat row) R0 (min 0 n.toNat)) n.toNat rfl (R := iprop(Ring.AtW (Slot c gW gS L) (Ring.inWin 0 (min 0 n.toNat) 3)
    ∗ (bL.view.loc (c : Thread nD τ) ↦[Finset.univ]{fullShare} fL) ∗ R0)) ?_ ?_ ?_
  · unfold Start; iintro ⟨Hr, HL, HA, HR⟩; isplitl [HA]; · iexact HA
    isplitl [Hr]; · iexact Hr
    isplitl [HL]; · iexact HL
    iexact HR
  · unfold Start; iintro ⟨HA, Hr, HL, HR⟩; isplitl [Hr]; · iexact Hr
    isplitl [HL]; · iexact HL
    isplitl [HA]; · iexact HA
    iexact HR
  generalize put fA n.toNat row = fB at *
  refine join_step c (P' := Start c gW gS L fL fB R0 (min 1 n.toNat)) ?_ (fun next h1 => ?_) (fun h1 => ?_)
  rotate_left
  rotate_left
  · have hlt : ¬ 0 < n.toNat := fun h => h1 ((cond1_lt hv).2 h)
    rw [show min 0 n.toNat = min 1 n.toNat by omega]
  rotate_left
  · have hlt := (cond1_lt hv).1 h1
    refine word_l c (f := fL) 0 (by omega) rfl (R := iprop(Ring.AtW (Slot c gW gS L) (Ring.inWin 0 (min 0 n.toNat) 3)
      ∗ (bA.view.loc (c : Thread nD τ) ↦[Finset.univ]{fullShare} fB) ∗ R0)) ?_ ?_ ?_
    · unfold Start; iintro ⟨Hr, HL, HR⟩; isplitl [HL]; · iexact HL
      isplitl [Hr]; · iexact Hr
      iexact HR
    · unfold Start; iintro ⟨HL, Hr, HR⟩; isplitl [Hr]; · iexact Hr
      isplitl [HL]; · iexact HL
      iexact HR
    rw [hL 0 (by omega) hlt]
    refine assume_step c (chk3 (by rw [he]; exact (L 0).isLt)) ?_
    refine start_both c (L := L) (gW := gW) (gS := gS) 0 (by omega) (R := iprop((bL.view.loc (c : Thread nD τ) ↦[Finset.univ]{fullShare} fL)
      ∗ (bA.view.loc (c : Thread nD τ) ↦[Finset.univ]{fullShare} fB) ∗ R0)) rfl rfl (congrArg (fun x : ℕ => (![x, 0, 0] : Fin 3 → ℕ)) (he 0))
      rfl rfl (congrArg (fun x : ℕ => (![x, 0, 0] : Fin 3 → ℕ)) (he 0)) ?_ ?_
    · rw [show min 0 n.toNat = 0 by omega]
      exact .rfl
    refine BIBase.Entails.trans (Q := Start c gW gS L fL fB R0 (min 1 n.toNat)) ?_ next
    rw [show min 1 n.toNat = 0 + 1 by omega]
    exact .rfl
  refine join_step c (P' := Start c gW gS L fL fB R0 (min 2 n.toNat)) ?_ (fun next h2 => ?_) (fun h2 => ?_)
  rotate_left
  rotate_left
  · have hlt : ¬ 1 < n.toNat := fun h => h2 ((cond2_lt hv).2 h)
    rw [show min 1 n.toNat = min 2 n.toNat by omega]
  rotate_left
  · have hlt := (cond2_lt hv).1 h2
    refine word_l c (f := fL) 1 (by omega) rfl (R := iprop(Ring.AtW (Slot c gW gS L) (Ring.inWin 0 (min 1 n.toNat) 3)
      ∗ (bA.view.loc (c : Thread nD τ) ↦[Finset.univ]{fullShare} fB) ∗ R0)) ?_ ?_ ?_
    · unfold Start; iintro ⟨Hr, HL, HR⟩; isplitl [HL]; · iexact HL
      isplitl [Hr]; · iexact Hr
      iexact HR
    · unfold Start; iintro ⟨HL, Hr, HR⟩; isplitl [Hr]; · iexact Hr
      isplitl [HL]; · iexact HL
      iexact HR
    rw [hL 1 (by omega) hlt]
    refine assume_step c (chk4 (by rw [he]; exact (L 1).isLt)) ?_
    refine start_both c (L := L) (gW := gW) (gS := gS) 1 (by omega) (R := iprop((bL.view.loc (c : Thread nD τ) ↦[Finset.univ]{fullShare} fL)
      ∗ (bA.view.loc (c : Thread nD τ) ↦[Finset.univ]{fullShare} fB) ∗ R0)) rfl rfl (congrArg (fun x : ℕ => (![x, 0, 0] : Fin 3 → ℕ)) (he 1))
      rfl rfl (congrArg (fun x : ℕ => (![x, 0, 0] : Fin 3 → ℕ)) (he 1)) ?_ ?_
    · rw [show min 1 n.toNat = 1 by omega]
      exact .rfl
    refine BIBase.Entails.trans (Q := Start c gW gS L fL fB R0 (min 2 n.toNat)) ?_ next
    rw [show min 2 n.toNat = 1 + 1 by omega]
    exact .rfl
  refine join_step c (P' := Start c gW gS L fL fB R0 (min 3 n.toNat)) ?_ (fun next h3 => ?_) (fun h3 => ?_)
  rotate_left
  rotate_left
  · have hlt : ¬ 2 < n.toNat := fun h => h3 ((cond3_lt hv).2 h)
    rw [show min 2 n.toNat = min 3 n.toNat by omega]
  rotate_left
  · have hlt := (cond3_lt hv).1 h3
    refine word_l c (f := fL) 2 (by omega) rfl (R := iprop(Ring.AtW (Slot c gW gS L) (Ring.inWin 0 (min 2 n.toNat) 3)
      ∗ (bA.view.loc (c : Thread nD τ) ↦[Finset.univ]{fullShare} fB) ∗ R0)) ?_ ?_ ?_
    · unfold Start; iintro ⟨Hr, HL, HR⟩; isplitl [HL]; · iexact HL
      isplitl [Hr]; · iexact Hr
      iexact HR
    · unfold Start; iintro ⟨HL, Hr, HR⟩; isplitl [Hr]; · iexact Hr
      isplitl [HL]; · iexact HL
      iexact HR
    rw [hL 2 (by omega) hlt]
    refine assume_step c (chk5 (by rw [he]; exact (L 2).isLt)) ?_
    refine start_both c (L := L) (gW := gW) (gS := gS) 2 (by omega) (R := iprop((bL.view.loc (c : Thread nD τ) ↦[Finset.univ]{fullShare} fL)
      ∗ (bA.view.loc (c : Thread nD τ) ↦[Finset.univ]{fullShare} fB) ∗ R0)) rfl rfl (congrArg (fun x : ℕ => (![x, 0, 0] : Fin 3 → ℕ)) (he 2))
      rfl rfl (congrArg (fun x : ℕ => (![x, 0, 0] : Fin 3 → ℕ)) (he 2)) ?_ ?_
    · rw [show min 2 n.toNat = 2 by omega]
      exact .rfl
    refine BIBase.Entails.trans (Q := Start c gW gS L fL fB R0 (min 3 n.toNat)) ?_ next
    rw [show min 3 n.toNat = 2 + 1 by omega]
    exact .rfl
  subst hR0
  refine BIBase.Entails.trans (Q := Act c arg1 q1 f1 (Start c gW gS L fL fB iprop((arg0.view.loc (c : Thread nD τ) ↦[Finset.univ]{q0} f0) ∗ R) (min 3 n.toNat)) X) ?_ ?_
  · unfold Start Act
    iintro ⟨Hr, HL, HA, H0, HX, H1, HR⟩
    isplitl [H1]; · iexact H1
    isplitl [HX]; · iexact HX
    isplitl [Hr]; · iexact Hr
    isplitl [HL]; · iexact HL
    isplitl [HA]; · iexact HA
    isplitl [H0]; · iexact H0
    iexact HR
  refine load_1 c ?_
  refine pure_step c ?_
  exact H _

end Cert.KernelIdeal.Hand

end
-- ==== Proof.INext.lean ====
/-
  What the kernel's main loop holds between trips, and the end of a trip: the start of the copies of the expert
  three trips ahead, when there is one.
-/
module

public import proofs.«01_k».proof.Proof.IRing

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)

/-- What the main loop holds before trip `t`: the ring with the next three experts' copies in flight, the activations,
the result so far, the two lists, and the core's waits. -/
def Main (gW : hbW.view.ty.Contents (Elt F)) (gS : hbS.view.ty.Contents (Elt F)) (L : ℕ → Fin 64) (n : ℕ) (xs : Vec F S96x1408 .bf16)
    (fL fA : S65.Idx → Elt F .i32) (t : ℕ) (y : S96x3072.Idx → Elt F .f32) : Asn F :=
  iprop(Ring.AtW (Slot c gW gS L) (Ring.inWin t (min (t + 3) n) 3)
    ∗ (bX.view.loc (c : Thread nD τ) ↦[Finset.univ]{fullShare} xs) ∗ (bY.view.loc (c : Thread nD τ) ↦[Finset.univ]{fullShare} y)
    ∗ (bL.view.loc (c : Thread nD τ) ↦[Finset.univ]{fullShare} fL) ∗ (bA.view.loc (c : Thread nD τ) ↦[Finset.univ]{fullShare} fA) ∗ waits c)

/-- What lies aside while a trip computes. -/
def Aside (gW : hbW.view.ty.Contents (Elt F)) (gS : hbS.view.ty.Contents (Elt F)) (L : ℕ → Fin 64) (st : Fin 3 → Option ℕ) (k : Fin 3)
    (fL fA : S65.Idx → Elt F .i32) : Asn F :=
  iprop((semVal ((c : Thread nD τ), SemLoc.dma (cellW k)) 0 ∗ (hbW.view.loc (c : Thread nD τ) ↦[Finset.univ]{tok k} gW))
    ∗ (semVal ((c : Thread nD τ), SemLoc.dma (cellS k)) 0 ∗ (hbS.view.loc (c : Thread nD τ) ↦[Finset.univ]{tok k} gS))
    ∗ Ring.restW (Slot c gW gS L) st k
    ∗ (bL.view.loc (c : Thread nD τ) ↦[Finset.univ]{fullShare} fL) ∗ (bA.view.loc (c : Thread nD τ) ↦[Finset.univ]{fullShare} fA) ∗ waits c)

set_option maxHeartbeats 1000000 in
/-- The end of a trip: the slot it used goes to the expert three trips ahead, if there is one. -/
theorem trip_next (harg2 : hbW.IsWhole) (harg5 : bW.IsWhole) {v : BitVec 32} (hv : v.toNat ≤ 64) (hw2 : k0_chk2 v) (t : Fin (k0_t2_loop v).trips)
    (gW : hbW.view.ty.Contents (Elt F)) (gS : hbS.view.ty.Contents (Elt F)) (L : ℕ → Fin 64) (xs : Vec F S96x1408 .bf16)
    (fL fA : S65.Idx → Elt F .i32) (hL : ∀ j (hj : j < 65), j < v.toNat → fL (ix1 ⟨j, hj⟩) = BitVec.ofNat 32 (L j).val)
    (y : S96x3072.Idx → Elt F .f32) (ht : t.val < v.toNat) {k : Fin 3} (hk : k = Ring.sl 3 t.val)
    (fw : bW.view.ty.Contents (Elt F)) (fs : bS.view.ty.Contents (Elt F)) :
    Cmp c k fw fs xs (Aside c gW gS L (Ring.inWin t.val (min (t.val + 3) v.toNat) 3) k fL fA) y ⊢ Run c (do
    if k0_h4 : k0_cond4 v t = 1#1 then do
      let v3634 : Elt F .i32 ← smemLoad bL (Rect.unit (s := S65) (k0_off295 v t) S1.size (k0_off295_inb v hw2 t k0_h4)) numel1_S1 rfl
      have k0_hw7 : k0_chk7 v t v3634 := (← Prog.lift (TpuEff.assume (k0_chk7 v t v3634) (k0_chk7.dec v t v3634))).down
      let v3636 : DmaSems sig S1x1 := cc0_scratch6.slice (Rect.unit (s := S2x3) (k0_off296 v t) S1x1.size (k0_off296_inb v hw2 t k0_h4))
      let v3637 : DmaSems sig S_ := v3636.squeeze S_ squeezes_S1x1_S_
      let v3638 : Memref sig .tc .vmem S1x704x3072 .i8 := bW.slice (Rect.unit (s := S3x704x3072) (k0_off297 v t) S1x704x3072.size (k0_off297_inb v hw2 t k0_h4)) (fun _ => rfl)
      let v3639 : Memref sig .tc .vmem S704x3072 .i8 := v3638.squeeze S704x3072 squeezes_S1x704x3072_S704x3072
      let v3640 : Memref sig .tc .hbm S1x704x3072 .i8 := hbW.slice (Rect.unit (s := S64x704x3072) (k0_off298 v3634) S1x704x3072.size (k0_off298_inb v t v3634 k0_hw7 k0_h4)) (fun _ => rfl)
      let v3641 : Memref sig .tc .hbm S704x3072 .i8 := v3640.squeeze S704x3072 squeezes_S1x704x3072_S704x3072
      Prog.lift (.enqueueDma v3641 (.here v3639) (.dma v3637.sem) ((harg2.wordExact_slice rfl _ (k0_off298_wordsi8 v t v3634 k0_hw7 k0_h4)).reshape _ _) ((harg5.wordExact_slice rfl _ (k0_off297_wordsi8 v hw2 t k0_h4)).reshape _ _) ⟨Or.inl rfl, trivial⟩)
      let v3642 : DmaSems sig S1x1 := cc0_scratch6.slice (Rect.unit (s := S2x3) (k0_off299 v t) S1x1.size (k0_off299_inb v hw2 t k0_h4))
      let v3643 : DmaSems sig S_ := v3642.squeeze S_ squeezes_S1x1_S_
      let v3644 : Memref sig .tc .vmem S1x11x3072 .f32 := bS.slice (Rect.unit (s := S3x11x3072) (k0_off300 v t) S1x11x3072.size (k0_off300_inb v hw2 t k0_h4)) (fun _ => rfl)
      let v3645 : Memref sig .tc .vmem S11x3072 .f32 := v3644.squeeze S11x3072 squeezes_S1x11x3072_S11x3072
      let v3646 : Memref sig .tc .hbm S1x11x3072 .f32 := hbS.slice (Rect.unit (s := S64x11x3072) (k0_off301 v3634) S1x11x3072.size (k0_off301_inb v t v3634 k0_hw7 k0_h4)) (fun _ => rfl)
      let v3647 : Memref sig .tc .hbm S11x3072 .f32 := v3646.squeeze S11x3072 squeezes_S1x11x3072_S11x3072
      Prog.lift (.enqueueDma v3647 (.here v3645) (.dma v3643.sem) ((View.wordExact_bits rfl).reshape _ _) ((View.wordExact_bits rfl).reshape _ _) ⟨Or.inl rfl, trivial⟩)
      pure ⟨⟩
    else do
      pure ⟨⟩
    pure 0#32) (fun _ => Main c gW gS L v.toNat xs fL fA (t.val + 1) y) := by
  have hkv : k.val = t.val % 3 := by rw [hk, Ring.sl_val]
  have h3 := iv3_toNat (t2_lt hv t)
  have hwk : (Scalar.remsi (Scalar.addi (Scf.iv 0#32 1#32 t.val) 3#32) 3#32).toNat = k.val := by
    rw [rem_toNat (by rw [h3]; omega), h3, hkv]; omega
  -- the slot at rest again
  refine BIBase.Entails.trans (Q := iprop((Idle c (cellW k) (slotW k) (expW 0) (tok k) gW ∗ Idle c (cellS k) (slotS k) (expS 0) (tok k) gS)
    ∗ Ring.restW (Slot c gW gS L) (Ring.inWin t.val (min (t.val + 3) v.toNat) 3) k
    ∗ (bX.view.loc (c : Thread nD τ) ↦[Finset.univ]{fullShare} xs) ∗ (bY.view.loc (c : Thread nD τ) ↦[Finset.univ]{fullShare} y)
    ∗ (bL.view.loc (c : Thread nD τ) ↦[Finset.univ]{fullShare} fL) ∗ (bA.view.loc (c : Thread nD τ) ↦[Finset.univ]{fullShare} fA) ∗ waits c)) ?_ ?_
  · unfold Cmp Aside Idle
    iintro ⟨Hw, Hs, HX, HY, ⟨Hcw, Hgw⟩, ⟨Hcs, Hgs⟩, Hr, HL, HA, HW⟩
    isplitl [Hw Hcw Hgw Hs Hcs Hgs]
    · isplitl [Hw Hcw Hgw]
      · isplitl [Hw]; · iexists fw; iexact Hw
        isplitl [Hcw]; · iexact Hcw
        iexact Hgw
      · isplitl [Hs]; · iexists fs; iexact Hs
        isplitl [Hcs]; · iexact Hcs
        iexact Hgs
    isplitl [Hr]; · iexact Hr
    isplitl [HX]; · iexact HX
    isplitl [HY]; · iexact HY
    isplitl [HL]; · iexact HL
    isplitl [HA]; · iexact HA
    iexact HW
  by_cases h4 : k0_cond4 v t = 1#1
  · have hlt := (cond4_lt hv t).1 h4
    simp only [dif_pos h4]
    refine word_l c (f := fL) (t.val + 3) (by omega) h3 (R := iprop((Idle c (cellW k) (slotW k) (expW 0) (tok k) gW ∗ Idle c (cellS k) (slotS k) (expS 0) (tok k) gS)
      ∗ Ring.restW (Slot c gW gS L) (Ring.inWin t.val (min (t.val + 3) v.toNat) 3) k
      ∗ (bX.view.loc (c : Thread nD τ) ↦[Finset.univ]{fullShare} xs) ∗ (bY.view.loc (c : Thread nD τ) ↦[Finset.univ]{fullShare} y)
      ∗ (bA.view.loc (c : Thread nD τ) ↦[Finset.univ]{fullShare} fA) ∗ waits c)) ?_ ?_ ?_
    · iintro ⟨Hi, Hr, HX, HY, HL, HA, HW⟩
      isplitl [HL]; · iexact HL
      isplitl [Hi]; · iexact Hi
      isplitl [Hr]; · iexact Hr
      isplitl [HX]; · iexact HX
      isplitl [HY]; · iexact HY
      isplitl [HA]; · iexact HA
      iexact HW
    · iintro ⟨HL, Hi, Hr, HX, HY, HA, HW⟩
      isplitl [Hi]; · iexact Hi
      isplitl [Hr]; · iexact Hr
      isplitl [HX]; · iexact HX
      isplitl [HY]; · iexact HY
      isplitl [HL]; · iexact HL
      isplitl [HA]; · iexact HA
      iexact HW
    rw [hL (t.val + 3) (by omega) hlt]
    have he : (BitVec.ofNat 32 (L (t.val + 3)).val).toNat = (L (t.val + 3)).val := by
      rw [BitVec.toNat_ofNat]; have := (L (t.val + 3)).isLt; omega
    refine assume_step c (chk7 (by rw [he]; exact (L (t.val + 3)).isLt)) ?_
    refine start_w c k (L (t.val + 3)) (gW := gW) (R := iprop(Idle c (cellS k) (slotS k) (expS 0) (tok k) gS
      ∗ Ring.restW (Slot c gW gS L) (Ring.inWin t.val (min (t.val + 3) v.toNat) 3) k
      ∗ (bX.view.loc (c : Thread nD τ) ↦[Finset.univ]{fullShare} xs) ∗ (bY.view.loc (c : Thread nD τ) ↦[Finset.univ]{fullShare} y)
      ∗ (bL.view.loc (c : Thread nD τ) ↦[Finset.univ]{fullShare} fL) ∗ (bA.view.loc (c : Thread nD τ) ↦[Finset.univ]{fullShare} fA) ∗ waits c))
      (by rw [← hwk]; rfl) (by rw [← hwk]; rfl) (congrArg (fun x : ℕ => (![x, 0, 0] : Fin 3 → ℕ)) he) ?_ ?_
    · iintro ⟨⟨Hi, Hj⟩, Hr⟩
      isplitl [Hi]; · iexact Hi
      isplitl [Hj]; · iexact Hj
      iexact Hr
    refine start_s c k (L (t.val + 3)) (gS := gS) (R := iprop(Busy c (cellW k) (slotW k) (expW (L (t.val + 3))) (tok k) gW
      ∗ Ring.restW (Slot c gW gS L) (Ring.inWin t.val (min (t.val + 3) v.toNat) 3) k
      ∗ (bX.view.loc (c : Thread nD τ) ↦[Finset.univ]{fullShare} xs) ∗ (bY.view.loc (c : Thread nD τ) ↦[Finset.univ]{fullShare} y)
      ∗ (bL.view.loc (c : Thread nD τ) ↦[Finset.univ]{fullShare} fL) ∗ (bA.view.loc (c : Thread nD τ) ↦[Finset.univ]{fullShare} fA) ∗ waits c))
      (by rw [← hwk]; rfl) (by rw [← hwk]; rfl) (congrArg (fun x : ℕ => (![x, 0, 0] : Fin 3 → ℕ)) he) ?_ ?_
    · iintro ⟨Hi, Hj, Hr⟩
      isplitl [Hj]; · iexact Hj
      isplitl [Hi]; · iexact Hi
      iexact Hr
    refine pure_step c ?_
    have hu : Ring.inWin (t.val + 1) (min (t.val + 1 + 3) v.toNat) 3
        = Function.update (Ring.inWin t.val (min (t.val + 3) v.toNat) 3) k (some (t.val + 3)) := by
      rw [show min (t.val + 1 + 3) v.toNat = (t.val + 3) + 1 by omega, show min (t.val + 3) v.toNat = t.val + 3 by omega,
        Ring.inWin_push (by omega) (by omega), Ring.inWin_pop (by omega) (by omega), Ring.sl_add, hk,
        Function.update_idem]
    unfold Main
    rw [hu]
    iintro ⟨Hj, Hi, Hr, HR⟩
    isplitl [Hj Hi Hr]
    · iapply Ring.AtW_update
      isplitl [Hj Hi]
      · unfold Slot
        isplitl [Hi]; · iexact Hi
        iexact Hj
      iexact Hr
    iexact HR
  · have hlt : ¬ t.val + 3 < v.toNat := fun h => h4 ((cond4_lt hv t).2 h)
    simp only [dif_neg h4]
    refine pure_step c ?_
    have hu : Ring.inWin (t.val + 1) (min (t.val + 1 + 3) v.toNat) 3
        = Function.update (Ring.inWin t.val (min (t.val + 3) v.toNat) 3) k none := by
      rw [show min (t.val + 1 + 3) v.toNat = v.toNat by omega, show min (t.val + 3) v.toNat = v.toNat by omega,
        Ring.inWin_pop (by omega) (by omega), hk]
    unfold Main
    rw [hu]
    iintro ⟨Hi, Hr, HR⟩
    isplitl [Hi Hr]
    · iapply Ring.AtW_update
      isplitl [Hi]
      · unfold Slot; iexact Hi
      iexact Hr
    iexact HR

end Cert.KernelIdeal.Hand

end
-- ==== Proof.IBody.lean ====
/-
  One trip of the kernel's main loop, and the loop: each trip waits for its expert's weights and scales, replaces
  the expert's rows of the result, and starts the copy of the expert three trips ahead.
-/
module

public import proofs.«01_k».proof.Proof.INext

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)

section
variable (arg0 : Memref sig .tc .smem S64 .i32) (harg0 : arg0.IsWhole) (arg1 : Memref sig .tc .vmem S96x1408 .bf16) (harg1 : arg1.IsWhole)
  (harg2 : hbW.IsWhole) (harg3 : hbS.IsWhole) (arg4 : Memref sig .tc .vmem S96x3072 .bf16) (harg4 : arg4.IsWhole) (harg5 : bW.IsWhole)
  (harg6 : bS.IsWhole) (harg7 : bX.IsWhole) (harg8 : bY.IsWhole) (harg9 : bL.IsWhole) (harg10 : bA.IsWhole)

set_option maxHeartbeats 4000000 in
/-- One trip of the main loop. -/
theorem trip {v : BitVec 32} (hv : v.toNat ≤ 64) (hw2 : k0_chk2 v) (t : Fin (k0_t2_loop v).trips)
    (gW : hbW.view.ty.Contents (Elt F)) (gS : hbS.view.ty.Contents (Elt F)) (L : ℕ → Fin 64) (xs : Vec F S96x1408 .bf16)
    (fL fA : S65.Idx → Elt F .i32) (hL : ∀ j (hj : j < 65), j < v.toNat → fL (ix1 ⟨j, hj⟩) = BitVec.ofNat 32 (L j).val)
    (y : S96x3072.Idx → Elt F .f32) (a : BitVec 32) (ht : t.val < v.toNat) :
    Main c gW gS L v.toNat xs fL fA t.val y ⊢ Run c (k0_t2_body arg0 harg0 arg1 harg1 hbW harg2 hbS harg3 arg4 harg4 bW harg5 bS harg6
      bX harg7 bY harg8 bL harg9 bA harg10 cc0_scratch6 v hw2 0#32 t a)
      (fun _ => Main c gW gS L v.toNat xs fL fA (t.val + 1)
        (yTo ((expW (L t.val)).view.read (Elt F) gW) ((expS (L t.val)).view.read (Elt F) gS) xs (fA (ix1 ⟨t.val, by omega⟩)) (fA (ix1 ⟨t.val + 1, by omega⟩)) y 12)) := by
  obtain ⟨k, hk⟩ : ∃ k, k = Ring.sl 3 t.val := ⟨_, rfl⟩
  have hkv : k.val = t.val % 3 := by rw [hk, Ring.sl_val]
  have hwk : (Scalar.remsi (Scf.iv 0#32 1#32 t.val) 3#32).toNat = k.val := by
    rw [rem_toNat (by rw [iv_toNat (by omega)]; omega), iv_toNat (by omega), hkv]
  have h0 : (Scf.iv 0#32 1#32 t.val).toNat = t.val := iv_toNat (by omega)
  have h1 : (Scalar.addi (Scf.iv 0#32 1#32 t.val) 1#32).toNat = t.val + 1 := iv1_toNat (by omega)
  have hst : Ring.inWin t.val (min (t.val + 3) v.toNat) 3 k = some t.val := by
    rw [hk]; exact Ring.inWin_lo (by omega) (by omega)
  have hLt := hL t.val (by omega) ht
  unfold Main
  rw [Ring.AtW_focus _ _ k, hst]
  unfold k0_t2_body
  refine bind_step c ?_
  rw [k0_part1_eq_skeleton]; unfold k0_part1_skel
  -- the number of this trip's expert
  refine word_l c (f := fL) t.val (by omega) h0 (R := iprop((Slot c gW gS L k (some t.val) ∗ Ring.restW (Slot c gW gS L) (Ring.inWin t.val (min (t.val + 3) v.toNat) 3) k)
    ∗ (bX.view.loc (c : Thread nD τ) ↦[Finset.univ]{fullShare} xs) ∗ (bY.view.loc (c : Thread nD τ) ↦[Finset.univ]{fullShare} y)
    ∗ (bA.view.loc (c : Thread nD τ) ↦[Finset.univ]{fullShare} fA) ∗ waits c)) ?_ ?_ ?_
  · iintro ⟨Hr, HX, HY, HL, HA, HW⟩
    isplitl [HL]; · iexact HL
    isplitl [Hr]; · iexact Hr
    isplitl [HX]; · iexact HX
    isplitl [HY]; · iexact HY
    isplitl [HA]; · iexact HA
    iexact HW
  · iintro ⟨HL, Hr, HX, HY, HA, HW⟩
    isplitl [Hr]; · iexact Hr
    isplitl [HX]; · iexact HX
    isplitl [HY]; · iexact HY
    isplitl [HL]; · iexact HL
    isplitl [HA]; · iexact HA
    iexact HW
  rw [hLt]
  refine assume_step c (chk6 (by rw [BitVec.toNat_ofNat]; have := (L t.val).isLt; omega)) ?_
  -- its weights and its scales
  refine wait_w c k (L t.val) (gW := gW) (R := iprop(Busy c (cellS k) (slotS k) (expS (L t.val)) (tok k) gS
    ∗ Ring.restW (Slot c gW gS L) (Ring.inWin t.val (min (t.val + 3) v.toNat) 3) k
    ∗ (bX.view.loc (c : Thread nD τ) ↦[Finset.univ]{fullShare} xs) ∗ (bY.view.loc (c : Thread nD τ) ↦[Finset.univ]{fullShare} y)
    ∗ (bL.view.loc (c : Thread nD τ) ↦[Finset.univ]{fullShare} fL) ∗ (bA.view.loc (c : Thread nD τ) ↦[Finset.univ]{fullShare} fA)))
    (by rw [← hwk]; rfl) (by rw [← hwk]; rfl) ?_ fun fw hwv => ?_
  · unfold Slot
    iintro ⟨⟨⟨Hw, Hs⟩, Hr⟩, HX, HY, HL, HA, HW⟩
    isplitl [Hw]; · iexact Hw
    isplitl [HW]; · iexact HW
    isplitl [Hs]; · iexact Hs
    isplitl [Hr]; · iexact Hr
    isplitl [HX]; · iexact HX
    isplitl [HY]; · iexact HY
    isplitl [HL]; · iexact HL
    iexact HA
  refine wait_s c k (L t.val) (gS := gS) (R := iprop((((slotW k).view.loc (c : Thread nD τ) ↦[(slotW k).view.set]{fullShare} fw)
      ∗ semVal ((c : Thread nD τ), SemLoc.dma (cellW k)) 0 ∗ (hbW.view.loc (c : Thread nD τ) ↦[Finset.univ]{tok k} gW))
    ∗ Ring.restW (Slot c gW gS L) (Ring.inWin t.val (min (t.val + 3) v.toNat) 3) k
    ∗ (bX.view.loc (c : Thread nD τ) ↦[Finset.univ]{fullShare} xs) ∗ (bY.view.loc (c : Thread nD τ) ↦[Finset.univ]{fullShare} y)
    ∗ (bL.view.loc (c : Thread nD τ) ↦[Finset.univ]{fullShare} fL) ∗ (bA.view.loc (c : Thread nD τ) ↦[Finset.univ]{fullShare} fA)))
    (by rw [← hwk]; rfl) (by rw [← hwk]; rfl) ?_ fun fs hsv => ?_
  · iintro ⟨Hw, HW, Hs, Hr⟩
    isplitl [Hs]; · iexact Hs
    isplitl [HW]; · iexact HW
    isplitl [Hw]; · iexact Hw
    iexact Hr
  -- its first row and the next expert's
  refine BIBase.Entails.trans (Q := Cmp c k fw fs xs (Aside c gW gS L (Ring.inWin t.val (min (t.val + 3) v.toNat) 3) k fL fA) y) ?_ ?_
  · unfold Cmp Aside
    iintro ⟨⟨Hs, Hcs, Hgs⟩, HW, ⟨Hw, Hcw, Hgw⟩, Hr, HX, HY, HL, HA⟩
    isplitl [Hw]; · iexact Hw
    isplitl [Hs]; · iexact Hs
    isplitl [HX]; · iexact HX
    isplitl [HY]; · iexact HY
    isplitl [Hcw Hgw]
    · isplitl [Hcw]; · iexact Hcw
      iexact Hgw
    isplitl [Hcs Hgs]
    · isplitl [Hcs]; · iexact Hcs
      iexact Hgs
    isplitl [Hr]; · iexact Hr
    isplitl [HL]; · iexact HL
    isplitl [HA]; · iexact HA
    iexact HW
  have hA1 : Cmp c k fw fs xs (Aside c gW gS L (Ring.inWin t.val (min (t.val + 3) v.toNat) 3) k fL fA) y
      ⊢ iprop((bA.view.loc (c : Thread nD τ) ↦[Finset.univ]{fullShare} fA)
        ∗ ((bA.view.loc (c : Thread nD τ) ↦[Finset.univ]{fullShare} fA) -∗ Cmp c k fw fs xs (Aside c gW gS L (Ring.inWin t.val (min (t.val + 3) v.toNat) 3) k fL fA) y)) := by
    unfold Cmp Aside
    iintro ⟨Hw, Hs, HX, HY, H1, H2, Hr, HL, HA, HW⟩
    isplitl [HA]; · iexact HA
    iintro HA
    isplitl [Hw]; · iexact Hw
    isplitl [Hs]; · iexact Hs
    isplitl [HX]; · iexact HX
    isplitl [HY]; · iexact HY
    isplitl [H1]; · iexact H1
    isplitl [H2]; · iexact H2
    isplitl [Hr]; · iexact Hr
    isplitl [HL]; · iexact HL
    isplitl [HA]; · iexact HA
    iexact HW
  have hA2 : iprop((bA.view.loc (c : Thread nD τ) ↦[Finset.univ]{fullShare} fA)
        ∗ ((bA.view.loc (c : Thread nD τ) ↦[Finset.univ]{fullShare} fA) -∗ Cmp c k fw fs xs (Aside c gW gS L (Ring.inWin t.val (min (t.val + 3) v.toNat) 3) k fL fA) y))
      ⊢ Cmp c k fw fs xs (Aside c gW gS L (Ring.inWin t.val (min (t.val + 3) v.toNat) 3) k fL fA) y := by
    iintro ⟨HA, H⟩
    iapply H $$ HA
  refine word_a c (f := fA) t.val (by omega) h0 hA1 hA2 ?_
  refine word_a c (f := fA) (t.val + 1) (by omega) h1 hA1 hA2 ?_
  generalize fA (ix1 ⟨t.val, _⟩) = lo
  generalize fA (ix1 ⟨t.val + 1, _⟩) = hi
  generalize (expW (L t.val)).view.read (Elt F) gW = wv at hwv ⊢
  generalize (expS (L t.val)).view.read (Elt F) gS = sv at hsv ⊢
  change Cmp c k fw fs xs _ (yTo wv sv xs lo hi y 0) ⊢ _
  generalize hR : Aside c gW gS L (Ring.inWin t.val (min (t.val + 3) v.toNat) 3) k fL fA = R
  (with_reducible apply load_w c hwk hwv); (focus exact rfl)
  refine pure_step c ?_
  refine bind_step c ?_
  -- the parts in their order: each load and each store by its rule, each part's end by handing on what it computed
  repeat (first
    | ((with_reducible apply load_w c hwk hwv); (focus exact rfl))
    | ((with_reducible apply load_s c hwk hsv); (focus exact rfl))
    | (with_reducible apply load_x c)
    | ((with_reducible apply load_y c); intro _)
    | ((with_reducible apply store_y c (wv := wv) (sv := sv) (lo := lo) (hi := hi)); (focus exact rfl); (focus exact rfl); (focus exact rfl))
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (refine pure_step c ?_; refine bind_step c ?_))
  refine pure_step c ?_
  subst hR
  exact trip_next c harg2 harg5 hv hw2 t gW gS L xs fL fA hL _ ht hk fw fs

end
end Cert.KernelIdeal.Hand

end
-- ==== Proof.IRun.lean ====
/-
  The kernel's whole run: from what it is given to what it leaves.
-/
module

public import proofs.«01_k».proof.Proof.IPre
public import proofs.«01_k».proof.Proof.IBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)

/-- The result after `t` of the listed experts. -/
def yAll (gW : hbW.view.ty.Contents (Elt F)) (gS : hbS.view.ty.Contents (Elt F)) (L : ℕ → Fin 64) (xs : Vec F S96x1408 .bf16)
    (fA : S65.Idx → Elt F .i32) (y : S96x3072.Idx → Elt F .f32) : ℕ → S96x3072.Idx → Elt F .f32
  | 0 => y
  | t + 1 => yTo ((expW (L t)).view.read (Elt F) gW) ((expS (L t)).view.read (Elt F) gS) xs (fA (ix1 (Fin.ofNat 65 t))) (fA (ix1 (Fin.ofNat 65 (t + 1))))
      (yAll gW gS L xs fA y t) 12

variable (arg0 : Memref sig .tc .smem S64 .i32) (harg0 : arg0.IsWhole) (arg1 : Memref sig .tc .vmem S96x1408 .bf16) (harg1 : arg1.IsWhole)
  (harg2 : hbW.IsWhole) (harg3 : hbS.IsWhole) (arg4 : Memref sig .tc .vmem S96x3072 .bf16) (harg4 : arg4.IsWhole)
  (harg5 : bW.IsWhole) (harg6 : bS.IsWhole) (harg7 : bX.IsWhole) (harg8 : bY.IsWhole) (harg9 : bL.IsWhole) (harg10 : bA.IsWhole)

/-- One trip of the main loop, the result so far as a function of the trip. -/
theorem main_trip {v : BitVec 32} (hv : v.toNat ≤ 64) (hw2 : k0_chk2 v) (gW : hbW.view.ty.Contents (Elt F)) (gS : hbS.view.ty.Contents (Elt F))
    (L : ℕ → Fin 64) (xs : Vec F S96x1408 .bf16) (fL fA : S65.Idx → Elt F .i32)
    (hL : ∀ j (hj : j < 65), j < v.toNat → fL (ix1 ⟨j, hj⟩) = BitVec.ofNat 32 (L j).val) (y : S96x3072.Idx → Elt F .f32)
    (t : Fin (k0_t2_loop v).trips) (a : BitVec 32) :
    Main c gW gS L v.toNat xs fL fA t.val (yAll gW gS L xs fA y t.val) ⊢ Run c (k0_t2_body arg0 harg0 arg1 harg1 hbW harg2 hbS harg3 arg4 harg4 bW harg5 bS harg6 bX harg7 bY harg8 bL harg9 bA harg10 cc0_scratch6 v hw2 0#32 t a)
      (fun _ => Main c gW gS L v.toNat xs fL fA (t.val + 1) (yAll gW gS L xs fA y (t.val + 1))) := by
  have ht : t.val < v.toNat := lt_of_lt_of_eq t.isLt (trips2 hv)
  have h1 : (Fin.ofNat 65 t.val : Fin 65) = ⟨t.val, by omega⟩ := Fin.ext (Nat.mod_eq_of_lt (by omega))
  have h2 : (Fin.ofNat 65 (t.val + 1) : Fin 65) = ⟨t.val + 1, by omega⟩ := Fin.ext (Nat.mod_eq_of_lt (by omega))
  have e : yTo ((expW (L t.val)).view.read (Elt F) gW) ((expS (L t.val)).view.read (Elt F) gS) xs (fA (ix1 ⟨t.val, by omega⟩)) (fA (ix1 ⟨t.val + 1, by omega⟩))
      (yAll gW gS L xs fA y t.val) 12 = yAll gW gS L xs fA y (t.val + 1) := by
    rw [← h1, ← h2]; rfl
  exact BIBase.Entails.trans
    (trip c arg0 harg0 arg1 harg1 harg2 harg3 arg4 harg4 harg5 harg6 harg7 harg8 harg9 harg10 hv hw2 t gW gS L xs fL fA hL (yAll gW gS L xs fA y t.val) a ht)
    (Entails.of_eq (congrArg (fun y' => Run c _ (fun _ => Main c gW gS L v.toNat xs fL fA (t.val + 1) y')) e))

/-- What the kernel leaves in its result's buffer. -/
def outBuf (arg4 : Memref sig .tc .vmem S96x3072 .bf16) (f4 : Buf (Elt F) (arg4.view.loc (c : Thread nD τ))) (y : S96x3072.Idx → Elt F .f32) :
    Buf (Elt F) (arg4.view.loc (c : Thread nD τ)) :=
  (arg4.access (Rect.unit (s := S96x3072) ![0, 0] S96x3072.size inb_S96x3072_S96x3072_0_0)).write (Elt F) f4 (k0_pay1 y) Finset.univ

set_option maxHeartbeats 2000000 in
set_option maxRecDepth 200000 in
/-- The kernel's whole run. -/
theorem whole {q0 q1 : PosShare TreeShare} {f0 : Buf (Elt F) (arg0.view.loc (c : Thread nD τ))} {f1 : Buf (Elt F) (arg1.view.loc (c : Thread nD τ))}
    {f4 : Buf (Elt F) (arg4.view.loc (c : Thread nD τ))}
    {X : Vec F S96x1408 .bf16} {y : S96x3072.Idx → Elt F .f32} {gW : hbW.view.ty.Contents (Elt F)} {gS : hbS.view.ty.Contents (Elt F)} {gL gA : S65.Idx → Elt F .i32}
    {sc : (BitVec 32 × BitVec 32) × (S65.Idx → Elt F .i32) × (S65.Idx → Elt F .i32)} (hsc : sc = scan (arg0.view.read (Elt F) f0) gL gA 64)
    {L : ℕ → Fin 64} (hLi : L = listed (arg0.view.read (Elt F) f0) gL gA) :
    Lists c arg0 q0 f0 iprop(Ring.AtW (Slot c gW gS L) (fun _ => none) ∗ (arg1.view.loc (c : Thread nD τ) ↦[Finset.univ]{q1} f1)
        ∗ (bX.view.loc (c : Thread nD τ) ↦[Finset.univ]{fullShare} X) ∗ (bY.view.loc (c : Thread nD τ) ↦[Finset.univ]{fullShare} y)
        ∗ (arg4.view.loc (c : Thread nD τ) ↦[Finset.univ]{fullShare} f4) ∗ waits c) gL gA
      ⊢ Run c (cc0_grouped_w4 arg0 harg0 arg1 harg1 hbW harg2 hbS harg3 arg4 harg4 bW harg5 bS harg6 bX harg7 bY harg8 bL harg9 bA harg10 cc0_scratch6) (fun _ => iprop(
        (arg0.view.loc (c : Thread nD τ) ↦[Finset.univ]{q0} f0) ∗ (arg1.view.loc (c : Thread nD τ) ↦[Finset.univ]{q1} f1)
        ∗ (arg4.view.loc (c : Thread nD τ) ↦[Finset.univ]{fullShare} (outBuf c arg4 f4
          (yAll gW gS L (quant (arg1.view.read (Elt F) f1)) (put sc.2.2 sc.1.1.toNat sc.1.2) y sc.1.1.toNat)))
        ∗ Main c gW gS L sc.1.1.toNat (quant (arg1.view.read (Elt F) f1)) sc.2.1 (put sc.2.2 sc.1.1.toNat sc.1.2) sc.1.1.toNat
          (yAll gW gS L (quant (arg1.view.read (Elt F) f1)) (put sc.2.2 sc.1.1.toNat sc.1.2) y sc.1.1.toNat))) := by
  have hv : sc.1.1.toNat ≤ 64 := by rw [hsc]; exact scan_le _ _ _ 64 (le_refl _)
  have hL : ∀ j (hj : j < 65), j < sc.1.1.toNat → sc.2.1 (ix1 ⟨j, hj⟩) = BitVec.ofNat 32 (L j).val := by
    rw [hsc, hLi]; exact fun j hj h => scan_listed _ _ _ j hj h
  rw [cc0_grouped_w4_eq_skeleton]; unfold cc0_grouped_w4_skel
  refine bind_step c ?_
  subst hLi
  refine prologue c arg0 harg0 arg1 harg1 harg2 harg3 arg4 harg4 harg5 harg6 harg7 harg8 harg9 harg10 hsc fun hw2 => ?_
  generalize listed (arg0.view.read (Elt F) f0) gL gA = L at *
  clear hsc
  obtain ⟨⟨n, row⟩, fL, fA⟩ := sc
  simp only at hv hL hw2 ⊢
  generalize put fA n.toNat row = fB at *
  change Act c arg1 q1 f1 _ (xTo (arg1.view.read (Elt F) f1) X 0) ⊢ _
  refine bind_step c ?_
  rw [k0_part106_eq_skeleton]; unfold k0_part106_skel
  refine pure_step c ?_
  refine bind_step c ?_
  rw [k0_part107_eq_skeleton]; unfold k0_part107_skel
  refine pure_step c ?_
  refine bind_step c ?_
  rw [k0_part108_eq_skeleton]; unfold k0_part108_skel
  refine load_7 c fun _ => ?_
  refine store_7 c 0 rfl rfl ?_
  refine load_1 c ?_
  refine pure_step c ?_
  refine bind_step c ?_
  rw [k0_part109_eq_skeleton]; unfold k0_part109_skel
  refine pure_step c ?_
  refine bind_step c ?_
  rw [k0_part110_eq_skeleton]; unfold k0_part110_skel
  refine load_7 c fun _ => ?_
  refine store_7 c 1 rfl rfl ?_
  refine load_1 c ?_
  refine pure_step c ?_
  refine bind_step c ?_
  rw [k0_part111_eq_skeleton]; unfold k0_part111_skel
  refine pure_step c ?_
  refine bind_step c ?_
  rw [k0_part112_eq_skeleton]; unfold k0_part112_skel
  refine pure_step c ?_
  refine bind_step c ?_
  rw [k0_part113_eq_skeleton]; unfold k0_part113_skel
  refine load_7 c fun _ => ?_
  refine store_7 c 2 rfl rfl ?_
  refine load_1 c ?_
  refine pure_step c ?_
  refine bind_step c ?_
  rw [k0_part114_eq_skeleton]; unfold k0_part114_skel
  refine pure_step c ?_
  refine bind_step c ?_
  rw [k0_part115_eq_skeleton]; unfold k0_part115_skel
  refine load_7 c fun _ => ?_
  refine store_7 c 3 rfl rfl ?_
  refine load_1 c ?_
  refine pure_step c ?_
  refine bind_step c ?_
  rw [k0_part116_eq_skeleton]; unfold k0_part116_skel
  refine pure_step c ?_
  refine bind_step c ?_
  rw [k0_part117_eq_skeleton]; unfold k0_part117_skel
  refine pure_step c ?_
  refine bind_step c ?_
  rw [k0_part118_eq_skeleton]; unfold k0_part118_skel
  refine load_7 c fun _ => ?_
  refine store_7 c 4 rfl rfl ?_
  refine load_1 c ?_
  refine pure_step c ?_
  refine bind_step c ?_
  rw [k0_part119_eq_skeleton]; unfold k0_part119_skel
  refine pure_step c ?_
  refine bind_step c ?_
  rw [k0_part120_eq_skeleton]; unfold k0_part120_skel
  refine load_7 c fun _ => ?_
  refine store_7 c 5 rfl rfl ?_
  refine pure_step c ?_
  refine bind_step c ?_
  rw [k0_part121_eq_skeleton]; unfold k0_part121_skel
  refine load_1 c ?_
  refine pure_step c ?_
  refine bind_step c ?_
  rw [k0_part122_eq_skeleton]; unfold k0_part122_skel
  refine pure_step c ?_
  refine bind_step c ?_
  rw [k0_part123_eq_skeleton]; unfold k0_part123_skel
  refine load_7 c fun _ => ?_
  refine store_7 c 6 rfl rfl ?_
  refine load_1 c ?_
  refine pure_step c ?_
  refine bind_step c ?_
  rw [k0_part124_eq_skeleton]; unfold k0_part124_skel
  refine pure_step c ?_
  refine bind_step c ?_
  rw [k0_part125_eq_skeleton]; unfold k0_part125_skel
  refine pure_step c ?_
  refine bind_step c ?_
  rw [k0_part126_eq_skeleton]; unfold k0_part126_skel
  refine load_7 c fun _ => ?_
  refine store_7 c 7 rfl rfl ?_
  refine load_1 c ?_
  refine pure_step c ?_
  refine bind_step c ?_
  rw [k0_part127_eq_skeleton]; unfold k0_part127_skel
  refine pure_step c ?_
  refine bind_step c ?_
  rw [k0_part128_eq_skeleton]; unfold k0_part128_skel
  refine load_7 c fun _ => ?_
  refine store_7 c 8 rfl rfl ?_
  refine load_1 c ?_
  refine pure_step c ?_
  refine bind_step c ?_
  rw [k0_part129_eq_skeleton]; unfold k0_part129_skel
  refine pure_step c ?_
  refine bind_step c ?_
  rw [k0_part130_eq_skeleton]; unfold k0_part130_skel
  refine pure_step c ?_
  refine bind_step c ?_
  rw [k0_part131_eq_skeleton]; unfold k0_part131_skel
  refine load_7 c fun _ => ?_
  refine store_7 c 9 rfl rfl ?_
  refine load_1 c ?_
  refine pure_step c ?_
  refine bind_step c ?_
  rw [k0_part132_eq_skeleton]; unfold k0_part132_skel
  refine pure_step c ?_
  refine bind_step c ?_
  rw [k0_part133_eq_skeleton]; unfold k0_part133_skel
  refine load_7 c fun _ => ?_
  refine store_7 c 10 rfl rfl ?_
  refine pure_step c ?_
  rw [show (0 : ℕ) + 1 + 1 + 1 + 1 + 1 + 1 + 1 + 1 + 1 + 1 + 1 = 11 from rfl, xTo_all]
  refine loop_step c (fun t _ => iprop(Main c gW gS L n.toNat (quant (arg1.view.read (Elt F) f1)) fL fB t (yAll gW gS L (quant (arg1.view.read (Elt F) f1)) fB y t)
      ∗ ((arg0.view.loc (c : Thread nD τ) ↦[Finset.univ]{q0} f0) ∗ (arg1.view.loc (c : Thread nD τ) ↦[Finset.univ]{q1} f1)
        ∗ (arg4.view.loc (c : Thread nD τ) ↦[Finset.univ]{fullShare} f4)))) (fun t a => ?_) ?_ fun a => ?_
  · exact BIBase.Entails.trans (sep_mono (main_trip c arg0 harg0 arg1 harg1 harg2 harg3 arg4 harg4 harg5 harg6 harg7 harg8 harg9 harg10 hv hw2 gW gS L
      (quant (arg1.view.read (Elt F) f1)) fL fB hL y t a) .rfl) (wp_frame_r _ _ _)
  · unfold Act Start Main
    rw [show min (0 + 3) n.toNat = min 3 n.toNat by omega]
    iintro ⟨H1, HX, Hr, HL, HA, H0, HY, H4, HW⟩
    isplitr [H0 H1 H4]
    · isplitl [Hr]; · iexact Hr
      isplitl [HX]; · iexact HX
      isplitl [HY]; · iexact HY
      isplitl [HL]; · iexact HL
      isplitl [HA]; · iexact HA
      iexact HW
    isplitl [H0]; · iexact H0
    isplitl [H1]; · iexact H1
    iexact H4
  have e2 : Scf.trips (k0_t2_loop n).lb (k0_t2_loop n).ub (k0_t2_loop n).st = n.toNat := trips2 hv
  rw [e2]
  refine loop_step c (fun t _ => iprop(Main c gW gS L n.toNat (quant (arg1.view.read (Elt F) f1)) fL fB n.toNat (yAll gW gS L (quant (arg1.view.read (Elt F) f1)) fB y n.toNat)
      ∗ ((arg0.view.loc (c : Thread nD τ) ↦[Finset.univ]{q0} f0) ∗ (arg1.view.loc (c : Thread nD τ) ↦[Finset.univ]{q1} f1)
        ∗ (arg4.view.loc (c : Thread nD τ) ↦[Finset.univ]{fullShare} f4)))) (fun t a => (no_t3 t).elim) .rfl fun a => ?_
  generalize yAll gW gS L (quant (arg1.view.read (Elt F) f1)) fB y n.toNat = Y
  refine load_step c (S := Finset.univ) (f := Y) (q := fullShare) (R := iprop(Ring.AtW (Slot c gW gS L) (Ring.inWin n.toNat (min (n.toNat + 3) n.toNat) 3)
      ∗ (bX.view.loc (c : Thread nD τ) ↦[Finset.univ]{fullShare} (quant (arg1.view.read (Elt F) f1)))
      ∗ (bL.view.loc (c : Thread nD τ) ↦[Finset.univ]{fullShare} fL) ∗ (bA.view.loc (c : Thread nD τ) ↦[Finset.univ]{fullShare} fB) ∗ waits c
      ∗ ((arg0.view.loc (c : Thread nD τ) ↦[Finset.univ]{q0} f0) ∗ (arg1.view.loc (c : Thread nD τ) ↦[Finset.univ]{q1} f1)
        ∗ (arg4.view.loc (c : Thread nD τ) ↦[Finset.univ]{fullShare} f4)))) (Finset.subset_univ _) ?_ ?_ ?_
  · unfold Main
    iintro ⟨⟨Hr, HX, HY, HL, HA, HW⟩, HR⟩
    isplitl [HY]; · iexact HY
    isplitl [Hr]; · iexact Hr
    isplitl [HX]; · iexact HX
    isplitl [HL]; · iexact HL
    isplitl [HA]; · iexact HA
    isplitl [HW]; · iexact HW
    iexact HR
  · unfold Main
    iintro ⟨HY, Hr, HX, HL, HA, HW, HR⟩
    isplitr [HR]
    · isplitl [Hr]; · iexact Hr
      isplitl [HX]; · iexact HX
      isplitl [HY]; · iexact HY
      isplitl [HL]; · iexact HL
      isplitl [HA]; · iexact HA
      iexact HW
    iexact HR
  have eY : bY.view.readAt (Elt F) (Rect.unit (s := S96x3072) ![0, 0] S96x3072.size inb_S96x3072_S96x3072_0_0).toLoadRect Y = Y :=
    Memref.readAt_unit_zero (Elt F) cc0_scratch3 (off := ![0, 0]) (by decide) inb_S96x3072_S96x3072_0_0 Y
  rw [eY]
  refine load_step c (S := Finset.univ) (f := f4) (q := fullShare) (R := iprop(Main c gW gS L n.toNat (quant (arg1.view.read (Elt F) f1)) fL fB n.toNat Y
      ∗ ((arg0.view.loc (c : Thread nD τ) ↦[Finset.univ]{q0} f0) ∗ (arg1.view.loc (c : Thread nD τ) ↦[Finset.univ]{q1} f1)))) (Finset.subset_univ _) ?_ ?_ ?_
  · iintro ⟨HM, H0, H1, H4⟩
    isplitl [H4]; · iexact H4
    isplitl [HM]; · iexact HM
    isplitl [H0]; · iexact H0
    iexact H1
  · iintro ⟨H4, HM, H0, H1⟩
    isplitl [HM]; · iexact HM
    isplitl [H0]; · iexact H0
    isplitl [H1]; · iexact H1
    iexact H4
  refine store_step c (S := Finset.univ) (f := f4) (R := iprop(Main c gW gS L n.toNat (quant (arg1.view.read (Elt F) f1)) fL fB n.toNat Y
      ∗ ((arg0.view.loc (c : Thread nD τ) ↦[Finset.univ]{q0} f0) ∗ (arg1.view.loc (c : Thread nD τ) ↦[Finset.univ]{q1} f1))))
    (P' := iprop((arg0.view.loc (c : Thread nD τ) ↦[Finset.univ]{q0} f0) ∗ (arg1.view.loc (c : Thread nD τ) ↦[Finset.univ]{q1} f1)
        ∗ (arg4.view.loc (c : Thread nD τ) ↦[Finset.univ]{fullShare} (outBuf c arg4 f4 Y))
        ∗ Main c gW gS L n.toNat (quant (arg1.view.read (Elt F) f1)) fL fB n.toNat Y)) (Finset.subset_univ _) ?_ ?_ ?_
  · iintro ⟨HM, H0, H1, H4⟩
    isplitl [H4]; · iexact H4
    isplitl [HM]; · iexact HM
    isplitl [H0]; · iexact H0
    iexact H1
  · unfold outBuf
    iintro ⟨H4, HM, H0, H1⟩
    isplitl [H0]; · iexact H0
    isplitl [H1]; · iexact H1
    isplitl [H4]; · iexact H4
    iexact HM
  exact pure_step c .rfl

end Cert.KernelIdeal.Hand

end
-- ==== Proof.IDeal.lean ====
/-
  The kernel's rings: dealt out to their slots before the first copy and gathered again after the last.
-/
module

public import proofs.«01_k».proof.Proof.IRing
public import Idealize.ShloMosaic.Lib.Transfers

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The rings, dealt out and gathered -/

theorem mem_slotW (k : Fin 3) (i : S3x704x3072.Idx) : i ∈ (slotW k).view.set ↔ i 0 = k := by
  unfold View.set
  rw [Finset.mem_map]
  constructor
  · rintro ⟨x, -, hx⟩
    rw [slotW_emb] at hx
    rw [← hx]; rfl
  · intro h
    refine ⟨ix2 (i 1) (i 2), Finset.mem_univ _, ?_⟩
    rw [slotW_emb]
    funext a
    fin_cases a
    · exact h.symm
    · rfl
    · rfl

theorem mem_slotS (k : Fin 3) (i : S3x11x3072.Idx) : i ∈ (slotS k).view.set ↔ i 0 = k := by
  unfold View.set
  rw [Finset.mem_map]
  constructor
  · rintro ⟨x, -, hx⟩
    rw [slotS_emb] at hx
    rw [← hx]; rfl
  · intro h
    refine ⟨ix2 (i 1) (i 2), Finset.mem_univ _, ?_⟩
    rw [slotS_emb]
    funext a
    fin_cases a
    · exact h.symm
    · rfl
    · rfl

/-- The elements of a slot of the weights' ring. -/
def setW (k : Fin 3) : Finset S3x704x3072.Idx := (slotW k).view.set
/-- The elements of a slot of the scales' ring. -/
def setS (k : Fin 3) : Finset S3x11x3072.Idx := (slotS k).view.set

theorem setW_disjoint (s s' : Fin 3) (h : s ≠ s') : Disjoint (setW s) (setW s') :=
  Finset.disjoint_left.mpr fun i h1 h2 => h (((mem_slotW s i).1 h1).symm.trans ((mem_slotW s' i).1 h2))
theorem setS_disjoint (s s' : Fin 3) (h : s ≠ s') : Disjoint (setS s) (setS s') :=
  Finset.disjoint_left.mpr fun i h1 h2 => h (((mem_slotS s i).1 h1).symm.trans ((mem_slotS s' i).1 h2))
theorem setW_cover : Finset.univ.biUnion setW = Finset.univ :=
  Finset.eq_univ_iff_forall.mpr fun i => Finset.mem_biUnion.mpr ⟨i 0, Finset.mem_univ _, (mem_slotW _ i).2 rfl⟩
theorem setS_cover : Finset.univ.biUnion setS = Finset.univ :=
  Finset.eq_univ_iff_forall.mpr fun i => Finset.mem_biUnion.mpr ⟨i 0, Finset.mem_univ _, (mem_slotS _ i).2 rfl⟩

variable (c : Dev nD)

/-- The six cells at zero. -/
abbrev cells0 : Asn F :=
  iprop(semVal ((c : Thread nD τ), SemLoc.dma 3) 0 ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0 ∗ semVal ((c : Thread nD τ), SemLoc.dma 8) 0)

/-- What the rings are made of: both buffers at anything, the cells at zero, the experts' arrays whole. -/
abbrev Parts (gW : hbW.view.ty.Contents (Elt F)) (gS : hbS.view.ty.Contents (Elt F)) : Asn F :=
  iprop((∃ f : Buf (Elt F) (bW.view.loc (c : Thread nD τ)), (bW.view.loc (c : Thread nD τ) ↦{fullShare} f))
    ∗ (∃ f : Buf (Elt F) (bS.view.loc (c : Thread nD τ)), (bS.view.loc (c : Thread nD τ) ↦{fullShare} f))
    ∗ cells0 c ∗ (hbW.view.loc (c : Thread nD τ) ↦{fullShare} gW) ∗ (hbS.view.loc (c : Thread nD τ) ↦{fullShare} gS))

/-- The share of the experts' arrays that no slot takes. -/
abbrev Spare (gW : hbW.view.ty.Contents (Elt F)) (gS : hbS.view.ty.Contents (Elt F)) : Asn F :=
  iprop((hbW.view.loc (c : Thread nD τ) ↦{Transfers.shareDrop fullShare 3} gW) ∗ (hbS.view.loc (c : Thread nD τ) ↦{Transfers.shareDrop fullShare 3} gS))

/-- Every slot at rest. -/
theorem atW_none (gW : hbW.view.ty.Contents (Elt F)) (gS : hbS.view.ty.Contents (Elt F)) (L : ℕ → Fin 64) :
    (Ring.AtW (Slot c gW gS L) (fun _ => none) : Asn F)
      = iprop((Idle c (cellW 0) (slotW 0) (expW 0) (tok 0) gW ∗ Idle c (cellS 0) (slotS 0) (expS 0) (tok 0) gS)
        ∗ (Idle c (cellW 1) (slotW 1) (expW 0) (tok 1) gW ∗ Idle c (cellS 1) (slotS 1) (expS 0) (tok 1) gS)
        ∗ (Idle c (cellW 2) (slotW 2) (expW 0) (tok 2) gW ∗ Idle c (cellS 2) (slotS 2) (expS 0) (tok 2) gS)) := by
  unfold Ring.AtW
  rw [Ring.bigSep_fin3]
  rfl

/-- The weights' ring, and a slot's elements in it. -/
abbrev locW : Loc nD τ sig := bW.view.loc (c : Thread nD τ)
/-- The scales' ring, and a slot's elements in it. -/
abbrev locS : Loc nD τ sig := bS.view.loc (c : Thread nD τ)

theorem splitW : (iprop(∃ f : Buf (Elt F) (locW c), (locW c ↦{fullShare} f)) : Asn F)
    ⊢ iprop((∃ f : Buf (Elt F) (locW c), (locW c ↦[setW 0]{fullShare} f)) ∗ (∃ f : Buf (Elt F) (locW c), (locW c ↦[setW 1]{fullShare} f))
      ∗ (∃ f : Buf (Elt F) (locW c), (locW c ↦[setW 2]{fullShare} f))) :=
  Ring.slots3_split (ℓ := locW c) (J := setW) setW_disjoint setW_cover (fun f => (locW c ↦[setW 0]{fullShare} f)) (fun f => (locW c ↦[setW 1]{fullShare} f))
    (fun f => (locW c ↦[setW 2]{fullShare} f)) (fun _ => rfl) (fun _ => rfl) (fun _ => rfl)
theorem splitS : (iprop(∃ f : Buf (Elt F) (locS c), (locS c ↦{fullShare} f)) : Asn F)
    ⊢ iprop((∃ f : Buf (Elt F) (locS c), (locS c ↦[setS 0]{fullShare} f)) ∗ (∃ f : Buf (Elt F) (locS c), (locS c ↦[setS 1]{fullShare} f))
      ∗ (∃ f : Buf (Elt F) (locS c), (locS c ↦[setS 2]{fullShare} f))) :=
  Ring.slots3_split (ℓ := locS c) (J := setS) setS_disjoint setS_cover (fun f => (locS c ↦[setS 0]{fullShare} f)) (fun f => (locS c ↦[setS 1]{fullShare} f))
    (fun f => (locS c ↦[setS 2]{fullShare} f)) (fun _ => rfl) (fun _ => rfl) (fun _ => rfl)
theorem joinW : (iprop((∃ f : Buf (Elt F) (locW c), (locW c ↦[setW 0]{fullShare} f)) ∗ (∃ f : Buf (Elt F) (locW c), (locW c ↦[setW 1]{fullShare} f))
      ∗ (∃ f : Buf (Elt F) (locW c), (locW c ↦[setW 2]{fullShare} f))) : Asn F)
    ⊢ iprop(∃ f : Buf (Elt F) (locW c), (locW c ↦{fullShare} f)) :=
  Ring.slots3_join (ℓ := locW c) (J := setW) setW_disjoint setW_cover (fun f => (locW c ↦[setW 0]{fullShare} f)) (fun f => (locW c ↦[setW 1]{fullShare} f))
    (fun f => (locW c ↦[setW 2]{fullShare} f)) (fun _ => rfl) (fun _ => rfl) (fun _ => rfl)
theorem joinS : (iprop((∃ f : Buf (Elt F) (locS c), (locS c ↦[setS 0]{fullShare} f)) ∗ (∃ f : Buf (Elt F) (locS c), (locS c ↦[setS 1]{fullShare} f))
      ∗ (∃ f : Buf (Elt F) (locS c), (locS c ↦[setS 2]{fullShare} f))) : Asn F)
    ⊢ iprop(∃ f : Buf (Elt F) (locS c), (locS c ↦{fullShare} f)) :=
  Ring.slots3_join (ℓ := locS c) (J := setS) setS_disjoint setS_cover (fun f => (locS c ↦[setS 0]{fullShare} f)) (fun f => (locS c ↦[setS 1]{fullShare} f))
    (fun f => (locS c ↦[setS 2]{fullShare} f)) (fun _ => rfl) (fun _ => rfl) (fun _ => rfl)

/-- A whole array's share as three tokens and the rest. -/
theorem toks3 {ℓ : Loc nD τ sig} (g : Buf (Elt F) ℓ) : (iprop(ℓ ↦{fullShare} g) : Asn F)
    ⊢ iprop((ℓ ↦{Transfers.shareDrop fullShare 3} g) ∗ (ℓ ↦{tok 0} g) ∗ (ℓ ↦{tok 1} g) ∗ (ℓ ↦{tok 2} g)) :=
  BIBase.Entails.trans (Transfers.pointsTo_toks_split fullShare 3) (sep_mono .rfl (Entails.of_eq (Ring.bigSep_fin3 (fun i : Fin 3 => (ℓ ↦{tok i} g : Asn F)))))
theorem toks3_join {ℓ : Loc nD τ sig} (g : Buf (Elt F) ℓ) :
    (iprop((ℓ ↦{Transfers.shareDrop fullShare 3} g) ∗ (ℓ ↦{tok 0} g) ∗ (ℓ ↦{tok 1} g) ∗ (ℓ ↦{tok 2} g)) : Asn F) ⊢ iprop(ℓ ↦{fullShare} g) :=
  BIBase.Entails.trans (sep_mono .rfl (Entails.of_eq (Ring.bigSep_fin3 (fun i : Fin 3 => (ℓ ↦{tok i} g : Asn F))).symm)) (Transfers.pointsTo_toks_join fullShare 3)

/-- The rings from their parts. -/
theorem ring_enter (gW : hbW.view.ty.Contents (Elt F)) (gS : hbS.view.ty.Contents (Elt F)) (L : ℕ → Fin 64) :
    Parts c gW gS ⊢ iprop(Ring.AtW (Slot c gW gS L) (fun _ => none) ∗ Spare c gW gS) := by
  rw [atW_none]
  unfold Idle
  iintro ⟨HW, HS, ⟨C3, C4, C5, C6, C7, C8⟩, GW, GS⟩
  ihave HW := (splitW c) $$ HW
  ihave HS := (splitS c) $$ HS
  ihave GW := (toks3 (ℓ := hbW.view.loc (c : Thread nD τ)) gW) $$ GW
  ihave GS := (toks3 (ℓ := hbS.view.loc (c : Thread nD τ)) gS) $$ GS
  icases HW with ⟨W0, W1, W2⟩
  icases HS with ⟨S0, S1, S2⟩
  icases GW with ⟨GWr, GW0, GW1, GW2⟩
  icases GS with ⟨GSr, GS0, GS1, GS2⟩
  isplitr [GWr GSr]
  · isplitl [W0 S0 C3 C6 GW0 GS0]
    · isplitl [W0 C3 GW0]
      · isplitl [W0]; · iexact W0
        isplitl [C3]; · iexact C3
        iexact GW0
      isplitl [S0]; · iexact S0
      isplitl [C6]; · iexact C6
      iexact GS0
    isplitl [W1 S1 C4 C7 GW1 GS1]
    · isplitl [W1 C4 GW1]
      · isplitl [W1]; · iexact W1
        isplitl [C4]; · iexact C4
        iexact GW1
      isplitl [S1]; · iexact S1
      isplitl [C7]; · iexact C7
      iexact GS1
    isplitl [W2 C5 GW2]
    · isplitl [W2]; · iexact W2
      isplitl [C5]; · iexact C5
      iexact GW2
    isplitl [S2]; · iexact S2
    isplitl [C8]; · iexact C8
    iexact GS2
  isplitl [GWr]; · iexact GWr
  iexact GSr

/-- The rings taken apart. -/
theorem ring_leave (gW : hbW.view.ty.Contents (Elt F)) (gS : hbS.view.ty.Contents (Elt F)) (L : ℕ → Fin 64) :
    (iprop(Ring.AtW (Slot c gW gS L) (fun _ => none) ∗ Spare c gW gS) : Asn F) ⊢ Parts c gW gS := by
  rw [atW_none]
  unfold Idle
  iintro ⟨⟨⟨⟨W0, C3, GW0⟩, ⟨S0, C6, GS0⟩⟩, ⟨⟨W1, C4, GW1⟩, ⟨S1, C7, GS1⟩⟩, ⟨⟨W2, C5, GW2⟩, ⟨S2, C8, GS2⟩⟩⟩, GWr, GSr⟩
  isplitl [W0 W1 W2]
  · iapply (joinW c)
    isplitl [W0]; · iexact W0
    isplitl [W1]; · iexact W1
    iexact W2
  isplitl [S0 S1 S2]
  · iapply (joinS c)
    isplitl [S0]; · iexact S0
    isplitl [S1]; · iexact S1
    iexact S2
  isplitl [C3 C4 C5 C6 C7 C8]
  · isplitl [C3]; · iexact C3
    isplitl [C4]; · iexact C4
    isplitl [C5]; · iexact C5
    isplitl [C6]; · iexact C6
    isplitl [C7]; · iexact C7
    iexact C8
  isplitl [GWr GW0 GW1 GW2]
  · iapply (toks3_join (ℓ := hbW.view.loc (c : Thread nD τ)) gW)
    isplitl [GWr]; · iexact GWr
    isplitl [GW0]; · iexact GW0
    isplitl [GW1]; · iexact GW1
    iexact GW2
  iapply (toks3_join (ℓ := hbS.view.loc (c : Thread nD τ)) gS)
  isplitl [GSr]; · iexact GSr
  isplitl [GS0]; · iexact GS0
  isplitl [GS1]; · iexact GS1
  iexact GS2

end Cert.KernelIdeal.Hand

end
-- ==== Proof.IFrame.lean ====
/-
  The launch: the one grid point's body, and what every run of the program leaves: its arguments as they were, its
  semaphores at zero, and a result that some contents of the uninitialised buffers account for.
-/
module

public import proofs.«01_k».proof.Proof.IRun
public import proofs.«01_k».proof.Proof.IDeal
public import proofs.«01_k».proof.Proof.Gen.KernelIdeal.Frame
public import Idealize.ShloMosaic.Lib.Pipeline.DatRel
public import Idealize.ShloMosaic.Lib.Pipeline.ArrRel
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

variable (m : (ℓ : Loc nD τ sig) → Buf (Elt F) ℓ) (ρ : Dev nD → PrngReg)

/-! ## What the body may leave -/

/-- A result the kernel may leave: from some contents `y` of the accumulator, `gL` and `gA` of the two lists. -/
def Leaves (g : S64.Idx → Elt F .i32) (x : S96x1408.Idx → Elt F .bf16) (gW : hbW.view.ty.Contents (Elt F)) (gS : hbS.view.ty.Contents (Elt F))
    (X : Vec F S96x3072 .bf16) : Prop :=
  ∃ (y : S96x3072.Idx → Elt F .f32) (gL gA : S65.Idx → Elt F .i32), X = k0_pay1 (yAll gW gS (listed g gL gA) (quant x)
    (put (scan g gL gA 64).2.2 (scan g gL gA 64).1.1.toNat (scan g gL gA 64).1.2) y (scan g gL gA 64).1.1.toNat)

/-! ## @main up to the region, at this proof's algebra -/

theorem hmainU (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

abbrev ms0_0 (t : Fin cfg0.N) : Memref sig .tc .smem S64 .i32 := win0_0.stage (cfg0.slots t 0)
abbrev ms0_1 (t : Fin cfg0.N) : Memref sig .tc .vmem S96x1408 .bf16 := win0_1.stage (cfg0.slots t 1)
abbrev ms0_2 (t : Fin cfg0.N) : Memref sig .tc .vmem S96x3072 .bf16 := win0_2.stage (cfg0.slots t 2)

/-- The body's six copy cells. -/
abbrev osem0 : Fin 6 → SemLoc sig :=
  fun j => (![SemLoc.dma 3, SemLoc.dma 4, SemLoc.dma 5, SemLoc.dma 6, SemLoc.dma 7, SemLoc.dma 8] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : Asn F) = cells0 c := by
  rw [Pipeline.ownSems0_eq_of_list c osem0 [0, 1, 2, 3, 4, 5] (by decide) (by decide)]; rfl

/-- The arrays the body's copies read. -/
def H0 : Finset (Ref sig .tc) := {main_arg2, main_arg3}
theorem H0_sub : H0 ⊆ Pipeline.restRefs sig spec0 := by decide
/-- The arrays the body's copies write: none. -/
def R0 : Finset (Ref sig .tc) := ∅
theorem R0_sub : R0 ⊆ Pipeline.restRefs sig spec0 \ H0 := Finset.empty_subset _

theorem hbmPts0_eq (c : Dev nD) :
    (bigSep H0 (fun b => ((c : Thread nD τ).loc b) ↦{fullShare} V m c b) : Asn F)
      = iprop((hbW.view.loc (c : Thread nD τ) ↦{fullShare} V m c main_arg2) ∗ (hbS.view.loc (c : Thread nD τ) ↦{fullShare} V m c main_arg3)) := by
  rw [BI.bigSep_eq_bigSepL_of_eq [main_arg2, main_arg3] (by decide) (by decide)]; rfl

theorem PhiDR0_eq (c : Dev nD) :
    (Pipeline.ΦDR osem0 spec0 H0 R0 (V m) c : Asn F)
      = iprop(iprop((∃ f : Buf (Elt F) (locW c), locW c ↦{fullShare} f) ∗ (∃ f : Buf (Elt F) (locS c), locS c ↦{fullShare} f)
            ∗ (∃ f : Buf (Elt F) (bX.view.loc (c : Thread nD τ)), bX.view.loc (c : Thread nD τ) ↦{fullShare} f)
            ∗ (∃ f : Buf (Elt F) (bY.view.loc (c : Thread nD τ)), bY.view.loc (c : Thread nD τ) ↦{fullShare} f)
            ∗ (∃ f : Buf (Elt F) (bL.view.loc (c : Thread nD τ)), bL.view.loc (c : Thread nD τ) ↦{fullShare} f)
            ∗ (∃ f : Buf (Elt F) (bA.view.loc (c : Thread nD τ)), bA.view.loc (c : Thread nD τ) ↦{fullShare} f))
          ∗ (∃ r, prngReg c r) ∗ cells0 c
          ∗ iprop((hbW.view.loc (c : Thread nD τ) ↦{fullShare} V m c main_arg2) ∗ (hbS.view.loc (c : Thread nD τ) ↦{fullShare} V m c main_arg3))
          ∗ Pipeline.owned R0 c) := by
  rw [Pipeline.ΦDR_eq, scopedRest0_eq, ownSems00_eq, hbmPts0_eq]
  try rfl

/-- Which windows are outputs. -/
def fgt0 (w : Fin cfg0.W) : Bool := match w with
  | ⟨0, _⟩ => false
  | ⟨1, _⟩ => false
  | ⟨2, _⟩ => true

/-- The proof data: the inputs stay as fetched. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay1 (fun _ => FloatOps.ofBits .f32 0)
  Φ _ := Pipeline.ΦDR osem0 spec0 H0 R0 (V m) c
  q _ := fullShare
  owed _ := 0

/-- What is known of the result's buffer after the body. -/
def rel0 (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun X => Leaves (iblk m c 0 t) (iblk m c 1 t) (V m c main_arg2) (V m c main_arg3) X

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body -/

def bodyPre (c : Dev nD) (t : Fin cfg0.N) : Asn F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ Y, ⌜((dats m 0 c).toRRel fgt0 (rel0 m c)).Finds 2 t Y⌝ ∗ owns (c : Thread nD τ) (ms0_2 t) fullShare Y))
def bodyPost (c : Dev nD) (t : Fin cfg0.N) : Asn F :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ X, ⌜rel0 m c 2 t X⌝ ∗ owns (c : Thread nD τ) (ms0_2 t) fullShare X))

/-- The result's buffer, read back after the whole store. -/
theorem read_outBuf (c : Dev nD) (arg4 : Memref sig .tc .vmem S96x3072 .bf16) (f4 : Buf (Elt F) (arg4.view.loc (c : Thread nD τ))) (y : S96x3072.Idx → Elt F .f32) :
    arg4.view.read (Elt F) (outBuf c arg4 f4 y) = k0_pay1 y :=
  View.read_writes_full arg4.view f4 (off := ![0, 0]) inb_S96x3072_S96x3072_0_0 (k0_pay1 y) []

/-- A whole buffer held, as its elements. -/
theorem owns_open (c : Dev nD) {sp : Space} {s : Shape} {e : EltTy} {r : Memref sig .tc sp s e} (h : r.IsWhole) {X : s.Idx → Elt F e} :
    (owns (c : Thread nD τ) r fullShare X : Asn F) ⊢ iprop(∃ f, ⌜r.view.read (Elt F) f = X⌝ ∗ (r.view.loc (c : Thread nD τ) ↦[Finset.univ]{fullShare} f)) := by
  unfold owns; rw [h.set_eq_univ]

theorem owns_close (c : Dev nD) {sp : Space} {s : Shape} {e : EltTy} {r : Memref sig .tc sp s e} (h : r.IsWhole) {X : s.Idx → Elt F e}
    {f : Buf (Elt F) (r.view.loc (c : Thread nD τ))} (hf : r.view.read (Elt F) f = X) :
    (iprop(r.view.loc (c : Thread nD τ) ↦[Finset.univ]{fullShare} f) : Asn F) ⊢ owns (c : Thread nD τ) r fullShare X := by
  unfold owns; rw [h.set_eq_univ]
  iintro H; iexists f; isplitr; · ipureintro; exact hf
  iexact H

/-- After the last listed expert no slot is being filled. -/
theorem inWin_end (n : ℕ) : (Ring.inWin n (min (n + 3) n) 3 : Fin 3 → Option ℕ) = fun _ => none := by
  funext k
  rw [show min (n + 3) n = n by omega, Ring.inWin_eq_none_iff (by omega)]
  intro x h1 h2; omega

set_option maxHeartbeats 1000000 in
theorem sound_body (c : Dev nD) (t : Fin cfg0.N) :
    bodyPre m c t ⊢ Run c (bodyAt0 t) (fun _ => bodyPost m c t) := by
  unfold bodyPre bodyPost
  rw [show (dats m 0 c).Φ t.succ = (dats m 0 c).Φ t.castSucc from rfl, after0_0, after0_1]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  iintro ⟨⟨⟨HW, HS, ⟨%X, HX⟩, ⟨%y, HY⟩, ⟨%gL, HL⟩, ⟨%gA, HA⟩⟩, Hg, HC, ⟨GW, GS⟩, Ho⟩, ⟨%W, -, HO⟩, ⟨%d0, H0⟩, ⟨%d1, H1⟩, ⟨%Y, -, H4⟩⟩
  ihave H0 := (owns_open c (hstage0_0 0)) $$ H0
  icases H0 with ⟨%f0, %e0, H0⟩
  ihave H1 := (owns_open c (hstage0_1 0)) $$ H1
  icases H1 with ⟨%f1, %e1, H1⟩
  ihave H4 := (owns_open c (hstage0_2 0)) $$ H4
  icases H4 with ⟨%f4, -, H4⟩
  rw [before0_0] at e0
  rw [before0_1] at e1
  ihave HR := (ring_enter c (V m c main_arg2) (V m c main_arg3) (listed ((ms0_0 t).view.read (Elt F) f0) gL gA)) $$ [HW HS HC GW GS]
  · isplitl [HW]; · iexact HW
    isplitl [HS]; · iexact HS
    isplitl [HC]; · iexact HC
    isplitl [GW]; · iexact GW
    iexact GS
  icases HR with ⟨HR, HSp⟩
  iapply (wp_wand_r _ _ _)
  isplitl [HR HX HY HL HA HO H0 H1 H4]
  · iapply (whole c (ms0_0 t) (hstage0_0 0) (ms0_1 t) (hstage0_1 0) (Memref.isWhole_whole _) (Memref.isWhole_whole _) (ms0_2 t) (hstage0_2 0)
      (Memref.isWhole_whole _) (Memref.isWhole_whole _) (Memref.isWhole_whole _) (Memref.isWhole_whole _) (Memref.isWhole_whole _) (Memref.isWhole_whole _)
      (f0 := f0) (f1 := f1) (f4 := f4) (gL := gL) (gA := gA) (X := X) (y := y) (gW := V m c main_arg2) (gS := V m c main_arg3) rfl rfl)
    unfold Lists
    isplitl [H0]; · iexact H0
    isplitl [HL]; · iexact HL
    isplitl [HA]; · iexact HA
    isplitl [HR]; · iexact HR
    isplitl [H1]; · iexact H1
    isplitl [HX]; · iexact HX
    isplitl [HY]; · iexact HY
    isplitl [H4]; · iexact H4
    iexists W; iexact HO
  iintro %u ⟨H0, H1, H4, HM⟩
  unfold Main
  icases HM with ⟨HR, HX, HY, HL, HA, ⟨%W', HO⟩⟩
  ihave HP := (BIBase.Entails.trans (sep_mono (Entails.of_eq (congrArg (Ring.AtW _) (inWin_end _))) .rfl) (ring_leave c (V m c main_arg2) (V m c main_arg3)
    (listed ((ms0_0 t).view.read (Elt F) f0) gL gA))) $$ [HR HSp]
  · isplitl [HR]; · iexact HR
    iexact HSp
  icases HP with ⟨HW, HS, HC, GW, GS⟩
  isplitl [HW HS HX HY HL HA Hg HC GW GS Ho]
  · isplitl [HW HS HX HY HL HA]
    · isplitl [HW]; · iexact HW
      isplitl [HS]; · iexact HS
      isplitl [HX]; · iexists _; iexact HX
      isplitl [HY]; · iexists _; iexact HY
      isplitl [HL]; · iexists _; iexact HL
      iexists _; iexact HA
    isplitl [Hg]; · iexact Hg
    isplitl [HC]; · iexact HC
    isplitl [GW GS]
    · isplitl [GW]; · iexact GW
      iexact GS
    iexact Ho
  isplitl [HO]
  · iexists W'; isplitr; · ipureintro; exact fun _ _ => Or.inl trivial
    iexact HO
  isplitl [H0]; · iapply (owns_close c (hstage0_0 0) e0); iexact H0
  isplitl [H1]; · iapply (owns_close c (hstage0_1 0) e1); iexact H1
  iexists _
  isplitr
  swap; · iapply (owns_close c (hstage0_2 0) (read_outBuf c _ f4 _)); iexact H4
  ipureintro
  exact ⟨y, gL, gA, by rw [e0, e1]⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt0 (rel0 m c) := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.RDat.FramePostR (cfgs 0) (fun c => (dats m 0 c).toRRel fgt0 (rel0 m c)) R0 (V m) r ∧ r.2.sem = fun _ => 0) :=
  Pipeline.RDat.θ_run_frame_dmaR (Q' := _) cfgs (0 : Fin 1) launch0 osem0 defs₀ Variants.none (fun c => (dats m 0 c).toRRel fgt0 (rel0 m c)) ownSemFacts0 H0 R0 H0_sub R0_sub m ρ main
    (hbody := fun c => (body_obligation m c).toRRel) (hshare := fun c => (dats m 0 c).share_full fun _ => rfl) (howed := fun _ _ => rfl) (V := V m)
    (hmain := hmainU m Variants.none) (hA := A_eq m) (hin := fun _ => .rfl) (hout := fun _ => .rfl)

/-- The first window's block is its whole array. -/
theorem emb0 (j : S64.Idx) : ((cfg0.win 0).blk t0_0).view.emb j = j := by
  funext a; fin_cases a; refine Fin.ext ?_; exact (Nat.zero_add _).trans (Nat.one_mul _)
/-- The second window's block is its whole array. -/
theorem emb1 (j : S96x1408.Idx) : ((cfg0.win 1).blk t0_0).view.emb j = j := by
  funext a; fin_cases a <;> refine Fin.ext ?_ <;> exact (Nat.zero_add _).trans (Nat.one_mul _)

/-- What every run leaves: the arguments as they were, and a result that the body may leave. -/
theorem run_leaves : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ Leaves (F := F) (m ((c.tc : Thread nD τ).loc main_arg1)) (m ((c.tc : Thread nD τ).loc main_arg0)) (m ((c.tc : Thread nD τ).loc main_arg2))
          (m ((c.tc : Thread nD τ).loc main_arg3)) (r.2.mem ((c.tc : Thread nD τ).loc main_v0)))
      ∧ r.2.sem = fun _ => 0) := by
  refine (θ_run defs _ _).mono (fun r h => ⟨fun c => ⟨⟨h.1.arr_in c 1 rfl, h.1.arr_in c 0 rfl,
      ((h.1 c).2 main_arg2 (Finset.mem_sdiff.mpr ⟨Pipeline.mem_restRefs_of main_arg2 (by decide) (by decide), by decide⟩)),
      ((h.1 c).2 main_arg3 (Finset.mem_sdiff.mpr ⟨Pipeline.mem_restRefs_of main_arg3 (by decide) (by decide), by decide⟩))⟩, ?_⟩, h.2⟩) (run_main m ρ)
  obtain ⟨X, hX, hG⟩ := ((h.1 c).1 2).emb_eq_of_wholeAt (t₀ := t0_0) (by decide +kernel)
  have hR : Leaves (iblk m c 0 t0_0) (iblk m c 1 t0_0) (V m c main_arg2) (V m c main_arg3) X := (dats m 0 c).toRRel_leaves rfl hX
  have eX : r.2.mem ((c.tc : Thread nD τ).loc main_v0) = X := funext fun j => hG j
  have e0 : iblk m c 0 t0_0 = m ((c.tc : Thread nD τ).loc main_arg1) := by
    funext j; exact congrArg (m ((c.tc : Thread nD τ).loc main_arg1)) (emb0 j)
  have e1 : iblk m c 1 t0_0 = m ((c.tc : Thread nD τ).loc main_arg0) := by
    funext j; exact congrArg (m ((c.tc : Thread nD τ).loc main_arg0)) (emb1 j)
  rw [eX, ← e0, ← e1]
  exact hR

end Cert.KernelIdeal.Hand

end
-- ==== Proof.VScan.lean ====
/-
  The list of experts with rows: what it holds once every expert has been looked at.
-/
module

public import proofs.«01_k».proof.Proof.IScan

@[expose] public section

noncomputable section

namespace Cert.Values

open Cert.KernelIdeal Cert.KernelIdeal.Gen Cert.KernelIdeal.Hand
open Idealize.ShloMosaic

variable {F : FTy → Type} [FloatOps F]

/-- The rows of the experts before `e`. -/
def off (g : S64.Idx → Elt F .i32) (e : ℕ) : ℕ := ∑ k ∈ Finset.range e, (gsz g k : BitVec 32).toNat

theorem off_succ (g : S64.Idx → Elt F .i32) (e : ℕ) : off g (e + 1) = off g e + (gsz g e : BitVec 32).toNat := Finset.sum_range_succ _ _

theorem off_mono (g : S64.Idx → Elt F .i32) {a b : ℕ} (h : a ≤ b) : off g a ≤ off g b :=
  Finset.sum_le_sum_of_subset (Finset.range_mono h)

/-- A list's entry, by number. -/
def ent (f : S65.Idx → Elt F .i32) (j : ℕ) : BitVec 32 := f (ix1 (Fin.ofNat 65 j))

theorem ent_put (f : S65.Idx → Elt F .i32) (n : ℕ) (x : BitVec 32) {j : ℕ} (hj : j < 65) :
    ent (put f n x) j = if j = n then x else ent f j := by
  unfold ent put
  rw [show ((ix1 (Fin.ofNat 65 j) : S65.Idx) 0).val = j from Nat.mod_eq_of_lt hj]

/-- After `t` experts: each listed expert is one of them, and the list of starts, closed by the rows so far, holds where
each of them starts and where it ends. -/
theorem scan_inv (g : S64.Idx → Elt F .i32) (gL gA : S65.Idx → Elt F .i32) (hg : ∀ e, e < 64 → (gsz g e : BitVec 32).toNat ≤ 96) :
    ∀ t, t ≤ 64 → (Hand.scan g gL gA t).1.2 = BitVec.ofNat 32 (off g t)
      ∧ ent (put (Hand.scan g gL gA t).2.2 (Hand.scan g gL gA t).1.1.toNat (Hand.scan g gL gA t).1.2) 0 = 0#32
      ∧ ∀ j, j < (Hand.scan g gL gA t).1.1.toNat → ∃ E, E < t ∧ ent (Hand.scan g gL gA t).2.1 j = BitVec.ofNat 32 E
        ∧ ent (put (Hand.scan g gL gA t).2.2 (Hand.scan g gL gA t).1.1.toNat (Hand.scan g gL gA t).1.2) j = BitVec.ofNat 32 (off g E)
        ∧ ent (put (Hand.scan g gL gA t).2.2 (Hand.scan g gL gA t).1.1.toNat (Hand.scan g gL gA t).1.2) (j + 1) = BitVec.ofNat 32 (off g (E + 1))
  | 0, _ => by
    refine ⟨by rfl, ?_, fun j h => ?_⟩
    · rw [ent_put _ _ _ (by omega)]; rfl
    · exact absurd h (Nat.not_lt_zero _)
  | t + 1, ht => by
    obtain ⟨h1, h2, h3⟩ := scan_inv g gL gA hg t (by omega)
    have hle := scan_le g gL gA t (by omega)
    have hx : (gsz g t : BitVec 32).toNat ≤ 96 := hg t (by omega)
    have e1 : (Hand.scan g gL gA (t + 1)).1.1 = Scalar.addi (Hand.scan g gL gA t).1.1 (Scalar.extui (Scalar.cmpi .sgt (gsz g t) 0#32)) := rfl
    have e2 : (Hand.scan g gL gA (t + 1)).1.2 = Scalar.addi (Hand.scan g gL gA t).1.2 (gsz g t) := rfl
    have e3 : (Hand.scan g gL gA (t + 1)).2.1 = put (Hand.scan g gL gA t).2.1 (Hand.scan g gL gA t).1.1.toNat (Scf.iv 0#32 1#32 t) := rfl
    have e4 : (Hand.scan g gL gA (t + 1)).2.2 = put (Hand.scan g gL gA t).2.2 (Hand.scan g gL gA t).1.1.toNat (Hand.scan g gL gA t).1.2 := rfl
    have hc : (Hand.scan g gL gA (t + 1)).1.1.toNat = (Hand.scan g gL gA t).1.1.toNat + if 0 < (gsz g t : BitVec 32).toInt then 1 else 0 := by
      rw [e1, count_step _ _ (by omega)]
    have hr : (Hand.scan g gL gA (t + 1)).1.2 = BitVec.ofNat 32 (off g (t + 1)) := by
      rw [e2, h1, off_succ]
      apply BitVec.eq_of_toNat_eq
      show (_ + _ : BitVec 32).toNat = _
      simp [BitVec.toNat_add]
    have hi : Scf.iv 0#32 1#32 t = BitVec.ofNat 32 t := by
      apply BitVec.eq_of_toNat_eq
      rw [iv_toNat (by omega), BitVec.toNat_ofNat]; omega
    rw [e3, e4, hc, hr, hi]
    have hB : ent (put (Hand.scan g gL gA t).2.2 (Hand.scan g gL gA t).1.1.toNat (Hand.scan g gL gA t).1.2) (Hand.scan g gL gA t).1.1.toNat = BitVec.ofNat 32 (off g t) := by
      rw [ent_put _ _ _ (by omega), if_pos rfl, h1]
    generalize put (Hand.scan g gL gA t).2.2 (Hand.scan g gL gA t).1.1.toNat (Hand.scan g gL gA t).1.2 = B at h2 h3 hB ⊢
    generalize (Hand.scan g gL gA t).1.1.toNat = n at *
    have hp : (0 < (gsz g t : BitVec 32).toInt) ↔ (gsz g t : BitVec 32).toNat ≠ 0 := by
      rw [BitVec.toInt_eq_toNat_cond]; split <;> omega
    have hq : ¬ 0 < (gsz g t : BitVec 32).toInt → off g (t + 1) = off g t := fun h => by
      have : (gsz g t : BitVec 32).toNat = 0 := by
        by_contra q; exact h (hp.mpr q)
      rw [off_succ, this]; rfl
    refine ⟨rfl, ?_, fun j hj => ?_⟩
    · rw [ent_put _ _ _ (by omega)]
      by_cases hz : 0 < (gsz g t : BitVec 32).toInt
      · rw [if_pos hz, if_neg (by omega)]; exact h2
      · rw [if_neg hz, Nat.add_zero]
        split
        · rename_i h
          rw [hq hz, ← hB, ← h]; exact h2
        · exact h2
    · by_cases hz : 0 < (gsz g t : BitVec 32).toInt
      · rw [if_pos hz] at hj ⊢
        rcases Nat.lt_succ_iff_lt_or_eq.mp hj with hj | rfl
        · obtain ⟨E, hE, q1, q2, q3⟩ := h3 j hj
          refine ⟨E, by omega, ?_, ?_, ?_⟩
          · rw [ent_put _ _ _ (by omega), if_neg (by omega)]; exact q1
          · rw [ent_put _ _ _ (by omega), if_neg (by omega)]; exact q2
          · rw [ent_put _ _ _ (by omega), if_neg (by omega)]; exact q3
        · refine ⟨t, by omega, ?_, ?_, ?_⟩
          · rw [ent_put _ _ _ (by omega), if_pos rfl]
          · rw [ent_put _ _ _ (by omega), if_neg (by omega)]; exact hB
          · rw [ent_put _ _ _ (by omega), if_pos rfl]
      · rw [if_neg hz] at hj ⊢
        have ho := hq hz
        have hn : ∀ i, i ≤ n → ent (put B (n + 0) (BitVec.ofNat 32 (off g (t + 1)))) i = ent B i := fun i hi => by
          rw [ent_put _ _ _ (by omega)]
          rw [Nat.add_zero]
          split
          · rename_i q; rw [q, hB, ho]
          · rfl
        obtain ⟨E, hE, q1, q2, q3⟩ := h3 j hj
        refine ⟨E, by omega, ?_, ?_, ?_⟩
        · rw [ent_put _ _ _ (by omega), if_neg (by omega)]; exact q1
        · rw [hn j (by omega)]; exact q2
        · rw [hn (j + 1) (by omega)]; exact q3

/-- The starts the main loop reads. -/
def starts (g : S64.Idx → Elt F .i32) (gL gA : S65.Idx → Elt F .i32) : S65.Idx → Elt F .i32 :=
  put (Hand.scan g gL gA 64).2.2 (Hand.scan g gL gA 64).1.1.toNat (Hand.scan g gL gA 64).1.2

/-- The first listed expert starts at row 0, the last one ends at the last row, and each one has the rows that are its own. -/
theorem starts_spec (g : S64.Idx → Elt F .i32) (gL gA : S65.Idx → Elt F .i32) (hg : ∀ e, e < 64 → (gsz g e : BitVec 32).toNat ≤ 96)
    (hs : off g 64 = 96) :
    ent (starts g gL gA) 0 = 0#32 ∧ ent (starts g gL gA) (Hand.scan g gL gA 64).1.1.toNat = 96#32
      ∧ ∀ j, j < (Hand.scan g gL gA 64).1.1.toNat → ent (starts g gL gA) j = BitVec.ofNat 32 (off g (listed g gL gA j).val)
        ∧ ent (starts g gL gA) (j + 1) = BitVec.ofNat 32 (off g ((listed g gL gA j).val + 1)) := by
  obtain ⟨h1, h2, h3⟩ := scan_inv g gL gA hg 64 (le_refl _)
  have hle := scan_le g gL gA 64 (le_refl _)
  refine ⟨h2, ?_, fun j hj => ?_⟩
  · unfold starts
    rw [ent_put _ _ _ (by omega), if_pos rfl, h1, hs]
  · obtain ⟨E, hE, q1, q2, q3⟩ := h3 j hj
    have e : (listed g gL gA j).val = E := by
      show (ent (Hand.scan g gL gA 64).2.1 j).toNat % 64 = E
      rw [q1, BitVec.toNat_ofNat]; omega
    rw [e]
    exact ⟨q2, q3⟩

end Cert.Values

end
-- ==== Proof.VSums.lean ====
/-
  Sums and comparisons of 32-bit words as sums and comparisons of natural numbers.
-/
module

public import Idealize.ShloMosaic.PureOps.Ideal
public import Idealize.ShloMosaic.PureOps
public import Mathlib.Algebra.BigOperators.Fin
public import Mathlib.Data.BitVec
public import Idealize.ShloMosaic.Lib.Pointwise

@[expose] public section

noncomputable section

namespace Cert.Values

open Idealize.ShloMosaic

/-- Row `r` is at or after `a` and before `b`. -/
theorem between (a b : ℕ) (ha : a ≤ 96) (hb : b ≤ 96) (r : Fin 96) :
    IntOp.andi (IntOp.cmpi .sge (BitVec.ofNat 32 r.val) (BitVec.ofNat 32 a)) (IntOp.cmpi .slt (BitVec.ofNat 32 r.val) (BitVec.ofNat 32 b)) = 1#1
      ↔ a ≤ r.val ∧ r.val < b := by
  have hr := r.isLt
  have ti : ∀ n : ℕ, n ≤ 96 → (BitVec.ofNat 32 n).toInt = n := fun n hn => by
    rw [BitVec.toInt_eq_toNat_cond, BitVec.toNat_ofNat]; split <;> omega
  have e1 : IntOp.cmpi .sge (BitVec.ofNat 32 r.val) (BitVec.ofNat 32 a) = BitVec.ofBool (decide (a ≤ r.val)) := by
    show BitVec.ofBool _ = _
    congr 1
    show (BitVec.ofNat 32 a).sle (BitVec.ofNat 32 r.val) = _
    rw [BitVec.sle_eq_decide, ti _ ha, ti _ (by omega)]
    simp
  have e2 : IntOp.cmpi .slt (BitVec.ofNat 32 r.val) (BitVec.ofNat 32 b) = BitVec.ofBool (decide (r.val < b)) := by
    show BitVec.ofBool _ = _
    congr 1
    show (BitVec.ofNat 32 r.val).slt (BitVec.ofNat 32 b) = _
    rw [BitVec.slt_eq_decide, ti _ hb, ti _ (by omega)]
    simp
  rw [e1, e2]
  by_cases h1 : a ≤ r.val <;> by_cases h2 : r.val < b <;> simp [h1, h2] <;> decide

/-- A wrapping sum of words is the sum of their numbers, wrapped. -/
theorem fold_toNat {ι : Type} (f : ι → BitVec 32) (s : Finset ι) :
    (s.fold IntOp.addi 0#32 f).toNat = (∑ i ∈ s, (f i).toNat) % 2 ^ 32 := by
  classical
  induction s using Finset.induction_on with
  | empty => rfl
  | insert a s ha ih =>
    rw [Finset.fold_insert ha, Finset.sum_insert ha]
    show (f a + _).toNat = _
    rw [BitVec.toNat_add, ih]; omega

theorem sum_toNat {ι : Type} (f : ι → BitVec 32) (s : Finset ι) : (∑ i ∈ s, f i).toNat = (∑ i ∈ s, (f i).toNat) % 2 ^ 32 := by
  classical
  induction s using Finset.induction_on with
  | empty => rfl
  | insert a s ha ih =>
    rw [Finset.sum_insert ha, Finset.sum_insert ha, BitVec.toNat_add, ih]; omega

theorem and_bits : ∀ a b : BitVec 1, IntOp.andi a b = 1#1 → a = 1#1 ∧ b = 1#1 := by decide

/-- A conjunction of truth values is true when each of them is. -/
theorem fold_and {ι : Type} (f : ι → BitVec 1) (s : Finset ι) (h : s.fold IntOp.andi 1#1 f = 1#1) : ∀ i ∈ s, f i = 1#1 := by
  classical
  induction s using Finset.induction_on with
  | empty => intro i hi; simp at hi
  | insert a s ha ih =>
    rw [Finset.fold_insert ha] at h
    obtain ⟨h1, h2⟩ := and_bits _ _ h
    intro i hi
    rcases Finset.mem_insert.mp hi with rfl | hi
    · exact h1
    · exact ih h2 i hi

/-- A sum over 1408 is the sum over its even places plus the sum over its odd ones. -/
theorem halves (f : Fin 1408 → EReal) :
    ∑ k : Fin 1408, f k = (∑ k : Fin 704, f ⟨2 * k.val, by omega⟩) + ∑ k : Fin 704, f ⟨2 * k.val + 1, by omega⟩ := by
  have h : ∀ (G : ℕ → EReal) n, ∑ i ∈ Finset.range (2 * n), G i = (∑ i ∈ Finset.range n, G (2 * i)) + ∑ i ∈ Finset.range n, G (2 * i + 1) := by
    intro G n
    induction n with
    | zero => simp
    | succ n ih =>
      rw [show 2 * (n + 1) = 2 * n + 1 + 1 by ring, Finset.sum_range_succ, Finset.sum_range_succ, ih, Finset.sum_range_succ, Finset.sum_range_succ]
      abel
  have hG := h (fun n => if q : n < 1408 then f ⟨n, q⟩ else 0) 704
  rw [show 2 * 704 = 1408 from rfl, Finset.sum_range, Finset.sum_range, Finset.sum_range] at hG
  refine Eq.trans (Finset.sum_congr rfl fun k _ => ?_) (hG.trans (congrArg₂ _ (Finset.sum_congr rfl fun k _ => ?_) (Finset.sum_congr rfl fun k _ => ?_)))
  · simp only [dif_pos k.isLt]
  · exact dif_pos (by have := k.isLt; omega)
  · exact dif_pos (by have := k.isLt; omega)

end Cert.Values

end
-- ==== Proof.VPre.lean ====
/-
  What the precondition says, entry by entry.
-/
module

public import proofs.«01_k».proof.Pre_whole_groups
public import proofs.«01_k».proof.Proof.VScan
public import proofs.«01_k».proof.Proof.VSums
public import Idealize.ShloMosaic.Lib.Pointwise

@[expose] public section

set_option maxRecDepth 16384

noncomputable section

namespace Cert.Values

open Cert.KernelIdeal Cert.KernelIdeal.Gen Cert.KernelIdeal.Hand
open Idealize.ShloMosaic Idealize.ShloMosaic.TcCoe

/-- The shape conditions of the precondition's own operations. -/
theorem preFacts : Cert.Pre_whole_groups.Facts where
  bitsLt_bf16_f32 := by decide
  bcast_S_S64 := by decide
  reducesTo_S64_S_d0 := by decide
  h_S_ := by decide
  bcast_S_S96x1408 := by decide
  reducesTo_S96x1408_S_d0_1 := by decide

/-- A word from 0 to 96, read as signed, is so as a natural number. -/
theorem small {b : BitVec 32} (h1 : IntOp.cmpi .sge b 0#32 = 1#1) (h2 : IntOp.cmpi .sle b 96#32 = 1#1) : b.toNat ≤ 96 := by
  have h1 : BitVec.ofBool ((0#32).sle b) = 1#1 := h1
  have h2 : BitVec.ofBool (b.sle 96#32) = 1#1 := h2
  have t : ∀ p : Bool, BitVec.ofBool p = 1#1 → p = true := by decide
  have h1 := t _ h1
  have h2 := t _ h2
  rw [BitVec.sle_eq_decide, decide_eq_true_eq, BitVec.toInt_eq_toNat_cond, BitVec.toInt_eq_toNat_cond] at h1 h2
  have hb := b.isLt
  simp only [BitVec.toNat_ofNat] at h1 h2
  split at h1 <;> split at h2 <;> omega

theorem word_eq {a b : BitVec 32} (h : IntOp.cmpi .eq a b = 1#1) : a = b := by
  have h : BitVec.ofBool (a == b) = 1#1 := h
  have t : ∀ p : Bool, BitVec.ofBool p = 1#1 → p = true := by decide
  exact eq_of_beq (t _ h)

theorem truth_or {p q : Prop} [Decidable p] [Decidable q] (h : IntOp.ori (BitVec.ofBool (decide p)) (BitVec.ofBool (decide q)) = 1#1) : p ∨ q := by
  by_cases hp : p
  · exact Or.inl hp
  · by_cases hq : q
    · exact Or.inr hq
    · simp only [hp, hq, decide_false] at h; exact absurd h (by decide)

/-- The precondition in words: each group size is from 0 to 96, they sum to 96 (as 32-bit words), and each activation is at most the largest finite number of its type in magnitude, or infinite. -/
theorem pre_words [Cert.Pre_whole_groups.Facts] (x : S96x1408.Idx → Elt Ideal .bf16) (g : S64.Idx → Elt Ideal .i32) (w : S64x704x3072.Idx → Elt Ideal .i8)
    (s : S64x11x3072.Idx → Elt Ideal .f32) (h : Cert.Pre_whole_groups.fn (F := Ideal) x g w s = fun _ => 1#1) :
    (∀ e : Fin 64, (g (ix1 e) : BitVec 32).toNat ≤ 96) ∧ (∑ e : Fin 64, (g (ix1 e) : BitVec 32).toNat) = 96
      ∧ ∀ r k, FloatOps.absf (F := Ideal) (φ := .f32) (x (ix2 r k)) ≤ Ideal.ofBits .f32 0x7F7F0000#32 ∨ FloatOps.absf (F := Ideal) (φ := .f32) (x (ix2 r k)) = Ideal.ofBits .f32 0x7F800000#32 := by
  have h0 := congrFun h ix0
  pointwise [Cert.Pre_whole_groups.fn, Cert.Pre_whole_groups.fn_part1] at h0
  obtain ⟨h1, h4⟩ := and_bits _ _ h0
  obtain ⟨h2, h3⟩ := and_bits _ _ h1
  have h5 := fold_and _ _ h2
  have h6 := fold_and _ _ h4
  have q : ∀ e : Fin 64, (g (ix1 e) : BitVec 32).toNat ≤ 96 := fun e =>
    small (and_bits _ _ (h5 e (Finset.mem_univ _))).1 (and_bits _ _ (h5 e (Finset.mem_univ _))).2
  refine ⟨q, ?_, fun r k => ?_⟩
  · have e := congrArg BitVec.toNat (word_eq h3)
    rw [fold_toNat] at e
    have hb : (∑ k : Fin 64, (g (ix1 k) : BitVec 32).toNat) ≤ ∑ _k : Fin 64, 96 := Finset.sum_le_sum fun k _ => q k
    rw [Finset.sum_const, Finset.card_univ, Fintype.card_fin] at hb
    change _ = 96 at e
    rw [smul_eq_mul] at hb
    omega
  · exact truth_or (h6 (r, k) (Finset.mem_univ _))

end Cert.Values

end
-- ==== Proof.VRef.lean ====
/-
  The reference's result, index by index.
-/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Values.Ref

open Cert.ReferenceIdeal Cert.ReferenceIdeal.Gen
open Idealize.ShloMosaic Idealize.ShloMosaic.TcCoe Idealize.SL.Sem

/-! ## The result in named parts -/

/-- The activations in blocks of 128. -/
def blocks (x : S96x1408.Idx → Elt Ideal .bf16) : FVec Ideal S96x11x128 .f32 :=
  shapeCast S96x11x128 (extf .f32 x bitsLt_bf16_f32) shapeCasts_S96x1408_S96x11x128

/-- The powers of two from -148 to 127. -/
def powers : FVec Ideal S276 .f32 :=
  Host.powf (broadcastInDim S276 ![] bcast_S_S276 (constant S_ .f32 0x40000000#32)) (sitofp .f32 (addi (broadcastInDim S276 ![] bcast_S_S276 (constantI S_ 32 4294967148#32)) (iotaInDim S276 32 0)))

/-- Each block's largest magnitude. -/
def largest (x : S96x1408.Idx → Elt Ideal .bf16) : FVec Ideal S96x11 .f32 :=
  Host.reduce FloatOps.maximumf (Host.absf (blocks x)) (constant S_ .f32 0xFF800000#32) reducesTo_S96x11x128_S96x11_d2 h_S_

/-- Each block's largest magnitude over the largest code. -/
def ratios (x : S96x1408.Idx → Elt Ideal .bf16) : FVec Ideal S96x11 .f32 :=
  mulf (largest x) (broadcastInDim S96x11 ![] bcast_S_S96x11 (constant S_ .f32 0x3B124925#32))

/-- Each block's scale: 1, or the least power of two above the ratio. -/
def scales (x : S96x1408.Idx → Elt Ideal .bf16) : FVec Ideal S96x11 .f32 :=
  select (ori (cmpf .oeq (largest x) (broadcastInDim S96x11 ![] bcast_S_S96x11 (constant S_ .f32 0x00000000#32))) (cmpf .oeq (ratios x) (broadcastInDim S96x11 ![] bcast_S_S96x11 (constant S_ .f32 0x7F800000#32)))) (broadcastInDim S96x11 ![] bcast_S_S96x11 (id (constant S_ .f32 0x3F800000#32))) (Host.reduce FloatOps.minimumf (select (cmpf .ogt (broadcastInDim S96x11x276 ![0, 1, 2] bcast_S1x1x276_S96x11x276_0_1_2 (broadcastInDim S1x1x276 ![2] bcast_S276_S1x1x276_2 powers)) (broadcastInDim S96x11x276 ![0, 1, 2] bcast_S96x11x1_S96x11x276_0_1_2 (broadcastInDim S96x11x1 ![0, 1] bcast_S96x11_S96x11x1_0_1 (ratios x)))) (broadcastInDim S96x11x276 ![2] bcast_S276_S96x11x276_2 powers) (broadcastInDim S96x11x276 ![] bcast_S_S96x11x276 (id (constant S_ .f32 0x7F800000#32)))) (constant S_ .f32 0x7F800000#32) reducesTo_S96x11x276_S96x11_d2 h_S_)

/-- The activations over their blocks' scales. -/
def scaled (x : S96x1408.Idx → Elt Ideal .bf16) : FVec Ideal S96x1408 .f32 :=
  shapeCast S96x1408 (Host.divf (blocks x) (broadcastInDim S96x11x128 ![0, 1, 2] bcast_S96x11x1_S96x11x128_0_1_2 (broadcastInDim S96x11x1 ![0, 1] bcast_S96x11_S96x11x1_0_1 (scales x)))) shapeCasts_S96x11x128_S96x1408

/-- Codes times their blocks' scales, in pairs. -/
def actsOf (codes : FVec Ideal S96x1408 .bf16) (sc : FVec Ideal S96x11 .f32) : FVec Ideal S96x704x2 .bf16 :=
  shapeCast S96x704x2 (mulf (shapeCast S96x11x128 codes shapeCasts_S96x1408_S96x11x128) (broadcastInDim S96x11x128 ![0, 1, 2] bcast_S96x11x1_S96x11x128_0_1_2 (broadcastInDim S96x11x1 ![0, 1] bcast_S96x11_S96x11x1_0_1 (truncf .bf16 sc bitsLt_bf16_f32)))) shapeCasts_S96x11x128_S96x704x2

/-- The row after each expert's last. -/
def ends (g : S64.Idx → Elt Ideal .i32) : IVec S64 32 :=
  Host.reduceWindow IntOp.addi ![64] ![1] ![63] ![0] g (broadcastInDim S_ ![] bcast_S_S_ (constantI S_ 32 0#32)) reduceWindows_S64_S64_w64s1p63_0 h_S_

/-- The rows that are each expert's own. -/
def own (g : S64.Idx → Elt Ideal .i32) : IVec S96x64 1 :=
  andi (cmpi .sge (broadcastInDim S96x64 ![0, 1] bcast_S96x1_S96x64_0_1 (broadcastInDim S96x1 ![0] bcast_S96_S96x1_0 (iotaInDim S96 32 0))) (broadcastInDim S96x64 ![0, 1] bcast_S1x64_S96x64_0_1 (broadcastInDim S1x64 ![1] bcast_S64_S1x64_1 (subi (ends g) g)))) (cmpi .slt (broadcastInDim S96x64 ![0, 1] bcast_S96x1_S96x64_0_1 (broadcastInDim S96x1 ![0] bcast_S96_S96x1_0 (iotaInDim S96 32 0))) (broadcastInDim S96x64 ![0, 1] bcast_S1x64_S96x64_0_1 (broadcastInDim S1x64 ![1] bcast_S64_S1x64_1 (ends g))))

/-- The packed weights, widened. -/
def bytes (w : S64x704x3072.Idx → Elt Ideal .i8) : IVec S64x704x3072 32 :=
  extui 32 w natLt_8_32

/-- The low halves of the packed weights, signed. -/
def low (w : S64x704x3072.Idx → Elt Ideal .i8) : IVec S64x704x3072 32 :=
  select (cmpi .slt (andi (bytes w) (broadcastInDim S64x704x3072 ![] bcast_S_S64x704x3072 (constantI S_ 32 15#32))) (broadcastInDim S64x704x3072 ![] bcast_S_S64x704x3072 (constantI S_ 32 8#32))) (andi (bytes w) (broadcastInDim S64x704x3072 ![] bcast_S_S64x704x3072 (constantI S_ 32 15#32))) (subi (andi (bytes w) (broadcastInDim S64x704x3072 ![] bcast_S_S64x704x3072 (constantI S_ 32 15#32))) (broadcastInDim S64x704x3072 ![] bcast_S_S64x704x3072 (constantI S_ 32 16#32)))

/-- The high halves of the packed weights, signed. -/
def high (w : S64x704x3072.Idx → Elt Ideal .i8) : IVec S64x704x3072 32 :=
  select (cmpi .slt (Host.shrsi (bytes w) (broadcastInDim S64x704x3072 ![] bcast_S_S64x704x3072 (constantI S_ 32 4#32))) (broadcastInDim S64x704x3072 ![] bcast_S_S64x704x3072 (constantI S_ 32 8#32))) (Host.shrsi (bytes w) (broadcastInDim S64x704x3072 ![] bcast_S_S64x704x3072 (constantI S_ 32 4#32))) (subi (Host.shrsi (bytes w) (broadcastInDim S64x704x3072 ![] bcast_S_S64x704x3072 (constantI S_ 32 4#32))) (broadcastInDim S64x704x3072 ![] bcast_S_S64x704x3072 (constantI S_ 32 16#32)))

/-- The scales, at every row of their groups. -/
def spreadS (s : S64x11x3072.Idx → Elt Ideal .f32) : FVec Ideal S64x11x64x3072 .bf16 :=
  broadcastInDim S64x11x64x3072 ![0, 1, 2, 3] bcast_S64x11x1x3072_S64x11x64x3072_0_1_2_3 (broadcastInDim S64x11x1x3072 ![0, 1, 3] bcast_S64x11x3072_S64x11x1x3072_0_1_3 (truncf .bf16 s bitsLt_bf16_f32))

/-- The weights of the even rows. -/
def lowW (w : S64x704x3072.Idx → Elt Ideal .i8) (s : S64x11x3072.Idx → Elt Ideal .f32) : FVec Ideal S64x704x3072 .bf16 :=
  shapeCast S64x704x3072 (mulf (shapeCast S64x11x64x3072 (sitofp .bf16 (low w)) shapeCasts_S64x704x3072_S64x11x64x3072) (spreadS s)) shapeCasts_S64x11x64x3072_S64x704x3072

/-- The weights of the odd rows. -/
def highW (w : S64x704x3072.Idx → Elt Ideal .i8) (s : S64x11x3072.Idx → Elt Ideal .f32) : FVec Ideal S64x704x3072 .bf16 :=
  shapeCast S64x704x3072 (mulf (shapeCast S64x11x64x3072 (sitofp .bf16 (high w)) shapeCasts_S64x704x3072_S64x11x64x3072) (spreadS s)) shapeCasts_S64x11x64x3072_S64x704x3072

/-- The activations of the even columns. -/
def even (a : FVec Ideal S96x704x2 .bf16) : FVec Ideal S96x704 .bf16 :=
  shapeCast S96x704 (extractStridedSlice S96x704x1 ![0, 0, 0] a slices_S96x704x2_S96x704x1_0_0_0) shapeCasts_S96x704x1_S96x704

/-- The activations of the odd columns. -/
def odd (a : FVec Ideal S96x704x2 .bf16) : FVec Ideal S96x704 .bf16 :=
  shapeCast S96x704 (extractStridedSlice S96x704x1 ![0, 0, 1] a slices_S96x704x2_S96x704x1_0_0_1) shapeCasts_S96x704x1_S96x704

/-- The quantised activations of the even columns. -/
def halfE (x : S96x1408.Idx → Elt Ideal .bf16) : FVec Ideal S96x704 .bf16 := even (actsOf (k0_pay1 (F := Ideal) (scaled x)) (scales x))

/-- The quantised activations of the odd columns. -/
def halfO (x : S96x1408.Idx → Elt Ideal .bf16) : FVec Ideal S96x704 .bf16 := odd (actsOf (k0_pay1 (F := Ideal) (scaled x)) (scales x))

/-- A grouped product: each row times the weights of the expert it is one of. -/
def grouped (g : S64.Idx → Elt Ideal .i32) (a : FVec Ideal S96x704 .bf16) (b : FVec Ideal S64x704x3072 .bf16) : FVec Ideal S96x3072 .f32 :=
  Host.reduceAdd (select (broadcastInDim S96x64x3072 ![0, 1, 2] bcast_S96x64x1_S96x64x3072_0_1_2 (broadcastInDim S96x64x1 ![0, 1] bcast_S96x64_S96x64x1_0_1 (own g))) (Host.dotGeneral dot_S96x704_S64x704x3072_S96x64x3072_1_1_0_02_n_n none a b) (broadcastInDim S96x64x3072 ![] bcast_S_S96x64x3072 (id (constant S_ .f32 0x00000000#32)))) (constant S_ .f32 0x00000000#32) reducesTo_S96x64x3072_S96x3072_d1 h_S_

/-- The sum of the two grouped products. -/
def total (a : FVec Ideal S96x704x2 .bf16) (g : S64.Idx → Elt Ideal .i32) (w : S64x704x3072.Idx → Elt Ideal .i8) (s : S64x11x3072.Idx → Elt Ideal .f32) : FVec Ideal S96x3072 .bf16 :=
  truncf .bf16 (addf (grouped g (even a) (lowW w s)) (grouped g (odd a) (highW w s))) bitsLt_bf16_f32

/-- The reference's result as a function of its arguments. -/
def result (x : S96x1408.Idx → Elt Ideal .bf16) (g : S64.Idx → Elt Ideal .i32) (w : S64x704x3072.Idx → Elt Ideal .i8) (s : S64x11x3072.Idx → Elt Ideal .f32) : FVec Ideal S96x3072 .bf16 :=
  total (actsOf (k0_pay1 (F := Ideal) (scaled x)) (scales x)) g w s

/-! ## What the program computes -/

/-- What the operations after the rounding leave, from any contents they find. -/
theorem tail_eq (W : Valuation τ sig (Elt Ideal)) :
    Value.val13 (F := Ideal) W (Proc.devRef .tc main_v102) = total (actsOf (W (Proc.devRef .tc main_v29)) (W (Proc.devRef .tc main_v24)))
      (W (Proc.devRef .tc main_arg1)) (W (Proc.devRef .tc main_arg2)) (W (Proc.devRef .tc main_arg3)) :=
  (Value.val13_main_v102 W).trans rfl

set_option maxHeartbeats 2000000 in
/-- What the rounding is given: the activations over their blocks' scales. -/
theorem entry_eq (m : (ℓ : Loc nD τ sig) → Buf (Elt Ideal) ℓ) (c : Dev nD) :
    V0 (F := Ideal) m c (Proc.devRef .tc main_v28) = scaled (m ((c.tc : Thread nD τ).loc main_arg0)) := by
  simp only [V0, hostOps0, hostOps0_1, hostOps0_2, hostOps0_3, hostOps0_4, StableHlo.TRef.ternary, StableHlo.TRef.unary, StableHlo.TRef.toBuf, StableHlo.TRef.ofBuf, cast_eq, List.flatten_cons, List.flatten_nil, List.append_nil, List.cons_append, List.nil_append]
  after_results_simp <;> rfl

/-- The rounding's one block starts at the array's first place. -/
theorem idx_one : ∀ t : Fin cfg0.N, win0_0.index t = ![0, 0] :=
  (by decide +kernel : ∀ t : Fin grid0.N, _)

/-- What the rounding leaves: its array is one block, written whole. -/
theorem rounded_eq (m : (ℓ : Loc nD τ sig) → Buf (Elt Ideal) ℓ) (c : Dev nD) :
    Value.reg_main_v29 (F := Ideal) m c = k0_pay1 (F := Ideal) (scaled (m ((c.tc : Thread nD τ).loc main_arg0))) := by
  refine (dats m 0 c).arrAt_eq_of_after_last 1 t0_0 (by decide +kernel) _ fun j => ?_
  blk_simp
  rw [after0_1]
  frame_out
  have e : iblk (F := Ideal) m c 0 t0_0 = scaled (m ((c.tc : Thread nD τ).loc main_arg0)) := by
    rw [← entry_eq m c]
    unfold iblk
    show ((cfg0.win 0).blk t0_0).view.read (Elt Ideal) (V0 m c (Proc.devRef .tc main_v28)) = _
    generalize V0 (F := Ideal) m c (Proc.devRef .tc main_v28) = X
    blk_ext! [idx_one t0_0]
  rw [e]

theorem result_eq (m : (ℓ : Loc nD τ sig) → Buf (Elt Ideal) ℓ) (c : Dev nD) :
    Value.val13 (F := Ideal) (Value.exitV m c) (Proc.devRef .tc main_v102) = result (m ((c.tc : Thread nD τ).loc main_arg0)) (m ((c.tc : Thread nD τ).loc main_arg1))
      (m ((c.tc : Thread nD τ).loc main_arg2)) (m ((c.tc : Thread nD τ).loc main_arg3)) := by
  rw [tail_eq, Value.exit_main_v29, rounded_eq, Value.exit_main_arg1, Value.exit_main_arg2, Value.exit_main_arg3]
  rw [show Value.exitV (F := Ideal) m c (Proc.devRef .tc main_v24) = scales (m ((c.tc : Thread nD τ).loc main_arg0)) from (Value.exit_main_v24 m c).trans rfl]
  rfl

/-- The reference ends with its result in place and its arguments as they were. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v102) = result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (Value.val13_main_v102 (Value.exitV m c)).symm).trans (result_eq m c), (h c).2⟩) (Value.run m g)

end Cert.Values.Ref

end
-- ==== Proof.VScale.lean ====
/-
  The power of two a block of activations is scaled by: a search over the bits of an exponent field finds the power of two
  just above a value.
-/
module

public import Idealize.ShloMosaic.PureOps.Ideal
public import Idealize.ShloMosaic.PureOps

@[expose] public section

noncomputable section

namespace Cert.Values

open Idealize.ShloMosaic

/-- The extended real whose float bits have `f` as their exponent field. -/
def lev (f : BitVec 32) : EReal := Ideal.ofBits .f32 (IntOp.shli .vector f 23#32)

theorem lev_fields : ∀ n : Fin 256, ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- A positive word with an empty significand, by its exponent field. -/
theorem word_val (b : BitVec 32) (n : ℕ) (h1 : (b.extractLsb' 31 1 == 1#1) = false) (h2 : (b.extractLsb' 23 8).toNat = n)
    (h3 : (b.extractLsb' 0 23).toNat = 0) : Ideal.ofBits .f32 b = if n = 255 then ⊤ else if n = 0 then 0
      else (((2 ^ 23 + 0 : ℕ) * (2 : ℝ) ^ ((n : ℤ) - 127 - 23) : ℝ) : EReal) := by
  simp only [Ideal.ofBits, Ideal.ieee]
  rw [h1, h2, h3]
  norm_num

/-- The field of zero is the number zero. -/
theorem lev_zero : lev (BitVec.ofNat 32 0) = 0 :=
  (word_val _ 0 (lev_fields 0).1 (lev_fields 0).2.1 (lev_fields 0).2.2).trans (by norm_num)

/-- The largest field is infinity. -/
theorem lev_top : lev (BitVec.ofNat 32 255) = ⊤ :=
  (word_val _ 255 (lev_fields 255).1 (lev_fields 255).2.1 (lev_fields 255).2.2).trans (by norm_num)

/-- The field `n` is the power of two `n - 127`. -/
theorem lev_pow (n : ℕ) (h1 : 1 ≤ n) (h2 : n ≤ 254) : lev (BitVec.ofNat 32 n) = (((2 : ℝ) ^ ((n : ℤ) - 127) : ℝ) : EReal) := by
  have h := lev_fields ⟨n, by omega⟩
  refine (word_val _ n h.1 h.2.1 h.2.2).trans ?_
  rw [if_neg (by omega), if_neg (by omega)]
  congr 1
  rw [show (((2 ^ 23 + 0 : ℕ) : ℝ)) = (2 : ℝ) ^ (23 : ℤ) by norm_num, ← zpow_add₀ (by norm_num)]
  congr 1
  ring

/-- One bit of the search: it is kept when the value is at least the number with the larger field. -/
def hit (V : EReal) (f b : BitVec 32) : BitVec 32 :=
  if Ideal.cmp .oge V (lev (IntOp.addi f b)) = 1#1 then IntOp.addi f b else f

theorem hit_step {V : EReal} {f : BitVec 32} (b : ℕ) (h : ∃ n, f = BitVec.ofNat 32 n ∧ n + 2 * b ≤ 256
      ∧ lev (BitVec.ofNat 32 n) ≤ V ∧ (n + 2 * b ≤ 255 → V < lev (BitVec.ofNat 32 (n + 2 * b)))) :
    ∃ n, hit V f (BitVec.ofNat 32 b) = BitVec.ofNat 32 n ∧ n + b ≤ 256
      ∧ lev (BitVec.ofNat 32 n) ≤ V ∧ (n + b ≤ 255 → V < lev (BitVec.ofNat 32 (n + b))) := by
  obtain ⟨n, rfl, h1, h2, h3⟩ := h
  have e : IntOp.addi (BitVec.ofNat 32 n) (BitVec.ofNat 32 b) = BitVec.ofNat 32 (n + b) := (BitVec.ofNat_add n b).symm
  unfold hit
  rw [e]
  by_cases hv : lev (BitVec.ofNat 32 (n + b)) ≤ V
  · rw [if_pos (by simp [Ideal.cmp, hv])]
    exact ⟨n + b, rfl, by omega, hv, fun q => by rw [show n + b + b = n + 2 * b by omega] at q ⊢; exact h3 q⟩
  · rw [if_neg (by simp [Ideal.cmp, hv])]
    exact ⟨n, rfl, by omega, h2, fun _ => not_le.mp hv⟩

/-- The exponent field found by the search. -/
def field (V : EReal) : BitVec 32 :=
  hit V (hit V (hit V (hit V (hit V (hit V (hit V (hit V 0#32 128#32) 64#32) 32#32) 16#32) 8#32) 4#32) 2#32) 1#32

/-- It is the field of the largest number not above the value. -/
theorem field_spec {V : EReal} (h : 0 ≤ V) : ∃ n, field V = BitVec.ofNat 32 n ∧ n + 1 ≤ 256
    ∧ lev (BitVec.ofNat 32 n) ≤ V ∧ (n + 1 ≤ 255 → V < lev (BitVec.ofNat 32 (n + 1))) := by
  have h0 : ∃ n, 0#32 = BitVec.ofNat 32 n ∧ n + 2 * 128 ≤ 256
      ∧ lev (BitVec.ofNat 32 n) ≤ V ∧ (n + 2 * 128 ≤ 255 → V < lev (BitVec.ofNat 32 (n + 2 * 128))) :=
    ⟨0, rfl, by omega, by rw [lev_zero]; exact h, fun q => by omega⟩
  exact hit_step 1 (hit_step 2 (hit_step 4 (hit_step 8 (hit_step 16 (hit_step 32 (hit_step 64 (hit_step 128 h0)))))))

/-- The exponent of the scale: 0 for a value too small or too large for the field, else one more than the value's own. -/
def expo (V : EReal) : BitVec 32 :=
  if IntOp.ori (IntOp.cmpi .eq (field V) 0#32) (IntOp.cmpi .eq (field V) 255#32) = 1#1 then 0#32 else IntOp.subi (field V) 126#32

/-- The scale and its inverse, by their exponent fields. -/
def scaleOf (V : EReal) : EReal := lev (IntOp.addi 127#32 (expo V))
def invOf (V : EReal) : EReal := lev (IntOp.subi 127#32 (expo V))

theorem expo_fields : ∀ n : Fin 253, 1 ≤ n.val →
    (if IntOp.ori (IntOp.cmpi .eq (BitVec.ofNat 32 n.val) 0#32) (IntOp.cmpi .eq (BitVec.ofNat 32 n.val) 255#32) = 1#1 then 0#32
      else IntOp.subi (BitVec.ofNat 32 n.val) 126#32) = IntOp.subi (BitVec.ofNat 32 n.val) 126#32
    ∧ IntOp.addi 127#32 (IntOp.subi (BitVec.ofNat 32 n.val) 126#32) = BitVec.ofNat 32 (n.val + 1)
    ∧ IntOp.subi 127#32 (IntOp.subi (BitVec.ofNat 32 n.val) 126#32) = BitVec.ofNat 32 (253 - n.val) := by decide +kernel

/-- A power of two below another has the smaller exponent. -/
theorem pow_lt {a b : ℤ} (h : (((2 : ℝ) ^ a : ℝ) : EReal) < (((2 : ℝ) ^ b : ℝ) : EReal)) : a < b := by
  rw [EReal.coe_lt_coe_iff] at h
  exact (zpow_lt_zpow_iff_right₀ (by norm_num)).mp h

/-- What the scale is: 1 for a value below the smallest normal number; else the power of two just above the value. -/
theorem scale_spec {V : EReal} (h0 : 0 ≤ V) (h1 : V < (((2 : ℝ) ^ (120 : ℤ) : ℝ) : EReal)) :
    (V < (((2 : ℝ) ^ (-126 : ℤ) : ℝ) : EReal) ∧ scaleOf V = 1 ∧ invOf V = 1)
    ∨ ∃ k : ℤ, -125 ≤ k ∧ k ≤ 127 ∧ (((2 : ℝ) ^ (k - 1) : ℝ) : EReal) ≤ V ∧ V < (((2 : ℝ) ^ k : ℝ) : EReal)
        ∧ scaleOf V = (((2 : ℝ) ^ k : ℝ) : EReal) ∧ invOf V = (((2 : ℝ) ^ (-k) : ℝ) : EReal) := by
  obtain ⟨n, e, hn, hl, hu⟩ := field_spec h0
  rcases Nat.eq_zero_or_pos n with rfl | hp
  · left
    have hu := hu (by omega)
    rw [lev_pow 1 (by omega) (by omega)] at hu
    have ee : expo V = 0#32 := by unfold expo; rw [e]; rfl
    refine ⟨by simpa using hu, ?_, ?_⟩
    · unfold scaleOf; rw [ee]
      exact (lev_pow 127 (by omega) (by omega)).trans (by norm_num)
    · unfold invOf; rw [ee]
      exact (lev_pow 127 (by omega) (by omega)).trans (by norm_num)
  · right
    have hn2 : n ≤ 246 := by
      by_contra hc
      rcases Nat.lt_or_ge n 255 with hq | hq
      · rw [lev_pow n hp (by omega)] at hl
        have := pow_lt (lt_of_le_of_lt hl h1)
        omega
      · have hn : n = 255 := by omega
        subst hn
        rw [lev_top] at hl
        exact absurd (lt_of_le_of_lt hl h1) (by simp)
    have hf := expo_fields ⟨n, by omega⟩ hp
    have ee : expo V = IntOp.subi (BitVec.ofNat 32 n) 126#32 := by unfold expo; rw [e]; exact hf.1
    refine ⟨(n : ℤ) - 126, by omega, by omega, ?_, ?_, ?_, ?_⟩
    · rw [show (n : ℤ) - 126 - 1 = (n : ℤ) - 127 by omega, ← lev_pow n hp (by omega)]; exact hl
    · have := hu (by omega)
      rw [lev_pow (n + 1) (by omega) (by omega)] at this
      rw [show (n : ℤ) - 126 = ((n + 1 : ℕ) : ℤ) - 127 by push_cast; omega]; exact this
    · unfold scaleOf; rw [ee, hf.2.1, lev_pow (n + 1) (by omega) (by omega)]
      rw [show (n : ℤ) - 126 = ((n + 1 : ℕ) : ℤ) - 127 by push_cast; omega]
    · unfold invOf; rw [ee, hf.2.2, lev_pow (253 - n) (by omega) (by omega)]
      rw [show -((n : ℤ) - 126) = ((253 - n : ℕ) : ℤ) - 127 by omega]

/-- An infinite value is scaled by 1. -/
theorem scale_top : scaleOf ⊤ = 1 ∧ invOf ⊤ = 1 := by
  obtain ⟨n, e, hn, hl, hu⟩ := field_spec (le_top : (0 : EReal) ≤ ⊤)
  have h : n = 255 := by
    by_contra hc
    exact not_top_lt (hu (by omega))
  have ee : expo ⊤ = 0#32 := by unfold expo; rw [e, h]; rfl
  constructor
  · unfold scaleOf; rw [ee]
    exact (lev_pow 127 (by omega) (by omega)).trans (by norm_num)
  · unfold invOf; rw [ee]
    exact (lev_pow 127 (by omega) (by omega)).trans (by norm_num)

end Cert.Values

end
-- ==== Proof.VQuant.lean ====
/-
  What the kernel stores for the activations: each value times its block's inverse scale, clipped, times the scale.
-/
module

public import proofs.«01_k».proof.Proof.IQuant
public import proofs.«01_k».proof.Proof.VScale
public import Idealize.ShloMosaic.Lib.Pointwise

@[expose] public section

set_option maxRecDepth 16384

noncomputable section

namespace Cert.Values

open Cert.KernelIdeal Cert.KernelIdeal.Gen Cert.KernelIdeal.Hand
open Idealize.ShloMosaic

theorem spread {ι : FTy} (v : FVec Ideal S96x1 ι) (r : Fin 96) (q : Fin 128) :
    broadcastTo S96x128 v broadcasts_S96x1_S96x128 (ix2 r q) = v (ix2 r 0) := by
  pointwise

/-- A step of the search, at an index. -/
theorem step_apply (V : FVec Ideal S96x1 .f32) (f b : IVec S96x1 32) (i : S96x1.Idx) :
    select (cmpf .oge V (bitcastToFloat .f32 (shli (addi f b) (broadcast S96x1 23#32)))) (addi f b) f i = hit (V i) (f i) (b i) := by
  rfl

/-- The search's first step. -/
theorem search_first (v : Vec Ideal S96x128 .bf16) (i : S96x1.Idx) :
    k0_pay356 (F := Ideal) v i = hit (k0_pay355 (F := Ideal) v i) 0#32 128#32 := by
  unfold k0_pay356
  generalize k0_pay355 v = V
  exact step_apply V (broadcast S96x1 0#32) (broadcast S96x1 128#32) i

/-- The first five steps of the search after the first. -/
theorem search_mid (V : FVec Ideal S96x1 .f32) (f : IVec S96x1 32) (i : S96x1.Idx) :
    k0_pay359 V f (addi f (broadcast S96x1 64#32)) k0_pay358 i
      = hit (V i) (hit (V i) (hit (V i) (hit (V i) (hit (V i) (f i) 64#32) 32#32) 16#32) 8#32) 4#32 := by
  rfl

/-- The rest of a block's work, by the value the search is for and the field found so far. -/
theorem block_end (x : FVec Ideal S96x128 .f32) (V : FVec Ideal S96x1 .f32) (f : IVec S96x1 32) (r : Fin 96) (q : Fin 128)
    (h : hit (V (ix2 r 0)) (hit (V (ix2 r 0)) (f (ix2 r 0)) 2#32) 1#32 = field (V (ix2 r 0))) :
    k0_pay363 (k0_pay362 x V f (addi f (broadcast S96x1 2#32)) k0_pay361) (ix2 r q)
      = min (Ideal.ofBits .f32 0x43E00000#32) (max (Ideal.ofBits .f32 0xC3E00000#32) (x (ix2 r q) * invOf (V (ix2 r 0)))) * scaleOf (V (ix2 r 0)) := by
  unfold k0_pay363
  rw [shapeCast_id]
  unfold k0_pay362
  show min _ (max _ (x (ix2 r q) * broadcastTo S96x128 _ _ (ix2 r q))) * broadcastTo S96x128 _ _ (ix2 r q) = _
  rw [spread, spread]
  unfold invOf scaleOf expo
  rw [← h]
  rfl

/-- A block's largest magnitude over the largest code. -/
def ratio (v : Vec Ideal S96x128 .bf16) (r : Fin 96) : EReal :=
  (Finset.univ.fold max (Ideal.ofBits .f32 0xFF800000#32) fun q : Fin 128 => FloatOps.absf (F := Ideal) (φ := .bf16) (v (ix2 r q))) * Ideal.ofBits .f32 0x3B124925#32

theorem ratio_eq (v : Vec Ideal S96x128 .bf16) (r : Fin 96) : k0_pay355 (F := Ideal) v (ix2 r 0) = ratio v r := by
  pointwise [k0_pay355, k0_pay354]
  rfl

theorem qz_apply (v : Vec Ideal S96x128 .bf16) (r : Fin 96) (q : Fin 128) :
    qz (F := Ideal) v (ix2 r q) = min (Ideal.ofBits .f32 0x43E00000#32) (max (Ideal.ofBits .f32 0xC3E00000#32) (v (ix2 r q) * invOf (ratio v r)))
      * scaleOf (ratio v r) := by
  rw [← ratio_eq]
  refine block_end (k0_pay354 v) (k0_pay355 v) (k0_pay359 (k0_pay355 v) (k0_pay356 v) (k0_pay357 v) k0_pay358) r q ?_
  rw [show k0_pay359 (k0_pay355 v) (k0_pay356 v) (k0_pay357 v) k0_pay358 (ix2 r 0) = _ from search_mid (k0_pay355 v) (k0_pay356 v) (ix2 r 0),
    search_first]
  rfl

end Cert.Values

end
-- ==== Proof.VRange.lean ====
/-
  How large a block's ratio can be, and the scale as the least power of two above it.
-/
module

public import proofs.«01_k».proof.Proof.VQuant

@[expose] public section

set_option maxRecDepth 16384

noncomputable section

namespace Cert.Values

open Cert.KernelIdeal Cert.KernelIdeal.Gen Cert.KernelIdeal.Hand
open Idealize.ShloMosaic

/-- A positive finite word, by its exponent field and significand. -/
theorem word_num (b : BitVec 32) (n k : ℕ) (h1 : (b.extractLsb' 31 1 == 1#1) = false) (h2 : (b.extractLsb' 23 8).toNat = n)
    (h3 : (b.extractLsb' 0 23).toNat = k) (h4 : n ≠ 255) (h5 : n ≠ 0) : Ideal.ofBits .f32 b = (((2 ^ 23 + k : ℕ) * (2 : ℝ) ^ ((n : ℤ) - 127 - 23) : ℝ) : EReal) := by
  simp only [Ideal.ofBits, Ideal.ieee]
  rw [h1, h2, h3]
  norm_num [h4, h5]

/-- The reciprocal of 448 in the kernel's and the reference's constant: the nearest number above it. -/
theorem recip_val : ∃ κ : ℝ, Ideal.ofBits .f32 0x3B124925#32 = (κ : EReal) ∧ 1 / 448 < κ ∧ κ < 2 ^ (-8 : ℤ) :=
  ⟨_, word_num 0x3B124925#32 118 0x124925 (by decide) (by decide) (by decide) (by decide) (by decide), by norm_num, by norm_num⟩

theorem max_val : ∃ M : ℝ, Ideal.ofBits .f32 0x7F7F0000#32 = (M : EReal) ∧ M < 2 ^ (128 : ℤ) :=
  ⟨_, word_num 0x7F7F0000#32 254 0x7F0000 (by decide) (by decide) (by decide) (by decide) (by decide), by norm_num⟩

theorem inf_val : Ideal.ofBits .f32 0x7F800000#32 = ⊤ := (word_val _ 255 (by decide) (by decide) (by decide)).trans (by norm_num)

theorem least_val : Ideal.ofBits .f32 0x00800000#32 = (((2 : ℝ) ^ (-126 : ℤ) : ℝ) : EReal) := by
  rw [word_num 0x00800000#32 1 0 (by decide) (by decide) (by decide) (by decide) (by decide)]
  norm_num

theorem one_val : Ideal.ofBits .f32 0x3F800000#32 = 1 := by
  rw [word_num 0x3F800000#32 127 0 (by decide) (by decide) (by decide) (by decide) (by decide)]
  norm_num

theorem two_val : Ideal.ofBits .f32 0x40000000#32 = ((2 : ℝ) : EReal) := by
  rw [word_num 0x40000000#32 128 0 (by decide) (by decide) (by decide) (by decide) (by decide)]
  norm_num

theorem abs_nonneg (x : EReal) : 0 ≤ max x (-x) := by
  rcases le_total 0 x with h | h
  · exact le_max_of_le_left h
  · exact le_max_of_le_right (EReal.neg_nonneg.mpr h)

/-- Over entries that are at most the largest number of their type in magnitude or infinite, a block's ratio is infinite or below `2^120`. -/
theorem ratio_range (v : Vec Ideal S96x128 .bf16)
    (h : ∀ r q, FloatOps.absf (F := Ideal) (φ := .f32) (v (ix2 r q)) ≤ Ideal.ofBits .f32 0x7F7F0000#32
      ∨ FloatOps.absf (F := Ideal) (φ := .f32) (v (ix2 r q)) = Ideal.ofBits .f32 0x7F800000#32) (r : Fin 96) :
    ratio v r = ⊤ ∨ (0 ≤ ratio v r ∧ ratio v r < (((2 : ℝ) ^ (120 : ℤ) : ℝ) : EReal)) := by
  obtain ⟨κ, hκ, k448, k1⟩ := recip_val
  have k0 : 0 < κ := lt_trans (by norm_num) k448
  obtain ⟨M, hM, m1⟩ := max_val
  unfold ratio
  rw [hκ]
  set G : EReal := Finset.univ.fold max (Ideal.ofBits .f32 0xFF800000#32) fun q : Fin 128 => FloatOps.absf (F := Ideal) (φ := .bf16) (v (ix2 r q)) with hG
  have g0 : 0 ≤ G := Finset.le_fold_max _ |>.mpr (Or.inr ⟨0, Finset.mem_univ _, abs_nonneg _⟩)
  by_cases ht : ∃ q : Fin 128, FloatOps.absf (F := Ideal) (φ := .f32) (v (ix2 r q)) = Ideal.ofBits .f32 0x7F800000#32
  · left
    obtain ⟨q, hq⟩ := ht
    have : G = ⊤ := top_le_iff.mp (Finset.le_fold_max _ |>.mpr (Or.inr ⟨q, Finset.mem_univ _, (hq.trans inf_val).ge⟩))
    rw [this]
    exact EReal.top_mul_coe_of_pos k0
  · right
    have gm : G ≤ (M : EReal) := by
      refine Finset.fold_max_le _ |>.mpr ⟨?_, fun q _ => ?_⟩
      · have : Ideal.ofBits .f32 0xFF800000#32 = ⊥ := by
          simp only [Ideal.ofBits, Ideal.ieee]
          rw [show (((0xFF800000#32 : BitVec 32).extractLsb' 31 1) == 1#1) = true by decide, show ((0xFF800000#32 : BitVec 32).extractLsb' 23 8).toNat = 255 by decide, show ((0xFF800000#32 : BitVec 32).extractLsb' 0 23).toNat = 0 by decide]
          norm_num
        rw [this]; exact bot_le
      · rcases h r q with a | a
        · exact a.trans hM.le
        · exact absurd ⟨q, a⟩ ht
    obtain ⟨a, ha⟩ : ∃ a : ℝ, G = (a : EReal) := by
      refine ⟨G.toReal, (EReal.coe_toReal ?_ ?_).symm⟩
      · intro hc; rw [hc] at gm; exact absurd gm (by simp)
      · intro hc; rw [hc] at g0; exact absurd g0 (by simp)
    rw [ha] at g0 gm ⊢
    have a0 : 0 ≤ a := by exact_mod_cast g0
    have a1 : a ≤ M := by exact_mod_cast gm
    rw [← EReal.coe_mul]
    refine ⟨by exact_mod_cast mul_nonneg a0 k0.le, ?_⟩
    rw [EReal.coe_lt_coe_iff]
    have : a * κ < 2 ^ (128 : ℤ) * 2 ^ (-8 : ℤ) := by
      have h2 : a < 2 ^ (128 : ℤ) := lt_of_le_of_lt a1 m1
      exact lt_of_le_of_lt (mul_le_mul_of_nonneg_right h2.le k0.le) (mul_lt_mul_of_pos_left k1 (by positivity))
    refine this.trans_eq ?_
    rw [← zpow_add₀ (by norm_num)]; norm_num

/-- The least of the powers of two above a number that is between two neighbouring powers is the upper one. -/
theorem least_power (V : EReal) (p : Fin 276 → EReal) (hp : ∀ j, p j = (((2 : ℝ) ^ ((j.val : ℤ) - 148) : ℝ) : EReal)) (k : ℤ) (h1 : -125 ≤ k) (h2 : k ≤ 127)
    (hl : (((2 : ℝ) ^ (k - 1) : ℝ) : EReal) ≤ V) (hu : V < (((2 : ℝ) ^ k : ℝ) : EReal)) :
    (Finset.univ.fold min (⊤ : EReal) fun j : Fin 276 => if V < p j then p j else ⊤) = (((2 : ℝ) ^ k : ℝ) : EReal) := by
  apply le_antisymm
  · refine Finset.fold_min_le _ |>.mpr (Or.inr ⟨⟨(k + 148).toNat, by omega⟩, Finset.mem_univ _, ?_⟩)
    have e : p ⟨(k + 148).toNat, by omega⟩ = (((2 : ℝ) ^ k : ℝ) : EReal) := by
      rw [hp]
      congr 2
      show ((k + 148).toNat : ℤ) - 148 = k
      omega
    rw [e, if_pos hu]
  · refine Finset.le_fold_min _ |>.mpr ⟨le_top, fun j _ => ?_⟩
    by_cases hj : V < p j
    · rw [if_pos hj, hp]
      rw [hp] at hj
      have := pow_lt (lt_of_le_of_lt hl hj)
      rw [EReal.coe_le_coe_iff]
      exact zpow_le_zpow_right₀ (by norm_num) (by omega)
    · rw [if_neg hj]; exact le_top

/-- A least entry is one of the entries, or infinite. -/
theorem fold_min_mem {n : ℕ} (f : Fin n → EReal) (S : Finset (Fin n)) : S.fold min (⊤ : EReal) f = ⊤ ∨ ∃ j, S.fold min (⊤ : EReal) f = f j := by
  induction S using Finset.induction with
  | empty => left; exact Finset.fold_empty
  | insert a S ha ih =>
    rw [Finset.fold_insert ha]
    rcases le_total (f a) (S.fold min ⊤ f) with h | h
    · right; exact ⟨a, min_eq_left h⟩
    · rw [min_eq_right h]; exact ih

/-- For a number below the smallest normal one, the least of the powers above it is a power of two above it. -/
theorem least_power_small (V : EReal) (p : Fin 276 → EReal) (hp : ∀ j, p j = (((2 : ℝ) ^ ((j.val : ℤ) - 148) : ℝ) : EReal)) (hV : V < (((2 : ℝ) ^ (-126 : ℤ) : ℝ) : EReal)) :
    ∃ k : ℤ, (Finset.univ.fold min (⊤ : EReal) fun j : Fin 276 => if V < p j then p j else ⊤) = (((2 : ℝ) ^ k : ℝ) : EReal) ∧ V < (((2 : ℝ) ^ k : ℝ) : EReal) := by
  have hlt : (Finset.univ.fold min (⊤ : EReal) fun j : Fin 276 => if V < p j then p j else ⊤) < ⊤ := by
    refine lt_of_le_of_lt (Finset.fold_min_le _ |>.mpr (Or.inr ⟨22, Finset.mem_univ _, le_refl _⟩)) ?_
    have e : p 22 = (((2 : ℝ) ^ (-126 : ℤ) : ℝ) : EReal) := by rw [hp]; norm_num
    rw [e, if_pos hV]
    exact EReal.coe_lt_top _
  rcases fold_min_mem (fun j : Fin 276 => if V < p j then p j else ⊤) Finset.univ with h | ⟨j, h⟩
  · exact absurd h hlt.ne
  · by_cases hj : V < p j
    · refine ⟨(j.val : ℤ) - 148, ?_, ?_⟩
      · rw [h, if_pos hj, hp]
      · rw [← hp]; exact hj
    · rw [if_neg hj] at h
      exact absurd h hlt.ne

theorem code_max : Ideal.ofBits .f32 0x43E00000#32 = ((448 : ℝ) : EReal) := by
  rw [word_num 0x43E00000#32 135 0x600000 (by decide) (by decide) (by decide) (by decide) (by decide)]
  norm_num

theorem code_min : Ideal.ofBits .f32 0xC3E00000#32 = ((-448 : ℝ) : EReal) := by
  simp only [Ideal.ofBits, Ideal.ieee]
  rw [show (((0xC3E00000#32 : BitVec 32).extractLsb' 31 1) == 1#1) = true by decide, show ((0xC3E00000#32 : BitVec 32).extractLsb' 23 8).toNat = 135 by decide, show ((0xC3E00000#32 : BitVec 32).extractLsb' 0 23).toNat = 0x600000 by decide]
  norm_num

/-- An activation whose magnitude over 448 is below a power of two is not clipped when it is divided by it, so multiplying by it gives it back. -/
theorem unclipped (x V : EReal) (κ : ℝ) (k : ℤ) (hκ : 1 / 448 < κ) (h : max x (-x) * (κ : EReal) ≤ V) (hV : V < (((2 : ℝ) ^ k : ℝ) : EReal)) :
    min (Ideal.ofBits .f32 0x43E00000#32) (max (Ideal.ofBits .f32 0xC3E00000#32) (x * (((2 : ℝ) ^ (-k) : ℝ) : EReal))) * (((2 : ℝ) ^ k : ℝ) : EReal) = x := by
  have k0 : 0 < κ := lt_trans (by norm_num) hκ
  have hlt := lt_of_le_of_lt h hV
  induction x with
  | bot =>
    rw [show max (⊥ : EReal) (-⊥) = ⊤ by simp, EReal.top_mul_coe_of_pos k0] at hlt
    exact absurd hlt (by simp)
  | top =>
    rw [show max (⊤ : EReal) (-⊤) = ⊤ by simp, EReal.top_mul_coe_of_pos k0] at hlt
    exact absurd hlt (by simp)
  | coe y =>
    have hp : (0 : ℝ) < 2 ^ k := by positivity
    have hy : |y| * κ < 2 ^ k := by
      have e : max (y : EReal) (-(y : EReal)) = ((|y| : ℝ) : EReal) := by
        rw [← EReal.coe_neg, ← EReal.coe_strictMono.monotone.map_max]; rfl
      rw [e, ← EReal.coe_mul] at hlt
      exact_mod_cast hlt
    have hb : |y| < 448 * 2 ^ k := by
      have h1 : |y| * (1 / 448) ≤ |y| * κ := mul_le_mul_of_nonneg_left hκ.le (_root_.abs_nonneg y)
      linarith
    have hz : |y * 2 ^ (-k)| < 448 := by
      rw [abs_mul, abs_of_pos (by positivity : (0 : ℝ) < 2 ^ (-k)), zpow_neg, ← div_eq_mul_inv, div_lt_iff₀ hp]
      exact hb
    rw [code_max, code_min, ← EReal.coe_mul, max_eq_right, min_eq_right, ← EReal.coe_mul, mul_assoc, ← zpow_add₀ (by norm_num)]
    · simp
    · exact_mod_cast (abs_lt.mp hz).2.le
    · exact_mod_cast (abs_lt.mp hz).1.le

/-- Dividing by a power of two is multiplying by the opposite one. -/
theorem div_pow (x : EReal) (k : ℤ) : Ideal.div x (((2 : ℝ) ^ k : ℝ) : EReal) = x * (((2 : ℝ) ^ (-k) : ℝ) : EReal) := by
  have h : ((2 : ℝ) ^ k : ℝ) ≠ 0 := by positivity
  have h' : (((2 : ℝ) ^ k : ℝ) : EReal) ≠ 0 := by exact_mod_cast h
  unfold Ideal.div
  rw [if_neg h', ← EReal.coe_inv, zpow_neg]

theorem div_one (x : EReal) : Ideal.div x 1 = x * 1 := by
  have h := div_pow x 0
  simpa using h

end Cert.Values

end
-- ==== Proof.VRefActs.lean ====
/-
  The reference's activations are the ones the kernel stores.
-/
module

public import proofs.«01_k».proof.Proof.VRef
public import proofs.«01_k».proof.Proof.VRange

@[expose] public section

set_option maxRecDepth 16384

noncomputable section

namespace Cert.Values.Ref

open Cert.ReferenceIdeal Cert.ReferenceIdeal.Gen
open Idealize.ShloMosaic Idealize.ShloMosaic.TcCoe

/-- The block `b` of the activations. -/
abbrev blk (x : S96x1408.Idx → Elt Ideal .bf16) (b : Fin 11) : Vec Ideal Cert.KernelIdeal.S96x128 .bf16 := Cert.KernelIdeal.Hand.tX (F := Ideal) x (128 * b.val)

theorem blk_apply (x : S96x1408.Idx → Elt Ideal .bf16) (b : Fin 11) (r : Fin 96) (q : Fin 128) (n : Fin 1408) (h : n.val = b.val * 128 + q.val) :
    blk x b (ix2 r q) = x (ix2 r n) := by
  show x (ix2 r (Fin.ofNat 1408 (128 * b.val + q.val))) = _
  congr 2
  apply Fin.ext
  show (128 * b.val + q.val) % 1408 = _
  rw [Nat.mod_eq_of_lt (by omega), h]; ring

/-- A block's largest magnitude, from the kernel's block. -/
def peak (v : Vec Ideal Cert.KernelIdeal.S96x128 .bf16) (r : Fin 96) : EReal :=
  Finset.univ.fold max (Ideal.ofBits .f32 0xFF800000#32) fun q : Fin 128 => FloatOps.absf (F := Ideal) (φ := .bf16) (v (ix2 r q))

theorem peak_ratio (v : Vec Ideal Cert.KernelIdeal.S96x128 .bf16) (r : Fin 96) : ratio v r = peak v r * Ideal.ofBits .f32 0x3B124925#32 := rfl

theorem le_peak (v : Vec Ideal Cert.KernelIdeal.S96x128 .bf16) (r : Fin 96) (q : Fin 128) : max (v (ix2 r q)) (-(v (ix2 r q) : EReal)) ≤ peak v r :=
  Finset.le_fold_max _ |>.mpr (Or.inr ⟨q, Finset.mem_univ _, le_refl _⟩)

theorem largest_eq (x : S96x1408.Idx → Elt Ideal .bf16) (r : Fin 96) (b : Fin 11) : largest x (ix2 r b) = peak (blk x b) r := by
  pointwise [largest, blocks]
  unfold peak
  refine Finset.fold_congr fun q _ => ?_
  rw [blk_apply x b r q ⟨b.val * 128 + q.val, by omega⟩ rfl]
  rfl

theorem ratios_eq (x : S96x1408.Idx → Elt Ideal .bf16) (r : Fin 96) (b : Fin 11) : ratios x (ix2 r b) = ratio (blk x b) r := by
  rw [peak_ratio, ← largest_eq]
  rfl

theorem exponent_val : ∀ k : Fin 276, (IntOp.addi 4294967148#32 (BitVec.ofNat 32 k.val)).toInt = (k.val : ℤ) - 148 := by decide +kernel

theorem powers_eq (k : Fin 276) : powers (ix1 k) = (((2 : ℝ) ^ ((k.val : ℤ) - 148) : ℝ) : EReal) := by
  have e : powers (ix1 k) = Ideal.pow (Ideal.ofBits .f32 0x40000000#32) (FloatOps.sitofp (F := Ideal) .f32 (IntOp.addi 4294967148#32 (BitVec.ofNat 32 k.val))) := by
    pointwise [powers]
  rw [e, two_val]
  show Ideal.pow _ ((((IntOp.addi 4294967148#32 (BitVec.ofNat 32 k.val)).toInt : ℝ)) : EReal) = _
  rw [exponent_val]
  show ((Real.rpow 2 _ : ℝ) : EReal) = _
  congr 1
  exact Real.rpow_intCast 2 _

theorem select_or {p q : Prop} [Decidable p] [Decidable q] (a b : EReal) :
    Scalar.select (IntOp.ori (BitVec.ofBool (decide p)) (BitVec.ofBool (decide q))) a b = if p ∨ q then a else b := by
  by_cases hp : p <;> by_cases hq : q <;> simp only [hp, hq, decide_true, decide_false, or_true, true_or, or_self, if_true, if_false] <;> rfl

theorem scales_form (x : S96x1408.Idx → Elt Ideal .bf16) (r : Fin 96) (b : Fin 11) :
    scales x (ix2 r b) = if largest x (ix2 r b) = Ideal.ofBits .f32 0x00000000#32 ∨ ratios x (ix2 r b) = Ideal.ofBits .f32 0x7F800000#32 then Ideal.ofBits .f32 0x3F800000#32
      else Finset.univ.fold min (Ideal.ofBits .f32 0x7F800000#32) fun k : Fin 276 => if ratios x (ix2 r b) < powers (ix1 k) then powers (ix1 k) else Ideal.ofBits .f32 0x7F800000#32 := by
  pointwise [scales]
  rw [show id (constant (F := Ideal) S_ .f32 0x3F800000#32) ix0 = (1 : EReal) from one_val]
  exact select_or _ _

theorem zero_val : Ideal.ofBits .f32 0x00000000#32 = 0 := (word_val _ 0 (by decide) (by decide) (by decide)).trans (by norm_num)

/-- An activation over its scale, clipped, times the scale: with the reference's scale what it is with the kernel's. The two scales differ only where the ratio
    is below the smallest normal number, and there both give the activation back. -/
theorem quantised_eq (x : S96x1408.Idx → Elt Ideal .bf16)
    (hx : ∀ r k, FloatOps.absf (F := Ideal) (φ := .f32) (x (ix2 r k)) ≤ Ideal.ofBits .f32 0x7F7F0000#32
      ∨ FloatOps.absf (F := Ideal) (φ := .f32) (x (ix2 r k)) = Ideal.ofBits .f32 0x7F800000#32) (r : Fin 96) (b : Fin 11) (q : Fin 128) :
    min (Ideal.ofBits .f32 0x43E00000#32) (max (Ideal.ofBits .f32 0xC3E00000#32) (Ideal.div (blk x b (ix2 r q)) (scales x (ix2 r b)))) * scales x (ix2 r b)
      = min (Ideal.ofBits .f32 0x43E00000#32) (max (Ideal.ofBits .f32 0xC3E00000#32) (blk x b (ix2 r q) * invOf (ratio (blk x b) r))) * scaleOf (ratio (blk x b) r) := by
  rw [scales_form, ratios_eq, largest_eq, inf_val, one_val, zero_val]
  have hv : ratio (blk x b) r = ⊤ ∨ (0 ≤ ratio (blk x b) r ∧ ratio (blk x b) r < (((2 : ℝ) ^ (120 : ℤ) : ℝ) : EReal)) :=
    ratio_range (blk x b) (fun r q => by
      rw [blk_apply x b r q ⟨b.val * 128 + q.val, by omega⟩ rfl]
      exact hx r _) r
  obtain ⟨κ, hκ, k1, -⟩ := recip_val
  have hr : ratio (blk x b) r = peak (blk x b) r * (κ : EReal) := by rw [peak_ratio, hκ]
  have hm : max (blk x b (ix2 r q) : EReal) (-(blk x b (ix2 r q) : EReal)) * (κ : EReal) ≤ ratio (blk x b) r := by
    rw [hr]
    exact mul_le_mul_of_nonneg_right (le_peak _ r q) (EReal.coe_nonneg.mpr (le_trans (by norm_num) k1.le))
  generalize peak (blk x b) r = G at hr
  generalize ratio (blk x b) r = V at hv hm hr
  generalize (blk x b (ix2 r q) : EReal) = z at hm
  rcases hv with hv | ⟨h0, h1⟩
  · subst hv
    rw [if_pos (Or.inr rfl), scale_top.1, scale_top.2, div_one]
  · have ht : V ≠ ⊤ := ne_top_of_lt h1
    rcases scale_spec h0 h1 with ⟨hl, hs, hi⟩ | ⟨k, c1, c2, hl, hu, hs, hi⟩
    · rw [hs, hi]
      by_cases hG : G = 0
      · rw [if_pos (Or.inl hG), div_one]
      · rw [if_neg (by rintro (h | h); exacts [hG h, ht h])]
        obtain ⟨k, e, hk⟩ := least_power_small V (fun k => powers (ix1 k)) powers_eq hl
        rw [e, div_pow, unclipped z V κ k k1 hm hk]
        have h2 := unclipped z V κ 0 k1 hm (lt_trans hl (by rw [EReal.coe_lt_coe_iff]; norm_num))
        simpa using h2.symm
    · have hG : G ≠ 0 := by
        intro h
        rw [h, zero_mul] at hr
        rw [hr] at hl
        exact absurd hl (not_le.mpr (by rw [← EReal.coe_zero, EReal.coe_lt_coe_iff]; positivity))
      rw [if_neg (by rintro (h | h); exacts [hG h, ht h]), least_power V (fun k => powers (ix1 k)) powers_eq k c1 c2 hl hu, hs, hi, div_pow]

/-- The activations the kernel stores, at a row and a column of a block. -/
theorem quant_at (x : S96x1408.Idx → Elt Ideal .bf16) (r : Fin 96) (n : Fin 1408) (b : Fin 11) (q : Fin 128) (h : n.val = b.val * 128 + q.val) :
    Cert.KernelIdeal.Hand.quant (F := Ideal) x (ix2 r n) = min (Ideal.ofBits .f32 0x43E00000#32) (max (Ideal.ofBits .f32 0xC3E00000#32) (x (ix2 r n) * invOf (ratio (blk x b) r)))
      * scaleOf (ratio (blk x b) r) := by
  have e1 : n.val / 128 = b.val := by omega
  have e2 : Fin.ofNat 128 (n.val % 128) = q := by apply Fin.ext; show n.val % 128 % 128 = _; omega
  show Cert.KernelIdeal.Hand.qz (F := Ideal) (Cert.KernelIdeal.Hand.tX (F := Ideal) x (128 * (n.val / 128))) (ix2 r (Fin.ofNat 128 (n.val % 128))) = _
  rw [e1, e2]
  refine (qz_apply _ r q).trans ?_
  rw [show Cert.KernelIdeal.Hand.tX (F := Ideal) x (128 * b.val) (ix2 r q) = x (ix2 r n) from blk_apply x b r q n h]

/-- The even columns of the reference's activations are the kernel's. -/
theorem halfE_eq (x : S96x1408.Idx → Elt Ideal .bf16)
    (hx : ∀ r k, FloatOps.absf (F := Ideal) (φ := .f32) (x (ix2 r k)) ≤ Ideal.ofBits .f32 0x7F7F0000#32
      ∨ FloatOps.absf (F := Ideal) (φ := .f32) (x (ix2 r k)) = Ideal.ofBits .f32 0x7F800000#32) (r : Fin 96) (k : Fin 704) :
    halfE x (ix2 r k) = Cert.KernelIdeal.Hand.quant (F := Ideal) x (ix2 r ⟨2 * k.val, by omega⟩) := by
  have hq := quant_at x r ⟨2 * k.val, by omega⟩ ⟨k.val / 64, by omega⟩ ⟨k.val % 64 * 2, by omega⟩ (by show 2 * k.val = k.val / 64 * 128 + k.val % 64 * 2; omega)
  have hc := quantised_eq x hx r ⟨k.val / 64, by omega⟩ ⟨k.val % 64 * 2, by omega⟩
  have hb := blk_apply x ⟨k.val / 64, by omega⟩ r ⟨k.val % 64 * 2, by omega⟩ ⟨k.val / 64 * 128 + k.val % 64 * 2, by omega⟩ rfl
  rw [hb] at hc
  have hn : (⟨k.val / 64 * 128 + k.val % 64 * 2, by omega⟩ : Fin 1408) = ⟨2 * k.val, by omega⟩ := Fin.ext (by show k.val / 64 * 128 + k.val % 64 * 2 = 2 * k.val; omega)
  rw [hq, ← hn]
  refine Eq.trans ?_ hc
  pointwise [halfE, even, actsOf, k0_pay1, scaled, blocks]
  have e1 : (⟨(k.val / 64 * 128 + k.val % 64 * 2) / 128, by omega⟩ : Fin 11) = ⟨k.val / 64, by omega⟩ := Fin.ext (by show (k.val / 64 * 128 + k.val % 64 * 2) / 128 = k.val / 64; omega)
  have e2 : (⟨(k.val / 64 * 128 + k.val % 64 * 2) / 128 * 128 + (k.val / 64 * 128 + k.val % 64 * 2) % 128, by omega⟩ : Fin 1408) = ⟨k.val / 64 * 128 + k.val % 64 * 2, by omega⟩ := Fin.ext (by show (k.val / 64 * 128 + k.val % 64 * 2) / 128 * 128 + (k.val / 64 * 128 + k.val % 64 * 2) % 128 = k.val / 64 * 128 + k.val % 64 * 2; omega)
  rw [e1, e2]

/-- The odd columns too. -/
theorem halfO_eq (x : S96x1408.Idx → Elt Ideal .bf16)
    (hx : ∀ r k, FloatOps.absf (F := Ideal) (φ := .f32) (x (ix2 r k)) ≤ Ideal.ofBits .f32 0x7F7F0000#32
      ∨ FloatOps.absf (F := Ideal) (φ := .f32) (x (ix2 r k)) = Ideal.ofBits .f32 0x7F800000#32) (r : Fin 96) (k : Fin 704) :
    halfO x (ix2 r k) = Cert.KernelIdeal.Hand.quant (F := Ideal) x (ix2 r ⟨2 * k.val + 1, by omega⟩) := by
  have hq := quant_at x r ⟨2 * k.val + 1, by omega⟩ ⟨k.val / 64, by omega⟩ ⟨k.val % 64 * 2 + 1, by omega⟩ (by show 2 * k.val + 1 = k.val / 64 * 128 + (k.val % 64 * 2 + 1); omega)
  have hc := quantised_eq x hx r ⟨k.val / 64, by omega⟩ ⟨k.val % 64 * 2 + 1, by omega⟩
  have hb := blk_apply x ⟨k.val / 64, by omega⟩ r ⟨k.val % 64 * 2 + 1, by omega⟩ ⟨k.val / 64 * 128 + (k.val % 64 * 2 + 1), by omega⟩ rfl
  rw [hb] at hc
  have hn : (⟨k.val / 64 * 128 + (k.val % 64 * 2 + 1), by omega⟩ : Fin 1408) = ⟨2 * k.val + 1, by omega⟩ := Fin.ext (by show k.val / 64 * 128 + (k.val % 64 * 2 + 1) = 2 * k.val + 1; omega)
  rw [hq, ← hn]
  refine Eq.trans ?_ hc
  pointwise [halfO, odd, actsOf, k0_pay1, scaled, blocks]
  have e1 : (⟨(k.val / 64 * 128 + (k.val % 64 * 2 + 1)) / 128, by omega⟩ : Fin 11) = ⟨k.val / 64, by omega⟩ := Fin.ext (by show (k.val / 64 * 128 + (k.val % 64 * 2 + 1)) / 128 = k.val / 64; omega)
  have e2 : (⟨(k.val / 64 * 128 + (k.val % 64 * 2 + 1)) / 128 * 128 + (k.val / 64 * 128 + (k.val % 64 * 2 + 1)) % 128, by omega⟩ : Fin 1408) = ⟨k.val / 64 * 128 + (k.val % 64 * 2 + 1), by omega⟩ := Fin.ext (by show (k.val / 64 * 128 + (k.val % 64 * 2 + 1)) / 128 * 128 + (k.val / 64 * 128 + (k.val % 64 * 2 + 1)) % 128 = k.val / 64 * 128 + (k.val % 64 * 2 + 1); omega)
  rw [e1, e2]

end Cert.Values.Ref

end
-- ==== Proof.VTile.lean ====
/-
  One expert's share of the result: the packed weights decoded, the product of a column tile, and the rows that are stored.
-/
module

public import proofs.«01_k».proof.Proof.IRun
public import proofs.«01_k».proof.Proof.VScan
public import proofs.«01_k».proof.Proof.VSums
public import Idealize.ShloMosaic.Lib.Pointwise

@[expose] public section

set_option maxRecDepth 16384

noncomputable section

namespace Cert.Values

open Cert.KernelIdeal Cert.KernelIdeal.Gen Cert.KernelIdeal.Hand
open Idealize.ShloMosaic

/-- The signed four-bit number row `n` takes from a byte: the low half for an even row, the high half for an odd one. -/
def nib (b : BitVec 8) (n : ℕ) : BitVec 32 :=
  IntOp.shrsi .vector (IntOp.shli .vector (BitVec.setWidth 32 b) (IntOp.subi 28#32 (IntOp.muli 4#32 (IntOp.andi (BitVec.ofNat 32 n) 1#32)))) 28#32

theorem low_bit (n : ℕ) : IntOp.andi (BitVec.ofNat 32 n) 1#32 = BitVec.ofNat 32 (n % 2) := by
  apply BitVec.eq_of_toNat_eq
  show (BitVec.ofNat 32 n &&& 1#32).toNat = _
  simp [BitVec.toNat_and]
  omega

theorem nib_mod (b : BitVec 8) (m n : ℕ) (h : m % 2 = n % 2) : nib b m = nib b n := by
  unfold nib
  rw [low_bit, low_bit, h]

/-- The weight in row `k` and column `c`: the signed four-bit number times the scale of the row's group. -/
def wd (wv : S704x3072.Idx → Elt Ideal .i8) (sv : S11x3072.Idx → Elt Ideal .f32) (k : Fin 1408) (c : Fin 3072) : EReal :=
  FloatOps.sitofp (F := Ideal) .bf16 (nib (wv (ix2 ⟨k.val / 2, by omega⟩ c)) k.val) * sv (ix2 ⟨k.val / 128, by omega⟩ c)

theorem pay6_apply (a : Vec Ideal S1x64x256 .i8) (s : Vec Ideal S1x1x256 .f32) (r : Fin 128) (q : Fin 256) :
    k0_pay6 (F := Ideal) k0_pay2 a s (ix2 r q)
      = FloatOps.sitofp (F := Ideal) .bf16 (nib (a (ix3 0 ⟨r.val / 2, by omega⟩ q)) r.val) * s (ix3 0 0 q) := by
  pointwise [k0_pay6, k0_pay2]
  rfl

/-- A group's rows of a column tile. -/
theorem deq_apply (wv : S704x3072.Idx → Elt Ideal .i8) (sv : S11x3072.Idx → Elt Ideal .f32) (g j : ℕ) (hg : g < 11) (hj : j < 12)
    (r : Fin 128) (q : Fin 256) (k : Fin 1408) (hk : k.val = 128 * g + r.val) :
    deq wv sv (64 * g) g (256 * j) (ix2 r q) = wd wv sv k ⟨256 * j + q.val, by omega⟩ := by
  show k0_pay6 (F := Ideal) k0_pay2 _ _ _ = _
  rw [pay6_apply]
  unfold wd
  have e1 : tW wv (64 * g) (256 * j) (ix3 0 ⟨r.val / 2, by omega⟩ q) = wv (ix2 ⟨k.val / 2, by omega⟩ ⟨256 * j + q.val, by omega⟩) := by
    show wv (ix2 (Fin.ofNat 704 (64 * g + r.val / 2)) (Fin.ofNat 3072 (256 * j + q.val))) = _
    congr 2 <;> refine Fin.ext ?_ <;> simp only [Fin.ofNat] <;> omega
  have e2 : tS sv g (256 * j) (ix3 0 0 q) = sv (ix2 ⟨k.val / 128, by omega⟩ ⟨256 * j + q.val, by omega⟩) := by
    show sv (ix2 (Fin.ofNat 11 (g + 0)) (Fin.ofNat 3072 (256 * j + q.val))) = _
    congr 2 <;> refine Fin.ext ?_ <;> simp only [Fin.ofNat] <;> omega
  rw [e1, e2, nib_mod _ r.val k.val (by omega)]

/-- A choice is a value when each of its sides is. -/
theorem either {p : Prop} [Decidable p] {α : Type} {f : p → α} {g : ¬ p → α} {z : α} (h1 : ∀ h, f h = z) (h2 : ∀ h, g h = z) : dite p f g = z := by
  by_cases h : p
  · rw [dif_pos h]; exact h1 h
  · rw [dif_neg h]; exact h2 h

/-- A whole column tile. -/
theorem deqTile_apply (wv : S704x3072.Idx → Elt Ideal .i8) (sv : S11x3072.Idx → Elt Ideal .f32) (j : ℕ) (hj : j < 12)
    (k : Fin 1408) (q : Fin 256) : deqTile (F := Ideal) wv sv (256 * j) (ix2 k q) = wd wv sv k ⟨256 * j + q.val, by omega⟩ := by
  pointwise [deqTile]
  have hk := k.isLt
  refine either (fun h => deq_apply wv sv 0 j (by omega) hj ⟨k.val, by omega⟩ q k (show k.val = 128 * 0 + (k.val) by omega)) fun h => ?_
  refine either (fun h => deq_apply wv sv 1 j (by omega) hj ⟨k.val - 128, by omega⟩ q k (show k.val = 128 * 1 + (k.val - 128) by omega)) fun h => ?_
  refine either (fun h => deq_apply wv sv 2 j (by omega) hj ⟨k.val - 128 - 128, by omega⟩ q k (show k.val = 128 * 2 + (k.val - 128 - 128) by omega)) fun h => ?_
  refine either (fun h => deq_apply wv sv 3 j (by omega) hj ⟨k.val - 128 - 128 - 128, by omega⟩ q k (show k.val = 128 * 3 + (k.val - 128 - 128 - 128) by omega)) fun h => ?_
  refine either (fun h => deq_apply wv sv 4 j (by omega) hj ⟨k.val - 128 - 128 - 128 - 128, by omega⟩ q k (show k.val = 128 * 4 + (k.val - 128 - 128 - 128 - 128) by omega)) fun h => ?_
  refine either (fun h => deq_apply wv sv 5 j (by omega) hj ⟨k.val - 128 - 128 - 128 - 128 - 128, by omega⟩ q k (show k.val = 128 * 5 + (k.val - 128 - 128 - 128 - 128 - 128) by omega)) fun h => ?_
  refine either (fun h => deq_apply wv sv 6 j (by omega) hj ⟨k.val - 128 - 128 - 128 - 128 - 128 - 128, by omega⟩ q k (show k.val = 128 * 6 + (k.val - 128 - 128 - 128 - 128 - 128 - 128) by omega)) fun h => ?_
  refine either (fun h => deq_apply wv sv 7 j (by omega) hj ⟨k.val - 128 - 128 - 128 - 128 - 128 - 128 - 128, by omega⟩ q k (show k.val = 128 * 7 + (k.val - 128 - 128 - 128 - 128 - 128 - 128 - 128) by omega)) fun h => ?_
  refine either (fun h => deq_apply wv sv 8 j (by omega) hj ⟨k.val - 128 - 128 - 128 - 128 - 128 - 128 - 128 - 128, by omega⟩ q k (show k.val = 128 * 8 + (k.val - 128 - 128 - 128 - 128 - 128 - 128 - 128 - 128) by omega)) fun h => ?_
  refine either (fun h => deq_apply wv sv 9 j (by omega) hj ⟨k.val - 128 - 128 - 128 - 128 - 128 - 128 - 128 - 128 - 128, by omega⟩ q k (show k.val = 128 * 9 + (k.val - 128 - 128 - 128 - 128 - 128 - 128 - 128 - 128 - 128) by omega)) fun h => ?_
  exact deq_apply wv sv 10 j (by omega) hj ⟨k.val - 128 - 128 - 128 - 128 - 128 - 128 - 128 - 128 - 128 - 128, by omega⟩ q k (show k.val = 128 * 10 + (k.val - 128 - 128 - 128 - 128 - 128 - 128 - 128 - 128 - 128 - 128) by omega)

/-- A row of activations times a column of weights. -/
def cell (wv : S704x3072.Idx → Elt Ideal .i8) (sv : S11x3072.Idx → Elt Ideal .f32) (xs : Vec Ideal S96x1408 .bf16) (r : Fin 96) (c : Fin 3072) : EReal :=
  ∑ k : Fin 1408, xs (ix2 r k) * wd wv sv k c

theorem tilePay_apply (wv : S704x3072.Idx → Elt Ideal .i8) (sv : S11x3072.Idx → Elt Ideal .f32) (xs : Vec Ideal S96x1408 .bf16) (j : ℕ) (hj : j < 12)
    (r : Fin 96) (q : Fin 256) : tilePay (F := Ideal) wv sv xs (256 * j) (ix2 r q) = cell wv sv xs r ⟨256 * j + q.val, by omega⟩ := by
  show k0_pay16 (F := Ideal) _ _ _ = _
  have h : ∀ (a : FVec Ideal S1408x256 .bf16), k0_pay16 (F := Ideal) a xs (ix2 r q) = ∑ k : Fin 1408, xs (ix2 r k) * a (ix2 k q) := by
    intro a; pointwise [k0_pay16]
  rw [h]
  exact Finset.sum_congr rfl fun k _ => by rw [deqTile_apply wv sv j hj k q]

/-- The rows that are stored: from the expert's start up to the next one's. -/
theorem mask_apply (a b : ℕ) (ha : a ≤ 96) (hb : b ≤ 96) (r : Fin 96) (q : Fin 256) :
    k0_pay17 (k0_pay3 (F := Ideal) (BitVec.ofNat 32 a) (BitVec.ofNat 32 b)) (ix2 r q) = 1#1 ↔ a ≤ r.val ∧ r.val < b := by
  have e : k0_pay17 (k0_pay3 (F := Ideal) (BitVec.ofNat 32 a) (BitVec.ofNat 32 b)) (ix2 r q)
      = IntOp.andi (IntOp.cmpi .sge (BitVec.ofNat 32 r.val) (BitVec.ofNat 32 a)) (IntOp.cmpi .slt (BitVec.ofNat 32 r.val) (BitVec.ofNat 32 b)) := by
    pointwise [k0_pay17, k0_pay3]
  rw [e, between a b ha hb r]

/-- The result after the first `j` column tiles of one expert. -/
theorem yTo_apply (wv : S704x3072.Idx → Elt Ideal .i8) (sv : S11x3072.Idx → Elt Ideal .f32) (xs : Vec Ideal S96x1408 .bf16) (a b : ℕ)
    (ha : a ≤ 96) (hb : b ≤ 96) (y : S96x3072.Idx → Elt Ideal .f32) (r : Fin 96) (c : Fin 3072) : ∀ j, j ≤ 12 →
    yTo (F := Ideal) wv sv xs (BitVec.ofNat 32 a) (BitVec.ofNat 32 b) y j (ix2 r c)
      = if c.val < 256 * j ∧ a ≤ r.val ∧ r.val < b then cell wv sv xs r c else y (ix2 r c)
  | 0, _ => by rw [if_neg (by omega)]; rfl
  | j + 1, hj => by
    show yPut _ _ _ _ _ = _
    unfold yPut
    show (if 256 * j ≤ c.val ∧ c.val < 256 * j + 256 ∧ _ = 1#1 then _ else _) = _
    rw [yTo_apply wv sv xs a b ha hb y r c j (by omega)]
    have hm := mask_apply a b ha hb r (Fin.ofNat 256 (c.val - 256 * j))
    have hp := tilePay_apply wv sv xs j (by omega) r (Fin.ofNat 256 (c.val - 256 * j))
    by_cases h : a ≤ r.val ∧ r.val < b
    · by_cases hc : 256 * j ≤ c.val ∧ c.val < 256 * j + 256
      · rw [if_pos ⟨hc.1, hc.2, hm.mpr h⟩, if_pos ⟨by omega, h⟩]
        refine hp.trans ?_
        congr 1
        refine Fin.ext ?_
        simp only [Fin.ofNat]
        omega
      · rw [if_neg (fun q => hc ⟨q.1, q.2.1⟩)]
        by_cases h2 : c.val < 256 * j
        · rw [if_pos ⟨h2, h⟩, if_pos ⟨by omega, h⟩]
        · rw [if_neg (fun q => h2 q.1), if_neg (by omega)]
    · rw [if_neg (fun q => h (hm.mp q.2.2)), if_neg (fun q => h q.2), if_neg (fun q => h q.2)]

/-- One expert's packed weights and scales out of all of them. -/
def wOf (gW : S64x704x3072.Idx → Elt Ideal .i8) (e : Fin 64) : S704x3072.Idx → Elt Ideal .i8 := fun x => gW (ix3 e (x 0) (x 1))
def sOf (gS : S64x11x3072.Idx → Elt Ideal .f32) (e : Fin 64) : S11x3072.Idx → Elt Ideal .f32 := fun x => gS (ix3 e (x 0) (x 1))

theorem read_w (gW : hbW.view.ty.Contents (Elt Ideal)) (e : Fin 64) : (expW e).view.read (Elt Ideal) gW = wOf gW e :=
  funext fun x => congrArg gW (expW_emb e x)
theorem read_s (gS : hbS.view.ty.Contents (Elt Ideal)) (e : Fin 64) : (expS e).view.read (Elt Ideal) gS = sOf gS e :=
  funext fun x => congrArg gS (expS_emb e x)

/-- What the main loop leaves: every row holds its own expert's product. -/
theorem yAll_apply (g : S64.Idx → Elt Ideal .i32) (gL gA : S65.Idx → Elt Ideal .i32) (hg : ∀ e, e < 64 → (gsz g e : BitVec 32).toNat ≤ 96)
    (hs : off g 64 = 96) (gW : S64x704x3072.Idx → Elt Ideal .i8) (gS : S64x11x3072.Idx → Elt Ideal .f32) (xs : Vec Ideal S96x1408 .bf16)
    (y : S96x3072.Idx → Elt Ideal .f32) (r : Fin 96) (c : Fin 3072) :
    ∃ e : Fin 64, off g e.val ≤ r.val ∧ r.val < off g (e.val + 1)
      ∧ yAll (F := Ideal) gW gS (listed g gL gA) xs (starts g gL gA) y (Hand.scan g gL gA 64).1.1.toNat (ix2 r c)
        = cell (wOf gW e) (sOf gS e) xs r c := by
  obtain ⟨s0, sn, sj⟩ := starts_spec g gL gA hg hs
  have hle := scan_le g gL gA 64 (le_refl _)
  have ho : ∀ e : Fin 64, off g (e.val + 1) ≤ 96 := fun e => hs ▸ off_mono g (by omega)
  have H : ∀ t, t ≤ (Hand.scan g gL gA 64).1.1.toNat → r.val < (ent (starts g gL gA) t).toNat → ∃ e : Fin 64, off g e.val ≤ r.val ∧ r.val < off g (e.val + 1)
      ∧ yAll (F := Ideal) gW gS (listed g gL gA) xs (starts g gL gA) y t (ix2 r c) = cell (wOf gW e) (sOf gS e) xs r c := by
    intro t
    induction t with
    | zero => intro _ h; rw [s0] at h; exact absurd h (Nat.not_lt_zero _)
    | succ t ih =>
      intro ht hr
      obtain ⟨e1, e2⟩ := sj t (by omega)
      have o2 := ho (listed g gL gA t)
      have o1 := (off_mono g (Nat.le_succ (listed g gL gA t).val)).trans o2
      rw [e2, BitVec.toNat_ofNat, Nat.mod_eq_of_lt (by omega)] at hr
      have e3 : yAll (F := Ideal) gW gS (listed g gL gA) xs (starts g gL gA) y (t + 1)
          = yTo (F := Ideal) ((expW (listed g gL gA t)).view.read (Elt Ideal) gW) ((expS (listed g gL gA t)).view.read (Elt Ideal) gS) xs
              (ent (starts g gL gA) t) (ent (starts g gL gA) (t + 1))
              (yAll (F := Ideal) gW gS (listed g gL gA) xs (starts g gL gA) y t) 12 := rfl
      rw [e3, e1, e2, read_w, read_s, yTo_apply _ _ _ _ _ o1 o2 _ _ _ 12 (le_refl _)]
      by_cases h : off g (listed g gL gA t).val ≤ r.val
      · exact ⟨listed g gL gA t, h, hr, if_pos ⟨by omega, h, hr⟩⟩
      · obtain ⟨e, q1, q2, q3⟩ := ih (by omega) (by rw [e1, BitVec.toNat_ofNat, Nat.mod_eq_of_lt (by omega)]; omega)
        exact ⟨e, q1, q2, (if_neg (fun q => h q.2.1)).trans q3⟩
  refine H _ (le_refl _) ?_
  rw [sn]
  exact r.isLt

end Cert.Values

end
-- ==== Proof.VRefWeights.lean ====
/-
  The reference's weights and row ranges, index by index.
-/
module

public import proofs.«01_k».proof.Proof.VRef
public import proofs.«01_k».proof.Proof.VTile
public import Idealize.ShloMosaic.Lib.Routing.OpsOne
public import Idealize.ShloMosaic.Lib.Pointwise.IndexBridge

@[expose] public section

set_option maxRecDepth 16384

noncomputable section

namespace Cert.Values.Ref

open Cert.ReferenceIdeal Cert.ReferenceIdeal.Gen
open Idealize.ShloMosaic Idealize.ShloMosaic.TcCoe

/-- The signed low half of a byte is what the kernel's shifts give for an even row. -/
theorem nib_low : ∀ b : BitVec 8, Scalar.select (IntOp.cmpi .slt (IntOp.andi (BitVec.setWidth 32 b) 15#32) 8#32) (IntOp.andi (BitVec.setWidth 32 b) 15#32)
    (IntOp.subi (IntOp.andi (BitVec.setWidth 32 b) 15#32) 16#32) = nib b 0 := by
  have h : ∀ n : Fin 256, Scalar.select (IntOp.cmpi .slt (IntOp.andi (BitVec.setWidth 32 (BitVec.ofFin n : BitVec 8)) 15#32) 8#32) (IntOp.andi (BitVec.setWidth 32 (BitVec.ofFin n : BitVec 8)) 15#32)
    (IntOp.subi (IntOp.andi (BitVec.setWidth 32 (BitVec.ofFin n : BitVec 8)) 15#32) 16#32) = nib (BitVec.ofFin n) 0 := by decide +kernel
  exact fun b => h b.toFin

/-- The signed high half of a byte is what the kernel's shifts give for an odd row. -/
theorem nib_high : ∀ b : BitVec 8, Scalar.select (IntOp.cmpi .slt (IntOp.shrsi .host (BitVec.setWidth 32 b) 4#32) 8#32) (IntOp.shrsi .host (BitVec.setWidth 32 b) 4#32)
    (IntOp.subi (IntOp.shrsi .host (BitVec.setWidth 32 b) 4#32) 16#32) = nib b 1 := by
  have h : ∀ n : Fin 256, Scalar.select (IntOp.cmpi .slt (IntOp.shrsi .host (BitVec.setWidth 32 (BitVec.ofFin n : BitVec 8)) 4#32) 8#32) (IntOp.shrsi .host (BitVec.setWidth 32 (BitVec.ofFin n : BitVec 8)) 4#32)
    (IntOp.subi (IntOp.shrsi .host (BitVec.setWidth 32 (BitVec.ofFin n : BitVec 8)) 4#32) 16#32) = nib (BitVec.ofFin n) 1 := by decide +kernel
  exact fun b => h b.toFin

/-- The even rows' weights. -/
theorem lowW_eq (w : S64x704x3072.Idx → Elt Ideal .i8) (s : S64x11x3072.Idx → Elt Ideal .f32) (e : Fin 64) (k : Fin 704) (c : Fin 3072) :
    lowW w s (ix3 e k c) = wd (wOf w e) (sOf s e) ⟨2 * k.val, by omega⟩ c := by
  have h1 : (⟨2 * k.val / 2, by omega⟩ : Fin 704) = k := Fin.ext (by show 2 * k.val / 2 = k.val; omega)
  have h2 : (⟨2 * k.val / 128, by omega⟩ : Fin 11) = ⟨k.val / 64, by omega⟩ := Fin.ext (by show 2 * k.val / 128 = k.val / 64; omega)
  have e1 : wd (wOf w e) (sOf s e) ⟨2 * k.val, by omega⟩ c = FloatOps.sitofp (F := Ideal) .bf16 (nib (w (ix3 e k c)) 0) * s (ix3 e ⟨k.val / 64, by omega⟩ c) := by
    rw [← nib_mod (w (ix3 e k c)) (2 * k.val) 0 (by omega)]
    show FloatOps.sitofp (F := Ideal) .bf16 (nib (w (ix3 e ⟨2 * k.val / 2, by omega⟩ c)) (2 * k.val)) * s (ix3 e ⟨2 * k.val / 128, by omega⟩ c) = _
    rw [h1, h2]
  rw [e1, ← nib_low]
  pointwise [lowW, spreadS, low, bytes]

/-- The odd rows' weights. -/
theorem highW_eq (w : S64x704x3072.Idx → Elt Ideal .i8) (s : S64x11x3072.Idx → Elt Ideal .f32) (e : Fin 64) (k : Fin 704) (c : Fin 3072) :
    highW w s (ix3 e k c) = wd (wOf w e) (sOf s e) ⟨2 * k.val + 1, by omega⟩ c := by
  have h1 : (⟨(2 * k.val + 1) / 2, by omega⟩ : Fin 704) = k := Fin.ext (by show (2 * k.val + 1) / 2 = k.val; omega)
  have h2 : (⟨(2 * k.val + 1) / 128, by omega⟩ : Fin 11) = ⟨k.val / 64, by omega⟩ := Fin.ext (by show (2 * k.val + 1) / 128 = k.val / 64; omega)
  have e1 : wd (wOf w e) (sOf s e) ⟨2 * k.val + 1, by omega⟩ c = FloatOps.sitofp (F := Ideal) .bf16 (nib (w (ix3 e k c)) 1) * s (ix3 e ⟨k.val / 64, by omega⟩ c) := by
    rw [← nib_mod (w (ix3 e k c)) (2 * k.val + 1) 1 (by omega)]
    show FloatOps.sitofp (F := Ideal) .bf16 (nib (w (ix3 e ⟨(2 * k.val + 1) / 2, by omega⟩ c)) (2 * k.val + 1)) * s (ix3 e ⟨(2 * k.val + 1) / 128, by omega⟩ c) = _
    rw [h1, h2]
  rw [e1, ← nib_high]
  pointwise [highW, spreadS, high, bytes]

theorem gsz_at (g : S64.Idx → Elt Ideal .i32) (e : Fin 64) : Cert.KernelIdeal.Hand.gsz g e.val = g (ix1 e) := by
  show g (ix1 (Fin.ofNat 64 e.val)) = _
  rw [show Fin.ofNat 64 e.val = e from Fin.ext (Nat.mod_eq_of_lt e.isLt)]

/-- The running sum of the sizes, as a sum of words. -/
theorem ends_sum (g : S64.Idx → Elt Ideal .i32) (e : Fin 64) : ends g (ix1 e) = ∑ i : Fin 64, if i ≤ e then (g (ix1 i) : BitVec 32) else 0 := by
  have h := Routing.cumsum_vec (N := 64) (Nm1 := 63) rfl g (broadcastInDim S_ ![] bcast_S_S_ (constantI S_ 32 0#32)) rfl reduceWindows_S64_S64_w64s1p63_0 h_S_ e
  simp only [← ix1_eq_valueIdx] at h
  exact h

/-- An expert's rows end where the rows of the experts up to it sum to. -/
theorem ends_eq (g : S64.Idx → Elt Ideal .i32) (e : Fin 64) : ends g (ix1 e) = BitVec.ofNat 32 (off g (e.val + 1)) := by
  rw [ends_sum]
  apply BitVec.eq_of_toNat_eq
  rw [sum_toNat, BitVec.toNat_ofNat]
  refine congrArg (· % 2 ^ 32) ?_
  have ht : ∀ i : Fin 64, (if i ≤ e then (g (ix1 i) : BitVec 32) else 0).toNat = if i.val < e.val + 1 then (Cert.KernelIdeal.Hand.gsz g i.val : BitVec 32).toNat else 0 := by
    intro i
    rw [gsz_at]
    by_cases hc : i ≤ e
    · rw [if_pos hc, if_pos (Nat.lt_succ_of_le (Fin.le_def.mp hc))]
    · rw [if_neg hc, if_neg (fun h => hc (Fin.le_def.mpr (Nat.le_of_lt_succ h)))]; rfl
  rw [Finset.sum_congr rfl fun i _ => ht i]
  rw [← Finset.sum_range (fun i => if i < e.val + 1 then (Cert.KernelIdeal.Hand.gsz g i : BitVec 32).toNat else 0)]
  rw [← Finset.sum_filter]
  unfold off
  refine Finset.sum_congr ?_ fun _ _ => rfl
  ext i
  simp only [Finset.mem_filter, Finset.mem_range]
  have := e.isLt
  omega

/-- The rows that are an expert's own: from the sum of the sizes before it to the sum with its own. -/
theorem own_iff (g : S64.Idx → Elt Ideal .i32) (hs : off g 64 = 96) (r : Fin 96) (e : Fin 64) :
    own g (ix2 r e) = 1#1 ↔ off g e.val ≤ r.val ∧ r.val < off g (e.val + 1) := by
  have hle : off g (e.val + 1) ≤ 96 := hs ▸ off_mono g (by omega)
  have hsucc := off_succ g e.val
  have hi := gsz_at g e
  have h : own g (ix2 r e) = IntOp.andi (IntOp.cmpi .sge (BitVec.ofNat 32 r.val) (IntOp.subi (ends g (ix1 e)) (g (ix1 e)))) (IntOp.cmpi .slt (BitVec.ofNat 32 r.val) (ends g (ix1 e))) := by
    pointwise [own]
  have hb : IntOp.subi (BitVec.ofNat 32 (off g (e.val + 1))) (g (ix1 e)) = BitVec.ofNat 32 (off g e.val) := by
    rw [hsucc, hi]
    apply BitVec.eq_of_toNat_eq
    show (BitVec.ofNat 32 _ - _).toNat = _
    rw [hi] at hsucc
    rw [BitVec.toNat_sub, BitVec.toNat_ofNat, BitVec.toNat_ofNat]
    have := (g (ix1 e) : BitVec 32).isLt
    omega
  rw [h, ends_eq g e, hb]
  exact between _ _ (by omega) hle r

/-- A row's result is its own expert's: the masked sum over the experts has that one term. -/
theorem grouped_eq (g : S64.Idx → Elt Ideal .i32) (hs : off g 64 = 96) (a : FVec Ideal S96x704 .bf16) (b : FVec Ideal S64x704x3072 .bf16) (r : Fin 96) (c : Fin 3072)
    (e : Fin 64) (h1 : off g e.val ≤ r.val) (h2 : r.val < off g (e.val + 1)) :
    grouped g a b (ix2 r c) = ∑ k : Fin 704, a (ix2 r k) * b (ix3 e k c) := by
  have h : grouped g a b (ix2 r c) = ∑ e : Fin 64, Scalar.select (own g (ix2 r e)) (∑ k : Fin 704, a (ix2 r k) * b (ix3 e k c)) (id (constant (F := Ideal) S_ .f32 0#32) ix0) := by
    pointwise [grouped]
  rw [h, Finset.sum_eq_single e]
  · rw [(own_iff g hs r e).mpr ⟨h1, h2⟩]; rfl
  · intro d _ hd
    have hn : own g (ix2 r d) ≠ 1#1 := by
      intro hc
      obtain ⟨c1, c2⟩ := (own_iff g hs r d).mp hc
      rcases lt_or_gt_of_ne (fun h => hd (Fin.ext h) : d.val ≠ e.val) with hlt | hlt
      · have := off_mono g (show d.val + 1 ≤ e.val by omega); omega
      · have := off_mono g (show e.val + 1 ≤ d.val by omega); omega
    have hz : ∀ p : BitVec 1, p ≠ 1#1 → p = 0#1 := by decide
    rw [hz _ hn]
    show Ideal.ofBits .f32 0#32 = 0
    simp [Ideal.ofBits, Ideal.ieee]
  · intro hc; exact absurd (Finset.mem_univ _) hc

end Cert.Values.Ref

end
-- ==== Proof.VMain.lean ====
/-
  The kernel's result is the reference's, on the arguments that the precondition admits.
-/
module

public import proofs.«01_k».proof.Proof.VPre
public import proofs.«01_k».proof.Proof.VRefActs
public import proofs.«01_k».proof.Proof.VRefWeights
public import proofs.«01_k».proof.Proof.IFrame

@[expose] public section

set_option maxRecDepth 16384

noncomputable section

namespace Cert.Values

open Cert.KernelIdeal Cert.KernelIdeal.Gen
open Idealize.ShloMosaic Idealize.ShloMosaic.TcCoe

/-- The size of an expert, by its number. -/
theorem gsz_small (g : S64.Idx → Elt Ideal .i32) (hg : ∀ e : Fin 64, (g (ix1 e) : BitVec 32).toNat ≤ 96) : ∀ e, e < 64 → (Hand.gsz g e : BitVec 32).toNat ≤ 96 :=
  fun e he => by
    have h := Ref.gsz_at g ⟨e, he⟩
    rw [show Hand.gsz g e = g (ix1 ⟨e, he⟩) from h]
    exact hg _

/-- The sizes sum to the rows. -/
theorem off_all (g : S64.Idx → Elt Ideal .i32) (hs : (∑ e : Fin 64, (g (ix1 e) : BitVec 32).toNat) = 96) : off g 64 = 96 := by
  unfold off
  rw [Finset.sum_range, ← hs]
  exact Finset.sum_congr rfl fun e _ => by rw [Ref.gsz_at g e]

/-- One entry of the reference: the sums over even and odd columns together are the sum over all of them, with the row's own expert. -/
theorem ref_cell (x : S96x1408.Idx → Elt Ideal .bf16) (g : S64.Idx → Elt Ideal .i32) (w : S64x704x3072.Idx → Elt Ideal .i8) (s : S64x11x3072.Idx → Elt Ideal .f32)
    (hs : off g 64 = 96) (hx : ∀ r k, FloatOps.absf (F := Ideal) (φ := .f32) (x (ix2 r k)) ≤ Ideal.ofBits .f32 0x7F7F0000#32
      ∨ FloatOps.absf (F := Ideal) (φ := .f32) (x (ix2 r k)) = Ideal.ofBits .f32 0x7F800000#32) (r : Fin 96) (c : Fin 3072) (e : Fin 64)
    (h1 : off g e.val ≤ r.val) (h2 : r.val < off g (e.val + 1)) :
    Ref.grouped g (Ref.halfE x) (Ref.lowW w s) (ix2 r c) + Ref.grouped g (Ref.halfO x) (Ref.highW w s) (ix2 r c)
      = cell (wOf w e) (sOf s e) (Hand.quant (F := Ideal) x) r c := by
  rw [Ref.grouped_eq g hs _ _ r c e h1 h2, Ref.grouped_eq g hs _ _ r c e h1 h2]
  unfold cell
  rw [halves]
  refine congrArg₂ (· + ·) (Finset.sum_congr rfl fun k _ => ?_) (Finset.sum_congr rfl fun k _ => ?_)
  · rw [Ref.halfE_eq x hx, Ref.lowW_eq]
  · rw [Ref.halfO_eq x hx, Ref.highW_eq]

/-- What the kernel leaves is the reference's result on the same arguments. -/
theorem leaves_eq [Cert.Pre_whole_groups.Facts] (x : S96x1408.Idx → Elt Ideal .bf16) (g : S64.Idx → Elt Ideal .i32) (w : S64x704x3072.Idx → Elt Ideal .i8) (s : S64x11x3072.Idx → Elt Ideal .f32)
    (hp : Cert.Pre_whole_groups.fn (F := Ideal) x g w s = fun _ => 1#1)
    (X : Vec Ideal S96x3072 .bf16) (hX : Hand.Leaves (F := Ideal) g x w s X) : X = Ref.result x g w s := by
  obtain ⟨hg, hs, hx⟩ := pre_words x g w s hp
  have hg' := gsz_small g hg
  have hs' := off_all g hs
  obtain ⟨y, gL, gA, rfl⟩ := hX
  refine funext fun i => ?_
  obtain ⟨r, q, rfl⟩ : ∃ (r : Fin 96) (q : Fin 3072), i = ix2 r q := ⟨i 0, i 1, by funext k; match k with | ⟨0, _⟩ => rfl | ⟨1, _⟩ => rfl⟩
  obtain ⟨e, h1, h2, hy⟩ := yAll_apply g gL gA hg' hs' w s (Hand.quant (F := Ideal) x) y r q
  exact hy.trans (ref_cell x g w s hs' hx r q e h1 h2).symm

end Cert.Values

end
-- ==== Proof.lean ====
/-
  The claims: each program ends with its arguments as they were and its semaphores at zero, at machine floats and at
  the reals; the idealized program is the printed one; and over the reals the kernel's result is the reference's.
-/
module

public import proofs.«01_k».proof.Defs
public import proofs.«01_k».proof.Proof.Gen.Kernel
public import proofs.«01_k».proof.Proof.Gen.KernelIdeal
public import proofs.«01_k».proof.Proof.KFrame
public import proofs.«01_k».proof.Proof.IFrame
public import proofs.«01_k».proof.Proof.Gen.ReferenceIdeal.Run
public import proofs.«01_k».proof.Proof.VMain

@[expose] public section

noncomputable section

namespace Cert.Proof

open Idealize.ShloMosaic Idealize.ShloMosaic.TcCoe Idealize.SL.Sem

/-- The kernel at machine floats keeps its arguments and leaves no semaphore raised. -/
theorem frame_kernel : quiescent_Kernel := fun m g _ =>
  (θ_run _ _ _).mono (fun _ h => ⟨fun c => (h.1 c).1, h.2⟩) (Kernel.Hand.run_leaves m g)

/-- So does the kernel at the reals. -/
theorem frame_kernelIdeal : quiescent_KernelIdeal := fun m g _ =>
  (θ_run _ _ _).mono (fun _ h => ⟨fun c => (h.1 c).1, h.2⟩) (KernelIdeal.Hand.run_leaves m g)

/-- So does the reference. -/
theorem frame_referenceIdeal : quiescent_ReferenceIdeal := fun m g _ => ReferenceIdeal.Gen.frame m g

/-- On the arguments that the precondition admits, the kernel and the reference end with the same result. -/
theorem equal_results : algebraic_KernelIdeal_ReferenceIdeal_pre_whole_groups (hPre_whole_groups := Values.preFacts) := fun m g m' g' hp ha =>
  haveI := Values.preFacts
  ⟨fun c => Values.Ref.result (m' ((c.tc : Thread ReferenceIdeal.nD ReferenceIdeal.τ).loc ReferenceIdeal.main_arg0)) (m' ((c.tc : Thread ReferenceIdeal.nD ReferenceIdeal.τ).loc ReferenceIdeal.main_arg1))
      (m' ((c.tc : Thread ReferenceIdeal.nD ReferenceIdeal.τ).loc ReferenceIdeal.main_arg2)) (m' ((c.tc : Thread ReferenceIdeal.nD ReferenceIdeal.τ).loc ReferenceIdeal.main_arg3)),
    (θ_run _ _ _).mono (fun r h c => ⟨by
        obtain ⟨a0, a1, a2, a3⟩ := ha c
        beta_reduce
        rw [a0, a1, a2, a3]
        exact Values.leaves_eq _ _ _ _ (hp c) _ (h.1 c).2, (h.1 c).1⟩)
      (KernelIdeal.Hand.run_leaves m g),
    Values.Ref.run m' g'⟩

/-- Every claim. -/
theorem claim : Cert.Claim :=
  ⟨Kernel.Gen.facts, KernelIdeal.Gen.facts, ReferenceIdeal.Gen.facts, Values.preFacts, frame_kernel, frame_kernelIdeal, fun m g _ => frame_kernelIdeal m g trivial,
    frame_referenceIdeal, fun m g _ => frame_referenceIdeal m g trivial, trivial, equal_results⟩

end Cert.Proof

end
